-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix0 (m : (ℓ : Loc Cert.Mix0.nD Cert.Mix0.τ Cert.Mix0.sig) → Buf (Elt Bits) ℓ) : Prop :=
  True

def Pre_Mix0Ideal (m : (ℓ : Loc Cert.Mix0Ideal.nD Cert.Mix0Ideal.τ Cert.Mix0Ideal.sig) → Buf (Elt Ideal) ℓ) : Prop :=
  True

def Pre_Mix0RefIdeal (m : (ℓ : Loc Cert.Mix0RefIdeal.nD Cert.Mix0RefIdeal.τ Cert.Mix0RefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Bu (m : (ℓ : Loc Cert.Bu.nD Cert.Bu.τ Cert.Bu.sig) → Buf (Elt Bits) ℓ) : Prop :=
  True

def Pre_BuIdeal (m : (ℓ : Loc Cert.BuIdeal.nD Cert.BuIdeal.τ Cert.BuIdeal.sig) → Buf (Elt Ideal) ℓ) : Prop :=
  True

def Pre_BuRefIdeal (m : (ℓ : Loc Cert.BuRefIdeal.nD Cert.BuRefIdeal.τ Cert.BuRefIdeal.sig) → Buf (Elt Ideal) ℓ) : Prop :=
  True

def Pre_S5y (m : (ℓ : Loc Cert.S5y.nD Cert.S5y.τ Cert.S5y.sig) → Buf (Elt Bits) ℓ) : Prop :=
  True

def Pre_S5yIdeal (m : (ℓ : Loc Cert.S5yIdeal.nD Cert.S5yIdeal.τ Cert.S5yIdeal.sig) → Buf (Elt Ideal) ℓ) : Prop :=
  True

def Pre_S5yRefIdeal (m : (ℓ : Loc Cert.S5yRefIdeal.nD Cert.S5yRefIdeal.τ Cert.S5yRefIdeal.sig) → Buf (Elt Ideal) ℓ) : Prop :=
  True

def Pre_DsRe (m : (ℓ : Loc Cert.DsRe.nD Cert.DsRe.τ Cert.DsRe.sig) → Buf (Elt Bits) ℓ) : Prop :=
  True

def Pre_DsReIdeal (m : (ℓ : Loc Cert.DsReIdeal.nD Cert.DsReIdeal.τ Cert.DsReIdeal.sig) → Buf (Elt Ideal) ℓ) : Prop :=
  True

def Pre_DsReRefIdeal (m : (ℓ : Loc Cert.DsReRefIdeal.nD Cert.DsReRefIdeal.τ Cert.DsReRefIdeal.sig) → Buf (Elt Ideal) ℓ) : Prop :=
  True

def Pre_DsIm (m : (ℓ : Loc Cert.DsIm.nD Cert.DsIm.τ Cert.DsIm.sig) → Buf (Elt Bits) ℓ) : Prop :=
  True

def Pre_DsImIdeal (m : (ℓ : Loc Cert.DsImIdeal.nD Cert.DsImIdeal.τ Cert.DsImIdeal.sig) → Buf (Elt Ideal) ℓ) : Prop :=
  True

def Pre_DsImRefIdeal (m : (ℓ : Loc Cert.DsImRefIdeal.nD Cert.DsImRefIdeal.τ Cert.DsImRefIdeal.sig) → Buf (Elt Ideal) ℓ) : Prop :=
  True

def Pre_DcRe (m : (ℓ : Loc Cert.DcRe.nD Cert.DcRe.τ Cert.DcRe.sig) → Buf (Elt Bits) ℓ) : Prop :=
  True

def Pre_DcReIdeal (m : (ℓ : Loc Cert.DcReIdeal.nD Cert.DcReIdeal.τ Cert.DcReIdeal.sig) → Buf (Elt Ideal) ℓ) : Prop :=
  True

def Pre_DcReRefIdeal (m : (ℓ : Loc Cert.DcReRefIdeal.nD Cert.DcReRefIdeal.τ Cert.DcReRefIdeal.sig) → Buf (Elt Ideal) ℓ) : Prop :=
  True

def Pre_DcIm (m : (ℓ : Loc Cert.DcIm.nD Cert.DcIm.τ Cert.DcIm.sig) → Buf (Elt Bits) ℓ) : Prop :=
  True

def Pre_DcImIdeal (m : (ℓ : Loc Cert.DcImIdeal.nD Cert.DcImIdeal.τ Cert.DcImIdeal.sig) → Buf (Elt Ideal) ℓ) : Prop :=
  True

def Pre_DcImRefIdeal (m : (ℓ : Loc Cert.DcImRefIdeal.nD Cert.DcImRefIdeal.τ Cert.DcImRefIdeal.sig) → Buf (Elt Ideal) ℓ) : Prop :=
  True

def Pre_BuDx (m : (ℓ : Loc Cert.BuDx.nD Cert.BuDx.τ Cert.BuDx.sig) → Buf (Elt Bits) ℓ) : Prop :=
  True

def Pre_BuDxIdeal (m : (ℓ : Loc Cert.BuDxIdeal.nD Cert.BuDxIdeal.τ Cert.BuDxIdeal.sig) → Buf (Elt Ideal) ℓ) : Prop :=
  True

def Pre_BuDxRefIdeal (m : (ℓ : Loc Cert.BuDxRefIdeal.nD Cert.BuDxRefIdeal.τ Cert.BuDxRefIdeal.sig) → Buf (Elt Ideal) ℓ) : Prop :=
  True

def Pre_BuDw (m : (ℓ : Loc Cert.BuDw.nD Cert.BuDw.τ Cert.BuDw.sig) → Buf (Elt Bits) ℓ) : Prop :=
  True

def Pre_BuDwIdeal (m : (ℓ : Loc Cert.BuDwIdeal.nD Cert.BuDwIdeal.τ Cert.BuDwIdeal.sig) → Buf (Elt Ideal) ℓ) : Prop :=
  True

def Pre_BuDwRefIdeal (m : (ℓ : Loc Cert.BuDwRefIdeal.nD Cert.BuDwRefIdeal.τ Cert.BuDwRefIdeal.sig) → Buf (Elt Ideal) ℓ) : Prop :=
  True

def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_ScB (m : (ℓ : Loc Cert.ScB.nD Cert.ScB.τ Cert.ScB.sig) → Buf (Elt Bits) ℓ) : Prop :=
  True

def Pre_ScBIdeal (m : (ℓ : Loc Cert.ScBIdeal.nD Cert.ScBIdeal.τ Cert.ScBIdeal.sig) → Buf (Elt Ideal) ℓ) : Prop :=
  True

def Pre_ScBRefIdeal (m : (ℓ : Loc Cert.ScBRefIdeal.nD Cert.ScBRefIdeal.τ Cert.ScBRefIdeal.sig) → Buf (Elt Ideal) ℓ) : Prop :=
  True

def Pre_M2c (m : (ℓ : Loc Cert.M2c.nD Cert.M2c.τ Cert.M2c.sig) → Buf (Elt Bits) ℓ) : Prop :=
  True

def Pre_M2cIdeal (m : (ℓ : Loc Cert.M2cIdeal.nD Cert.M2cIdeal.τ Cert.M2cIdeal.sig) → Buf (Elt Ideal) ℓ) : Prop :=
  True

def Pre_M2cRefIdeal (m : (ℓ : Loc Cert.M2cRefIdeal.nD Cert.M2cRefIdeal.τ Cert.M2cRefIdeal.sig) → Buf (Elt Ideal) ℓ) : Prop :=
  True

def Pre_M2cB (m : (ℓ : Loc Cert.M2cB.nD Cert.M2cB.τ Cert.M2cB.sig) → Buf (Elt Bits) ℓ) : Prop :=
  True

def Pre_M2cBIdeal (m : (ℓ : Loc Cert.M2cBIdeal.nD Cert.M2cBIdeal.τ Cert.M2cBIdeal.sig) → Buf (Elt Ideal) ℓ) : Prop :=
  True

def Pre_M2cBRefIdeal (m : (ℓ : Loc Cert.M2cBRefIdeal.nD Cert.M2cBRefIdeal.τ Cert.M2cBRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RmsB (m : (ℓ : Loc Cert.RmsB.nD Cert.RmsB.τ Cert.RmsB.sig) → Buf (Elt Bits) ℓ) : Prop :=
  True

def Pre_RmsBIdeal (m : (ℓ : Loc Cert.RmsBIdeal.nD Cert.RmsBIdeal.τ Cert.RmsBIdeal.sig) → Buf (Elt Ideal) ℓ) : Prop :=
  True

def Pre_RmsBRefIdeal (m : (ℓ : Loc Cert.RmsBRefIdeal.nD Cert.RmsBRefIdeal.τ Cert.RmsBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AWin (m : (ℓ : Loc Cert.AWin.nD Cert.AWin.τ Cert.AWin.sig) → Buf (Elt Bits) ℓ) : Prop :=
  True

def Pre_AWinIdeal (m : (ℓ : Loc Cert.AWinIdeal.nD Cert.AWinIdeal.τ Cert.AWinIdeal.sig) → Buf (Elt Ideal) ℓ) : Prop :=
  True

def Pre_AWinRefIdeal (m : (ℓ : Loc Cert.AWinRefIdeal.nD Cert.AWinRefIdeal.τ Cert.AWinRefIdeal.sig) → Buf (Elt Ideal) ℓ) : Prop :=
  True

def Pre_AWbr (m : (ℓ : Loc Cert.AWbr.nD Cert.AWbr.τ Cert.AWbr.sig) → Buf (Elt Bits) ℓ) : Prop :=
  True

def Pre_AWbrIdeal (m : (ℓ : Loc Cert.AWbrIdeal.nD Cert.AWbrIdeal.τ Cert.AWbrIdeal.sig) → Buf (Elt Ideal) ℓ) : Prop :=
  True

def Pre_AWbrRefIdeal (m : (ℓ : Loc Cert.AWbrRefIdeal.nD Cert.AWbrRefIdeal.τ Cert.AWbrRefIdeal.sig) → Buf (Elt Ideal) ℓ) : Prop :=
  True

def Pre_AWout (m : (ℓ : Loc Cert.AWout.nD Cert.AWout.τ Cert.AWout.sig) → Buf (Elt Bits) ℓ) : Prop :=
  True

def Pre_AWoutIdeal (m : (ℓ : Loc Cert.AWoutIdeal.nD Cert.AWoutIdeal.τ Cert.AWoutIdeal.sig) → Buf (Elt Ideal) ℓ) : Prop :=
  True

def Pre_AWoutRefIdeal (m : (ℓ : Loc Cert.AWoutRefIdeal.nD Cert.AWoutRefIdeal.τ Cert.AWoutRefIdeal.sig) → Buf (Elt Ideal) ℓ) : Prop :=
  True

def Pre_AWglu (m : (ℓ : Loc Cert.AWglu.nD Cert.AWglu.τ Cert.AWglu.sig) → Buf (Elt Bits) ℓ) : Prop :=
  True

def Pre_AWgluIdeal (m : (ℓ : Loc Cert.AWgluIdeal.nD Cert.AWgluIdeal.τ Cert.AWgluIdeal.sig) → Buf (Elt Ideal) ℓ) : Prop :=
  True

def Pre_AWgluRefIdeal (m : (ℓ : Loc Cert.AWgluRefIdeal.nD Cert.AWgluRefIdeal.τ Cert.AWgluRefIdeal.sig) → Buf (Elt Ideal) ℓ) : Prop :=
  True

def Pre_AWs5b (m : (ℓ : Loc Cert.AWs5b.nD Cert.AWs5b.τ Cert.AWs5b.sig) → Buf (Elt Bits) ℓ) : Prop :=
  True

def Pre_AWs5bIdeal (m : (ℓ : Loc Cert.AWs5bIdeal.nD Cert.AWs5bIdeal.τ Cert.AWs5bIdeal.sig) → Buf (Elt Ideal) ℓ) : Prop :=
  True

def Pre_AWs5bRefIdeal (m : (ℓ : Loc Cert.AWs5bRefIdeal.nD Cert.AWs5bRefIdeal.τ Cert.AWs5bRefIdeal.sig) → Buf (Elt Ideal) ℓ) : Prop :=
  True

def Pre_ARestA (m : (ℓ : Loc Cert.ARestA.nD Cert.ARestA.τ Cert.ARestA.sig) → Buf (Elt Bits) ℓ) : Prop :=
  True

def Pre_ARestAIdeal (m : (ℓ : Loc Cert.ARestAIdeal.nD Cert.ARestAIdeal.τ Cert.ARestAIdeal.sig) → Buf (Elt Ideal) ℓ) : Prop :=
  True

def Pre_ARestARefIdeal (m : (ℓ : Loc Cert.ARestARefIdeal.nD Cert.ARestARefIdeal.τ Cert.ARestARefIdeal.sig) → Buf (Elt Ideal) ℓ) : Prop :=
  True

def Pre_ARestB (m : (ℓ : Loc Cert.ARestB.nD Cert.ARestB.τ Cert.ARestB.sig) → Buf (Elt Bits) ℓ) : Prop :=
  True

def Pre_ARestBIdeal (m : (ℓ : Loc Cert.ARestBIdeal.nD Cert.ARestBIdeal.τ Cert.ARestBIdeal.sig) → Buf (Elt Ideal) ℓ) : Prop :=
  True

def Pre_ARestBRefIdeal (m : (ℓ : Loc Cert.ARestBRefIdeal.nD Cert.ARestBRefIdeal.τ Cert.ARestBRefIdeal.sig) → Buf (Elt Ideal) ℓ) : Prop :=
  True

def Pre_ARestC (m : (ℓ : Loc Cert.ARestC.nD Cert.ARestC.τ Cert.ARestC.sig) → Buf (Elt Bits) ℓ) : Prop :=
  True

def Pre_ARestCIdeal (m : (ℓ : Loc Cert.ARestCIdeal.nD Cert.ARestCIdeal.τ Cert.ARestCIdeal.sig) → Buf (Elt Ideal) ℓ) : Prop :=
  True

def Pre_ARestCRefIdeal (m : (ℓ : Loc Cert.ARestCRefIdeal.nD Cert.ARestCRefIdeal.τ Cert.ARestCRefIdeal.sig) → Buf (Elt Ideal) ℓ) : Prop :=
  True

def Pre_ARestD (m : (ℓ : Loc Cert.ARestD.nD Cert.ARestD.τ Cert.ARestD.sig) → Buf (Elt Bits) ℓ) : Prop :=
  True

def Pre_ARestDIdeal (m : (ℓ : Loc Cert.ARestDIdeal.nD Cert.ARestDIdeal.τ Cert.ARestDIdeal.sig) → Buf (Elt Ideal) ℓ) : Prop :=
  True

def Pre_ARestDRefIdeal (m : (ℓ : Loc Cert.ARestDRefIdeal.nD Cert.ARestDRefIdeal.τ Cert.ARestDRefIdeal.sig) → Buf (Elt Ideal) ℓ) : Prop :=
  True

def Pre_ARestE (m : (ℓ : Loc Cert.ARestE.nD Cert.ARestE.τ Cert.ARestE.sig) → Buf (Elt Bits) ℓ) : Prop :=
  True

def Pre_ARestEIdeal (m : (ℓ : Loc Cert.ARestEIdeal.nD Cert.ARestEIdeal.τ Cert.ARestEIdeal.sig) → Buf (Elt Ideal) ℓ) : Prop :=
  True

def Pre_ARestERefIdeal (m : (ℓ : Loc Cert.ARestERefIdeal.nD Cert.ARestERefIdeal.τ Cert.ARestERefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mix0 [hMix0 : Cert.Mix0.Facts] : Prop :=
  ∀ (m : (ℓ : Loc Cert.Mix0.nD Cert.Mix0.τ Cert.Mix0.sig) → Buf (Elt Bits) ℓ) (g : Dev Cert.Mix0.nD → PrngReg), Pre_Mix0 m →
    θ_run (Cert.Mix0.defs (F := Bits)) (onTc (τ := Cert.Mix0.τ) (Cert.Mix0.main (F := Bits))) ⟨m, fun _ => 0, g⟩ (fun r => (∀ c : Dev Cert.Mix0.nD,
      r.2.mem ((c.tc : Thread Cert.Mix0.nD Cert.Mix0.τ).loc Cert.Mix0.main_arg0) = m ((c.tc : Thread Cert.Mix0.nD Cert.Mix0.τ).loc Cert.Mix0.main_arg0)
      ∧ r.2.mem ((c.tc : Thread Cert.Mix0.nD Cert.Mix0.τ).loc Cert.Mix0.main_arg1) = m ((c.tc : Thread Cert.Mix0.nD Cert.Mix0.τ).loc Cert.Mix0.main_arg1)
      ∧ r.2.mem ((c.tc : Thread Cert.Mix0.nD Cert.Mix0.τ).loc Cert.Mix0.main_arg2) = m ((c.tc : Thread Cert.Mix0.nD Cert.Mix0.τ).loc Cert.Mix0.main_arg2)
      ∧ r.2.mem ((c.tc : Thread Cert.Mix0.nD Cert.Mix0.τ).loc Cert.Mix0.main_arg3) = m ((c.tc : Thread Cert.Mix0.nD Cert.Mix0.τ).loc Cert.Mix0.main_arg3)
      ∧ r.2.mem ((c.tc : Thread Cert.Mix0.nD Cert.Mix0.τ).loc Cert.Mix0.main_arg4) = m ((c.tc : Thread Cert.Mix0.nD Cert.Mix0.τ).loc Cert.Mix0.main_arg4)
      ∧ r.2.mem ((c.tc : Thread Cert.Mix0.nD Cert.Mix0.τ).loc Cert.Mix0.main_arg5) = m ((c.tc : Thread Cert.Mix0.nD Cert.Mix0.τ).loc Cert.Mix0.main_arg5))
      ∧ r.2.sem = fun _ => 0)

def quiescent_Mix0Ideal [hMix0Ideal : Cert.Mix0Ideal.Facts] : Prop :=
  ∀ (m : (ℓ : Loc Cert.Mix0Ideal.nD Cert.Mix0Ideal.τ Cert.Mix0Ideal.sig) → Buf (Elt Ideal) ℓ) (g : Dev Cert.Mix0Ideal.nD → PrngReg), Pre_Mix0Ideal m →
    θ_run (Cert.Mix0Ideal.defs (F := Ideal)) (onTc (τ := Cert.Mix0Ideal.τ) (Cert.Mix0Ideal.main (F := Ideal))) ⟨m, fun _ => 0, g⟩ (fun r => (∀ c : Dev Cert.Mix0Ideal.nD,
      r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
      ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
      ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
      ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
      ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
      ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5))
      ∧ r.2.sem = fun _ => 0)

def quiescent_Mix0RefIdeal [hMix0RefIdeal : Cert.Mix0RefIdeal.Facts] : Prop :=
  ∀ (m : (ℓ : Loc Cert.Mix0RefIdeal.nD Cert.Mix0RefIdeal.τ Cert.Mix0RefIdeal.sig) → Buf (Elt Ideal) ℓ) (g : Dev Cert.Mix0RefIdeal.nD → PrngReg), Pre_Mix0RefIdeal m →
    θ_run (Cert.Mix0RefIdeal.defs (F := Ideal)) (onTc (τ := Cert.Mix0RefIdeal.τ) (Cert.Mix0RefIdeal.main (F := Ideal))) ⟨m, fun _ => 0, g⟩ (fun r => (∀ c : Dev Cert.Mix0RefIdeal.nD,
      r.2.mem ((c.tc : Thread Cert.Mix0RefIdeal.nD Cert.Mix0RefIdeal.τ).loc Cert.Mix0RefIdeal.main_arg0) = m ((c.tc : Thread Cert.Mix0RefIdeal.nD Cert.Mix0RefIdeal.τ).loc Cert.Mix0RefIdeal.main_arg0)
      ∧ r.2.mem ((c.tc : Thread Cert.Mix0RefIdeal.nD Cert.Mix0RefIdeal.τ).loc Cert.Mix0RefIdeal.main_arg1) = m ((c.tc : Thread Cert.Mix0RefIdeal.nD Cert.Mix0RefIdeal.τ).loc Cert.Mix0RefIdeal.main_arg1)
      ∧ r.2.mem ((c.tc : Thread Cert.Mix0RefIdeal.nD Cert.Mix0RefIdeal.τ).loc Cert.Mix0RefIdeal.main_arg2) = m ((c.tc : Thread Cert.Mix0RefIdeal.nD Cert.Mix0RefIdeal.τ).loc Cert.Mix0RefIdeal.main_arg2)
      ∧ r.2.mem ((c.tc : Thread Cert.Mix0RefIdeal.nD Cert.Mix0RefIdeal.τ).loc Cert.Mix0RefIdeal.main_arg3) = m ((c.tc : Thread Cert.Mix0RefIdeal.nD Cert.Mix0RefIdeal.τ).loc Cert.Mix0RefIdeal.main_arg3)
      ∧ r.2.mem ((c.tc : Thread Cert.Mix0RefIdeal.nD Cert.Mix0RefIdeal.τ).loc Cert.Mix0RefIdeal.main_arg4) = m ((c.tc : Thread Cert.Mix0RefIdeal.nD Cert.Mix0RefIdeal.τ).loc Cert.Mix0RefIdeal.main_arg4)
      ∧ r.2.mem ((c.tc : Thread Cert.Mix0RefIdeal.nD Cert.Mix0RefIdeal.τ).loc Cert.Mix0RefIdeal.main_arg5) = m ((c.tc : Thread Cert.Mix0RefIdeal.nD Cert.Mix0RefIdeal.τ).loc Cert.Mix0RefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1)
      ∧ r.2.mem ((c.tc : Thread Cert.InDt.nD Cert.InDt.τ).loc Cert.InDt.main_arg2) = m ((c.tc : Thread Cert.InDt.nD Cert.InDt.τ).loc Cert.InDt.main_arg2))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1)
      ∧ r.2.mem ((c.tc : Thread Cert.InDtIdeal.nD Cert.InDtIdeal.τ).loc Cert.InDtIdeal.main_arg2) = m ((c.tc : Thread Cert.InDtIdeal.nD Cert.InDtIdeal.τ).loc Cert.InDtIdeal.main_arg2))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1)
      ∧ r.2.mem ((c.tc : Thread Cert.InDtRefIdeal.nD Cert.InDtRefIdeal.τ).loc Cert.InDtRefIdeal.main_arg2) = m ((c.tc : Thread Cert.InDtRefIdeal.nD Cert.InDtRefIdeal.τ).loc Cert.InDtRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Bu [hBu : Cert.Bu.Facts] : Prop :=
  ∀ (m : (ℓ : Loc Cert.Bu.nD Cert.Bu.τ Cert.Bu.sig) → Buf (Elt Bits) ℓ) (g : Dev Cert.Bu.nD → PrngReg), Pre_Bu m →
    θ_run (Cert.Bu.defs (F := Bits)) (onTc (τ := Cert.Bu.τ) (Cert.Bu.main (F := Bits))) ⟨m, fun _ => 0, g⟩ (fun r => (∀ c : Dev Cert.Bu.nD,
      r.2.mem ((c.tc : Thread Cert.Bu.nD Cert.Bu.τ).loc Cert.Bu.main_arg0) = m ((c.tc : Thread Cert.Bu.nD Cert.Bu.τ).loc Cert.Bu.main_arg0)
      ∧ r.2.mem ((c.tc : Thread Cert.Bu.nD Cert.Bu.τ).loc Cert.Bu.main_arg1) = m ((c.tc : Thread Cert.Bu.nD Cert.Bu.τ).loc Cert.Bu.main_arg1))
      ∧ r.2.sem = fun _ => 0)

def quiescent_BuIdeal [hBuIdeal : Cert.BuIdeal.Facts] : Prop :=
  ∀ (m : (ℓ : Loc Cert.BuIdeal.nD Cert.BuIdeal.τ Cert.BuIdeal.sig) → Buf (Elt Ideal) ℓ) (g : Dev Cert.BuIdeal.nD → PrngReg), Pre_BuIdeal m →
    θ_run (Cert.BuIdeal.defs (F := Ideal)) (onTc (τ := Cert.BuIdeal.τ) (Cert.BuIdeal.main (F := Ideal))) ⟨m, fun _ => 0, g⟩ (fun r => (∀ c : Dev Cert.BuIdeal.nD,
      r.2.mem ((c.tc : Thread Cert.BuIdeal.nD Cert.BuIdeal.τ).loc Cert.BuIdeal.main_arg0) = m ((c.tc : Thread Cert.BuIdeal.nD Cert.BuIdeal.τ).loc Cert.BuIdeal.main_arg0)
      ∧ r.2.mem ((c.tc : Thread Cert.BuIdeal.nD Cert.BuIdeal.τ).loc Cert.BuIdeal.main_arg1) = m ((c.tc : Thread Cert.BuIdeal.nD Cert.BuIdeal.τ).loc Cert.BuIdeal.main_arg1))
      ∧ r.2.sem = fun _ => 0)

def quiescent_BuRefIdeal [hBuRefIdeal : Cert.BuRefIdeal.Facts] : Prop :=
  ∀ (m : (ℓ : Loc Cert.BuRefIdeal.nD Cert.BuRefIdeal.τ Cert.BuRefIdeal.sig) → Buf (Elt Ideal) ℓ) (g : Dev Cert.BuRefIdeal.nD → PrngReg), Pre_BuRefIdeal m →
    θ_run (Cert.BuRefIdeal.defs (F := Ideal)) (onTc (τ := Cert.BuRefIdeal.τ) (Cert.BuRefIdeal.main (F := Ideal))) ⟨m, fun _ => 0, g⟩ (fun r => (∀ c : Dev Cert.BuRefIdeal.nD,
      r.2.mem ((c.tc : Thread Cert.BuRefIdeal.nD Cert.BuRefIdeal.τ).loc Cert.BuRefIdeal.main_arg0) = m ((c.tc : Thread Cert.BuRefIdeal.nD Cert.BuRefIdeal.τ).loc Cert.BuRefIdeal.main_arg0)
      ∧ r.2.mem ((c.tc : Thread Cert.BuRefIdeal.nD Cert.BuRefIdeal.τ).loc Cert.BuRefIdeal.main_arg1) = m ((c.tc : Thread Cert.BuRefIdeal.nD Cert.BuRefIdeal.τ).loc Cert.BuRefIdeal.main_arg1))
      ∧ r.2.sem = fun _ => 0)

def quiescent_S5y [hS5y : Cert.S5y.Facts] : Prop :=
  ∀ (m : (ℓ : Loc Cert.S5y.nD Cert.S5y.τ Cert.S5y.sig) → Buf (Elt Bits) ℓ) (g : Dev Cert.S5y.nD → PrngReg), Pre_S5y m →
    θ_run (Cert.S5y.defs (F := Bits)) (onTc (τ := Cert.S5y.τ) (Cert.S5y.main (F := Bits))) ⟨m, fun _ => 0, g⟩ (fun r => (∀ c : Dev Cert.S5y.nD,
      r.2.mem ((c.tc : Thread Cert.S5y.nD Cert.S5y.τ).loc Cert.S5y.main_arg0) = m ((c.tc : Thread Cert.S5y.nD Cert.S5y.τ).loc Cert.S5y.main_arg0)
      ∧ r.2.mem ((c.tc : Thread Cert.S5y.nD Cert.S5y.τ).loc Cert.S5y.main_arg1) = m ((c.tc : Thread Cert.S5y.nD Cert.S5y.τ).loc Cert.S5y.main_arg1)
      ∧ r.2.mem ((c.tc : Thread Cert.S5y.nD Cert.S5y.τ).loc Cert.S5y.main_arg2) = m ((c.tc : Thread Cert.S5y.nD Cert.S5y.τ).loc Cert.S5y.main_arg2)
      ∧ r.2.mem ((c.tc : Thread Cert.S5y.nD Cert.S5y.τ).loc Cert.S5y.main_arg3) = m ((c.tc : Thread Cert.S5y.nD Cert.S5y.τ).loc Cert.S5y.main_arg3))
      ∧ r.2.sem = fun _ => 0)

def quiescent_S5yIdeal [hS5yIdeal : Cert.S5yIdeal.Facts] : Prop :=
  ∀ (m : (ℓ : Loc Cert.S5yIdeal.nD Cert.S5yIdeal.τ Cert.S5yIdeal.sig) → Buf (Elt Ideal) ℓ) (g : Dev Cert.S5yIdeal.nD → PrngReg), Pre_S5yIdeal m →
    θ_run (Cert.S5yIdeal.defs (F := Ideal)) (onTc (τ := Cert.S5yIdeal.τ) (Cert.S5yIdeal.main (F := Ideal))) ⟨m, fun _ => 0, g⟩ (fun r => (∀ c : Dev Cert.S5yIdeal.nD,
      r.2.mem ((c.tc : Thread Cert.S5yIdeal.nD Cert.S5yIdeal.τ).loc Cert.S5yIdeal.main_arg0) = m ((c.tc : Thread Cert.S5yIdeal.nD Cert.S5yIdeal.τ).loc Cert.S5yIdeal.main_arg0)
      ∧ r.2.mem ((c.tc : Thread Cert.S5yIdeal.nD Cert.S5yIdeal.τ).loc Cert.S5yIdeal.main_arg1) = m ((c.tc : Thread Cert.S5yIdeal.nD Cert.S5yIdeal.τ).loc Cert.S5yIdeal.main_arg1)
      ∧ r.2.mem ((c.tc : Thread Cert.S5yIdeal.nD Cert.S5yIdeal.τ).loc Cert.S5yIdeal.main_arg2) = m ((c.tc : Thread Cert.S5yIdeal.nD Cert.S5yIdeal.τ).loc Cert.S5yIdeal.main_arg2)
      ∧ r.2.mem ((c.tc : Thread Cert.S5yIdeal.nD Cert.S5yIdeal.τ).loc Cert.S5yIdeal.main_arg3) = m ((c.tc : Thread Cert.S5yIdeal.nD Cert.S5yIdeal.τ).loc Cert.S5yIdeal.main_arg3))
      ∧ r.2.sem = fun _ => 0)

def quiescent_S5yRefIdeal [hS5yRefIdeal : Cert.S5yRefIdeal.Facts] : Prop :=
  ∀ (m : (ℓ : Loc Cert.S5yRefIdeal.nD Cert.S5yRefIdeal.τ Cert.S5yRefIdeal.sig) → Buf (Elt Ideal) ℓ) (g : Dev Cert.S5yRefIdeal.nD → PrngReg), Pre_S5yRefIdeal m →
    θ_run (Cert.S5yRefIdeal.defs (F := Ideal)) (onTc (τ := Cert.S5yRefIdeal.τ) (Cert.S5yRefIdeal.main (F := Ideal))) ⟨m, fun _ => 0, g⟩ (fun r => (∀ c : Dev Cert.S5yRefIdeal.nD,
      r.2.mem ((c.tc : Thread Cert.S5yRefIdeal.nD Cert.S5yRefIdeal.τ).loc Cert.S5yRefIdeal.main_arg0) = m ((c.tc : Thread Cert.S5yRefIdeal.nD Cert.S5yRefIdeal.τ).loc Cert.S5yRefIdeal.main_arg0)
      ∧ r.2.mem ((c.tc : Thread Cert.S5yRefIdeal.nD Cert.S5yRefIdeal.τ).loc Cert.S5yRefIdeal.main_arg1) = m ((c.tc : Thread Cert.S5yRefIdeal.nD Cert.S5yRefIdeal.τ).loc Cert.S5yRefIdeal.main_arg1)
      ∧ r.2.mem ((c.tc : Thread Cert.S5yRefIdeal.nD Cert.S5yRefIdeal.τ).loc Cert.S5yRefIdeal.main_arg2) = m ((c.tc : Thread Cert.S5yRefIdeal.nD Cert.S5yRefIdeal.τ).loc Cert.S5yRefIdeal.main_arg2)
      ∧ r.2.mem ((c.tc : Thread Cert.S5yRefIdeal.nD Cert.S5yRefIdeal.τ).loc Cert.S5yRefIdeal.main_arg3) = m ((c.tc : Thread Cert.S5yRefIdeal.nD Cert.S5yRefIdeal.τ).loc Cert.S5yRefIdeal.main_arg3))
      ∧ r.2.sem = fun _ => 0)

def quiescent_DsRe [hDsRe : Cert.DsRe.Facts] : Prop :=
  ∀ (m : (ℓ : Loc Cert.DsRe.nD Cert.DsRe.τ Cert.DsRe.sig) → Buf (Elt Bits) ℓ) (g : Dev Cert.DsRe.nD → PrngReg), Pre_DsRe m →
    θ_run (Cert.DsRe.defs (F := Bits)) (onTc (τ := Cert.DsRe.τ) (Cert.DsRe.main (F := Bits))) ⟨m, fun _ => 0, g⟩ (fun r => (∀ c : Dev Cert.DsRe.nD,
      r.2.mem ((c.tc : Thread Cert.DsRe.nD Cert.DsRe.τ).loc Cert.DsRe.main_arg0) = m ((c.tc : Thread Cert.DsRe.nD Cert.DsRe.τ).loc Cert.DsRe.main_arg0)
      ∧ r.2.mem ((c.tc : Thread Cert.DsRe.nD Cert.DsRe.τ).loc Cert.DsRe.main_arg1) = m ((c.tc : Thread Cert.DsRe.nD Cert.DsRe.τ).loc Cert.DsRe.main_arg1))
      ∧ r.2.sem = fun _ => 0)

def quiescent_DsReIdeal [hDsReIdeal : Cert.DsReIdeal.Facts] : Prop :=
  ∀ (m : (ℓ : Loc Cert.DsReIdeal.nD Cert.DsReIdeal.τ Cert.DsReIdeal.sig) → Buf (Elt Ideal) ℓ) (g : Dev Cert.DsReIdeal.nD → PrngReg), Pre_DsReIdeal m →
    θ_run (Cert.DsReIdeal.defs (F := Ideal)) (onTc (τ := Cert.DsReIdeal.τ) (Cert.DsReIdeal.main (F := Ideal))) ⟨m, fun _ => 0, g⟩ (fun r => (∀ c : Dev Cert.DsReIdeal.nD,
      r.2.mem ((c.tc : Thread Cert.DsReIdeal.nD Cert.DsReIdeal.τ).loc Cert.DsReIdeal.main_arg0) = m ((c.tc : Thread Cert.DsReIdeal.nD Cert.DsReIdeal.τ).loc Cert.DsReIdeal.main_arg0)
      ∧ r.2.mem ((c.tc : Thread Cert.DsReIdeal.nD Cert.DsReIdeal.τ).loc Cert.DsReIdeal.main_arg1) = m ((c.tc : Thread Cert.DsReIdeal.nD Cert.DsReIdeal.τ).loc Cert.DsReIdeal.main_arg1))
      ∧ r.2.sem = fun _ => 0)

def quiescent_DsReRefIdeal [hDsReRefIdeal : Cert.DsReRefIdeal.Facts] : Prop :=
  ∀ (m : (ℓ : Loc Cert.DsReRefIdeal.nD Cert.DsReRefIdeal.τ Cert.DsReRefIdeal.sig) → Buf (Elt Ideal) ℓ) (g : Dev Cert.DsReRefIdeal.nD → PrngReg), Pre_DsReRefIdeal m →
    θ_run (Cert.DsReRefIdeal.defs (F := Ideal)) (onTc (τ := Cert.DsReRefIdeal.τ) (Cert.DsReRefIdeal.main (F := Ideal))) ⟨m, fun _ => 0, g⟩ (fun r => (∀ c : Dev Cert.DsReRefIdeal.nD,
      r.2.mem ((c.tc : Thread Cert.DsReRefIdeal.nD Cert.DsReRefIdeal.τ).loc Cert.DsReRefIdeal.main_arg0) = m ((c.tc : Thread Cert.DsReRefIdeal.nD Cert.DsReRefIdeal.τ).loc Cert.DsReRefIdeal.main_arg0)
      ∧ r.2.mem ((c.tc : Thread Cert.DsReRefIdeal.nD Cert.DsReRefIdeal.τ).loc Cert.DsReRefIdeal.main_arg1) = m ((c.tc : Thread Cert.DsReRefIdeal.nD Cert.DsReRefIdeal.τ).loc Cert.DsReRefIdeal.main_arg1))
      ∧ r.2.sem = fun _ => 0)

def quiescent_DsIm [hDsIm : Cert.DsIm.Facts] : Prop :=
  ∀ (m : (ℓ : Loc Cert.DsIm.nD Cert.DsIm.τ Cert.DsIm.sig) → Buf (Elt Bits) ℓ) (g : Dev Cert.DsIm.nD → PrngReg), Pre_DsIm m →
    θ_run (Cert.DsIm.defs (F := Bits)) (onTc (τ := Cert.DsIm.τ) (Cert.DsIm.main (F := Bits))) ⟨m, fun _ => 0, g⟩ (fun r => (∀ c : Dev Cert.DsIm.nD,
      r.2.mem ((c.tc : Thread Cert.DsIm.nD Cert.DsIm.τ).loc Cert.DsIm.main_arg0) = m ((c.tc : Thread Cert.DsIm.nD Cert.DsIm.τ).loc Cert.DsIm.main_arg0)
      ∧ r.2.mem ((c.tc : Thread Cert.DsIm.nD Cert.DsIm.τ).loc Cert.DsIm.main_arg1) = m ((c.tc : Thread Cert.DsIm.nD Cert.DsIm.τ).loc Cert.DsIm.main_arg1))
      ∧ r.2.sem = fun _ => 0)

def quiescent_DsImIdeal [hDsImIdeal : Cert.DsImIdeal.Facts] : Prop :=
  ∀ (m : (ℓ : Loc Cert.DsImIdeal.nD Cert.DsImIdeal.τ Cert.DsImIdeal.sig) → Buf (Elt Ideal) ℓ) (g : Dev Cert.DsImIdeal.nD → PrngReg), Pre_DsImIdeal m →
    θ_run (Cert.DsImIdeal.defs (F := Ideal)) (onTc (τ := Cert.DsImIdeal.τ) (Cert.DsImIdeal.main (F := Ideal))) ⟨m, fun _ => 0, g⟩ (fun r => (∀ c : Dev Cert.DsImIdeal.nD,
      r.2.mem ((c.tc : Thread Cert.DsImIdeal.nD Cert.DsImIdeal.τ).loc Cert.DsImIdeal.main_arg0) = m ((c.tc : Thread Cert.DsImIdeal.nD Cert.DsImIdeal.τ).loc Cert.DsImIdeal.main_arg0)
      ∧ r.2.mem ((c.tc : Thread Cert.DsImIdeal.nD Cert.DsImIdeal.τ).loc Cert.DsImIdeal.main_arg1) = m ((c.tc : Thread Cert.DsImIdeal.nD Cert.DsImIdeal.τ).loc Cert.DsImIdeal.main_arg1))
      ∧ r.2.sem = fun _ => 0)

def quiescent_DsImRefIdeal [hDsImRefIdeal : Cert.DsImRefIdeal.Facts] : Prop :=
  ∀ (m : (ℓ : Loc Cert.DsImRefIdeal.nD Cert.DsImRefIdeal.τ Cert.DsImRefIdeal.sig) → Buf (Elt Ideal) ℓ) (g : Dev Cert.DsImRefIdeal.nD → PrngReg), Pre_DsImRefIdeal m →
    θ_run (Cert.DsImRefIdeal.defs (F := Ideal)) (onTc (τ := Cert.DsImRefIdeal.τ) (Cert.DsImRefIdeal.main (F := Ideal))) ⟨m, fun _ => 0, g⟩ (fun r => (∀ c : Dev Cert.DsImRefIdeal.nD,
      r.2.mem ((c.tc : Thread Cert.DsImRefIdeal.nD Cert.DsImRefIdeal.τ).loc Cert.DsImRefIdeal.main_arg0) = m ((c.tc : Thread Cert.DsImRefIdeal.nD Cert.DsImRefIdeal.τ).loc Cert.DsImRefIdeal.main_arg0)
      ∧ r.2.mem ((c.tc : Thread Cert.DsImRefIdeal.nD Cert.DsImRefIdeal.τ).loc Cert.DsImRefIdeal.main_arg1) = m ((c.tc : Thread Cert.DsImRefIdeal.nD Cert.DsImRefIdeal.τ).loc Cert.DsImRefIdeal.main_arg1))
      ∧ r.2.sem = fun _ => 0)

def quiescent_DcRe [hDcRe : Cert.DcRe.Facts] : Prop :=
  ∀ (m : (ℓ : Loc Cert.DcRe.nD Cert.DcRe.τ Cert.DcRe.sig) → Buf (Elt Bits) ℓ) (g : Dev Cert.DcRe.nD → PrngReg), Pre_DcRe m →
    θ_run (Cert.DcRe.defs (F := Bits)) (onTc (τ := Cert.DcRe.τ) (Cert.DcRe.main (F := Bits))) ⟨m, fun _ => 0, g⟩ (fun r => (∀ c : Dev Cert.DcRe.nD,
      r.2.mem ((c.tc : Thread Cert.DcRe.nD Cert.DcRe.τ).loc Cert.DcRe.main_arg0) = m ((c.tc : Thread Cert.DcRe.nD Cert.DcRe.τ).loc Cert.DcRe.main_arg0)
      ∧ r.2.mem ((c.tc : Thread Cert.DcRe.nD Cert.DcRe.τ).loc Cert.DcRe.main_arg1) = m ((c.tc : Thread Cert.DcRe.nD Cert.DcRe.τ).loc Cert.DcRe.main_arg1))
      ∧ r.2.sem = fun _ => 0)

def quiescent_DcReIdeal [hDcReIdeal : Cert.DcReIdeal.Facts] : Prop :=
  ∀ (m : (ℓ : Loc Cert.DcReIdeal.nD Cert.DcReIdeal.τ Cert.DcReIdeal.sig) → Buf (Elt Ideal) ℓ) (g : Dev Cert.DcReIdeal.nD → PrngReg), Pre_DcReIdeal m →
    θ_run (Cert.DcReIdeal.defs (F := Ideal)) (onTc (τ := Cert.DcReIdeal.τ) (Cert.DcReIdeal.main (F := Ideal))) ⟨m, fun _ => 0, g⟩ (fun r => (∀ c : Dev Cert.DcReIdeal.nD,
      r.2.mem ((c.tc : Thread Cert.DcReIdeal.nD Cert.DcReIdeal.τ).loc Cert.DcReIdeal.main_arg0) = m ((c.tc : Thread Cert.DcReIdeal.nD Cert.DcReIdeal.τ).loc Cert.DcReIdeal.main_arg0)
      ∧ r.2.mem ((c.tc : Thread Cert.DcReIdeal.nD Cert.DcReIdeal.τ).loc Cert.DcReIdeal.main_arg1) = m ((c.tc : Thread Cert.DcReIdeal.nD Cert.DcReIdeal.τ).loc Cert.DcReIdeal.main_arg1))
      ∧ r.2.sem = fun _ => 0)

def quiescent_DcReRefIdeal [hDcReRefIdeal : Cert.DcReRefIdeal.Facts] : Prop :=
  ∀ (m : (ℓ : Loc Cert.DcReRefIdeal.nD Cert.DcReRefIdeal.τ Cert.DcReRefIdeal.sig) → Buf (Elt Ideal) ℓ) (g : Dev Cert.DcReRefIdeal.nD → PrngReg), Pre_DcReRefIdeal m →
    θ_run (Cert.DcReRefIdeal.defs (F := Ideal)) (onTc (τ := Cert.DcReRefIdeal.τ) (Cert.DcReRefIdeal.main (F := Ideal))) ⟨m, fun _ => 0, g⟩ (fun r => (∀ c : Dev Cert.DcReRefIdeal.nD,
      r.2.mem ((c.tc : Thread Cert.DcReRefIdeal.nD Cert.DcReRefIdeal.τ).loc Cert.DcReRefIdeal.main_arg0) = m ((c.tc : Thread Cert.DcReRefIdeal.nD Cert.DcReRefIdeal.τ).loc Cert.DcReRefIdeal.main_arg0)
      ∧ r.2.mem ((c.tc : Thread Cert.DcReRefIdeal.nD Cert.DcReRefIdeal.τ).loc Cert.DcReRefIdeal.main_arg1) = m ((c.tc : Thread Cert.DcReRefIdeal.nD Cert.DcReRefIdeal.τ).loc Cert.DcReRefIdeal.main_arg1))
      ∧ r.2.sem = fun _ => 0)

def quiescent_DcIm [hDcIm : Cert.DcIm.Facts] : Prop :=
  ∀ (m : (ℓ : Loc Cert.DcIm.nD Cert.DcIm.τ Cert.DcIm.sig) → Buf (Elt Bits) ℓ) (g : Dev Cert.DcIm.nD → PrngReg), Pre_DcIm m →
    θ_run (Cert.DcIm.defs (F := Bits)) (onTc (τ := Cert.DcIm.τ) (Cert.DcIm.main (F := Bits))) ⟨m, fun _ => 0, g⟩ (fun r => (∀ c : Dev Cert.DcIm.nD,
      r.2.mem ((c.tc : Thread Cert.DcIm.nD Cert.DcIm.τ).loc Cert.DcIm.main_arg0) = m ((c.tc : Thread Cert.DcIm.nD Cert.DcIm.τ).loc Cert.DcIm.main_arg0)
      ∧ r.2.mem ((c.tc : Thread Cert.DcIm.nD Cert.DcIm.τ).loc Cert.DcIm.main_arg1) = m ((c.tc : Thread Cert.DcIm.nD Cert.DcIm.τ).loc Cert.DcIm.main_arg1))
      ∧ r.2.sem = fun _ => 0)

def quiescent_DcImIdeal [hDcImIdeal : Cert.DcImIdeal.Facts] : Prop :=
  ∀ (m : (ℓ : Loc Cert.DcImIdeal.nD Cert.DcImIdeal.τ Cert.DcImIdeal.sig) → Buf (Elt Ideal) ℓ) (g : Dev Cert.DcImIdeal.nD → PrngReg), Pre_DcImIdeal m →
    θ_run (Cert.DcImIdeal.defs (F := Ideal)) (onTc (τ := Cert.DcImIdeal.τ) (Cert.DcImIdeal.main (F := Ideal))) ⟨m, fun _ => 0, g⟩ (fun r => (∀ c : Dev Cert.DcImIdeal.nD,
      r.2.mem ((c.tc : Thread Cert.DcImIdeal.nD Cert.DcImIdeal.τ).loc Cert.DcImIdeal.main_arg0) = m ((c.tc : Thread Cert.DcImIdeal.nD Cert.DcImIdeal.τ).loc Cert.DcImIdeal.main_arg0)
      ∧ r.2.mem ((c.tc : Thread Cert.DcImIdeal.nD Cert.DcImIdeal.τ).loc Cert.DcImIdeal.main_arg1) = m ((c.tc : Thread Cert.DcImIdeal.nD Cert.DcImIdeal.τ).loc Cert.DcImIdeal.main_arg1))
      ∧ r.2.sem = fun _ => 0)

def quiescent_DcImRefIdeal [hDcImRefIdeal : Cert.DcImRefIdeal.Facts] : Prop :=
  ∀ (m : (ℓ : Loc Cert.DcImRefIdeal.nD Cert.DcImRefIdeal.τ Cert.DcImRefIdeal.sig) → Buf (Elt Ideal) ℓ) (g : Dev Cert.DcImRefIdeal.nD → PrngReg), Pre_DcImRefIdeal m →
    θ_run (Cert.DcImRefIdeal.defs (F := Ideal)) (onTc (τ := Cert.DcImRefIdeal.τ) (Cert.DcImRefIdeal.main (F := Ideal))) ⟨m, fun _ => 0, g⟩ (fun r => (∀ c : Dev Cert.DcImRefIdeal.nD,
      r.2.mem ((c.tc : Thread Cert.DcImRefIdeal.nD Cert.DcImRefIdeal.τ).loc Cert.DcImRefIdeal.main_arg0) = m ((c.tc : Thread Cert.DcImRefIdeal.nD Cert.DcImRefIdeal.τ).loc Cert.DcImRefIdeal.main_arg0)
      ∧ r.2.mem ((c.tc : Thread Cert.DcImRefIdeal.nD Cert.DcImRefIdeal.τ).loc Cert.DcImRefIdeal.main_arg1) = m ((c.tc : Thread Cert.DcImRefIdeal.nD Cert.DcImRefIdeal.τ).loc Cert.DcImRefIdeal.main_arg1))
      ∧ r.2.sem = fun _ => 0)

def quiescent_BuDx [hBuDx : Cert.BuDx.Facts] : Prop :=
  ∀ (m : (ℓ : Loc Cert.BuDx.nD Cert.BuDx.τ Cert.BuDx.sig) → Buf (Elt Bits) ℓ) (g : Dev Cert.BuDx.nD → PrngReg), Pre_BuDx m →
    θ_run (Cert.BuDx.defs (F := Bits)) (onTc (τ := Cert.BuDx.τ) (Cert.BuDx.main (F := Bits))) ⟨m, fun _ => 0, g⟩ (fun r => (∀ c : Dev Cert.BuDx.nD,
      r.2.mem ((c.tc : Thread Cert.BuDx.nD Cert.BuDx.τ).loc Cert.BuDx.main_arg0) = m ((c.tc : Thread Cert.BuDx.nD Cert.BuDx.τ).loc Cert.BuDx.main_arg0)
      ∧ r.2.mem ((c.tc : Thread Cert.BuDx.nD Cert.BuDx.τ).loc Cert.BuDx.main_arg1) = m ((c.tc : Thread Cert.BuDx.nD Cert.BuDx.τ).loc Cert.BuDx.main_arg1)
      ∧ r.2.mem ((c.tc : Thread Cert.BuDx.nD Cert.BuDx.τ).loc Cert.BuDx.main_arg2) = m ((c.tc : Thread Cert.BuDx.nD Cert.BuDx.τ).loc Cert.BuDx.main_arg2)
      ∧ r.2.mem ((c.tc : Thread Cert.BuDx.nD Cert.BuDx.τ).loc Cert.BuDx.main_arg3) = m ((c.tc : Thread Cert.BuDx.nD Cert.BuDx.τ).loc Cert.BuDx.main_arg3)
      ∧ r.2.mem ((c.tc : Thread Cert.BuDx.nD Cert.BuDx.τ).loc Cert.BuDx.main_arg4) = m ((c.tc : Thread Cert.BuDx.nD Cert.BuDx.τ).loc Cert.BuDx.main_arg4)
      ∧ r.2.mem ((c.tc : Thread Cert.BuDx.nD Cert.BuDx.τ).loc Cert.BuDx.main_arg5) = m ((c.tc : Thread Cert.BuDx.nD Cert.BuDx.τ).loc Cert.BuDx.main_arg5))
      ∧ r.2.sem = fun _ => 0)

def quiescent_BuDxIdeal [hBuDxIdeal : Cert.BuDxIdeal.Facts] : Prop :=
  ∀ (m : (ℓ : Loc Cert.BuDxIdeal.nD Cert.BuDxIdeal.τ Cert.BuDxIdeal.sig) → Buf (Elt Ideal) ℓ) (g : Dev Cert.BuDxIdeal.nD → PrngReg), Pre_BuDxIdeal m →
    θ_run (Cert.BuDxIdeal.defs (F := Ideal)) (onTc (τ := Cert.BuDxIdeal.τ) (Cert.BuDxIdeal.main (F := Ideal))) ⟨m, fun _ => 0, g⟩ (fun r => (∀ c : Dev Cert.BuDxIdeal.nD,
      r.2.mem ((c.tc : Thread Cert.BuDxIdeal.nD Cert.BuDxIdeal.τ).loc Cert.BuDxIdeal.main_arg0) = m ((c.tc : Thread Cert.BuDxIdeal.nD Cert.BuDxIdeal.τ).loc Cert.BuDxIdeal.main_arg0)
      ∧ r.2.mem ((c.tc : Thread Cert.BuDxIdeal.nD Cert.BuDxIdeal.τ).loc Cert.BuDxIdeal.main_arg1) = m ((c.tc : Thread Cert.BuDxIdeal.nD Cert.BuDxIdeal.τ).loc Cert.BuDxIdeal.main_arg1)
      ∧ r.2.mem ((c.tc : Thread Cert.BuDxIdeal.nD Cert.BuDxIdeal.τ).loc Cert.BuDxIdeal.main_arg2) = m ((c.tc : Thread Cert.BuDxIdeal.nD Cert.BuDxIdeal.τ).loc Cert.BuDxIdeal.main_arg2)
      ∧ r.2.mem ((c.tc : Thread Cert.BuDxIdeal.nD Cert.BuDxIdeal.τ).loc Cert.BuDxIdeal.main_arg3) = m ((c.tc : Thread Cert.BuDxIdeal.nD Cert.BuDxIdeal.τ).loc Cert.BuDxIdeal.main_arg3)
      ∧ r.2.mem ((c.tc : Thread Cert.BuDxIdeal.nD Cert.BuDxIdeal.τ).loc Cert.BuDxIdeal.main_arg4) = m ((c.tc : Thread Cert.BuDxIdeal.nD Cert.BuDxIdeal.τ).loc Cert.BuDxIdeal.main_arg4)
      ∧ r.2.mem ((c.tc : Thread Cert.BuDxIdeal.nD Cert.BuDxIdeal.τ).loc Cert.BuDxIdeal.main_arg5) = m ((c.tc : Thread Cert.BuDxIdeal.nD Cert.BuDxIdeal.τ).loc Cert.BuDxIdeal.main_arg5))
      ∧ r.2.sem = fun _ => 0)

def quiescent_BuDxRefIdeal [hBuDxRefIdeal : Cert.BuDxRefIdeal.Facts] : Prop :=
  ∀ (m : (ℓ : Loc Cert.BuDxRefIdeal.nD Cert.BuDxRefIdeal.τ Cert.BuDxRefIdeal.sig) → Buf (Elt Ideal) ℓ) (g : Dev Cert.BuDxRefIdeal.nD → PrngReg), Pre_BuDxRefIdeal m →
    θ_run (Cert.BuDxRefIdeal.defs (F := Ideal)) (onTc (τ := Cert.BuDxRefIdeal.τ) (Cert.BuDxRefIdeal.main (F := Ideal))) ⟨m, fun _ => 0, g⟩ (fun r => (∀ c : Dev Cert.BuDxRefIdeal.nD,
      r.2.mem ((c.tc : Thread Cert.BuDxRefIdeal.nD Cert.BuDxRefIdeal.τ).loc Cert.BuDxRefIdeal.main_arg0) = m ((c.tc : Thread Cert.BuDxRefIdeal.nD Cert.BuDxRefIdeal.τ).loc Cert.BuDxRefIdeal.main_arg0)
      ∧ r.2.mem ((c.tc : Thread Cert.BuDxRefIdeal.nD Cert.BuDxRefIdeal.τ).loc Cert.BuDxRefIdeal.main_arg1) = m ((c.tc : Thread Cert.BuDxRefIdeal.nD Cert.BuDxRefIdeal.τ).loc Cert.BuDxRefIdeal.main_arg1)
      ∧ r.2.mem ((c.tc : Thread Cert.BuDxRefIdeal.nD Cert.BuDxRefIdeal.τ).loc Cert.BuDxRefIdeal.main_arg2) = m ((c.tc : Thread Cert.BuDxRefIdeal.nD Cert.BuDxRefIdeal.τ).loc Cert.BuDxRefIdeal.main_arg2)
      ∧ r.2.mem ((c.tc : Thread Cert.BuDxRefIdeal.nD Cert.BuDxRefIdeal.τ).loc Cert.BuDxRefIdeal.main_arg3) = m ((c.tc : Thread Cert.BuDxRefIdeal.nD Cert.BuDxRefIdeal.τ).loc Cert.BuDxRefIdeal.main_arg3)
      ∧ r.2.mem ((c.tc : Thread Cert.BuDxRefIdeal.nD Cert.BuDxRefIdeal.τ).loc Cert.BuDxRefIdeal.main_arg4) = m ((c.tc : Thread Cert.BuDxRefIdeal.nD Cert.BuDxRefIdeal.τ).loc Cert.BuDxRefIdeal.main_arg4)
      ∧ r.2.mem ((c.tc : Thread Cert.BuDxRefIdeal.nD Cert.BuDxRefIdeal.τ).loc Cert.BuDxRefIdeal.main_arg5) = m ((c.tc : Thread Cert.BuDxRefIdeal.nD Cert.BuDxRefIdeal.τ).loc Cert.BuDxRefIdeal.main_arg5))
      ∧ r.2.sem = fun _ => 0)

def quiescent_BuDw [hBuDw : Cert.BuDw.Facts] : Prop :=
  ∀ (m : (ℓ : Loc Cert.BuDw.nD Cert.BuDw.τ Cert.BuDw.sig) → Buf (Elt Bits) ℓ) (g : Dev Cert.BuDw.nD → PrngReg), Pre_BuDw m →
    θ_run (Cert.BuDw.defs (F := Bits)) (onTc (τ := Cert.BuDw.τ) (Cert.BuDw.main (F := Bits))) ⟨m, fun _ => 0, g⟩ (fun r => (∀ c : Dev Cert.BuDw.nD,
      r.2.mem ((c.tc : Thread Cert.BuDw.nD Cert.BuDw.τ).loc Cert.BuDw.main_arg0) = m ((c.tc : Thread Cert.BuDw.nD Cert.BuDw.τ).loc Cert.BuDw.main_arg0)
      ∧ r.2.mem ((c.tc : Thread Cert.BuDw.nD Cert.BuDw.τ).loc Cert.BuDw.main_arg1) = m ((c.tc : Thread Cert.BuDw.nD Cert.BuDw.τ).loc Cert.BuDw.main_arg1))
      ∧ r.2.sem = fun _ => 0)

def quiescent_BuDwIdeal [hBuDwIdeal : Cert.BuDwIdeal.Facts] : Prop :=
  ∀ (m : (ℓ : Loc Cert.BuDwIdeal.nD Cert.BuDwIdeal.τ Cert.BuDwIdeal.sig) → Buf (Elt Ideal) ℓ) (g : Dev Cert.BuDwIdeal.nD → PrngReg), Pre_BuDwIdeal m →
    θ_run (Cert.BuDwIdeal.defs (F := Ideal)) (onTc (τ := Cert.BuDwIdeal.τ) (Cert.BuDwIdeal.main (F := Ideal))) ⟨m, fun _ => 0, g⟩ (fun r => (∀ c : Dev Cert.BuDwIdeal.nD,
      r.2.mem ((c.tc : Thread Cert.BuDwIdeal.nD Cert.BuDwIdeal.τ).loc Cert.BuDwIdeal.main_arg0) = m ((c.tc : Thread Cert.BuDwIdeal.nD Cert.BuDwIdeal.τ).loc Cert.BuDwIdeal.main_arg0)
      ∧ r.2.mem ((c.tc : Thread Cert.BuDwIdeal.nD Cert.BuDwIdeal.τ).loc Cert.BuDwIdeal.main_arg1) = m ((c.tc : Thread Cert.BuDwIdeal.nD Cert.BuDwIdeal.τ).loc Cert.BuDwIdeal.main_arg1))
      ∧ r.2.sem = fun _ => 0)

def quiescent_BuDwRefIdeal [hBuDwRefIdeal : Cert.BuDwRefIdeal.Facts] : Prop :=
  ∀ (m : (ℓ : Loc Cert.BuDwRefIdeal.nD Cert.BuDwRefIdeal.τ Cert.BuDwRefIdeal.sig) → Buf (Elt Ideal) ℓ) (g : Dev Cert.BuDwRefIdeal.nD → PrngReg), Pre_BuDwRefIdeal m →
    θ_run (Cert.BuDwRefIdeal.defs (F := Ideal)) (onTc (τ := Cert.BuDwRefIdeal.τ) (Cert.BuDwRefIdeal.main (F := Ideal))) ⟨m, fun _ => 0, g⟩ (fun r => (∀ c : Dev Cert.BuDwRefIdeal.nD,
      r.2.mem ((c.tc : Thread Cert.BuDwRefIdeal.nD Cert.BuDwRefIdeal.τ).loc Cert.BuDwRefIdeal.main_arg0) = m ((c.tc : Thread Cert.BuDwRefIdeal.nD Cert.BuDwRefIdeal.τ).loc Cert.BuDwRefIdeal.main_arg0)
      ∧ r.2.mem ((c.tc : Thread Cert.BuDwRefIdeal.nD Cert.BuDwRefIdeal.τ).loc Cert.BuDwRefIdeal.main_arg1) = m ((c.tc : Thread Cert.BuDwRefIdeal.nD Cert.BuDwRefIdeal.τ).loc Cert.BuDwRefIdeal.main_arg1))
      ∧ r.2.sem = fun _ => 0)

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1))
      ∧ r.2.sem = fun _ => 0)

def quiescent_ScB [hScB : Cert.ScB.Facts] : Prop :=
  ∀ (m : (ℓ : Loc Cert.ScB.nD Cert.ScB.τ Cert.ScB.sig) → Buf (Elt Bits) ℓ) (g : Dev Cert.ScB.nD → PrngReg), Pre_ScB m →
    θ_run (Cert.ScB.defs (F := Bits)) (onTc (τ := Cert.ScB.τ) (Cert.ScB.main (F := Bits))) ⟨m, fun _ => 0, g⟩ (fun r => (∀ c : Dev Cert.ScB.nD,
      r.2.mem ((c.tc : Thread Cert.ScB.nD Cert.ScB.τ).loc Cert.ScB.main_arg0) = m ((c.tc : Thread Cert.ScB.nD Cert.ScB.τ).loc Cert.ScB.main_arg0)
      ∧ r.2.mem ((c.tc : Thread Cert.ScB.nD Cert.ScB.τ).loc Cert.ScB.main_arg1) = m ((c.tc : Thread Cert.ScB.nD Cert.ScB.τ).loc Cert.ScB.main_arg1)
      ∧ r.2.mem ((c.tc : Thread Cert.ScB.nD Cert.ScB.τ).loc Cert.ScB.main_arg2) = m ((c.tc : Thread Cert.ScB.nD Cert.ScB.τ).loc Cert.ScB.main_arg2)
      ∧ r.2.mem ((c.tc : Thread Cert.ScB.nD Cert.ScB.τ).loc Cert.ScB.main_arg3) = m ((c.tc : Thread Cert.ScB.nD Cert.ScB.τ).loc Cert.ScB.main_arg3))
      ∧ r.2.sem = fun _ => 0)

def quiescent_ScBIdeal [hScBIdeal : Cert.ScBIdeal.Facts] : Prop :=
  ∀ (m : (ℓ : Loc Cert.ScBIdeal.nD Cert.ScBIdeal.τ Cert.ScBIdeal.sig) → Buf (Elt Ideal) ℓ) (g : Dev Cert.ScBIdeal.nD → PrngReg), Pre_ScBIdeal m →
    θ_run (Cert.ScBIdeal.defs (F := Ideal)) (onTc (τ := Cert.ScBIdeal.τ) (Cert.ScBIdeal.main (F := Ideal))) ⟨m, fun _ => 0, g⟩ (fun r => (∀ c : Dev Cert.ScBIdeal.nD,
      r.2.mem ((c.tc : Thread Cert.ScBIdeal.nD Cert.ScBIdeal.τ).loc Cert.ScBIdeal.main_arg0) = m ((c.tc : Thread Cert.ScBIdeal.nD Cert.ScBIdeal.τ).loc Cert.ScBIdeal.main_arg0)
      ∧ r.2.mem ((c.tc : Thread Cert.ScBIdeal.nD Cert.ScBIdeal.τ).loc Cert.ScBIdeal.main_arg1) = m ((c.tc : Thread Cert.ScBIdeal.nD Cert.ScBIdeal.τ).loc Cert.ScBIdeal.main_arg1)
      ∧ r.2.mem ((c.tc : Thread Cert.ScBIdeal.nD Cert.ScBIdeal.τ).loc Cert.ScBIdeal.main_arg2) = m ((c.tc : Thread Cert.ScBIdeal.nD Cert.ScBIdeal.τ).loc Cert.ScBIdeal.main_arg2)
      ∧ r.2.mem ((c.tc : Thread Cert.ScBIdeal.nD Cert.ScBIdeal.τ).loc Cert.ScBIdeal.main_arg3) = m ((c.tc : Thread Cert.ScBIdeal.nD Cert.ScBIdeal.τ).loc Cert.ScBIdeal.main_arg3))
      ∧ r.2.sem = fun _ => 0)

def quiescent_ScBRefIdeal [hScBRefIdeal : Cert.ScBRefIdeal.Facts] : Prop :=
  ∀ (m : (ℓ : Loc Cert.ScBRefIdeal.nD Cert.ScBRefIdeal.τ Cert.ScBRefIdeal.sig) → Buf (Elt Ideal) ℓ) (g : Dev Cert.ScBRefIdeal.nD → PrngReg), Pre_ScBRefIdeal m →
    θ_run (Cert.ScBRefIdeal.defs (F := Ideal)) (onTc (τ := Cert.ScBRefIdeal.τ) (Cert.ScBRefIdeal.main (F := Ideal))) ⟨m, fun _ => 0, g⟩ (fun r => (∀ c : Dev Cert.ScBRefIdeal.nD,
      r.2.mem ((c.tc : Thread Cert.ScBRefIdeal.nD Cert.ScBRefIdeal.τ).loc Cert.ScBRefIdeal.main_arg0) = m ((c.tc : Thread Cert.ScBRefIdeal.nD Cert.ScBRefIdeal.τ).loc Cert.ScBRefIdeal.main_arg0)
      ∧ r.2.mem ((c.tc : Thread Cert.ScBRefIdeal.nD Cert.ScBRefIdeal.τ).loc Cert.ScBRefIdeal.main_arg1) = m ((c.tc : Thread Cert.ScBRefIdeal.nD Cert.ScBRefIdeal.τ).loc Cert.ScBRefIdeal.main_arg1)
      ∧ r.2.mem ((c.tc : Thread Cert.ScBRefIdeal.nD Cert.ScBRefIdeal.τ).loc Cert.ScBRefIdeal.main_arg2) = m ((c.tc : Thread Cert.ScBRefIdeal.nD Cert.ScBRefIdeal.τ).loc Cert.ScBRefIdeal.main_arg2)
      ∧ r.2.mem ((c.tc : Thread Cert.ScBRefIdeal.nD Cert.ScBRefIdeal.τ).loc Cert.ScBRefIdeal.main_arg3) = m ((c.tc : Thread Cert.ScBRefIdeal.nD Cert.ScBRefIdeal.τ).loc Cert.ScBRefIdeal.main_arg3))
      ∧ r.2.sem = fun _ => 0)

def quiescent_M2c [hM2c : Cert.M2c.Facts] : Prop :=
  ∀ (m : (ℓ : Loc Cert.M2c.nD Cert.M2c.τ Cert.M2c.sig) → Buf (Elt Bits) ℓ) (g : Dev Cert.M2c.nD → PrngReg), Pre_M2c m →
    θ_run (Cert.M2c.defs (F := Bits)) (onTc (τ := Cert.M2c.τ) (Cert.M2c.main (F := Bits))) ⟨m, fun _ => 0, g⟩ (fun r => (∀ c : Dev Cert.M2c.nD,
      r.2.mem ((c.tc : Thread Cert.M2c.nD Cert.M2c.τ).loc Cert.M2c.main_arg0) = m ((c.tc : Thread Cert.M2c.nD Cert.M2c.τ).loc Cert.M2c.main_arg0)
      ∧ r.2.mem ((c.tc : Thread Cert.M2c.nD Cert.M2c.τ).loc Cert.M2c.main_arg1) = m ((c.tc : Thread Cert.M2c.nD Cert.M2c.τ).loc Cert.M2c.main_arg1)
      ∧ r.2.mem ((c.tc : Thread Cert.M2c.nD Cert.M2c.τ).loc Cert.M2c.main_arg2) = m ((c.tc : Thread Cert.M2c.nD Cert.M2c.τ).loc Cert.M2c.main_arg2))
      ∧ r.2.sem = fun _ => 0)

def quiescent_M2cIdeal [hM2cIdeal : Cert.M2cIdeal.Facts] : Prop :=
  ∀ (m : (ℓ : Loc Cert.M2cIdeal.nD Cert.M2cIdeal.τ Cert.M2cIdeal.sig) → Buf (Elt Ideal) ℓ) (g : Dev Cert.M2cIdeal.nD → PrngReg), Pre_M2cIdeal m →
    θ_run (Cert.M2cIdeal.defs (F := Ideal)) (onTc (τ := Cert.M2cIdeal.τ) (Cert.M2cIdeal.main (F := Ideal))) ⟨m, fun _ => 0, g⟩ (fun r => (∀ c : Dev Cert.M2cIdeal.nD,
      r.2.mem ((c.tc : Thread Cert.M2cIdeal.nD Cert.M2cIdeal.τ).loc Cert.M2cIdeal.main_arg0) = m ((c.tc : Thread Cert.M2cIdeal.nD Cert.M2cIdeal.τ).loc Cert.M2cIdeal.main_arg0)
      ∧ r.2.mem ((c.tc : Thread Cert.M2cIdeal.nD Cert.M2cIdeal.τ).loc Cert.M2cIdeal.main_arg1) = m ((c.tc : Thread Cert.M2cIdeal.nD Cert.M2cIdeal.τ).loc Cert.M2cIdeal.main_arg1)
      ∧ r.2.mem ((c.tc : Thread Cert.M2cIdeal.nD Cert.M2cIdeal.τ).loc Cert.M2cIdeal.main_arg2) = m ((c.tc : Thread Cert.M2cIdeal.nD Cert.M2cIdeal.τ).loc Cert.M2cIdeal.main_arg2))
      ∧ r.2.sem = fun _ => 0)

def quiescent_M2cRefIdeal [hM2cRefIdeal : Cert.M2cRefIdeal.Facts] : Prop :=
  ∀ (m : (ℓ : Loc Cert.M2cRefIdeal.nD Cert.M2cRefIdeal.τ Cert.M2cRefIdeal.sig) → Buf (Elt Ideal) ℓ) (g : Dev Cert.M2cRefIdeal.nD → PrngReg), Pre_M2cRefIdeal m →
    θ_run (Cert.M2cRefIdeal.defs (F := Ideal)) (onTc (τ := Cert.M2cRefIdeal.τ) (Cert.M2cRefIdeal.main (F := Ideal))) ⟨m, fun _ => 0, g⟩ (fun r => (∀ c : Dev Cert.M2cRefIdeal.nD,
      r.2.mem ((c.tc : Thread Cert.M2cRefIdeal.nD Cert.M2cRefIdeal.τ).loc Cert.M2cRefIdeal.main_arg0) = m ((c.tc : Thread Cert.M2cRefIdeal.nD Cert.M2cRefIdeal.τ).loc Cert.M2cRefIdeal.main_arg0)
      ∧ r.2.mem ((c.tc : Thread Cert.M2cRefIdeal.nD Cert.M2cRefIdeal.τ).loc Cert.M2cRefIdeal.main_arg1) = m ((c.tc : Thread Cert.M2cRefIdeal.nD Cert.M2cRefIdeal.τ).loc Cert.M2cRefIdeal.main_arg1)
      ∧ r.2.mem ((c.tc : Thread Cert.M2cRefIdeal.nD Cert.M2cRefIdeal.τ).loc Cert.M2cRefIdeal.main_arg2) = m ((c.tc : Thread Cert.M2cRefIdeal.nD Cert.M2cRefIdeal.τ).loc Cert.M2cRefIdeal.main_arg2))
      ∧ r.2.sem = fun _ => 0)

def quiescent_M2cB [hM2cB : Cert.M2cB.Facts] : Prop :=
  ∀ (m : (ℓ : Loc Cert.M2cB.nD Cert.M2cB.τ Cert.M2cB.sig) → Buf (Elt Bits) ℓ) (g : Dev Cert.M2cB.nD → PrngReg), Pre_M2cB m →
    θ_run (Cert.M2cB.defs (F := Bits)) (onTc (τ := Cert.M2cB.τ) (Cert.M2cB.main (F := Bits))) ⟨m, fun _ => 0, g⟩ (fun r => (∀ c : Dev Cert.M2cB.nD,
      r.2.mem ((c.tc : Thread Cert.M2cB.nD Cert.M2cB.τ).loc Cert.M2cB.main_arg0) = m ((c.tc : Thread Cert.M2cB.nD Cert.M2cB.τ).loc Cert.M2cB.main_arg0)
      ∧ r.2.mem ((c.tc : Thread Cert.M2cB.nD Cert.M2cB.τ).loc Cert.M2cB.main_arg1) = m ((c.tc : Thread Cert.M2cB.nD Cert.M2cB.τ).loc Cert.M2cB.main_arg1)
      ∧ r.2.mem ((c.tc : Thread Cert.M2cB.nD Cert.M2cB.τ).loc Cert.M2cB.main_arg2) = m ((c.tc : Thread Cert.M2cB.nD Cert.M2cB.τ).loc Cert.M2cB.main_arg2)
      ∧ r.2.mem ((c.tc : Thread Cert.M2cB.nD Cert.M2cB.τ).loc Cert.M2cB.main_arg3) = m ((c.tc : Thread Cert.M2cB.nD Cert.M2cB.τ).loc Cert.M2cB.main_arg3)
      ∧ r.2.mem ((c.tc : Thread Cert.M2cB.nD Cert.M2cB.τ).loc Cert.M2cB.main_arg4) = m ((c.tc : Thread Cert.M2cB.nD Cert.M2cB.τ).loc Cert.M2cB.main_arg4))
      ∧ r.2.sem = fun _ => 0)

def quiescent_M2cBIdeal [hM2cBIdeal : Cert.M2cBIdeal.Facts] : Prop :=
  ∀ (m : (ℓ : Loc Cert.M2cBIdeal.nD Cert.M2cBIdeal.τ Cert.M2cBIdeal.sig) → Buf (Elt Ideal) ℓ) (g : Dev Cert.M2cBIdeal.nD → PrngReg), Pre_M2cBIdeal m →
    θ_run (Cert.M2cBIdeal.defs (F := Ideal)) (onTc (τ := Cert.M2cBIdeal.τ) (Cert.M2cBIdeal.main (F := Ideal))) ⟨m, fun _ => 0, g⟩ (fun r => (∀ c : Dev Cert.M2cBIdeal.nD,
      r.2.mem ((c.tc : Thread Cert.M2cBIdeal.nD Cert.M2cBIdeal.τ).loc Cert.M2cBIdeal.main_arg0) = m ((c.tc : Thread Cert.M2cBIdeal.nD Cert.M2cBIdeal.τ).loc Cert.M2cBIdeal.main_arg0)
      ∧ r.2.mem ((c.tc : Thread Cert.M2cBIdeal.nD Cert.M2cBIdeal.τ).loc Cert.M2cBIdeal.main_arg1) = m ((c.tc : Thread Cert.M2cBIdeal.nD Cert.M2cBIdeal.τ).loc Cert.M2cBIdeal.main_arg1)
      ∧ r.2.mem ((c.tc : Thread Cert.M2cBIdeal.nD Cert.M2cBIdeal.τ).loc Cert.M2cBIdeal.main_arg2) = m ((c.tc : Thread Cert.M2cBIdeal.nD Cert.M2cBIdeal.τ).loc Cert.M2cBIdeal.main_arg2)
      ∧ r.2.mem ((c.tc : Thread Cert.M2cBIdeal.nD Cert.M2cBIdeal.τ).loc Cert.M2cBIdeal.main_arg3) = m ((c.tc : Thread Cert.M2cBIdeal.nD Cert.M2cBIdeal.τ).loc Cert.M2cBIdeal.main_arg3)
      ∧ r.2.mem ((c.tc : Thread Cert.M2cBIdeal.nD Cert.M2cBIdeal.τ).loc Cert.M2cBIdeal.main_arg4) = m ((c.tc : Thread Cert.M2cBIdeal.nD Cert.M2cBIdeal.τ).loc Cert.M2cBIdeal.main_arg4))
      ∧ r.2.sem = fun _ => 0)

def quiescent_M2cBRefIdeal [hM2cBRefIdeal : Cert.M2cBRefIdeal.Facts] : Prop :=
  ∀ (m : (ℓ : Loc Cert.M2cBRefIdeal.nD Cert.M2cBRefIdeal.τ Cert.M2cBRefIdeal.sig) → Buf (Elt Ideal) ℓ) (g : Dev Cert.M2cBRefIdeal.nD → PrngReg), Pre_M2cBRefIdeal m →
    θ_run (Cert.M2cBRefIdeal.defs (F := Ideal)) (onTc (τ := Cert.M2cBRefIdeal.τ) (Cert.M2cBRefIdeal.main (F := Ideal))) ⟨m, fun _ => 0, g⟩ (fun r => (∀ c : Dev Cert.M2cBRefIdeal.nD,
      r.2.mem ((c.tc : Thread Cert.M2cBRefIdeal.nD Cert.M2cBRefIdeal.τ).loc Cert.M2cBRefIdeal.main_arg0) = m ((c.tc : Thread Cert.M2cBRefIdeal.nD Cert.M2cBRefIdeal.τ).loc Cert.M2cBRefIdeal.main_arg0)
      ∧ r.2.mem ((c.tc : Thread Cert.M2cBRefIdeal.nD Cert.M2cBRefIdeal.τ).loc Cert.M2cBRefIdeal.main_arg1) = m ((c.tc : Thread Cert.M2cBRefIdeal.nD Cert.M2cBRefIdeal.τ).loc Cert.M2cBRefIdeal.main_arg1)
      ∧ r.2.mem ((c.tc : Thread Cert.M2cBRefIdeal.nD Cert.M2cBRefIdeal.τ).loc Cert.M2cBRefIdeal.main_arg2) = m ((c.tc : Thread Cert.M2cBRefIdeal.nD Cert.M2cBRefIdeal.τ).loc Cert.M2cBRefIdeal.main_arg2)
      ∧ r.2.mem ((c.tc : Thread Cert.M2cBRefIdeal.nD Cert.M2cBRefIdeal.τ).loc Cert.M2cBRefIdeal.main_arg3) = m ((c.tc : Thread Cert.M2cBRefIdeal.nD Cert.M2cBRefIdeal.τ).loc Cert.M2cBRefIdeal.main_arg3)
      ∧ r.2.mem ((c.tc : Thread Cert.M2cBRefIdeal.nD Cert.M2cBRefIdeal.τ).loc Cert.M2cBRefIdeal.main_arg4) = m ((c.tc : Thread Cert.M2cBRefIdeal.nD Cert.M2cBRefIdeal.τ).loc Cert.M2cBRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RmsB [hRmsB : Cert.RmsB.Facts] : Prop :=
  ∀ (m : (ℓ : Loc Cert.RmsB.nD Cert.RmsB.τ Cert.RmsB.sig) → Buf (Elt Bits) ℓ) (g : Dev Cert.RmsB.nD → PrngReg), Pre_RmsB m →
    θ_run (Cert.RmsB.defs (F := Bits)) (onTc (τ := Cert.RmsB.τ) (Cert.RmsB.main (F := Bits))) ⟨m, fun _ => 0, g⟩ (fun r => (∀ c : Dev Cert.RmsB.nD,
      r.2.mem ((c.tc : Thread Cert.RmsB.nD Cert.RmsB.τ).loc Cert.RmsB.main_arg0) = m ((c.tc : Thread Cert.RmsB.nD Cert.RmsB.τ).loc Cert.RmsB.main_arg0)
      ∧ r.2.mem ((c.tc : Thread Cert.RmsB.nD Cert.RmsB.τ).loc Cert.RmsB.main_arg1) = m ((c.tc : Thread Cert.RmsB.nD Cert.RmsB.τ).loc Cert.RmsB.main_arg1)
      ∧ r.2.mem ((c.tc : Thread Cert.RmsB.nD Cert.RmsB.τ).loc Cert.RmsB.main_arg2) = m ((c.tc : Thread Cert.RmsB.nD Cert.RmsB.τ).loc Cert.RmsB.main_arg2)
      ∧ r.2.mem ((c.tc : Thread Cert.RmsB.nD Cert.RmsB.τ).loc Cert.RmsB.main_arg3) = m ((c.tc : Thread Cert.RmsB.nD Cert.RmsB.τ).loc Cert.RmsB.main_arg3))
      ∧ r.2.sem = fun _ => 0)

def quiescent_RmsBIdeal [hRmsBIdeal : Cert.RmsBIdeal.Facts] : Prop :=
  ∀ (m : (ℓ : Loc Cert.RmsBIdeal.nD Cert.RmsBIdeal.τ Cert.RmsBIdeal.sig) → Buf (Elt Ideal) ℓ) (g : Dev Cert.RmsBIdeal.nD → PrngReg), Pre_RmsBIdeal m →
    θ_run (Cert.RmsBIdeal.defs (F := Ideal)) (onTc (τ := Cert.RmsBIdeal.τ) (Cert.RmsBIdeal.main (F := Ideal))) ⟨m, fun _ => 0, g⟩ (fun r => (∀ c : Dev Cert.RmsBIdeal.nD,
      r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
      ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
      ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
      ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ r.2.sem = fun _ => 0)

def quiescent_RmsBRefIdeal [hRmsBRefIdeal : Cert.RmsBRefIdeal.Facts] : Prop :=
  ∀ (m : (ℓ : Loc Cert.RmsBRefIdeal.nD Cert.RmsBRefIdeal.τ Cert.RmsBRefIdeal.sig) → Buf (Elt Ideal) ℓ) (g : Dev Cert.RmsBRefIdeal.nD → PrngReg), Pre_RmsBRefIdeal m →
    θ_run (Cert.RmsBRefIdeal.defs (F := Ideal)) (onTc (τ := Cert.RmsBRefIdeal.τ) (Cert.RmsBRefIdeal.main (F := Ideal))) ⟨m, fun _ => 0, g⟩ (fun r => (∀ c : Dev Cert.RmsBRefIdeal.nD,
      r.2.mem ((c.tc : Thread Cert.RmsBRefIdeal.nD Cert.RmsBRefIdeal.τ).loc Cert.RmsBRefIdeal.main_arg0) = m ((c.tc : Thread Cert.RmsBRefIdeal.nD Cert.RmsBRefIdeal.τ).loc Cert.RmsBRefIdeal.main_arg0)
      ∧ r.2.mem ((c.tc : Thread Cert.RmsBRefIdeal.nD Cert.RmsBRefIdeal.τ).loc Cert.RmsBRefIdeal.main_arg1) = m ((c.tc : Thread Cert.RmsBRefIdeal.nD Cert.RmsBRefIdeal.τ).loc Cert.RmsBRefIdeal.main_arg1)
      ∧ r.2.mem ((c.tc : Thread Cert.RmsBRefIdeal.nD Cert.RmsBRefIdeal.τ).loc Cert.RmsBRefIdeal.main_arg2) = m ((c.tc : Thread Cert.RmsBRefIdeal.nD Cert.RmsBRefIdeal.τ).loc Cert.RmsBRefIdeal.main_arg2)
      ∧ r.2.mem ((c.tc : Thread Cert.RmsBRefIdeal.nD Cert.RmsBRefIdeal.τ).loc Cert.RmsBRefIdeal.main_arg3) = m ((c.tc : Thread Cert.RmsBRefIdeal.nD Cert.RmsBRefIdeal.τ).loc Cert.RmsBRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AWin [hAWin : Cert.AWin.Facts] : Prop :=
  ∀ (m : (ℓ : Loc Cert.AWin.nD Cert.AWin.τ Cert.AWin.sig) → Buf (Elt Bits) ℓ) (g : Dev Cert.AWin.nD → PrngReg), Pre_AWin m →
    θ_run (Cert.AWin.defs (F := Bits)) (onTc (τ := Cert.AWin.τ) (Cert.AWin.main (F := Bits))) ⟨m, fun _ => 0, g⟩ (fun r => (∀ c : Dev Cert.AWin.nD,
      r.2.mem ((c.tc : Thread Cert.AWin.nD Cert.AWin.τ).loc Cert.AWin.main_arg0) = m ((c.tc : Thread Cert.AWin.nD Cert.AWin.τ).loc Cert.AWin.main_arg0)
      ∧ r.2.mem ((c.tc : Thread Cert.AWin.nD Cert.AWin.τ).loc Cert.AWin.main_arg1) = m ((c.tc : Thread Cert.AWin.nD Cert.AWin.τ).loc Cert.AWin.main_arg1)
      ∧ r.2.mem ((c.tc : Thread Cert.AWin.nD Cert.AWin.τ).loc Cert.AWin.main_arg2) = m ((c.tc : Thread Cert.AWin.nD Cert.AWin.τ).loc Cert.AWin.main_arg2)
      ∧ r.2.mem ((c.tc : Thread Cert.AWin.nD Cert.AWin.τ).loc Cert.AWin.main_arg3) = m ((c.tc : Thread Cert.AWin.nD Cert.AWin.τ).loc Cert.AWin.main_arg3))
      ∧ r.2.sem = fun _ => 0)

def quiescent_AWinIdeal [hAWinIdeal : Cert.AWinIdeal.Facts] : Prop :=
  ∀ (m : (ℓ : Loc Cert.AWinIdeal.nD Cert.AWinIdeal.τ Cert.AWinIdeal.sig) → Buf (Elt Ideal) ℓ) (g : Dev Cert.AWinIdeal.nD → PrngReg), Pre_AWinIdeal m →
    θ_run (Cert.AWinIdeal.defs (F := Ideal)) (onTc (τ := Cert.AWinIdeal.τ) (Cert.AWinIdeal.main (F := Ideal))) ⟨m, fun _ => 0, g⟩ (fun r => (∀ c : Dev Cert.AWinIdeal.nD,
      r.2.mem ((c.tc : Thread Cert.AWinIdeal.nD Cert.AWinIdeal.τ).loc Cert.AWinIdeal.main_arg0) = m ((c.tc : Thread Cert.AWinIdeal.nD Cert.AWinIdeal.τ).loc Cert.AWinIdeal.main_arg0)
      ∧ r.2.mem ((c.tc : Thread Cert.AWinIdeal.nD Cert.AWinIdeal.τ).loc Cert.AWinIdeal.main_arg1) = m ((c.tc : Thread Cert.AWinIdeal.nD Cert.AWinIdeal.τ).loc Cert.AWinIdeal.main_arg1)
      ∧ r.2.mem ((c.tc : Thread Cert.AWinIdeal.nD Cert.AWinIdeal.τ).loc Cert.AWinIdeal.main_arg2) = m ((c.tc : Thread Cert.AWinIdeal.nD Cert.AWinIdeal.τ).loc Cert.AWinIdeal.main_arg2)
      ∧ r.2.mem ((c.tc : Thread Cert.AWinIdeal.nD Cert.AWinIdeal.τ).loc Cert.AWinIdeal.main_arg3) = m ((c.tc : Thread Cert.AWinIdeal.nD Cert.AWinIdeal.τ).loc Cert.AWinIdeal.main_arg3))
      ∧ r.2.sem = fun _ => 0)

def quiescent_AWinRefIdeal [hAWinRefIdeal : Cert.AWinRefIdeal.Facts] : Prop :=
  ∀ (m : (ℓ : Loc Cert.AWinRefIdeal.nD Cert.AWinRefIdeal.τ Cert.AWinRefIdeal.sig) → Buf (Elt Ideal) ℓ) (g : Dev Cert.AWinRefIdeal.nD → PrngReg), Pre_AWinRefIdeal m →
    θ_run (Cert.AWinRefIdeal.defs (F := Ideal)) (onTc (τ := Cert.AWinRefIdeal.τ) (Cert.AWinRefIdeal.main (F := Ideal))) ⟨m, fun _ => 0, g⟩ (fun r => (∀ c : Dev Cert.AWinRefIdeal.nD,
      r.2.mem ((c.tc : Thread Cert.AWinRefIdeal.nD Cert.AWinRefIdeal.τ).loc Cert.AWinRefIdeal.main_arg0) = m ((c.tc : Thread Cert.AWinRefIdeal.nD Cert.AWinRefIdeal.τ).loc Cert.AWinRefIdeal.main_arg0)
      ∧ r.2.mem ((c.tc : Thread Cert.AWinRefIdeal.nD Cert.AWinRefIdeal.τ).loc Cert.AWinRefIdeal.main_arg1) = m ((c.tc : Thread Cert.AWinRefIdeal.nD Cert.AWinRefIdeal.τ).loc Cert.AWinRefIdeal.main_arg1)
      ∧ r.2.mem ((c.tc : Thread Cert.AWinRefIdeal.nD Cert.AWinRefIdeal.τ).loc Cert.AWinRefIdeal.main_arg2) = m ((c.tc : Thread Cert.AWinRefIdeal.nD Cert.AWinRefIdeal.τ).loc Cert.AWinRefIdeal.main_arg2)
      ∧ r.2.mem ((c.tc : Thread Cert.AWinRefIdeal.nD Cert.AWinRefIdeal.τ).loc Cert.AWinRefIdeal.main_arg3) = m ((c.tc : Thread Cert.AWinRefIdeal.nD Cert.AWinRefIdeal.τ).loc Cert.AWinRefIdeal.main_arg3))
      ∧ r.2.sem = fun _ => 0)

def quiescent_AWbr [hAWbr : Cert.AWbr.Facts] : Prop :=
  ∀ (m : (ℓ : Loc Cert.AWbr.nD Cert.AWbr.τ Cert.AWbr.sig) → Buf (Elt Bits) ℓ) (g : Dev Cert.AWbr.nD → PrngReg), Pre_AWbr m →
    θ_run (Cert.AWbr.defs (F := Bits)) (onTc (τ := Cert.AWbr.τ) (Cert.AWbr.main (F := Bits))) ⟨m, fun _ => 0, g⟩ (fun r => (∀ c : Dev Cert.AWbr.nD,
      r.2.mem ((c.tc : Thread Cert.AWbr.nD Cert.AWbr.τ).loc Cert.AWbr.main_arg0) = m ((c.tc : Thread Cert.AWbr.nD Cert.AWbr.τ).loc Cert.AWbr.main_arg0)
      ∧ r.2.mem ((c.tc : Thread Cert.AWbr.nD Cert.AWbr.τ).loc Cert.AWbr.main_arg1) = m ((c.tc : Thread Cert.AWbr.nD Cert.AWbr.τ).loc Cert.AWbr.main_arg1)
      ∧ r.2.mem ((c.tc : Thread Cert.AWbr.nD Cert.AWbr.τ).loc Cert.AWbr.main_arg2) = m ((c.tc : Thread Cert.AWbr.nD Cert.AWbr.τ).loc Cert.AWbr.main_arg2)
      ∧ r.2.mem ((c.tc : Thread Cert.AWbr.nD Cert.AWbr.τ).loc Cert.AWbr.main_arg3) = m ((c.tc : Thread Cert.AWbr.nD Cert.AWbr.τ).loc Cert.AWbr.main_arg3))
      ∧ r.2.sem = fun _ => 0)

def quiescent_AWbrIdeal [hAWbrIdeal : Cert.AWbrIdeal.Facts] : Prop :=
  ∀ (m : (ℓ : Loc Cert.AWbrIdeal.nD Cert.AWbrIdeal.τ Cert.AWbrIdeal.sig) → Buf (Elt Ideal) ℓ) (g : Dev Cert.AWbrIdeal.nD → PrngReg), Pre_AWbrIdeal m →
    θ_run (Cert.AWbrIdeal.defs (F := Ideal)) (onTc (τ := Cert.AWbrIdeal.τ) (Cert.AWbrIdeal.main (F := Ideal))) ⟨m, fun _ => 0, g⟩ (fun r => (∀ c : Dev Cert.AWbrIdeal.nD,
      r.2.mem ((c.tc : Thread Cert.AWbrIdeal.nD Cert.AWbrIdeal.τ).loc Cert.AWbrIdeal.main_arg0) = m ((c.tc : Thread Cert.AWbrIdeal.nD Cert.AWbrIdeal.τ).loc Cert.AWbrIdeal.main_arg0)
      ∧ r.2.mem ((c.tc : Thread Cert.AWbrIdeal.nD Cert.AWbrIdeal.τ).loc Cert.AWbrIdeal.main_arg1) = m ((c.tc : Thread Cert.AWbrIdeal.nD Cert.AWbrIdeal.τ).loc Cert.AWbrIdeal.main_arg1)
      ∧ r.2.mem ((c.tc : Thread Cert.AWbrIdeal.nD Cert.AWbrIdeal.τ).loc Cert.AWbrIdeal.main_arg2) = m ((c.tc : Thread Cert.AWbrIdeal.nD Cert.AWbrIdeal.τ).loc Cert.AWbrIdeal.main_arg2)
      ∧ r.2.mem ((c.tc : Thread Cert.AWbrIdeal.nD Cert.AWbrIdeal.τ).loc Cert.AWbrIdeal.main_arg3) = m ((c.tc : Thread Cert.AWbrIdeal.nD Cert.AWbrIdeal.τ).loc Cert.AWbrIdeal.main_arg3))
      ∧ r.2.sem = fun _ => 0)

def quiescent_AWbrRefIdeal [hAWbrRefIdeal : Cert.AWbrRefIdeal.Facts] : Prop :=
  ∀ (m : (ℓ : Loc Cert.AWbrRefIdeal.nD Cert.AWbrRefIdeal.τ Cert.AWbrRefIdeal.sig) → Buf (Elt Ideal) ℓ) (g : Dev Cert.AWbrRefIdeal.nD → PrngReg), Pre_AWbrRefIdeal m →
    θ_run (Cert.AWbrRefIdeal.defs (F := Ideal)) (onTc (τ := Cert.AWbrRefIdeal.τ) (Cert.AWbrRefIdeal.main (F := Ideal))) ⟨m, fun _ => 0, g⟩ (fun r => (∀ c : Dev Cert.AWbrRefIdeal.nD,
      r.2.mem ((c.tc : Thread Cert.AWbrRefIdeal.nD Cert.AWbrRefIdeal.τ).loc Cert.AWbrRefIdeal.main_arg0) = m ((c.tc : Thread Cert.AWbrRefIdeal.nD Cert.AWbrRefIdeal.τ).loc Cert.AWbrRefIdeal.main_arg0)
      ∧ r.2.mem ((c.tc : Thread Cert.AWbrRefIdeal.nD Cert.AWbrRefIdeal.τ).loc Cert.AWbrRefIdeal.main_arg1) = m ((c.tc : Thread Cert.AWbrRefIdeal.nD Cert.AWbrRefIdeal.τ).loc Cert.AWbrRefIdeal.main_arg1)
      ∧ r.2.mem ((c.tc : Thread Cert.AWbrRefIdeal.nD Cert.AWbrRefIdeal.τ).loc Cert.AWbrRefIdeal.main_arg2) = m ((c.tc : Thread Cert.AWbrRefIdeal.nD Cert.AWbrRefIdeal.τ).loc Cert.AWbrRefIdeal.main_arg2)
      ∧ r.2.mem ((c.tc : Thread Cert.AWbrRefIdeal.nD Cert.AWbrRefIdeal.τ).loc Cert.AWbrRefIdeal.main_arg3) = m ((c.tc : Thread Cert.AWbrRefIdeal.nD Cert.AWbrRefIdeal.τ).loc Cert.AWbrRefIdeal.main_arg3))
      ∧ r.2.sem = fun _ => 0)

def quiescent_AWout [hAWout : Cert.AWout.Facts] : Prop :=
  ∀ (m : (ℓ : Loc Cert.AWout.nD Cert.AWout.τ Cert.AWout.sig) → Buf (Elt Bits) ℓ) (g : Dev Cert.AWout.nD → PrngReg), Pre_AWout m →
    θ_run (Cert.AWout.defs (F := Bits)) (onTc (τ := Cert.AWout.τ) (Cert.AWout.main (F := Bits))) ⟨m, fun _ => 0, g⟩ (fun r => (∀ c : Dev Cert.AWout.nD,
      r.2.mem ((c.tc : Thread Cert.AWout.nD Cert.AWout.τ).loc Cert.AWout.main_arg0) = m ((c.tc : Thread Cert.AWout.nD Cert.AWout.τ).loc Cert.AWout.main_arg0)
      ∧ r.2.mem ((c.tc : Thread Cert.AWout.nD Cert.AWout.τ).loc Cert.AWout.main_arg1) = m ((c.tc : Thread Cert.AWout.nD Cert.AWout.τ).loc Cert.AWout.main_arg1)
      ∧ r.2.mem ((c.tc : Thread Cert.AWout.nD Cert.AWout.τ).loc Cert.AWout.main_arg2) = m ((c.tc : Thread Cert.AWout.nD Cert.AWout.τ).loc Cert.AWout.main_arg2)
      ∧ r.2.mem ((c.tc : Thread Cert.AWout.nD Cert.AWout.τ).loc Cert.AWout.main_arg3) = m ((c.tc : Thread Cert.AWout.nD Cert.AWout.τ).loc Cert.AWout.main_arg3))
      ∧ r.2.sem = fun _ => 0)

def quiescent_AWoutIdeal [hAWoutIdeal : Cert.AWoutIdeal.Facts] : Prop :=
  ∀ (m : (ℓ : Loc Cert.AWoutIdeal.nD Cert.AWoutIdeal.τ Cert.AWoutIdeal.sig) → Buf (Elt Ideal) ℓ) (g : Dev Cert.AWoutIdeal.nD → PrngReg), Pre_AWoutIdeal m →
    θ_run (Cert.AWoutIdeal.defs (F := Ideal)) (onTc (τ := Cert.AWoutIdeal.τ) (Cert.AWoutIdeal.main (F := Ideal))) ⟨m, fun _ => 0, g⟩ (fun r => (∀ c : Dev Cert.AWoutIdeal.nD,
      r.2.mem ((c.tc : Thread Cert.AWoutIdeal.nD Cert.AWoutIdeal.τ).loc Cert.AWoutIdeal.main_arg0) = m ((c.tc : Thread Cert.AWoutIdeal.nD Cert.AWoutIdeal.τ).loc Cert.AWoutIdeal.main_arg0)
      ∧ r.2.mem ((c.tc : Thread Cert.AWoutIdeal.nD Cert.AWoutIdeal.τ).loc Cert.AWoutIdeal.main_arg1) = m ((c.tc : Thread Cert.AWoutIdeal.nD Cert.AWoutIdeal.τ).loc Cert.AWoutIdeal.main_arg1)
      ∧ r.2.mem ((c.tc : Thread Cert.AWoutIdeal.nD Cert.AWoutIdeal.τ).loc Cert.AWoutIdeal.main_arg2) = m ((c.tc : Thread Cert.AWoutIdeal.nD Cert.AWoutIdeal.τ).loc Cert.AWoutIdeal.main_arg2)
      ∧ r.2.mem ((c.tc : Thread Cert.AWoutIdeal.nD Cert.AWoutIdeal.τ).loc Cert.AWoutIdeal.main_arg3) = m ((c.tc : Thread Cert.AWoutIdeal.nD Cert.AWoutIdeal.τ).loc Cert.AWoutIdeal.main_arg3))
      ∧ r.2.sem = fun _ => 0)

def quiescent_AWoutRefIdeal [hAWoutRefIdeal : Cert.AWoutRefIdeal.Facts] : Prop :=
  ∀ (m : (ℓ : Loc Cert.AWoutRefIdeal.nD Cert.AWoutRefIdeal.τ Cert.AWoutRefIdeal.sig) → Buf (Elt Ideal) ℓ) (g : Dev Cert.AWoutRefIdeal.nD → PrngReg), Pre_AWoutRefIdeal m →
    θ_run (Cert.AWoutRefIdeal.defs (F := Ideal)) (onTc (τ := Cert.AWoutRefIdeal.τ) (Cert.AWoutRefIdeal.main (F := Ideal))) ⟨m, fun _ => 0, g⟩ (fun r => (∀ c : Dev Cert.AWoutRefIdeal.nD,
      r.2.mem ((c.tc : Thread Cert.AWoutRefIdeal.nD Cert.AWoutRefIdeal.τ).loc Cert.AWoutRefIdeal.main_arg0) = m ((c.tc : Thread Cert.AWoutRefIdeal.nD Cert.AWoutRefIdeal.τ).loc Cert.AWoutRefIdeal.main_arg0)
      ∧ r.2.mem ((c.tc : Thread Cert.AWoutRefIdeal.nD Cert.AWoutRefIdeal.τ).loc Cert.AWoutRefIdeal.main_arg1) = m ((c.tc : Thread Cert.AWoutRefIdeal.nD Cert.AWoutRefIdeal.τ).loc Cert.AWoutRefIdeal.main_arg1)
      ∧ r.2.mem ((c.tc : Thread Cert.AWoutRefIdeal.nD Cert.AWoutRefIdeal.τ).loc Cert.AWoutRefIdeal.main_arg2) = m ((c.tc : Thread Cert.AWoutRefIdeal.nD Cert.AWoutRefIdeal.τ).loc Cert.AWoutRefIdeal.main_arg2)
      ∧ r.2.mem ((c.tc : Thread Cert.AWoutRefIdeal.nD Cert.AWoutRefIdeal.τ).loc Cert.AWoutRefIdeal.main_arg3) = m ((c.tc : Thread Cert.AWoutRefIdeal.nD Cert.AWoutRefIdeal.τ).loc Cert.AWoutRefIdeal.main_arg3))
      ∧ r.2.sem = fun _ => 0)

def quiescent_AWglu [hAWglu : Cert.AWglu.Facts] : Prop :=
  ∀ (m : (ℓ : Loc Cert.AWglu.nD Cert.AWglu.τ Cert.AWglu.sig) → Buf (Elt Bits) ℓ) (g : Dev Cert.AWglu.nD → PrngReg), Pre_AWglu m →
    θ_run (Cert.AWglu.defs (F := Bits)) (onTc (τ := Cert.AWglu.τ) (Cert.AWglu.main (F := Bits))) ⟨m, fun _ => 0, g⟩ (fun r => (∀ c : Dev Cert.AWglu.nD,
      r.2.mem ((c.tc : Thread Cert.AWglu.nD Cert.AWglu.τ).loc Cert.AWglu.main_arg0) = m ((c.tc : Thread Cert.AWglu.nD Cert.AWglu.τ).loc Cert.AWglu.main_arg0)
      ∧ r.2.mem ((c.tc : Thread Cert.AWglu.nD Cert.AWglu.τ).loc Cert.AWglu.main_arg1) = m ((c.tc : Thread Cert.AWglu.nD Cert.AWglu.τ).loc Cert.AWglu.main_arg1)
      ∧ r.2.mem ((c.tc : Thread Cert.AWglu.nD Cert.AWglu.τ).loc Cert.AWglu.main_arg2) = m ((c.tc : Thread Cert.AWglu.nD Cert.AWglu.τ).loc Cert.AWglu.main_arg2)
      ∧ r.2.mem ((c.tc : Thread Cert.AWglu.nD Cert.AWglu.τ).loc Cert.AWglu.main_arg3) = m ((c.tc : Thread Cert.AWglu.nD Cert.AWglu.τ).loc Cert.AWglu.main_arg3))
      ∧ r.2.sem = fun _ => 0)

def quiescent_AWgluIdeal [hAWgluIdeal : Cert.AWgluIdeal.Facts] : Prop :=
  ∀ (m : (ℓ : Loc Cert.AWgluIdeal.nD Cert.AWgluIdeal.τ Cert.AWgluIdeal.sig) → Buf (Elt Ideal) ℓ) (g : Dev Cert.AWgluIdeal.nD → PrngReg), Pre_AWgluIdeal m →
    θ_run (Cert.AWgluIdeal.defs (F := Ideal)) (onTc (τ := Cert.AWgluIdeal.τ) (Cert.AWgluIdeal.main (F := Ideal))) ⟨m, fun _ => 0, g⟩ (fun r => (∀ c : Dev Cert.AWgluIdeal.nD,
      r.2.mem ((c.tc : Thread Cert.AWgluIdeal.nD Cert.AWgluIdeal.τ).loc Cert.AWgluIdeal.main_arg0) = m ((c.tc : Thread Cert.AWgluIdeal.nD Cert.AWgluIdeal.τ).loc Cert.AWgluIdeal.main_arg0)
      ∧ r.2.mem ((c.tc : Thread Cert.AWgluIdeal.nD Cert.AWgluIdeal.τ).loc Cert.AWgluIdeal.main_arg1) = m ((c.tc : Thread Cert.AWgluIdeal.nD Cert.AWgluIdeal.τ).loc Cert.AWgluIdeal.main_arg1)
      ∧ r.2.mem ((c.tc : Thread Cert.AWgluIdeal.nD Cert.AWgluIdeal.τ).loc Cert.AWgluIdeal.main_arg2) = m ((c.tc : Thread Cert.AWgluIdeal.nD Cert.AWgluIdeal.τ).loc Cert.AWgluIdeal.main_arg2)
      ∧ r.2.mem ((c.tc : Thread Cert.AWgluIdeal.nD Cert.AWgluIdeal.τ).loc Cert.AWgluIdeal.main_arg3) = m ((c.tc : Thread Cert.AWgluIdeal.nD Cert.AWgluIdeal.τ).loc Cert.AWgluIdeal.main_arg3))
      ∧ r.2.sem = fun _ => 0)

def quiescent_AWgluRefIdeal [hAWgluRefIdeal : Cert.AWgluRefIdeal.Facts] : Prop :=
  ∀ (m : (ℓ : Loc Cert.AWgluRefIdeal.nD Cert.AWgluRefIdeal.τ Cert.AWgluRefIdeal.sig) → Buf (Elt Ideal) ℓ) (g : Dev Cert.AWgluRefIdeal.nD → PrngReg), Pre_AWgluRefIdeal m →
    θ_run (Cert.AWgluRefIdeal.defs (F := Ideal)) (onTc (τ := Cert.AWgluRefIdeal.τ) (Cert.AWgluRefIdeal.main (F := Ideal))) ⟨m, fun _ => 0, g⟩ (fun r => (∀ c : Dev Cert.AWgluRefIdeal.nD,
      r.2.mem ((c.tc : Thread Cert.AWgluRefIdeal.nD Cert.AWgluRefIdeal.τ).loc Cert.AWgluRefIdeal.main_arg0) = m ((c.tc : Thread Cert.AWgluRefIdeal.nD Cert.AWgluRefIdeal.τ).loc Cert.AWgluRefIdeal.main_arg0)
      ∧ r.2.mem ((c.tc : Thread Cert.AWgluRefIdeal.nD Cert.AWgluRefIdeal.τ).loc Cert.AWgluRefIdeal.main_arg1) = m ((c.tc : Thread Cert.AWgluRefIdeal.nD Cert.AWgluRefIdeal.τ).loc Cert.AWgluRefIdeal.main_arg1)
      ∧ r.2.mem ((c.tc : Thread Cert.AWgluRefIdeal.nD Cert.AWgluRefIdeal.τ).loc Cert.AWgluRefIdeal.main_arg2) = m ((c.tc : Thread Cert.AWgluRefIdeal.nD Cert.AWgluRefIdeal.τ).loc Cert.AWgluRefIdeal.main_arg2)
      ∧ r.2.mem ((c.tc : Thread Cert.AWgluRefIdeal.nD Cert.AWgluRefIdeal.τ).loc Cert.AWgluRefIdeal.main_arg3) = m ((c.tc : Thread Cert.AWgluRefIdeal.nD Cert.AWgluRefIdeal.τ).loc Cert.AWgluRefIdeal.main_arg3))
      ∧ r.2.sem = fun _ => 0)

def quiescent_AWs5b [hAWs5b : Cert.AWs5b.Facts] : Prop :=
  ∀ (m : (ℓ : Loc Cert.AWs5b.nD Cert.AWs5b.τ Cert.AWs5b.sig) → Buf (Elt Bits) ℓ) (g : Dev Cert.AWs5b.nD → PrngReg), Pre_AWs5b m →
    θ_run (Cert.AWs5b.defs (F := Bits)) (onTc (τ := Cert.AWs5b.τ) (Cert.AWs5b.main (F := Bits))) ⟨m, fun _ => 0, g⟩ (fun r => (∀ c : Dev Cert.AWs5b.nD,
      r.2.mem ((c.tc : Thread Cert.AWs5b.nD Cert.AWs5b.τ).loc Cert.AWs5b.main_arg0) = m ((c.tc : Thread Cert.AWs5b.nD Cert.AWs5b.τ).loc Cert.AWs5b.main_arg0)
      ∧ r.2.mem ((c.tc : Thread Cert.AWs5b.nD Cert.AWs5b.τ).loc Cert.AWs5b.main_arg1) = m ((c.tc : Thread Cert.AWs5b.nD Cert.AWs5b.τ).loc Cert.AWs5b.main_arg1)
      ∧ r.2.mem ((c.tc : Thread Cert.AWs5b.nD Cert.AWs5b.τ).loc Cert.AWs5b.main_arg2) = m ((c.tc : Thread Cert.AWs5b.nD Cert.AWs5b.τ).loc Cert.AWs5b.main_arg2)
      ∧ r.2.mem ((c.tc : Thread Cert.AWs5b.nD Cert.AWs5b.τ).loc Cert.AWs5b.main_arg3) = m ((c.tc : Thread Cert.AWs5b.nD Cert.AWs5b.τ).loc Cert.AWs5b.main_arg3))
      ∧ r.2.sem = fun _ => 0)

def quiescent_AWs5bIdeal [hAWs5bIdeal : Cert.AWs5bIdeal.Facts] : Prop :=
  ∀ (m : (ℓ : Loc Cert.AWs5bIdeal.nD Cert.AWs5bIdeal.τ Cert.AWs5bIdeal.sig) → Buf (Elt Ideal) ℓ) (g : Dev Cert.AWs5bIdeal.nD → PrngReg), Pre_AWs5bIdeal m →
    θ_run (Cert.AWs5bIdeal.defs (F := Ideal)) (onTc (τ := Cert.AWs5bIdeal.τ) (Cert.AWs5bIdeal.main (F := Ideal))) ⟨m, fun _ => 0, g⟩ (fun r => (∀ c : Dev Cert.AWs5bIdeal.nD,
      r.2.mem ((c.tc : Thread Cert.AWs5bIdeal.nD Cert.AWs5bIdeal.τ).loc Cert.AWs5bIdeal.main_arg0) = m ((c.tc : Thread Cert.AWs5bIdeal.nD Cert.AWs5bIdeal.τ).loc Cert.AWs5bIdeal.main_arg0)
      ∧ r.2.mem ((c.tc : Thread Cert.AWs5bIdeal.nD Cert.AWs5bIdeal.τ).loc Cert.AWs5bIdeal.main_arg1) = m ((c.tc : Thread Cert.AWs5bIdeal.nD Cert.AWs5bIdeal.τ).loc Cert.AWs5bIdeal.main_arg1)
      ∧ r.2.mem ((c.tc : Thread Cert.AWs5bIdeal.nD Cert.AWs5bIdeal.τ).loc Cert.AWs5bIdeal.main_arg2) = m ((c.tc : Thread Cert.AWs5bIdeal.nD Cert.AWs5bIdeal.τ).loc Cert.AWs5bIdeal.main_arg2)
      ∧ r.2.mem ((c.tc : Thread Cert.AWs5bIdeal.nD Cert.AWs5bIdeal.τ).loc Cert.AWs5bIdeal.main_arg3) = m ((c.tc : Thread Cert.AWs5bIdeal.nD Cert.AWs5bIdeal.τ).loc Cert.AWs5bIdeal.main_arg3))
      ∧ r.2.sem = fun _ => 0)

def quiescent_AWs5bRefIdeal [hAWs5bRefIdeal : Cert.AWs5bRefIdeal.Facts] : Prop :=
  ∀ (m : (ℓ : Loc Cert.AWs5bRefIdeal.nD Cert.AWs5bRefIdeal.τ Cert.AWs5bRefIdeal.sig) → Buf (Elt Ideal) ℓ) (g : Dev Cert.AWs5bRefIdeal.nD → PrngReg), Pre_AWs5bRefIdeal m →
    θ_run (Cert.AWs5bRefIdeal.defs (F := Ideal)) (onTc (τ := Cert.AWs5bRefIdeal.τ) (Cert.AWs5bRefIdeal.main (F := Ideal))) ⟨m, fun _ => 0, g⟩ (fun r => (∀ c : Dev Cert.AWs5bRefIdeal.nD,
      r.2.mem ((c.tc : Thread Cert.AWs5bRefIdeal.nD Cert.AWs5bRefIdeal.τ).loc Cert.AWs5bRefIdeal.main_arg0) = m ((c.tc : Thread Cert.AWs5bRefIdeal.nD Cert.AWs5bRefIdeal.τ).loc Cert.AWs5bRefIdeal.main_arg0)
      ∧ r.2.mem ((c.tc : Thread Cert.AWs5bRefIdeal.nD Cert.AWs5bRefIdeal.τ).loc Cert.AWs5bRefIdeal.main_arg1) = m ((c.tc : Thread Cert.AWs5bRefIdeal.nD Cert.AWs5bRefIdeal.τ).loc Cert.AWs5bRefIdeal.main_arg1)
      ∧ r.2.mem ((c.tc : Thread Cert.AWs5bRefIdeal.nD Cert.AWs5bRefIdeal.τ).loc Cert.AWs5bRefIdeal.main_arg2) = m ((c.tc : Thread Cert.AWs5bRefIdeal.nD Cert.AWs5bRefIdeal.τ).loc Cert.AWs5bRefIdeal.main_arg2)
      ∧ r.2.mem ((c.tc : Thread Cert.AWs5bRefIdeal.nD Cert.AWs5bRefIdeal.τ).loc Cert.AWs5bRefIdeal.main_arg3) = m ((c.tc : Thread Cert.AWs5bRefIdeal.nD Cert.AWs5bRefIdeal.τ).loc Cert.AWs5bRefIdeal.main_arg3))
      ∧ r.2.sem = fun _ => 0)

def quiescent_ARestA [hARestA : Cert.ARestA.Facts] : Prop :=
  ∀ (m : (ℓ : Loc Cert.ARestA.nD Cert.ARestA.τ Cert.ARestA.sig) → Buf (Elt Bits) ℓ) (g : Dev Cert.ARestA.nD → PrngReg), Pre_ARestA m →
    θ_run (Cert.ARestA.defs (F := Bits)) (onTc (τ := Cert.ARestA.τ) (Cert.ARestA.main (F := Bits))) ⟨m, fun _ => 0, g⟩ (fun r => (∀ c : Dev Cert.ARestA.nD,
      r.2.mem ((c.tc : Thread Cert.ARestA.nD Cert.ARestA.τ).loc Cert.ARestA.main_arg0) = m ((c.tc : Thread Cert.ARestA.nD Cert.ARestA.τ).loc Cert.ARestA.main_arg0)
      ∧ r.2.mem ((c.tc : Thread Cert.ARestA.nD Cert.ARestA.τ).loc Cert.ARestA.main_arg1) = m ((c.tc : Thread Cert.ARestA.nD Cert.ARestA.τ).loc Cert.ARestA.main_arg1)
      ∧ r.2.mem ((c.tc : Thread Cert.ARestA.nD Cert.ARestA.τ).loc Cert.ARestA.main_arg2) = m ((c.tc : Thread Cert.ARestA.nD Cert.ARestA.τ).loc Cert.ARestA.main_arg2)
      ∧ r.2.mem ((c.tc : Thread Cert.ARestA.nD Cert.ARestA.τ).loc Cert.ARestA.main_arg3) = m ((c.tc : Thread Cert.ARestA.nD Cert.ARestA.τ).loc Cert.ARestA.main_arg3)
      ∧ r.2.mem ((c.tc : Thread Cert.ARestA.nD Cert.ARestA.τ).loc Cert.ARestA.main_arg4) = m ((c.tc : Thread Cert.ARestA.nD Cert.ARestA.τ).loc Cert.ARestA.main_arg4)
      ∧ r.2.mem ((c.tc : Thread Cert.ARestA.nD Cert.ARestA.τ).loc Cert.ARestA.main_arg5) = m ((c.tc : Thread Cert.ARestA.nD Cert.ARestA.τ).loc Cert.ARestA.main_arg5)
      ∧ r.2.mem ((c.tc : Thread Cert.ARestA.nD Cert.ARestA.τ).loc Cert.ARestA.main_arg6) = m ((c.tc : Thread Cert.ARestA.nD Cert.ARestA.τ).loc Cert.ARestA.main_arg6)
      ∧ r.2.mem ((c.tc : Thread Cert.ARestA.nD Cert.ARestA.τ).loc Cert.ARestA.main_arg7) = m ((c.tc : Thread Cert.ARestA.nD Cert.ARestA.τ).loc Cert.ARestA.main_arg7)
      ∧ r.2.mem ((c.tc : Thread Cert.ARestA.nD Cert.ARestA.τ).loc Cert.ARestA.main_arg8) = m ((c.tc : Thread Cert.ARestA.nD Cert.ARestA.τ).loc Cert.ARestA.main_arg8)
      ∧ r.2.mem ((c.tc : Thread Cert.ARestA.nD Cert.ARestA.τ).loc Cert.ARestA.main_arg9) = m ((c.tc : Thread Cert.ARestA.nD Cert.ARestA.τ).loc Cert.ARestA.main_arg9)
      ∧ r.2.mem ((c.tc : Thread Cert.ARestA.nD Cert.ARestA.τ).loc Cert.ARestA.main_arg10) = m ((c.tc : Thread Cert.ARestA.nD Cert.ARestA.τ).loc Cert.ARestA.main_arg10)
      ∧ r.2.mem ((c.tc : Thread Cert.ARestA.nD Cert.ARestA.τ).loc Cert.ARestA.main_arg11) = m ((c.tc : Thread Cert.ARestA.nD Cert.ARestA.τ).loc Cert.ARestA.main_arg11)
      ∧ r.2.mem ((c.tc : Thread Cert.ARestA.nD Cert.ARestA.τ).loc Cert.ARestA.main_arg12) = m ((c.tc : Thread Cert.ARestA.nD Cert.ARestA.τ).loc Cert.ARestA.main_arg12)
      ∧ r.2.mem ((c.tc : Thread Cert.ARestA.nD Cert.ARestA.τ).loc Cert.ARestA.main_arg13) = m ((c.tc : Thread Cert.ARestA.nD Cert.ARestA.τ).loc Cert.ARestA.main_arg13)
      ∧ r.2.mem ((c.tc : Thread Cert.ARestA.nD Cert.ARestA.τ).loc Cert.ARestA.main_arg14) = m ((c.tc : Thread Cert.ARestA.nD Cert.ARestA.τ).loc Cert.ARestA.main_arg14)
      ∧ r.2.mem ((c.tc : Thread Cert.ARestA.nD Cert.ARestA.τ).loc Cert.ARestA.main_arg15) = m ((c.tc : Thread Cert.ARestA.nD Cert.ARestA.τ).loc Cert.ARestA.main_arg15))
      ∧ r.2.sem = fun _ => 0)

def quiescent_ARestAIdeal [hARestAIdeal : Cert.ARestAIdeal.Facts] : Prop :=
  ∀ (m : (ℓ : Loc Cert.ARestAIdeal.nD Cert.ARestAIdeal.τ Cert.ARestAIdeal.sig) → Buf (Elt Ideal) ℓ) (g : Dev Cert.ARestAIdeal.nD → PrngReg), Pre_ARestAIdeal m →
    θ_run (Cert.ARestAIdeal.defs (F := Ideal)) (onTc (τ := Cert.ARestAIdeal.τ) (Cert.ARestAIdeal.main (F := Ideal))) ⟨m, fun _ => 0, g⟩ (fun r => (∀ c : Dev Cert.ARestAIdeal.nD,
      r.2.mem ((c.tc : Thread Cert.ARestAIdeal.nD Cert.ARestAIdeal.τ).loc Cert.ARestAIdeal.main_arg0) = m ((c.tc : Thread Cert.ARestAIdeal.nD Cert.ARestAIdeal.τ).loc Cert.ARestAIdeal.main_arg0)
      ∧ r.2.mem ((c.tc : Thread Cert.ARestAIdeal.nD Cert.ARestAIdeal.τ).loc Cert.ARestAIdeal.main_arg1) = m ((c.tc : Thread Cert.ARestAIdeal.nD Cert.ARestAIdeal.τ).loc Cert.ARestAIdeal.main_arg1)
      ∧ r.2.mem ((c.tc : Thread Cert.ARestAIdeal.nD Cert.ARestAIdeal.τ).loc Cert.ARestAIdeal.main_arg2) = m ((c.tc : Thread Cert.ARestAIdeal.nD Cert.ARestAIdeal.τ).loc Cert.ARestAIdeal.main_arg2)
      ∧ r.2.mem ((c.tc : Thread Cert.ARestAIdeal.nD Cert.ARestAIdeal.τ).loc Cert.ARestAIdeal.main_arg3) = m ((c.tc : Thread Cert.ARestAIdeal.nD Cert.ARestAIdeal.τ).loc Cert.ARestAIdeal.main_arg3)
      ∧ r.2.mem ((c.tc : Thread Cert.ARestAIdeal.nD Cert.ARestAIdeal.τ).loc Cert.ARestAIdeal.main_arg4) = m ((c.tc : Thread Cert.ARestAIdeal.nD Cert.ARestAIdeal.τ).loc Cert.ARestAIdeal.main_arg4)
      ∧ r.2.mem ((c.tc : Thread Cert.ARestAIdeal.nD Cert.ARestAIdeal.τ).loc Cert.ARestAIdeal.main_arg5) = m ((c.tc : Thread Cert.ARestAIdeal.nD Cert.ARestAIdeal.τ).loc Cert.ARestAIdeal.main_arg5)
      ∧ r.2.mem ((c.tc : Thread Cert.ARestAIdeal.nD Cert.ARestAIdeal.τ).loc Cert.ARestAIdeal.main_arg6) = m ((c.tc : Thread Cert.ARestAIdeal.nD Cert.ARestAIdeal.τ).loc Cert.ARestAIdeal.main_arg6)
      ∧ r.2.mem ((c.tc : Thread Cert.ARestAIdeal.nD Cert.ARestAIdeal.τ).loc Cert.ARestAIdeal.main_arg7) = m ((c.tc : Thread Cert.ARestAIdeal.nD Cert.ARestAIdeal.τ).loc Cert.ARestAIdeal.main_arg7)
      ∧ r.2.mem ((c.tc : Thread Cert.ARestAIdeal.nD Cert.ARestAIdeal.τ).loc Cert.ARestAIdeal.main_arg8) = m ((c.tc : Thread Cert.ARestAIdeal.nD Cert.ARestAIdeal.τ).loc Cert.ARestAIdeal.main_arg8)
      ∧ r.2.mem ((c.tc : Thread Cert.ARestAIdeal.nD Cert.ARestAIdeal.τ).loc Cert.ARestAIdeal.main_arg9) = m ((c.tc : Thread Cert.ARestAIdeal.nD Cert.ARestAIdeal.τ).loc Cert.ARestAIdeal.main_arg9)
      ∧ r.2.mem ((c.tc : Thread Cert.ARestAIdeal.nD Cert.ARestAIdeal.τ).loc Cert.ARestAIdeal.main_arg10) = m ((c.tc : Thread Cert.ARestAIdeal.nD Cert.ARestAIdeal.τ).loc Cert.ARestAIdeal.main_arg10)
      ∧ r.2.mem ((c.tc : Thread Cert.ARestAIdeal.nD Cert.ARestAIdeal.τ).loc Cert.ARestAIdeal.main_arg11) = m ((c.tc : Thread Cert.ARestAIdeal.nD Cert.ARestAIdeal.τ).loc Cert.ARestAIdeal.main_arg11)
      ∧ r.2.mem ((c.tc : Thread Cert.ARestAIdeal.nD Cert.ARestAIdeal.τ).loc Cert.ARestAIdeal.main_arg12) = m ((c.tc : Thread Cert.ARestAIdeal.nD Cert.ARestAIdeal.τ).loc Cert.ARestAIdeal.main_arg12)
      ∧ r.2.mem ((c.tc : Thread Cert.ARestAIdeal.nD Cert.ARestAIdeal.τ).loc Cert.ARestAIdeal.main_arg13) = m ((c.tc : Thread Cert.ARestAIdeal.nD Cert.ARestAIdeal.τ).loc Cert.ARestAIdeal.main_arg13)
      ∧ r.2.mem ((c.tc : Thread Cert.ARestAIdeal.nD Cert.ARestAIdeal.τ).loc Cert.ARestAIdeal.main_arg14) = m ((c.tc : Thread Cert.ARestAIdeal.nD Cert.ARestAIdeal.τ).loc Cert.ARestAIdeal.main_arg14)
      ∧ r.2.mem ((c.tc : Thread Cert.ARestAIdeal.nD Cert.ARestAIdeal.τ).loc Cert.ARestAIdeal.main_arg15) = m ((c.tc : Thread Cert.ARestAIdeal.nD Cert.ARestAIdeal.τ).loc Cert.ARestAIdeal.main_arg15))
      ∧ r.2.sem = fun _ => 0)

def quiescent_ARestARefIdeal [hARestARefIdeal : Cert.ARestARefIdeal.Facts] : Prop :=
  ∀ (m : (ℓ : Loc Cert.ARestARefIdeal.nD Cert.ARestARefIdeal.τ Cert.ARestARefIdeal.sig) → Buf (Elt Ideal) ℓ) (g : Dev Cert.ARestARefIdeal.nD → PrngReg), Pre_ARestARefIdeal m →
    θ_run (Cert.ARestARefIdeal.defs (F := Ideal)) (onTc (τ := Cert.ARestARefIdeal.τ) (Cert.ARestARefIdeal.main (F := Ideal))) ⟨m, fun _ => 0, g⟩ (fun r => (∀ c : Dev Cert.ARestARefIdeal.nD,
      r.2.mem ((c.tc : Thread Cert.ARestARefIdeal.nD Cert.ARestARefIdeal.τ).loc Cert.ARestARefIdeal.main_arg0) = m ((c.tc : Thread Cert.ARestARefIdeal.nD Cert.ARestARefIdeal.τ).loc Cert.ARestARefIdeal.main_arg0)
      ∧ r.2.mem ((c.tc : Thread Cert.ARestARefIdeal.nD Cert.ARestARefIdeal.τ).loc Cert.ARestARefIdeal.main_arg1) = m ((c.tc : Thread Cert.ARestARefIdeal.nD Cert.ARestARefIdeal.τ).loc Cert.ARestARefIdeal.main_arg1)
      ∧ r.2.mem ((c.tc : Thread Cert.ARestARefIdeal.nD Cert.ARestARefIdeal.τ).loc Cert.ARestARefIdeal.main_arg2) = m ((c.tc : Thread Cert.ARestARefIdeal.nD Cert.ARestARefIdeal.τ).loc Cert.ARestARefIdeal.main_arg2)
      ∧ r.2.mem ((c.tc : Thread Cert.ARestARefIdeal.nD Cert.ARestARefIdeal.τ).loc Cert.ARestARefIdeal.main_arg3) = m ((c.tc : Thread Cert.ARestARefIdeal.nD Cert.ARestARefIdeal.τ).loc Cert.ARestARefIdeal.main_arg3)
      ∧ r.2.mem ((c.tc : Thread Cert.ARestARefIdeal.nD Cert.ARestARefIdeal.τ).loc Cert.ARestARefIdeal.main_arg4) = m ((c.tc : Thread Cert.ARestARefIdeal.nD Cert.ARestARefIdeal.τ).loc Cert.ARestARefIdeal.main_arg4)
      ∧ r.2.mem ((c.tc : Thread Cert.ARestARefIdeal.nD Cert.ARestARefIdeal.τ).loc Cert.ARestARefIdeal.main_arg5) = m ((c.tc : Thread Cert.ARestARefIdeal.nD Cert.ARestARefIdeal.τ).loc Cert.ARestARefIdeal.main_arg5)
      ∧ r.2.mem ((c.tc : Thread Cert.ARestARefIdeal.nD Cert.ARestARefIdeal.τ).loc Cert.ARestARefIdeal.main_arg6) = m ((c.tc : Thread Cert.ARestARefIdeal.nD Cert.ARestARefIdeal.τ).loc Cert.ARestARefIdeal.main_arg6)
      ∧ r.2.mem ((c.tc : Thread Cert.ARestARefIdeal.nD Cert.ARestARefIdeal.τ).loc Cert.ARestARefIdeal.main_arg7) = m ((c.tc : Thread Cert.ARestARefIdeal.nD Cert.ARestARefIdeal.τ).loc Cert.ARestARefIdeal.main_arg7)
      ∧ r.2.mem ((c.tc : Thread Cert.ARestARefIdeal.nD Cert.ARestARefIdeal.τ).loc Cert.ARestARefIdeal.main_arg8) = m ((c.tc : Thread Cert.ARestARefIdeal.nD Cert.ARestARefIdeal.τ).loc Cert.ARestARefIdeal.main_arg8)
      ∧ r.2.mem ((c.tc : Thread Cert.ARestARefIdeal.nD Cert.ARestARefIdeal.τ).loc Cert.ARestARefIdeal.main_arg9) = m ((c.tc : Thread Cert.ARestARefIdeal.nD Cert.ARestARefIdeal.τ).loc Cert.ARestARefIdeal.main_arg9)
      ∧ r.2.mem ((c.tc : Thread Cert.ARestARefIdeal.nD Cert.ARestARefIdeal.τ).loc Cert.ARestARefIdeal.main_arg10) = m ((c.tc : Thread Cert.ARestARefIdeal.nD Cert.ARestARefIdeal.τ).loc Cert.ARestARefIdeal.main_arg10)
      ∧ r.2.mem ((c.tc : Thread Cert.ARestARefIdeal.nD Cert.ARestARefIdeal.τ).loc Cert.ARestARefIdeal.main_arg11) = m ((c.tc : Thread Cert.ARestARefIdeal.nD Cert.ARestARefIdeal.τ).loc Cert.ARestARefIdeal.main_arg11)
      ∧ r.2.mem ((c.tc : Thread Cert.ARestARefIdeal.nD Cert.ARestARefIdeal.τ).loc Cert.ARestARefIdeal.main_arg12) = m ((c.tc : Thread Cert.ARestARefIdeal.nD Cert.ARestARefIdeal.τ).loc Cert.ARestARefIdeal.main_arg12)
      ∧ r.2.mem ((c.tc : Thread Cert.ARestARefIdeal.nD Cert.ARestARefIdeal.τ).loc Cert.ARestARefIdeal.main_arg13) = m ((c.tc : Thread Cert.ARestARefIdeal.nD Cert.ARestARefIdeal.τ).loc Cert.ARestARefIdeal.main_arg13)
      ∧ r.2.mem ((c.tc : Thread Cert.ARestARefIdeal.nD Cert.ARestARefIdeal.τ).loc Cert.ARestARefIdeal.main_arg14) = m ((c.tc : Thread Cert.ARestARefIdeal.nD Cert.ARestARefIdeal.τ).loc Cert.ARestARefIdeal.main_arg14)
      ∧ r.2.mem ((c.tc : Thread Cert.ARestARefIdeal.nD Cert.ARestARefIdeal.τ).loc Cert.ARestARefIdeal.main_arg15) = m ((c.tc : Thread Cert.ARestARefIdeal.nD Cert.ARestARefIdeal.τ).loc Cert.ARestARefIdeal.main_arg15))
      ∧ r.2.sem = fun _ => 0)

def quiescent_ARestB [hARestB : Cert.ARestB.Facts] : Prop :=
  ∀ (m : (ℓ : Loc Cert.ARestB.nD Cert.ARestB.τ Cert.ARestB.sig) → Buf (Elt Bits) ℓ) (g : Dev Cert.ARestB.nD → PrngReg), Pre_ARestB m →
    θ_run (Cert.ARestB.defs (F := Bits)) (onTc (τ := Cert.ARestB.τ) (Cert.ARestB.main (F := Bits))) ⟨m, fun _ => 0, g⟩ (fun r => (∀ c : Dev Cert.ARestB.nD,
      r.2.mem ((c.tc : Thread Cert.ARestB.nD Cert.ARestB.τ).loc Cert.ARestB.main_arg0) = m ((c.tc : Thread Cert.ARestB.nD Cert.ARestB.τ).loc Cert.ARestB.main_arg0)
      ∧ r.2.mem ((c.tc : Thread Cert.ARestB.nD Cert.ARestB.τ).loc Cert.ARestB.main_arg1) = m ((c.tc : Thread Cert.ARestB.nD Cert.ARestB.τ).loc Cert.ARestB.main_arg1)
      ∧ r.2.mem ((c.tc : Thread Cert.ARestB.nD Cert.ARestB.τ).loc Cert.ARestB.main_arg2) = m ((c.tc : Thread Cert.ARestB.nD Cert.ARestB.τ).loc Cert.ARestB.main_arg2)
      ∧ r.2.mem ((c.tc : Thread Cert.ARestB.nD Cert.ARestB.τ).loc Cert.ARestB.main_arg3) = m ((c.tc : Thread Cert.ARestB.nD Cert.ARestB.τ).loc Cert.ARestB.main_arg3)
      ∧ r.2.mem ((c.tc : Thread Cert.ARestB.nD Cert.ARestB.τ).loc Cert.ARestB.main_arg4) = m ((c.tc : Thread Cert.ARestB.nD Cert.ARestB.τ).loc Cert.ARestB.main_arg4)
      ∧ r.2.mem ((c.tc : Thread Cert.ARestB.nD Cert.ARestB.τ).loc Cert.ARestB.main_arg5) = m ((c.tc : Thread Cert.ARestB.nD Cert.ARestB.τ).loc Cert.ARestB.main_arg5)
      ∧ r.2.mem ((c.tc : Thread Cert.ARestB.nD Cert.ARestB.τ).loc Cert.ARestB.main_arg6) = m ((c.tc : Thread Cert.ARestB.nD Cert.ARestB.τ).loc Cert.ARestB.main_arg6)
      ∧ r.2.mem ((c.tc : Thread Cert.ARestB.nD Cert.ARestB.τ).loc Cert.ARestB.main_arg7) = m ((c.tc : Thread Cert.ARestB.nD Cert.ARestB.τ).loc Cert.ARestB.main_arg7)
      ∧ r.2.mem ((c.tc : Thread Cert.ARestB.nD Cert.ARestB.τ).loc Cert.ARestB.main_arg8) = m ((c.tc : Thread Cert.ARestB.nD Cert.ARestB.τ).loc Cert.ARestB.main_arg8)
      ∧ r.2.mem ((c.tc : Thread Cert.ARestB.nD Cert.ARestB.τ).loc Cert.ARestB.main_arg9) = m ((c.tc : Thread Cert.ARestB.nD Cert.ARestB.τ).loc Cert.ARestB.main_arg9)
      ∧ r.2.mem ((c.tc : Thread Cert.ARestB.nD Cert.ARestB.τ).loc Cert.ARestB.main_arg10) = m ((c.tc : Thread Cert.ARestB.nD Cert.ARestB.τ).loc Cert.ARestB.main_arg10)
      ∧ r.2.mem ((c.tc : Thread Cert.ARestB.nD Cert.ARestB.τ).loc Cert.ARestB.main_arg11) = m ((c.tc : Thread Cert.ARestB.nD Cert.ARestB.τ).loc Cert.ARestB.main_arg11)
      ∧ r.2.mem ((c.tc : Thread Cert.ARestB.nD Cert.ARestB.τ).loc Cert.ARestB.main_arg12) = m ((c.tc : Thread Cert.ARestB.nD Cert.ARestB.τ).loc Cert.ARestB.main_arg12)
      ∧ r.2.mem ((c.tc : Thread Cert.ARestB.nD Cert.ARestB.τ).loc Cert.ARestB.main_arg13) = m ((c.tc : Thread Cert.ARestB.nD Cert.ARestB.τ).loc Cert.ARestB.main_arg13)
      ∧ r.2.mem ((c.tc : Thread Cert.ARestB.nD Cert.ARestB.τ).loc Cert.ARestB.main_arg14) = m ((c.tc : Thread Cert.ARestB.nD Cert.ARestB.τ).loc Cert.ARestB.main_arg14)
      ∧ r.2.mem ((c.tc : Thread Cert.ARestB.nD Cert.ARestB.τ).loc Cert.ARestB.main_arg15) = m ((c.tc : Thread Cert.ARestB.nD Cert.ARestB.τ).loc Cert.ARestB.main_arg15))
      ∧ r.2.sem = fun _ => 0)

def quiescent_ARestBIdeal [hARestBIdeal : Cert.ARestBIdeal.Facts] : Prop :=
  ∀ (m : (ℓ : Loc Cert.ARestBIdeal.nD Cert.ARestBIdeal.τ Cert.ARestBIdeal.sig) → Buf (Elt Ideal) ℓ) (g : Dev Cert.ARestBIdeal.nD → PrngReg), Pre_ARestBIdeal m →
    θ_run (Cert.ARestBIdeal.defs (F := Ideal)) (onTc (τ := Cert.ARestBIdeal.τ) (Cert.ARestBIdeal.main (F := Ideal))) ⟨m, fun _ => 0, g⟩ (fun r => (∀ c : Dev Cert.ARestBIdeal.nD,
      r.2.mem ((c.tc : Thread Cert.ARestBIdeal.nD Cert.ARestBIdeal.τ).loc Cert.ARestBIdeal.main_arg0) = m ((c.tc : Thread Cert.ARestBIdeal.nD Cert.ARestBIdeal.τ).loc Cert.ARestBIdeal.main_arg0)
      ∧ r.2.mem ((c.tc : Thread Cert.ARestBIdeal.nD Cert.ARestBIdeal.τ).loc Cert.ARestBIdeal.main_arg1) = m ((c.tc : Thread Cert.ARestBIdeal.nD Cert.ARestBIdeal.τ).loc Cert.ARestBIdeal.main_arg1)
      ∧ r.2.mem ((c.tc : Thread Cert.ARestBIdeal.nD Cert.ARestBIdeal.τ).loc Cert.ARestBIdeal.main_arg2) = m ((c.tc : Thread Cert.ARestBIdeal.nD Cert.ARestBIdeal.τ).loc Cert.ARestBIdeal.main_arg2)
      ∧ r.2.mem ((c.tc : Thread Cert.ARestBIdeal.nD Cert.ARestBIdeal.τ).loc Cert.ARestBIdeal.main_arg3) = m ((c.tc : Thread Cert.ARestBIdeal.nD Cert.ARestBIdeal.τ).loc Cert.ARestBIdeal.main_arg3)
      ∧ r.2.mem ((c.tc : Thread Cert.ARestBIdeal.nD Cert.ARestBIdeal.τ).loc Cert.ARestBIdeal.main_arg4) = m ((c.tc : Thread Cert.ARestBIdeal.nD Cert.ARestBIdeal.τ).loc Cert.ARestBIdeal.main_arg4)
      ∧ r.2.mem ((c.tc : Thread Cert.ARestBIdeal.nD Cert.ARestBIdeal.τ).loc Cert.ARestBIdeal.main_arg5) = m ((c.tc : Thread Cert.ARestBIdeal.nD Cert.ARestBIdeal.τ).loc Cert.ARestBIdeal.main_arg5)
      ∧ r.2.mem ((c.tc : Thread Cert.ARestBIdeal.nD Cert.ARestBIdeal.τ).loc Cert.ARestBIdeal.main_arg6) = m ((c.tc : Thread Cert.ARestBIdeal.nD Cert.ARestBIdeal.τ).loc Cert.ARestBIdeal.main_arg6)
      ∧ r.2.mem ((c.tc : Thread Cert.ARestBIdeal.nD Cert.ARestBIdeal.τ).loc Cert.ARestBIdeal.main_arg7) = m ((c.tc : Thread Cert.ARestBIdeal.nD Cert.ARestBIdeal.τ).loc Cert.ARestBIdeal.main_arg7)
      ∧ r.2.mem ((c.tc : Thread Cert.ARestBIdeal.nD Cert.ARestBIdeal.τ).loc Cert.ARestBIdeal.main_arg8) = m ((c.tc : Thread Cert.ARestBIdeal.nD Cert.ARestBIdeal.τ).loc Cert.ARestBIdeal.main_arg8)
      ∧ r.2.mem ((c.tc : Thread Cert.ARestBIdeal.nD Cert.ARestBIdeal.τ).loc Cert.ARestBIdeal.main_arg9) = m ((c.tc : Thread Cert.ARestBIdeal.nD Cert.ARestBIdeal.τ).loc Cert.ARestBIdeal.main_arg9)
      ∧ r.2.mem ((c.tc : Thread Cert.ARestBIdeal.nD Cert.ARestBIdeal.τ).loc Cert.ARestBIdeal.main_arg10) = m ((c.tc : Thread Cert.ARestBIdeal.nD Cert.ARestBIdeal.τ).loc Cert.ARestBIdeal.main_arg10)
      ∧ r.2.mem ((c.tc : Thread Cert.ARestBIdeal.nD Cert.ARestBIdeal.τ).loc Cert.ARestBIdeal.main_arg11) = m ((c.tc : Thread Cert.ARestBIdeal.nD Cert.ARestBIdeal.τ).loc Cert.ARestBIdeal.main_arg11)
      ∧ r.2.mem ((c.tc : Thread Cert.ARestBIdeal.nD Cert.ARestBIdeal.τ).loc Cert.ARestBIdeal.main_arg12) = m ((c.tc : Thread Cert.ARestBIdeal.nD Cert.ARestBIdeal.τ).loc Cert.ARestBIdeal.main_arg12)
      ∧ r.2.mem ((c.tc : Thread Cert.ARestBIdeal.nD Cert.ARestBIdeal.τ).loc Cert.ARestBIdeal.main_arg13) = m ((c.tc : Thread Cert.ARestBIdeal.nD Cert.ARestBIdeal.τ).loc Cert.ARestBIdeal.main_arg13)
      ∧ r.2.mem ((c.tc : Thread Cert.ARestBIdeal.nD Cert.ARestBIdeal.τ).loc Cert.ARestBIdeal.main_arg14) = m ((c.tc : Thread Cert.ARestBIdeal.nD Cert.ARestBIdeal.τ).loc Cert.ARestBIdeal.main_arg14)
      ∧ r.2.mem ((c.tc : Thread Cert.ARestBIdeal.nD Cert.ARestBIdeal.τ).loc Cert.ARestBIdeal.main_arg15) = m ((c.tc : Thread Cert.ARestBIdeal.nD Cert.ARestBIdeal.τ).loc Cert.ARestBIdeal.main_arg15))
      ∧ r.2.sem = fun _ => 0)

def quiescent_ARestBRefIdeal [hARestBRefIdeal : Cert.ARestBRefIdeal.Facts] : Prop :=
  ∀ (m : (ℓ : Loc Cert.ARestBRefIdeal.nD Cert.ARestBRefIdeal.τ Cert.ARestBRefIdeal.sig) → Buf (Elt Ideal) ℓ) (g : Dev Cert.ARestBRefIdeal.nD → PrngReg), Pre_ARestBRefIdeal m →
    θ_run (Cert.ARestBRefIdeal.defs (F := Ideal)) (onTc (τ := Cert.ARestBRefIdeal.τ) (Cert.ARestBRefIdeal.main (F := Ideal))) ⟨m, fun _ => 0, g⟩ (fun r => (∀ c : Dev Cert.ARestBRefIdeal.nD,
      r.2.mem ((c.tc : Thread Cert.ARestBRefIdeal.nD Cert.ARestBRefIdeal.τ).loc Cert.ARestBRefIdeal.main_arg0) = m ((c.tc : Thread Cert.ARestBRefIdeal.nD Cert.ARestBRefIdeal.τ).loc Cert.ARestBRefIdeal.main_arg0)
      ∧ r.2.mem ((c.tc : Thread Cert.ARestBRefIdeal.nD Cert.ARestBRefIdeal.τ).loc Cert.ARestBRefIdeal.main_arg1) = m ((c.tc : Thread Cert.ARestBRefIdeal.nD Cert.ARestBRefIdeal.τ).loc Cert.ARestBRefIdeal.main_arg1)
      ∧ r.2.mem ((c.tc : Thread Cert.ARestBRefIdeal.nD Cert.ARestBRefIdeal.τ).loc Cert.ARestBRefIdeal.main_arg2) = m ((c.tc : Thread Cert.ARestBRefIdeal.nD Cert.ARestBRefIdeal.τ).loc Cert.ARestBRefIdeal.main_arg2)
      ∧ r.2.mem ((c.tc : Thread Cert.ARestBRefIdeal.nD Cert.ARestBRefIdeal.τ).loc Cert.ARestBRefIdeal.main_arg3) = m ((c.tc : Thread Cert.ARestBRefIdeal.nD Cert.ARestBRefIdeal.τ).loc Cert.ARestBRefIdeal.main_arg3)
      ∧ r.2.mem ((c.tc : Thread Cert.ARestBRefIdeal.nD Cert.ARestBRefIdeal.τ).loc Cert.ARestBRefIdeal.main_arg4) = m ((c.tc : Thread Cert.ARestBRefIdeal.nD Cert.ARestBRefIdeal.τ).loc Cert.ARestBRefIdeal.main_arg4)
      ∧ r.2.mem ((c.tc : Thread Cert.ARestBRefIdeal.nD Cert.ARestBRefIdeal.τ).loc Cert.ARestBRefIdeal.main_arg5) = m ((c.tc : Thread Cert.ARestBRefIdeal.nD Cert.ARestBRefIdeal.τ).loc Cert.ARestBRefIdeal.main_arg5)
      ∧ r.2.mem ((c.tc : Thread Cert.ARestBRefIdeal.nD Cert.ARestBRefIdeal.τ).loc Cert.ARestBRefIdeal.main_arg6) = m ((c.tc : Thread Cert.ARestBRefIdeal.nD Cert.ARestBRefIdeal.τ).loc Cert.ARestBRefIdeal.main_arg6)
      ∧ r.2.mem ((c.tc : Thread Cert.ARestBRefIdeal.nD Cert.ARestBRefIdeal.τ).loc Cert.ARestBRefIdeal.main_arg7) = m ((c.tc : Thread Cert.ARestBRefIdeal.nD Cert.ARestBRefIdeal.τ).loc Cert.ARestBRefIdeal.main_arg7)
      ∧ r.2.mem ((c.tc : Thread Cert.ARestBRefIdeal.nD Cert.ARestBRefIdeal.τ).loc Cert.ARestBRefIdeal.main_arg8) = m ((c.tc : Thread Cert.ARestBRefIdeal.nD Cert.ARestBRefIdeal.τ).loc Cert.ARestBRefIdeal.main_arg8)
      ∧ r.2.mem ((c.tc : Thread Cert.ARestBRefIdeal.nD Cert.ARestBRefIdeal.τ).loc Cert.ARestBRefIdeal.main_arg9) = m ((c.tc : Thread Cert.ARestBRefIdeal.nD Cert.ARestBRefIdeal.τ).loc Cert.ARestBRefIdeal.main_arg9)
      ∧ r.2.mem ((c.tc : Thread Cert.ARestBRefIdeal.nD Cert.ARestBRefIdeal.τ).loc Cert.ARestBRefIdeal.main_arg10) = m ((c.tc : Thread Cert.ARestBRefIdeal.nD Cert.ARestBRefIdeal.τ).loc Cert.ARestBRefIdeal.main_arg10)
      ∧ r.2.mem ((c.tc : Thread Cert.ARestBRefIdeal.nD Cert.ARestBRefIdeal.τ).loc Cert.ARestBRefIdeal.main_arg11) = m ((c.tc : Thread Cert.ARestBRefIdeal.nD Cert.ARestBRefIdeal.τ).loc Cert.ARestBRefIdeal.main_arg11)
      ∧ r.2.mem ((c.tc : Thread Cert.ARestBRefIdeal.nD Cert.ARestBRefIdeal.τ).loc Cert.ARestBRefIdeal.main_arg12) = m ((c.tc : Thread Cert.ARestBRefIdeal.nD Cert.ARestBRefIdeal.τ).loc Cert.ARestBRefIdeal.main_arg12)
      ∧ r.2.mem ((c.tc : Thread Cert.ARestBRefIdeal.nD Cert.ARestBRefIdeal.τ).loc Cert.ARestBRefIdeal.main_arg13) = m ((c.tc : Thread Cert.ARestBRefIdeal.nD Cert.ARestBRefIdeal.τ).loc Cert.ARestBRefIdeal.main_arg13)
      ∧ r.2.mem ((c.tc : Thread Cert.ARestBRefIdeal.nD Cert.ARestBRefIdeal.τ).loc Cert.ARestBRefIdeal.main_arg14) = m ((c.tc : Thread Cert.ARestBRefIdeal.nD Cert.ARestBRefIdeal.τ).loc Cert.ARestBRefIdeal.main_arg14)
      ∧ r.2.mem ((c.tc : Thread Cert.ARestBRefIdeal.nD Cert.ARestBRefIdeal.τ).loc Cert.ARestBRefIdeal.main_arg15) = m ((c.tc : Thread Cert.ARestBRefIdeal.nD Cert.ARestBRefIdeal.τ).loc Cert.ARestBRefIdeal.main_arg15))
      ∧ r.2.sem = fun _ => 0)

def quiescent_ARestC [hARestC : Cert.ARestC.Facts] : Prop :=
  ∀ (m : (ℓ : Loc Cert.ARestC.nD Cert.ARestC.τ Cert.ARestC.sig) → Buf (Elt Bits) ℓ) (g : Dev Cert.ARestC.nD → PrngReg), Pre_ARestC m →
    θ_run (Cert.ARestC.defs (F := Bits)) (onTc (τ := Cert.ARestC.τ) (Cert.ARestC.main (F := Bits))) ⟨m, fun _ => 0, g⟩ (fun r => (∀ c : Dev Cert.ARestC.nD,
      r.2.mem ((c.tc : Thread Cert.ARestC.nD Cert.ARestC.τ).loc Cert.ARestC.main_arg0) = m ((c.tc : Thread Cert.ARestC.nD Cert.ARestC.τ).loc Cert.ARestC.main_arg0)
      ∧ r.2.mem ((c.tc : Thread Cert.ARestC.nD Cert.ARestC.τ).loc Cert.ARestC.main_arg1) = m ((c.tc : Thread Cert.ARestC.nD Cert.ARestC.τ).loc Cert.ARestC.main_arg1)
      ∧ r.2.mem ((c.tc : Thread Cert.ARestC.nD Cert.ARestC.τ).loc Cert.ARestC.main_arg2) = m ((c.tc : Thread Cert.ARestC.nD Cert.ARestC.τ).loc Cert.ARestC.main_arg2)
      ∧ r.2.mem ((c.tc : Thread Cert.ARestC.nD Cert.ARestC.τ).loc Cert.ARestC.main_arg3) = m ((c.tc : Thread Cert.ARestC.nD Cert.ARestC.τ).loc Cert.ARestC.main_arg3)
      ∧ r.2.mem ((c.tc : Thread Cert.ARestC.nD Cert.ARestC.τ).loc Cert.ARestC.main_arg4) = m ((c.tc : Thread Cert.ARestC.nD Cert.ARestC.τ).loc Cert.ARestC.main_arg4)
      ∧ r.2.mem ((c.tc : Thread Cert.ARestC.nD Cert.ARestC.τ).loc Cert.ARestC.main_arg5) = m ((c.tc : Thread Cert.ARestC.nD Cert.ARestC.τ).loc Cert.ARestC.main_arg5)
      ∧ r.2.mem ((c.tc : Thread Cert.ARestC.nD Cert.ARestC.τ).loc Cert.ARestC.main_arg6) = m ((c.tc : Thread Cert.ARestC.nD Cert.ARestC.τ).loc Cert.ARestC.main_arg6)
      ∧ r.2.mem ((c.tc : Thread Cert.ARestC.nD Cert.ARestC.τ).loc Cert.ARestC.main_arg7) = m ((c.tc : Thread Cert.ARestC.nD Cert.ARestC.τ).loc Cert.ARestC.main_arg7)
      ∧ r.2.mem ((c.tc : Thread Cert.ARestC.nD Cert.ARestC.τ).loc Cert.ARestC.main_arg8) = m ((c.tc : Thread Cert.ARestC.nD Cert.ARestC.τ).loc Cert.ARestC.main_arg8)
      ∧ r.2.mem ((c.tc : Thread Cert.ARestC.nD Cert.ARestC.τ).loc Cert.ARestC.main_arg9) = m ((c.tc : Thread Cert.ARestC.nD Cert.ARestC.τ).loc Cert.ARestC.main_arg9)
      ∧ r.2.mem ((c.tc : Thread Cert.ARestC.nD Cert.ARestC.τ).loc Cert.ARestC.main_arg10) = m ((c.tc : Thread Cert.ARestC.nD Cert.ARestC.τ).loc Cert.ARestC.main_arg10)
      ∧ r.2.mem ((c.tc : Thread Cert.ARestC.nD Cert.ARestC.τ).loc Cert.ARestC.main_arg11) = m ((c.tc : Thread Cert.ARestC.nD Cert.ARestC.τ).loc Cert.ARestC.main_arg11)
      ∧ r.2.mem ((c.tc : Thread Cert.ARestC.nD Cert.ARestC.τ).loc Cert.ARestC.main_arg12) = m ((c.tc : Thread Cert.ARestC.nD Cert.ARestC.τ).loc Cert.ARestC.main_arg12)
      ∧ r.2.mem ((c.tc : Thread Cert.ARestC.nD Cert.ARestC.τ).loc Cert.ARestC.main_arg13) = m ((c.tc : Thread Cert.ARestC.nD Cert.ARestC.τ).loc Cert.ARestC.main_arg13)
      ∧ r.2.mem ((c.tc : Thread Cert.ARestC.nD Cert.ARestC.τ).loc Cert.ARestC.main_arg14) = m ((c.tc : Thread Cert.ARestC.nD Cert.ARestC.τ).loc Cert.ARestC.main_arg14)
      ∧ r.2.mem ((c.tc : Thread Cert.ARestC.nD Cert.ARestC.τ).loc Cert.ARestC.main_arg15) = m ((c.tc : Thread Cert.ARestC.nD Cert.ARestC.τ).loc Cert.ARestC.main_arg15))
      ∧ r.2.sem = fun _ => 0)

def quiescent_ARestCIdeal [hARestCIdeal : Cert.ARestCIdeal.Facts] : Prop :=
  ∀ (m : (ℓ : Loc Cert.ARestCIdeal.nD Cert.ARestCIdeal.τ Cert.ARestCIdeal.sig) → Buf (Elt Ideal) ℓ) (g : Dev Cert.ARestCIdeal.nD → PrngReg), Pre_ARestCIdeal m →
    θ_run (Cert.ARestCIdeal.defs (F := Ideal)) (onTc (τ := Cert.ARestCIdeal.τ) (Cert.ARestCIdeal.main (F := Ideal))) ⟨m, fun _ => 0, g⟩ (fun r => (∀ c : Dev Cert.ARestCIdeal.nD,
      r.2.mem ((c.tc : Thread Cert.ARestCIdeal.nD Cert.ARestCIdeal.τ).loc Cert.ARestCIdeal.main_arg0) = m ((c.tc : Thread Cert.ARestCIdeal.nD Cert.ARestCIdeal.τ).loc Cert.ARestCIdeal.main_arg0)
      ∧ r.2.mem ((c.tc : Thread Cert.ARestCIdeal.nD Cert.ARestCIdeal.τ).loc Cert.ARestCIdeal.main_arg1) = m ((c.tc : Thread Cert.ARestCIdeal.nD Cert.ARestCIdeal.τ).loc Cert.ARestCIdeal.main_arg1)
      ∧ r.2.mem ((c.tc : Thread Cert.ARestCIdeal.nD Cert.ARestCIdeal.τ).loc Cert.ARestCIdeal.main_arg2) = m ((c.tc : Thread Cert.ARestCIdeal.nD Cert.ARestCIdeal.τ).loc Cert.ARestCIdeal.main_arg2)
      ∧ r.2.mem ((c.tc : Thread Cert.ARestCIdeal.nD Cert.ARestCIdeal.τ).loc Cert.ARestCIdeal.main_arg3) = m ((c.tc : Thread Cert.ARestCIdeal.nD Cert.ARestCIdeal.τ).loc Cert.ARestCIdeal.main_arg3)
      ∧ r.2.mem ((c.tc : Thread Cert.ARestCIdeal.nD Cert.ARestCIdeal.τ).loc Cert.ARestCIdeal.main_arg4) = m ((c.tc : Thread Cert.ARestCIdeal.nD Cert.ARestCIdeal.τ).loc Cert.ARestCIdeal.main_arg4)
      ∧ r.2.mem ((c.tc : Thread Cert.ARestCIdeal.nD Cert.ARestCIdeal.τ).loc Cert.ARestCIdeal.main_arg5) = m ((c.tc : Thread Cert.ARestCIdeal.nD Cert.ARestCIdeal.τ).loc Cert.ARestCIdeal.main_arg5)
      ∧ r.2.mem ((c.tc : Thread Cert.ARestCIdeal.nD Cert.ARestCIdeal.τ).loc Cert.ARestCIdeal.main_arg6) = m ((c.tc : Thread Cert.ARestCIdeal.nD Cert.ARestCIdeal.τ).loc Cert.ARestCIdeal.main_arg6)
      ∧ r.2.mem ((c.tc : Thread Cert.ARestCIdeal.nD Cert.ARestCIdeal.τ).loc Cert.ARestCIdeal.main_arg7) = m ((c.tc : Thread Cert.ARestCIdeal.nD Cert.ARestCIdeal.τ).loc Cert.ARestCIdeal.main_arg7)
      ∧ r.2.mem ((c.tc : Thread Cert.ARestCIdeal.nD Cert.ARestCIdeal.τ).loc Cert.ARestCIdeal.main_arg8) = m ((c.tc : Thread Cert.ARestCIdeal.nD Cert.ARestCIdeal.τ).loc Cert.ARestCIdeal.main_arg8)
      ∧ r.2.mem ((c.tc : Thread Cert.ARestCIdeal.nD Cert.ARestCIdeal.τ).loc Cert.ARestCIdeal.main_arg9) = m ((c.tc : Thread Cert.ARestCIdeal.nD Cert.ARestCIdeal.τ).loc Cert.ARestCIdeal.main_arg9)
      ∧ r.2.mem ((c.tc : Thread Cert.ARestCIdeal.nD Cert.ARestCIdeal.τ).loc Cert.ARestCIdeal.main_arg10) = m ((c.tc : Thread Cert.ARestCIdeal.nD Cert.ARestCIdeal.τ).loc Cert.ARestCIdeal.main_arg10)
      ∧ r.2.mem ((c.tc : Thread Cert.ARestCIdeal.nD Cert.ARestCIdeal.τ).loc Cert.ARestCIdeal.main_arg11) = m ((c.tc : Thread Cert.ARestCIdeal.nD Cert.ARestCIdeal.τ).loc Cert.ARestCIdeal.main_arg11)
      ∧ r.2.mem ((c.tc : Thread Cert.ARestCIdeal.nD Cert.ARestCIdeal.τ).loc Cert.ARestCIdeal.main_arg12) = m ((c.tc : Thread Cert.ARestCIdeal.nD Cert.ARestCIdeal.τ).loc Cert.ARestCIdeal.main_arg12)
      ∧ r.2.mem ((c.tc : Thread Cert.ARestCIdeal.nD Cert.ARestCIdeal.τ).loc Cert.ARestCIdeal.main_arg13) = m ((c.tc : Thread Cert.ARestCIdeal.nD Cert.ARestCIdeal.τ).loc Cert.ARestCIdeal.main_arg13)
      ∧ r.2.mem ((c.tc : Thread Cert.ARestCIdeal.nD Cert.ARestCIdeal.τ).loc Cert.ARestCIdeal.main_arg14) = m ((c.tc : Thread Cert.ARestCIdeal.nD Cert.ARestCIdeal.τ).loc Cert.ARestCIdeal.main_arg14)
      ∧ r.2.mem ((c.tc : Thread Cert.ARestCIdeal.nD Cert.ARestCIdeal.τ).loc Cert.ARestCIdeal.main_arg15) = m ((c.tc : Thread Cert.ARestCIdeal.nD Cert.ARestCIdeal.τ).loc Cert.ARestCIdeal.main_arg15))
      ∧ r.2.sem = fun _ => 0)

def quiescent_ARestCRefIdeal [hARestCRefIdeal : Cert.ARestCRefIdeal.Facts] : Prop :=
  ∀ (m : (ℓ : Loc Cert.ARestCRefIdeal.nD Cert.ARestCRefIdeal.τ Cert.ARestCRefIdeal.sig) → Buf (Elt Ideal) ℓ) (g : Dev Cert.ARestCRefIdeal.nD → PrngReg), Pre_ARestCRefIdeal m →
    θ_run (Cert.ARestCRefIdeal.defs (F := Ideal)) (onTc (τ := Cert.ARestCRefIdeal.τ) (Cert.ARestCRefIdeal.main (F := Ideal))) ⟨m, fun _ => 0, g⟩ (fun r => (∀ c : Dev Cert.ARestCRefIdeal.nD,
      r.2.mem ((c.tc : Thread Cert.ARestCRefIdeal.nD Cert.ARestCRefIdeal.τ).loc Cert.ARestCRefIdeal.main_arg0) = m ((c.tc : Thread Cert.ARestCRefIdeal.nD Cert.ARestCRefIdeal.τ).loc Cert.ARestCRefIdeal.main_arg0)
      ∧ r.2.mem ((c.tc : Thread Cert.ARestCRefIdeal.nD Cert.ARestCRefIdeal.τ).loc Cert.ARestCRefIdeal.main_arg1) = m ((c.tc : Thread Cert.ARestCRefIdeal.nD Cert.ARestCRefIdeal.τ).loc Cert.ARestCRefIdeal.main_arg1)
      ∧ r.2.mem ((c.tc : Thread Cert.ARestCRefIdeal.nD Cert.ARestCRefIdeal.τ).loc Cert.ARestCRefIdeal.main_arg2) = m ((c.tc : Thread Cert.ARestCRefIdeal.nD Cert.ARestCRefIdeal.τ).loc Cert.ARestCRefIdeal.main_arg2)
      ∧ r.2.mem ((c.tc : Thread Cert.ARestCRefIdeal.nD Cert.ARestCRefIdeal.τ).loc Cert.ARestCRefIdeal.main_arg3) = m ((c.tc : Thread Cert.ARestCRefIdeal.nD Cert.ARestCRefIdeal.τ).loc Cert.ARestCRefIdeal.main_arg3)
      ∧ r.2.mem ((c.tc : Thread Cert.ARestCRefIdeal.nD Cert.ARestCRefIdeal.τ).loc Cert.ARestCRefIdeal.main_arg4) = m ((c.tc : Thread Cert.ARestCRefIdeal.nD Cert.ARestCRefIdeal.τ).loc Cert.ARestCRefIdeal.main_arg4)
      ∧ r.2.mem ((c.tc : Thread Cert.ARestCRefIdeal.nD Cert.ARestCRefIdeal.τ).loc Cert.ARestCRefIdeal.main_arg5) = m ((c.tc : Thread Cert.ARestCRefIdeal.nD Cert.ARestCRefIdeal.τ).loc Cert.ARestCRefIdeal.main_arg5)
      ∧ r.2.mem ((c.tc : Thread Cert.ARestCRefIdeal.nD Cert.ARestCRefIdeal.τ).loc Cert.ARestCRefIdeal.main_arg6) = m ((c.tc : Thread Cert.ARestCRefIdeal.nD Cert.ARestCRefIdeal.τ).loc Cert.ARestCRefIdeal.main_arg6)
      ∧ r.2.mem ((c.tc : Thread Cert.ARestCRefIdeal.nD Cert.ARestCRefIdeal.τ).loc Cert.ARestCRefIdeal.main_arg7) = m ((c.tc : Thread Cert.ARestCRefIdeal.nD Cert.ARestCRefIdeal.τ).loc Cert.ARestCRefIdeal.main_arg7)
      ∧ r.2.mem ((c.tc : Thread Cert.ARestCRefIdeal.nD Cert.ARestCRefIdeal.τ).loc Cert.ARestCRefIdeal.main_arg8) = m ((c.tc : Thread Cert.ARestCRefIdeal.nD Cert.ARestCRefIdeal.τ).loc Cert.ARestCRefIdeal.main_arg8)
      ∧ r.2.mem ((c.tc : Thread Cert.ARestCRefIdeal.nD Cert.ARestCRefIdeal.τ).loc Cert.ARestCRefIdeal.main_arg9) = m ((c.tc : Thread Cert.ARestCRefIdeal.nD Cert.ARestCRefIdeal.τ).loc Cert.ARestCRefIdeal.main_arg9)
      ∧ r.2.mem ((c.tc : Thread Cert.ARestCRefIdeal.nD Cert.ARestCRefIdeal.τ).loc Cert.ARestCRefIdeal.main_arg10) = m ((c.tc : Thread Cert.ARestCRefIdeal.nD Cert.ARestCRefIdeal.τ).loc Cert.ARestCRefIdeal.main_arg10)
      ∧ r.2.mem ((c.tc : Thread Cert.ARestCRefIdeal.nD Cert.ARestCRefIdeal.τ).loc Cert.ARestCRefIdeal.main_arg11) = m ((c.tc : Thread Cert.ARestCRefIdeal.nD Cert.ARestCRefIdeal.τ).loc Cert.ARestCRefIdeal.main_arg11)
      ∧ r.2.mem ((c.tc : Thread Cert.ARestCRefIdeal.nD Cert.ARestCRefIdeal.τ).loc Cert.ARestCRefIdeal.main_arg12) = m ((c.tc : Thread Cert.ARestCRefIdeal.nD Cert.ARestCRefIdeal.τ).loc Cert.ARestCRefIdeal.main_arg12)
      ∧ r.2.mem ((c.tc : Thread Cert.ARestCRefIdeal.nD Cert.ARestCRefIdeal.τ).loc Cert.ARestCRefIdeal.main_arg13) = m ((c.tc : Thread Cert.ARestCRefIdeal.nD Cert.ARestCRefIdeal.τ).loc Cert.ARestCRefIdeal.main_arg13)
      ∧ r.2.mem ((c.tc : Thread Cert.ARestCRefIdeal.nD Cert.ARestCRefIdeal.τ).loc Cert.ARestCRefIdeal.main_arg14) = m ((c.tc : Thread Cert.ARestCRefIdeal.nD Cert.ARestCRefIdeal.τ).loc Cert.ARestCRefIdeal.main_arg14)
      ∧ r.2.mem ((c.tc : Thread Cert.ARestCRefIdeal.nD Cert.ARestCRefIdeal.τ).loc Cert.ARestCRefIdeal.main_arg15) = m ((c.tc : Thread Cert.ARestCRefIdeal.nD Cert.ARestCRefIdeal.τ).loc Cert.ARestCRefIdeal.main_arg15))
      ∧ r.2.sem = fun _ => 0)

def quiescent_ARestD [hARestD : Cert.ARestD.Facts] : Prop :=
  ∀ (m : (ℓ : Loc Cert.ARestD.nD Cert.ARestD.τ Cert.ARestD.sig) → Buf (Elt Bits) ℓ) (g : Dev Cert.ARestD.nD → PrngReg), Pre_ARestD m →
    θ_run (Cert.ARestD.defs (F := Bits)) (onTc (τ := Cert.ARestD.τ) (Cert.ARestD.main (F := Bits))) ⟨m, fun _ => 0, g⟩ (fun r => (∀ c : Dev Cert.ARestD.nD,
      r.2.mem ((c.tc : Thread Cert.ARestD.nD Cert.ARestD.τ).loc Cert.ARestD.main_arg0) = m ((c.tc : Thread Cert.ARestD.nD Cert.ARestD.τ).loc Cert.ARestD.main_arg0)
      ∧ r.2.mem ((c.tc : Thread Cert.ARestD.nD Cert.ARestD.τ).loc Cert.ARestD.main_arg1) = m ((c.tc : Thread Cert.ARestD.nD Cert.ARestD.τ).loc Cert.ARestD.main_arg1)
      ∧ r.2.mem ((c.tc : Thread Cert.ARestD.nD Cert.ARestD.τ).loc Cert.ARestD.main_arg2) = m ((c.tc : Thread Cert.ARestD.nD Cert.ARestD.τ).loc Cert.ARestD.main_arg2)
      ∧ r.2.mem ((c.tc : Thread Cert.ARestD.nD Cert.ARestD.τ).loc Cert.ARestD.main_arg3) = m ((c.tc : Thread Cert.ARestD.nD Cert.ARestD.τ).loc Cert.ARestD.main_arg3)
      ∧ r.2.mem ((c.tc : Thread Cert.ARestD.nD Cert.ARestD.τ).loc Cert.ARestD.main_arg4) = m ((c.tc : Thread Cert.ARestD.nD Cert.ARestD.τ).loc Cert.ARestD.main_arg4)
      ∧ r.2.mem ((c.tc : Thread Cert.ARestD.nD Cert.ARestD.τ).loc Cert.ARestD.main_arg5) = m ((c.tc : Thread Cert.ARestD.nD Cert.ARestD.τ).loc Cert.ARestD.main_arg5)
      ∧ r.2.mem ((c.tc : Thread Cert.ARestD.nD Cert.ARestD.τ).loc Cert.ARestD.main_arg6) = m ((c.tc : Thread Cert.ARestD.nD Cert.ARestD.τ).loc Cert.ARestD.main_arg6)
      ∧ r.2.mem ((c.tc : Thread Cert.ARestD.nD Cert.ARestD.τ).loc Cert.ARestD.main_arg7) = m ((c.tc : Thread Cert.ARestD.nD Cert.ARestD.τ).loc Cert.ARestD.main_arg7)
      ∧ r.2.mem ((c.tc : Thread Cert.ARestD.nD Cert.ARestD.τ).loc Cert.ARestD.main_arg8) = m ((c.tc : Thread Cert.ARestD.nD Cert.ARestD.τ).loc Cert.ARestD.main_arg8)
      ∧ r.2.mem ((c.tc : Thread Cert.ARestD.nD Cert.ARestD.τ).loc Cert.ARestD.main_arg9) = m ((c.tc : Thread Cert.ARestD.nD Cert.ARestD.τ).loc Cert.ARestD.main_arg9)
      ∧ r.2.mem ((c.tc : Thread Cert.ARestD.nD Cert.ARestD.τ).loc Cert.ARestD.main_arg10) = m ((c.tc : Thread Cert.ARestD.nD Cert.ARestD.τ).loc Cert.ARestD.main_arg10)
      ∧ r.2.mem ((c.tc : Thread Cert.ARestD.nD Cert.ARestD.τ).loc Cert.ARestD.main_arg11) = m ((c.tc : Thread Cert.ARestD.nD Cert.ARestD.τ).loc Cert.ARestD.main_arg11)
      ∧ r.2.mem ((c.tc : Thread Cert.ARestD.nD Cert.ARestD.τ).loc Cert.ARestD.main_arg12) = m ((c.tc : Thread Cert.ARestD.nD Cert.ARestD.τ).loc Cert.ARestD.main_arg12)
      ∧ r.2.mem ((c.tc : Thread Cert.ARestD.nD Cert.ARestD.τ).loc Cert.ARestD.main_arg13) = m ((c.tc : Thread Cert.ARestD.nD Cert.ARestD.τ).loc Cert.ARestD.main_arg13)
      ∧ r.2.mem ((c.tc : Thread Cert.ARestD.nD Cert.ARestD.τ).loc Cert.ARestD.main_arg14) = m ((c.tc : Thread Cert.ARestD.nD Cert.ARestD.τ).loc Cert.ARestD.main_arg14)
      ∧ r.2.mem ((c.tc : Thread Cert.ARestD.nD Cert.ARestD.τ).loc Cert.ARestD.main_arg15) = m ((c.tc : Thread Cert.ARestD.nD Cert.ARestD.τ).loc Cert.ARestD.main_arg15))
      ∧ r.2.sem = fun _ => 0)

def quiescent_ARestDIdeal [hARestDIdeal : Cert.ARestDIdeal.Facts] : Prop :=
  ∀ (m : (ℓ : Loc Cert.ARestDIdeal.nD Cert.ARestDIdeal.τ Cert.ARestDIdeal.sig) → Buf (Elt Ideal) ℓ) (g : Dev Cert.ARestDIdeal.nD → PrngReg), Pre_ARestDIdeal m →
    θ_run (Cert.ARestDIdeal.defs (F := Ideal)) (onTc (τ := Cert.ARestDIdeal.τ) (Cert.ARestDIdeal.main (F := Ideal))) ⟨m, fun _ => 0, g⟩ (fun r => (∀ c : Dev Cert.ARestDIdeal.nD,
      r.2.mem ((c.tc : Thread Cert.ARestDIdeal.nD Cert.ARestDIdeal.τ).loc Cert.ARestDIdeal.main_arg0) = m ((c.tc : Thread Cert.ARestDIdeal.nD Cert.ARestDIdeal.τ).loc Cert.ARestDIdeal.main_arg0)
      ∧ r.2.mem ((c.tc : Thread Cert.ARestDIdeal.nD Cert.ARestDIdeal.τ).loc Cert.ARestDIdeal.main_arg1) = m ((c.tc : Thread Cert.ARestDIdeal.nD Cert.ARestDIdeal.τ).loc Cert.ARestDIdeal.main_arg1)
      ∧ r.2.mem ((c.tc : Thread Cert.ARestDIdeal.nD Cert.ARestDIdeal.τ).loc Cert.ARestDIdeal.main_arg2) = m ((c.tc : Thread Cert.ARestDIdeal.nD Cert.ARestDIdeal.τ).loc Cert.ARestDIdeal.main_arg2)
      ∧ r.2.mem ((c.tc : Thread Cert.ARestDIdeal.nD Cert.ARestDIdeal.τ).loc Cert.ARestDIdeal.main_arg3) = m ((c.tc : Thread Cert.ARestDIdeal.nD Cert.ARestDIdeal.τ).loc Cert.ARestDIdeal.main_arg3)
      ∧ r.2.mem ((c.tc : Thread Cert.ARestDIdeal.nD Cert.ARestDIdeal.τ).loc Cert.ARestDIdeal.main_arg4) = m ((c.tc : Thread Cert.ARestDIdeal.nD Cert.ARestDIdeal.τ).loc Cert.ARestDIdeal.main_arg4)
      ∧ r.2.mem ((c.tc : Thread Cert.ARestDIdeal.nD Cert.ARestDIdeal.τ).loc Cert.ARestDIdeal.main_arg5) = m ((c.tc : Thread Cert.ARestDIdeal.nD Cert.ARestDIdeal.τ).loc Cert.ARestDIdeal.main_arg5)
      ∧ r.2.mem ((c.tc : Thread Cert.ARestDIdeal.nD Cert.ARestDIdeal.τ).loc Cert.ARestDIdeal.main_arg6) = m ((c.tc : Thread Cert.ARestDIdeal.nD Cert.ARestDIdeal.τ).loc Cert.ARestDIdeal.main_arg6)
      ∧ r.2.mem ((c.tc : Thread Cert.ARestDIdeal.nD Cert.ARestDIdeal.τ).loc Cert.ARestDIdeal.main_arg7) = m ((c.tc : Thread Cert.ARestDIdeal.nD Cert.ARestDIdeal.τ).loc Cert.ARestDIdeal.main_arg7)
      ∧ r.2.mem ((c.tc : Thread Cert.ARestDIdeal.nD Cert.ARestDIdeal.τ).loc Cert.ARestDIdeal.main_arg8) = m ((c.tc : Thread Cert.ARestDIdeal.nD Cert.ARestDIdeal.τ).loc Cert.ARestDIdeal.main_arg8)
      ∧ r.2.mem ((c.tc : Thread Cert.ARestDIdeal.nD Cert.ARestDIdeal.τ).loc Cert.ARestDIdeal.main_arg9) = m ((c.tc : Thread Cert.ARestDIdeal.nD Cert.ARestDIdeal.τ).loc Cert.ARestDIdeal.main_arg9)
      ∧ r.2.mem ((c.tc : Thread Cert.ARestDIdeal.nD Cert.ARestDIdeal.τ).loc Cert.ARestDIdeal.main_arg10) = m ((c.tc : Thread Cert.ARestDIdeal.nD Cert.ARestDIdeal.τ).loc Cert.ARestDIdeal.main_arg10)
      ∧ r.2.mem ((c.tc : Thread Cert.ARestDIdeal.nD Cert.ARestDIdeal.τ).loc Cert.ARestDIdeal.main_arg11) = m ((c.tc : Thread Cert.ARestDIdeal.nD Cert.ARestDIdeal.τ).loc Cert.ARestDIdeal.main_arg11)
      ∧ r.2.mem ((c.tc : Thread Cert.ARestDIdeal.nD Cert.ARestDIdeal.τ).loc Cert.ARestDIdeal.main_arg12) = m ((c.tc : Thread Cert.ARestDIdeal.nD Cert.ARestDIdeal.τ).loc Cert.ARestDIdeal.main_arg12)
      ∧ r.2.mem ((c.tc : Thread Cert.ARestDIdeal.nD Cert.ARestDIdeal.τ).loc Cert.ARestDIdeal.main_arg13) = m ((c.tc : Thread Cert.ARestDIdeal.nD Cert.ARestDIdeal.τ).loc Cert.ARestDIdeal.main_arg13)
      ∧ r.2.mem ((c.tc : Thread Cert.ARestDIdeal.nD Cert.ARestDIdeal.τ).loc Cert.ARestDIdeal.main_arg14) = m ((c.tc : Thread Cert.ARestDIdeal.nD Cert.ARestDIdeal.τ).loc Cert.ARestDIdeal.main_arg14)
      ∧ r.2.mem ((c.tc : Thread Cert.ARestDIdeal.nD Cert.ARestDIdeal.τ).loc Cert.ARestDIdeal.main_arg15) = m ((c.tc : Thread Cert.ARestDIdeal.nD Cert.ARestDIdeal.τ).loc Cert.ARestDIdeal.main_arg15))
      ∧ r.2.sem = fun _ => 0)

def quiescent_ARestDRefIdeal [hARestDRefIdeal : Cert.ARestDRefIdeal.Facts] : Prop :=
  ∀ (m : (ℓ : Loc Cert.ARestDRefIdeal.nD Cert.ARestDRefIdeal.τ Cert.ARestDRefIdeal.sig) → Buf (Elt Ideal) ℓ) (g : Dev Cert.ARestDRefIdeal.nD → PrngReg), Pre_ARestDRefIdeal m →
    θ_run (Cert.ARestDRefIdeal.defs (F := Ideal)) (onTc (τ := Cert.ARestDRefIdeal.τ) (Cert.ARestDRefIdeal.main (F := Ideal))) ⟨m, fun _ => 0, g⟩ (fun r => (∀ c : Dev Cert.ARestDRefIdeal.nD,
      r.2.mem ((c.tc : Thread Cert.ARestDRefIdeal.nD Cert.ARestDRefIdeal.τ).loc Cert.ARestDRefIdeal.main_arg0) = m ((c.tc : Thread Cert.ARestDRefIdeal.nD Cert.ARestDRefIdeal.τ).loc Cert.ARestDRefIdeal.main_arg0)
      ∧ r.2.mem ((c.tc : Thread Cert.ARestDRefIdeal.nD Cert.ARestDRefIdeal.τ).loc Cert.ARestDRefIdeal.main_arg1) = m ((c.tc : Thread Cert.ARestDRefIdeal.nD Cert.ARestDRefIdeal.τ).loc Cert.ARestDRefIdeal.main_arg1)
      ∧ r.2.mem ((c.tc : Thread Cert.ARestDRefIdeal.nD Cert.ARestDRefIdeal.τ).loc Cert.ARestDRefIdeal.main_arg2) = m ((c.tc : Thread Cert.ARestDRefIdeal.nD Cert.ARestDRefIdeal.τ).loc Cert.ARestDRefIdeal.main_arg2)
      ∧ r.2.mem ((c.tc : Thread Cert.ARestDRefIdeal.nD Cert.ARestDRefIdeal.τ).loc Cert.ARestDRefIdeal.main_arg3) = m ((c.tc : Thread Cert.ARestDRefIdeal.nD Cert.ARestDRefIdeal.τ).loc Cert.ARestDRefIdeal.main_arg3)
      ∧ r.2.mem ((c.tc : Thread Cert.ARestDRefIdeal.nD Cert.ARestDRefIdeal.τ).loc Cert.ARestDRefIdeal.main_arg4) = m ((c.tc : Thread Cert.ARestDRefIdeal.nD Cert.ARestDRefIdeal.τ).loc Cert.ARestDRefIdeal.main_arg4)
      ∧ r.2.mem ((c.tc : Thread Cert.ARestDRefIdeal.nD Cert.ARestDRefIdeal.τ).loc Cert.ARestDRefIdeal.main_arg5) = m ((c.tc : Thread Cert.ARestDRefIdeal.nD Cert.ARestDRefIdeal.τ).loc Cert.ARestDRefIdeal.main_arg5)
      ∧ r.2.mem ((c.tc : Thread Cert.ARestDRefIdeal.nD Cert.ARestDRefIdeal.τ).loc Cert.ARestDRefIdeal.main_arg6) = m ((c.tc : Thread Cert.ARestDRefIdeal.nD Cert.ARestDRefIdeal.τ).loc Cert.ARestDRefIdeal.main_arg6)
      ∧ r.2.mem ((c.tc : Thread Cert.ARestDRefIdeal.nD Cert.ARestDRefIdeal.τ).loc Cert.ARestDRefIdeal.main_arg7) = m ((c.tc : Thread Cert.ARestDRefIdeal.nD Cert.ARestDRefIdeal.τ).loc Cert.ARestDRefIdeal.main_arg7)
      ∧ r.2.mem ((c.tc : Thread Cert.ARestDRefIdeal.nD Cert.ARestDRefIdeal.τ).loc Cert.ARestDRefIdeal.main_arg8) = m ((c.tc : Thread Cert.ARestDRefIdeal.nD Cert.ARestDRefIdeal.τ).loc Cert.ARestDRefIdeal.main_arg8)
      ∧ r.2.mem ((c.tc : Thread Cert.ARestDRefIdeal.nD Cert.ARestDRefIdeal.τ).loc Cert.ARestDRefIdeal.main_arg9) = m ((c.tc : Thread Cert.ARestDRefIdeal.nD Cert.ARestDRefIdeal.τ).loc Cert.ARestDRefIdeal.main_arg9)
      ∧ r.2.mem ((c.tc : Thread Cert.ARestDRefIdeal.nD Cert.ARestDRefIdeal.τ).loc Cert.ARestDRefIdeal.main_arg10) = m ((c.tc : Thread Cert.ARestDRefIdeal.nD Cert.ARestDRefIdeal.τ).loc Cert.ARestDRefIdeal.main_arg10)
      ∧ r.2.mem ((c.tc : Thread Cert.ARestDRefIdeal.nD Cert.ARestDRefIdeal.τ).loc Cert.ARestDRefIdeal.main_arg11) = m ((c.tc : Thread Cert.ARestDRefIdeal.nD Cert.ARestDRefIdeal.τ).loc Cert.ARestDRefIdeal.main_arg11)
      ∧ r.2.mem ((c.tc : Thread Cert.ARestDRefIdeal.nD Cert.ARestDRefIdeal.τ).loc Cert.ARestDRefIdeal.main_arg12) = m ((c.tc : Thread Cert.ARestDRefIdeal.nD Cert.ARestDRefIdeal.τ).loc Cert.ARestDRefIdeal.main_arg12)
      ∧ r.2.mem ((c.tc : Thread Cert.ARestDRefIdeal.nD Cert.ARestDRefIdeal.τ).loc Cert.ARestDRefIdeal.main_arg13) = m ((c.tc : Thread Cert.ARestDRefIdeal.nD Cert.ARestDRefIdeal.τ).loc Cert.ARestDRefIdeal.main_arg13)
      ∧ r.2.mem ((c.tc : Thread Cert.ARestDRefIdeal.nD Cert.ARestDRefIdeal.τ).loc Cert.ARestDRefIdeal.main_arg14) = m ((c.tc : Thread Cert.ARestDRefIdeal.nD Cert.ARestDRefIdeal.τ).loc Cert.ARestDRefIdeal.main_arg14)
      ∧ r.2.mem ((c.tc : Thread Cert.ARestDRefIdeal.nD Cert.ARestDRefIdeal.τ).loc Cert.ARestDRefIdeal.main_arg15) = m ((c.tc : Thread Cert.ARestDRefIdeal.nD Cert.ARestDRefIdeal.τ).loc Cert.ARestDRefIdeal.main_arg15))
      ∧ r.2.sem = fun _ => 0)

def quiescent_ARestE [hARestE : Cert.ARestE.Facts] : Prop :=
  ∀ (m : (ℓ : Loc Cert.ARestE.nD Cert.ARestE.τ Cert.ARestE.sig) → Buf (Elt Bits) ℓ) (g : Dev Cert.ARestE.nD → PrngReg), Pre_ARestE m →
    θ_run (Cert.ARestE.defs (F := Bits)) (onTc (τ := Cert.ARestE.τ) (Cert.ARestE.main (F := Bits))) ⟨m, fun _ => 0, g⟩ (fun r => (∀ c : Dev Cert.ARestE.nD,
      r.2.mem ((c.tc : Thread Cert.ARestE.nD Cert.ARestE.τ).loc Cert.ARestE.main_arg0) = m ((c.tc : Thread Cert.ARestE.nD Cert.ARestE.τ).loc Cert.ARestE.main_arg0)
      ∧ r.2.mem ((c.tc : Thread Cert.ARestE.nD Cert.ARestE.τ).loc Cert.ARestE.main_arg1) = m ((c.tc : Thread Cert.ARestE.nD Cert.ARestE.τ).loc Cert.ARestE.main_arg1)
      ∧ r.2.mem ((c.tc : Thread Cert.ARestE.nD Cert.ARestE.τ).loc Cert.ARestE.main_arg2) = m ((c.tc : Thread Cert.ARestE.nD Cert.ARestE.τ).loc Cert.ARestE.main_arg2)
      ∧ r.2.mem ((c.tc : Thread Cert.ARestE.nD Cert.ARestE.τ).loc Cert.ARestE.main_arg3) = m ((c.tc : Thread Cert.ARestE.nD Cert.ARestE.τ).loc Cert.ARestE.main_arg3)
      ∧ r.2.mem ((c.tc : Thread Cert.ARestE.nD Cert.ARestE.τ).loc Cert.ARestE.main_arg4) = m ((c.tc : Thread Cert.ARestE.nD Cert.ARestE.τ).loc Cert.ARestE.main_arg4)
      ∧ r.2.mem ((c.tc : Thread Cert.ARestE.nD Cert.ARestE.τ).loc Cert.ARestE.main_arg5) = m ((c.tc : Thread Cert.ARestE.nD Cert.ARestE.τ).loc Cert.ARestE.main_arg5)
      ∧ r.2.mem ((c.tc : Thread Cert.ARestE.nD Cert.ARestE.τ).loc Cert.ARestE.main_arg6) = m ((c.tc : Thread Cert.ARestE.nD Cert.ARestE.τ).loc Cert.ARestE.main_arg6)
      ∧ r.2.mem ((c.tc : Thread Cert.ARestE.nD Cert.ARestE.τ).loc Cert.ARestE.main_arg7) = m ((c.tc : Thread Cert.ARestE.nD Cert.ARestE.τ).loc Cert.ARestE.main_arg7)
      ∧ r.2.mem ((c.tc : Thread Cert.ARestE.nD Cert.ARestE.τ).loc Cert.ARestE.main_arg8) = m ((c.tc : Thread Cert.ARestE.nD Cert.ARestE.τ).loc Cert.ARestE.main_arg8)
      ∧ r.2.mem ((c.tc : Thread Cert.ARestE.nD Cert.ARestE.τ).loc Cert.ARestE.main_arg9) = m ((c.tc : Thread Cert.ARestE.nD Cert.ARestE.τ).loc Cert.ARestE.main_arg9)
      ∧ r.2.mem ((c.tc : Thread Cert.ARestE.nD Cert.ARestE.τ).loc Cert.ARestE.main_arg10) = m ((c.tc : Thread Cert.ARestE.nD Cert.ARestE.τ).loc Cert.ARestE.main_arg10)
      ∧ r.2.mem ((c.tc : Thread Cert.ARestE.nD Cert.ARestE.τ).loc Cert.ARestE.main_arg11) = m ((c.tc : Thread Cert.ARestE.nD Cert.ARestE.τ).loc Cert.ARestE.main_arg11)
      ∧ r.2.mem ((c.tc : Thread Cert.ARestE.nD Cert.ARestE.τ).loc Cert.ARestE.main_arg12) = m ((c.tc : Thread Cert.ARestE.nD Cert.ARestE.τ).loc Cert.ARestE.main_arg12)
      ∧ r.2.mem ((c.tc : Thread Cert.ARestE.nD Cert.ARestE.τ).loc Cert.ARestE.main_arg13) = m ((c.tc : Thread Cert.ARestE.nD Cert.ARestE.τ).loc Cert.ARestE.main_arg13)
      ∧ r.2.mem ((c.tc : Thread Cert.ARestE.nD Cert.ARestE.τ).loc Cert.ARestE.main_arg14) = m ((c.tc : Thread Cert.ARestE.nD Cert.ARestE.τ).loc Cert.ARestE.main_arg14)
      ∧ r.2.mem ((c.tc : Thread Cert.ARestE.nD Cert.ARestE.τ).loc Cert.ARestE.main_arg15) = m ((c.tc : Thread Cert.ARestE.nD Cert.ARestE.τ).loc Cert.ARestE.main_arg15))
      ∧ r.2.sem = fun _ => 0)

def quiescent_ARestEIdeal [hARestEIdeal : Cert.ARestEIdeal.Facts] : Prop :=
  ∀ (m : (ℓ : Loc Cert.ARestEIdeal.nD Cert.ARestEIdeal.τ Cert.ARestEIdeal.sig) → Buf (Elt Ideal) ℓ) (g : Dev Cert.ARestEIdeal.nD → PrngReg), Pre_ARestEIdeal m →
    θ_run (Cert.ARestEIdeal.defs (F := Ideal)) (onTc (τ := Cert.ARestEIdeal.τ) (Cert.ARestEIdeal.main (F := Ideal))) ⟨m, fun _ => 0, g⟩ (fun r => (∀ c : Dev Cert.ARestEIdeal.nD,
      r.2.mem ((c.tc : Thread Cert.ARestEIdeal.nD Cert.ARestEIdeal.τ).loc Cert.ARestEIdeal.main_arg0) = m ((c.tc : Thread Cert.ARestEIdeal.nD Cert.ARestEIdeal.τ).loc Cert.ARestEIdeal.main_arg0)
      ∧ r.2.mem ((c.tc : Thread Cert.ARestEIdeal.nD Cert.ARestEIdeal.τ).loc Cert.ARestEIdeal.main_arg1) = m ((c.tc : Thread Cert.ARestEIdeal.nD Cert.ARestEIdeal.τ).loc Cert.ARestEIdeal.main_arg1)
      ∧ r.2.mem ((c.tc : Thread Cert.ARestEIdeal.nD Cert.ARestEIdeal.τ).loc Cert.ARestEIdeal.main_arg2) = m ((c.tc : Thread Cert.ARestEIdeal.nD Cert.ARestEIdeal.τ).loc Cert.ARestEIdeal.main_arg2)
      ∧ r.2.mem ((c.tc : Thread Cert.ARestEIdeal.nD Cert.ARestEIdeal.τ).loc Cert.ARestEIdeal.main_arg3) = m ((c.tc : Thread Cert.ARestEIdeal.nD Cert.ARestEIdeal.τ).loc Cert.ARestEIdeal.main_arg3)
      ∧ r.2.mem ((c.tc : Thread Cert.ARestEIdeal.nD Cert.ARestEIdeal.τ).loc Cert.ARestEIdeal.main_arg4) = m ((c.tc : Thread Cert.ARestEIdeal.nD Cert.ARestEIdeal.τ).loc Cert.ARestEIdeal.main_arg4)
      ∧ r.2.mem ((c.tc : Thread Cert.ARestEIdeal.nD Cert.ARestEIdeal.τ).loc Cert.ARestEIdeal.main_arg5) = m ((c.tc : Thread Cert.ARestEIdeal.nD Cert.ARestEIdeal.τ).loc Cert.ARestEIdeal.main_arg5)
      ∧ r.2.mem ((c.tc : Thread Cert.ARestEIdeal.nD Cert.ARestEIdeal.τ).loc Cert.ARestEIdeal.main_arg6) = m ((c.tc : Thread Cert.ARestEIdeal.nD Cert.ARestEIdeal.τ).loc Cert.ARestEIdeal.main_arg6)
      ∧ r.2.mem ((c.tc : Thread Cert.ARestEIdeal.nD Cert.ARestEIdeal.τ).loc Cert.ARestEIdeal.main_arg7) = m ((c.tc : Thread Cert.ARestEIdeal.nD Cert.ARestEIdeal.τ).loc Cert.ARestEIdeal.main_arg7)
      ∧ r.2.mem ((c.tc : Thread Cert.ARestEIdeal.nD Cert.ARestEIdeal.τ).loc Cert.ARestEIdeal.main_arg8) = m ((c.tc : Thread Cert.ARestEIdeal.nD Cert.ARestEIdeal.τ).loc Cert.ARestEIdeal.main_arg8)
      ∧ r.2.mem ((c.tc : Thread Cert.ARestEIdeal.nD Cert.ARestEIdeal.τ).loc Cert.ARestEIdeal.main_arg9) = m ((c.tc : Thread Cert.ARestEIdeal.nD Cert.ARestEIdeal.τ).loc Cert.ARestEIdeal.main_arg9)
      ∧ r.2.mem ((c.tc : Thread Cert.ARestEIdeal.nD Cert.ARestEIdeal.τ).loc Cert.ARestEIdeal.main_arg10) = m ((c.tc : Thread Cert.ARestEIdeal.nD Cert.ARestEIdeal.τ).loc Cert.ARestEIdeal.main_arg10)
      ∧ r.2.mem ((c.tc : Thread Cert.ARestEIdeal.nD Cert.ARestEIdeal.τ).loc Cert.ARestEIdeal.main_arg11) = m ((c.tc : Thread Cert.ARestEIdeal.nD Cert.ARestEIdeal.τ).loc Cert.ARestEIdeal.main_arg11)
      ∧ r.2.mem ((c.tc : Thread Cert.ARestEIdeal.nD Cert.ARestEIdeal.τ).loc Cert.ARestEIdeal.main_arg12) = m ((c.tc : Thread Cert.ARestEIdeal.nD Cert.ARestEIdeal.τ).loc Cert.ARestEIdeal.main_arg12)
      ∧ r.2.mem ((c.tc : Thread Cert.ARestEIdeal.nD Cert.ARestEIdeal.τ).loc Cert.ARestEIdeal.main_arg13) = m ((c.tc : Thread Cert.ARestEIdeal.nD Cert.ARestEIdeal.τ).loc Cert.ARestEIdeal.main_arg13)
      ∧ r.2.mem ((c.tc : Thread Cert.ARestEIdeal.nD Cert.ARestEIdeal.τ).loc Cert.ARestEIdeal.main_arg14) = m ((c.tc : Thread Cert.ARestEIdeal.nD Cert.ARestEIdeal.τ).loc Cert.ARestEIdeal.main_arg14)
      ∧ r.2.mem ((c.tc : Thread Cert.ARestEIdeal.nD Cert.ARestEIdeal.τ).loc Cert.ARestEIdeal.main_arg15) = m ((c.tc : Thread Cert.ARestEIdeal.nD Cert.ARestEIdeal.τ).loc Cert.ARestEIdeal.main_arg15))
      ∧ r.2.sem = fun _ => 0)

def quiescent_ARestERefIdeal [hARestERefIdeal : Cert.ARestERefIdeal.Facts] : Prop :=
  ∀ (m : (ℓ : Loc Cert.ARestERefIdeal.nD Cert.ARestERefIdeal.τ Cert.ARestERefIdeal.sig) → Buf (Elt Ideal) ℓ) (g : Dev Cert.ARestERefIdeal.nD → PrngReg), Pre_ARestERefIdeal m →
    θ_run (Cert.ARestERefIdeal.defs (F := Ideal)) (onTc (τ := Cert.ARestERefIdeal.τ) (Cert.ARestERefIdeal.main (F := Ideal))) ⟨m, fun _ => 0, g⟩ (fun r => (∀ c : Dev Cert.ARestERefIdeal.nD,
      r.2.mem ((c.tc : Thread Cert.ARestERefIdeal.nD Cert.ARestERefIdeal.τ).loc Cert.ARestERefIdeal.main_arg0) = m ((c.tc : Thread Cert.ARestERefIdeal.nD Cert.ARestERefIdeal.τ).loc Cert.ARestERefIdeal.main_arg0)
      ∧ r.2.mem ((c.tc : Thread Cert.ARestERefIdeal.nD Cert.ARestERefIdeal.τ).loc Cert.ARestERefIdeal.main_arg1) = m ((c.tc : Thread Cert.ARestERefIdeal.nD Cert.ARestERefIdeal.τ).loc Cert.ARestERefIdeal.main_arg1)
      ∧ r.2.mem ((c.tc : Thread Cert.ARestERefIdeal.nD Cert.ARestERefIdeal.τ).loc Cert.ARestERefIdeal.main_arg2) = m ((c.tc : Thread Cert.ARestERefIdeal.nD Cert.ARestERefIdeal.τ).loc Cert.ARestERefIdeal.main_arg2)
      ∧ r.2.mem ((c.tc : Thread Cert.ARestERefIdeal.nD Cert.ARestERefIdeal.τ).loc Cert.ARestERefIdeal.main_arg3) = m ((c.tc : Thread Cert.ARestERefIdeal.nD Cert.ARestERefIdeal.τ).loc Cert.ARestERefIdeal.main_arg3)
      ∧ r.2.mem ((c.tc : Thread Cert.ARestERefIdeal.nD Cert.ARestERefIdeal.τ).loc Cert.ARestERefIdeal.main_arg4) = m ((c.tc : Thread Cert.ARestERefIdeal.nD Cert.ARestERefIdeal.τ).loc Cert.ARestERefIdeal.main_arg4)
      ∧ r.2.mem ((c.tc : Thread Cert.ARestERefIdeal.nD Cert.ARestERefIdeal.τ).loc Cert.ARestERefIdeal.main_arg5) = m ((c.tc : Thread Cert.ARestERefIdeal.nD Cert.ARestERefIdeal.τ).loc Cert.ARestERefIdeal.main_arg5)
      ∧ r.2.mem ((c.tc : Thread Cert.ARestERefIdeal.nD Cert.ARestERefIdeal.τ).loc Cert.ARestERefIdeal.main_arg6) = m ((c.tc : Thread Cert.ARestERefIdeal.nD Cert.ARestERefIdeal.τ).loc Cert.ARestERefIdeal.main_arg6)
      ∧ r.2.mem ((c.tc : Thread Cert.ARestERefIdeal.nD Cert.ARestERefIdeal.τ).loc Cert.ARestERefIdeal.main_arg7) = m ((c.tc : Thread Cert.ARestERefIdeal.nD Cert.ARestERefIdeal.τ).loc Cert.ARestERefIdeal.main_arg7)
      ∧ r.2.mem ((c.tc : Thread Cert.ARestERefIdeal.nD Cert.ARestERefIdeal.τ).loc Cert.ARestERefIdeal.main_arg8) = m ((c.tc : Thread Cert.ARestERefIdeal.nD Cert.ARestERefIdeal.τ).loc Cert.ARestERefIdeal.main_arg8)
      ∧ r.2.mem ((c.tc : Thread Cert.ARestERefIdeal.nD Cert.ARestERefIdeal.τ).loc Cert.ARestERefIdeal.main_arg9) = m ((c.tc : Thread Cert.ARestERefIdeal.nD Cert.ARestERefIdeal.τ).loc Cert.ARestERefIdeal.main_arg9)
      ∧ r.2.mem ((c.tc : Thread Cert.ARestERefIdeal.nD Cert.ARestERefIdeal.τ).loc Cert.ARestERefIdeal.main_arg10) = m ((c.tc : Thread Cert.ARestERefIdeal.nD Cert.ARestERefIdeal.τ).loc Cert.ARestERefIdeal.main_arg10)
      ∧ r.2.mem ((c.tc : Thread Cert.ARestERefIdeal.nD Cert.ARestERefIdeal.τ).loc Cert.ARestERefIdeal.main_arg11) = m ((c.tc : Thread Cert.ARestERefIdeal.nD Cert.ARestERefIdeal.τ).loc Cert.ARestERefIdeal.main_arg11)
      ∧ r.2.mem ((c.tc : Thread Cert.ARestERefIdeal.nD Cert.ARestERefIdeal.τ).loc Cert.ARestERefIdeal.main_arg12) = m ((c.tc : Thread Cert.ARestERefIdeal.nD Cert.ARestERefIdeal.τ).loc Cert.ARestERefIdeal.main_arg12)
      ∧ r.2.mem ((c.tc : Thread Cert.ARestERefIdeal.nD Cert.ARestERefIdeal.τ).loc Cert.ARestERefIdeal.main_arg13) = m ((c.tc : Thread Cert.ARestERefIdeal.nD Cert.ARestERefIdeal.τ).loc Cert.ARestERefIdeal.main_arg13)
      ∧ r.2.mem ((c.tc : Thread Cert.ARestERefIdeal.nD Cert.ARestERefIdeal.τ).loc Cert.ARestERefIdeal.main_arg14) = m ((c.tc : Thread Cert.ARestERefIdeal.nD Cert.ARestERefIdeal.τ).loc Cert.ARestERefIdeal.main_arg14)
      ∧ r.2.mem ((c.tc : Thread Cert.ARestERefIdeal.nD Cert.ARestERefIdeal.τ).loc Cert.ARestERefIdeal.main_arg15) = m ((c.tc : Thread Cert.ARestERefIdeal.nD Cert.ARestERefIdeal.τ).loc Cert.ARestERefIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_v51) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mix0_Mix0Ideal : Prop :=
  True

def algebraic_Mix0Ideal_Mix0RefIdeal_on_mix0_written [hMix0Ideal : Cert.Mix0Ideal.Facts] [hMix0RefIdeal : Cert.Mix0RefIdeal.Facts] [hOn_mix0_written : Cert.On_mix0_written.Facts] : Prop :=
  ∀ (m : (ℓ : Loc Cert.Mix0Ideal.nD Cert.Mix0Ideal.τ Cert.Mix0Ideal.sig) → Buf (Elt Ideal) ℓ) (g : Dev Cert.Mix0Ideal.nD → PrngReg)
    (m' : (ℓ : Loc Cert.Mix0RefIdeal.nD Cert.Mix0RefIdeal.τ Cert.Mix0RefIdeal.sig) → Buf (Elt Ideal) ℓ) (g' : Dev Cert.Mix0RefIdeal.nD → PrngReg), Pre_Mix0Ideal m →
    (∀ c : Dev Cert.Mix0Ideal.nD,
      m' ((c.tc : Thread Cert.Mix0RefIdeal.nD Cert.Mix0RefIdeal.τ).loc Cert.Mix0RefIdeal.main_arg0) = m ((c.tc : Thread Cert.Mix0Ideal.nD Cert.Mix0Ideal.τ).loc Cert.Mix0Ideal.main_arg0)
      ∧ m' ((c.tc : Thread Cert.Mix0RefIdeal.nD Cert.Mix0RefIdeal.τ).loc Cert.Mix0RefIdeal.main_arg1) = m ((c.tc : Thread Cert.Mix0Ideal.nD Cert.Mix0Ideal.τ).loc Cert.Mix0Ideal.main_arg1)
      ∧ m' ((c.tc : Thread Cert.Mix0RefIdeal.nD Cert.Mix0RefIdeal.τ).loc Cert.Mix0RefIdeal.main_arg2) = m ((c.tc : Thread Cert.Mix0Ideal.nD Cert.Mix0Ideal.τ).loc Cert.Mix0Ideal.main_arg2)
      ∧ m' ((c.tc : Thread Cert.Mix0RefIdeal.nD Cert.Mix0RefIdeal.τ).loc Cert.Mix0RefIdeal.main_arg3) = m ((c.tc : Thread Cert.Mix0Ideal.nD Cert.Mix0Ideal.τ).loc Cert.Mix0Ideal.main_arg3)
      ∧ m' ((c.tc : Thread Cert.Mix0RefIdeal.nD Cert.Mix0RefIdeal.τ).loc Cert.Mix0RefIdeal.main_arg4) = m ((c.tc : Thread Cert.Mix0Ideal.nD Cert.Mix0Ideal.τ).loc Cert.Mix0Ideal.main_arg4)
      ∧ m' ((c.tc : Thread Cert.Mix0RefIdeal.nD Cert.Mix0RefIdeal.τ).loc Cert.Mix0RefIdeal.main_arg5) = m ((c.tc : Thread Cert.Mix0Ideal.nD Cert.Mix0Ideal.τ).loc Cert.Mix0Ideal.main_arg5)) →
    ∃ (v0 : (c : Dev Cert.Mix0Ideal.nD) → Buf (Elt Ideal) ((c.tc : Thread Cert.Mix0Ideal.nD Cert.Mix0Ideal.τ).loc Cert.Mix0Ideal.main_v1_0)) (v1 : (c : Dev Cert.Mix0Ideal.nD) → Buf (Elt Ideal) ((c.tc : Thread Cert.Mix0Ideal.nD Cert.Mix0Ideal.τ).loc Cert.Mix0Ideal.main_v1_1)) (v2 : (c : Dev Cert.Mix0Ideal.nD) → Buf (Elt Ideal) ((c.tc : Thread Cert.Mix0Ideal.nD Cert.Mix0Ideal.τ).loc Cert.Mix0Ideal.main_v1_2)) (v3 : (c : Dev Cert.Mix0Ideal.nD) → Buf (Elt Ideal) ((c.tc : Thread Cert.Mix0Ideal.nD Cert.Mix0Ideal.τ).loc Cert.Mix0Ideal.main_v1_3)) (v4 : (c : Dev Cert.Mix0Ideal.nD) → Buf (Elt Ideal) ((c.tc : Thread Cert.Mix0Ideal.nD Cert.Mix0Ideal.τ).loc Cert.Mix0Ideal.main_v1_4)) (v5 : (c : Dev Cert.Mix0Ideal.nD) → Buf (Elt Ideal) ((c.tc : Thread Cert.Mix0Ideal.nD Cert.Mix0Ideal.τ).loc Cert.Mix0Ideal.main_v1_5)) (v6 : (c : Dev Cert.Mix0Ideal.nD) → Buf (Elt Ideal) ((c.tc : Thread Cert.Mix0Ideal.nD Cert.Mix0Ideal.τ).loc Cert.Mix0Ideal.main_v1_6)),
      θ_run (Cert.Mix0Ideal.defs (F := Ideal)) (onTc (τ := Cert.Mix0Ideal.τ) (Cert.Mix0Ideal.main (F := Ideal))) ⟨m, fun _ => 0, g⟩ (fun r => ∀ c : Dev Cert.Mix0Ideal.nD,
          (∀ i : (⟨2, ![2048, 512]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).1 i = 1#1 → r.2.mem ((c.tc : Thread Cert.Mix0Ideal.nD Cert.Mix0Ideal.τ).loc Cert.Mix0Ideal.main_v1_0) i = v0 c i)
          ∧ (∀ i : (⟨2, ![2048, 512]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.1 i = 1#1 → r.2.mem ((c.tc : Thread Cert.Mix0Ideal.nD Cert.Mix0Ideal.τ).loc Cert.Mix0Ideal.main_v1_1) i = v1 c i)
          ∧ (∀ i : (⟨2, ![2048, 10240]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.1 i = 1#1 → r.2.mem ((c.tc : Thread Cert.Mix0Ideal.nD Cert.Mix0Ideal.τ).loc Cert.Mix0Ideal.main_v1_2) i = v2 c i)
          ∧ (∀ i : (⟨2, ![512, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.1 i = 1#1 → r.2.mem ((c.tc : Thread Cert.Mix0Ideal.nD Cert.Mix0Ideal.τ).loc Cert.Mix0Ideal.main_v1_3) i = v3 c i)
          ∧ (∀ i : (⟨2, ![512, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.1 i = 1#1 → r.2.mem ((c.tc : Thread Cert.Mix0Ideal.nD Cert.Mix0Ideal.τ).loc Cert.Mix0Ideal.main_v1_4) i = v4 c i)
          ∧ (∀ i : (⟨2, ![1, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.2.1 i = 1#1 → r.2.mem ((c.tc : Thread Cert.Mix0Ideal.nD Cert.Mix0Ideal.τ).loc Cert.Mix0Ideal.main_v1_5) i = v5 c i)
          ∧ (∀ i : (⟨2, ![1, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.2.2 i = 1#1 → r.2.mem ((c.tc : Thread Cert.Mix0Ideal.nD Cert.Mix0Ideal.τ).loc Cert.Mix0Ideal.main_v1_6) i = v6 c i)
          ∧ r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
          ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
          ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
          ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
          ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
          ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5))
      ∧ θ_run (Cert.Mix0RefIdeal.defs (F := Ideal)) (onTc (τ := Cert.Mix0RefIdeal.τ) (Cert.Mix0RefIdeal.main (F := Ideal))) ⟨m', fun _ => 0, g'⟩ (fun r => ∀ c : Dev Cert.Mix0RefIdeal.nD,
          (∀ i : (⟨2, ![2048, 512]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).1 i = 1#1 → r.2.mem ((c.tc : Thread Cert.Mix0RefIdeal.nD Cert.Mix0RefIdeal.τ).loc Cert.Mix0RefIdeal.main_v39) i = v0 c i)
          ∧ (∀ i : (⟨2, ![2048, 512]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.1 i = 1#1 → r.2.mem ((c.tc : Thread Cert.Mix0RefIdeal.nD Cert.Mix0RefIdeal.τ).loc Cert.Mix0RefIdeal.main_v41) i = v1 c i)
          ∧ (∀ i : (⟨2, ![2048, 10240]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.1 i = 1#1 → r.2.mem ((c.tc : Thread Cert.Mix0RefIdeal.nD Cert.Mix0RefIdeal.τ).loc Cert.Mix0RefIdeal.main_v44) i = v2 c i)
          ∧ (∀ i : (⟨2, ![512, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.1 i = 1#1 → r.2.mem ((c.tc : Thread Cert.Mix0RefIdeal.nD Cert.Mix0RefIdeal.τ).loc Cert.Mix0RefIdeal.main_v46) i = v3 c i)
          ∧ (∀ i : (⟨2, ![512, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.1 i = 1#1 → r.2.mem ((c.tc : Thread Cert.Mix0RefIdeal.nD Cert.Mix0RefIdeal.τ).loc Cert.Mix0RefIdeal.main_v48) i = v4 c i)
          ∧ (∀ i : (⟨2, ![1, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.2.1 i = 1#1 → r.2.mem ((c.tc : Thread Cert.Mix0RefIdeal.nD Cert.Mix0RefIdeal.τ).loc Cert.Mix0RefIdeal.main_v49) i = v5 c i)
          ∧ (∀ i : (⟨2, ![1, 1024]⟩ : Shape).Idx, (Cert.On_mix0_written.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5))).2.2.2.2.2.2 i = 1#1 → r.2.mem ((c.tc : Thread Cert.Mix0RefIdeal.nD Cert.Mix0RefIdeal.τ).loc Cert.Mix0RefIdeal.main_v50) i = v6 c i)
          ∧ r.2.mem ((c.tc : Thread Cert.Mix0RefIdeal.nD Cert.Mix0RefIdeal.τ).loc Cert.Mix0RefIdeal.main_arg0) = m' ((c.tc : Thread Cert.Mix0RefIdeal.nD Cert.Mix0RefIdeal.τ).loc Cert.Mix0RefIdeal.main_arg0)
          ∧ r.2.mem ((c.tc : Thread Cert.Mix0RefIdeal.nD Cert.Mix0RefIdeal.τ).loc Cert.Mix0RefIdeal.main_arg1) = m' ((c.tc : Thread Cert.Mix0RefIdeal.nD Cert.Mix0RefIdeal.τ).loc Cert.Mix0RefIdeal.main_arg1)
          ∧ r.2.mem ((c.tc : Thread Cert.Mix0RefIdeal.nD Cert.Mix0RefIdeal.τ).loc Cert.Mix0RefIdeal.main_arg2) = m' ((c.tc : Thread Cert.Mix0RefIdeal.nD Cert.Mix0RefIdeal.τ).loc Cert.Mix0RefIdeal.main_arg2)
          ∧ r.2.mem ((c.tc : Thread Cert.Mix0RefIdeal.nD Cert.Mix0RefIdeal.τ).loc Cert.Mix0RefIdeal.main_arg3) = m' ((c.tc : Thread Cert.Mix0RefIdeal.nD Cert.Mix0RefIdeal.τ).loc Cert.Mix0RefIdeal.main_arg3)
          ∧ r.2.mem ((c.tc : Thread Cert.Mix0RefIdeal.nD Cert.Mix0RefIdeal.τ).loc Cert.Mix0RefIdeal.main_arg4) = m' ((c.tc : Thread Cert.Mix0RefIdeal.nD Cert.Mix0RefIdeal.τ).loc Cert.Mix0RefIdeal.main_arg4)
          ∧ r.2.mem ((c.tc : Thread Cert.Mix0RefIdeal.nD Cert.Mix0RefIdeal.τ).loc Cert.Mix0RefIdeal.main_arg5) = m' ((c.tc : Thread Cert.Mix0RefIdeal.nD Cert.Mix0RefIdeal.τ).loc Cert.Mix0RefIdeal.main_arg5))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal_on_indw_written [hInDwIdeal : Cert.InDwIdeal.Facts] [hInDwRefIdeal : Cert.InDwRefIdeal.Facts] [hOn_indw_written : Cert.On_indw_written.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          (∀ i : (⟨2, ![1024, 10368]⟩ : Shape).Idx, (Cert.On_indw_written.fn (F := Ideal) (m ((c.tc : Thread Cert.InDwIdeal.nD Cert.InDwIdeal.τ).loc Cert.InDwIdeal.main_arg0)) (m ((c.tc : Thread Cert.InDwIdeal.nD Cert.InDwIdeal.τ).loc Cert.InDwIdeal.main_arg1))) i = 1#1 → r.2.mem ((c.tc : Thread Cert.InDwIdeal.nD Cert.InDwIdeal.τ).loc Cert.InDwIdeal.main_v0) i = v0 c i)
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          (∀ i : (⟨2, ![1024, 10368]⟩ : Shape).Idx, (Cert.On_indw_written.fn (F := Ideal) (m ((c.tc : Thread Cert.InDwIdeal.nD Cert.InDwIdeal.τ).loc Cert.InDwIdeal.main_arg0)) (m ((c.tc : Thread Cert.InDwIdeal.nD Cert.InDwIdeal.τ).loc Cert.InDwIdeal.main_arg1))) i = 1#1 → r.2.mem ((c.tc : Thread Cert.InDwRefIdeal.nD Cert.InDwRefIdeal.τ).loc Cert.InDwRefIdeal.main_v8) i = v0 c i)
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)
      ∧ m' ((c.tc : Thread Cert.InDtRefIdeal.nD Cert.InDtRefIdeal.τ).loc Cert.InDtRefIdeal.main_arg2) = m ((c.tc : Thread Cert.InDtIdeal.nD Cert.InDtIdeal.τ).loc Cert.InDtIdeal.main_arg2)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1)
          ∧ r.2.mem ((c.tc : Thread Cert.InDtIdeal.nD Cert.InDtIdeal.τ).loc Cert.InDtIdeal.main_arg2) = m ((c.tc : Thread Cert.InDtIdeal.nD Cert.InDtIdeal.τ).loc Cert.InDtIdeal.main_arg2))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v8) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1)
          ∧ r.2.mem ((c.tc : Thread Cert.InDtRefIdeal.nD Cert.InDtRefIdeal.τ).loc Cert.InDtRefIdeal.main_arg2) = m' ((c.tc : Thread Cert.InDtRefIdeal.nD Cert.InDtRefIdeal.τ).loc Cert.InDtRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v22) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Bu_BuIdeal : Prop :=
  True

def algebraic_BuIdeal_BuRefIdeal [hBuIdeal : Cert.BuIdeal.Facts] [hBuRefIdeal : Cert.BuRefIdeal.Facts] : Prop :=
  ∀ (m : (ℓ : Loc Cert.BuIdeal.nD Cert.BuIdeal.τ Cert.BuIdeal.sig) → Buf (Elt Ideal) ℓ) (g : Dev Cert.BuIdeal.nD → PrngReg)
    (m' : (ℓ : Loc Cert.BuRefIdeal.nD Cert.BuRefIdeal.τ Cert.BuRefIdeal.sig) → Buf (Elt Ideal) ℓ) (g' : Dev Cert.BuRefIdeal.nD → PrngReg), Pre_BuIdeal m →
    (∀ c : Dev Cert.BuIdeal.nD,
      m' ((c.tc : Thread Cert.BuRefIdeal.nD Cert.BuRefIdeal.τ).loc Cert.BuRefIdeal.main_arg0) = m ((c.tc : Thread Cert.BuIdeal.nD Cert.BuIdeal.τ).loc Cert.BuIdeal.main_arg0)
      ∧ m' ((c.tc : Thread Cert.BuRefIdeal.nD Cert.BuRefIdeal.τ).loc Cert.BuRefIdeal.main_arg1) = m ((c.tc : Thread Cert.BuIdeal.nD Cert.BuIdeal.τ).loc Cert.BuIdeal.main_arg1)) →
    ∃ (v0 : (c : Dev Cert.BuIdeal.nD) → Buf (Elt Ideal) ((c.tc : Thread Cert.BuIdeal.nD Cert.BuIdeal.τ).loc Cert.BuIdeal.main_v0)),
      θ_run (Cert.BuIdeal.defs (F := Ideal)) (onTc (τ := Cert.BuIdeal.τ) (Cert.BuIdeal.main (F := Ideal))) ⟨m, fun _ => 0, g⟩ (fun r => ∀ c : Dev Cert.BuIdeal.nD,
          r.2.mem ((c.tc : Thread Cert.BuIdeal.nD Cert.BuIdeal.τ).loc Cert.BuIdeal.main_v0) = v0 c
          ∧ r.2.mem ((c.tc : Thread Cert.BuIdeal.nD Cert.BuIdeal.τ).loc Cert.BuIdeal.main_arg0) = m ((c.tc : Thread Cert.BuIdeal.nD Cert.BuIdeal.τ).loc Cert.BuIdeal.main_arg0)
          ∧ r.2.mem ((c.tc : Thread Cert.BuIdeal.nD Cert.BuIdeal.τ).loc Cert.BuIdeal.main_arg1) = m ((c.tc : Thread Cert.BuIdeal.nD Cert.BuIdeal.τ).loc Cert.BuIdeal.main_arg1))
      ∧ θ_run (Cert.BuRefIdeal.defs (F := Ideal)) (onTc (τ := Cert.BuRefIdeal.τ) (Cert.BuRefIdeal.main (F := Ideal))) ⟨m', fun _ => 0, g'⟩ (fun r => ∀ c : Dev Cert.BuRefIdeal.nD,
          r.2.mem ((c.tc : Thread Cert.BuRefIdeal.nD Cert.BuRefIdeal.τ).loc Cert.BuRefIdeal.main_v2) = v0 c
          ∧ r.2.mem ((c.tc : Thread Cert.BuRefIdeal.nD Cert.BuRefIdeal.τ).loc Cert.BuRefIdeal.main_arg0) = m' ((c.tc : Thread Cert.BuRefIdeal.nD Cert.BuRefIdeal.τ).loc Cert.BuRefIdeal.main_arg0)
          ∧ r.2.mem ((c.tc : Thread Cert.BuRefIdeal.nD Cert.BuRefIdeal.τ).loc Cert.BuRefIdeal.main_arg1) = m' ((c.tc : Thread Cert.BuRefIdeal.nD Cert.BuRefIdeal.τ).loc Cert.BuRefIdeal.main_arg1))

def preserves_S5y_S5yIdeal : Prop :=
  True

def algebraic_S5yIdeal_S5yRefIdeal [hS5yIdeal : Cert.S5yIdeal.Facts] [hS5yRefIdeal : Cert.S5yRefIdeal.Facts] : Prop :=
  ∀ (m : (ℓ : Loc Cert.S5yIdeal.nD Cert.S5yIdeal.τ Cert.S5yIdeal.sig) → Buf (Elt Ideal) ℓ) (g : Dev Cert.S5yIdeal.nD → PrngReg)
    (m' : (ℓ : Loc Cert.S5yRefIdeal.nD Cert.S5yRefIdeal.τ Cert.S5yRefIdeal.sig) → Buf (Elt Ideal) ℓ) (g' : Dev Cert.S5yRefIdeal.nD → PrngReg), Pre_S5yIdeal m →
    (∀ c : Dev Cert.S5yIdeal.nD,
      m' ((c.tc : Thread Cert.S5yRefIdeal.nD Cert.S5yRefIdeal.τ).loc Cert.S5yRefIdeal.main_arg0) = m ((c.tc : Thread Cert.S5yIdeal.nD Cert.S5yIdeal.τ).loc Cert.S5yIdeal.main_arg0)
      ∧ m' ((c.tc : Thread Cert.S5yRefIdeal.nD Cert.S5yRefIdeal.τ).loc Cert.S5yRefIdeal.main_arg1) = m ((c.tc : Thread Cert.S5yIdeal.nD Cert.S5yIdeal.τ).loc Cert.S5yIdeal.main_arg1)
      ∧ m' ((c.tc : Thread Cert.S5yRefIdeal.nD Cert.S5yRefIdeal.τ).loc Cert.S5yRefIdeal.main_arg2) = m ((c.tc : Thread Cert.S5yIdeal.nD Cert.S5yIdeal.τ).loc Cert.S5yIdeal.main_arg2)
      ∧ m' ((c.tc : Thread Cert.S5yRefIdeal.nD Cert.S5yRefIdeal.τ).loc Cert.S5yRefIdeal.main_arg3) = m ((c.tc : Thread Cert.S5yIdeal.nD Cert.S5yIdeal.τ).loc Cert.S5yIdeal.main_arg3)) →
    ∃ (v0 : (c : Dev Cert.S5yIdeal.nD) → Buf (Elt Ideal) ((c.tc : Thread Cert.S5yIdeal.nD Cert.S5yIdeal.τ).loc Cert.S5yIdeal.main_v0)),
      θ_run (Cert.S5yIdeal.defs (F := Ideal)) (onTc (τ := Cert.S5yIdeal.τ) (Cert.S5yIdeal.main (F := Ideal))) ⟨m, fun _ => 0, g⟩ (fun r => ∀ c : Dev Cert.S5yIdeal.nD,
          r.2.mem ((c.tc : Thread Cert.S5yIdeal.nD Cert.S5yIdeal.τ).loc Cert.S5yIdeal.main_v0) = v0 c
          ∧ r.2.mem ((c.tc : Thread Cert.S5yIdeal.nD Cert.S5yIdeal.τ).loc Cert.S5yIdeal.main_arg0) = m ((c.tc : Thread Cert.S5yIdeal.nD Cert.S5yIdeal.τ).loc Cert.S5yIdeal.main_arg0)
          ∧ r.2.mem ((c.tc : Thread Cert.S5yIdeal.nD Cert.S5yIdeal.τ).loc Cert.S5yIdeal.main_arg1) = m ((c.tc : Thread Cert.S5yIdeal.nD Cert.S5yIdeal.τ).loc Cert.S5yIdeal.main_arg1)
          ∧ r.2.mem ((c.tc : Thread Cert.S5yIdeal.nD Cert.S5yIdeal.τ).loc Cert.S5yIdeal.main_arg2) = m ((c.tc : Thread Cert.S5yIdeal.nD Cert.S5yIdeal.τ).loc Cert.S5yIdeal.main_arg2)
          ∧ r.2.mem ((c.tc : Thread Cert.S5yIdeal.nD Cert.S5yIdeal.τ).loc Cert.S5yIdeal.main_arg3) = m ((c.tc : Thread Cert.S5yIdeal.nD Cert.S5yIdeal.τ).loc Cert.S5yIdeal.main_arg3))
      ∧ θ_run (Cert.S5yRefIdeal.defs (F := Ideal)) (onTc (τ := Cert.S5yRefIdeal.τ) (Cert.S5yRefIdeal.main (F := Ideal))) ⟨m', fun _ => 0, g'⟩ (fun r => ∀ c : Dev Cert.S5yRefIdeal.nD,
          r.2.mem ((c.tc : Thread Cert.S5yRefIdeal.nD Cert.S5yRefIdeal.τ).loc Cert.S5yRefIdeal.main_v4) = v0 c
          ∧ r.2.mem ((c.tc : Thread Cert.S5yRefIdeal.nD Cert.S5yRefIdeal.τ).loc Cert.S5yRefIdeal.main_arg0) = m' ((c.tc : Thread Cert.S5yRefIdeal.nD Cert.S5yRefIdeal.τ).loc Cert.S5yRefIdeal.main_arg0)
          ∧ r.2.mem ((c.tc : Thread Cert.S5yRefIdeal.nD Cert.S5yRefIdeal.τ).loc Cert.S5yRefIdeal.main_arg1) = m' ((c.tc : Thread Cert.S5yRefIdeal.nD Cert.S5yRefIdeal.τ).loc Cert.S5yRefIdeal.main_arg1)
          ∧ r.2.mem ((c.tc : Thread Cert.S5yRefIdeal.nD Cert.S5yRefIdeal.τ).loc Cert.S5yRefIdeal.main_arg2) = m' ((c.tc : Thread Cert.S5yRefIdeal.nD Cert.S5yRefIdeal.τ).loc Cert.S5yRefIdeal.main_arg2)
          ∧ r.2.mem ((c.tc : Thread Cert.S5yRefIdeal.nD Cert.S5yRefIdeal.τ).loc Cert.S5yRefIdeal.main_arg3) = m' ((c.tc : Thread Cert.S5yRefIdeal.nD Cert.S5yRefIdeal.τ).loc Cert.S5yRefIdeal.main_arg3))

def preserves_DsRe_DsReIdeal : Prop :=
  True

def algebraic_DsReIdeal_DsReRefIdeal [hDsReIdeal : Cert.DsReIdeal.Facts] [hDsReRefIdeal : Cert.DsReRefIdeal.Facts] : Prop :=
  ∀ (m : (ℓ : Loc Cert.DsReIdeal.nD Cert.DsReIdeal.τ Cert.DsReIdeal.sig) → Buf (Elt Ideal) ℓ) (g : Dev Cert.DsReIdeal.nD → PrngReg)
    (m' : (ℓ : Loc Cert.DsReRefIdeal.nD Cert.DsReRefIdeal.τ Cert.DsReRefIdeal.sig) → Buf (Elt Ideal) ℓ) (g' : Dev Cert.DsReRefIdeal.nD → PrngReg), Pre_DsReIdeal m →
    (∀ c : Dev Cert.DsReIdeal.nD,
      m' ((c.tc : Thread Cert.DsReRefIdeal.nD Cert.DsReRefIdeal.τ).loc Cert.DsReRefIdeal.main_arg0) = m ((c.tc : Thread Cert.DsReIdeal.nD Cert.DsReIdeal.τ).loc Cert.DsReIdeal.main_arg0)
      ∧ m' ((c.tc : Thread Cert.DsReRefIdeal.nD Cert.DsReRefIdeal.τ).loc Cert.DsReRefIdeal.main_arg1) = m ((c.tc : Thread Cert.DsReIdeal.nD Cert.DsReIdeal.τ).loc Cert.DsReIdeal.main_arg1)) →
    ∃ (v0 : (c : Dev Cert.DsReIdeal.nD) → Buf (Elt Ideal) ((c.tc : Thread Cert.DsReIdeal.nD Cert.DsReIdeal.τ).loc Cert.DsReIdeal.main_v0)),
      θ_run (Cert.DsReIdeal.defs (F := Ideal)) (onTc (τ := Cert.DsReIdeal.τ) (Cert.DsReIdeal.main (F := Ideal))) ⟨m, fun _ => 0, g⟩ (fun r => ∀ c : Dev Cert.DsReIdeal.nD,
          r.2.mem ((c.tc : Thread Cert.DsReIdeal.nD Cert.DsReIdeal.τ).loc Cert.DsReIdeal.main_v0) = v0 c
          ∧ r.2.mem ((c.tc : Thread Cert.DsReIdeal.nD Cert.DsReIdeal.τ).loc Cert.DsReIdeal.main_arg0) = m ((c.tc : Thread Cert.DsReIdeal.nD Cert.DsReIdeal.τ).loc Cert.DsReIdeal.main_arg0)
          ∧ r.2.mem ((c.tc : Thread Cert.DsReIdeal.nD Cert.DsReIdeal.τ).loc Cert.DsReIdeal.main_arg1) = m ((c.tc : Thread Cert.DsReIdeal.nD Cert.DsReIdeal.τ).loc Cert.DsReIdeal.main_arg1))
      ∧ θ_run (Cert.DsReRefIdeal.defs (F := Ideal)) (onTc (τ := Cert.DsReRefIdeal.τ) (Cert.DsReRefIdeal.main (F := Ideal))) ⟨m', fun _ => 0, g'⟩ (fun r => ∀ c : Dev Cert.DsReRefIdeal.nD,
          r.2.mem ((c.tc : Thread Cert.DsReRefIdeal.nD Cert.DsReRefIdeal.τ).loc Cert.DsReRefIdeal.main_v4) = v0 c
          ∧ r.2.mem ((c.tc : Thread Cert.DsReRefIdeal.nD Cert.DsReRefIdeal.τ).loc Cert.DsReRefIdeal.main_arg0) = m' ((c.tc : Thread Cert.DsReRefIdeal.nD Cert.DsReRefIdeal.τ).loc Cert.DsReRefIdeal.main_arg0)
          ∧ r.2.mem ((c.tc : Thread Cert.DsReRefIdeal.nD Cert.DsReRefIdeal.τ).loc Cert.DsReRefIdeal.main_arg1) = m' ((c.tc : Thread Cert.DsReRefIdeal.nD Cert.DsReRefIdeal.τ).loc Cert.DsReRefIdeal.main_arg1))

def preserves_DsIm_DsImIdeal : Prop :=
  True

def algebraic_DsImIdeal_DsImRefIdeal [hDsImIdeal : Cert.DsImIdeal.Facts] [hDsImRefIdeal : Cert.DsImRefIdeal.Facts] : Prop :=
  ∀ (m : (ℓ : Loc Cert.DsImIdeal.nD Cert.DsImIdeal.τ Cert.DsImIdeal.sig) → Buf (Elt Ideal) ℓ) (g : Dev Cert.DsImIdeal.nD → PrngReg)
    (m' : (ℓ : Loc Cert.DsImRefIdeal.nD Cert.DsImRefIdeal.τ Cert.DsImRefIdeal.sig) → Buf (Elt Ideal) ℓ) (g' : Dev Cert.DsImRefIdeal.nD → PrngReg), Pre_DsImIdeal m →
    (∀ c : Dev Cert.DsImIdeal.nD,
      m' ((c.tc : Thread Cert.DsImRefIdeal.nD Cert.DsImRefIdeal.τ).loc Cert.DsImRefIdeal.main_arg0) = m ((c.tc : Thread Cert.DsImIdeal.nD Cert.DsImIdeal.τ).loc Cert.DsImIdeal.main_arg0)
      ∧ m' ((c.tc : Thread Cert.DsImRefIdeal.nD Cert.DsImRefIdeal.τ).loc Cert.DsImRefIdeal.main_arg1) = m ((c.tc : Thread Cert.DsImIdeal.nD Cert.DsImIdeal.τ).loc Cert.DsImIdeal.main_arg1)) →
    ∃ (v0 : (c : Dev Cert.DsImIdeal.nD) → Buf (Elt Ideal) ((c.tc : Thread Cert.DsImIdeal.nD Cert.DsImIdeal.τ).loc Cert.DsImIdeal.main_v0)),
      θ_run (Cert.DsImIdeal.defs (F := Ideal)) (onTc (τ := Cert.DsImIdeal.τ) (Cert.DsImIdeal.main (F := Ideal))) ⟨m, fun _ => 0, g⟩ (fun r => ∀ c : Dev Cert.DsImIdeal.nD,
          r.2.mem ((c.tc : Thread Cert.DsImIdeal.nD Cert.DsImIdeal.τ).loc Cert.DsImIdeal.main_v0) = v0 c
          ∧ r.2.mem ((c.tc : Thread Cert.DsImIdeal.nD Cert.DsImIdeal.τ).loc Cert.DsImIdeal.main_arg0) = m ((c.tc : Thread Cert.DsImIdeal.nD Cert.DsImIdeal.τ).loc Cert.DsImIdeal.main_arg0)
          ∧ r.2.mem ((c.tc : Thread Cert.DsImIdeal.nD Cert.DsImIdeal.τ).loc Cert.DsImIdeal.main_arg1) = m ((c.tc : Thread Cert.DsImIdeal.nD Cert.DsImIdeal.τ).loc Cert.DsImIdeal.main_arg1))
      ∧ θ_run (Cert.DsImRefIdeal.defs (F := Ideal)) (onTc (τ := Cert.DsImRefIdeal.τ) (Cert.DsImRefIdeal.main (F := Ideal))) ⟨m', fun _ => 0, g'⟩ (fun r => ∀ c : Dev Cert.DsImRefIdeal.nD,
          r.2.mem ((c.tc : Thread Cert.DsImRefIdeal.nD Cert.DsImRefIdeal.τ).loc Cert.DsImRefIdeal.main_v6) = v0 c
          ∧ r.2.mem ((c.tc : Thread Cert.DsImRefIdeal.nD Cert.DsImRefIdeal.τ).loc Cert.DsImRefIdeal.main_arg0) = m' ((c.tc : Thread Cert.DsImRefIdeal.nD Cert.DsImRefIdeal.τ).loc Cert.DsImRefIdeal.main_arg0)
          ∧ r.2.mem ((c.tc : Thread Cert.DsImRefIdeal.nD Cert.DsImRefIdeal.τ).loc Cert.DsImRefIdeal.main_arg1) = m' ((c.tc : Thread Cert.DsImRefIdeal.nD Cert.DsImRefIdeal.τ).loc Cert.DsImRefIdeal.main_arg1))

def preserves_DcRe_DcReIdeal : Prop :=
  True

def algebraic_DcReIdeal_DcReRefIdeal [hDcReIdeal : Cert.DcReIdeal.Facts] [hDcReRefIdeal : Cert.DcReRefIdeal.Facts] : Prop :=
  ∀ (m : (ℓ : Loc Cert.DcReIdeal.nD Cert.DcReIdeal.τ Cert.DcReIdeal.sig) → Buf (Elt Ideal) ℓ) (g : Dev Cert.DcReIdeal.nD → PrngReg)
    (m' : (ℓ : Loc Cert.DcReRefIdeal.nD Cert.DcReRefIdeal.τ Cert.DcReRefIdeal.sig) → Buf (Elt Ideal) ℓ) (g' : Dev Cert.DcReRefIdeal.nD → PrngReg), Pre_DcReIdeal m →
    (∀ c : Dev Cert.DcReIdeal.nD,
      m' ((c.tc : Thread Cert.DcReRefIdeal.nD Cert.DcReRefIdeal.τ).loc Cert.DcReRefIdeal.main_arg0) = m ((c.tc : Thread Cert.DcReIdeal.nD Cert.DcReIdeal.τ).loc Cert.DcReIdeal.main_arg0)
      ∧ m' ((c.tc : Thread Cert.DcReRefIdeal.nD Cert.DcReRefIdeal.τ).loc Cert.DcReRefIdeal.main_arg1) = m ((c.tc : Thread Cert.DcReIdeal.nD Cert.DcReIdeal.τ).loc Cert.DcReIdeal.main_arg1)) →
    ∃ (v0 : (c : Dev Cert.DcReIdeal.nD) → Buf (Elt Ideal) ((c.tc : Thread Cert.DcReIdeal.nD Cert.DcReIdeal.τ).loc Cert.DcReIdeal.main_v0)),
      θ_run (Cert.DcReIdeal.defs (F := Ideal)) (onTc (τ := Cert.DcReIdeal.τ) (Cert.DcReIdeal.main (F := Ideal))) ⟨m, fun _ => 0, g⟩ (fun r => ∀ c : Dev Cert.DcReIdeal.nD,
          r.2.mem ((c.tc : Thread Cert.DcReIdeal.nD Cert.DcReIdeal.τ).loc Cert.DcReIdeal.main_v0) = v0 c
          ∧ r.2.mem ((c.tc : Thread Cert.DcReIdeal.nD Cert.DcReIdeal.τ).loc Cert.DcReIdeal.main_arg0) = m ((c.tc : Thread Cert.DcReIdeal.nD Cert.DcReIdeal.τ).loc Cert.DcReIdeal.main_arg0)
          ∧ r.2.mem ((c.tc : Thread Cert.DcReIdeal.nD Cert.DcReIdeal.τ).loc Cert.DcReIdeal.main_arg1) = m ((c.tc : Thread Cert.DcReIdeal.nD Cert.DcReIdeal.τ).loc Cert.DcReIdeal.main_arg1))
      ∧ θ_run (Cert.DcReRefIdeal.defs (F := Ideal)) (onTc (τ := Cert.DcReRefIdeal.τ) (Cert.DcReRefIdeal.main (F := Ideal))) ⟨m', fun _ => 0, g'⟩ (fun r => ∀ c : Dev Cert.DcReRefIdeal.nD,
          r.2.mem ((c.tc : Thread Cert.DcReRefIdeal.nD Cert.DcReRefIdeal.τ).loc Cert.DcReRefIdeal.main_v4) = v0 c
          ∧ r.2.mem ((c.tc : Thread Cert.DcReRefIdeal.nD Cert.DcReRefIdeal.τ).loc Cert.DcReRefIdeal.main_arg0) = m' ((c.tc : Thread Cert.DcReRefIdeal.nD Cert.DcReRefIdeal.τ).loc Cert.DcReRefIdeal.main_arg0)
          ∧ r.2.mem ((c.tc : Thread Cert.DcReRefIdeal.nD Cert.DcReRefIdeal.τ).loc Cert.DcReRefIdeal.main_arg1) = m' ((c.tc : Thread Cert.DcReRefIdeal.nD Cert.DcReRefIdeal.τ).loc Cert.DcReRefIdeal.main_arg1))

def preserves_DcIm_DcImIdeal : Prop :=
  True

def algebraic_DcImIdeal_DcImRefIdeal [hDcImIdeal : Cert.DcImIdeal.Facts] [hDcImRefIdeal : Cert.DcImRefIdeal.Facts] : Prop :=
  ∀ (m : (ℓ : Loc Cert.DcImIdeal.nD Cert.DcImIdeal.τ Cert.DcImIdeal.sig) → Buf (Elt Ideal) ℓ) (g : Dev Cert.DcImIdeal.nD → PrngReg)
    (m' : (ℓ : Loc Cert.DcImRefIdeal.nD Cert.DcImRefIdeal.τ Cert.DcImRefIdeal.sig) → Buf (Elt Ideal) ℓ) (g' : Dev Cert.DcImRefIdeal.nD → PrngReg), Pre_DcImIdeal m →
    (∀ c : Dev Cert.DcImIdeal.nD,
      m' ((c.tc : Thread Cert.DcImRefIdeal.nD Cert.DcImRefIdeal.τ).loc Cert.DcImRefIdeal.main_arg0) = m ((c.tc : Thread Cert.DcImIdeal.nD Cert.DcImIdeal.τ).loc Cert.DcImIdeal.main_arg0)
      ∧ m' ((c.tc : Thread Cert.DcImRefIdeal.nD Cert.DcImRefIdeal.τ).loc Cert.DcImRefIdeal.main_arg1) = m ((c.tc : Thread Cert.DcImIdeal.nD Cert.DcImIdeal.τ).loc Cert.DcImIdeal.main_arg1)) →
    ∃ (v0 : (c : Dev Cert.DcImIdeal.nD) → Buf (Elt Ideal) ((c.tc : Thread Cert.DcImIdeal.nD Cert.DcImIdeal.τ).loc Cert.DcImIdeal.main_v0)),
      θ_run (Cert.DcImIdeal.defs (F := Ideal)) (onTc (τ := Cert.DcImIdeal.τ) (Cert.DcImIdeal.main (F := Ideal))) ⟨m, fun _ => 0, g⟩ (fun r => ∀ c : Dev Cert.DcImIdeal.nD,
          r.2.mem ((c.tc : Thread Cert.DcImIdeal.nD Cert.DcImIdeal.τ).loc Cert.DcImIdeal.main_v0) = v0 c
          ∧ r.2.mem ((c.tc : Thread Cert.DcImIdeal.nD Cert.DcImIdeal.τ).loc Cert.DcImIdeal.main_arg0) = m ((c.tc : Thread Cert.DcImIdeal.nD Cert.DcImIdeal.τ).loc Cert.DcImIdeal.main_arg0)
          ∧ r.2.mem ((c.tc : Thread Cert.DcImIdeal.nD Cert.DcImIdeal.τ).loc Cert.DcImIdeal.main_arg1) = m ((c.tc : Thread Cert.DcImIdeal.nD Cert.DcImIdeal.τ).loc Cert.DcImIdeal.main_arg1))
      ∧ θ_run (Cert.DcImRefIdeal.defs (F := Ideal)) (onTc (τ := Cert.DcImRefIdeal.τ) (Cert.DcImRefIdeal.main (F := Ideal))) ⟨m', fun _ => 0, g'⟩ (fun r => ∀ c : Dev Cert.DcImRefIdeal.nD,
          r.2.mem ((c.tc : Thread Cert.DcImRefIdeal.nD Cert.DcImRefIdeal.τ).loc Cert.DcImRefIdeal.main_v6) = v0 c
          ∧ r.2.mem ((c.tc : Thread Cert.DcImRefIdeal.nD Cert.DcImRefIdeal.τ).loc Cert.DcImRefIdeal.main_arg0) = m' ((c.tc : Thread Cert.DcImRefIdeal.nD Cert.DcImRefIdeal.τ).loc Cert.DcImRefIdeal.main_arg0)
          ∧ r.2.mem ((c.tc : Thread Cert.DcImRefIdeal.nD Cert.DcImRefIdeal.τ).loc Cert.DcImRefIdeal.main_arg1) = m' ((c.tc : Thread Cert.DcImRefIdeal.nD Cert.DcImRefIdeal.τ).loc Cert.DcImRefIdeal.main_arg1))

def preserves_BuDx_BuDxIdeal : Prop :=
  True

def algebraic_BuDxIdeal_BuDxRefIdeal [hBuDxIdeal : Cert.BuDxIdeal.Facts] [hBuDxRefIdeal : Cert.BuDxRefIdeal.Facts] : Prop :=
  ∀ (m : (ℓ : Loc Cert.BuDxIdeal.nD Cert.BuDxIdeal.τ Cert.BuDxIdeal.sig) → Buf (Elt Ideal) ℓ) (g : Dev Cert.BuDxIdeal.nD → PrngReg)
    (m' : (ℓ : Loc Cert.BuDxRefIdeal.nD Cert.BuDxRefIdeal.τ Cert.BuDxRefIdeal.sig) → Buf (Elt Ideal) ℓ) (g' : Dev Cert.BuDxRefIdeal.nD → PrngReg), Pre_BuDxIdeal m →
    (∀ c : Dev Cert.BuDxIdeal.nD,
      m' ((c.tc : Thread Cert.BuDxRefIdeal.nD Cert.BuDxRefIdeal.τ).loc Cert.BuDxRefIdeal.main_arg0) = m ((c.tc : Thread Cert.BuDxIdeal.nD Cert.BuDxIdeal.τ).loc Cert.BuDxIdeal.main_arg0)
      ∧ m' ((c.tc : Thread Cert.BuDxRefIdeal.nD Cert.BuDxRefIdeal.τ).loc Cert.BuDxRefIdeal.main_arg1) = m ((c.tc : Thread Cert.BuDxIdeal.nD Cert.BuDxIdeal.τ).loc Cert.BuDxIdeal.main_arg1)
      ∧ m' ((c.tc : Thread Cert.BuDxRefIdeal.nD Cert.BuDxRefIdeal.τ).loc Cert.BuDxRefIdeal.main_arg2) = m ((c.tc : Thread Cert.BuDxIdeal.nD Cert.BuDxIdeal.τ).loc Cert.BuDxIdeal.main_arg2)
      ∧ m' ((c.tc : Thread Cert.BuDxRefIdeal.nD Cert.BuDxRefIdeal.τ).loc Cert.BuDxRefIdeal.main_arg3) = m ((c.tc : Thread Cert.BuDxIdeal.nD Cert.BuDxIdeal.τ).loc Cert.BuDxIdeal.main_arg3)
      ∧ m' ((c.tc : Thread Cert.BuDxRefIdeal.nD Cert.BuDxRefIdeal.τ).loc Cert.BuDxRefIdeal.main_arg4) = m ((c.tc : Thread Cert.BuDxIdeal.nD Cert.BuDxIdeal.τ).loc Cert.BuDxIdeal.main_arg4)
      ∧ m' ((c.tc : Thread Cert.BuDxRefIdeal.nD Cert.BuDxRefIdeal.τ).loc Cert.BuDxRefIdeal.main_arg5) = m ((c.tc : Thread Cert.BuDxIdeal.nD Cert.BuDxIdeal.τ).loc Cert.BuDxIdeal.main_arg5)) →
    ∃ (v0 : (c : Dev Cert.BuDxIdeal.nD) → Buf (Elt Ideal) ((c.tc : Thread Cert.BuDxIdeal.nD Cert.BuDxIdeal.τ).loc Cert.BuDxIdeal.main_v0)),
      θ_run (Cert.BuDxIdeal.defs (F := Ideal)) (onTc (τ := Cert.BuDxIdeal.τ) (Cert.BuDxIdeal.main (F := Ideal))) ⟨m, fun _ => 0, g⟩ (fun r => ∀ c : Dev Cert.BuDxIdeal.nD,
          r.2.mem ((c.tc : Thread Cert.BuDxIdeal.nD Cert.BuDxIdeal.τ).loc Cert.BuDxIdeal.main_v0) = v0 c
          ∧ r.2.mem ((c.tc : Thread Cert.BuDxIdeal.nD Cert.BuDxIdeal.τ).loc Cert.BuDxIdeal.main_arg0) = m ((c.tc : Thread Cert.BuDxIdeal.nD Cert.BuDxIdeal.τ).loc Cert.BuDxIdeal.main_arg0)
          ∧ r.2.mem ((c.tc : Thread Cert.BuDxIdeal.nD Cert.BuDxIdeal.τ).loc Cert.BuDxIdeal.main_arg1) = m ((c.tc : Thread Cert.BuDxIdeal.nD Cert.BuDxIdeal.τ).loc Cert.BuDxIdeal.main_arg1)
          ∧ r.2.mem ((c.tc : Thread Cert.BuDxIdeal.nD Cert.BuDxIdeal.τ).loc Cert.BuDxIdeal.main_arg2) = m ((c.tc : Thread Cert.BuDxIdeal.nD Cert.BuDxIdeal.τ).loc Cert.BuDxIdeal.main_arg2)
          ∧ r.2.mem ((c.tc : Thread Cert.BuDxIdeal.nD Cert.BuDxIdeal.τ).loc Cert.BuDxIdeal.main_arg3) = m ((c.tc : Thread Cert.BuDxIdeal.nD Cert.BuDxIdeal.τ).loc Cert.BuDxIdeal.main_arg3)
          ∧ r.2.mem ((c.tc : Thread Cert.BuDxIdeal.nD Cert.BuDxIdeal.τ).loc Cert.BuDxIdeal.main_arg4) = m ((c.tc : Thread Cert.BuDxIdeal.nD Cert.BuDxIdeal.τ).loc Cert.BuDxIdeal.main_arg4)
          ∧ r.2.mem ((c.tc : Thread Cert.BuDxIdeal.nD Cert.BuDxIdeal.τ).loc Cert.BuDxIdeal.main_arg5) = m ((c.tc : Thread Cert.BuDxIdeal.nD Cert.BuDxIdeal.τ).loc Cert.BuDxIdeal.main_arg5))
      ∧ θ_run (Cert.BuDxRefIdeal.defs (F := Ideal)) (onTc (τ := Cert.BuDxRefIdeal.τ) (Cert.BuDxRefIdeal.main (F := Ideal))) ⟨m', fun _ => 0, g'⟩ (fun r => ∀ c : Dev Cert.BuDxRefIdeal.nD,
          r.2.mem ((c.tc : Thread Cert.BuDxRefIdeal.nD Cert.BuDxRefIdeal.τ).loc Cert.BuDxRefIdeal.main_v12) = v0 c
          ∧ r.2.mem ((c.tc : Thread Cert.BuDxRefIdeal.nD Cert.BuDxRefIdeal.τ).loc Cert.BuDxRefIdeal.main_arg0) = m' ((c.tc : Thread Cert.BuDxRefIdeal.nD Cert.BuDxRefIdeal.τ).loc Cert.BuDxRefIdeal.main_arg0)
          ∧ r.2.mem ((c.tc : Thread Cert.BuDxRefIdeal.nD Cert.BuDxRefIdeal.τ).loc Cert.BuDxRefIdeal.main_arg1) = m' ((c.tc : Thread Cert.BuDxRefIdeal.nD Cert.BuDxRefIdeal.τ).loc Cert.BuDxRefIdeal.main_arg1)
          ∧ r.2.mem ((c.tc : Thread Cert.BuDxRefIdeal.nD Cert.BuDxRefIdeal.τ).loc Cert.BuDxRefIdeal.main_arg2) = m' ((c.tc : Thread Cert.BuDxRefIdeal.nD Cert.BuDxRefIdeal.τ).loc Cert.BuDxRefIdeal.main_arg2)
          ∧ r.2.mem ((c.tc : Thread Cert.BuDxRefIdeal.nD Cert.BuDxRefIdeal.τ).loc Cert.BuDxRefIdeal.main_arg3) = m' ((c.tc : Thread Cert.BuDxRefIdeal.nD Cert.BuDxRefIdeal.τ).loc Cert.BuDxRefIdeal.main_arg3)
          ∧ r.2.mem ((c.tc : Thread Cert.BuDxRefIdeal.nD Cert.BuDxRefIdeal.τ).loc Cert.BuDxRefIdeal.main_arg4) = m' ((c.tc : Thread Cert.BuDxRefIdeal.nD Cert.BuDxRefIdeal.τ).loc Cert.BuDxRefIdeal.main_arg4)
          ∧ r.2.mem ((c.tc : Thread Cert.BuDxRefIdeal.nD Cert.BuDxRefIdeal.τ).loc Cert.BuDxRefIdeal.main_arg5) = m' ((c.tc : Thread Cert.BuDxRefIdeal.nD Cert.BuDxRefIdeal.τ).loc Cert.BuDxRefIdeal.main_arg5))

def preserves_BuDw_BuDwIdeal : Prop :=
  True

def algebraic_BuDwIdeal_BuDwRefIdeal [hBuDwIdeal : Cert.BuDwIdeal.Facts] [hBuDwRefIdeal : Cert.BuDwRefIdeal.Facts] : Prop :=
  ∀ (m : (ℓ : Loc Cert.BuDwIdeal.nD Cert.BuDwIdeal.τ Cert.BuDwIdeal.sig) → Buf (Elt Ideal) ℓ) (g : Dev Cert.BuDwIdeal.nD → PrngReg)
    (m' : (ℓ : Loc Cert.BuDwRefIdeal.nD Cert.BuDwRefIdeal.τ Cert.BuDwRefIdeal.sig) → Buf (Elt Ideal) ℓ) (g' : Dev Cert.BuDwRefIdeal.nD → PrngReg), Pre_BuDwIdeal m →
    (∀ c : Dev Cert.BuDwIdeal.nD,
      m' ((c.tc : Thread Cert.BuDwRefIdeal.nD Cert.BuDwRefIdeal.τ).loc Cert.BuDwRefIdeal.main_arg0) = m ((c.tc : Thread Cert.BuDwIdeal.nD Cert.BuDwIdeal.τ).loc Cert.BuDwIdeal.main_arg0)
      ∧ m' ((c.tc : Thread Cert.BuDwRefIdeal.nD Cert.BuDwRefIdeal.τ).loc Cert.BuDwRefIdeal.main_arg1) = m ((c.tc : Thread Cert.BuDwIdeal.nD Cert.BuDwIdeal.τ).loc Cert.BuDwIdeal.main_arg1)) →
    ∃ (v0 : (c : Dev Cert.BuDwIdeal.nD) → Buf (Elt Ideal) ((c.tc : Thread Cert.BuDwIdeal.nD Cert.BuDwIdeal.τ).loc Cert.BuDwIdeal.main_v0)),
      θ_run (Cert.BuDwIdeal.defs (F := Ideal)) (onTc (τ := Cert.BuDwIdeal.τ) (Cert.BuDwIdeal.main (F := Ideal))) ⟨m, fun _ => 0, g⟩ (fun r => ∀ c : Dev Cert.BuDwIdeal.nD,
          r.2.mem ((c.tc : Thread Cert.BuDwIdeal.nD Cert.BuDwIdeal.τ).loc Cert.BuDwIdeal.main_v0) = v0 c
          ∧ r.2.mem ((c.tc : Thread Cert.BuDwIdeal.nD Cert.BuDwIdeal.τ).loc Cert.BuDwIdeal.main_arg0) = m ((c.tc : Thread Cert.BuDwIdeal.nD Cert.BuDwIdeal.τ).loc Cert.BuDwIdeal.main_arg0)
          ∧ r.2.mem ((c.tc : Thread Cert.BuDwIdeal.nD Cert.BuDwIdeal.τ).loc Cert.BuDwIdeal.main_arg1) = m ((c.tc : Thread Cert.BuDwIdeal.nD Cert.BuDwIdeal.τ).loc Cert.BuDwIdeal.main_arg1))
      ∧ θ_run (Cert.BuDwRefIdeal.defs (F := Ideal)) (onTc (τ := Cert.BuDwRefIdeal.τ) (Cert.BuDwRefIdeal.main (F := Ideal))) ⟨m', fun _ => 0, g'⟩ (fun r => ∀ c : Dev Cert.BuDwRefIdeal.nD,
          r.2.mem ((c.tc : Thread Cert.BuDwRefIdeal.nD Cert.BuDwRefIdeal.τ).loc Cert.BuDwRefIdeal.main_v4) = v0 c
          ∧ r.2.mem ((c.tc : Thread Cert.BuDwRefIdeal.nD Cert.BuDwRefIdeal.τ).loc Cert.BuDwRefIdeal.main_arg0) = m' ((c.tc : Thread Cert.BuDwRefIdeal.nD Cert.BuDwRefIdeal.τ).loc Cert.BuDwRefIdeal.main_arg0)
          ∧ r.2.mem ((c.tc : Thread Cert.BuDwRefIdeal.nD Cert.BuDwRefIdeal.τ).loc Cert.BuDwRefIdeal.main_arg1) = m' ((c.tc : Thread Cert.BuDwRefIdeal.nD Cert.BuDwRefIdeal.τ).loc Cert.BuDwRefIdeal.main_arg1))

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)) →
    ∃ (v0 : (c : Dev Cert.ScIdeal.nD) → Buf (Elt Ideal) ((c.tc : Thread Cert.ScIdeal.nD Cert.ScIdeal.τ).loc Cert.ScIdeal.main_v0)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v0) = v0 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v35) = v0 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1))

def preserves_ScB_ScBIdeal : Prop :=
  True

def algebraic_ScBIdeal_ScBRefIdeal [hScBIdeal : Cert.ScBIdeal.Facts] [hScBRefIdeal : Cert.ScBRefIdeal.Facts] : Prop :=
  ∀ (m : (ℓ : Loc Cert.ScBIdeal.nD Cert.ScBIdeal.τ Cert.ScBIdeal.sig) → Buf (Elt Ideal) ℓ) (g : Dev Cert.ScBIdeal.nD → PrngReg)
    (m' : (ℓ : Loc Cert.ScBRefIdeal.nD Cert.ScBRefIdeal.τ Cert.ScBRefIdeal.sig) → Buf (Elt Ideal) ℓ) (g' : Dev Cert.ScBRefIdeal.nD → PrngReg), Pre_ScBIdeal m →
    (∀ c : Dev Cert.ScBIdeal.nD,
      m' ((c.tc : Thread Cert.ScBRefIdeal.nD Cert.ScBRefIdeal.τ).loc Cert.ScBRefIdeal.main_arg0) = m ((c.tc : Thread Cert.ScBIdeal.nD Cert.ScBIdeal.τ).loc Cert.ScBIdeal.main_arg0)
      ∧ m' ((c.tc : Thread Cert.ScBRefIdeal.nD Cert.ScBRefIdeal.τ).loc Cert.ScBRefIdeal.main_arg1) = m ((c.tc : Thread Cert.ScBIdeal.nD Cert.ScBIdeal.τ).loc Cert.ScBIdeal.main_arg1)
      ∧ m' ((c.tc : Thread Cert.ScBRefIdeal.nD Cert.ScBRefIdeal.τ).loc Cert.ScBRefIdeal.main_arg2) = m ((c.tc : Thread Cert.ScBIdeal.nD Cert.ScBIdeal.τ).loc Cert.ScBIdeal.main_arg2)
      ∧ m' ((c.tc : Thread Cert.ScBRefIdeal.nD Cert.ScBRefIdeal.τ).loc Cert.ScBRefIdeal.main_arg3) = m ((c.tc : Thread Cert.ScBIdeal.nD Cert.ScBIdeal.τ).loc Cert.ScBIdeal.main_arg3)) →
    ∃ (v0 : (c : Dev Cert.ScBIdeal.nD) → Buf (Elt Ideal) ((c.tc : Thread Cert.ScBIdeal.nD Cert.ScBIdeal.τ).loc Cert.ScBIdeal.main_v0_0)) (v1 : (c : Dev Cert.ScBIdeal.nD) → Buf (Elt Ideal) ((c.tc : Thread Cert.ScBIdeal.nD Cert.ScBIdeal.τ).loc Cert.ScBIdeal.main_v0_1)),
      θ_run (Cert.ScBIdeal.defs (F := Ideal)) (onTc (τ := Cert.ScBIdeal.τ) (Cert.ScBIdeal.main (F := Ideal))) ⟨m, fun _ => 0, g⟩ (fun r => ∀ c : Dev Cert.ScBIdeal.nD,
          r.2.mem ((c.tc : Thread Cert.ScBIdeal.nD Cert.ScBIdeal.τ).loc Cert.ScBIdeal.main_v0_0) = v0 c
          ∧ r.2.mem ((c.tc : Thread Cert.ScBIdeal.nD Cert.ScBIdeal.τ).loc Cert.ScBIdeal.main_v0_1) = v1 c
          ∧ r.2.mem ((c.tc : Thread Cert.ScBIdeal.nD Cert.ScBIdeal.τ).loc Cert.ScBIdeal.main_arg0) = m ((c.tc : Thread Cert.ScBIdeal.nD Cert.ScBIdeal.τ).loc Cert.ScBIdeal.main_arg0)
          ∧ r.2.mem ((c.tc : Thread Cert.ScBIdeal.nD Cert.ScBIdeal.τ).loc Cert.ScBIdeal.main_arg1) = m ((c.tc : Thread Cert.ScBIdeal.nD Cert.ScBIdeal.τ).loc Cert.ScBIdeal.main_arg1)
          ∧ r.2.mem ((c.tc : Thread Cert.ScBIdeal.nD Cert.ScBIdeal.τ).loc Cert.ScBIdeal.main_arg2) = m ((c.tc : Thread Cert.ScBIdeal.nD Cert.ScBIdeal.τ).loc Cert.ScBIdeal.main_arg2)
          ∧ r.2.mem ((c.tc : Thread Cert.ScBIdeal.nD Cert.ScBIdeal.τ).loc Cert.ScBIdeal.main_arg3) = m ((c.tc : Thread Cert.ScBIdeal.nD Cert.ScBIdeal.τ).loc Cert.ScBIdeal.main_arg3))
      ∧ θ_run (Cert.ScBRefIdeal.defs (F := Ideal)) (onTc (τ := Cert.ScBRefIdeal.τ) (Cert.ScBRefIdeal.main (F := Ideal))) ⟨m', fun _ => 0, g'⟩ (fun r => ∀ c : Dev Cert.ScBRefIdeal.nD,
          r.2.mem ((c.tc : Thread Cert.ScBRefIdeal.nD Cert.ScBRefIdeal.τ).loc Cert.ScBRefIdeal.main_v84) = v0 c
          ∧ r.2.mem ((c.tc : Thread Cert.ScBRefIdeal.nD Cert.ScBRefIdeal.τ).loc Cert.ScBRefIdeal.main_v66) = v1 c
          ∧ r.2.mem ((c.tc : Thread Cert.ScBRefIdeal.nD Cert.ScBRefIdeal.τ).loc Cert.ScBRefIdeal.main_arg0) = m' ((c.tc : Thread Cert.ScBRefIdeal.nD Cert.ScBRefIdeal.τ).loc Cert.ScBRefIdeal.main_arg0)
          ∧ r.2.mem ((c.tc : Thread Cert.ScBRefIdeal.nD Cert.ScBRefIdeal.τ).loc Cert.ScBRefIdeal.main_arg1) = m' ((c.tc : Thread Cert.ScBRefIdeal.nD Cert.ScBRefIdeal.τ).loc Cert.ScBRefIdeal.main_arg1)
          ∧ r.2.mem ((c.tc : Thread Cert.ScBRefIdeal.nD Cert.ScBRefIdeal.τ).loc Cert.ScBRefIdeal.main_arg2) = m' ((c.tc : Thread Cert.ScBRefIdeal.nD Cert.ScBRefIdeal.τ).loc Cert.ScBRefIdeal.main_arg2)
          ∧ r.2.mem ((c.tc : Thread Cert.ScBRefIdeal.nD Cert.ScBRefIdeal.τ).loc Cert.ScBRefIdeal.main_arg3) = m' ((c.tc : Thread Cert.ScBRefIdeal.nD Cert.ScBRefIdeal.τ).loc Cert.ScBRefIdeal.main_arg3))

def preserves_M2c_M2cIdeal : Prop :=
  True

def algebraic_M2cIdeal_M2cRefIdeal [hM2cIdeal : Cert.M2cIdeal.Facts] [hM2cRefIdeal : Cert.M2cRefIdeal.Facts] : Prop :=
  ∀ (m : (ℓ : Loc Cert.M2cIdeal.nD Cert.M2cIdeal.τ Cert.M2cIdeal.sig) → Buf (Elt Ideal) ℓ) (g : Dev Cert.M2cIdeal.nD → PrngReg)
    (m' : (ℓ : Loc Cert.M2cRefIdeal.nD Cert.M2cRefIdeal.τ Cert.M2cRefIdeal.sig) → Buf (Elt Ideal) ℓ) (g' : Dev Cert.M2cRefIdeal.nD → PrngReg), Pre_M2cIdeal m →
    (∀ c : Dev Cert.M2cIdeal.nD,
      m' ((c.tc : Thread Cert.M2cRefIdeal.nD Cert.M2cRefIdeal.τ).loc Cert.M2cRefIdeal.main_arg0) = m ((c.tc : Thread Cert.M2cIdeal.nD Cert.M2cIdeal.τ).loc Cert.M2cIdeal.main_arg0)
      ∧ m' ((c.tc : Thread Cert.M2cRefIdeal.nD Cert.M2cRefIdeal.τ).loc Cert.M2cRefIdeal.main_arg1) = m ((c.tc : Thread Cert.M2cIdeal.nD Cert.M2cIdeal.τ).loc Cert.M2cIdeal.main_arg1)
      ∧ m' ((c.tc : Thread Cert.M2cRefIdeal.nD Cert.M2cRefIdeal.τ).loc Cert.M2cRefIdeal.main_arg2) = m ((c.tc : Thread Cert.M2cIdeal.nD Cert.M2cIdeal.τ).loc Cert.M2cIdeal.main_arg2)) →
    ∃ (v0 : (c : Dev Cert.M2cIdeal.nD) → Buf (Elt Ideal) ((c.tc : Thread Cert.M2cIdeal.nD Cert.M2cIdeal.τ).loc Cert.M2cIdeal.main_v1)),
      θ_run (Cert.M2cIdeal.defs (F := Ideal)) (onTc (τ := Cert.M2cIdeal.τ) (Cert.M2cIdeal.main (F := Ideal))) ⟨m, fun _ => 0, g⟩ (fun r => ∀ c : Dev Cert.M2cIdeal.nD,
          r.2.mem ((c.tc : Thread Cert.M2cIdeal.nD Cert.M2cIdeal.τ).loc Cert.M2cIdeal.main_v1) = v0 c
          ∧ r.2.mem ((c.tc : Thread Cert.M2cIdeal.nD Cert.M2cIdeal.τ).loc Cert.M2cIdeal.main_arg0) = m ((c.tc : Thread Cert.M2cIdeal.nD Cert.M2cIdeal.τ).loc Cert.M2cIdeal.main_arg0)
          ∧ r.2.mem ((c.tc : Thread Cert.M2cIdeal.nD Cert.M2cIdeal.τ).loc Cert.M2cIdeal.main_arg1) = m ((c.tc : Thread Cert.M2cIdeal.nD Cert.M2cIdeal.τ).loc Cert.M2cIdeal.main_arg1)
          ∧ r.2.mem ((c.tc : Thread Cert.M2cIdeal.nD Cert.M2cIdeal.τ).loc Cert.M2cIdeal.main_arg2) = m ((c.tc : Thread Cert.M2cIdeal.nD Cert.M2cIdeal.τ).loc Cert.M2cIdeal.main_arg2))
      ∧ θ_run (Cert.M2cRefIdeal.defs (F := Ideal)) (onTc (τ := Cert.M2cRefIdeal.τ) (Cert.M2cRefIdeal.main (F := Ideal))) ⟨m', fun _ => 0, g'⟩ (fun r => ∀ c : Dev Cert.M2cRefIdeal.nD,
          r.2.mem ((c.tc : Thread Cert.M2cRefIdeal.nD Cert.M2cRefIdeal.τ).loc Cert.M2cRefIdeal.main_v26) = v0 c
          ∧ r.2.mem ((c.tc : Thread Cert.M2cRefIdeal.nD Cert.M2cRefIdeal.τ).loc Cert.M2cRefIdeal.main_arg0) = m' ((c.tc : Thread Cert.M2cRefIdeal.nD Cert.M2cRefIdeal.τ).loc Cert.M2cRefIdeal.main_arg0)
          ∧ r.2.mem ((c.tc : Thread Cert.M2cRefIdeal.nD Cert.M2cRefIdeal.τ).loc Cert.M2cRefIdeal.main_arg1) = m' ((c.tc : Thread Cert.M2cRefIdeal.nD Cert.M2cRefIdeal.τ).loc Cert.M2cRefIdeal.main_arg1)
          ∧ r.2.mem ((c.tc : Thread Cert.M2cRefIdeal.nD Cert.M2cRefIdeal.τ).loc Cert.M2cRefIdeal.main_arg2) = m' ((c.tc : Thread Cert.M2cRefIdeal.nD Cert.M2cRefIdeal.τ).loc Cert.M2cRefIdeal.main_arg2))

def preserves_M2cB_M2cBIdeal : Prop :=
  True

def algebraic_M2cBIdeal_M2cBRefIdeal [hM2cBIdeal : Cert.M2cBIdeal.Facts] [hM2cBRefIdeal : Cert.M2cBRefIdeal.Facts] : Prop :=
  ∀ (m : (ℓ : Loc Cert.M2cBIdeal.nD Cert.M2cBIdeal.τ Cert.M2cBIdeal.sig) → Buf (Elt Ideal) ℓ) (g : Dev Cert.M2cBIdeal.nD → PrngReg)
    (m' : (ℓ : Loc Cert.M2cBRefIdeal.nD Cert.M2cBRefIdeal.τ Cert.M2cBRefIdeal.sig) → Buf (Elt Ideal) ℓ) (g' : Dev Cert.M2cBRefIdeal.nD → PrngReg), Pre_M2cBIdeal m →
    (∀ c : Dev Cert.M2cBIdeal.nD,
      m' ((c.tc : Thread Cert.M2cBRefIdeal.nD Cert.M2cBRefIdeal.τ).loc Cert.M2cBRefIdeal.main_arg0) = m ((c.tc : Thread Cert.M2cBIdeal.nD Cert.M2cBIdeal.τ).loc Cert.M2cBIdeal.main_arg0)
      ∧ m' ((c.tc : Thread Cert.M2cBRefIdeal.nD Cert.M2cBRefIdeal.τ).loc Cert.M2cBRefIdeal.main_arg1) = m ((c.tc : Thread Cert.M2cBIdeal.nD Cert.M2cBIdeal.τ).loc Cert.M2cBIdeal.main_arg1)
      ∧ m' ((c.tc : Thread Cert.M2cBRefIdeal.nD Cert.M2cBRefIdeal.τ).loc Cert.M2cBRefIdeal.main_arg2) = m ((c.tc : Thread Cert.M2cBIdeal.nD Cert.M2cBIdeal.τ).loc Cert.M2cBIdeal.main_arg2)
      ∧ m' ((c.tc : Thread Cert.M2cBRefIdeal.nD Cert.M2cBRefIdeal.τ).loc Cert.M2cBRefIdeal.main_arg3) = m ((c.tc : Thread Cert.M2cBIdeal.nD Cert.M2cBIdeal.τ).loc Cert.M2cBIdeal.main_arg3)
      ∧ m' ((c.tc : Thread Cert.M2cBRefIdeal.nD Cert.M2cBRefIdeal.τ).loc Cert.M2cBRefIdeal.main_arg4) = m ((c.tc : Thread Cert.M2cBIdeal.nD Cert.M2cBIdeal.τ).loc Cert.M2cBIdeal.main_arg4)) →
    ∃ (v0 : (c : Dev Cert.M2cBIdeal.nD) → Buf (Elt Ideal) ((c.tc : Thread Cert.M2cBIdeal.nD Cert.M2cBIdeal.τ).loc Cert.M2cBIdeal.main_v1_0)) (v1 : (c : Dev Cert.M2cBIdeal.nD) → Buf (Elt Ideal) ((c.tc : Thread Cert.M2cBIdeal.nD Cert.M2cBIdeal.τ).loc Cert.M2cBIdeal.main_v1_1)) (v2 : (c : Dev Cert.M2cBIdeal.nD) → Buf (Elt Ideal) ((c.tc : Thread Cert.M2cBIdeal.nD Cert.M2cBIdeal.τ).loc Cert.M2cBIdeal.main_v1_2)),
      θ_run (Cert.M2cBIdeal.defs (F := Ideal)) (onTc (τ := Cert.M2cBIdeal.τ) (Cert.M2cBIdeal.main (F := Ideal))) ⟨m, fun _ => 0, g⟩ (fun r => ∀ c : Dev Cert.M2cBIdeal.nD,
          r.2.mem ((c.tc : Thread Cert.M2cBIdeal.nD Cert.M2cBIdeal.τ).loc Cert.M2cBIdeal.main_v1_0) = v0 c
          ∧ r.2.mem ((c.tc : Thread Cert.M2cBIdeal.nD Cert.M2cBIdeal.τ).loc Cert.M2cBIdeal.main_v1_1) = v1 c
          ∧ r.2.mem ((c.tc : Thread Cert.M2cBIdeal.nD Cert.M2cBIdeal.τ).loc Cert.M2cBIdeal.main_v1_2) = v2 c
          ∧ r.2.mem ((c.tc : Thread Cert.M2cBIdeal.nD Cert.M2cBIdeal.τ).loc Cert.M2cBIdeal.main_arg0) = m ((c.tc : Thread Cert.M2cBIdeal.nD Cert.M2cBIdeal.τ).loc Cert.M2cBIdeal.main_arg0)
          ∧ r.2.mem ((c.tc : Thread Cert.M2cBIdeal.nD Cert.M2cBIdeal.τ).loc Cert.M2cBIdeal.main_arg1) = m ((c.tc : Thread Cert.M2cBIdeal.nD Cert.M2cBIdeal.τ).loc Cert.M2cBIdeal.main_arg1)
          ∧ r.2.mem ((c.tc : Thread Cert.M2cBIdeal.nD Cert.M2cBIdeal.τ).loc Cert.M2cBIdeal.main_arg2) = m ((c.tc : Thread Cert.M2cBIdeal.nD Cert.M2cBIdeal.τ).loc Cert.M2cBIdeal.main_arg2)
          ∧ r.2.mem ((c.tc : Thread Cert.M2cBIdeal.nD Cert.M2cBIdeal.τ).loc Cert.M2cBIdeal.main_arg3) = m ((c.tc : Thread Cert.M2cBIdeal.nD Cert.M2cBIdeal.τ).loc Cert.M2cBIdeal.main_arg3)
          ∧ r.2.mem ((c.tc : Thread Cert.M2cBIdeal.nD Cert.M2cBIdeal.τ).loc Cert.M2cBIdeal.main_arg4) = m ((c.tc : Thread Cert.M2cBIdeal.nD Cert.M2cBIdeal.τ).loc Cert.M2cBIdeal.main_arg4))
      ∧ θ_run (Cert.M2cBRefIdeal.defs (F := Ideal)) (onTc (τ := Cert.M2cBRefIdeal.τ) (Cert.M2cBRefIdeal.main (F := Ideal))) ⟨m', fun _ => 0, g'⟩ (fun r => ∀ c : Dev Cert.M2cBRefIdeal.nD,
          r.2.mem ((c.tc : Thread Cert.M2cBRefIdeal.nD Cert.M2cBRefIdeal.τ).loc Cert.M2cBRefIdeal.main_v71) = v0 c
          ∧ r.2.mem ((c.tc : Thread Cert.M2cBRefIdeal.nD Cert.M2cBRefIdeal.τ).loc Cert.M2cBRefIdeal.main_v65) = v1 c
          ∧ r.2.mem ((c.tc : Thread Cert.M2cBRefIdeal.nD Cert.M2cBRefIdeal.τ).loc Cert.M2cBRefIdeal.main_v72) = v2 c
          ∧ r.2.mem ((c.tc : Thread Cert.M2cBRefIdeal.nD Cert.M2cBRefIdeal.τ).loc Cert.M2cBRefIdeal.main_arg0) = m' ((c.tc : Thread Cert.M2cBRefIdeal.nD Cert.M2cBRefIdeal.τ).loc Cert.M2cBRefIdeal.main_arg0)
          ∧ r.2.mem ((c.tc : Thread Cert.M2cBRefIdeal.nD Cert.M2cBRefIdeal.τ).loc Cert.M2cBRefIdeal.main_arg1) = m' ((c.tc : Thread Cert.M2cBRefIdeal.nD Cert.M2cBRefIdeal.τ).loc Cert.M2cBRefIdeal.main_arg1)
          ∧ r.2.mem ((c.tc : Thread Cert.M2cBRefIdeal.nD Cert.M2cBRefIdeal.τ).loc Cert.M2cBRefIdeal.main_arg2) = m' ((c.tc : Thread Cert.M2cBRefIdeal.nD Cert.M2cBRefIdeal.τ).loc Cert.M2cBRefIdeal.main_arg2)
          ∧ r.2.mem ((c.tc : Thread Cert.M2cBRefIdeal.nD Cert.M2cBRefIdeal.τ).loc Cert.M2cBRefIdeal.main_arg3) = m' ((c.tc : Thread Cert.M2cBRefIdeal.nD Cert.M2cBRefIdeal.τ).loc Cert.M2cBRefIdeal.main_arg3)
          ∧ r.2.mem ((c.tc : Thread Cert.M2cBRefIdeal.nD Cert.M2cBRefIdeal.τ).loc Cert.M2cBRefIdeal.main_arg4) = m' ((c.tc : Thread Cert.M2cBRefIdeal.nD Cert.M2cBRefIdeal.τ).loc Cert.M2cBRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v29) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v67) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RmsB_RmsBIdeal : Prop :=
  True

def algebraic_RmsBIdeal_RmsBRefIdeal [hRmsBIdeal : Cert.RmsBIdeal.Facts] [hRmsBRefIdeal : Cert.RmsBRefIdeal.Facts] : Prop :=
  ∀ (m : (ℓ : Loc Cert.RmsBIdeal.nD Cert.RmsBIdeal.τ Cert.RmsBIdeal.sig) → Buf (Elt Ideal) ℓ) (g : Dev Cert.RmsBIdeal.nD → PrngReg)
    (m' : (ℓ : Loc Cert.RmsBRefIdeal.nD Cert.RmsBRefIdeal.τ Cert.RmsBRefIdeal.sig) → Buf (Elt Ideal) ℓ) (g' : Dev Cert.RmsBRefIdeal.nD → PrngReg), Pre_RmsBIdeal m →
    (∀ c : Dev Cert.RmsBIdeal.nD,
      m' ((c.tc : Thread Cert.RmsBRefIdeal.nD Cert.RmsBRefIdeal.τ).loc Cert.RmsBRefIdeal.main_arg0) = m ((c.tc : Thread Cert.RmsBIdeal.nD Cert.RmsBIdeal.τ).loc Cert.RmsBIdeal.main_arg0)
      ∧ m' ((c.tc : Thread Cert.RmsBRefIdeal.nD Cert.RmsBRefIdeal.τ).loc Cert.RmsBRefIdeal.main_arg1) = m ((c.tc : Thread Cert.RmsBIdeal.nD Cert.RmsBIdeal.τ).loc Cert.RmsBIdeal.main_arg1)
      ∧ m' ((c.tc : Thread Cert.RmsBRefIdeal.nD Cert.RmsBRefIdeal.τ).loc Cert.RmsBRefIdeal.main_arg2) = m ((c.tc : Thread Cert.RmsBIdeal.nD Cert.RmsBIdeal.τ).loc Cert.RmsBIdeal.main_arg2)
      ∧ m' ((c.tc : Thread Cert.RmsBRefIdeal.nD Cert.RmsBRefIdeal.τ).loc Cert.RmsBRefIdeal.main_arg3) = m ((c.tc : Thread Cert.RmsBIdeal.nD Cert.RmsBIdeal.τ).loc Cert.RmsBIdeal.main_arg3)) →
    ∃ (v0 : (c : Dev Cert.RmsBIdeal.nD) → Buf (Elt Ideal) ((c.tc : Thread Cert.RmsBIdeal.nD Cert.RmsBIdeal.τ).loc Cert.RmsBIdeal.main_v1_0)) (v1 : (c : Dev Cert.RmsBIdeal.nD) → Buf (Elt Ideal) ((c.tc : Thread Cert.RmsBIdeal.nD Cert.RmsBIdeal.τ).loc Cert.RmsBIdeal.main_v1_1)),
      θ_run (Cert.RmsBIdeal.defs (F := Ideal)) (onTc (τ := Cert.RmsBIdeal.τ) (Cert.RmsBIdeal.main (F := Ideal))) ⟨m, fun _ => 0, g⟩ (fun r => ∀ c : Dev Cert.RmsBIdeal.nD,
          r.2.mem ((c.tc : Thread Cert.RmsBIdeal.nD Cert.RmsBIdeal.τ).loc Cert.RmsBIdeal.main_v1_0) = v0 c
          ∧ r.2.mem ((c.tc : Thread Cert.RmsBIdeal.nD Cert.RmsBIdeal.τ).loc Cert.RmsBIdeal.main_v1_1) = v1 c
          ∧ r.2.mem ((c.tc : Thread Cert.RmsBIdeal.nD Cert.RmsBIdeal.τ).loc Cert.RmsBIdeal.main_arg0) = m ((c.tc : Thread Cert.RmsBIdeal.nD Cert.RmsBIdeal.τ).loc Cert.RmsBIdeal.main_arg0)
          ∧ r.2.mem ((c.tc : Thread Cert.RmsBIdeal.nD Cert.RmsBIdeal.τ).loc Cert.RmsBIdeal.main_arg1) = m ((c.tc : Thread Cert.RmsBIdeal.nD Cert.RmsBIdeal.τ).loc Cert.RmsBIdeal.main_arg1)
          ∧ r.2.mem ((c.tc : Thread Cert.RmsBIdeal.nD Cert.RmsBIdeal.τ).loc Cert.RmsBIdeal.main_arg2) = m ((c.tc : Thread Cert.RmsBIdeal.nD Cert.RmsBIdeal.τ).loc Cert.RmsBIdeal.main_arg2)
          ∧ r.2.mem ((c.tc : Thread Cert.RmsBIdeal.nD Cert.RmsBIdeal.τ).loc Cert.RmsBIdeal.main_arg3) = m ((c.tc : Thread Cert.RmsBIdeal.nD Cert.RmsBIdeal.τ).loc Cert.RmsBIdeal.main_arg3))
      ∧ θ_run (Cert.RmsBRefIdeal.defs (F := Ideal)) (onTc (τ := Cert.RmsBRefIdeal.τ) (Cert.RmsBRefIdeal.main (F := Ideal))) ⟨m', fun _ => 0, g'⟩ (fun r => ∀ c : Dev Cert.RmsBRefIdeal.nD,
          r.2.mem ((c.tc : Thread Cert.RmsBRefIdeal.nD Cert.RmsBRefIdeal.τ).loc Cert.RmsBRefIdeal.main_v36) = v0 c
          ∧ r.2.mem ((c.tc : Thread Cert.RmsBRefIdeal.nD Cert.RmsBRefIdeal.τ).loc Cert.RmsBRefIdeal.main_v37) = v1 c
          ∧ r.2.mem ((c.tc : Thread Cert.RmsBRefIdeal.nD Cert.RmsBRefIdeal.τ).loc Cert.RmsBRefIdeal.main_arg0) = m' ((c.tc : Thread Cert.RmsBRefIdeal.nD Cert.RmsBRefIdeal.τ).loc Cert.RmsBRefIdeal.main_arg0)
          ∧ r.2.mem ((c.tc : Thread Cert.RmsBRefIdeal.nD Cert.RmsBRefIdeal.τ).loc Cert.RmsBRefIdeal.main_arg1) = m' ((c.tc : Thread Cert.RmsBRefIdeal.nD Cert.RmsBRefIdeal.τ).loc Cert.RmsBRefIdeal.main_arg1)
          ∧ r.2.mem ((c.tc : Thread Cert.RmsBRefIdeal.nD Cert.RmsBRefIdeal.τ).loc Cert.RmsBRefIdeal.main_arg2) = m' ((c.tc : Thread Cert.RmsBRefIdeal.nD Cert.RmsBRefIdeal.τ).loc Cert.RmsBRefIdeal.main_arg2)
          ∧ r.2.mem ((c.tc : Thread Cert.RmsBRefIdeal.nD Cert.RmsBRefIdeal.τ).loc Cert.RmsBRefIdeal.main_arg3) = m' ((c.tc : Thread Cert.RmsBRefIdeal.nD Cert.RmsBRefIdeal.τ).loc Cert.RmsBRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AWin_AWinIdeal : Prop :=
  True

def algebraic_AWinIdeal_AWinRefIdeal [hAWinIdeal : Cert.AWinIdeal.Facts] [hAWinRefIdeal : Cert.AWinRefIdeal.Facts] : Prop :=
  ∀ (m : (ℓ : Loc Cert.AWinIdeal.nD Cert.AWinIdeal.τ Cert.AWinIdeal.sig) → Buf (Elt Ideal) ℓ) (g : Dev Cert.AWinIdeal.nD → PrngReg)
    (m' : (ℓ : Loc Cert.AWinRefIdeal.nD Cert.AWinRefIdeal.τ Cert.AWinRefIdeal.sig) → Buf (Elt Ideal) ℓ) (g' : Dev Cert.AWinRefIdeal.nD → PrngReg), Pre_AWinIdeal m →
    (∀ c : Dev Cert.AWinIdeal.nD,
      m' ((c.tc : Thread Cert.AWinRefIdeal.nD Cert.AWinRefIdeal.τ).loc Cert.AWinRefIdeal.main_arg0) = m ((c.tc : Thread Cert.AWinIdeal.nD Cert.AWinIdeal.τ).loc Cert.AWinIdeal.main_arg0)
      ∧ m' ((c.tc : Thread Cert.AWinRefIdeal.nD Cert.AWinRefIdeal.τ).loc Cert.AWinRefIdeal.main_arg1) = m ((c.tc : Thread Cert.AWinIdeal.nD Cert.AWinIdeal.τ).loc Cert.AWinIdeal.main_arg1)
      ∧ m' ((c.tc : Thread Cert.AWinRefIdeal.nD Cert.AWinRefIdeal.τ).loc Cert.AWinRefIdeal.main_arg2) = m ((c.tc : Thread Cert.AWinIdeal.nD Cert.AWinIdeal.τ).loc Cert.AWinIdeal.main_arg2)
      ∧ m' ((c.tc : Thread Cert.AWinRefIdeal.nD Cert.AWinRefIdeal.τ).loc Cert.AWinRefIdeal.main_arg3) = m ((c.tc : Thread Cert.AWinIdeal.nD Cert.AWinIdeal.τ).loc Cert.AWinIdeal.main_arg3)) →
    ∃ (v0 : (c : Dev Cert.AWinIdeal.nD) → Buf (Elt Ideal) ((c.tc : Thread Cert.AWinIdeal.nD Cert.AWinIdeal.τ).loc Cert.AWinIdeal.main_v0_0)) (v1 : (c : Dev Cert.AWinIdeal.nD) → Buf (Elt Ideal) ((c.tc : Thread Cert.AWinIdeal.nD Cert.AWinIdeal.τ).loc Cert.AWinIdeal.main_v0_1)) (v2 : (c : Dev Cert.AWinIdeal.nD) → Buf (Elt Ideal) ((c.tc : Thread Cert.AWinIdeal.nD Cert.AWinIdeal.τ).loc Cert.AWinIdeal.main_v0_2)),
      θ_run (Cert.AWinIdeal.defs (F := Ideal)) (onTc (τ := Cert.AWinIdeal.τ) (Cert.AWinIdeal.main (F := Ideal))) ⟨m, fun _ => 0, g⟩ (fun r => ∀ c : Dev Cert.AWinIdeal.nD,
          r.2.mem ((c.tc : Thread Cert.AWinIdeal.nD Cert.AWinIdeal.τ).loc Cert.AWinIdeal.main_v0_0) = v0 c
          ∧ r.2.mem ((c.tc : Thread Cert.AWinIdeal.nD Cert.AWinIdeal.τ).loc Cert.AWinIdeal.main_v0_1) = v1 c
          ∧ r.2.mem ((c.tc : Thread Cert.AWinIdeal.nD Cert.AWinIdeal.τ).loc Cert.AWinIdeal.main_v0_2) = v2 c
          ∧ r.2.mem ((c.tc : Thread Cert.AWinIdeal.nD Cert.AWinIdeal.τ).loc Cert.AWinIdeal.main_arg0) = m ((c.tc : Thread Cert.AWinIdeal.nD Cert.AWinIdeal.τ).loc Cert.AWinIdeal.main_arg0)
          ∧ r.2.mem ((c.tc : Thread Cert.AWinIdeal.nD Cert.AWinIdeal.τ).loc Cert.AWinIdeal.main_arg1) = m ((c.tc : Thread Cert.AWinIdeal.nD Cert.AWinIdeal.τ).loc Cert.AWinIdeal.main_arg1)
          ∧ r.2.mem ((c.tc : Thread Cert.AWinIdeal.nD Cert.AWinIdeal.τ).loc Cert.AWinIdeal.main_arg2) = m ((c.tc : Thread Cert.AWinIdeal.nD Cert.AWinIdeal.τ).loc Cert.AWinIdeal.main_arg2)
          ∧ r.2.mem ((c.tc : Thread Cert.AWinIdeal.nD Cert.AWinIdeal.τ).loc Cert.AWinIdeal.main_arg3) = m ((c.tc : Thread Cert.AWinIdeal.nD Cert.AWinIdeal.τ).loc Cert.AWinIdeal.main_arg3))
      ∧ θ_run (Cert.AWinRefIdeal.defs (F := Ideal)) (onTc (τ := Cert.AWinRefIdeal.τ) (Cert.AWinRefIdeal.main (F := Ideal))) ⟨m', fun _ => 0, g'⟩ (fun r => ∀ c : Dev Cert.AWinRefIdeal.nD,
          r.2.mem ((c.tc : Thread Cert.AWinRefIdeal.nD Cert.AWinRefIdeal.τ).loc Cert.AWinRefIdeal.main_v23) = v0 c
          ∧ r.2.mem ((c.tc : Thread Cert.AWinRefIdeal.nD Cert.AWinRefIdeal.τ).loc Cert.AWinRefIdeal.main_v4) = v1 c
          ∧ r.2.mem ((c.tc : Thread Cert.AWinRefIdeal.nD Cert.AWinRefIdeal.τ).loc Cert.AWinRefIdeal.main_v10) = v2 c
          ∧ r.2.mem ((c.tc : Thread Cert.AWinRefIdeal.nD Cert.AWinRefIdeal.τ).loc Cert.AWinRefIdeal.main_arg0) = m' ((c.tc : Thread Cert.AWinRefIdeal.nD Cert.AWinRefIdeal.τ).loc Cert.AWinRefIdeal.main_arg0)
          ∧ r.2.mem ((c.tc : Thread Cert.AWinRefIdeal.nD Cert.AWinRefIdeal.τ).loc Cert.AWinRefIdeal.main_arg1) = m' ((c.tc : Thread Cert.AWinRefIdeal.nD Cert.AWinRefIdeal.τ).loc Cert.AWinRefIdeal.main_arg1)
          ∧ r.2.mem ((c.tc : Thread Cert.AWinRefIdeal.nD Cert.AWinRefIdeal.τ).loc Cert.AWinRefIdeal.main_arg2) = m' ((c.tc : Thread Cert.AWinRefIdeal.nD Cert.AWinRefIdeal.τ).loc Cert.AWinRefIdeal.main_arg2)
          ∧ r.2.mem ((c.tc : Thread Cert.AWinRefIdeal.nD Cert.AWinRefIdeal.τ).loc Cert.AWinRefIdeal.main_arg3) = m' ((c.tc : Thread Cert.AWinRefIdeal.nD Cert.AWinRefIdeal.τ).loc Cert.AWinRefIdeal.main_arg3))

def preserves_AWbr_AWbrIdeal : Prop :=
  True

def algebraic_AWbrIdeal_AWbrRefIdeal [hAWbrIdeal : Cert.AWbrIdeal.Facts] [hAWbrRefIdeal : Cert.AWbrRefIdeal.Facts] : Prop :=
  ∀ (m : (ℓ : Loc Cert.AWbrIdeal.nD Cert.AWbrIdeal.τ Cert.AWbrIdeal.sig) → Buf (Elt Ideal) ℓ) (g : Dev Cert.AWbrIdeal.nD → PrngReg)
    (m' : (ℓ : Loc Cert.AWbrRefIdeal.nD Cert.AWbrRefIdeal.τ Cert.AWbrRefIdeal.sig) → Buf (Elt Ideal) ℓ) (g' : Dev Cert.AWbrRefIdeal.nD → PrngReg), Pre_AWbrIdeal m →
    (∀ c : Dev Cert.AWbrIdeal.nD,
      m' ((c.tc : Thread Cert.AWbrRefIdeal.nD Cert.AWbrRefIdeal.τ).loc Cert.AWbrRefIdeal.main_arg0) = m ((c.tc : Thread Cert.AWbrIdeal.nD Cert.AWbrIdeal.τ).loc Cert.AWbrIdeal.main_arg0)
      ∧ m' ((c.tc : Thread Cert.AWbrRefIdeal.nD Cert.AWbrRefIdeal.τ).loc Cert.AWbrRefIdeal.main_arg1) = m ((c.tc : Thread Cert.AWbrIdeal.nD Cert.AWbrIdeal.τ).loc Cert.AWbrIdeal.main_arg1)
      ∧ m' ((c.tc : Thread Cert.AWbrRefIdeal.nD Cert.AWbrRefIdeal.τ).loc Cert.AWbrRefIdeal.main_arg2) = m ((c.tc : Thread Cert.AWbrIdeal.nD Cert.AWbrIdeal.τ).loc Cert.AWbrIdeal.main_arg2)
      ∧ m' ((c.tc : Thread Cert.AWbrRefIdeal.nD Cert.AWbrRefIdeal.τ).loc Cert.AWbrRefIdeal.main_arg3) = m ((c.tc : Thread Cert.AWbrIdeal.nD Cert.AWbrIdeal.τ).loc Cert.AWbrIdeal.main_arg3)) →
    ∃ (v0 : (c : Dev Cert.AWbrIdeal.nD) → Buf (Elt Ideal) ((c.tc : Thread Cert.AWbrIdeal.nD Cert.AWbrIdeal.τ).loc Cert.AWbrIdeal.main_v0_0)) (v1 : (c : Dev Cert.AWbrIdeal.nD) → Buf (Elt Ideal) ((c.tc : Thread Cert.AWbrIdeal.nD Cert.AWbrIdeal.τ).loc Cert.AWbrIdeal.main_v0_1)) (v2 : (c : Dev Cert.AWbrIdeal.nD) → Buf (Elt Ideal) ((c.tc : Thread Cert.AWbrIdeal.nD Cert.AWbrIdeal.τ).loc Cert.AWbrIdeal.main_v0_2)),
      θ_run (Cert.AWbrIdeal.defs (F := Ideal)) (onTc (τ := Cert.AWbrIdeal.τ) (Cert.AWbrIdeal.main (F := Ideal))) ⟨m, fun _ => 0, g⟩ (fun r => ∀ c : Dev Cert.AWbrIdeal.nD,
          r.2.mem ((c.tc : Thread Cert.AWbrIdeal.nD Cert.AWbrIdeal.τ).loc Cert.AWbrIdeal.main_v0_0) = v0 c
          ∧ r.2.mem ((c.tc : Thread Cert.AWbrIdeal.nD Cert.AWbrIdeal.τ).loc Cert.AWbrIdeal.main_v0_1) = v1 c
          ∧ r.2.mem ((c.tc : Thread Cert.AWbrIdeal.nD Cert.AWbrIdeal.τ).loc Cert.AWbrIdeal.main_v0_2) = v2 c
          ∧ r.2.mem ((c.tc : Thread Cert.AWbrIdeal.nD Cert.AWbrIdeal.τ).loc Cert.AWbrIdeal.main_arg0) = m ((c.tc : Thread Cert.AWbrIdeal.nD Cert.AWbrIdeal.τ).loc Cert.AWbrIdeal.main_arg0)
          ∧ r.2.mem ((c.tc : Thread Cert.AWbrIdeal.nD Cert.AWbrIdeal.τ).loc Cert.AWbrIdeal.main_arg1) = m ((c.tc : Thread Cert.AWbrIdeal.nD Cert.AWbrIdeal.τ).loc Cert.AWbrIdeal.main_arg1)
          ∧ r.2.mem ((c.tc : Thread Cert.AWbrIdeal.nD Cert.AWbrIdeal.τ).loc Cert.AWbrIdeal.main_arg2) = m ((c.tc : Thread Cert.AWbrIdeal.nD Cert.AWbrIdeal.τ).loc Cert.AWbrIdeal.main_arg2)
          ∧ r.2.mem ((c.tc : Thread Cert.AWbrIdeal.nD Cert.AWbrIdeal.τ).loc Cert.AWbrIdeal.main_arg3) = m ((c.tc : Thread Cert.AWbrIdeal.nD Cert.AWbrIdeal.τ).loc Cert.AWbrIdeal.main_arg3))
      ∧ θ_run (Cert.AWbrRefIdeal.defs (F := Ideal)) (onTc (τ := Cert.AWbrRefIdeal.τ) (Cert.AWbrRefIdeal.main (F := Ideal))) ⟨m', fun _ => 0, g'⟩ (fun r => ∀ c : Dev Cert.AWbrRefIdeal.nD,
          r.2.mem ((c.tc : Thread Cert.AWbrRefIdeal.nD Cert.AWbrRefIdeal.τ).loc Cert.AWbrRefIdeal.main_v23) = v0 c
          ∧ r.2.mem ((c.tc : Thread Cert.AWbrRefIdeal.nD Cert.AWbrRefIdeal.τ).loc Cert.AWbrRefIdeal.main_v4) = v1 c
          ∧ r.2.mem ((c.tc : Thread Cert.AWbrRefIdeal.nD Cert.AWbrRefIdeal.τ).loc Cert.AWbrRefIdeal.main_v10) = v2 c
          ∧ r.2.mem ((c.tc : Thread Cert.AWbrRefIdeal.nD Cert.AWbrRefIdeal.τ).loc Cert.AWbrRefIdeal.main_arg0) = m' ((c.tc : Thread Cert.AWbrRefIdeal.nD Cert.AWbrRefIdeal.τ).loc Cert.AWbrRefIdeal.main_arg0)
          ∧ r.2.mem ((c.tc : Thread Cert.AWbrRefIdeal.nD Cert.AWbrRefIdeal.τ).loc Cert.AWbrRefIdeal.main_arg1) = m' ((c.tc : Thread Cert.AWbrRefIdeal.nD Cert.AWbrRefIdeal.τ).loc Cert.AWbrRefIdeal.main_arg1)
          ∧ r.2.mem ((c.tc : Thread Cert.AWbrRefIdeal.nD Cert.AWbrRefIdeal.τ).loc Cert.AWbrRefIdeal.main_arg2) = m' ((c.tc : Thread Cert.AWbrRefIdeal.nD Cert.AWbrRefIdeal.τ).loc Cert.AWbrRefIdeal.main_arg2)
          ∧ r.2.mem ((c.tc : Thread Cert.AWbrRefIdeal.nD Cert.AWbrRefIdeal.τ).loc Cert.AWbrRefIdeal.main_arg3) = m' ((c.tc : Thread Cert.AWbrRefIdeal.nD Cert.AWbrRefIdeal.τ).loc Cert.AWbrRefIdeal.main_arg3))

def preserves_AWout_AWoutIdeal : Prop :=
  True

def algebraic_AWoutIdeal_AWoutRefIdeal [hAWoutIdeal : Cert.AWoutIdeal.Facts] [hAWoutRefIdeal : Cert.AWoutRefIdeal.Facts] : Prop :=
  ∀ (m : (ℓ : Loc Cert.AWoutIdeal.nD Cert.AWoutIdeal.τ Cert.AWoutIdeal.sig) → Buf (Elt Ideal) ℓ) (g : Dev Cert.AWoutIdeal.nD → PrngReg)
    (m' : (ℓ : Loc Cert.AWoutRefIdeal.nD Cert.AWoutRefIdeal.τ Cert.AWoutRefIdeal.sig) → Buf (Elt Ideal) ℓ) (g' : Dev Cert.AWoutRefIdeal.nD → PrngReg), Pre_AWoutIdeal m →
    (∀ c : Dev Cert.AWoutIdeal.nD,
      m' ((c.tc : Thread Cert.AWoutRefIdeal.nD Cert.AWoutRefIdeal.τ).loc Cert.AWoutRefIdeal.main_arg0) = m ((c.tc : Thread Cert.AWoutIdeal.nD Cert.AWoutIdeal.τ).loc Cert.AWoutIdeal.main_arg0)
      ∧ m' ((c.tc : Thread Cert.AWoutRefIdeal.nD Cert.AWoutRefIdeal.τ).loc Cert.AWoutRefIdeal.main_arg1) = m ((c.tc : Thread Cert.AWoutIdeal.nD Cert.AWoutIdeal.τ).loc Cert.AWoutIdeal.main_arg1)
      ∧ m' ((c.tc : Thread Cert.AWoutRefIdeal.nD Cert.AWoutRefIdeal.τ).loc Cert.AWoutRefIdeal.main_arg2) = m ((c.tc : Thread Cert.AWoutIdeal.nD Cert.AWoutIdeal.τ).loc Cert.AWoutIdeal.main_arg2)
      ∧ m' ((c.tc : Thread Cert.AWoutRefIdeal.nD Cert.AWoutRefIdeal.τ).loc Cert.AWoutRefIdeal.main_arg3) = m ((c.tc : Thread Cert.AWoutIdeal.nD Cert.AWoutIdeal.τ).loc Cert.AWoutIdeal.main_arg3)) →
    ∃ (v0 : (c : Dev Cert.AWoutIdeal.nD) → Buf (Elt Ideal) ((c.tc : Thread Cert.AWoutIdeal.nD Cert.AWoutIdeal.τ).loc Cert.AWoutIdeal.main_v0_0)) (v1 : (c : Dev Cert.AWoutIdeal.nD) → Buf (Elt Ideal) ((c.tc : Thread Cert.AWoutIdeal.nD Cert.AWoutIdeal.τ).loc Cert.AWoutIdeal.main_v0_1)) (v2 : (c : Dev Cert.AWoutIdeal.nD) → Buf (Elt Ideal) ((c.tc : Thread Cert.AWoutIdeal.nD Cert.AWoutIdeal.τ).loc Cert.AWoutIdeal.main_v0_2)),
      θ_run (Cert.AWoutIdeal.defs (F := Ideal)) (onTc (τ := Cert.AWoutIdeal.τ) (Cert.AWoutIdeal.main (F := Ideal))) ⟨m, fun _ => 0, g⟩ (fun r => ∀ c : Dev Cert.AWoutIdeal.nD,
          r.2.mem ((c.tc : Thread Cert.AWoutIdeal.nD Cert.AWoutIdeal.τ).loc Cert.AWoutIdeal.main_v0_0) = v0 c
          ∧ r.2.mem ((c.tc : Thread Cert.AWoutIdeal.nD Cert.AWoutIdeal.τ).loc Cert.AWoutIdeal.main_v0_1) = v1 c
          ∧ r.2.mem ((c.tc : Thread Cert.AWoutIdeal.nD Cert.AWoutIdeal.τ).loc Cert.AWoutIdeal.main_v0_2) = v2 c
          ∧ r.2.mem ((c.tc : Thread Cert.AWoutIdeal.nD Cert.AWoutIdeal.τ).loc Cert.AWoutIdeal.main_arg0) = m ((c.tc : Thread Cert.AWoutIdeal.nD Cert.AWoutIdeal.τ).loc Cert.AWoutIdeal.main_arg0)
          ∧ r.2.mem ((c.tc : Thread Cert.AWoutIdeal.nD Cert.AWoutIdeal.τ).loc Cert.AWoutIdeal.main_arg1) = m ((c.tc : Thread Cert.AWoutIdeal.nD Cert.AWoutIdeal.τ).loc Cert.AWoutIdeal.main_arg1)
          ∧ r.2.mem ((c.tc : Thread Cert.AWoutIdeal.nD Cert.AWoutIdeal.τ).loc Cert.AWoutIdeal.main_arg2) = m ((c.tc : Thread Cert.AWoutIdeal.nD Cert.AWoutIdeal.τ).loc Cert.AWoutIdeal.main_arg2)
          ∧ r.2.mem ((c.tc : Thread Cert.AWoutIdeal.nD Cert.AWoutIdeal.τ).loc Cert.AWoutIdeal.main_arg3) = m ((c.tc : Thread Cert.AWoutIdeal.nD Cert.AWoutIdeal.τ).loc Cert.AWoutIdeal.main_arg3))
      ∧ θ_run (Cert.AWoutRefIdeal.defs (F := Ideal)) (onTc (τ := Cert.AWoutRefIdeal.τ) (Cert.AWoutRefIdeal.main (F := Ideal))) ⟨m', fun _ => 0, g'⟩ (fun r => ∀ c : Dev Cert.AWoutRefIdeal.nD,
          r.2.mem ((c.tc : Thread Cert.AWoutRefIdeal.nD Cert.AWoutRefIdeal.τ).loc Cert.AWoutRefIdeal.main_v23) = v0 c
          ∧ r.2.mem ((c.tc : Thread Cert.AWoutRefIdeal.nD Cert.AWoutRefIdeal.τ).loc Cert.AWoutRefIdeal.main_v4) = v1 c
          ∧ r.2.mem ((c.tc : Thread Cert.AWoutRefIdeal.nD Cert.AWoutRefIdeal.τ).loc Cert.AWoutRefIdeal.main_v10) = v2 c
          ∧ r.2.mem ((c.tc : Thread Cert.AWoutRefIdeal.nD Cert.AWoutRefIdeal.τ).loc Cert.AWoutRefIdeal.main_arg0) = m' ((c.tc : Thread Cert.AWoutRefIdeal.nD Cert.AWoutRefIdeal.τ).loc Cert.AWoutRefIdeal.main_arg0)
          ∧ r.2.mem ((c.tc : Thread Cert.AWoutRefIdeal.nD Cert.AWoutRefIdeal.τ).loc Cert.AWoutRefIdeal.main_arg1) = m' ((c.tc : Thread Cert.AWoutRefIdeal.nD Cert.AWoutRefIdeal.τ).loc Cert.AWoutRefIdeal.main_arg1)
          ∧ r.2.mem ((c.tc : Thread Cert.AWoutRefIdeal.nD Cert.AWoutRefIdeal.τ).loc Cert.AWoutRefIdeal.main_arg2) = m' ((c.tc : Thread Cert.AWoutRefIdeal.nD Cert.AWoutRefIdeal.τ).loc Cert.AWoutRefIdeal.main_arg2)
          ∧ r.2.mem ((c.tc : Thread Cert.AWoutRefIdeal.nD Cert.AWoutRefIdeal.τ).loc Cert.AWoutRefIdeal.main_arg3) = m' ((c.tc : Thread Cert.AWoutRefIdeal.nD Cert.AWoutRefIdeal.τ).loc Cert.AWoutRefIdeal.main_arg3))

def preserves_AWglu_AWgluIdeal : Prop :=
  True

def algebraic_AWgluIdeal_AWgluRefIdeal [hAWgluIdeal : Cert.AWgluIdeal.Facts] [hAWgluRefIdeal : Cert.AWgluRefIdeal.Facts] : Prop :=
  ∀ (m : (ℓ : Loc Cert.AWgluIdeal.nD Cert.AWgluIdeal.τ Cert.AWgluIdeal.sig) → Buf (Elt Ideal) ℓ) (g : Dev Cert.AWgluIdeal.nD → PrngReg)
    (m' : (ℓ : Loc Cert.AWgluRefIdeal.nD Cert.AWgluRefIdeal.τ Cert.AWgluRefIdeal.sig) → Buf (Elt Ideal) ℓ) (g' : Dev Cert.AWgluRefIdeal.nD → PrngReg), Pre_AWgluIdeal m →
    (∀ c : Dev Cert.AWgluIdeal.nD,
      m' ((c.tc : Thread Cert.AWgluRefIdeal.nD Cert.AWgluRefIdeal.τ).loc Cert.AWgluRefIdeal.main_arg0) = m ((c.tc : Thread Cert.AWgluIdeal.nD Cert.AWgluIdeal.τ).loc Cert.AWgluIdeal.main_arg0)
      ∧ m' ((c.tc : Thread Cert.AWgluRefIdeal.nD Cert.AWgluRefIdeal.τ).loc Cert.AWgluRefIdeal.main_arg1) = m ((c.tc : Thread Cert.AWgluIdeal.nD Cert.AWgluIdeal.τ).loc Cert.AWgluIdeal.main_arg1)
      ∧ m' ((c.tc : Thread Cert.AWgluRefIdeal.nD Cert.AWgluRefIdeal.τ).loc Cert.AWgluRefIdeal.main_arg2) = m ((c.tc : Thread Cert.AWgluIdeal.nD Cert.AWgluIdeal.τ).loc Cert.AWgluIdeal.main_arg2)
      ∧ m' ((c.tc : Thread Cert.AWgluRefIdeal.nD Cert.AWgluRefIdeal.τ).loc Cert.AWgluRefIdeal.main_arg3) = m ((c.tc : Thread Cert.AWgluIdeal.nD Cert.AWgluIdeal.τ).loc Cert.AWgluIdeal.main_arg3)) →
    ∃ (v0 : (c : Dev Cert.AWgluIdeal.nD) → Buf (Elt Ideal) ((c.tc : Thread Cert.AWgluIdeal.nD Cert.AWgluIdeal.τ).loc Cert.AWgluIdeal.main_v0_0)) (v1 : (c : Dev Cert.AWgluIdeal.nD) → Buf (Elt Ideal) ((c.tc : Thread Cert.AWgluIdeal.nD Cert.AWgluIdeal.τ).loc Cert.AWgluIdeal.main_v0_1)) (v2 : (c : Dev Cert.AWgluIdeal.nD) → Buf (Elt Ideal) ((c.tc : Thread Cert.AWgluIdeal.nD Cert.AWgluIdeal.τ).loc Cert.AWgluIdeal.main_v0_2)),
      θ_run (Cert.AWgluIdeal.defs (F := Ideal)) (onTc (τ := Cert.AWgluIdeal.τ) (Cert.AWgluIdeal.main (F := Ideal))) ⟨m, fun _ => 0, g⟩ (fun r => ∀ c : Dev Cert.AWgluIdeal.nD,
          r.2.mem ((c.tc : Thread Cert.AWgluIdeal.nD Cert.AWgluIdeal.τ).loc Cert.AWgluIdeal.main_v0_0) = v0 c
          ∧ r.2.mem ((c.tc : Thread Cert.AWgluIdeal.nD Cert.AWgluIdeal.τ).loc Cert.AWgluIdeal.main_v0_1) = v1 c
          ∧ r.2.mem ((c.tc : Thread Cert.AWgluIdeal.nD Cert.AWgluIdeal.τ).loc Cert.AWgluIdeal.main_v0_2) = v2 c
          ∧ r.2.mem ((c.tc : Thread Cert.AWgluIdeal.nD Cert.AWgluIdeal.τ).loc Cert.AWgluIdeal.main_arg0) = m ((c.tc : Thread Cert.AWgluIdeal.nD Cert.AWgluIdeal.τ).loc Cert.AWgluIdeal.main_arg0)
          ∧ r.2.mem ((c.tc : Thread Cert.AWgluIdeal.nD Cert.AWgluIdeal.τ).loc Cert.AWgluIdeal.main_arg1) = m ((c.tc : Thread Cert.AWgluIdeal.nD Cert.AWgluIdeal.τ).loc Cert.AWgluIdeal.main_arg1)
          ∧ r.2.mem ((c.tc : Thread Cert.AWgluIdeal.nD Cert.AWgluIdeal.τ).loc Cert.AWgluIdeal.main_arg2) = m ((c.tc : Thread Cert.AWgluIdeal.nD Cert.AWgluIdeal.τ).loc Cert.AWgluIdeal.main_arg2)
          ∧ r.2.mem ((c.tc : Thread Cert.AWgluIdeal.nD Cert.AWgluIdeal.τ).loc Cert.AWgluIdeal.main_arg3) = m ((c.tc : Thread Cert.AWgluIdeal.nD Cert.AWgluIdeal.τ).loc Cert.AWgluIdeal.main_arg3))
      ∧ θ_run (Cert.AWgluRefIdeal.defs (F := Ideal)) (onTc (τ := Cert.AWgluRefIdeal.τ) (Cert.AWgluRefIdeal.main (F := Ideal))) ⟨m', fun _ => 0, g'⟩ (fun r => ∀ c : Dev Cert.AWgluRefIdeal.nD,
          r.2.mem ((c.tc : Thread Cert.AWgluRefIdeal.nD Cert.AWgluRefIdeal.τ).loc Cert.AWgluRefIdeal.main_v23) = v0 c
          ∧ r.2.mem ((c.tc : Thread Cert.AWgluRefIdeal.nD Cert.AWgluRefIdeal.τ).loc Cert.AWgluRefIdeal.main_v4) = v1 c
          ∧ r.2.mem ((c.tc : Thread Cert.AWgluRefIdeal.nD Cert.AWgluRefIdeal.τ).loc Cert.AWgluRefIdeal.main_v10) = v2 c
          ∧ r.2.mem ((c.tc : Thread Cert.AWgluRefIdeal.nD Cert.AWgluRefIdeal.τ).loc Cert.AWgluRefIdeal.main_arg0) = m' ((c.tc : Thread Cert.AWgluRefIdeal.nD Cert.AWgluRefIdeal.τ).loc Cert.AWgluRefIdeal.main_arg0)
          ∧ r.2.mem ((c.tc : Thread Cert.AWgluRefIdeal.nD Cert.AWgluRefIdeal.τ).loc Cert.AWgluRefIdeal.main_arg1) = m' ((c.tc : Thread Cert.AWgluRefIdeal.nD Cert.AWgluRefIdeal.τ).loc Cert.AWgluRefIdeal.main_arg1)
          ∧ r.2.mem ((c.tc : Thread Cert.AWgluRefIdeal.nD Cert.AWgluRefIdeal.τ).loc Cert.AWgluRefIdeal.main_arg2) = m' ((c.tc : Thread Cert.AWgluRefIdeal.nD Cert.AWgluRefIdeal.τ).loc Cert.AWgluRefIdeal.main_arg2)
          ∧ r.2.mem ((c.tc : Thread Cert.AWgluRefIdeal.nD Cert.AWgluRefIdeal.τ).loc Cert.AWgluRefIdeal.main_arg3) = m' ((c.tc : Thread Cert.AWgluRefIdeal.nD Cert.AWgluRefIdeal.τ).loc Cert.AWgluRefIdeal.main_arg3))

def preserves_AWs5b_AWs5bIdeal : Prop :=
  True

def algebraic_AWs5bIdeal_AWs5bRefIdeal [hAWs5bIdeal : Cert.AWs5bIdeal.Facts] [hAWs5bRefIdeal : Cert.AWs5bRefIdeal.Facts] : Prop :=
  ∀ (m : (ℓ : Loc Cert.AWs5bIdeal.nD Cert.AWs5bIdeal.τ Cert.AWs5bIdeal.sig) → Buf (Elt Ideal) ℓ) (g : Dev Cert.AWs5bIdeal.nD → PrngReg)
    (m' : (ℓ : Loc Cert.AWs5bRefIdeal.nD Cert.AWs5bRefIdeal.τ Cert.AWs5bRefIdeal.sig) → Buf (Elt Ideal) ℓ) (g' : Dev Cert.AWs5bRefIdeal.nD → PrngReg), Pre_AWs5bIdeal m →
    (∀ c : Dev Cert.AWs5bIdeal.nD,
      m' ((c.tc : Thread Cert.AWs5bRefIdeal.nD Cert.AWs5bRefIdeal.τ).loc Cert.AWs5bRefIdeal.main_arg0) = m ((c.tc : Thread Cert.AWs5bIdeal.nD Cert.AWs5bIdeal.τ).loc Cert.AWs5bIdeal.main_arg0)
      ∧ m' ((c.tc : Thread Cert.AWs5bRefIdeal.nD Cert.AWs5bRefIdeal.τ).loc Cert.AWs5bRefIdeal.main_arg1) = m ((c.tc : Thread Cert.AWs5bIdeal.nD Cert.AWs5bIdeal.τ).loc Cert.AWs5bIdeal.main_arg1)
      ∧ m' ((c.tc : Thread Cert.AWs5bRefIdeal.nD Cert.AWs5bRefIdeal.τ).loc Cert.AWs5bRefIdeal.main_arg2) = m ((c.tc : Thread Cert.AWs5bIdeal.nD Cert.AWs5bIdeal.τ).loc Cert.AWs5bIdeal.main_arg2)
      ∧ m' ((c.tc : Thread Cert.AWs5bRefIdeal.nD Cert.AWs5bRefIdeal.τ).loc Cert.AWs5bRefIdeal.main_arg3) = m ((c.tc : Thread Cert.AWs5bIdeal.nD Cert.AWs5bIdeal.τ).loc Cert.AWs5bIdeal.main_arg3)) →
    ∃ (v0 : (c : Dev Cert.AWs5bIdeal.nD) → Buf (Elt Ideal) ((c.tc : Thread Cert.AWs5bIdeal.nD Cert.AWs5bIdeal.τ).loc Cert.AWs5bIdeal.main_v0_0)) (v1 : (c : Dev Cert.AWs5bIdeal.nD) → Buf (Elt Ideal) ((c.tc : Thread Cert.AWs5bIdeal.nD Cert.AWs5bIdeal.τ).loc Cert.AWs5bIdeal.main_v0_1)) (v2 : (c : Dev Cert.AWs5bIdeal.nD) → Buf (Elt Ideal) ((c.tc : Thread Cert.AWs5bIdeal.nD Cert.AWs5bIdeal.τ).loc Cert.AWs5bIdeal.main_v0_2)),
      θ_run (Cert.AWs5bIdeal.defs (F := Ideal)) (onTc (τ := Cert.AWs5bIdeal.τ) (Cert.AWs5bIdeal.main (F := Ideal))) ⟨m, fun _ => 0, g⟩ (fun r => ∀ c : Dev Cert.AWs5bIdeal.nD,
          r.2.mem ((c.tc : Thread Cert.AWs5bIdeal.nD Cert.AWs5bIdeal.τ).loc Cert.AWs5bIdeal.main_v0_0) = v0 c
          ∧ r.2.mem ((c.tc : Thread Cert.AWs5bIdeal.nD Cert.AWs5bIdeal.τ).loc Cert.AWs5bIdeal.main_v0_1) = v1 c
          ∧ r.2.mem ((c.tc : Thread Cert.AWs5bIdeal.nD Cert.AWs5bIdeal.τ).loc Cert.AWs5bIdeal.main_v0_2) = v2 c
          ∧ r.2.mem ((c.tc : Thread Cert.AWs5bIdeal.nD Cert.AWs5bIdeal.τ).loc Cert.AWs5bIdeal.main_arg0) = m ((c.tc : Thread Cert.AWs5bIdeal.nD Cert.AWs5bIdeal.τ).loc Cert.AWs5bIdeal.main_arg0)
          ∧ r.2.mem ((c.tc : Thread Cert.AWs5bIdeal.nD Cert.AWs5bIdeal.τ).loc Cert.AWs5bIdeal.main_arg1) = m ((c.tc : Thread Cert.AWs5bIdeal.nD Cert.AWs5bIdeal.τ).loc Cert.AWs5bIdeal.main_arg1)
          ∧ r.2.mem ((c.tc : Thread Cert.AWs5bIdeal.nD Cert.AWs5bIdeal.τ).loc Cert.AWs5bIdeal.main_arg2) = m ((c.tc : Thread Cert.AWs5bIdeal.nD Cert.AWs5bIdeal.τ).loc Cert.AWs5bIdeal.main_arg2)
          ∧ r.2.mem ((c.tc : Thread Cert.AWs5bIdeal.nD Cert.AWs5bIdeal.τ).loc Cert.AWs5bIdeal.main_arg3) = m ((c.tc : Thread Cert.AWs5bIdeal.nD Cert.AWs5bIdeal.τ).loc Cert.AWs5bIdeal.main_arg3))
      ∧ θ_run (Cert.AWs5bRefIdeal.defs (F := Ideal)) (onTc (τ := Cert.AWs5bRefIdeal.τ) (Cert.AWs5bRefIdeal.main (F := Ideal))) ⟨m', fun _ => 0, g'⟩ (fun r => ∀ c : Dev Cert.AWs5bRefIdeal.nD,
          r.2.mem ((c.tc : Thread Cert.AWs5bRefIdeal.nD Cert.AWs5bRefIdeal.τ).loc Cert.AWs5bRefIdeal.main_v23) = v0 c
          ∧ r.2.mem ((c.tc : Thread Cert.AWs5bRefIdeal.nD Cert.AWs5bRefIdeal.τ).loc Cert.AWs5bRefIdeal.main_v4) = v1 c
          ∧ r.2.mem ((c.tc : Thread Cert.AWs5bRefIdeal.nD Cert.AWs5bRefIdeal.τ).loc Cert.AWs5bRefIdeal.main_v10) = v2 c
          ∧ r.2.mem ((c.tc : Thread Cert.AWs5bRefIdeal.nD Cert.AWs5bRefIdeal.τ).loc Cert.AWs5bRefIdeal.main_arg0) = m' ((c.tc : Thread Cert.AWs5bRefIdeal.nD Cert.AWs5bRefIdeal.τ).loc Cert.AWs5bRefIdeal.main_arg0)
          ∧ r.2.mem ((c.tc : Thread Cert.AWs5bRefIdeal.nD Cert.AWs5bRefIdeal.τ).loc Cert.AWs5bRefIdeal.main_arg1) = m' ((c.tc : Thread Cert.AWs5bRefIdeal.nD Cert.AWs5bRefIdeal.τ).loc Cert.AWs5bRefIdeal.main_arg1)
          ∧ r.2.mem ((c.tc : Thread Cert.AWs5bRefIdeal.nD Cert.AWs5bRefIdeal.τ).loc Cert.AWs5bRefIdeal.main_arg2) = m' ((c.tc : Thread Cert.AWs5bRefIdeal.nD Cert.AWs5bRefIdeal.τ).loc Cert.AWs5bRefIdeal.main_arg2)
          ∧ r.2.mem ((c.tc : Thread Cert.AWs5bRefIdeal.nD Cert.AWs5bRefIdeal.τ).loc Cert.AWs5bRefIdeal.main_arg3) = m' ((c.tc : Thread Cert.AWs5bRefIdeal.nD Cert.AWs5bRefIdeal.τ).loc Cert.AWs5bRefIdeal.main_arg3))

def preserves_ARestA_ARestAIdeal : Prop :=
  True

def algebraic_ARestAIdeal_ARestARefIdeal [hARestAIdeal : Cert.ARestAIdeal.Facts] [hARestARefIdeal : Cert.ARestARefIdeal.Facts] : Prop :=
  ∀ (m : (ℓ : Loc Cert.ARestAIdeal.nD Cert.ARestAIdeal.τ Cert.ARestAIdeal.sig) → Buf (Elt Ideal) ℓ) (g : Dev Cert.ARestAIdeal.nD → PrngReg)
    (m' : (ℓ : Loc Cert.ARestARefIdeal.nD Cert.ARestARefIdeal.τ Cert.ARestARefIdeal.sig) → Buf (Elt Ideal) ℓ) (g' : Dev Cert.ARestARefIdeal.nD → PrngReg), Pre_ARestAIdeal m →
    (∀ c : Dev Cert.ARestAIdeal.nD,
      m' ((c.tc : Thread Cert.ARestARefIdeal.nD Cert.ARestARefIdeal.τ).loc Cert.ARestARefIdeal.main_arg0) = m ((c.tc : Thread Cert.ARestAIdeal.nD Cert.ARestAIdeal.τ).loc Cert.ARestAIdeal.main_arg0)
      ∧ m' ((c.tc : Thread Cert.ARestARefIdeal.nD Cert.ARestARefIdeal.τ).loc Cert.ARestARefIdeal.main_arg1) = m ((c.tc : Thread Cert.ARestAIdeal.nD Cert.ARestAIdeal.τ).loc Cert.ARestAIdeal.main_arg1)
      ∧ m' ((c.tc : Thread Cert.ARestARefIdeal.nD Cert.ARestARefIdeal.τ).loc Cert.ARestARefIdeal.main_arg2) = m ((c.tc : Thread Cert.ARestAIdeal.nD Cert.ARestAIdeal.τ).loc Cert.ARestAIdeal.main_arg2)
      ∧ m' ((c.tc : Thread Cert.ARestARefIdeal.nD Cert.ARestARefIdeal.τ).loc Cert.ARestARefIdeal.main_arg3) = m ((c.tc : Thread Cert.ARestAIdeal.nD Cert.ARestAIdeal.τ).loc Cert.ARestAIdeal.main_arg3)
      ∧ m' ((c.tc : Thread Cert.ARestARefIdeal.nD Cert.ARestARefIdeal.τ).loc Cert.ARestARefIdeal.main_arg4) = m ((c.tc : Thread Cert.ARestAIdeal.nD Cert.ARestAIdeal.τ).loc Cert.ARestAIdeal.main_arg4)
      ∧ m' ((c.tc : Thread Cert.ARestARefIdeal.nD Cert.ARestARefIdeal.τ).loc Cert.ARestARefIdeal.main_arg5) = m ((c.tc : Thread Cert.ARestAIdeal.nD Cert.ARestAIdeal.τ).loc Cert.ARestAIdeal.main_arg5)
      ∧ m' ((c.tc : Thread Cert.ARestARefIdeal.nD Cert.ARestARefIdeal.τ).loc Cert.ARestARefIdeal.main_arg6) = m ((c.tc : Thread Cert.ARestAIdeal.nD Cert.ARestAIdeal.τ).loc Cert.ARestAIdeal.main_arg6)
      ∧ m' ((c.tc : Thread Cert.ARestARefIdeal.nD Cert.ARestARefIdeal.τ).loc Cert.ARestARefIdeal.main_arg7) = m ((c.tc : Thread Cert.ARestAIdeal.nD Cert.ARestAIdeal.τ).loc Cert.ARestAIdeal.main_arg7)
      ∧ m' ((c.tc : Thread Cert.ARestARefIdeal.nD Cert.ARestARefIdeal.τ).loc Cert.ARestARefIdeal.main_arg8) = m ((c.tc : Thread Cert.ARestAIdeal.nD Cert.ARestAIdeal.τ).loc Cert.ARestAIdeal.main_arg8)
      ∧ m' ((c.tc : Thread Cert.ARestARefIdeal.nD Cert.ARestARefIdeal.τ).loc Cert.ARestARefIdeal.main_arg9) = m ((c.tc : Thread Cert.ARestAIdeal.nD Cert.ARestAIdeal.τ).loc Cert.ARestAIdeal.main_arg9)
      ∧ m' ((c.tc : Thread Cert.ARestARefIdeal.nD Cert.ARestARefIdeal.τ).loc Cert.ARestARefIdeal.main_arg10) = m ((c.tc : Thread Cert.ARestAIdeal.nD Cert.ARestAIdeal.τ).loc Cert.ARestAIdeal.main_arg10)
      ∧ m' ((c.tc : Thread Cert.ARestARefIdeal.nD Cert.ARestARefIdeal.τ).loc Cert.ARestARefIdeal.main_arg11) = m ((c.tc : Thread Cert.ARestAIdeal.nD Cert.ARestAIdeal.τ).loc Cert.ARestAIdeal.main_arg11)
      ∧ m' ((c.tc : Thread Cert.ARestARefIdeal.nD Cert.ARestARefIdeal.τ).loc Cert.ARestARefIdeal.main_arg12) = m ((c.tc : Thread Cert.ARestAIdeal.nD Cert.ARestAIdeal.τ).loc Cert.ARestAIdeal.main_arg12)
      ∧ m' ((c.tc : Thread Cert.ARestARefIdeal.nD Cert.ARestARefIdeal.τ).loc Cert.ARestARefIdeal.main_arg13) = m ((c.tc : Thread Cert.ARestAIdeal.nD Cert.ARestAIdeal.τ).loc Cert.ARestAIdeal.main_arg13)
      ∧ m' ((c.tc : Thread Cert.ARestARefIdeal.nD Cert.ARestARefIdeal.τ).loc Cert.ARestARefIdeal.main_arg14) = m ((c.tc : Thread Cert.ARestAIdeal.nD Cert.ARestAIdeal.τ).loc Cert.ARestAIdeal.main_arg14)
      ∧ m' ((c.tc : Thread Cert.ARestARefIdeal.nD Cert.ARestARefIdeal.τ).loc Cert.ARestARefIdeal.main_arg15) = m ((c.tc : Thread Cert.ARestAIdeal.nD Cert.ARestAIdeal.τ).loc Cert.ARestAIdeal.main_arg15)) →
    ∃ (v0 : (c : Dev Cert.ARestAIdeal.nD) → Buf (Elt Ideal) ((c.tc : Thread Cert.ARestAIdeal.nD Cert.ARestAIdeal.τ).loc Cert.ARestAIdeal.main_v0_0)) (v1 : (c : Dev Cert.ARestAIdeal.nD) → Buf (Elt Ideal) ((c.tc : Thread Cert.ARestAIdeal.nD Cert.ARestAIdeal.τ).loc Cert.ARestAIdeal.main_v0_1)) (v2 : (c : Dev Cert.ARestAIdeal.nD) → Buf (Elt Ideal) ((c.tc : Thread Cert.ARestAIdeal.nD Cert.ARestAIdeal.τ).loc Cert.ARestAIdeal.main_v0_2)) (v3 : (c : Dev Cert.ARestAIdeal.nD) → Buf (Elt Ideal) ((c.tc : Thread Cert.ARestAIdeal.nD Cert.ARestAIdeal.τ).loc Cert.ARestAIdeal.main_v0_3)) (v4 : (c : Dev Cert.ARestAIdeal.nD) → Buf (Elt Ideal) ((c.tc : Thread Cert.ARestAIdeal.nD Cert.ARestAIdeal.τ).loc Cert.ARestAIdeal.main_v0_4)) (v5 : (c : Dev Cert.ARestAIdeal.nD) → Buf (Elt Ideal) ((c.tc : Thread Cert.ARestAIdeal.nD Cert.ARestAIdeal.τ).loc Cert.ARestAIdeal.main_v0_5)) (v6 : (c : Dev Cert.ARestAIdeal.nD) → Buf (Elt Ideal) ((c.tc : Thread Cert.ARestAIdeal.nD Cert.ARestAIdeal.τ).loc Cert.ARestAIdeal.main_v0_6)) (v7 : (c : Dev Cert.ARestAIdeal.nD) → Buf (Elt Ideal) ((c.tc : Thread Cert.ARestAIdeal.nD Cert.ARestAIdeal.τ).loc Cert.ARestAIdeal.main_v0_7)) (v8 : (c : Dev Cert.ARestAIdeal.nD) → Buf (Elt Ideal) ((c.tc : Thread Cert.ARestAIdeal.nD Cert.ARestAIdeal.τ).loc Cert.ARestAIdeal.main_v0_8)) (v9 : (c : Dev Cert.ARestAIdeal.nD) → Buf (Elt Ideal) ((c.tc : Thread Cert.ARestAIdeal.nD Cert.ARestAIdeal.τ).loc Cert.ARestAIdeal.main_v0_9)) (v10 : (c : Dev Cert.ARestAIdeal.nD) → Buf (Elt Ideal) ((c.tc : Thread Cert.ARestAIdeal.nD Cert.ARestAIdeal.τ).loc Cert.ARestAIdeal.main_v0_10)) (v11 : (c : Dev Cert.ARestAIdeal.nD) → Buf (Elt Ideal) ((c.tc : Thread Cert.ARestAIdeal.nD Cert.ARestAIdeal.τ).loc Cert.ARestAIdeal.main_v0_11)),
      θ_run (Cert.ARestAIdeal.defs (F := Ideal)) (onTc (τ := Cert.ARestAIdeal.τ) (Cert.ARestAIdeal.main (F := Ideal))) ⟨m, fun _ => 0, g⟩ (fun r => ∀ c : Dev Cert.ARestAIdeal.nD,
          r.2.mem ((c.tc : Thread Cert.ARestAIdeal.nD Cert.ARestAIdeal.τ).loc Cert.ARestAIdeal.main_v0_0) = v0 c
          ∧ r.2.mem ((c.tc : Thread Cert.ARestAIdeal.nD Cert.ARestAIdeal.τ).loc Cert.ARestAIdeal.main_v0_1) = v1 c
          ∧ r.2.mem ((c.tc : Thread Cert.ARestAIdeal.nD Cert.ARestAIdeal.τ).loc Cert.ARestAIdeal.main_v0_2) = v2 c
          ∧ r.2.mem ((c.tc : Thread Cert.ARestAIdeal.nD Cert.ARestAIdeal.τ).loc Cert.ARestAIdeal.main_v0_3) = v3 c
          ∧ r.2.mem ((c.tc : Thread Cert.ARestAIdeal.nD Cert.ARestAIdeal.τ).loc Cert.ARestAIdeal.main_v0_4) = v4 c
          ∧ r.2.mem ((c.tc : Thread Cert.ARestAIdeal.nD Cert.ARestAIdeal.τ).loc Cert.ARestAIdeal.main_v0_5) = v5 c
          ∧ r.2.mem ((c.tc : Thread Cert.ARestAIdeal.nD Cert.ARestAIdeal.τ).loc Cert.ARestAIdeal.main_v0_6) = v6 c
          ∧ r.2.mem ((c.tc : Thread Cert.ARestAIdeal.nD Cert.ARestAIdeal.τ).loc Cert.ARestAIdeal.main_v0_7) = v7 c
          ∧ r.2.mem ((c.tc : Thread Cert.ARestAIdeal.nD Cert.ARestAIdeal.τ).loc Cert.ARestAIdeal.main_v0_8) = v8 c
          ∧ r.2.mem ((c.tc : Thread Cert.ARestAIdeal.nD Cert.ARestAIdeal.τ).loc Cert.ARestAIdeal.main_v0_9) = v9 c
          ∧ r.2.mem ((c.tc : Thread Cert.ARestAIdeal.nD Cert.ARestAIdeal.τ).loc Cert.ARestAIdeal.main_v0_10) = v10 c
          ∧ r.2.mem ((c.tc : Thread Cert.ARestAIdeal.nD Cert.ARestAIdeal.τ).loc Cert.ARestAIdeal.main_v0_11) = v11 c
          ∧ r.2.mem ((c.tc : Thread Cert.ARestAIdeal.nD Cert.ARestAIdeal.τ).loc Cert.ARestAIdeal.main_arg0) = m ((c.tc : Thread Cert.ARestAIdeal.nD Cert.ARestAIdeal.τ).loc Cert.ARestAIdeal.main_arg0)
          ∧ r.2.mem ((c.tc : Thread Cert.ARestAIdeal.nD Cert.ARestAIdeal.τ).loc Cert.ARestAIdeal.main_arg1) = m ((c.tc : Thread Cert.ARestAIdeal.nD Cert.ARestAIdeal.τ).loc Cert.ARestAIdeal.main_arg1)
          ∧ r.2.mem ((c.tc : Thread Cert.ARestAIdeal.nD Cert.ARestAIdeal.τ).loc Cert.ARestAIdeal.main_arg2) = m ((c.tc : Thread Cert.ARestAIdeal.nD Cert.ARestAIdeal.τ).loc Cert.ARestAIdeal.main_arg2)
          ∧ r.2.mem ((c.tc : Thread Cert.ARestAIdeal.nD Cert.ARestAIdeal.τ).loc Cert.ARestAIdeal.main_arg3) = m ((c.tc : Thread Cert.ARestAIdeal.nD Cert.ARestAIdeal.τ).loc Cert.ARestAIdeal.main_arg3)
          ∧ r.2.mem ((c.tc : Thread Cert.ARestAIdeal.nD Cert.ARestAIdeal.τ).loc Cert.ARestAIdeal.main_arg4) = m ((c.tc : Thread Cert.ARestAIdeal.nD Cert.ARestAIdeal.τ).loc Cert.ARestAIdeal.main_arg4)
          ∧ r.2.mem ((c.tc : Thread Cert.ARestAIdeal.nD Cert.ARestAIdeal.τ).loc Cert.ARestAIdeal.main_arg5) = m ((c.tc : Thread Cert.ARestAIdeal.nD Cert.ARestAIdeal.τ).loc Cert.ARestAIdeal.main_arg5)
          ∧ r.2.mem ((c.tc : Thread Cert.ARestAIdeal.nD Cert.ARestAIdeal.τ).loc Cert.ARestAIdeal.main_arg6) = m ((c.tc : Thread Cert.ARestAIdeal.nD Cert.ARestAIdeal.τ).loc Cert.ARestAIdeal.main_arg6)
          ∧ r.2.mem ((c.tc : Thread Cert.ARestAIdeal.nD Cert.ARestAIdeal.τ).loc Cert.ARestAIdeal.main_arg7) = m ((c.tc : Thread Cert.ARestAIdeal.nD Cert.ARestAIdeal.τ).loc Cert.ARestAIdeal.main_arg7)
          ∧ r.2.mem ((c.tc : Thread Cert.ARestAIdeal.nD Cert.ARestAIdeal.τ).loc Cert.ARestAIdeal.main_arg8) = m ((c.tc : Thread Cert.ARestAIdeal.nD Cert.ARestAIdeal.τ).loc Cert.ARestAIdeal.main_arg8)
          ∧ r.2.mem ((c.tc : Thread Cert.ARestAIdeal.nD Cert.ARestAIdeal.τ).loc Cert.ARestAIdeal.main_arg9) = m ((c.tc : Thread Cert.ARestAIdeal.nD Cert.ARestAIdeal.τ).loc Cert.ARestAIdeal.main_arg9)
          ∧ r.2.mem ((c.tc : Thread Cert.ARestAIdeal.nD Cert.ARestAIdeal.τ).loc Cert.ARestAIdeal.main_arg10) = m ((c.tc : Thread Cert.ARestAIdeal.nD Cert.ARestAIdeal.τ).loc Cert.ARestAIdeal.main_arg10)
          ∧ r.2.mem ((c.tc : Thread Cert.ARestAIdeal.nD Cert.ARestAIdeal.τ).loc Cert.ARestAIdeal.main_arg11) = m ((c.tc : Thread Cert.ARestAIdeal.nD Cert.ARestAIdeal.τ).loc Cert.ARestAIdeal.main_arg11)
          ∧ r.2.mem ((c.tc : Thread Cert.ARestAIdeal.nD Cert.ARestAIdeal.τ).loc Cert.ARestAIdeal.main_arg12) = m ((c.tc : Thread Cert.ARestAIdeal.nD Cert.ARestAIdeal.τ).loc Cert.ARestAIdeal.main_arg12)
          ∧ r.2.mem ((c.tc : Thread Cert.ARestAIdeal.nD Cert.ARestAIdeal.τ).loc Cert.ARestAIdeal.main_arg13) = m ((c.tc : Thread Cert.ARestAIdeal.nD Cert.ARestAIdeal.τ).loc Cert.ARestAIdeal.main_arg13)
          ∧ r.2.mem ((c.tc : Thread Cert.ARestAIdeal.nD Cert.ARestAIdeal.τ).loc Cert.ARestAIdeal.main_arg14) = m ((c.tc : Thread Cert.ARestAIdeal.nD Cert.ARestAIdeal.τ).loc Cert.ARestAIdeal.main_arg14)
          ∧ r.2.mem ((c.tc : Thread Cert.ARestAIdeal.nD Cert.ARestAIdeal.τ).loc Cert.ARestAIdeal.main_arg15) = m ((c.tc : Thread Cert.ARestAIdeal.nD Cert.ARestAIdeal.τ).loc Cert.ARestAIdeal.main_arg15))
      ∧ θ_run (Cert.ARestARefIdeal.defs (F := Ideal)) (onTc (τ := Cert.ARestARefIdeal.τ) (Cert.ARestARefIdeal.main (F := Ideal))) ⟨m', fun _ => 0, g'⟩ (fun r => ∀ c : Dev Cert.ARestARefIdeal.nD,
          r.2.mem ((c.tc : Thread Cert.ARestARefIdeal.nD Cert.ARestARefIdeal.τ).loc Cert.ARestARefIdeal.main_v23) = v0 c
          ∧ r.2.mem ((c.tc : Thread Cert.ARestARefIdeal.nD Cert.ARestARefIdeal.τ).loc Cert.ARestARefIdeal.main_v47) = v1 c
          ∧ r.2.mem ((c.tc : Thread Cert.ARestARefIdeal.nD Cert.ARestARefIdeal.τ).loc Cert.ARestARefIdeal.main_v71) = v2 c
          ∧ r.2.mem ((c.tc : Thread Cert.ARestARefIdeal.nD Cert.ARestARefIdeal.τ).loc Cert.ARestARefIdeal.main_v95) = v3 c
          ∧ r.2.mem ((c.tc : Thread Cert.ARestARefIdeal.nD Cert.ARestARefIdeal.τ).loc Cert.ARestARefIdeal.main_v4) = v4 c
          ∧ r.2.mem ((c.tc : Thread Cert.ARestARefIdeal.nD Cert.ARestARefIdeal.τ).loc Cert.ARestARefIdeal.main_v28) = v5 c
          ∧ r.2.mem ((c.tc : Thread Cert.ARestARefIdeal.nD Cert.ARestARefIdeal.τ).loc Cert.ARestARefIdeal.main_v52) = v6 c
          ∧ r.2.mem ((c.tc : Thread Cert.ARestARefIdeal.nD Cert.ARestARefIdeal.τ).loc Cert.ARestARefIdeal.main_v76) = v7 c
          ∧ r.2.mem ((c.tc : Thread Cert.ARestARefIdeal.nD Cert.ARestARefIdeal.τ).loc Cert.ARestARefIdeal.main_v10) = v8 c
          ∧ r.2.mem ((c.tc : Thread Cert.ARestARefIdeal.nD Cert.ARestARefIdeal.τ).loc Cert.ARestARefIdeal.main_v34) = v9 c
          ∧ r.2.mem ((c.tc : Thread Cert.ARestARefIdeal.nD Cert.ARestARefIdeal.τ).loc Cert.ARestARefIdeal.main_v58) = v10 c
          ∧ r.2.mem ((c.tc : Thread Cert.ARestARefIdeal.nD Cert.ARestARefIdeal.τ).loc Cert.ARestARefIdeal.main_v82) = v11 c
          ∧ r.2.mem ((c.tc : Thread Cert.ARestARefIdeal.nD Cert.ARestARefIdeal.τ).loc Cert.ARestARefIdeal.main_arg0) = m' ((c.tc : Thread Cert.ARestARefIdeal.nD Cert.ARestARefIdeal.τ).loc Cert.ARestARefIdeal.main_arg0)
          ∧ r.2.mem ((c.tc : Thread Cert.ARestARefIdeal.nD Cert.ARestARefIdeal.τ).loc Cert.ARestARefIdeal.main_arg1) = m' ((c.tc : Thread Cert.ARestARefIdeal.nD Cert.ARestARefIdeal.τ).loc Cert.ARestARefIdeal.main_arg1)
          ∧ r.2.mem ((c.tc : Thread Cert.ARestARefIdeal.nD Cert.ARestARefIdeal.τ).loc Cert.ARestARefIdeal.main_arg2) = m' ((c.tc : Thread Cert.ARestARefIdeal.nD Cert.ARestARefIdeal.τ).loc Cert.ARestARefIdeal.main_arg2)
          ∧ r.2.mem ((c.tc : Thread Cert.ARestARefIdeal.nD Cert.ARestARefIdeal.τ).loc Cert.ARestARefIdeal.main_arg3) = m' ((c.tc : Thread Cert.ARestARefIdeal.nD Cert.ARestARefIdeal.τ).loc Cert.ARestARefIdeal.main_arg3)
          ∧ r.2.mem ((c.tc : Thread Cert.ARestARefIdeal.nD Cert.ARestARefIdeal.τ).loc Cert.ARestARefIdeal.main_arg4) = m' ((c.tc : Thread Cert.ARestARefIdeal.nD Cert.ARestARefIdeal.τ).loc Cert.ARestARefIdeal.main_arg4)
          ∧ r.2.mem ((c.tc : Thread Cert.ARestARefIdeal.nD Cert.ARestARefIdeal.τ).loc Cert.ARestARefIdeal.main_arg5) = m' ((c.tc : Thread Cert.ARestARefIdeal.nD Cert.ARestARefIdeal.τ).loc Cert.ARestARefIdeal.main_arg5)
          ∧ r.2.mem ((c.tc : Thread Cert.ARestARefIdeal.nD Cert.ARestARefIdeal.τ).loc Cert.ARestARefIdeal.main_arg6) = m' ((c.tc : Thread Cert.ARestARefIdeal.nD Cert.ARestARefIdeal.τ).loc Cert.ARestARefIdeal.main_arg6)
          ∧ r.2.mem ((c.tc : Thread Cert.ARestARefIdeal.nD Cert.ARestARefIdeal.τ).loc Cert.ARestARefIdeal.main_arg7) = m' ((c.tc : Thread Cert.ARestARefIdeal.nD Cert.ARestARefIdeal.τ).loc Cert.ARestARefIdeal.main_arg7)
          ∧ r.2.mem ((c.tc : Thread Cert.ARestARefIdeal.nD Cert.ARestARefIdeal.τ).loc Cert.ARestARefIdeal.main_arg8) = m' ((c.tc : Thread Cert.ARestARefIdeal.nD Cert.ARestARefIdeal.τ).loc Cert.ARestARefIdeal.main_arg8)
          ∧ r.2.mem ((c.tc : Thread Cert.ARestARefIdeal.nD Cert.ARestARefIdeal.τ).loc Cert.ARestARefIdeal.main_arg9) = m' ((c.tc : Thread Cert.ARestARefIdeal.nD Cert.ARestARefIdeal.τ).loc Cert.ARestARefIdeal.main_arg9)
          ∧ r.2.mem ((c.tc : Thread Cert.ARestARefIdeal.nD Cert.ARestARefIdeal.τ).loc Cert.ARestARefIdeal.main_arg10) = m' ((c.tc : Thread Cert.ARestARefIdeal.nD Cert.ARestARefIdeal.τ).loc Cert.ARestARefIdeal.main_arg10)
          ∧ r.2.mem ((c.tc : Thread Cert.ARestARefIdeal.nD Cert.ARestARefIdeal.τ).loc Cert.ARestARefIdeal.main_arg11) = m' ((c.tc : Thread Cert.ARestARefIdeal.nD Cert.ARestARefIdeal.τ).loc Cert.ARestARefIdeal.main_arg11)
          ∧ r.2.mem ((c.tc : Thread Cert.ARestARefIdeal.nD Cert.ARestARefIdeal.τ).loc Cert.ARestARefIdeal.main_arg12) = m' ((c.tc : Thread Cert.ARestARefIdeal.nD Cert.ARestARefIdeal.τ).loc Cert.ARestARefIdeal.main_arg12)
          ∧ r.2.mem ((c.tc : Thread Cert.ARestARefIdeal.nD Cert.ARestARefIdeal.τ).loc Cert.ARestARefIdeal.main_arg13) = m' ((c.tc : Thread Cert.ARestARefIdeal.nD Cert.ARestARefIdeal.τ).loc Cert.ARestARefIdeal.main_arg13)
          ∧ r.2.mem ((c.tc : Thread Cert.ARestARefIdeal.nD Cert.ARestARefIdeal.τ).loc Cert.ARestARefIdeal.main_arg14) = m' ((c.tc : Thread Cert.ARestARefIdeal.nD Cert.ARestARefIdeal.τ).loc Cert.ARestARefIdeal.main_arg14)
          ∧ r.2.mem ((c.tc : Thread Cert.ARestARefIdeal.nD Cert.ARestARefIdeal.τ).loc Cert.ARestARefIdeal.main_arg15) = m' ((c.tc : Thread Cert.ARestARefIdeal.nD Cert.ARestARefIdeal.τ).loc Cert.ARestARefIdeal.main_arg15))

def preserves_ARestB_ARestBIdeal : Prop :=
  True

def algebraic_ARestBIdeal_ARestBRefIdeal [hARestBIdeal : Cert.ARestBIdeal.Facts] [hARestBRefIdeal : Cert.ARestBRefIdeal.Facts] : Prop :=
  ∀ (m : (ℓ : Loc Cert.ARestBIdeal.nD Cert.ARestBIdeal.τ Cert.ARestBIdeal.sig) → Buf (Elt Ideal) ℓ) (g : Dev Cert.ARestBIdeal.nD → PrngReg)
    (m' : (ℓ : Loc Cert.ARestBRefIdeal.nD Cert.ARestBRefIdeal.τ Cert.ARestBRefIdeal.sig) → Buf (Elt Ideal) ℓ) (g' : Dev Cert.ARestBRefIdeal.nD → PrngReg), Pre_ARestBIdeal m →
    (∀ c : Dev Cert.ARestBIdeal.nD,
      m' ((c.tc : Thread Cert.ARestBRefIdeal.nD Cert.ARestBRefIdeal.τ).loc Cert.ARestBRefIdeal.main_arg0) = m ((c.tc : Thread Cert.ARestBIdeal.nD Cert.ARestBIdeal.τ).loc Cert.ARestBIdeal.main_arg0)
      ∧ m' ((c.tc : Thread Cert.ARestBRefIdeal.nD Cert.ARestBRefIdeal.τ).loc Cert.ARestBRefIdeal.main_arg1) = m ((c.tc : Thread Cert.ARestBIdeal.nD Cert.ARestBIdeal.τ).loc Cert.ARestBIdeal.main_arg1)
      ∧ m' ((c.tc : Thread Cert.ARestBRefIdeal.nD Cert.ARestBRefIdeal.τ).loc Cert.ARestBRefIdeal.main_arg2) = m ((c.tc : Thread Cert.ARestBIdeal.nD Cert.ARestBIdeal.τ).loc Cert.ARestBIdeal.main_arg2)
      ∧ m' ((c.tc : Thread Cert.ARestBRefIdeal.nD Cert.ARestBRefIdeal.τ).loc Cert.ARestBRefIdeal.main_arg3) = m ((c.tc : Thread Cert.ARestBIdeal.nD Cert.ARestBIdeal.τ).loc Cert.ARestBIdeal.main_arg3)
      ∧ m' ((c.tc : Thread Cert.ARestBRefIdeal.nD Cert.ARestBRefIdeal.τ).loc Cert.ARestBRefIdeal.main_arg4) = m ((c.tc : Thread Cert.ARestBIdeal.nD Cert.ARestBIdeal.τ).loc Cert.ARestBIdeal.main_arg4)
      ∧ m' ((c.tc : Thread Cert.ARestBRefIdeal.nD Cert.ARestBRefIdeal.τ).loc Cert.ARestBRefIdeal.main_arg5) = m ((c.tc : Thread Cert.ARestBIdeal.nD Cert.ARestBIdeal.τ).loc Cert.ARestBIdeal.main_arg5)
      ∧ m' ((c.tc : Thread Cert.ARestBRefIdeal.nD Cert.ARestBRefIdeal.τ).loc Cert.ARestBRefIdeal.main_arg6) = m ((c.tc : Thread Cert.ARestBIdeal.nD Cert.ARestBIdeal.τ).loc Cert.ARestBIdeal.main_arg6)
      ∧ m' ((c.tc : Thread Cert.ARestBRefIdeal.nD Cert.ARestBRefIdeal.τ).loc Cert.ARestBRefIdeal.main_arg7) = m ((c.tc : Thread Cert.ARestBIdeal.nD Cert.ARestBIdeal.τ).loc Cert.ARestBIdeal.main_arg7)
      ∧ m' ((c.tc : Thread Cert.ARestBRefIdeal.nD Cert.ARestBRefIdeal.τ).loc Cert.ARestBRefIdeal.main_arg8) = m ((c.tc : Thread Cert.ARestBIdeal.nD Cert.ARestBIdeal.τ).loc Cert.ARestBIdeal.main_arg8)
      ∧ m' ((c.tc : Thread Cert.ARestBRefIdeal.nD Cert.ARestBRefIdeal.τ).loc Cert.ARestBRefIdeal.main_arg9) = m ((c.tc : Thread Cert.ARestBIdeal.nD Cert.ARestBIdeal.τ).loc Cert.ARestBIdeal.main_arg9)
      ∧ m' ((c.tc : Thread Cert.ARestBRefIdeal.nD Cert.ARestBRefIdeal.τ).loc Cert.ARestBRefIdeal.main_arg10) = m ((c.tc : Thread Cert.ARestBIdeal.nD Cert.ARestBIdeal.τ).loc Cert.ARestBIdeal.main_arg10)
      ∧ m' ((c.tc : Thread Cert.ARestBRefIdeal.nD Cert.ARestBRefIdeal.τ).loc Cert.ARestBRefIdeal.main_arg11) = m ((c.tc : Thread Cert.ARestBIdeal.nD Cert.ARestBIdeal.τ).loc Cert.ARestBIdeal.main_arg11)
      ∧ m' ((c.tc : Thread Cert.ARestBRefIdeal.nD Cert.ARestBRefIdeal.τ).loc Cert.ARestBRefIdeal.main_arg12) = m ((c.tc : Thread Cert.ARestBIdeal.nD Cert.ARestBIdeal.τ).loc Cert.ARestBIdeal.main_arg12)
      ∧ m' ((c.tc : Thread Cert.ARestBRefIdeal.nD Cert.ARestBRefIdeal.τ).loc Cert.ARestBRefIdeal.main_arg13) = m ((c.tc : Thread Cert.ARestBIdeal.nD Cert.ARestBIdeal.τ).loc Cert.ARestBIdeal.main_arg13)
      ∧ m' ((c.tc : Thread Cert.ARestBRefIdeal.nD Cert.ARestBRefIdeal.τ).loc Cert.ARestBRefIdeal.main_arg14) = m ((c.tc : Thread Cert.ARestBIdeal.nD Cert.ARestBIdeal.τ).loc Cert.ARestBIdeal.main_arg14)
      ∧ m' ((c.tc : Thread Cert.ARestBRefIdeal.nD Cert.ARestBRefIdeal.τ).loc Cert.ARestBRefIdeal.main_arg15) = m ((c.tc : Thread Cert.ARestBIdeal.nD Cert.ARestBIdeal.τ).loc Cert.ARestBIdeal.main_arg15)) →
    ∃ (v0 : (c : Dev Cert.ARestBIdeal.nD) → Buf (Elt Ideal) ((c.tc : Thread Cert.ARestBIdeal.nD Cert.ARestBIdeal.τ).loc Cert.ARestBIdeal.main_v0_0)) (v1 : (c : Dev Cert.ARestBIdeal.nD) → Buf (Elt Ideal) ((c.tc : Thread Cert.ARestBIdeal.nD Cert.ARestBIdeal.τ).loc Cert.ARestBIdeal.main_v0_1)) (v2 : (c : Dev Cert.ARestBIdeal.nD) → Buf (Elt Ideal) ((c.tc : Thread Cert.ARestBIdeal.nD Cert.ARestBIdeal.τ).loc Cert.ARestBIdeal.main_v0_2)) (v3 : (c : Dev Cert.ARestBIdeal.nD) → Buf (Elt Ideal) ((c.tc : Thread Cert.ARestBIdeal.nD Cert.ARestBIdeal.τ).loc Cert.ARestBIdeal.main_v0_3)) (v4 : (c : Dev Cert.ARestBIdeal.nD) → Buf (Elt Ideal) ((c.tc : Thread Cert.ARestBIdeal.nD Cert.ARestBIdeal.τ).loc Cert.ARestBIdeal.main_v0_4)) (v5 : (c : Dev Cert.ARestBIdeal.nD) → Buf (Elt Ideal) ((c.tc : Thread Cert.ARestBIdeal.nD Cert.ARestBIdeal.τ).loc Cert.ARestBIdeal.main_v0_5)) (v6 : (c : Dev Cert.ARestBIdeal.nD) → Buf (Elt Ideal) ((c.tc : Thread Cert.ARestBIdeal.nD Cert.ARestBIdeal.τ).loc Cert.ARestBIdeal.main_v0_6)) (v7 : (c : Dev Cert.ARestBIdeal.nD) → Buf (Elt Ideal) ((c.tc : Thread Cert.ARestBIdeal.nD Cert.ARestBIdeal.τ).loc Cert.ARestBIdeal.main_v0_7)) (v8 : (c : Dev Cert.ARestBIdeal.nD) → Buf (Elt Ideal) ((c.tc : Thread Cert.ARestBIdeal.nD Cert.ARestBIdeal.τ).loc Cert.ARestBIdeal.main_v0_8)) (v9 : (c : Dev Cert.ARestBIdeal.nD) → Buf (Elt Ideal) ((c.tc : Thread Cert.ARestBIdeal.nD Cert.ARestBIdeal.τ).loc Cert.ARestBIdeal.main_v0_9)) (v10 : (c : Dev Cert.ARestBIdeal.nD) → Buf (Elt Ideal) ((c.tc : Thread Cert.ARestBIdeal.nD Cert.ARestBIdeal.τ).loc Cert.ARestBIdeal.main_v0_10)) (v11 : (c : Dev Cert.ARestBIdeal.nD) → Buf (Elt Ideal) ((c.tc : Thread Cert.ARestBIdeal.nD Cert.ARestBIdeal.τ).loc Cert.ARestBIdeal.main_v0_11)),
      θ_run (Cert.ARestBIdeal.defs (F := Ideal)) (onTc (τ := Cert.ARestBIdeal.τ) (Cert.ARestBIdeal.main (F := Ideal))) ⟨m, fun _ => 0, g⟩ (fun r => ∀ c : Dev Cert.ARestBIdeal.nD,
          r.2.mem ((c.tc : Thread Cert.ARestBIdeal.nD Cert.ARestBIdeal.τ).loc Cert.ARestBIdeal.main_v0_0) = v0 c
          ∧ r.2.mem ((c.tc : Thread Cert.ARestBIdeal.nD Cert.ARestBIdeal.τ).loc Cert.ARestBIdeal.main_v0_1) = v1 c
          ∧ r.2.mem ((c.tc : Thread Cert.ARestBIdeal.nD Cert.ARestBIdeal.τ).loc Cert.ARestBIdeal.main_v0_2) = v2 c
          ∧ r.2.mem ((c.tc : Thread Cert.ARestBIdeal.nD Cert.ARestBIdeal.τ).loc Cert.ARestBIdeal.main_v0_3) = v3 c
          ∧ r.2.mem ((c.tc : Thread Cert.ARestBIdeal.nD Cert.ARestBIdeal.τ).loc Cert.ARestBIdeal.main_v0_4) = v4 c
          ∧ r.2.mem ((c.tc : Thread Cert.ARestBIdeal.nD Cert.ARestBIdeal.τ).loc Cert.ARestBIdeal.main_v0_5) = v5 c
          ∧ r.2.mem ((c.tc : Thread Cert.ARestBIdeal.nD Cert.ARestBIdeal.τ).loc Cert.ARestBIdeal.main_v0_6) = v6 c
          ∧ r.2.mem ((c.tc : Thread Cert.ARestBIdeal.nD Cert.ARestBIdeal.τ).loc Cert.ARestBIdeal.main_v0_7) = v7 c
          ∧ r.2.mem ((c.tc : Thread Cert.ARestBIdeal.nD Cert.ARestBIdeal.τ).loc Cert.ARestBIdeal.main_v0_8) = v8 c
          ∧ r.2.mem ((c.tc : Thread Cert.ARestBIdeal.nD Cert.ARestBIdeal.τ).loc Cert.ARestBIdeal.main_v0_9) = v9 c
          ∧ r.2.mem ((c.tc : Thread Cert.ARestBIdeal.nD Cert.ARestBIdeal.τ).loc Cert.ARestBIdeal.main_v0_10) = v10 c
          ∧ r.2.mem ((c.tc : Thread Cert.ARestBIdeal.nD Cert.ARestBIdeal.τ).loc Cert.ARestBIdeal.main_v0_11) = v11 c
          ∧ r.2.mem ((c.tc : Thread Cert.ARestBIdeal.nD Cert.ARestBIdeal.τ).loc Cert.ARestBIdeal.main_arg0) = m ((c.tc : Thread Cert.ARestBIdeal.nD Cert.ARestBIdeal.τ).loc Cert.ARestBIdeal.main_arg0)
          ∧ r.2.mem ((c.tc : Thread Cert.ARestBIdeal.nD Cert.ARestBIdeal.τ).loc Cert.ARestBIdeal.main_arg1) = m ((c.tc : Thread Cert.ARestBIdeal.nD Cert.ARestBIdeal.τ).loc Cert.ARestBIdeal.main_arg1)
          ∧ r.2.mem ((c.tc : Thread Cert.ARestBIdeal.nD Cert.ARestBIdeal.τ).loc Cert.ARestBIdeal.main_arg2) = m ((c.tc : Thread Cert.ARestBIdeal.nD Cert.ARestBIdeal.τ).loc Cert.ARestBIdeal.main_arg2)
          ∧ r.2.mem ((c.tc : Thread Cert.ARestBIdeal.nD Cert.ARestBIdeal.τ).loc Cert.ARestBIdeal.main_arg3) = m ((c.tc : Thread Cert.ARestBIdeal.nD Cert.ARestBIdeal.τ).loc Cert.ARestBIdeal.main_arg3)
          ∧ r.2.mem ((c.tc : Thread Cert.ARestBIdeal.nD Cert.ARestBIdeal.τ).loc Cert.ARestBIdeal.main_arg4) = m ((c.tc : Thread Cert.ARestBIdeal.nD Cert.ARestBIdeal.τ).loc Cert.ARestBIdeal.main_arg4)
          ∧ r.2.mem ((c.tc : Thread Cert.ARestBIdeal.nD Cert.ARestBIdeal.τ).loc Cert.ARestBIdeal.main_arg5) = m ((c.tc : Thread Cert.ARestBIdeal.nD Cert.ARestBIdeal.τ).loc Cert.ARestBIdeal.main_arg5)
          ∧ r.2.mem ((c.tc : Thread Cert.ARestBIdeal.nD Cert.ARestBIdeal.τ).loc Cert.ARestBIdeal.main_arg6) = m ((c.tc : Thread Cert.ARestBIdeal.nD Cert.ARestBIdeal.τ).loc Cert.ARestBIdeal.main_arg6)
          ∧ r.2.mem ((c.tc : Thread Cert.ARestBIdeal.nD Cert.ARestBIdeal.τ).loc Cert.ARestBIdeal.main_arg7) = m ((c.tc : Thread Cert.ARestBIdeal.nD Cert.ARestBIdeal.τ).loc Cert.ARestBIdeal.main_arg7)
          ∧ r.2.mem ((c.tc : Thread Cert.ARestBIdeal.nD Cert.ARestBIdeal.τ).loc Cert.ARestBIdeal.main_arg8) = m ((c.tc : Thread Cert.ARestBIdeal.nD Cert.ARestBIdeal.τ).loc Cert.ARestBIdeal.main_arg8)
          ∧ r.2.mem ((c.tc : Thread Cert.ARestBIdeal.nD Cert.ARestBIdeal.τ).loc Cert.ARestBIdeal.main_arg9) = m ((c.tc : Thread Cert.ARestBIdeal.nD Cert.ARestBIdeal.τ).loc Cert.ARestBIdeal.main_arg9)
          ∧ r.2.mem ((c.tc : Thread Cert.ARestBIdeal.nD Cert.ARestBIdeal.τ).loc Cert.ARestBIdeal.main_arg10) = m ((c.tc : Thread Cert.ARestBIdeal.nD Cert.ARestBIdeal.τ).loc Cert.ARestBIdeal.main_arg10)
          ∧ r.2.mem ((c.tc : Thread Cert.ARestBIdeal.nD Cert.ARestBIdeal.τ).loc Cert.ARestBIdeal.main_arg11) = m ((c.tc : Thread Cert.ARestBIdeal.nD Cert.ARestBIdeal.τ).loc Cert.ARestBIdeal.main_arg11)
          ∧ r.2.mem ((c.tc : Thread Cert.ARestBIdeal.nD Cert.ARestBIdeal.τ).loc Cert.ARestBIdeal.main_arg12) = m ((c.tc : Thread Cert.ARestBIdeal.nD Cert.ARestBIdeal.τ).loc Cert.ARestBIdeal.main_arg12)
          ∧ r.2.mem ((c.tc : Thread Cert.ARestBIdeal.nD Cert.ARestBIdeal.τ).loc Cert.ARestBIdeal.main_arg13) = m ((c.tc : Thread Cert.ARestBIdeal.nD Cert.ARestBIdeal.τ).loc Cert.ARestBIdeal.main_arg13)
          ∧ r.2.mem ((c.tc : Thread Cert.ARestBIdeal.nD Cert.ARestBIdeal.τ).loc Cert.ARestBIdeal.main_arg14) = m ((c.tc : Thread Cert.ARestBIdeal.nD Cert.ARestBIdeal.τ).loc Cert.ARestBIdeal.main_arg14)
          ∧ r.2.mem ((c.tc : Thread Cert.ARestBIdeal.nD Cert.ARestBIdeal.τ).loc Cert.ARestBIdeal.main_arg15) = m ((c.tc : Thread Cert.ARestBIdeal.nD Cert.ARestBIdeal.τ).loc Cert.ARestBIdeal.main_arg15))
      ∧ θ_run (Cert.ARestBRefIdeal.defs (F := Ideal)) (onTc (τ := Cert.ARestBRefIdeal.τ) (Cert.ARestBRefIdeal.main (F := Ideal))) ⟨m', fun _ => 0, g'⟩ (fun r => ∀ c : Dev Cert.ARestBRefIdeal.nD,
          r.2.mem ((c.tc : Thread Cert.ARestBRefIdeal.nD Cert.ARestBRefIdeal.τ).loc Cert.ARestBRefIdeal.main_v23) = v0 c
          ∧ r.2.mem ((c.tc : Thread Cert.ARestBRefIdeal.nD Cert.ARestBRefIdeal.τ).loc Cert.ARestBRefIdeal.main_v47) = v1 c
          ∧ r.2.mem ((c.tc : Thread Cert.ARestBRefIdeal.nD Cert.ARestBRefIdeal.τ).loc Cert.ARestBRefIdeal.main_v71) = v2 c
          ∧ r.2.mem ((c.tc : Thread Cert.ARestBRefIdeal.nD Cert.ARestBRefIdeal.τ).loc Cert.ARestBRefIdeal.main_v95) = v3 c
          ∧ r.2.mem ((c.tc : Thread Cert.ARestBRefIdeal.nD Cert.ARestBRefIdeal.τ).loc Cert.ARestBRefIdeal.main_v4) = v4 c
          ∧ r.2.mem ((c.tc : Thread Cert.ARestBRefIdeal.nD Cert.ARestBRefIdeal.τ).loc Cert.ARestBRefIdeal.main_v28) = v5 c
          ∧ r.2.mem ((c.tc : Thread Cert.ARestBRefIdeal.nD Cert.ARestBRefIdeal.τ).loc Cert.ARestBRefIdeal.main_v52) = v6 c
          ∧ r.2.mem ((c.tc : Thread Cert.ARestBRefIdeal.nD Cert.ARestBRefIdeal.τ).loc Cert.ARestBRefIdeal.main_v76) = v7 c
          ∧ r.2.mem ((c.tc : Thread Cert.ARestBRefIdeal.nD Cert.ARestBRefIdeal.τ).loc Cert.ARestBRefIdeal.main_v10) = v8 c
          ∧ r.2.mem ((c.tc : Thread Cert.ARestBRefIdeal.nD Cert.ARestBRefIdeal.τ).loc Cert.ARestBRefIdeal.main_v34) = v9 c
          ∧ r.2.mem ((c.tc : Thread Cert.ARestBRefIdeal.nD Cert.ARestBRefIdeal.τ).loc Cert.ARestBRefIdeal.main_v58) = v10 c
          ∧ r.2.mem ((c.tc : Thread Cert.ARestBRefIdeal.nD Cert.ARestBRefIdeal.τ).loc Cert.ARestBRefIdeal.main_v82) = v11 c
          ∧ r.2.mem ((c.tc : Thread Cert.ARestBRefIdeal.nD Cert.ARestBRefIdeal.τ).loc Cert.ARestBRefIdeal.main_arg0) = m' ((c.tc : Thread Cert.ARestBRefIdeal.nD Cert.ARestBRefIdeal.τ).loc Cert.ARestBRefIdeal.main_arg0)
          ∧ r.2.mem ((c.tc : Thread Cert.ARestBRefIdeal.nD Cert.ARestBRefIdeal.τ).loc Cert.ARestBRefIdeal.main_arg1) = m' ((c.tc : Thread Cert.ARestBRefIdeal.nD Cert.ARestBRefIdeal.τ).loc Cert.ARestBRefIdeal.main_arg1)
          ∧ r.2.mem ((c.tc : Thread Cert.ARestBRefIdeal.nD Cert.ARestBRefIdeal.τ).loc Cert.ARestBRefIdeal.main_arg2) = m' ((c.tc : Thread Cert.ARestBRefIdeal.nD Cert.ARestBRefIdeal.τ).loc Cert.ARestBRefIdeal.main_arg2)
          ∧ r.2.mem ((c.tc : Thread Cert.ARestBRefIdeal.nD Cert.ARestBRefIdeal.τ).loc Cert.ARestBRefIdeal.main_arg3) = m' ((c.tc : Thread Cert.ARestBRefIdeal.nD Cert.ARestBRefIdeal.τ).loc Cert.ARestBRefIdeal.main_arg3)
          ∧ r.2.mem ((c.tc : Thread Cert.ARestBRefIdeal.nD Cert.ARestBRefIdeal.τ).loc Cert.ARestBRefIdeal.main_arg4) = m' ((c.tc : Thread Cert.ARestBRefIdeal.nD Cert.ARestBRefIdeal.τ).loc Cert.ARestBRefIdeal.main_arg4)
          ∧ r.2.mem ((c.tc : Thread Cert.ARestBRefIdeal.nD Cert.ARestBRefIdeal.τ).loc Cert.ARestBRefIdeal.main_arg5) = m' ((c.tc : Thread Cert.ARestBRefIdeal.nD Cert.ARestBRefIdeal.τ).loc Cert.ARestBRefIdeal.main_arg5)
          ∧ r.2.mem ((c.tc : Thread Cert.ARestBRefIdeal.nD Cert.ARestBRefIdeal.τ).loc Cert.ARestBRefIdeal.main_arg6) = m' ((c.tc : Thread Cert.ARestBRefIdeal.nD Cert.ARestBRefIdeal.τ).loc Cert.ARestBRefIdeal.main_arg6)
          ∧ r.2.mem ((c.tc : Thread Cert.ARestBRefIdeal.nD Cert.ARestBRefIdeal.τ).loc Cert.ARestBRefIdeal.main_arg7) = m' ((c.tc : Thread Cert.ARestBRefIdeal.nD Cert.ARestBRefIdeal.τ).loc Cert.ARestBRefIdeal.main_arg7)
          ∧ r.2.mem ((c.tc : Thread Cert.ARestBRefIdeal.nD Cert.ARestBRefIdeal.τ).loc Cert.ARestBRefIdeal.main_arg8) = m' ((c.tc : Thread Cert.ARestBRefIdeal.nD Cert.ARestBRefIdeal.τ).loc Cert.ARestBRefIdeal.main_arg8)
          ∧ r.2.mem ((c.tc : Thread Cert.ARestBRefIdeal.nD Cert.ARestBRefIdeal.τ).loc Cert.ARestBRefIdeal.main_arg9) = m' ((c.tc : Thread Cert.ARestBRefIdeal.nD Cert.ARestBRefIdeal.τ).loc Cert.ARestBRefIdeal.main_arg9)
          ∧ r.2.mem ((c.tc : Thread Cert.ARestBRefIdeal.nD Cert.ARestBRefIdeal.τ).loc Cert.ARestBRefIdeal.main_arg10) = m' ((c.tc : Thread Cert.ARestBRefIdeal.nD Cert.ARestBRefIdeal.τ).loc Cert.ARestBRefIdeal.main_arg10)
          ∧ r.2.mem ((c.tc : Thread Cert.ARestBRefIdeal.nD Cert.ARestBRefIdeal.τ).loc Cert.ARestBRefIdeal.main_arg11) = m' ((c.tc : Thread Cert.ARestBRefIdeal.nD Cert.ARestBRefIdeal.τ).loc Cert.ARestBRefIdeal.main_arg11)
          ∧ r.2.mem ((c.tc : Thread Cert.ARestBRefIdeal.nD Cert.ARestBRefIdeal.τ).loc Cert.ARestBRefIdeal.main_arg12) = m' ((c.tc : Thread Cert.ARestBRefIdeal.nD Cert.ARestBRefIdeal.τ).loc Cert.ARestBRefIdeal.main_arg12)
          ∧ r.2.mem ((c.tc : Thread Cert.ARestBRefIdeal.nD Cert.ARestBRefIdeal.τ).loc Cert.ARestBRefIdeal.main_arg13) = m' ((c.tc : Thread Cert.ARestBRefIdeal.nD Cert.ARestBRefIdeal.τ).loc Cert.ARestBRefIdeal.main_arg13)
          ∧ r.2.mem ((c.tc : Thread Cert.ARestBRefIdeal.nD Cert.ARestBRefIdeal.τ).loc Cert.ARestBRefIdeal.main_arg14) = m' ((c.tc : Thread Cert.ARestBRefIdeal.nD Cert.ARestBRefIdeal.τ).loc Cert.ARestBRefIdeal.main_arg14)
          ∧ r.2.mem ((c.tc : Thread Cert.ARestBRefIdeal.nD Cert.ARestBRefIdeal.τ).loc Cert.ARestBRefIdeal.main_arg15) = m' ((c.tc : Thread Cert.ARestBRefIdeal.nD Cert.ARestBRefIdeal.τ).loc Cert.ARestBRefIdeal.main_arg15))

def preserves_ARestC_ARestCIdeal : Prop :=
  True

def algebraic_ARestCIdeal_ARestCRefIdeal [hARestCIdeal : Cert.ARestCIdeal.Facts] [hARestCRefIdeal : Cert.ARestCRefIdeal.Facts] : Prop :=
  ∀ (m : (ℓ : Loc Cert.ARestCIdeal.nD Cert.ARestCIdeal.τ Cert.ARestCIdeal.sig) → Buf (Elt Ideal) ℓ) (g : Dev Cert.ARestCIdeal.nD → PrngReg)
    (m' : (ℓ : Loc Cert.ARestCRefIdeal.nD Cert.ARestCRefIdeal.τ Cert.ARestCRefIdeal.sig) → Buf (Elt Ideal) ℓ) (g' : Dev Cert.ARestCRefIdeal.nD → PrngReg), Pre_ARestCIdeal m →
    (∀ c : Dev Cert.ARestCIdeal.nD,
      m' ((c.tc : Thread Cert.ARestCRefIdeal.nD Cert.ARestCRefIdeal.τ).loc Cert.ARestCRefIdeal.main_arg0) = m ((c.tc : Thread Cert.ARestCIdeal.nD Cert.ARestCIdeal.τ).loc Cert.ARestCIdeal.main_arg0)
      ∧ m' ((c.tc : Thread Cert.ARestCRefIdeal.nD Cert.ARestCRefIdeal.τ).loc Cert.ARestCRefIdeal.main_arg1) = m ((c.tc : Thread Cert.ARestCIdeal.nD Cert.ARestCIdeal.τ).loc Cert.ARestCIdeal.main_arg1)
      ∧ m' ((c.tc : Thread Cert.ARestCRefIdeal.nD Cert.ARestCRefIdeal.τ).loc Cert.ARestCRefIdeal.main_arg2) = m ((c.tc : Thread Cert.ARestCIdeal.nD Cert.ARestCIdeal.τ).loc Cert.ARestCIdeal.main_arg2)
      ∧ m' ((c.tc : Thread Cert.ARestCRefIdeal.nD Cert.ARestCRefIdeal.τ).loc Cert.ARestCRefIdeal.main_arg3) = m ((c.tc : Thread Cert.ARestCIdeal.nD Cert.ARestCIdeal.τ).loc Cert.ARestCIdeal.main_arg3)
      ∧ m' ((c.tc : Thread Cert.ARestCRefIdeal.nD Cert.ARestCRefIdeal.τ).loc Cert.ARestCRefIdeal.main_arg4) = m ((c.tc : Thread Cert.ARestCIdeal.nD Cert.ARestCIdeal.τ).loc Cert.ARestCIdeal.main_arg4)
      ∧ m' ((c.tc : Thread Cert.ARestCRefIdeal.nD Cert.ARestCRefIdeal.τ).loc Cert.ARestCRefIdeal.main_arg5) = m ((c.tc : Thread Cert.ARestCIdeal.nD Cert.ARestCIdeal.τ).loc Cert.ARestCIdeal.main_arg5)
      ∧ m' ((c.tc : Thread Cert.ARestCRefIdeal.nD Cert.ARestCRefIdeal.τ).loc Cert.ARestCRefIdeal.main_arg6) = m ((c.tc : Thread Cert.ARestCIdeal.nD Cert.ARestCIdeal.τ).loc Cert.ARestCIdeal.main_arg6)
      ∧ m' ((c.tc : Thread Cert.ARestCRefIdeal.nD Cert.ARestCRefIdeal.τ).loc Cert.ARestCRefIdeal.main_arg7) = m ((c.tc : Thread Cert.ARestCIdeal.nD Cert.ARestCIdeal.τ).loc Cert.ARestCIdeal.main_arg7)
      ∧ m' ((c.tc : Thread Cert.ARestCRefIdeal.nD Cert.ARestCRefIdeal.τ).loc Cert.ARestCRefIdeal.main_arg8) = m ((c.tc : Thread Cert.ARestCIdeal.nD Cert.ARestCIdeal.τ).loc Cert.ARestCIdeal.main_arg8)
      ∧ m' ((c.tc : Thread Cert.ARestCRefIdeal.nD Cert.ARestCRefIdeal.τ).loc Cert.ARestCRefIdeal.main_arg9) = m ((c.tc : Thread Cert.ARestCIdeal.nD Cert.ARestCIdeal.τ).loc Cert.ARestCIdeal.main_arg9)
      ∧ m' ((c.tc : Thread Cert.ARestCRefIdeal.nD Cert.ARestCRefIdeal.τ).loc Cert.ARestCRefIdeal.main_arg10) = m ((c.tc : Thread Cert.ARestCIdeal.nD Cert.ARestCIdeal.τ).loc Cert.ARestCIdeal.main_arg10)
      ∧ m' ((c.tc : Thread Cert.ARestCRefIdeal.nD Cert.ARestCRefIdeal.τ).loc Cert.ARestCRefIdeal.main_arg11) = m ((c.tc : Thread Cert.ARestCIdeal.nD Cert.ARestCIdeal.τ).loc Cert.ARestCIdeal.main_arg11)
      ∧ m' ((c.tc : Thread Cert.ARestCRefIdeal.nD Cert.ARestCRefIdeal.τ).loc Cert.ARestCRefIdeal.main_arg12) = m ((c.tc : Thread Cert.ARestCIdeal.nD Cert.ARestCIdeal.τ).loc Cert.ARestCIdeal.main_arg12)
      ∧ m' ((c.tc : Thread Cert.ARestCRefIdeal.nD Cert.ARestCRefIdeal.τ).loc Cert.ARestCRefIdeal.main_arg13) = m ((c.tc : Thread Cert.ARestCIdeal.nD Cert.ARestCIdeal.τ).loc Cert.ARestCIdeal.main_arg13)
      ∧ m' ((c.tc : Thread Cert.ARestCRefIdeal.nD Cert.ARestCRefIdeal.τ).loc Cert.ARestCRefIdeal.main_arg14) = m ((c.tc : Thread Cert.ARestCIdeal.nD Cert.ARestCIdeal.τ).loc Cert.ARestCIdeal.main_arg14)
      ∧ m' ((c.tc : Thread Cert.ARestCRefIdeal.nD Cert.ARestCRefIdeal.τ).loc Cert.ARestCRefIdeal.main_arg15) = m ((c.tc : Thread Cert.ARestCIdeal.nD Cert.ARestCIdeal.τ).loc Cert.ARestCIdeal.main_arg15)) →
    ∃ (v0 : (c : Dev Cert.ARestCIdeal.nD) → Buf (Elt Ideal) ((c.tc : Thread Cert.ARestCIdeal.nD Cert.ARestCIdeal.τ).loc Cert.ARestCIdeal.main_v0_0)) (v1 : (c : Dev Cert.ARestCIdeal.nD) → Buf (Elt Ideal) ((c.tc : Thread Cert.ARestCIdeal.nD Cert.ARestCIdeal.τ).loc Cert.ARestCIdeal.main_v0_1)) (v2 : (c : Dev Cert.ARestCIdeal.nD) → Buf (Elt Ideal) ((c.tc : Thread Cert.ARestCIdeal.nD Cert.ARestCIdeal.τ).loc Cert.ARestCIdeal.main_v0_2)) (v3 : (c : Dev Cert.ARestCIdeal.nD) → Buf (Elt Ideal) ((c.tc : Thread Cert.ARestCIdeal.nD Cert.ARestCIdeal.τ).loc Cert.ARestCIdeal.main_v0_3)) (v4 : (c : Dev Cert.ARestCIdeal.nD) → Buf (Elt Ideal) ((c.tc : Thread Cert.ARestCIdeal.nD Cert.ARestCIdeal.τ).loc Cert.ARestCIdeal.main_v0_4)) (v5 : (c : Dev Cert.ARestCIdeal.nD) → Buf (Elt Ideal) ((c.tc : Thread Cert.ARestCIdeal.nD Cert.ARestCIdeal.τ).loc Cert.ARestCIdeal.main_v0_5)) (v6 : (c : Dev Cert.ARestCIdeal.nD) → Buf (Elt Ideal) ((c.tc : Thread Cert.ARestCIdeal.nD Cert.ARestCIdeal.τ).loc Cert.ARestCIdeal.main_v0_6)) (v7 : (c : Dev Cert.ARestCIdeal.nD) → Buf (Elt Ideal) ((c.tc : Thread Cert.ARestCIdeal.nD Cert.ARestCIdeal.τ).loc Cert.ARestCIdeal.main_v0_7)) (v8 : (c : Dev Cert.ARestCIdeal.nD) → Buf (Elt Ideal) ((c.tc : Thread Cert.ARestCIdeal.nD Cert.ARestCIdeal.τ).loc Cert.ARestCIdeal.main_v0_8)) (v9 : (c : Dev Cert.ARestCIdeal.nD) → Buf (Elt Ideal) ((c.tc : Thread Cert.ARestCIdeal.nD Cert.ARestCIdeal.τ).loc Cert.ARestCIdeal.main_v0_9)) (v10 : (c : Dev Cert.ARestCIdeal.nD) → Buf (Elt Ideal) ((c.tc : Thread Cert.ARestCIdeal.nD Cert.ARestCIdeal.τ).loc Cert.ARestCIdeal.main_v0_10)) (v11 : (c : Dev Cert.ARestCIdeal.nD) → Buf (Elt Ideal) ((c.tc : Thread Cert.ARestCIdeal.nD Cert.ARestCIdeal.τ).loc Cert.ARestCIdeal.main_v0_11)),
      θ_run (Cert.ARestCIdeal.defs (F := Ideal)) (onTc (τ := Cert.ARestCIdeal.τ) (Cert.ARestCIdeal.main (F := Ideal))) ⟨m, fun _ => 0, g⟩ (fun r => ∀ c : Dev Cert.ARestCIdeal.nD,
          r.2.mem ((c.tc : Thread Cert.ARestCIdeal.nD Cert.ARestCIdeal.τ).loc Cert.ARestCIdeal.main_v0_0) = v0 c
          ∧ r.2.mem ((c.tc : Thread Cert.ARestCIdeal.nD Cert.ARestCIdeal.τ).loc Cert.ARestCIdeal.main_v0_1) = v1 c
          ∧ r.2.mem ((c.tc : Thread Cert.ARestCIdeal.nD Cert.ARestCIdeal.τ).loc Cert.ARestCIdeal.main_v0_2) = v2 c
          ∧ r.2.mem ((c.tc : Thread Cert.ARestCIdeal.nD Cert.ARestCIdeal.τ).loc Cert.ARestCIdeal.main_v0_3) = v3 c
          ∧ r.2.mem ((c.tc : Thread Cert.ARestCIdeal.nD Cert.ARestCIdeal.τ).loc Cert.ARestCIdeal.main_v0_4) = v4 c
          ∧ r.2.mem ((c.tc : Thread Cert.ARestCIdeal.nD Cert.ARestCIdeal.τ).loc Cert.ARestCIdeal.main_v0_5) = v5 c
          ∧ r.2.mem ((c.tc : Thread Cert.ARestCIdeal.nD Cert.ARestCIdeal.τ).loc Cert.ARestCIdeal.main_v0_6) = v6 c
          ∧ r.2.mem ((c.tc : Thread Cert.ARestCIdeal.nD Cert.ARestCIdeal.τ).loc Cert.ARestCIdeal.main_v0_7) = v7 c
          ∧ r.2.mem ((c.tc : Thread Cert.ARestCIdeal.nD Cert.ARestCIdeal.τ).loc Cert.ARestCIdeal.main_v0_8) = v8 c
          ∧ r.2.mem ((c.tc : Thread Cert.ARestCIdeal.nD Cert.ARestCIdeal.τ).loc Cert.ARestCIdeal.main_v0_9) = v9 c
          ∧ r.2.mem ((c.tc : Thread Cert.ARestCIdeal.nD Cert.ARestCIdeal.τ).loc Cert.ARestCIdeal.main_v0_10) = v10 c
          ∧ r.2.mem ((c.tc : Thread Cert.ARestCIdeal.nD Cert.ARestCIdeal.τ).loc Cert.ARestCIdeal.main_v0_11) = v11 c
          ∧ r.2.mem ((c.tc : Thread Cert.ARestCIdeal.nD Cert.ARestCIdeal.τ).loc Cert.ARestCIdeal.main_arg0) = m ((c.tc : Thread Cert.ARestCIdeal.nD Cert.ARestCIdeal.τ).loc Cert.ARestCIdeal.main_arg0)
          ∧ r.2.mem ((c.tc : Thread Cert.ARestCIdeal.nD Cert.ARestCIdeal.τ).loc Cert.ARestCIdeal.main_arg1) = m ((c.tc : Thread Cert.ARestCIdeal.nD Cert.ARestCIdeal.τ).loc Cert.ARestCIdeal.main_arg1)
          ∧ r.2.mem ((c.tc : Thread Cert.ARestCIdeal.nD Cert.ARestCIdeal.τ).loc Cert.ARestCIdeal.main_arg2) = m ((c.tc : Thread Cert.ARestCIdeal.nD Cert.ARestCIdeal.τ).loc Cert.ARestCIdeal.main_arg2)
          ∧ r.2.mem ((c.tc : Thread Cert.ARestCIdeal.nD Cert.ARestCIdeal.τ).loc Cert.ARestCIdeal.main_arg3) = m ((c.tc : Thread Cert.ARestCIdeal.nD Cert.ARestCIdeal.τ).loc Cert.ARestCIdeal.main_arg3)
          ∧ r.2.mem ((c.tc : Thread Cert.ARestCIdeal.nD Cert.ARestCIdeal.τ).loc Cert.ARestCIdeal.main_arg4) = m ((c.tc : Thread Cert.ARestCIdeal.nD Cert.ARestCIdeal.τ).loc Cert.ARestCIdeal.main_arg4)
          ∧ r.2.mem ((c.tc : Thread Cert.ARestCIdeal.nD Cert.ARestCIdeal.τ).loc Cert.ARestCIdeal.main_arg5) = m ((c.tc : Thread Cert.ARestCIdeal.nD Cert.ARestCIdeal.τ).loc Cert.ARestCIdeal.main_arg5)
          ∧ r.2.mem ((c.tc : Thread Cert.ARestCIdeal.nD Cert.ARestCIdeal.τ).loc Cert.ARestCIdeal.main_arg6) = m ((c.tc : Thread Cert.ARestCIdeal.nD Cert.ARestCIdeal.τ).loc Cert.ARestCIdeal.main_arg6)
          ∧ r.2.mem ((c.tc : Thread Cert.ARestCIdeal.nD Cert.ARestCIdeal.τ).loc Cert.ARestCIdeal.main_arg7) = m ((c.tc : Thread Cert.ARestCIdeal.nD Cert.ARestCIdeal.τ).loc Cert.ARestCIdeal.main_arg7)
          ∧ r.2.mem ((c.tc : Thread Cert.ARestCIdeal.nD Cert.ARestCIdeal.τ).loc Cert.ARestCIdeal.main_arg8) = m ((c.tc : Thread Cert.ARestCIdeal.nD Cert.ARestCIdeal.τ).loc Cert.ARestCIdeal.main_arg8)
          ∧ r.2.mem ((c.tc : Thread Cert.ARestCIdeal.nD Cert.ARestCIdeal.τ).loc Cert.ARestCIdeal.main_arg9) = m ((c.tc : Thread Cert.ARestCIdeal.nD Cert.ARestCIdeal.τ).loc Cert.ARestCIdeal.main_arg9)
          ∧ r.2.mem ((c.tc : Thread Cert.ARestCIdeal.nD Cert.ARestCIdeal.τ).loc Cert.ARestCIdeal.main_arg10) = m ((c.tc : Thread Cert.ARestCIdeal.nD Cert.ARestCIdeal.τ).loc Cert.ARestCIdeal.main_arg10)
          ∧ r.2.mem ((c.tc : Thread Cert.ARestCIdeal.nD Cert.ARestCIdeal.τ).loc Cert.ARestCIdeal.main_arg11) = m ((c.tc : Thread Cert.ARestCIdeal.nD Cert.ARestCIdeal.τ).loc Cert.ARestCIdeal.main_arg11)
          ∧ r.2.mem ((c.tc : Thread Cert.ARestCIdeal.nD Cert.ARestCIdeal.τ).loc Cert.ARestCIdeal.main_arg12) = m ((c.tc : Thread Cert.ARestCIdeal.nD Cert.ARestCIdeal.τ).loc Cert.ARestCIdeal.main_arg12)
          ∧ r.2.mem ((c.tc : Thread Cert.ARestCIdeal.nD Cert.ARestCIdeal.τ).loc Cert.ARestCIdeal.main_arg13) = m ((c.tc : Thread Cert.ARestCIdeal.nD Cert.ARestCIdeal.τ).loc Cert.ARestCIdeal.main_arg13)
          ∧ r.2.mem ((c.tc : Thread Cert.ARestCIdeal.nD Cert.ARestCIdeal.τ).loc Cert.ARestCIdeal.main_arg14) = m ((c.tc : Thread Cert.ARestCIdeal.nD Cert.ARestCIdeal.τ).loc Cert.ARestCIdeal.main_arg14)
          ∧ r.2.mem ((c.tc : Thread Cert.ARestCIdeal.nD Cert.ARestCIdeal.τ).loc Cert.ARestCIdeal.main_arg15) = m ((c.tc : Thread Cert.ARestCIdeal.nD Cert.ARestCIdeal.τ).loc Cert.ARestCIdeal.main_arg15))
      ∧ θ_run (Cert.ARestCRefIdeal.defs (F := Ideal)) (onTc (τ := Cert.ARestCRefIdeal.τ) (Cert.ARestCRefIdeal.main (F := Ideal))) ⟨m', fun _ => 0, g'⟩ (fun r => ∀ c : Dev Cert.ARestCRefIdeal.nD,
          r.2.mem ((c.tc : Thread Cert.ARestCRefIdeal.nD Cert.ARestCRefIdeal.τ).loc Cert.ARestCRefIdeal.main_v23) = v0 c
          ∧ r.2.mem ((c.tc : Thread Cert.ARestCRefIdeal.nD Cert.ARestCRefIdeal.τ).loc Cert.ARestCRefIdeal.main_v47) = v1 c
          ∧ r.2.mem ((c.tc : Thread Cert.ARestCRefIdeal.nD Cert.ARestCRefIdeal.τ).loc Cert.ARestCRefIdeal.main_v71) = v2 c
          ∧ r.2.mem ((c.tc : Thread Cert.ARestCRefIdeal.nD Cert.ARestCRefIdeal.τ).loc Cert.ARestCRefIdeal.main_v95) = v3 c
          ∧ r.2.mem ((c.tc : Thread Cert.ARestCRefIdeal.nD Cert.ARestCRefIdeal.τ).loc Cert.ARestCRefIdeal.main_v4) = v4 c
          ∧ r.2.mem ((c.tc : Thread Cert.ARestCRefIdeal.nD Cert.ARestCRefIdeal.τ).loc Cert.ARestCRefIdeal.main_v28) = v5 c
          ∧ r.2.mem ((c.tc : Thread Cert.ARestCRefIdeal.nD Cert.ARestCRefIdeal.τ).loc Cert.ARestCRefIdeal.main_v52) = v6 c
          ∧ r.2.mem ((c.tc : Thread Cert.ARestCRefIdeal.nD Cert.ARestCRefIdeal.τ).loc Cert.ARestCRefIdeal.main_v76) = v7 c
          ∧ r.2.mem ((c.tc : Thread Cert.ARestCRefIdeal.nD Cert.ARestCRefIdeal.τ).loc Cert.ARestCRefIdeal.main_v10) = v8 c
          ∧ r.2.mem ((c.tc : Thread Cert.ARestCRefIdeal.nD Cert.ARestCRefIdeal.τ).loc Cert.ARestCRefIdeal.main_v34) = v9 c
          ∧ r.2.mem ((c.tc : Thread Cert.ARestCRefIdeal.nD Cert.ARestCRefIdeal.τ).loc Cert.ARestCRefIdeal.main_v58) = v10 c
          ∧ r.2.mem ((c.tc : Thread Cert.ARestCRefIdeal.nD Cert.ARestCRefIdeal.τ).loc Cert.ARestCRefIdeal.main_v82) = v11 c
          ∧ r.2.mem ((c.tc : Thread Cert.ARestCRefIdeal.nD Cert.ARestCRefIdeal.τ).loc Cert.ARestCRefIdeal.main_arg0) = m' ((c.tc : Thread Cert.ARestCRefIdeal.nD Cert.ARestCRefIdeal.τ).loc Cert.ARestCRefIdeal.main_arg0)
          ∧ r.2.mem ((c.tc : Thread Cert.ARestCRefIdeal.nD Cert.ARestCRefIdeal.τ).loc Cert.ARestCRefIdeal.main_arg1) = m' ((c.tc : Thread Cert.ARestCRefIdeal.nD Cert.ARestCRefIdeal.τ).loc Cert.ARestCRefIdeal.main_arg1)
          ∧ r.2.mem ((c.tc : Thread Cert.ARestCRefIdeal.nD Cert.ARestCRefIdeal.τ).loc Cert.ARestCRefIdeal.main_arg2) = m' ((c.tc : Thread Cert.ARestCRefIdeal.nD Cert.ARestCRefIdeal.τ).loc Cert.ARestCRefIdeal.main_arg2)
          ∧ r.2.mem ((c.tc : Thread Cert.ARestCRefIdeal.nD Cert.ARestCRefIdeal.τ).loc Cert.ARestCRefIdeal.main_arg3) = m' ((c.tc : Thread Cert.ARestCRefIdeal.nD Cert.ARestCRefIdeal.τ).loc Cert.ARestCRefIdeal.main_arg3)
          ∧ r.2.mem ((c.tc : Thread Cert.ARestCRefIdeal.nD Cert.ARestCRefIdeal.τ).loc Cert.ARestCRefIdeal.main_arg4) = m' ((c.tc : Thread Cert.ARestCRefIdeal.nD Cert.ARestCRefIdeal.τ).loc Cert.ARestCRefIdeal.main_arg4)
          ∧ r.2.mem ((c.tc : Thread Cert.ARestCRefIdeal.nD Cert.ARestCRefIdeal.τ).loc Cert.ARestCRefIdeal.main_arg5) = m' ((c.tc : Thread Cert.ARestCRefIdeal.nD Cert.ARestCRefIdeal.τ).loc Cert.ARestCRefIdeal.main_arg5)
          ∧ r.2.mem ((c.tc : Thread Cert.ARestCRefIdeal.nD Cert.ARestCRefIdeal.τ).loc Cert.ARestCRefIdeal.main_arg6) = m' ((c.tc : Thread Cert.ARestCRefIdeal.nD Cert.ARestCRefIdeal.τ).loc Cert.ARestCRefIdeal.main_arg6)
          ∧ r.2.mem ((c.tc : Thread Cert.ARestCRefIdeal.nD Cert.ARestCRefIdeal.τ).loc Cert.ARestCRefIdeal.main_arg7) = m' ((c.tc : Thread Cert.ARestCRefIdeal.nD Cert.ARestCRefIdeal.τ).loc Cert.ARestCRefIdeal.main_arg7)
          ∧ r.2.mem ((c.tc : Thread Cert.ARestCRefIdeal.nD Cert.ARestCRefIdeal.τ).loc Cert.ARestCRefIdeal.main_arg8) = m' ((c.tc : Thread Cert.ARestCRefIdeal.nD Cert.ARestCRefIdeal.τ).loc Cert.ARestCRefIdeal.main_arg8)
          ∧ r.2.mem ((c.tc : Thread Cert.ARestCRefIdeal.nD Cert.ARestCRefIdeal.τ).loc Cert.ARestCRefIdeal.main_arg9) = m' ((c.tc : Thread Cert.ARestCRefIdeal.nD Cert.ARestCRefIdeal.τ).loc Cert.ARestCRefIdeal.main_arg9)
          ∧ r.2.mem ((c.tc : Thread Cert.ARestCRefIdeal.nD Cert.ARestCRefIdeal.τ).loc Cert.ARestCRefIdeal.main_arg10) = m' ((c.tc : Thread Cert.ARestCRefIdeal.nD Cert.ARestCRefIdeal.τ).loc Cert.ARestCRefIdeal.main_arg10)
          ∧ r.2.mem ((c.tc : Thread Cert.ARestCRefIdeal.nD Cert.ARestCRefIdeal.τ).loc Cert.ARestCRefIdeal.main_arg11) = m' ((c.tc : Thread Cert.ARestCRefIdeal.nD Cert.ARestCRefIdeal.τ).loc Cert.ARestCRefIdeal.main_arg11)
          ∧ r.2.mem ((c.tc : Thread Cert.ARestCRefIdeal.nD Cert.ARestCRefIdeal.τ).loc Cert.ARestCRefIdeal.main_arg12) = m' ((c.tc : Thread Cert.ARestCRefIdeal.nD Cert.ARestCRefIdeal.τ).loc Cert.ARestCRefIdeal.main_arg12)
          ∧ r.2.mem ((c.tc : Thread Cert.ARestCRefIdeal.nD Cert.ARestCRefIdeal.τ).loc Cert.ARestCRefIdeal.main_arg13) = m' ((c.tc : Thread Cert.ARestCRefIdeal.nD Cert.ARestCRefIdeal.τ).loc Cert.ARestCRefIdeal.main_arg13)
          ∧ r.2.mem ((c.tc : Thread Cert.ARestCRefIdeal.nD Cert.ARestCRefIdeal.τ).loc Cert.ARestCRefIdeal.main_arg14) = m' ((c.tc : Thread Cert.ARestCRefIdeal.nD Cert.ARestCRefIdeal.τ).loc Cert.ARestCRefIdeal.main_arg14)
          ∧ r.2.mem ((c.tc : Thread Cert.ARestCRefIdeal.nD Cert.ARestCRefIdeal.τ).loc Cert.ARestCRefIdeal.main_arg15) = m' ((c.tc : Thread Cert.ARestCRefIdeal.nD Cert.ARestCRefIdeal.τ).loc Cert.ARestCRefIdeal.main_arg15))

def preserves_ARestD_ARestDIdeal : Prop :=
  True

def algebraic_ARestDIdeal_ARestDRefIdeal [hARestDIdeal : Cert.ARestDIdeal.Facts] [hARestDRefIdeal : Cert.ARestDRefIdeal.Facts] : Prop :=
  ∀ (m : (ℓ : Loc Cert.ARestDIdeal.nD Cert.ARestDIdeal.τ Cert.ARestDIdeal.sig) → Buf (Elt Ideal) ℓ) (g : Dev Cert.ARestDIdeal.nD → PrngReg)
    (m' : (ℓ : Loc Cert.ARestDRefIdeal.nD Cert.ARestDRefIdeal.τ Cert.ARestDRefIdeal.sig) → Buf (Elt Ideal) ℓ) (g' : Dev Cert.ARestDRefIdeal.nD → PrngReg), Pre_ARestDIdeal m →
    (∀ c : Dev Cert.ARestDIdeal.nD,
      m' ((c.tc : Thread Cert.ARestDRefIdeal.nD Cert.ARestDRefIdeal.τ).loc Cert.ARestDRefIdeal.main_arg0) = m ((c.tc : Thread Cert.ARestDIdeal.nD Cert.ARestDIdeal.τ).loc Cert.ARestDIdeal.main_arg0)
      ∧ m' ((c.tc : Thread Cert.ARestDRefIdeal.nD Cert.ARestDRefIdeal.τ).loc Cert.ARestDRefIdeal.main_arg1) = m ((c.tc : Thread Cert.ARestDIdeal.nD Cert.ARestDIdeal.τ).loc Cert.ARestDIdeal.main_arg1)
      ∧ m' ((c.tc : Thread Cert.ARestDRefIdeal.nD Cert.ARestDRefIdeal.τ).loc Cert.ARestDRefIdeal.main_arg2) = m ((c.tc : Thread Cert.ARestDIdeal.nD Cert.ARestDIdeal.τ).loc Cert.ARestDIdeal.main_arg2)
      ∧ m' ((c.tc : Thread Cert.ARestDRefIdeal.nD Cert.ARestDRefIdeal.τ).loc Cert.ARestDRefIdeal.main_arg3) = m ((c.tc : Thread Cert.ARestDIdeal.nD Cert.ARestDIdeal.τ).loc Cert.ARestDIdeal.main_arg3)
      ∧ m' ((c.tc : Thread Cert.ARestDRefIdeal.nD Cert.ARestDRefIdeal.τ).loc Cert.ARestDRefIdeal.main_arg4) = m ((c.tc : Thread Cert.ARestDIdeal.nD Cert.ARestDIdeal.τ).loc Cert.ARestDIdeal.main_arg4)
      ∧ m' ((c.tc : Thread Cert.ARestDRefIdeal.nD Cert.ARestDRefIdeal.τ).loc Cert.ARestDRefIdeal.main_arg5) = m ((c.tc : Thread Cert.ARestDIdeal.nD Cert.ARestDIdeal.τ).loc Cert.ARestDIdeal.main_arg5)
      ∧ m' ((c.tc : Thread Cert.ARestDRefIdeal.nD Cert.ARestDRefIdeal.τ).loc Cert.ARestDRefIdeal.main_arg6) = m ((c.tc : Thread Cert.ARestDIdeal.nD Cert.ARestDIdeal.τ).loc Cert.ARestDIdeal.main_arg6)
      ∧ m' ((c.tc : Thread Cert.ARestDRefIdeal.nD Cert.ARestDRefIdeal.τ).loc Cert.ARestDRefIdeal.main_arg7) = m ((c.tc : Thread Cert.ARestDIdeal.nD Cert.ARestDIdeal.τ).loc Cert.ARestDIdeal.main_arg7)
      ∧ m' ((c.tc : Thread Cert.ARestDRefIdeal.nD Cert.ARestDRefIdeal.τ).loc Cert.ARestDRefIdeal.main_arg8) = m ((c.tc : Thread Cert.ARestDIdeal.nD Cert.ARestDIdeal.τ).loc Cert.ARestDIdeal.main_arg8)
      ∧ m' ((c.tc : Thread Cert.ARestDRefIdeal.nD Cert.ARestDRefIdeal.τ).loc Cert.ARestDRefIdeal.main_arg9) = m ((c.tc : Thread Cert.ARestDIdeal.nD Cert.ARestDIdeal.τ).loc Cert.ARestDIdeal.main_arg9)
      ∧ m' ((c.tc : Thread Cert.ARestDRefIdeal.nD Cert.ARestDRefIdeal.τ).loc Cert.ARestDRefIdeal.main_arg10) = m ((c.tc : Thread Cert.ARestDIdeal.nD Cert.ARestDIdeal.τ).loc Cert.ARestDIdeal.main_arg10)
      ∧ m' ((c.tc : Thread Cert.ARestDRefIdeal.nD Cert.ARestDRefIdeal.τ).loc Cert.ARestDRefIdeal.main_arg11) = m ((c.tc : Thread Cert.ARestDIdeal.nD Cert.ARestDIdeal.τ).loc Cert.ARestDIdeal.main_arg11)
      ∧ m' ((c.tc : Thread Cert.ARestDRefIdeal.nD Cert.ARestDRefIdeal.τ).loc Cert.ARestDRefIdeal.main_arg12) = m ((c.tc : Thread Cert.ARestDIdeal.nD Cert.ARestDIdeal.τ).loc Cert.ARestDIdeal.main_arg12)
      ∧ m' ((c.tc : Thread Cert.ARestDRefIdeal.nD Cert.ARestDRefIdeal.τ).loc Cert.ARestDRefIdeal.main_arg13) = m ((c.tc : Thread Cert.ARestDIdeal.nD Cert.ARestDIdeal.τ).loc Cert.ARestDIdeal.main_arg13)
      ∧ m' ((c.tc : Thread Cert.ARestDRefIdeal.nD Cert.ARestDRefIdeal.τ).loc Cert.ARestDRefIdeal.main_arg14) = m ((c.tc : Thread Cert.ARestDIdeal.nD Cert.ARestDIdeal.τ).loc Cert.ARestDIdeal.main_arg14)
      ∧ m' ((c.tc : Thread Cert.ARestDRefIdeal.nD Cert.ARestDRefIdeal.τ).loc Cert.ARestDRefIdeal.main_arg15) = m ((c.tc : Thread Cert.ARestDIdeal.nD Cert.ARestDIdeal.τ).loc Cert.ARestDIdeal.main_arg15)) →
    ∃ (v0 : (c : Dev Cert.ARestDIdeal.nD) → Buf (Elt Ideal) ((c.tc : Thread Cert.ARestDIdeal.nD Cert.ARestDIdeal.τ).loc Cert.ARestDIdeal.main_v0_0)) (v1 : (c : Dev Cert.ARestDIdeal.nD) → Buf (Elt Ideal) ((c.tc : Thread Cert.ARestDIdeal.nD Cert.ARestDIdeal.τ).loc Cert.ARestDIdeal.main_v0_1)) (v2 : (c : Dev Cert.ARestDIdeal.nD) → Buf (Elt Ideal) ((c.tc : Thread Cert.ARestDIdeal.nD Cert.ARestDIdeal.τ).loc Cert.ARestDIdeal.main_v0_2)) (v3 : (c : Dev Cert.ARestDIdeal.nD) → Buf (Elt Ideal) ((c.tc : Thread Cert.ARestDIdeal.nD Cert.ARestDIdeal.τ).loc Cert.ARestDIdeal.main_v0_3)) (v4 : (c : Dev Cert.ARestDIdeal.nD) → Buf (Elt Ideal) ((c.tc : Thread Cert.ARestDIdeal.nD Cert.ARestDIdeal.τ).loc Cert.ARestDIdeal.main_v0_4)) (v5 : (c : Dev Cert.ARestDIdeal.nD) → Buf (Elt Ideal) ((c.tc : Thread Cert.ARestDIdeal.nD Cert.ARestDIdeal.τ).loc Cert.ARestDIdeal.main_v0_5)) (v6 : (c : Dev Cert.ARestDIdeal.nD) → Buf (Elt Ideal) ((c.tc : Thread Cert.ARestDIdeal.nD Cert.ARestDIdeal.τ).loc Cert.ARestDIdeal.main_v0_6)) (v7 : (c : Dev Cert.ARestDIdeal.nD) → Buf (Elt Ideal) ((c.tc : Thread Cert.ARestDIdeal.nD Cert.ARestDIdeal.τ).loc Cert.ARestDIdeal.main_v0_7)) (v8 : (c : Dev Cert.ARestDIdeal.nD) → Buf (Elt Ideal) ((c.tc : Thread Cert.ARestDIdeal.nD Cert.ARestDIdeal.τ).loc Cert.ARestDIdeal.main_v0_8)) (v9 : (c : Dev Cert.ARestDIdeal.nD) → Buf (Elt Ideal) ((c.tc : Thread Cert.ARestDIdeal.nD Cert.ARestDIdeal.τ).loc Cert.ARestDIdeal.main_v0_9)) (v10 : (c : Dev Cert.ARestDIdeal.nD) → Buf (Elt Ideal) ((c.tc : Thread Cert.ARestDIdeal.nD Cert.ARestDIdeal.τ).loc Cert.ARestDIdeal.main_v0_10)) (v11 : (c : Dev Cert.ARestDIdeal.nD) → Buf (Elt Ideal) ((c.tc : Thread Cert.ARestDIdeal.nD Cert.ARestDIdeal.τ).loc Cert.ARestDIdeal.main_v0_11)),
      θ_run (Cert.ARestDIdeal.defs (F := Ideal)) (onTc (τ := Cert.ARestDIdeal.τ) (Cert.ARestDIdeal.main (F := Ideal))) ⟨m, fun _ => 0, g⟩ (fun r => ∀ c : Dev Cert.ARestDIdeal.nD,
          r.2.mem ((c.tc : Thread Cert.ARestDIdeal.nD Cert.ARestDIdeal.τ).loc Cert.ARestDIdeal.main_v0_0) = v0 c
          ∧ r.2.mem ((c.tc : Thread Cert.ARestDIdeal.nD Cert.ARestDIdeal.τ).loc Cert.ARestDIdeal.main_v0_1) = v1 c
          ∧ r.2.mem ((c.tc : Thread Cert.ARestDIdeal.nD Cert.ARestDIdeal.τ).loc Cert.ARestDIdeal.main_v0_2) = v2 c
          ∧ r.2.mem ((c.tc : Thread Cert.ARestDIdeal.nD Cert.ARestDIdeal.τ).loc Cert.ARestDIdeal.main_v0_3) = v3 c
          ∧ r.2.mem ((c.tc : Thread Cert.ARestDIdeal.nD Cert.ARestDIdeal.τ).loc Cert.ARestDIdeal.main_v0_4) = v4 c
          ∧ r.2.mem ((c.tc : Thread Cert.ARestDIdeal.nD Cert.ARestDIdeal.τ).loc Cert.ARestDIdeal.main_v0_5) = v5 c
          ∧ r.2.mem ((c.tc : Thread Cert.ARestDIdeal.nD Cert.ARestDIdeal.τ).loc Cert.ARestDIdeal.main_v0_6) = v6 c
          ∧ r.2.mem ((c.tc : Thread Cert.ARestDIdeal.nD Cert.ARestDIdeal.τ).loc Cert.ARestDIdeal.main_v0_7) = v7 c
          ∧ r.2.mem ((c.tc : Thread Cert.ARestDIdeal.nD Cert.ARestDIdeal.τ).loc Cert.ARestDIdeal.main_v0_8) = v8 c
          ∧ r.2.mem ((c.tc : Thread Cert.ARestDIdeal.nD Cert.ARestDIdeal.τ).loc Cert.ARestDIdeal.main_v0_9) = v9 c
          ∧ r.2.mem ((c.tc : Thread Cert.ARestDIdeal.nD Cert.ARestDIdeal.τ).loc Cert.ARestDIdeal.main_v0_10) = v10 c
          ∧ r.2.mem ((c.tc : Thread Cert.ARestDIdeal.nD Cert.ARestDIdeal.τ).loc Cert.ARestDIdeal.main_v0_11) = v11 c
          ∧ r.2.mem ((c.tc : Thread Cert.ARestDIdeal.nD Cert.ARestDIdeal.τ).loc Cert.ARestDIdeal.main_arg0) = m ((c.tc : Thread Cert.ARestDIdeal.nD Cert.ARestDIdeal.τ).loc Cert.ARestDIdeal.main_arg0)
          ∧ r.2.mem ((c.tc : Thread Cert.ARestDIdeal.nD Cert.ARestDIdeal.τ).loc Cert.ARestDIdeal.main_arg1) = m ((c.tc : Thread Cert.ARestDIdeal.nD Cert.ARestDIdeal.τ).loc Cert.ARestDIdeal.main_arg1)
          ∧ r.2.mem ((c.tc : Thread Cert.ARestDIdeal.nD Cert.ARestDIdeal.τ).loc Cert.ARestDIdeal.main_arg2) = m ((c.tc : Thread Cert.ARestDIdeal.nD Cert.ARestDIdeal.τ).loc Cert.ARestDIdeal.main_arg2)
          ∧ r.2.mem ((c.tc : Thread Cert.ARestDIdeal.nD Cert.ARestDIdeal.τ).loc Cert.ARestDIdeal.main_arg3) = m ((c.tc : Thread Cert.ARestDIdeal.nD Cert.ARestDIdeal.τ).loc Cert.ARestDIdeal.main_arg3)
          ∧ r.2.mem ((c.tc : Thread Cert.ARestDIdeal.nD Cert.ARestDIdeal.τ).loc Cert.ARestDIdeal.main_arg4) = m ((c.tc : Thread Cert.ARestDIdeal.nD Cert.ARestDIdeal.τ).loc Cert.ARestDIdeal.main_arg4)
          ∧ r.2.mem ((c.tc : Thread Cert.ARestDIdeal.nD Cert.ARestDIdeal.τ).loc Cert.ARestDIdeal.main_arg5) = m ((c.tc : Thread Cert.ARestDIdeal.nD Cert.ARestDIdeal.τ).loc Cert.ARestDIdeal.main_arg5)
          ∧ r.2.mem ((c.tc : Thread Cert.ARestDIdeal.nD Cert.ARestDIdeal.τ).loc Cert.ARestDIdeal.main_arg6) = m ((c.tc : Thread Cert.ARestDIdeal.nD Cert.ARestDIdeal.τ).loc Cert.ARestDIdeal.main_arg6)
          ∧ r.2.mem ((c.tc : Thread Cert.ARestDIdeal.nD Cert.ARestDIdeal.τ).loc Cert.ARestDIdeal.main_arg7) = m ((c.tc : Thread Cert.ARestDIdeal.nD Cert.ARestDIdeal.τ).loc Cert.ARestDIdeal.main_arg7)
          ∧ r.2.mem ((c.tc : Thread Cert.ARestDIdeal.nD Cert.ARestDIdeal.τ).loc Cert.ARestDIdeal.main_arg8) = m ((c.tc : Thread Cert.ARestDIdeal.nD Cert.ARestDIdeal.τ).loc Cert.ARestDIdeal.main_arg8)
          ∧ r.2.mem ((c.tc : Thread Cert.ARestDIdeal.nD Cert.ARestDIdeal.τ).loc Cert.ARestDIdeal.main_arg9) = m ((c.tc : Thread Cert.ARestDIdeal.nD Cert.ARestDIdeal.τ).loc Cert.ARestDIdeal.main_arg9)
          ∧ r.2.mem ((c.tc : Thread Cert.ARestDIdeal.nD Cert.ARestDIdeal.τ).loc Cert.ARestDIdeal.main_arg10) = m ((c.tc : Thread Cert.ARestDIdeal.nD Cert.ARestDIdeal.τ).loc Cert.ARestDIdeal.main_arg10)
          ∧ r.2.mem ((c.tc : Thread Cert.ARestDIdeal.nD Cert.ARestDIdeal.τ).loc Cert.ARestDIdeal.main_arg11) = m ((c.tc : Thread Cert.ARestDIdeal.nD Cert.ARestDIdeal.τ).loc Cert.ARestDIdeal.main_arg11)
          ∧ r.2.mem ((c.tc : Thread Cert.ARestDIdeal.nD Cert.ARestDIdeal.τ).loc Cert.ARestDIdeal.main_arg12) = m ((c.tc : Thread Cert.ARestDIdeal.nD Cert.ARestDIdeal.τ).loc Cert.ARestDIdeal.main_arg12)
          ∧ r.2.mem ((c.tc : Thread Cert.ARestDIdeal.nD Cert.ARestDIdeal.τ).loc Cert.ARestDIdeal.main_arg13) = m ((c.tc : Thread Cert.ARestDIdeal.nD Cert.ARestDIdeal.τ).loc Cert.ARestDIdeal.main_arg13)
          ∧ r.2.mem ((c.tc : Thread Cert.ARestDIdeal.nD Cert.ARestDIdeal.τ).loc Cert.ARestDIdeal.main_arg14) = m ((c.tc : Thread Cert.ARestDIdeal.nD Cert.ARestDIdeal.τ).loc Cert.ARestDIdeal.main_arg14)
          ∧ r.2.mem ((c.tc : Thread Cert.ARestDIdeal.nD Cert.ARestDIdeal.τ).loc Cert.ARestDIdeal.main_arg15) = m ((c.tc : Thread Cert.ARestDIdeal.nD Cert.ARestDIdeal.τ).loc Cert.ARestDIdeal.main_arg15))
      ∧ θ_run (Cert.ARestDRefIdeal.defs (F := Ideal)) (onTc (τ := Cert.ARestDRefIdeal.τ) (Cert.ARestDRefIdeal.main (F := Ideal))) ⟨m', fun _ => 0, g'⟩ (fun r => ∀ c : Dev Cert.ARestDRefIdeal.nD,
          r.2.mem ((c.tc : Thread Cert.ARestDRefIdeal.nD Cert.ARestDRefIdeal.τ).loc Cert.ARestDRefIdeal.main_v23) = v0 c
          ∧ r.2.mem ((c.tc : Thread Cert.ARestDRefIdeal.nD Cert.ARestDRefIdeal.τ).loc Cert.ARestDRefIdeal.main_v47) = v1 c
          ∧ r.2.mem ((c.tc : Thread Cert.ARestDRefIdeal.nD Cert.ARestDRefIdeal.τ).loc Cert.ARestDRefIdeal.main_v71) = v2 c
          ∧ r.2.mem ((c.tc : Thread Cert.ARestDRefIdeal.nD Cert.ARestDRefIdeal.τ).loc Cert.ARestDRefIdeal.main_v95) = v3 c
          ∧ r.2.mem ((c.tc : Thread Cert.ARestDRefIdeal.nD Cert.ARestDRefIdeal.τ).loc Cert.ARestDRefIdeal.main_v4) = v4 c
          ∧ r.2.mem ((c.tc : Thread Cert.ARestDRefIdeal.nD Cert.ARestDRefIdeal.τ).loc Cert.ARestDRefIdeal.main_v28) = v5 c
          ∧ r.2.mem ((c.tc : Thread Cert.ARestDRefIdeal.nD Cert.ARestDRefIdeal.τ).loc Cert.ARestDRefIdeal.main_v52) = v6 c
          ∧ r.2.mem ((c.tc : Thread Cert.ARestDRefIdeal.nD Cert.ARestDRefIdeal.τ).loc Cert.ARestDRefIdeal.main_v76) = v7 c
          ∧ r.2.mem ((c.tc : Thread Cert.ARestDRefIdeal.nD Cert.ARestDRefIdeal.τ).loc Cert.ARestDRefIdeal.main_v10) = v8 c
          ∧ r.2.mem ((c.tc : Thread Cert.ARestDRefIdeal.nD Cert.ARestDRefIdeal.τ).loc Cert.ARestDRefIdeal.main_v34) = v9 c
          ∧ r.2.mem ((c.tc : Thread Cert.ARestDRefIdeal.nD Cert.ARestDRefIdeal.τ).loc Cert.ARestDRefIdeal.main_v58) = v10 c
          ∧ r.2.mem ((c.tc : Thread Cert.ARestDRefIdeal.nD Cert.ARestDRefIdeal.τ).loc Cert.ARestDRefIdeal.main_v82) = v11 c
          ∧ r.2.mem ((c.tc : Thread Cert.ARestDRefIdeal.nD Cert.ARestDRefIdeal.τ).loc Cert.ARestDRefIdeal.main_arg0) = m' ((c.tc : Thread Cert.ARestDRefIdeal.nD Cert.ARestDRefIdeal.τ).loc Cert.ARestDRefIdeal.main_arg0)
          ∧ r.2.mem ((c.tc : Thread Cert.ARestDRefIdeal.nD Cert.ARestDRefIdeal.τ).loc Cert.ARestDRefIdeal.main_arg1) = m' ((c.tc : Thread Cert.ARestDRefIdeal.nD Cert.ARestDRefIdeal.τ).loc Cert.ARestDRefIdeal.main_arg1)
          ∧ r.2.mem ((c.tc : Thread Cert.ARestDRefIdeal.nD Cert.ARestDRefIdeal.τ).loc Cert.ARestDRefIdeal.main_arg2) = m' ((c.tc : Thread Cert.ARestDRefIdeal.nD Cert.ARestDRefIdeal.τ).loc Cert.ARestDRefIdeal.main_arg2)
          ∧ r.2.mem ((c.tc : Thread Cert.ARestDRefIdeal.nD Cert.ARestDRefIdeal.τ).loc Cert.ARestDRefIdeal.main_arg3) = m' ((c.tc : Thread Cert.ARestDRefIdeal.nD Cert.ARestDRefIdeal.τ).loc Cert.ARestDRefIdeal.main_arg3)
          ∧ r.2.mem ((c.tc : Thread Cert.ARestDRefIdeal.nD Cert.ARestDRefIdeal.τ).loc Cert.ARestDRefIdeal.main_arg4) = m' ((c.tc : Thread Cert.ARestDRefIdeal.nD Cert.ARestDRefIdeal.τ).loc Cert.ARestDRefIdeal.main_arg4)
          ∧ r.2.mem ((c.tc : Thread Cert.ARestDRefIdeal.nD Cert.ARestDRefIdeal.τ).loc Cert.ARestDRefIdeal.main_arg5) = m' ((c.tc : Thread Cert.ARestDRefIdeal.nD Cert.ARestDRefIdeal.τ).loc Cert.ARestDRefIdeal.main_arg5)
          ∧ r.2.mem ((c.tc : Thread Cert.ARestDRefIdeal.nD Cert.ARestDRefIdeal.τ).loc Cert.ARestDRefIdeal.main_arg6) = m' ((c.tc : Thread Cert.ARestDRefIdeal.nD Cert.ARestDRefIdeal.τ).loc Cert.ARestDRefIdeal.main_arg6)
          ∧ r.2.mem ((c.tc : Thread Cert.ARestDRefIdeal.nD Cert.ARestDRefIdeal.τ).loc Cert.ARestDRefIdeal.main_arg7) = m' ((c.tc : Thread Cert.ARestDRefIdeal.nD Cert.ARestDRefIdeal.τ).loc Cert.ARestDRefIdeal.main_arg7)
          ∧ r.2.mem ((c.tc : Thread Cert.ARestDRefIdeal.nD Cert.ARestDRefIdeal.τ).loc Cert.ARestDRefIdeal.main_arg8) = m' ((c.tc : Thread Cert.ARestDRefIdeal.nD Cert.ARestDRefIdeal.τ).loc Cert.ARestDRefIdeal.main_arg8)
          ∧ r.2.mem ((c.tc : Thread Cert.ARestDRefIdeal.nD Cert.ARestDRefIdeal.τ).loc Cert.ARestDRefIdeal.main_arg9) = m' ((c.tc : Thread Cert.ARestDRefIdeal.nD Cert.ARestDRefIdeal.τ).loc Cert.ARestDRefIdeal.main_arg9)
          ∧ r.2.mem ((c.tc : Thread Cert.ARestDRefIdeal.nD Cert.ARestDRefIdeal.τ).loc Cert.ARestDRefIdeal.main_arg10) = m' ((c.tc : Thread Cert.ARestDRefIdeal.nD Cert.ARestDRefIdeal.τ).loc Cert.ARestDRefIdeal.main_arg10)
          ∧ r.2.mem ((c.tc : Thread Cert.ARestDRefIdeal.nD Cert.ARestDRefIdeal.τ).loc Cert.ARestDRefIdeal.main_arg11) = m' ((c.tc : Thread Cert.ARestDRefIdeal.nD Cert.ARestDRefIdeal.τ).loc Cert.ARestDRefIdeal.main_arg11)
          ∧ r.2.mem ((c.tc : Thread Cert.ARestDRefIdeal.nD Cert.ARestDRefIdeal.τ).loc Cert.ARestDRefIdeal.main_arg12) = m' ((c.tc : Thread Cert.ARestDRefIdeal.nD Cert.ARestDRefIdeal.τ).loc Cert.ARestDRefIdeal.main_arg12)
          ∧ r.2.mem ((c.tc : Thread Cert.ARestDRefIdeal.nD Cert.ARestDRefIdeal.τ).loc Cert.ARestDRefIdeal.main_arg13) = m' ((c.tc : Thread Cert.ARestDRefIdeal.nD Cert.ARestDRefIdeal.τ).loc Cert.ARestDRefIdeal.main_arg13)
          ∧ r.2.mem ((c.tc : Thread Cert.ARestDRefIdeal.nD Cert.ARestDRefIdeal.τ).loc Cert.ARestDRefIdeal.main_arg14) = m' ((c.tc : Thread Cert.ARestDRefIdeal.nD Cert.ARestDRefIdeal.τ).loc Cert.ARestDRefIdeal.main_arg14)
          ∧ r.2.mem ((c.tc : Thread Cert.ARestDRefIdeal.nD Cert.ARestDRefIdeal.τ).loc Cert.ARestDRefIdeal.main_arg15) = m' ((c.tc : Thread Cert.ARestDRefIdeal.nD Cert.ARestDRefIdeal.τ).loc Cert.ARestDRefIdeal.main_arg15))

def preserves_ARestE_ARestEIdeal : Prop :=
  True

def algebraic_ARestEIdeal_ARestERefIdeal [hARestEIdeal : Cert.ARestEIdeal.Facts] [hARestERefIdeal : Cert.ARestERefIdeal.Facts] : Prop :=
  ∀ (m : (ℓ : Loc Cert.ARestEIdeal.nD Cert.ARestEIdeal.τ Cert.ARestEIdeal.sig) → Buf (Elt Ideal) ℓ) (g : Dev Cert.ARestEIdeal.nD → PrngReg)
    (m' : (ℓ : Loc Cert.ARestERefIdeal.nD Cert.ARestERefIdeal.τ Cert.ARestERefIdeal.sig) → Buf (Elt Ideal) ℓ) (g' : Dev Cert.ARestERefIdeal.nD → PrngReg), Pre_ARestEIdeal m →
    (∀ c : Dev Cert.ARestEIdeal.nD,
      m' ((c.tc : Thread Cert.ARestERefIdeal.nD Cert.ARestERefIdeal.τ).loc Cert.ARestERefIdeal.main_arg0) = m ((c.tc : Thread Cert.ARestEIdeal.nD Cert.ARestEIdeal.τ).loc Cert.ARestEIdeal.main_arg0)
      ∧ m' ((c.tc : Thread Cert.ARestERefIdeal.nD Cert.ARestERefIdeal.τ).loc Cert.ARestERefIdeal.main_arg1) = m ((c.tc : Thread Cert.ARestEIdeal.nD Cert.ARestEIdeal.τ).loc Cert.ARestEIdeal.main_arg1)
      ∧ m' ((c.tc : Thread Cert.ARestERefIdeal.nD Cert.ARestERefIdeal.τ).loc Cert.ARestERefIdeal.main_arg2) = m ((c.tc : Thread Cert.ARestEIdeal.nD Cert.ARestEIdeal.τ).loc Cert.ARestEIdeal.main_arg2)
      ∧ m' ((c.tc : Thread Cert.ARestERefIdeal.nD Cert.ARestERefIdeal.τ).loc Cert.ARestERefIdeal.main_arg3) = m ((c.tc : Thread Cert.ARestEIdeal.nD Cert.ARestEIdeal.τ).loc Cert.ARestEIdeal.main_arg3)
      ∧ m' ((c.tc : Thread Cert.ARestERefIdeal.nD Cert.ARestERefIdeal.τ).loc Cert.ARestERefIdeal.main_arg4) = m ((c.tc : Thread Cert.ARestEIdeal.nD Cert.ARestEIdeal.τ).loc Cert.ARestEIdeal.main_arg4)
      ∧ m' ((c.tc : Thread Cert.ARestERefIdeal.nD Cert.ARestERefIdeal.τ).loc Cert.ARestERefIdeal.main_arg5) = m ((c.tc : Thread Cert.ARestEIdeal.nD Cert.ARestEIdeal.τ).loc Cert.ARestEIdeal.main_arg5)
      ∧ m' ((c.tc : Thread Cert.ARestERefIdeal.nD Cert.ARestERefIdeal.τ).loc Cert.ARestERefIdeal.main_arg6) = m ((c.tc : Thread Cert.ARestEIdeal.nD Cert.ARestEIdeal.τ).loc Cert.ARestEIdeal.main_arg6)
      ∧ m' ((c.tc : Thread Cert.ARestERefIdeal.nD Cert.ARestERefIdeal.τ).loc Cert.ARestERefIdeal.main_arg7) = m ((c.tc : Thread Cert.ARestEIdeal.nD Cert.ARestEIdeal.τ).loc Cert.ARestEIdeal.main_arg7)
      ∧ m' ((c.tc : Thread Cert.ARestERefIdeal.nD Cert.ARestERefIdeal.τ).loc Cert.ARestERefIdeal.main_arg8) = m ((c.tc : Thread Cert.ARestEIdeal.nD Cert.ARestEIdeal.τ).loc Cert.ARestEIdeal.main_arg8)
      ∧ m' ((c.tc : Thread Cert.ARestERefIdeal.nD Cert.ARestERefIdeal.τ).loc Cert.ARestERefIdeal.main_arg9) = m ((c.tc : Thread Cert.ARestEIdeal.nD Cert.ARestEIdeal.τ).loc Cert.ARestEIdeal.main_arg9)
      ∧ m' ((c.tc : Thread Cert.ARestERefIdeal.nD Cert.ARestERefIdeal.τ).loc Cert.ARestERefIdeal.main_arg10) = m ((c.tc : Thread Cert.ARestEIdeal.nD Cert.ARestEIdeal.τ).loc Cert.ARestEIdeal.main_arg10)
      ∧ m' ((c.tc : Thread Cert.ARestERefIdeal.nD Cert.ARestERefIdeal.τ).loc Cert.ARestERefIdeal.main_arg11) = m ((c.tc : Thread Cert.ARestEIdeal.nD Cert.ARestEIdeal.τ).loc Cert.ARestEIdeal.main_arg11)
      ∧ m' ((c.tc : Thread Cert.ARestERefIdeal.nD Cert.ARestERefIdeal.τ).loc Cert.ARestERefIdeal.main_arg12) = m ((c.tc : Thread Cert.ARestEIdeal.nD Cert.ARestEIdeal.τ).loc Cert.ARestEIdeal.main_arg12)
      ∧ m' ((c.tc : Thread Cert.ARestERefIdeal.nD Cert.ARestERefIdeal.τ).loc Cert.ARestERefIdeal.main_arg13) = m ((c.tc : Thread Cert.ARestEIdeal.nD Cert.ARestEIdeal.τ).loc Cert.ARestEIdeal.main_arg13)
      ∧ m' ((c.tc : Thread Cert.ARestERefIdeal.nD Cert.ARestERefIdeal.τ).loc Cert.ARestERefIdeal.main_arg14) = m ((c.tc : Thread Cert.ARestEIdeal.nD Cert.ARestEIdeal.τ).loc Cert.ARestEIdeal.main_arg14)
      ∧ m' ((c.tc : Thread Cert.ARestERefIdeal.nD Cert.ARestERefIdeal.τ).loc Cert.ARestERefIdeal.main_arg15) = m ((c.tc : Thread Cert.ARestEIdeal.nD Cert.ARestEIdeal.τ).loc Cert.ARestEIdeal.main_arg15)) →
    ∃ (v0 : (c : Dev Cert.ARestEIdeal.nD) → Buf (Elt Ideal) ((c.tc : Thread Cert.ARestEIdeal.nD Cert.ARestEIdeal.τ).loc Cert.ARestEIdeal.main_v0_0)) (v1 : (c : Dev Cert.ARestEIdeal.nD) → Buf (Elt Ideal) ((c.tc : Thread Cert.ARestEIdeal.nD Cert.ARestEIdeal.τ).loc Cert.ARestEIdeal.main_v0_1)) (v2 : (c : Dev Cert.ARestEIdeal.nD) → Buf (Elt Ideal) ((c.tc : Thread Cert.ARestEIdeal.nD Cert.ARestEIdeal.τ).loc Cert.ARestEIdeal.main_v0_2)) (v3 : (c : Dev Cert.ARestEIdeal.nD) → Buf (Elt Ideal) ((c.tc : Thread Cert.ARestEIdeal.nD Cert.ARestEIdeal.τ).loc Cert.ARestEIdeal.main_v0_3)) (v4 : (c : Dev Cert.ARestEIdeal.nD) → Buf (Elt Ideal) ((c.tc : Thread Cert.ARestEIdeal.nD Cert.ARestEIdeal.τ).loc Cert.ARestEIdeal.main_v0_4)) (v5 : (c : Dev Cert.ARestEIdeal.nD) → Buf (Elt Ideal) ((c.tc : Thread Cert.ARestEIdeal.nD Cert.ARestEIdeal.τ).loc Cert.ARestEIdeal.main_v0_5)) (v6 : (c : Dev Cert.ARestEIdeal.nD) → Buf (Elt Ideal) ((c.tc : Thread Cert.ARestEIdeal.nD Cert.ARestEIdeal.τ).loc Cert.ARestEIdeal.main_v0_6)) (v7 : (c : Dev Cert.ARestEIdeal.nD) → Buf (Elt Ideal) ((c.tc : Thread Cert.ARestEIdeal.nD Cert.ARestEIdeal.τ).loc Cert.ARestEIdeal.main_v0_7)) (v8 : (c : Dev Cert.ARestEIdeal.nD) → Buf (Elt Ideal) ((c.tc : Thread Cert.ARestEIdeal.nD Cert.ARestEIdeal.τ).loc Cert.ARestEIdeal.main_v0_8)) (v9 : (c : Dev Cert.ARestEIdeal.nD) → Buf (Elt Ideal) ((c.tc : Thread Cert.ARestEIdeal.nD Cert.ARestEIdeal.τ).loc Cert.ARestEIdeal.main_v0_9)) (v10 : (c : Dev Cert.ARestEIdeal.nD) → Buf (Elt Ideal) ((c.tc : Thread Cert.ARestEIdeal.nD Cert.ARestEIdeal.τ).loc Cert.ARestEIdeal.main_v0_10)) (v11 : (c : Dev Cert.ARestEIdeal.nD) → Buf (Elt Ideal) ((c.tc : Thread Cert.ARestEIdeal.nD Cert.ARestEIdeal.τ).loc Cert.ARestEIdeal.main_v0_11)),
      θ_run (Cert.ARestEIdeal.defs (F := Ideal)) (onTc (τ := Cert.ARestEIdeal.τ) (Cert.ARestEIdeal.main (F := Ideal))) ⟨m, fun _ => 0, g⟩ (fun r => ∀ c : Dev Cert.ARestEIdeal.nD,
          r.2.mem ((c.tc : Thread Cert.ARestEIdeal.nD Cert.ARestEIdeal.τ).loc Cert.ARestEIdeal.main_v0_0) = v0 c
          ∧ r.2.mem ((c.tc : Thread Cert.ARestEIdeal.nD Cert.ARestEIdeal.τ).loc Cert.ARestEIdeal.main_v0_1) = v1 c
          ∧ r.2.mem ((c.tc : Thread Cert.ARestEIdeal.nD Cert.ARestEIdeal.τ).loc Cert.ARestEIdeal.main_v0_2) = v2 c
          ∧ r.2.mem ((c.tc : Thread Cert.ARestEIdeal.nD Cert.ARestEIdeal.τ).loc Cert.ARestEIdeal.main_v0_3) = v3 c
          ∧ r.2.mem ((c.tc : Thread Cert.ARestEIdeal.nD Cert.ARestEIdeal.τ).loc Cert.ARestEIdeal.main_v0_4) = v4 c
          ∧ r.2.mem ((c.tc : Thread Cert.ARestEIdeal.nD Cert.ARestEIdeal.τ).loc Cert.ARestEIdeal.main_v0_5) = v5 c
          ∧ r.2.mem ((c.tc : Thread Cert.ARestEIdeal.nD Cert.ARestEIdeal.τ).loc Cert.ARestEIdeal.main_v0_6) = v6 c
          ∧ r.2.mem ((c.tc : Thread Cert.ARestEIdeal.nD Cert.ARestEIdeal.τ).loc Cert.ARestEIdeal.main_v0_7) = v7 c
          ∧ r.2.mem ((c.tc : Thread Cert.ARestEIdeal.nD Cert.ARestEIdeal.τ).loc Cert.ARestEIdeal.main_v0_8) = v8 c
          ∧ r.2.mem ((c.tc : Thread Cert.ARestEIdeal.nD Cert.ARestEIdeal.τ).loc Cert.ARestEIdeal.main_v0_9) = v9 c
          ∧ r.2.mem ((c.tc : Thread Cert.ARestEIdeal.nD Cert.ARestEIdeal.τ).loc Cert.ARestEIdeal.main_v0_10) = v10 c
          ∧ r.2.mem ((c.tc : Thread Cert.ARestEIdeal.nD Cert.ARestEIdeal.τ).loc Cert.ARestEIdeal.main_v0_11) = v11 c
          ∧ r.2.mem ((c.tc : Thread Cert.ARestEIdeal.nD Cert.ARestEIdeal.τ).loc Cert.ARestEIdeal.main_arg0) = m ((c.tc : Thread Cert.ARestEIdeal.nD Cert.ARestEIdeal.τ).loc Cert.ARestEIdeal.main_arg0)
          ∧ r.2.mem ((c.tc : Thread Cert.ARestEIdeal.nD Cert.ARestEIdeal.τ).loc Cert.ARestEIdeal.main_arg1) = m ((c.tc : Thread Cert.ARestEIdeal.nD Cert.ARestEIdeal.τ).loc Cert.ARestEIdeal.main_arg1)
          ∧ r.2.mem ((c.tc : Thread Cert.ARestEIdeal.nD Cert.ARestEIdeal.τ).loc Cert.ARestEIdeal.main_arg2) = m ((c.tc : Thread Cert.ARestEIdeal.nD Cert.ARestEIdeal.τ).loc Cert.ARestEIdeal.main_arg2)
          ∧ r.2.mem ((c.tc : Thread Cert.ARestEIdeal.nD Cert.ARestEIdeal.τ).loc Cert.ARestEIdeal.main_arg3) = m ((c.tc : Thread Cert.ARestEIdeal.nD Cert.ARestEIdeal.τ).loc Cert.ARestEIdeal.main_arg3)
          ∧ r.2.mem ((c.tc : Thread Cert.ARestEIdeal.nD Cert.ARestEIdeal.τ).loc Cert.ARestEIdeal.main_arg4) = m ((c.tc : Thread Cert.ARestEIdeal.nD Cert.ARestEIdeal.τ).loc Cert.ARestEIdeal.main_arg4)
          ∧ r.2.mem ((c.tc : Thread Cert.ARestEIdeal.nD Cert.ARestEIdeal.τ).loc Cert.ARestEIdeal.main_arg5) = m ((c.tc : Thread Cert.ARestEIdeal.nD Cert.ARestEIdeal.τ).loc Cert.ARestEIdeal.main_arg5)
          ∧ r.2.mem ((c.tc : Thread Cert.ARestEIdeal.nD Cert.ARestEIdeal.τ).loc Cert.ARestEIdeal.main_arg6) = m ((c.tc : Thread Cert.ARestEIdeal.nD Cert.ARestEIdeal.τ).loc Cert.ARestEIdeal.main_arg6)
          ∧ r.2.mem ((c.tc : Thread Cert.ARestEIdeal.nD Cert.ARestEIdeal.τ).loc Cert.ARestEIdeal.main_arg7) = m ((c.tc : Thread Cert.ARestEIdeal.nD Cert.ARestEIdeal.τ).loc Cert.ARestEIdeal.main_arg7)
          ∧ r.2.mem ((c.tc : Thread Cert.ARestEIdeal.nD Cert.ARestEIdeal.τ).loc Cert.ARestEIdeal.main_arg8) = m ((c.tc : Thread Cert.ARestEIdeal.nD Cert.ARestEIdeal.τ).loc Cert.ARestEIdeal.main_arg8)
          ∧ r.2.mem ((c.tc : Thread Cert.ARestEIdeal.nD Cert.ARestEIdeal.τ).loc Cert.ARestEIdeal.main_arg9) = m ((c.tc : Thread Cert.ARestEIdeal.nD Cert.ARestEIdeal.τ).loc Cert.ARestEIdeal.main_arg9)
          ∧ r.2.mem ((c.tc : Thread Cert.ARestEIdeal.nD Cert.ARestEIdeal.τ).loc Cert.ARestEIdeal.main_arg10) = m ((c.tc : Thread Cert.ARestEIdeal.nD Cert.ARestEIdeal.τ).loc Cert.ARestEIdeal.main_arg10)
          ∧ r.2.mem ((c.tc : Thread Cert.ARestEIdeal.nD Cert.ARestEIdeal.τ).loc Cert.ARestEIdeal.main_arg11) = m ((c.tc : Thread Cert.ARestEIdeal.nD Cert.ARestEIdeal.τ).loc Cert.ARestEIdeal.main_arg11)
          ∧ r.2.mem ((c.tc : Thread Cert.ARestEIdeal.nD Cert.ARestEIdeal.τ).loc Cert.ARestEIdeal.main_arg12) = m ((c.tc : Thread Cert.ARestEIdeal.nD Cert.ARestEIdeal.τ).loc Cert.ARestEIdeal.main_arg12)
          ∧ r.2.mem ((c.tc : Thread Cert.ARestEIdeal.nD Cert.ARestEIdeal.τ).loc Cert.ARestEIdeal.main_arg13) = m ((c.tc : Thread Cert.ARestEIdeal.nD Cert.ARestEIdeal.τ).loc Cert.ARestEIdeal.main_arg13)
          ∧ r.2.mem ((c.tc : Thread Cert.ARestEIdeal.nD Cert.ARestEIdeal.τ).loc Cert.ARestEIdeal.main_arg14) = m ((c.tc : Thread Cert.ARestEIdeal.nD Cert.ARestEIdeal.τ).loc Cert.ARestEIdeal.main_arg14)
          ∧ r.2.mem ((c.tc : Thread Cert.ARestEIdeal.nD Cert.ARestEIdeal.τ).loc Cert.ARestEIdeal.main_arg15) = m ((c.tc : Thread Cert.ARestEIdeal.nD Cert.ARestEIdeal.τ).loc Cert.ARestEIdeal.main_arg15))
      ∧ θ_run (Cert.ARestERefIdeal.defs (F := Ideal)) (onTc (τ := Cert.ARestERefIdeal.τ) (Cert.ARestERefIdeal.main (F := Ideal))) ⟨m', fun _ => 0, g'⟩ (fun r => ∀ c : Dev Cert.ARestERefIdeal.nD,
          r.2.mem ((c.tc : Thread Cert.ARestERefIdeal.nD Cert.ARestERefIdeal.τ).loc Cert.ARestERefIdeal.main_v23) = v0 c
          ∧ r.2.mem ((c.tc : Thread Cert.ARestERefIdeal.nD Cert.ARestERefIdeal.τ).loc Cert.ARestERefIdeal.main_v47) = v1 c
          ∧ r.2.mem ((c.tc : Thread Cert.ARestERefIdeal.nD Cert.ARestERefIdeal.τ).loc Cert.ARestERefIdeal.main_v71) = v2 c
          ∧ r.2.mem ((c.tc : Thread Cert.ARestERefIdeal.nD Cert.ARestERefIdeal.τ).loc Cert.ARestERefIdeal.main_v95) = v3 c
          ∧ r.2.mem ((c.tc : Thread Cert.ARestERefIdeal.nD Cert.ARestERefIdeal.τ).loc Cert.ARestERefIdeal.main_v4) = v4 c
          ∧ r.2.mem ((c.tc : Thread Cert.ARestERefIdeal.nD Cert.ARestERefIdeal.τ).loc Cert.ARestERefIdeal.main_v28) = v5 c
          ∧ r.2.mem ((c.tc : Thread Cert.ARestERefIdeal.nD Cert.ARestERefIdeal.τ).loc Cert.ARestERefIdeal.main_v52) = v6 c
          ∧ r.2.mem ((c.tc : Thread Cert.ARestERefIdeal.nD Cert.ARestERefIdeal.τ).loc Cert.ARestERefIdeal.main_v76) = v7 c
          ∧ r.2.mem ((c.tc : Thread Cert.ARestERefIdeal.nD Cert.ARestERefIdeal.τ).loc Cert.ARestERefIdeal.main_v10) = v8 c
          ∧ r.2.mem ((c.tc : Thread Cert.ARestERefIdeal.nD Cert.ARestERefIdeal.τ).loc Cert.ARestERefIdeal.main_v34) = v9 c
          ∧ r.2.mem ((c.tc : Thread Cert.ARestERefIdeal.nD Cert.ARestERefIdeal.τ).loc Cert.ARestERefIdeal.main_v58) = v10 c
          ∧ r.2.mem ((c.tc : Thread Cert.ARestERefIdeal.nD Cert.ARestERefIdeal.τ).loc Cert.ARestERefIdeal.main_v82) = v11 c
          ∧ r.2.mem ((c.tc : Thread Cert.ARestERefIdeal.nD Cert.ARestERefIdeal.τ).loc Cert.ARestERefIdeal.main_arg0) = m' ((c.tc : Thread Cert.ARestERefIdeal.nD Cert.ARestERefIdeal.τ).loc Cert.ARestERefIdeal.main_arg0)
          ∧ r.2.mem ((c.tc : Thread Cert.ARestERefIdeal.nD Cert.ARestERefIdeal.τ).loc Cert.ARestERefIdeal.main_arg1) = m' ((c.tc : Thread Cert.ARestERefIdeal.nD Cert.ARestERefIdeal.τ).loc Cert.ARestERefIdeal.main_arg1)
          ∧ r.2.mem ((c.tc : Thread Cert.ARestERefIdeal.nD Cert.ARestERefIdeal.τ).loc Cert.ARestERefIdeal.main_arg2) = m' ((c.tc : Thread Cert.ARestERefIdeal.nD Cert.ARestERefIdeal.τ).loc Cert.ARestERefIdeal.main_arg2)
          ∧ r.2.mem ((c.tc : Thread Cert.ARestERefIdeal.nD Cert.ARestERefIdeal.τ).loc Cert.ARestERefIdeal.main_arg3) = m' ((c.tc : Thread Cert.ARestERefIdeal.nD Cert.ARestERefIdeal.τ).loc Cert.ARestERefIdeal.main_arg3)
          ∧ r.2.mem ((c.tc : Thread Cert.ARestERefIdeal.nD Cert.ARestERefIdeal.τ).loc Cert.ARestERefIdeal.main_arg4) = m' ((c.tc : Thread Cert.ARestERefIdeal.nD Cert.ARestERefIdeal.τ).loc Cert.ARestERefIdeal.main_arg4)
          ∧ r.2.mem ((c.tc : Thread Cert.ARestERefIdeal.nD Cert.ARestERefIdeal.τ).loc Cert.ARestERefIdeal.main_arg5) = m' ((c.tc : Thread Cert.ARestERefIdeal.nD Cert.ARestERefIdeal.τ).loc Cert.ARestERefIdeal.main_arg5)
          ∧ r.2.mem ((c.tc : Thread Cert.ARestERefIdeal.nD Cert.ARestERefIdeal.τ).loc Cert.ARestERefIdeal.main_arg6) = m' ((c.tc : Thread Cert.ARestERefIdeal.nD Cert.ARestERefIdeal.τ).loc Cert.ARestERefIdeal.main_arg6)
          ∧ r.2.mem ((c.tc : Thread Cert.ARestERefIdeal.nD Cert.ARestERefIdeal.τ).loc Cert.ARestERefIdeal.main_arg7) = m' ((c.tc : Thread Cert.ARestERefIdeal.nD Cert.ARestERefIdeal.τ).loc Cert.ARestERefIdeal.main_arg7)
          ∧ r.2.mem ((c.tc : Thread Cert.ARestERefIdeal.nD Cert.ARestERefIdeal.τ).loc Cert.ARestERefIdeal.main_arg8) = m' ((c.tc : Thread Cert.ARestERefIdeal.nD Cert.ARestERefIdeal.τ).loc Cert.ARestERefIdeal.main_arg8)
          ∧ r.2.mem ((c.tc : Thread Cert.ARestERefIdeal.nD Cert.ARestERefIdeal.τ).loc Cert.ARestERefIdeal.main_arg9) = m' ((c.tc : Thread Cert.ARestERefIdeal.nD Cert.ARestERefIdeal.τ).loc Cert.ARestERefIdeal.main_arg9)
          ∧ r.2.mem ((c.tc : Thread Cert.ARestERefIdeal.nD Cert.ARestERefIdeal.τ).loc Cert.ARestERefIdeal.main_arg10) = m' ((c.tc : Thread Cert.ARestERefIdeal.nD Cert.ARestERefIdeal.τ).loc Cert.ARestERefIdeal.main_arg10)
          ∧ r.2.mem ((c.tc : Thread Cert.ARestERefIdeal.nD Cert.ARestERefIdeal.τ).loc Cert.ARestERefIdeal.main_arg11) = m' ((c.tc : Thread Cert.ARestERefIdeal.nD Cert.ARestERefIdeal.τ).loc Cert.ARestERefIdeal.main_arg11)
          ∧ r.2.mem ((c.tc : Thread Cert.ARestERefIdeal.nD Cert.ARestERefIdeal.τ).loc Cert.ARestERefIdeal.main_arg12) = m' ((c.tc : Thread Cert.ARestERefIdeal.nD Cert.ARestERefIdeal.τ).loc Cert.ARestERefIdeal.main_arg12)
          ∧ r.2.mem ((c.tc : Thread Cert.ARestERefIdeal.nD Cert.ARestERefIdeal.τ).loc Cert.ARestERefIdeal.main_arg13) = m' ((c.tc : Thread Cert.ARestERefIdeal.nD Cert.ARestERefIdeal.τ).loc Cert.ARestERefIdeal.main_arg13)
          ∧ r.2.mem ((c.tc : Thread Cert.ARestERefIdeal.nD Cert.ARestERefIdeal.τ).loc Cert.ARestERefIdeal.main_arg14) = m' ((c.tc : Thread Cert.ARestERefIdeal.nD Cert.ARestERefIdeal.τ).loc Cert.ARestERefIdeal.main_arg14)
          ∧ r.2.mem ((c.tc : Thread Cert.ARestERefIdeal.nD Cert.ARestERefIdeal.τ).loc Cert.ARestERefIdeal.main_arg15) = m' ((c.tc : Thread Cert.ARestERefIdeal.nD Cert.ARestERefIdeal.τ).loc Cert.ARestERefIdeal.main_arg15))

def Claim : Prop :=
  ∃ (hKernel : Cert.Kernel.Facts) (hKernelIdeal : Cert.KernelIdeal.Facts) (hReferenceIdeal : Cert.ReferenceIdeal.Facts) (hMix0 : Cert.Mix0.Facts) (hMix0Ideal : Cert.Mix0Ideal.Facts) (hMix0RefIdeal : Cert.Mix0RefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInDt : Cert.InDt.Facts) (hInDtIdeal : Cert.InDtIdeal.Facts) (hInDtRefIdeal : Cert.InDtRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hIn : Cert.In.Facts) (hInIdeal : Cert.InIdeal.Facts) (hInRefIdeal : Cert.InRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hBu : Cert.Bu.Facts) (hBuIdeal : Cert.BuIdeal.Facts) (hBuRefIdeal : Cert.BuRefIdeal.Facts) (hS5y : Cert.S5y.Facts) (hS5yIdeal : Cert.S5yIdeal.Facts) (hS5yRefIdeal : Cert.S5yRefIdeal.Facts) (hDsRe : Cert.DsRe.Facts) (hDsReIdeal : Cert.DsReIdeal.Facts) (hDsReRefIdeal : Cert.DsReRefIdeal.Facts) (hDsIm : Cert.DsIm.Facts) (hDsImIdeal : Cert.DsImIdeal.Facts) (hDsImRefIdeal : Cert.DsImRefIdeal.Facts) (hDcRe : Cert.DcRe.Facts) (hDcReIdeal : Cert.DcReIdeal.Facts) (hDcReRefIdeal : Cert.DcReRefIdeal.Facts) (hDcIm : Cert.DcIm.Facts) (hDcImIdeal : Cert.DcImIdeal.Facts) (hDcImRefIdeal : Cert.DcImRefIdeal.Facts) (hBuDx : Cert.BuDx.Facts) (hBuDxIdeal : Cert.BuDxIdeal.Facts) (hBuDxRefIdeal : Cert.BuDxRefIdeal.Facts) (hBuDw : Cert.BuDw.Facts) (hBuDwIdeal : Cert.BuDwIdeal.Facts) (hBuDwRefIdeal : Cert.BuDwRefIdeal.Facts) (hSc : Cert.Sc.Facts) (hScIdeal : Cert.ScIdeal.Facts) (hScRefIdeal : Cert.ScRefIdeal.Facts) (hScB : Cert.ScB.Facts) (hScBIdeal : Cert.ScBIdeal.Facts) (hScBRefIdeal : Cert.ScBRefIdeal.Facts) (hM2c : Cert.M2c.Facts) (hM2cIdeal : Cert.M2cIdeal.Facts) (hM2cRefIdeal : Cert.M2cRefIdeal.Facts) (hM2cB : Cert.M2cB.Facts) (hM2cBIdeal : Cert.M2cBIdeal.Facts) (hM2cBRefIdeal : Cert.M2cBRefIdeal.Facts) (hAct : Cert.Act.Facts) (hActIdeal : Cert.ActIdeal.Facts) (hActRefIdeal : Cert.ActRefIdeal.Facts) (hSgu : Cert.Sgu.Facts) (hSguIdeal : Cert.SguIdeal.Facts) (hSguRefIdeal : Cert.SguRefIdeal.Facts) (hRms : Cert.Rms.Facts) (hRmsIdeal : Cert.RmsIdeal.Facts) (hRmsRefIdeal : Cert.RmsRefIdeal.Facts) (hRmsB : Cert.RmsB.Facts) (hRmsBIdeal : Cert.RmsBIdeal.Facts) (hRmsBRefIdeal : Cert.RmsBRefIdeal.Facts) (hLoss : Cert.Loss.Facts) (hLossIdeal : Cert.LossIdeal.Facts) (hLossRefIdeal : Cert.LossRefIdeal.Facts) (hAWin : Cert.AWin.Facts) (hAWinIdeal : Cert.AWinIdeal.Facts) (hAWinRefIdeal : Cert.AWinRefIdeal.Facts) (hAWbr : Cert.AWbr.Facts) (hAWbrIdeal : Cert.AWbrIdeal.Facts) (hAWbrRefIdeal : Cert.AWbrRefIdeal.Facts) (hAWout : Cert.AWout.Facts) (hAWoutIdeal : Cert.AWoutIdeal.Facts) (hAWoutRefIdeal : Cert.AWoutRefIdeal.Facts) (hAWglu : Cert.AWglu.Facts) (hAWgluIdeal : Cert.AWgluIdeal.Facts) (hAWgluRefIdeal : Cert.AWgluRefIdeal.Facts) (hAWs5b : Cert.AWs5b.Facts) (hAWs5bIdeal : Cert.AWs5bIdeal.Facts) (hAWs5bRefIdeal : Cert.AWs5bRefIdeal.Facts) (hARestA : Cert.ARestA.Facts) (hARestAIdeal : Cert.ARestAIdeal.Facts) (hARestARefIdeal : Cert.ARestARefIdeal.Facts) (hARestB : Cert.ARestB.Facts) (hARestBIdeal : Cert.ARestBIdeal.Facts) (hARestBRefIdeal : Cert.ARestBRefIdeal.Facts) (hARestC : Cert.ARestC.Facts) (hARestCIdeal : Cert.ARestCIdeal.Facts) (hARestCRefIdeal : Cert.ARestCRefIdeal.Facts) (hARestD : Cert.ARestD.Facts) (hARestDIdeal : Cert.ARestDIdeal.Facts) (hARestDRefIdeal : Cert.ARestDRefIdeal.Facts) (hARestE : Cert.ARestE.Facts) (hARestEIdeal : Cert.ARestEIdeal.Facts) (hARestERefIdeal : Cert.ARestERefIdeal.Facts) (hOn_mix0_written : Cert.On_mix0_written.Facts) (hOn_indw_written : Cert.On_indw_written.Facts),
    quiescent_Kernel (hKernel := hKernel)
    ∧ quiescent_KernelIdeal (hKernelIdeal := hKernelIdeal)
    ∧ quiescent_ReferenceIdeal (hReferenceIdeal := hReferenceIdeal)
    ∧ quiescent_Mix0 (hMix0 := hMix0)
    ∧ quiescent_Mix0Ideal (hMix0Ideal := hMix0Ideal)
    ∧ quiescent_Mix0RefIdeal (hMix0RefIdeal := hMix0RefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDt (hInDt := hInDt)
    ∧ quiescent_InDtIdeal (hInDtIdeal := hInDtIdeal)
    ∧ quiescent_InDtRefIdeal (hInDtRefIdeal := hInDtRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_In (hIn := hIn)
    ∧ quiescent_InIdeal (hInIdeal := hInIdeal)
    ∧ quiescent_InRefIdeal (hInRefIdeal := hInRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_Bu (hBu := hBu)
    ∧ quiescent_BuIdeal (hBuIdeal := hBuIdeal)
    ∧ quiescent_BuRefIdeal (hBuRefIdeal := hBuRefIdeal)
    ∧ quiescent_S5y (hS5y := hS5y)
    ∧ quiescent_S5yIdeal (hS5yIdeal := hS5yIdeal)
    ∧ quiescent_S5yRefIdeal (hS5yRefIdeal := hS5yRefIdeal)
    ∧ quiescent_DsRe (hDsRe := hDsRe)
    ∧ quiescent_DsReIdeal (hDsReIdeal := hDsReIdeal)
    ∧ quiescent_DsReRefIdeal (hDsReRefIdeal := hDsReRefIdeal)
    ∧ quiescent_DsIm (hDsIm := hDsIm)
    ∧ quiescent_DsImIdeal (hDsImIdeal := hDsImIdeal)
    ∧ quiescent_DsImRefIdeal (hDsImRefIdeal := hDsImRefIdeal)
    ∧ quiescent_DcRe (hDcRe := hDcRe)
    ∧ quiescent_DcReIdeal (hDcReIdeal := hDcReIdeal)
    ∧ quiescent_DcReRefIdeal (hDcReRefIdeal := hDcReRefIdeal)
    ∧ quiescent_DcIm (hDcIm := hDcIm)
    ∧ quiescent_DcImIdeal (hDcImIdeal := hDcImIdeal)
    ∧ quiescent_DcImRefIdeal (hDcImRefIdeal := hDcImRefIdeal)
    ∧ quiescent_BuDx (hBuDx := hBuDx)
    ∧ quiescent_BuDxIdeal (hBuDxIdeal := hBuDxIdeal)
    ∧ quiescent_BuDxRefIdeal (hBuDxRefIdeal := hBuDxRefIdeal)
    ∧ quiescent_BuDw (hBuDw := hBuDw)
    ∧ quiescent_BuDwIdeal (hBuDwIdeal := hBuDwIdeal)
    ∧ quiescent_BuDwRefIdeal (hBuDwRefIdeal := hBuDwRefIdeal)
    ∧ quiescent_Sc (hSc := hSc)
    ∧ quiescent_ScIdeal (hScIdeal := hScIdeal)
    ∧ quiescent_ScRefIdeal (hScRefIdeal := hScRefIdeal)
    ∧ quiescent_ScB (hScB := hScB)
    ∧ quiescent_ScBIdeal (hScBIdeal := hScBIdeal)
    ∧ quiescent_ScBRefIdeal (hScBRefIdeal := hScBRefIdeal)
    ∧ quiescent_M2c (hM2c := hM2c)
    ∧ quiescent_M2cIdeal (hM2cIdeal := hM2cIdeal)
    ∧ quiescent_M2cRefIdeal (hM2cRefIdeal := hM2cRefIdeal)
    ∧ quiescent_M2cB (hM2cB := hM2cB)
    ∧ quiescent_M2cBIdeal (hM2cBIdeal := hM2cBIdeal)
    ∧ quiescent_M2cBRefIdeal (hM2cBRefIdeal := hM2cBRefIdeal)
    ∧ quiescent_Act (hAct := hAct)
    ∧ quiescent_ActIdeal (hActIdeal := hActIdeal)
    ∧ quiescent_ActRefIdeal (hActRefIdeal := hActRefIdeal)
    ∧ quiescent_Sgu (hSgu := hSgu)
    ∧ quiescent_SguIdeal (hSguIdeal := hSguIdeal)
    ∧ quiescent_SguRefIdeal (hSguRefIdeal := hSguRefIdeal)
    ∧ quiescent_Rms (hRms := hRms)
    ∧ quiescent_RmsIdeal (hRmsIdeal := hRmsIdeal)
    ∧ quiescent_RmsRefIdeal (hRmsRefIdeal := hRmsRefIdeal)
    ∧ quiescent_RmsB (hRmsB := hRmsB)
    ∧ quiescent_RmsBIdeal (hRmsBIdeal := hRmsBIdeal)
    ∧ quiescent_RmsBRefIdeal (hRmsBRefIdeal := hRmsBRefIdeal)
    ∧ quiescent_Loss (hLoss := hLoss)
    ∧ quiescent_LossIdeal (hLossIdeal := hLossIdeal)
    ∧ quiescent_LossRefIdeal (hLossRefIdeal := hLossRefIdeal)
    ∧ quiescent_AWin (hAWin := hAWin)
    ∧ quiescent_AWinIdeal (hAWinIdeal := hAWinIdeal)
    ∧ quiescent_AWinRefIdeal (hAWinRefIdeal := hAWinRefIdeal)
    ∧ quiescent_AWbr (hAWbr := hAWbr)
    ∧ quiescent_AWbrIdeal (hAWbrIdeal := hAWbrIdeal)
    ∧ quiescent_AWbrRefIdeal (hAWbrRefIdeal := hAWbrRefIdeal)
    ∧ quiescent_AWout (hAWout := hAWout)
    ∧ quiescent_AWoutIdeal (hAWoutIdeal := hAWoutIdeal)
    ∧ quiescent_AWoutRefIdeal (hAWoutRefIdeal := hAWoutRefIdeal)
    ∧ quiescent_AWglu (hAWglu := hAWglu)
    ∧ quiescent_AWgluIdeal (hAWgluIdeal := hAWgluIdeal)
    ∧ quiescent_AWgluRefIdeal (hAWgluRefIdeal := hAWgluRefIdeal)
    ∧ quiescent_AWs5b (hAWs5b := hAWs5b)
    ∧ quiescent_AWs5bIdeal (hAWs5bIdeal := hAWs5bIdeal)
    ∧ quiescent_AWs5bRefIdeal (hAWs5bRefIdeal := hAWs5bRefIdeal)
    ∧ quiescent_ARestA (hARestA := hARestA)
    ∧ quiescent_ARestAIdeal (hARestAIdeal := hARestAIdeal)
    ∧ quiescent_ARestARefIdeal (hARestARefIdeal := hARestARefIdeal)
    ∧ quiescent_ARestB (hARestB := hARestB)
    ∧ quiescent_ARestBIdeal (hARestBIdeal := hARestBIdeal)
    ∧ quiescent_ARestBRefIdeal (hARestBRefIdeal := hARestBRefIdeal)
    ∧ quiescent_ARestC (hARestC := hARestC)
    ∧ quiescent_ARestCIdeal (hARestCIdeal := hARestCIdeal)
    ∧ quiescent_ARestCRefIdeal (hARestCRefIdeal := hARestCRefIdeal)
    ∧ quiescent_ARestD (hARestD := hARestD)
    ∧ quiescent_ARestDIdeal (hARestDIdeal := hARestDIdeal)
    ∧ quiescent_ARestDRefIdeal (hARestDRefIdeal := hARestDRefIdeal)
    ∧ quiescent_ARestE (hARestE := hARestE)
    ∧ quiescent_ARestEIdeal (hARestEIdeal := hARestEIdeal)
    ∧ quiescent_ARestERefIdeal (hARestERefIdeal := hARestERefIdeal)
    ∧ preserves_Kernel_KernelIdeal
    ∧ algebraic_KernelIdeal_ReferenceIdeal (hKernelIdeal := hKernelIdeal) (hReferenceIdeal := hReferenceIdeal)
    ∧ preserves_Mix0_Mix0Ideal
    ∧ algebraic_Mix0Ideal_Mix0RefIdeal_on_mix0_written (hMix0Ideal := hMix0Ideal) (hMix0RefIdeal := hMix0RefIdeal) (hOn_mix0_written := hOn_mix0_written)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal_on_indw_written (hInDwIdeal := hInDwIdeal) (hInDwRefIdeal := hInDwRefIdeal) (hOn_indw_written := hOn_indw_written)
    ∧ preserves_InDt_InDtIdeal
    ∧ algebraic_InDtIdeal_InDtRefIdeal (hInDtIdeal := hInDtIdeal) (hInDtRefIdeal := hInDtRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_In_InIdeal
    ∧ algebraic_InIdeal_InRefIdeal (hInIdeal := hInIdeal) (hInRefIdeal := hInRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_Bu_BuIdeal
    ∧ algebraic_BuIdeal_BuRefIdeal (hBuIdeal := hBuIdeal) (hBuRefIdeal := hBuRefIdeal)
    ∧ preserves_S5y_S5yIdeal
    ∧ algebraic_S5yIdeal_S5yRefIdeal (hS5yIdeal := hS5yIdeal) (hS5yRefIdeal := hS5yRefIdeal)
    ∧ preserves_DsRe_DsReIdeal
    ∧ algebraic_DsReIdeal_DsReRefIdeal (hDsReIdeal := hDsReIdeal) (hDsReRefIdeal := hDsReRefIdeal)
    ∧ preserves_DsIm_DsImIdeal
    ∧ algebraic_DsImIdeal_DsImRefIdeal (hDsImIdeal := hDsImIdeal) (hDsImRefIdeal := hDsImRefIdeal)
    ∧ preserves_DcRe_DcReIdeal
    ∧ algebraic_DcReIdeal_DcReRefIdeal (hDcReIdeal := hDcReIdeal) (hDcReRefIdeal := hDcReRefIdeal)
    ∧ preserves_DcIm_DcImIdeal
    ∧ algebraic_DcImIdeal_DcImRefIdeal (hDcImIdeal := hDcImIdeal) (hDcImRefIdeal := hDcImRefIdeal)
    ∧ preserves_BuDx_BuDxIdeal
    ∧ algebraic_BuDxIdeal_BuDxRefIdeal (hBuDxIdeal := hBuDxIdeal) (hBuDxRefIdeal := hBuDxRefIdeal)
    ∧ preserves_BuDw_BuDwIdeal
    ∧ algebraic_BuDwIdeal_BuDwRefIdeal (hBuDwIdeal := hBuDwIdeal) (hBuDwRefIdeal := hBuDwRefIdeal)
    ∧ preserves_Sc_ScIdeal
    ∧ algebraic_ScIdeal_ScRefIdeal (hScIdeal := hScIdeal) (hScRefIdeal := hScRefIdeal)
    ∧ preserves_ScB_ScBIdeal
    ∧ algebraic_ScBIdeal_ScBRefIdeal (hScBIdeal := hScBIdeal) (hScBRefIdeal := hScBRefIdeal)
    ∧ preserves_M2c_M2cIdeal
    ∧ algebraic_M2cIdeal_M2cRefIdeal (hM2cIdeal := hM2cIdeal) (hM2cRefIdeal := hM2cRefIdeal)
    ∧ preserves_M2cB_M2cBIdeal
    ∧ algebraic_M2cBIdeal_M2cBRefIdeal (hM2cBIdeal := hM2cBIdeal) (hM2cBRefIdeal := hM2cBRefIdeal)
    ∧ preserves_Act_ActIdeal
    ∧ algebraic_ActIdeal_ActRefIdeal (hActIdeal := hActIdeal) (hActRefIdeal := hActRefIdeal)
    ∧ preserves_Sgu_SguIdeal
    ∧ algebraic_SguIdeal_SguRefIdeal (hSguIdeal := hSguIdeal) (hSguRefIdeal := hSguRefIdeal)
    ∧ preserves_Rms_RmsIdeal
    ∧ algebraic_RmsIdeal_RmsRefIdeal (hRmsIdeal := hRmsIdeal) (hRmsRefIdeal := hRmsRefIdeal)
    ∧ preserves_RmsB_RmsBIdeal
    ∧ algebraic_RmsBIdeal_RmsBRefIdeal (hRmsBIdeal := hRmsBIdeal) (hRmsBRefIdeal := hRmsBRefIdeal)
    ∧ preserves_Loss_LossIdeal
    ∧ algebraic_LossIdeal_LossRefIdeal (hLossIdeal := hLossIdeal) (hLossRefIdeal := hLossRefIdeal)
    ∧ preserves_AWin_AWinIdeal
    ∧ algebraic_AWinIdeal_AWinRefIdeal (hAWinIdeal := hAWinIdeal) (hAWinRefIdeal := hAWinRefIdeal)
    ∧ preserves_AWbr_AWbrIdeal
    ∧ algebraic_AWbrIdeal_AWbrRefIdeal (hAWbrIdeal := hAWbrIdeal) (hAWbrRefIdeal := hAWbrRefIdeal)
    ∧ preserves_AWout_AWoutIdeal
    ∧ algebraic_AWoutIdeal_AWoutRefIdeal (hAWoutIdeal := hAWoutIdeal) (hAWoutRefIdeal := hAWoutRefIdeal)
    ∧ preserves_AWglu_AWgluIdeal
    ∧ algebraic_AWgluIdeal_AWgluRefIdeal (hAWgluIdeal := hAWgluIdeal) (hAWgluRefIdeal := hAWgluRefIdeal)
    ∧ preserves_AWs5b_AWs5bIdeal
    ∧ algebraic_AWs5bIdeal_AWs5bRefIdeal (hAWs5bIdeal := hAWs5bIdeal) (hAWs5bRefIdeal := hAWs5bRefIdeal)
    ∧ preserves_ARestA_ARestAIdeal
    ∧ algebraic_ARestAIdeal_ARestARefIdeal (hARestAIdeal := hARestAIdeal) (hARestARefIdeal := hARestARefIdeal)
    ∧ preserves_ARestB_ARestBIdeal
    ∧ algebraic_ARestBIdeal_ARestBRefIdeal (hARestBIdeal := hARestBIdeal) (hARestBRefIdeal := hARestBRefIdeal)
    ∧ preserves_ARestC_ARestCIdeal
    ∧ algebraic_ARestCIdeal_ARestCRefIdeal (hARestCIdeal := hARestCIdeal) (hARestCRefIdeal := hARestCRefIdeal)
    ∧ preserves_ARestD_ARestDIdeal
    ∧ algebraic_ARestDIdeal_ARestDRefIdeal (hARestDIdeal := hARestDIdeal) (hARestDRefIdeal := hARestDRefIdeal)
    ∧ preserves_ARestE_ARestEIdeal
    ∧ algebraic_ARestEIdeal_ARestERefIdeal (hARestEIdeal := hARestEIdeal) (hARestERefIdeal := hARestERefIdeal)
-- ==== On_indw_written.lean ====
abbrev S2048x1024 : Shape := ⟨2, ![2048, 1024]⟩
abbrev S2048x10240 : Shape := ⟨2, ![2048, 10240]⟩
abbrev S1024x10368 : Shape := ⟨2, ![1024, 10368]⟩
abbrev S_ : Shape := ⟨0, ![]⟩

class Facts : Prop where
  bcast_S_S1024x10368 : S_.BroadcastsInDim S1024x10368 (![] : Fin 0 → Fin S1024x10368.rank)

variable [Facts]

def fn {F : FTy → Type} [FloatOps F] (main_arg0 : FVec F S2048x1024 .bf16) (main_arg1 : FVec F S2048x10240 .bf16) : IVec S1024x10368 1 :=
  let main_v0 : IVec S1024x10368 32 := iotaInDim S1024x10368 32 1
  let main_c : IVec S_ 32 := constantI S_ 32 10240#32
  let main_v1 : IVec S1024x10368 32 := broadcastInDim S1024x10368 ![] bcast_S_S1024x10368 main_c
  let main_v2 : IVec S1024x10368 1 := cmpi .slt main_v0 main_v1
  main_v2
-- ==== On_mix0_written.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S2048x10240 : Shape := ⟨2, ![2048, 10240]⟩
abbrev S_ : Shape := ⟨0, ![]⟩
abbrev S512x1024 : Shape := ⟨2, ![512, 1024]⟩
abbrev S1x1024 : Shape := ⟨2, ![1, 1024]⟩

class Facts : Prop where
  bcast_S_S2048x10240 : S_.BroadcastsInDim S2048x10240 (![] : Fin 0 → Fin S2048x10240.rank)
  bcast_S_S2048x512 : S_.BroadcastsInDim S2048x512 (![] : Fin 0 → Fin S2048x512.rank)
  bcast_S_S512x1024 : S_.BroadcastsInDim S512x1024 (![] : Fin 0 → Fin S512x1024.rank)
  bcast_S_S1x1024 : S_.BroadcastsInDim S1x1024 (![] : Fin 0 → Fin S1x1024.rank)

variable [Facts]

def fn {F : FTy → Type} [FloatOps F] (main_arg0 : FVec F S2048x512 .f32) (main_arg1 : FVec F S2048x512 .f32) (main_arg2 : FVec F S2048x10368 .f32) (main_arg3 : FVec F S2048x1024 .bf16) (main_arg4 : FVec F S4x1024 .f32) (main_arg5 : FVec F S2048x1024 .f32) : IVec S2048x512 1 × IVec S2048x512 1 × IVec S2048x10240 1 × IVec S512x1024 1 × IVec S512x1024 1 × IVec S1x1024 1 × IVec S1x1024 1 :=
  let main_v0 : IVec S2048x10240 32 := iotaInDim S2048x10240 32 1
  let main_c : IVec S_ 32 := constantI S_ 32 2048#32
  let main_v1 : IVec S2048x10240 32 := broadcastInDim S2048x10240 ![] bcast_S_S2048x10240 main_c
  let main_v2 : IVec S2048x10240 1 := cmpi .slt main_v0 main_v1
  let main_c_0 : IVec S_ 1 := constantI S_ 1 1#1
  let main_v3 : IVec S2048x512 1 := broadcastInDim S2048x512 ![] bcast_S_S2048x512 main_c_0
  let main_c_1 : IVec S_ 1 := constantI S_ 1 1#1
  let main_v4 : IVec S2048x512 1 := broadcastInDim S2048x512 ![] bcast_S_S2048x512 main_c_1
  let main_c_2 : IVec S_ 1 := constantI S_ 1 1#1
  let main_v5 : IVec S512x1024 1 := broadcastInDim S512x1024 ![] bcast_S_S512x1024 main_c_2
  let main_c_3 : IVec S_ 1 := constantI S_ 1 1#1
  let main_v6 : IVec S512x1024 1 := broadcastInDim S512x1024 ![] bcast_S_S512x1024 main_c_3
  let main_c_4 : IVec S_ 1 := constantI S_ 1 1#1
  let main_v7 : IVec S1x1024 1 := broadcastInDim S1x1024 ![] bcast_S_S1x1024 main_c_4
  let main_c_5 : IVec S_ 1 := constantI S_ 1 1#1
  let main_v8 : IVec S1x1024 1 := broadcastInDim S1x1024 ![] bcast_S_S1x1024 main_c_5
  (main_v3, main_v4, main_v2, main_v5, main_v6, main_v7, main_v8)
-- ==== Kernel.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S2048x10240 : Shape := ⟨2, ![2048, 10240]⟩
abbrev S4x1x1024 : Shape := ⟨3, ![4, 1, 1024]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S256x2048 : Shape := ⟨2, ![256, 2048]⟩
abbrev S1024 : Shape := ⟨1, ![1024]⟩

abbrev nBuf : Space → Nat
  | .hbm => 15
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x10368, .f32⟩
  | .hbm, ⟨3, _⟩ => ⟨S2048x1024, .bf16⟩
  | .hbm, ⟨4, _⟩ => ⟨S4x1024, .f32⟩
  | .hbm, ⟨5, _⟩ => ⟨S2048x1024, .f32⟩
  | .hbm, ⟨6, _⟩ => ⟨S2048x10240, .bf16⟩
  | .hbm, ⟨7, _⟩ => ⟨S4x1x1024, .f32⟩
  | .hbm, ⟨8, _⟩ => ⟨S2048x512, .f32⟩
  | .hbm, ⟨9, _⟩ => ⟨S2048x512, .f32⟩
  | .hbm, ⟨10, _⟩ => ⟨S2048x10240, .bf16⟩
  | .hbm, ⟨11, _⟩ => ⟨S512x1024, .f32⟩
  | .hbm, ⟨12, _⟩ => ⟨S512x1024, .f32⟩
  | .hbm, ⟨13, _⟩ => ⟨S1x1024, .f32⟩
  | .hbm, ⟨14, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x2048, .bf16⟩
  | .local _ .vmem, ⟨19, _⟩ => ⟨S256x2048, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_35 : BitVec 32 := 0#32
  let v57 : BitVec 1 := Scalar.cmpi .ne v56 c0_i32_35
  v57

def k0_cond2 (i : grid0.Coords) : BitVec 1 :=
  let arg0 : BitVec 32 := BitVec.ofNat 32 (i 0).val
  let c0_i32_36 : BitVec 32 := 0#32
  let v58 : BitVec 1 := Scalar.cmpi .sgt arg0 c0_i32_36
  let v59 : BitVec 32 := Scalar.extui v58
  let c0_i32_37 : BitVec 32 := 0#32
  let v60 : BitVec 1 := Scalar.cmpi .ne v59 c0_i32_37
  v60

def k0_cond3 (i : grid0.Coords) : BitVec 1 :=
  let arg0 : BitVec 32 := BitVec.ofNat 32 (i 0).val
  let c0_i32_38 : BitVec 32 := 0#32
  let v61 : BitVec 1 := Scalar.cmpi .eq arg0 c0_i32_38
  let v62 : BitVec 32 := Scalar.extui v61
  let c0_i32_39 : BitVec 32 := 0#32
  let v63 : BitVec 1 := Scalar.cmpi .ne v62 c0_i32_39
  v63

def k0_cond4 (i : grid0.Coords) : BitVec 1 :=
  let arg0 : BitVec 32 := BitVec.ofNat 32 (i 0).val
  let c0_i32_40 : BitVec 32 := 0#32
  let v64 : BitVec 1 := Scalar.cmpi .sgt arg0 c0_i32_40
  let v65 : BitVec 32 := Scalar.extui v64
  let c0_i32_41 : BitVec 32 := 0#32
  let v66 : BitVec 1 := Scalar.cmpi .ne v65 c0_i32_41
  v66

def k0_cond5 (i : grid0.Coords) : BitVec 1 :=
  let arg0 : BitVec 32 := BitVec.ofNat 32 (i 0).val
  let c0_i32_42 : BitVec 32 := 0#32
  let v67 : BitVec 1 := Scalar.cmpi .eq arg0 c0_i32_42
  let v68 : BitVec 32 := Scalar.extui v67
  let c0_i32_43 : BitVec 32 := 0#32
  let v69 : BitVec 1 := Scalar.cmpi .ne v68 c0_i32_43
  v69

def k0_cond6 (i : grid0.Coords) : BitVec 1 :=
  let arg0 : BitVec 32 := BitVec.ofNat 32 (i 0).val
  let c0_i32_44 : BitVec 32 := 0#32
  let v70 : BitVec 1 := Scalar.cmpi .sgt arg0 c0_i32_44
  let v71 : BitVec 32 := Scalar.extui v70
  let c0_i32_45 : BitVec 32 := 0#32
  let v72 : BitVec 1 := Scalar.cmpi .ne v71 c0_i32_45
  v72

def k0_cond7 (i : grid0.Coords) : BitVec 1 :=
  let arg0 : BitVec 32 := BitVec.ofNat 32 (i 0).val
  let c0_i32_46 : BitVec 32 := 0#32
  let v73 : BitVec 1 := Scalar.cmpi .eq arg0 c0_i32_46
  let v74 : BitVec 32 := Scalar.extui v73
  let c0_i32_47 : BitVec 32 := 0#32
  let v75 : BitVec 1 := Scalar.cmpi .ne v74 c0_i32_47
  v75

def k0_cond8 (i : grid0.Coords) : BitVec 1 :=
  let arg0 : BitVec 32 := BitVec.ofNat 32 (i 0).val
  let c0_i32_48 : BitVec 32 := 0#32
  let v76 : BitVec 1 := Scalar.cmpi .sgt arg0 c0_i32_48
  let v77 : BitVec 32 := Scalar.extui v76
  let c0_i32_49 : BitVec 32 := 0#32
  let v78 : BitVec 1 := Scalar.cmpi .ne v77 c0_i32_49
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S2048x10240 : Shape := ⟨2, ![2048, 10240]⟩
abbrev S4x512x1024 : Shape := ⟨3, ![4, 512, 1024]⟩
abbrev S2x512x1024 : Shape := ⟨3, ![2, 512, 1024]⟩
abbrev S2048x2048 : Shape := ⟨2, ![2048, 2048]⟩
abbrev S2x1024 : Shape := ⟨2, ![2, 1024]⟩
abbrev S2048x1x512 : Shape := ⟨3, ![2048, 1, 512]⟩
abbrev S2048x2x512 : Shape := ⟨3, ![2048, 2, 512]⟩
abbrev S2x1024x2048 : Shape := ⟨3, ![2, 1024, 2048]⟩
abbrev S2048x2x1024 : Shape := ⟨3, ![2048, 2, 1024]⟩
abbrev S1x2x1024 : Shape := ⟨3, ![1, 2, 1024]⟩
abbrev S_ : Shape := ⟨0, ![]⟩
abbrev S2x2048x512 : Shape := ⟨3, ![2, 2048, 512]⟩
abbrev S2x1024x512 : Shape := ⟨3, ![2, 1024, 512]⟩
abbrev S2048x6144 : Shape := ⟨2, ![2048, 6144]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x10368, .f32⟩
  | .hbm, ⟨3, _⟩ => ⟨S2048x1024, .bf16⟩
  | .hbm, ⟨4, _⟩ => ⟨S4x1024, .f32⟩
  | .hbm, ⟨5, _⟩ => ⟨S2048x1024, .f32⟩
  | .hbm, ⟨6, _⟩ => ⟨S2048x10240, .bf16⟩
  | .hbm, ⟨7, _⟩ => ⟨S2048x1024, .f32⟩
  | .hbm, ⟨8, _⟩ => ⟨S4x512x1024, .f32⟩
  | .hbm, ⟨9, _⟩ => ⟨S2x512x1024, .f32⟩
  | .hbm, ⟨10, _⟩ => ⟨S2048x2048, .f32⟩
  | .hbm, ⟨11, _⟩ => ⟨S2x1024, .f32⟩
  | .hbm, ⟨12, _⟩ => ⟨S2048x1x512, .f32⟩
  | .hbm, ⟨13, _⟩ => ⟨S2048x1x512, .f32⟩
  | .hbm, ⟨14, _⟩ => ⟨S2048x2x512, .f32⟩
  | .hbm, ⟨15, _⟩ => ⟨S2x1024x2048, .f32⟩
  | .hbm, ⟨16, _⟩ => ⟨S2048x2x1024, .f32⟩
  | .hbm, ⟨17, _⟩ => ⟨S2048x2x1024, .f32⟩
  | .hbm, ⟨18, _⟩ => ⟨S1x2x1024, .f32⟩
  | .hbm, ⟨19, _⟩ => ⟨S2048x2x1024, .f32⟩
  | .hbm, ⟨20, _⟩ => ⟨S2048x2x1024, .f32⟩
  | .hbm, ⟨21, _⟩ => ⟨S2048x2x1024, .f32⟩
  | .hbm, ⟨22, _⟩ => ⟨S2048x2x1024, .f32⟩
  | .hbm, ⟨23, _⟩ => ⟨S_, .f32⟩
  | .hbm, ⟨24, _⟩ => ⟨S2048x2x1024, .f32⟩
  | .hbm, ⟨25, _⟩ => ⟨S2048x2x1024, .f32⟩
  | .hbm, ⟨26, _⟩ => ⟨S_, .f32⟩
  | .hbm, ⟨27, _⟩ => ⟨S2048x2x1024, .f32⟩
  | .hbm, ⟨28, _⟩ => ⟨S2048x2x1024, .f32⟩
  | .hbm, ⟨29, _⟩ => ⟨S_, .f32⟩
  | .hbm, ⟨30, _⟩ => ⟨S2048x2x1024, .f32⟩
  | .hbm, ⟨31, _⟩ => ⟨S2048x2x1024, .f32⟩
  | .hbm, ⟨32, _⟩ => ⟨S2048x2x1024, .f32⟩
  | .hbm, ⟨33, _⟩ => ⟨S2048x2x1024, .f32⟩
  | .hbm, ⟨34, _⟩ => ⟨S_, .f32⟩
  | .hbm, ⟨35, _⟩ => ⟨S2048x1024, .f32⟩
  | .hbm, ⟨36, _⟩ => ⟨S2048x2x1024, .f32⟩
  | .hbm, ⟨37, _⟩ => ⟨S2048x2x1024, .f32⟩
  | .hbm, ⟨38, _⟩ => ⟨S2048x2x1024, .f32⟩
  | .hbm, ⟨39, _⟩ => ⟨S2048x2x1024, .f32⟩
  | .hbm, ⟨40, _⟩ => ⟨S_, .f32⟩
  | .hbm, ⟨41, _⟩ => ⟨S2x1024, .f32⟩
  | .hbm, ⟨42, _⟩ => ⟨S1x2x1024, .f32⟩
  | .hbm, ⟨43, _⟩ => ⟨S_, .f32⟩
  | .hbm, ⟨44, _⟩ => ⟨S2x1024, .f32⟩
  | .hbm, ⟨45, _⟩ => ⟨S2048x2048, .f32⟩
  | .hbm, ⟨46, _⟩ => ⟨S2x1024x2048, .f32⟩
  | .hbm, ⟨47, _⟩ => ⟨S2x2048x512, .f32⟩
  | .hbm, ⟨48, _⟩ => ⟨S2048x2x512, .f32⟩
  | .hbm, ⟨49, _⟩ => ⟨S2x1024x512, .f32⟩
  | .hbm, ⟨50, _⟩ => ⟨S2x512x1024, .f32⟩
  | .hbm, ⟨51, _⟩ => ⟨S2048x1x512, .f32⟩
  | .hbm, ⟨52, _⟩ => ⟨S2048x512, .f32⟩
  | .hbm, ⟨53, _⟩ => ⟨S2048x1x512, .f32⟩
  | .hbm, ⟨54, _⟩ => ⟨S2048x512, .f32⟩
  | .hbm, ⟨55, _⟩ => ⟨S2048x2048, .bf16⟩
  | .hbm, ⟨56, _⟩ => ⟨S2048x2048, .bf16⟩
  | .hbm, ⟨57, _⟩ => ⟨S2048x6144, .bf16⟩
  | .hbm, ⟨58, _⟩ => ⟨S2048x10240, .bf16⟩
  | .hbm, ⟨59, _⟩ => ⟨S1x512x1024, .f32⟩
  | .hbm, ⟨60, _⟩ => ⟨S512x1024, .f32⟩
  | .hbm, ⟨61, _⟩ => ⟨S1x512x1024, .f32⟩
  | .hbm, ⟨62, _⟩ => ⟨S512x1024, .f32⟩
  | .hbm, ⟨63, _⟩ => ⟨S1x1024, .f32⟩
  | .hbm, ⟨64, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Mix0.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S4x1x1024 : Shape := ⟨3, ![4, 1, 1024]⟩
abbrev S2048x10240 : Shape := ⟨2, ![2048, 10240]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S256x2048 : Shape := ⟨2, ![256, 2048]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x10368, .f32⟩
  | .hbm, ⟨3, _⟩ => ⟨S2048x1024, .bf16⟩
  | .hbm, ⟨4, _⟩ => ⟨S4x1024, .f32⟩
  | .hbm, ⟨5, _⟩ => ⟨S2048x1024, .f32⟩
  | .hbm, ⟨6, _⟩ => ⟨S4x1x1024, .f32⟩
  | .hbm, ⟨7, _⟩ => ⟨S2048x512, .f32⟩
  | .hbm, ⟨8, _⟩ => ⟨S2048x512, .f32⟩
  | .hbm, ⟨9, _⟩ => ⟨S2048x10240, .bf16⟩
  | .hbm, ⟨10, _⟩ => ⟨S512x1024, .f32⟩
  | .hbm, ⟨11, _⟩ => ⟨S512x1024, .f32⟩
  | .hbm, ⟨12, _⟩ => ⟨S1x1024, .f32⟩
  | .hbm, ⟨13, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x2048, .bf16⟩
  | .local _ .vmem, ⟨19, _⟩ => ⟨S256x2048, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_35 : BitVec 32 := 0#32
  let v57 : BitVec 1 := Scalar.cmpi .ne v56 c0_i32_35
  v57

def k0_cond2 (i : grid0.Coords) : BitVec 1 :=
  let arg0 : BitVec 32 := BitVec.ofNat 32 (i 0).val
  let c0_i32_36 : BitVec 32 := 0#32
  let v58 : BitVec 1 := Scalar.cmpi .sgt arg0 c0_i32_36
  let v59 : BitVec 32 := Scalar.extui v58
  let c0_i32_37 : BitVec 32 := 0#32
  let v60 : BitVec 1 := Scalar.cmpi .ne v59 c0_i32_37
  v60

def k0_cond3 (i : grid0.Coords) : BitVec 1 :=
  let arg0 : BitVec 32 := BitVec.ofNat 32 (i 0).val
  let c0_i32_38 : BitVec 32 := 0#32
  let v61 : BitVec 1 := Scalar.cmpi .eq arg0 c0_i32_38
  let v62 : BitVec 32 := Scalar.extui v61
  let c0_i32_39 : BitVec 32 := 0#32
  let v63 : BitVec 1 := Scalar.cmpi .ne v62 c0_i32_39
  v63

def k0_cond4 (i : grid0.Coords) : BitVec 1 :=
  let arg0 : BitVec 32 := BitVec.ofNat 32 (i 0).val
  let c0_i32_40 : BitVec 32 := 0#32
  let v64 : BitVec 1 := Scalar.cmpi .sgt arg0 c0_i32_40
  let v65 : BitVec 32 := Scalar.extui v64
  let c0_i32_41 : BitVec 32 := 0#32
  let v66 : BitVec 1 := Scalar.cmpi .ne v65 c0_i32_41
  v66

def k0_cond5 (i : grid0.Coords) : BitVec 1 :=
  let arg0 : BitVec 32 := BitVec.ofNat 32 (i 0).val
  let c0_i32_42 : BitVec 32 := 0#32
  let v67 : BitVec 1 := Scalar.cmpi .eq arg0 c0_i32_42
  let v68 : BitVec 32 := Scalar.extui v67
  let c0_i32_43 : BitVec 32 := 0#32
  let v69 : BitVec 1 := Scalar.cmpi .ne v68 c0_i32_43
  v69

def k0_cond6 (i : grid0.Coords) : BitVec 1 :=
  let arg0 : BitVec 32 := BitVec.ofNat 32 (i 0).val
  let c0_i32_44 : BitVec 32 := 0#32
  let v70 : BitVec 1 := Scalar.cmpi .sgt arg0 c0_i32_44
  let v71 : BitVec 32 := Scalar.extui v70
  let c0_i32_45 : BitVec 32 := 0#32
  let v72 : BitVec 1 := Scalar.cmpi .ne v71 c0_i32_45
  v72

def k0_cond7 (i : grid0.Coords) : BitVec 1 :=
  let arg0 : BitVec 32 := BitVec.ofNat 32 (i 0).val
  let c0_i32_46 : BitVec 32 := 0#32
  let v73 : BitVec 1 := Scalar.cmpi .eq arg0 c0_i32_46
  let v74 : BitVec 32 := Scalar.extui v73
  let c0_i32_47 : BitVec 32 := 0#32
  let v75 : BitVec 1 := Scalar.cmpi .ne v74 c0_i32_47
  v75

def k0_cond8 (i : grid0.Coords) : BitVec 1 :=
  let arg0 : BitVec 32 := BitVec.ofNat 32 (i 0).val
  let c0_i32_48 : BitVec 32 := 0#32
  let v76 : BitVec 1 := Scalar.cmpi .sgt arg0 c0_i32_48
  let v77 : BitVec 32 := Scalar.extui v76
  let c0_i32_49 : BitVec 32 := 0#32
  let v78 : BitVec 1 := Scalar.cmpi .ne v77 c0_i32_49
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Mix0RefIdeal.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S4x512x1024 : Shape := ⟨3, ![4, 512, 1024]⟩
abbrev S2x512x1024 : Shape := ⟨3, ![2, 512, 1024]⟩
abbrev S2048x2048 : Shape := ⟨2, ![2048, 2048]⟩
abbrev S2x1024 : Shape := ⟨2, ![2, 1024]⟩
abbrev S2048x1x512 : Shape := ⟨3, ![2048, 1, 512]⟩
abbrev S2048x2x512 : Shape := ⟨3, ![2048, 2, 512]⟩
abbrev S2x1024x2048 : Shape := ⟨3, ![2, 1024, 2048]⟩
abbrev S2048x2x1024 : Shape := ⟨3, ![2048, 2, 1024]⟩
abbrev S1x2x1024 : Shape := ⟨3, ![1, 2, 1024]⟩
abbrev S_ : Shape := ⟨0, ![]⟩
abbrev S2x2048x512 : Shape := ⟨3, ![2, 2048, 512]⟩
abbrev S2x1024x512 : Shape := ⟨3, ![2, 1024, 512]⟩
abbrev S2048x8192 : Shape := ⟨2, ![2048, 8192]⟩
abbrev S2048x10240 : Shape := ⟨2, ![2048, 10240]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x10368, .f32⟩
  | .hbm, ⟨3, _⟩ => ⟨S2048x1024, .bf16⟩
  | .hbm, ⟨4, _⟩ => ⟨S4x1024, .f32⟩
  | .hbm, ⟨5, _⟩ => ⟨S2048x1024, .f32⟩
  | .hbm, ⟨6, _⟩ => ⟨S2048x1024, .f32⟩
  | .hbm, ⟨7, _⟩ => ⟨S4x512x1024, .f32⟩
  | .hbm, ⟨8, _⟩ => ⟨S2x512x1024, .f32⟩
  | .hbm, ⟨9, _⟩ => ⟨S2048x2048, .f32⟩
  | .hbm, ⟨10, _⟩ => ⟨S2x1024, .f32⟩
  | .hbm, ⟨11, _⟩ => ⟨S2048x1x512, .f32⟩
  | .hbm, ⟨12, _⟩ => ⟨S2048x1x512, .f32⟩
  | .hbm, ⟨13, _⟩ => ⟨S2048x2x512, .f32⟩
  | .hbm, ⟨14, _⟩ => ⟨S2x1024x2048, .f32⟩
  | .hbm, ⟨15, _⟩ => ⟨S2048x2x1024, .f32⟩
  | .hbm, ⟨16, _⟩ => ⟨S2048x2x1024, .f32⟩
  | .hbm, ⟨17, _⟩ => ⟨S1x2x1024, .f32⟩
  | .hbm, ⟨18, _⟩ => ⟨S2048x2x1024, .f32⟩
  | .hbm, ⟨19, _⟩ => ⟨S2048x2x1024, .f32⟩
  | .hbm, ⟨20, _⟩ => ⟨S2048x2x1024, .f32⟩
  | .hbm, ⟨21, _⟩ => ⟨S2048x2x1024, .f32⟩
  | .hbm, ⟨22, _⟩ => ⟨S_, .f32⟩
  | .hbm, ⟨23, _⟩ => ⟨S2048x2x1024, .f32⟩
  | .hbm, ⟨24, _⟩ => ⟨S2048x2x1024, .f32⟩
  | .hbm, ⟨25, _⟩ => ⟨S_, .f32⟩
  | .hbm, ⟨26, _⟩ => ⟨S2048x2x1024, .f32⟩
  | .hbm, ⟨27, _⟩ => ⟨S2048x2x1024, .f32⟩
  | .hbm, ⟨28, _⟩ => ⟨S_, .f32⟩
  | .hbm, ⟨29, _⟩ => ⟨S2048x2x1024, .f32⟩
  | .hbm, ⟨30, _⟩ => ⟨S2048x2x1024, .f32⟩
  | .hbm, ⟨31, _⟩ => ⟨S2048x2x1024, .f32⟩
  | .hbm, ⟨32, _⟩ => ⟨S2048x2x1024, .f32⟩
  | .hbm, ⟨33, _⟩ => ⟨S_, .f32⟩
  | .hbm, ⟨34, _⟩ => ⟨S2048x1024, .f32⟩
  | .hbm, ⟨35, _⟩ => ⟨S2048x2x1024, .f32⟩
  | .hbm, ⟨36, _⟩ => ⟨S2048x2x1024, .f32⟩
  | .hbm, ⟨37, _⟩ => ⟨S2048x2x1024, .f32⟩
  | .hbm, ⟨38, _⟩ => ⟨S2048x2x1024, .f32⟩
  | .hbm, ⟨39, _⟩ => ⟨S_, .f32⟩
  | .hbm, ⟨40, _⟩ => ⟨S2x1024, .f32⟩
  | .hbm, ⟨41, _⟩ => ⟨S1x2x1024, .f32⟩
  | .hbm, ⟨42, _⟩ => ⟨S_, .f32⟩
  | .hbm, ⟨43, _⟩ => ⟨S2x1024, .f32⟩
  | .hbm, ⟨44, _⟩ => ⟨S2048x2048, .f32⟩
  | .hbm, ⟨45, _⟩ => ⟨S2x1024x2048, .f32⟩
  | .hbm, ⟨46, _⟩ => ⟨S2x2048x512, .f32⟩
  | .hbm, ⟨47, _⟩ => ⟨S2048x2x512, .f32⟩
  | .hbm, ⟨48, _⟩ => ⟨S2x1024x512, .f32⟩
  | .hbm, ⟨49, _⟩ => ⟨S2x512x1024, .f32⟩
  | .hbm, ⟨50, _⟩ => ⟨S2048x1x512, .f32⟩
  | .hbm, ⟨51, _⟩ => ⟨S2048x512, .f32⟩
  | .hbm, ⟨52, _⟩ => ⟨S2048x1x512, .f32⟩
  | .hbm, ⟨53, _⟩ => ⟨S2048x512, .f32⟩
  | .hbm, ⟨54, _⟩ => ⟨S_, .f32⟩
  | .hbm, ⟨55, _⟩ => ⟨S2048x8192, .f32⟩
  | .hbm, ⟨56, _⟩ => ⟨S2048x10240, .f32⟩
  | .hbm, ⟨57, _⟩ => ⟨S2048x10240, .bf16⟩
  | .hbm, ⟨58, _⟩ => ⟨S1x512x1024, .f32⟩
  | .hbm, ⟨59, _⟩ => ⟨S512x1024, .f32⟩
  | .hbm, ⟨60, _⟩ => ⟨S1x512x1024, .f32⟩
  | .hbm, ⟨61, _⟩ => ⟨S512x1024, .f32⟩
  | .hbm, ⟨62, _⟩ => ⟨S1x1024, .f32⟩
  | .hbm, ⟨63, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== InDx.lean ====
abbrev S2048x10240 : Shape := ⟨2, ![2048, 10240]⟩
abbrev S2048x128 : Shape := ⟨2, ![2048, 128]⟩
abbrev S1024x10368 : Shape := ⟨2, ![1024, 10368]⟩
abbrev S2048x1024 : Shape := ⟨2, ![2048, 1024]⟩
abbrev S512x10240 : Shape := ⟨2, ![512, 10240]⟩
abbrev S512x128 : Shape := ⟨2, ![512, 128]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x10240, .bf16⟩
  | .hbm, ⟨1, _⟩ => ⟨S2048x128, .bf16⟩
  | .hbm, ⟨2, _⟩ => ⟨S1024x10368, .bf16⟩
  | .hbm, ⟨3, _⟩ => ⟨S2048x1024, .f32⟩
  | .local _ .vmem, ⟨0, _⟩ => ⟨S512x10240, .bf16⟩
  | .local _ .vmem, ⟨1, _⟩ => ⟨S512x10240, .bf16⟩
  | .local _ .vmem, ⟨2, _⟩ => ⟨S512x10240, .bf16⟩
  | .local _ .vmem, ⟨3, _⟩ => ⟨S512x10240, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x512, .f32⟩
  | .local _ .vmem, ⟨9, _⟩ => ⟨S512x512, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c80_i32 : BitVec 32 := 80#32
  let c0_i32_0 : BitVec 32 := 0#32
  ![v0.toNat, c80_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InDxRefIdeal.lean ====
abbrev S2048x10240 : Shape := ⟨2, ![2048, 10240]⟩
abbrev S2048x128 : Shape := ⟨2, ![2048, 128]⟩
abbrev S1024x10368 : Shape := ⟨2, ![1024, 10368]⟩
abbrev S2048x10368 : Shape := ⟨2, ![2048, 10368]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x128, .bf16⟩
  | .hbm, ⟨2, _⟩ => ⟨S1024x10368, .bf16⟩
  | .hbm, ⟨3, _⟩ => ⟨S2048x10368, .bf16⟩
  | .hbm, ⟨4, _⟩ => ⟨S2048x10368, .f32⟩
  | .hbm, ⟨5, _⟩ => ⟨S_, .f32⟩
  | .hbm, ⟨6, _⟩ => ⟨S2048x1024, .f32⟩
  | .hbm, ⟨7, _⟩ => ⟨S1024x10368, .f32⟩
  | .hbm, ⟨8, _⟩ => ⟨S2048x10368, .f32⟩
  | .hbm, ⟨9, _⟩ => ⟨S2048x1024, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDw.lean ====
abbrev S2048x1024 : Shape := ⟨2, ![2048, 1024]⟩
abbrev S2048x10240 : Shape := ⟨2, ![2048, 10240]⟩
abbrev S1024x10368 : Shape := ⟨2, ![1024, 10368]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x10240, .bf16⟩
  | .hbm, ⟨2, _⟩ => ⟨S1024x10368, .bf16⟩
  | .local _ .vmem, ⟨0, _⟩ => ⟨S2048x1024, .bf16⟩
  | .local _ .vmem, ⟨1, _⟩ => ⟨S2048x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S2048x1024 : Shape := ⟨2, ![2048, 1024]⟩
abbrev S2048x10240 : Shape := ⟨2, ![2048, 10240]⟩
abbrev S_ : Shape := ⟨0, ![]⟩
abbrev S2048x128 : Shape := ⟨2, ![2048, 128]⟩
abbrev S2048x10368 : Shape := ⟨2, ![2048, 10368]⟩
abbrev S1024x10368 : Shape := ⟨2, ![1024, 10368]⟩
abbrev S10368x1024 : Shape := ⟨2, ![10368, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x10240, .bf16⟩
  | .hbm, ⟨2, _⟩ => ⟨S2048x10240, .f32⟩
  | .hbm, ⟨3, _⟩ => ⟨S_, .f32⟩
  | .hbm, ⟨4, _⟩ => ⟨S2048x128, .f32⟩
  | .hbm, ⟨5, _⟩ => ⟨S2048x10368, .f32⟩
  | .hbm, ⟨6, _⟩ => ⟨S_, .f32⟩
  | .hbm, ⟨7, _⟩ => ⟨S1024x10368, .f32⟩
  | .hbm, ⟨8, _⟩ => ⟨S2048x1024, .f32⟩
  | .hbm, ⟨9, _⟩ => ⟨S2048x10368, .f32⟩
  | .hbm, ⟨10, _⟩ => ⟨S10368x1024, .f32⟩
  | .hbm, ⟨11, _⟩ => ⟨S1024x10368, .f32⟩
  | .hbm, ⟨12, _⟩ => ⟨S1024x10368, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InDt.lean ====
abbrev S2048x1024 : Shape := ⟨2, ![2048, 1024]⟩
abbrev S2048x128 : Shape := ⟨2, ![2048, 128]⟩
abbrev S1024x10368 : Shape := ⟨2, ![1024, 10368]⟩
abbrev S2048x256 : Shape := ⟨2, ![2048, 256]⟩
abbrev S256x128 : Shape := ⟨2, ![256, 128]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x10368, .bf16⟩
  | .hbm, ⟨3, _⟩ => ⟨S1024x10368, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S256x128, .bf16⟩
  | .local _ .vmem, ⟨4, _⟩ => ⟨S256x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi arg0 c80_i32
  let c0_i32 : BitVec 32 := 0#32
  ![arg1.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtRefIdeal.lean ====
abbrev S2048x1024 : Shape := ⟨2, ![2048, 1024]⟩
abbrev S2048x128 : Shape := ⟨2, ![2048, 128]⟩
abbrev S1024x10368 : Shape := ⟨2, ![1024, 10368]⟩
abbrev S_ : Shape := ⟨0, ![]⟩
abbrev S1024x128 : Shape := ⟨2, ![1024, 128]⟩
abbrev S128x1024 : Shape := ⟨2, ![128, 1024]⟩
abbrev S1024x10240 : Shape := ⟨2, ![1024, 10240]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x10368, .bf16⟩
  | .hbm, ⟨3, _⟩ => ⟨S_, .f32⟩
  | .hbm, ⟨4, _⟩ => ⟨S1024x128, .f32⟩
  | .hbm, ⟨5, _⟩ => ⟨S2048x1024, .f32⟩
  | .hbm, ⟨6, _⟩ => ⟨S2048x128, .f32⟩
  | .hbm, ⟨7, _⟩ => ⟨S2048x128, .f32⟩
  | .hbm, ⟨8, _⟩ => ⟨S128x1024, .f32⟩
  | .hbm, ⟨9, _⟩ => ⟨S1024x128, .f32⟩
  | .hbm, ⟨10, _⟩ => ⟨S1024x10240, .bf16⟩
  | .hbm, ⟨11, _⟩ => ⟨S1024x128, .bf16⟩
  | .hbm, ⟨12, _⟩ => ⟨S1024x10368, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== In.lean ====
abbrev S2048x1024 : Shape := ⟨2, ![2048, 1024]⟩
abbrev S1024x10368 : Shape := ⟨2, ![1024, 10368]⟩
abbrev S2048x10368 : Shape := ⟨2, ![2048, 10368]⟩
abbrev S1024x1152 : Shape := ⟨2, ![1024, 1152]⟩
abbrev S2048x1152 : Shape := ⟨2, ![2048, 1152]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x10368, .bf16⟩
  | .hbm, ⟨2, _⟩ => ⟨S2048x10368, .f32⟩
  | .local _ .vmem, ⟨0, _⟩ => ⟨S2048x1024, .bf16⟩
  | .local _ .vmem, ⟨1, _⟩ => ⟨S1024x1152, .bf16⟩
  | .local _ .vmem, ⟨2, _⟩ => ⟨S1024x1152, .bf16⟩
  | .local _ .vmem, ⟨3, _⟩ => ⟨S2048x1152, .f32⟩
  | .local _ .vmem, ⟨4, _⟩ => ⟨S2048x1152, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S2048x1024 : Shape := ⟨2, ![2048, 1024]⟩
abbrev S1024x10368 : Shape := ⟨2, ![1024, 10368]⟩
abbrev S2048x10368 : Shape := ⟨2, ![2048, 10368]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x10368, .bf16⟩
  | .hbm, ⟨2, _⟩ => ⟨S2048x1024, .f32⟩
  | .hbm, ⟨3, _⟩ => ⟨S1024x10368, .f32⟩
  | .hbm, ⟨4, _⟩ => ⟨S2048x10368, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S4x1x1024 : Shape := ⟨3, ![4, 1, 1024]⟩
abbrev S256x512 : Shape := ⟨2, ![256, 512]⟩
abbrev S256x1024 : Shape := ⟨2, ![256, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 26
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x10368, .f32⟩
  | .hbm, ⟨5, _⟩ => ⟨S2048x1024, .bf16⟩
  | .hbm, ⟨6, _⟩ => ⟨S4x1024, .f32⟩
  | .hbm, ⟨7, _⟩ => ⟨S4x1x1024, .f32⟩
  | .hbm, ⟨8, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S256x1024, .bf16⟩
  | .local _ .vmem, ⟨25, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_11 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S2048x512 : Shape := ⟨2, ![2048, 512]⟩
abbrev S2048x10368 : Shape := ⟨2, ![2048, 10368]⟩
abbrev S2048x1024 : Shape := ⟨2, ![2048, 1024]⟩
abbrev S4x1024 : Shape := ⟨2, ![4, 1024]⟩
abbrev S2048x1x512 : Shape := ⟨3, ![2048, 1, 512]⟩
abbrev S2048x4x512 : Shape := ⟨3, ![2048, 4, 512]⟩
abbrev S4x512x1024 : Shape := ⟨3, ![4, 512, 1024]⟩
abbrev S4x1024x2048 : Shape := ⟨3, ![4, 1024, 2048]⟩
abbrev S2048x4x1024 : Shape := ⟨3, ![2048, 4, 1024]⟩
abbrev S2048x4096 : Shape := ⟨2, ![2048, 4096]⟩
abbrev S1x4x1024 : Shape := ⟨3, ![1, 4, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x10368, .f32⟩
  | .hbm, ⟨5, _⟩ => ⟨S2048x1024, .bf16⟩
  | .hbm, ⟨6, _⟩ => ⟨S4x1024, .f32⟩
  | .hbm, ⟨7, _⟩ => ⟨S2048x1x512, .f32⟩
  | .hbm, ⟨8, _⟩ => ⟨S2048x1x512, .f32⟩
  | .hbm, ⟨9, _⟩ => ⟨S2048x1x512, .f32⟩
  | .hbm, ⟨10, _⟩ => ⟨S2048x1x512, .f32⟩
  | .hbm, ⟨11, _⟩ => ⟨S2048x4x512, .f32⟩
  | .hbm, ⟨12, _⟩ => ⟨S2048x1024, .f32⟩
  | .hbm, ⟨13, _⟩ => ⟨S4x512x1024, .f32⟩
  | .hbm, ⟨14, _⟩ => ⟨S4x1024x2048, .f32⟩
  | .hbm, ⟨15, _⟩ => ⟨S2048x4x1024, .f32⟩
  | .hbm, ⟨16, _⟩ => ⟨S2048x4096, .f32⟩
  | .hbm, ⟨17, _⟩ => ⟨S2048x4x1024, .f32⟩
  | .hbm, ⟨18, _⟩ => ⟨S1x4x1024, .f32⟩
  | .hbm, ⟨19, _⟩ => ⟨S2048x4x1024, .f32⟩
  | .hbm, ⟨20, _⟩ => ⟨S2048x4x1024, .f32⟩
  | .hbm, ⟨21, _⟩ => ⟨S2048x4x1024, .f32⟩
  | .hbm, ⟨22, _⟩ => ⟨S2048x4x1024, .f32⟩
  | .hbm, ⟨23, _⟩ => ⟨S_, .f32⟩
  | .hbm, ⟨24, _⟩ => ⟨S2048x4x1024, .f32⟩
  | .hbm, ⟨25, _⟩ => ⟨S2048x4x1024, .f32⟩
  | .hbm, ⟨26, _⟩ => ⟨S_, .f32⟩
  | .hbm, ⟨27, _⟩ => ⟨S2048x4x1024, .f32⟩
  | .hbm, ⟨28, _⟩ => ⟨S2048x4x1024, .f32⟩
  | .hbm, ⟨29, _⟩ => ⟨S2048x4x1024, .f32⟩
  | .hbm, ⟨30, _⟩ => ⟨S_, .f32⟩
  | .hbm, ⟨31, _⟩ => ⟨S2048x1024, .f32⟩
  | .hbm, ⟨32, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Bu.lean ====
abbrev S2048x10368 : Shape := ⟨2, ![2048, 10368]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x10368, .f32⟩
  | .hbm, ⟨1, _⟩ => ⟨S512x2048, .bf16⟩
  | .hbm, ⟨2, _⟩ => ⟨S2048x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c16_i32 : BitVec 32 := 16#32
  let c0_i32_0 : BitVec 32 := 0#32
  ![v0.toNat, c16_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BuRefIdeal.lean ====
abbrev S2048x10368 : Shape := ⟨2, ![2048, 10368]⟩
abbrev S512x2048 : Shape := ⟨2, ![512, 2048]⟩
abbrev S2048x512 : Shape := ⟨2, ![2048, 512]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== S5y.lean ====
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x512, .bf16⟩
  | .hbm, ⟨3, _⟩ => ⟨S2048x512, .bf16⟩
  | .hbm, ⟨4, _⟩ => ⟨S2048x512, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S512x2048, .f32⟩
  | .local _ .vmem, ⟨4, _⟩ => ⟨S512x2048, .f32⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== S5yRefIdeal.lean ====
abbrev S2048x2048 : Shape := ⟨2, ![2048, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x512, .bf16⟩
  | .hbm, ⟨3, _⟩ => ⟨S2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DsRe.lean ====
abbrev S2048x512 : Shape := ⟨2, ![2048, 512]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsReRefIdeal.lean ====
abbrev S2048x512 : Shape := ⟨2, ![2048, 512]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S_, .f32⟩
  | .hbm, ⟨3, _⟩ => ⟨S2048x2048, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DsIm.lean ====
abbrev S2048x512 : Shape := ⟨2, ![2048, 512]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DsImRefIdeal.lean ====
abbrev S2048x512 : Shape := ⟨2, ![2048, 512]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x2048, .f32⟩
  | .hbm, ⟨9, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DcRe.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DcReRefIdeal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DcIm.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S512x512, .f32⟩
  | .local _ .vmem, ⟨4, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DcImRefIdeal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .bf16⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S2048x512, .f32⟩
  | .hbm, ⟨9, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BuDx.lean ====
abbrev S2048x2048 : Shape := ⟨2, ![2048, 2048]⟩
abbrev S512x2048 : Shape := ⟨2, ![512, 2048]⟩
abbrev S2048x512 : Shape := ⟨2, ![2048, 512]⟩
abbrev S2048x10240 : Shape := ⟨2, ![2048, 10240]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S512x2048, .bf16⟩
  | .hbm, ⟨3, _⟩ => ⟨S512x2048, .bf16⟩
  | .hbm, ⟨4, _⟩ => ⟨S2048x512, .f32⟩
  | .hbm, ⟨5, _⟩ => ⟨S2048x10240, .bf16⟩
  | .hbm, ⟨6, _⟩ => ⟨S2048x10240, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BuDxRefIdeal.lean ====
abbrev S2048x2048 : Shape := ⟨2, ![2048, 2048]⟩
abbrev S512x2048 : Shape := ⟨2, ![512, 2048]⟩
abbrev S2048x512 : Shape := ⟨2, ![2048, 512]⟩
abbrev S2048x10240 : Shape := ⟨2, ![2048, 10240]⟩
abbrev S_ : Shape := ⟨0, ![]⟩
abbrev S2048x8192 : Shape := ⟨2, ![2048, 8192]⟩
abbrev S2048x1536 : Shape := ⟨2, ![2048, 1536]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S512x2048, .bf16⟩
  | .hbm, ⟨3, _⟩ => ⟨S512x2048, .bf16⟩
  | .hbm, ⟨4, _⟩ => ⟨S2048x512, .f32⟩
  | .hbm, ⟨5, _⟩ => ⟨S2048x10240, .bf16⟩
  | .hbm, ⟨6, _⟩ => ⟨S_, .f32⟩
  | .hbm, ⟨7, _⟩ => ⟨S2048x512, .f32⟩
  | .hbm, ⟨8, _⟩ => ⟨S512x2048, .f32⟩
  | .hbm, ⟨9, _⟩ => ⟨S2048x2048, .f32⟩
  | .hbm, ⟨10, _⟩ => ⟨S512x2048, .f32⟩
  | .hbm, ⟨11, _⟩ => ⟨S2048x2048, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x8192, .bf16⟩
  | .hbm, ⟨17, _⟩ => ⟨S2048x512, .bf16⟩
  | .hbm, ⟨18, _⟩ => ⟨S2048x1536, .bf16⟩
  | .hbm, ⟨19, _⟩ => ⟨S2048x10240, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== BuDw.lean ====
abbrev S2048x10368 : Shape := ⟨2, ![2048, 10368]⟩
abbrev S2048x2048 : Shape := ⟨2, ![2048, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x10368, .f32⟩
  | .hbm, ⟨1, _⟩ => ⟨S2048x2048, .f32⟩
  | .hbm, ⟨2, _⟩ => ⟨S512x2048, .f32⟩
  | .local _ .vmem, ⟨0, _⟩ => ⟨S2048x512, .f32⟩
  | .local _ .vmem, ⟨1, _⟩ => ⟨S2048x1024, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BuDwRefIdeal.lean ====
abbrev S2048x10368 : Shape := ⟨2, ![2048, 10368]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S2048x2048, .f32⟩
  | .hbm, ⟨2, _⟩ => ⟨S_, .f32⟩
  | .hbm, ⟨3, _⟩ => ⟨S512x2048, .f32⟩
  | .hbm, ⟨4, _⟩ => ⟨S2048x512, .f32⟩
  | .hbm, ⟨5, _⟩ => ⟨S2048x2048, .f32⟩
  | .hbm, ⟨6, _⟩ => ⟨S2048x512, .f32⟩
  | .hbm, ⟨7, _⟩ => ⟨S512x2048, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Sc.lean ====
abbrev S2048x10368 : Shape := ⟨2, ![2048, 10368]⟩
abbrev S3x512 : Shape := ⟨2, ![3, 512]⟩
abbrev S2048x512 : Shape := ⟨2, ![2048, 512]⟩
abbrev S2048x128 : Shape := ⟨2, ![2048, 128]⟩
abbrev S3x128 : Shape := ⟨2, ![3, 128]⟩
abbrev S128 : Shape := ⟨1, ![128]⟩
abbrev S1x128 : Shape := ⟨2, ![1, 128]⟩

abbrev nBuf : Space → Nat
  | .hbm => 3
  | .vmem => 12
  | .smem => 0
  | _ => 0

abbrev bufTy : (tb : Table) → Fin (tcTables nBuf tb) → BufTy
  | .hbm, ⟨0, _⟩ => ⟨S2048x10368, .f32⟩
  | .hbm, ⟨1, _⟩ => ⟨S3x512, .f32⟩
  | .hbm, ⟨2, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S2048x128, .f32⟩
  | .local _ .vmem, ⟨11, _⟩ => ⟨S2048x128, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c32_i32 : BitVec 32 := 32#32
  let v1 : BitVec 32 := Scalar.addi c32_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c33_i32 : BitVec 32 := 33#32
  let v1 : BitVec 32 := Scalar.addi c33_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c34_i32 : BitVec 32 := 34#32
  let v1 : BitVec 32 := Scalar.addi c34_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c35_i32 : BitVec 32 := 35#32
  let v1 : BitVec 32 := Scalar.addi c35_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScRefIdeal.lean ====
abbrev S2048x10368 : Shape := ⟨2, ![2048, 10368]⟩
abbrev S3x512 : Shape := ⟨2, ![3, 512]⟩
abbrev S2048x2048 : Shape := ⟨2, ![2048, 2048]⟩
abbrev S2048x4x4x128 : Shape := ⟨4, ![2048, 4, 4, 128]⟩
abbrev S2048x4x1x128 : Shape := ⟨4, ![2048, 4, 1, 128]⟩
abbrev S2048x4x128 : Shape := ⟨3, ![2048, 4, 128]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩

abbrev nBuf : Space → Nat
  | .hbm => 48
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S3x512, .f32⟩
  | .hbm, ⟨2, _⟩ => ⟨S2048x2048, .f32⟩
  | .hbm, ⟨3, _⟩ => ⟨S2048x4x4x128, .f32⟩
  | .hbm, ⟨4, _⟩ => ⟨S2048x4x1x128, .f32⟩
  | .hbm, ⟨5, _⟩ => ⟨S2048x4x128, .f32⟩
  | .hbm, ⟨6, _⟩ => ⟨S2048x512, .f32⟩
  | .hbm, ⟨7, _⟩ => ⟨S2048x4x1x128, .f32⟩
  | .hbm, ⟨8, _⟩ => ⟨S2048x4x128, .f32⟩
  | .hbm, ⟨9, _⟩ => ⟨S2048x512, .f32⟩
  | .hbm, ⟨10, _⟩ => ⟨S2048x4x1x128, .f32⟩
  | .hbm, ⟨11, _⟩ => ⟨S2048x4x128, .f32⟩
  | .hbm, ⟨12, _⟩ => ⟨S2048x512, .f32⟩
  | .hbm, ⟨13, _⟩ => ⟨S2048x4x1x128, .f32⟩
  | .hbm, ⟨14, _⟩ => ⟨S2048x4x128, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2x512, .f32⟩
  | .hbm, ⟨19, _⟩ => ⟨S2050x512, .f32⟩
  | .hbm, ⟨20, _⟩ => ⟨S1x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== ScB.lean ====
abbrev S2048x10368 : Shape := ⟨2, ![2048, 10368]⟩
abbrev S3x512 : Shape := ⟨2, ![3, 512]⟩
abbrev S2048x512 : Shape := ⟨2, ![2048, 512]⟩
abbrev S2048x10240 : Shape := ⟨2, ![2048, 10240]⟩
abbrev S2048x128 : Shape := ⟨2, ![2048, 128]⟩
abbrev S3x128 : Shape := ⟨2, ![3, 128]⟩
abbrev S128 : Shape := ⟨1, ![128]⟩
abbrev S1x128 : Shape := ⟨2, ![1, 128]⟩

abbrev nBuf : Space → Nat
  | .hbm => 6
  | .vmem => 16
  | .smem => 0
  | _ => 0

abbrev bufTy : (tb : Table) → Fin (tcTables nBuf tb) → BufTy
  | .hbm, ⟨0, _⟩ => ⟨S2048x10368, .f32⟩
  | .hbm, ⟨1, _⟩ => ⟨S3x512, .f32⟩
  | .hbm, ⟨2, _⟩ => ⟨S2048x512, .f32⟩
  | .hbm, ⟨3, _⟩ => ⟨S2048x10240, .bf16⟩
  | .hbm, ⟨4, _⟩ => ⟨S2048x10240, .bf16⟩
  | .hbm, ⟨5, _⟩ => ⟨S3x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S2048x128, .f32⟩
  | .local _ .vmem, ⟨11, _⟩ => ⟨S2048x128, .f32⟩
  | .local _ .vmem, ⟨12, _⟩ => ⟨S2048x512, .bf16⟩
  | .local _ .vmem, ⟨13, _⟩ => ⟨S2048x512, .bf16⟩
  | .local _ .vmem, ⟨14, _⟩ => ⟨S3x128, .f32⟩
  | .local _ .vmem, ⟨15, _⟩ => ⟨S3x128, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c32_i32 : BitVec 32 := 32#32
  let v1 : BitVec 32 := Scalar.addi c32_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c33_i32 : BitVec 32 := 33#32
  let v1 : BitVec 32 := Scalar.addi c33_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c34_i32 : BitVec 32 := 34#32
  let v1 : BitVec 32 := Scalar.addi c34_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c35_i32 : BitVec 32 := 35#32
  let v1 : BitVec 32 := Scalar.addi c35_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScBRefIdeal.lean ====
abbrev S2048x10368 : Shape := ⟨2, ![2048, 10368]⟩
abbrev S3x512 : Shape := ⟨2, ![3, 512]⟩
abbrev S2048x512 : Shape := ⟨2, ![2048, 512]⟩
abbrev S2048x10240 : Shape := ⟨2, ![2048, 10240]⟩
abbrev S2048x2048 : Shape := ⟨2, ![2048, 2048]⟩
abbrev S2048x4x4x128 : Shape := ⟨4, ![2048, 4, 4, 128]⟩
abbrev S2048x4x1x128 : Shape := ⟨4, ![2048, 4, 1, 128]⟩
abbrev S2048x4x128 : Shape := ⟨3, ![2048, 4, 128]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S2048x4096 : Shape := ⟨2, ![2048, 4096]⟩

abbrev nBuf : Space → Nat
  | .hbm => 116
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S3x512, .f32⟩
  | .hbm, ⟨2, _⟩ => ⟨S2048x512, .f32⟩
  | .hbm, ⟨3, _⟩ => ⟨S2048x10240, .bf16⟩
  | .hbm, ⟨4, _⟩ => ⟨S2048x2048, .f32⟩
  | .hbm, ⟨5, _⟩ => ⟨S2048x4x4x128, .f32⟩
  | .hbm, ⟨6, _⟩ => ⟨S2048x4x1x128, .f32⟩
  | .hbm, ⟨7, _⟩ => ⟨S2048x4x128, .f32⟩
  | .hbm, ⟨8, _⟩ => ⟨S2048x512, .f32⟩
  | .hbm, ⟨9, _⟩ => ⟨S2048x4x1x128, .f32⟩
  | .hbm, ⟨10, _⟩ => ⟨S2048x4x128, .f32⟩
  | .hbm, ⟨11, _⟩ => ⟨S2048x512, .f32⟩
  | .hbm, ⟨12, _⟩ => ⟨S2048x4x1x128, .f32⟩
  | .hbm, ⟨13, _⟩ => ⟨S2048x4x128, .f32⟩
  | .hbm, ⟨14, _⟩ => ⟨S2048x512, .f32⟩
  | .hbm, ⟨15, _⟩ => ⟨S2048x4x1x128, .f32⟩
  | .hbm, ⟨16, _⟩ => ⟨S2048x4x128, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2x512, .f32⟩
  | .hbm, ⟨21, _⟩ => ⟨S2050x512, .f32⟩
  | .hbm, ⟨22, _⟩ => ⟨S_, .f32⟩
  | .hbm, ⟨23, _⟩ => ⟨S2x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S2050x512, .f32⟩
  | .hbm, ⟨72, _⟩ => ⟨S_, .f32⟩
  | .hbm, ⟨73, _⟩ => ⟨S3x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S_, .f32⟩
  | .hbm, ⟨81, _⟩ => ⟨S2050x512, .f32⟩
  | .hbm, ⟨82, _⟩ => ⟨S2050x512, .f32⟩
  | .hbm, ⟨83, _⟩ => ⟨S_, .f32⟩
  | .hbm, ⟨84, _⟩ => ⟨S3x512, .f32⟩
  | .hbm, ⟨85, _⟩ => ⟨S3x512, .f32⟩
  | .hbm, ⟨86, _⟩ => ⟨S2048x512, .f32⟩
  | .hbm, ⟨87, _⟩ => ⟨S2048x512, .f32⟩
  | .hbm, ⟨88, _⟩ => ⟨S2048x512, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S_, .f32⟩
  | .hbm, ⟨93, _⟩ => ⟨S2050x512, .f32⟩
  | .hbm, ⟨94, _⟩ => ⟨S2050x512, .f32⟩
  | .hbm, ⟨95, _⟩ => ⟨S_, .f32⟩
  | .hbm, ⟨96, _⟩ => ⟨S3x512, .f32⟩
  | .hbm, ⟨97, _⟩ => ⟨S3x512, .f32⟩
  | .hbm, ⟨98, _⟩ => ⟨S2x512, .f32⟩
  | .hbm, ⟨99, _⟩ => ⟨S2048x512, .f32⟩
  | .hbm, ⟨100, _⟩ => ⟨S2048x512, .f32⟩
  | .hbm, ⟨101, _⟩ => ⟨S2048x512, .f32⟩
  | .hbm, ⟨102, _⟩ => ⟨S2048x4x128, .f32⟩
  | .hbm, ⟨103, _⟩ => ⟨S2048x4x128, .f32⟩
  | .hbm, ⟨104, _⟩ => ⟨S2048x4x128, .f32⟩
  | .hbm, ⟨105, _⟩ => ⟨S2048x4x128, .f32⟩
  | .hbm, ⟨106, _⟩ => ⟨S2048x4x1x128, .f32⟩
  | .hbm, ⟨107, _⟩ => ⟨S2048x4x1x128, .f32⟩
  | .hbm, ⟨108, _⟩ => ⟨S2048x4x1x128, .f32⟩
  | .hbm, ⟨109, _⟩ => ⟨S2048x4x1x128, .f32⟩
  | .hbm, ⟨110, _⟩ => ⟨S2048x4x4x128, .f32⟩
  | .hbm, ⟨111, _⟩ => ⟨S2048x2048, .f32⟩
  | .hbm, ⟨112, _⟩ => ⟨S2048x4096, .bf16⟩
  | .hbm, ⟨113, _⟩ => ⟨S2048x2048, .bf16⟩
  | .hbm, ⟨114, _⟩ => ⟨S2048x4096, .bf16⟩
  | .hbm, ⟨115, _⟩ => ⟨S2048x10240, .bf16⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_2 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== M2c.lean ====
abbrev S2048x10368 : Shape := ⟨2, ![2048, 10368]⟩
abbrev S4x1024 : Shape := ⟨2, ![4, 1024]⟩
abbrev S1024 : Shape := ⟨1, ![1024]⟩
abbrev S1x1024 : Shape := ⟨2, ![1, 1024]⟩
abbrev S2048x1024 : Shape := ⟨2, ![2048, 1024]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S2048x10368, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.muli c1_i32 arg0
  let c72_i32 : BitVec 32 := 72#32
  let v1 : BitVec 32 := Scalar.addi c72_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== M2cRefIdeal.lean ====
abbrev S2048x10368 : Shape := ⟨2, ![2048, 10368]⟩
abbrev S4x1024 : Shape := ⟨2, ![4, 1024]⟩
abbrev S1024 : Shape := ⟨1, ![1024]⟩
abbrev S2048x1024 : Shape := ⟨2, ![2048, 1024]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S4x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S3x1024, .f32⟩
  | .hbm, ⟨6, _⟩ => ⟨S2051x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== M2cB.lean ====
abbrev S2048x10368 : Shape := ⟨2, ![2048, 10368]⟩
abbrev S4x1024 : Shape := ⟨2, ![4, 1024]⟩
abbrev S1024 : Shape := ⟨1, ![1024]⟩
abbrev S2048x1024 : Shape := ⟨2, ![2048, 1024]⟩
abbrev S2048x10240 : Shape := ⟨2, ![2048, 10240]⟩
abbrev S1x1024 : Shape := ⟨2, ![1, 1024]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S2048x10368, .f32⟩
  | .hbm, ⟨1, _⟩ => ⟨S4x1024, .f32⟩
  | .hbm, ⟨2, _⟩ => ⟨S1024, .f32⟩
  | .hbm, ⟨3, _⟩ => ⟨S2048x1024, .f32⟩
  | .hbm, ⟨4, _⟩ => ⟨S2048x10240, .bf16⟩
  | .hbm, ⟨5, _⟩ => ⟨S1x1024, .f32⟩
  | .hbm, ⟨6, _⟩ => ⟨S2048x10240, .bf16⟩
  | .hbm, ⟨7, _⟩ => ⟨S4x1024, .f32⟩
  | .hbm, ⟨8, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.muli c1_i32 arg0
  let c72_i32 : BitVec 32 := 72#32
  let v1 : BitVec 32 := Scalar.addi c72_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== M2cBRefIdeal.lean ====
abbrev S2048x10368 : Shape := ⟨2, ![2048, 10368]⟩
abbrev S4x1024 : Shape := ⟨2, ![4, 1024]⟩
abbrev S1024 : Shape := ⟨1, ![1024]⟩
abbrev S2048x1024 : Shape := ⟨2, ![2048, 1024]⟩
abbrev S2048x10240 : Shape := ⟨2, ![2048, 10240]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S2048x9216 : Shape := ⟨2, ![2048, 9216]⟩
abbrev S2048x0 : Shape := ⟨2, ![2048, 0]⟩

abbrev nBuf : Space → Nat
  | .hbm => 95
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S4x1024, .f32⟩
  | .hbm, ⟨2, _⟩ => ⟨S1024, .f32⟩
  | .hbm, ⟨3, _⟩ => ⟨S2048x1024, .f32⟩
  | .hbm, ⟨4, _⟩ => ⟨S2048x10240, .bf16⟩
  | .hbm, ⟨5, _⟩ => ⟨S2048x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S2051x1024, .f32⟩
  | .hbm, ⟨50, _⟩ => ⟨S_, .f32⟩
  | .hbm, ⟨51, _⟩ => ⟨S4x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S2051x1024, .f32⟩
  | .hbm, ⟨60, _⟩ => ⟨S2051x1024, .f32⟩
  | .hbm, ⟨61, _⟩ => ⟨S_, .f32⟩
  | .hbm, ⟨62, _⟩ => ⟨S4x1024, .f32⟩
  | .hbm, ⟨63, _⟩ => ⟨S4x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S2051x1024, .f32⟩
  | .hbm, ⟨72, _⟩ => ⟨S2051x1024, .f32⟩
  | .hbm, ⟨73, _⟩ => ⟨S_, .f32⟩
  | .hbm, ⟨74, _⟩ => ⟨S4x1024, .f32⟩
  | .hbm, ⟨75, _⟩ => ⟨S4x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S2051x1024, .f32⟩
  | .hbm, ⟨84, _⟩ => ⟨S2051x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S3x1024, .f32⟩
  | .hbm, ⟨89, _⟩ => ⟨S2048x1024, .f32⟩
  | .hbm, ⟨90, _⟩ => ⟨S2048x9216, .bf16⟩
  | .hbm, ⟨91, _⟩ => ⟨S2048x1024, .bf16⟩
  | .hbm, ⟨92, _⟩ => ⟨S2048x0, .bf16⟩
  | .hbm, ⟨93, _⟩ => ⟨S2048x10240, .bf16⟩
  | .hbm, ⟨94, _⟩ => ⟨S1x1024, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Act.lean ====
abbrev S2048x512 : Shape := ⟨2, ![2048, 512]⟩
abbrev S2048x10368 : Shape := ⟨2, ![2048, 10368]⟩
abbrev S512 : Shape := ⟨1, ![512]⟩
abbrev S512x512 : Shape := ⟨2, ![512, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x10368, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ActRefIdeal.lean ====
abbrev S2048x512 : Shape := ⟨2, ![2048, 512]⟩
abbrev S2048x10368 : Shape := ⟨2, ![2048, 10368]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x10368, .f32⟩
  | .hbm, ⟨2, _⟩ => ⟨S512, .f32⟩
  | .hbm, ⟨3, _⟩ => ⟨S512x512, .bf16⟩
  | .hbm, ⟨4, _⟩ => ⟨S2048x512, .f32⟩
  | .hbm, ⟨5, _⟩ => ⟨S2048x512, .f32⟩
  | .hbm, ⟨6, _⟩ => ⟨S512x512, .f32⟩
  | .hbm, ⟨7, _⟩ => ⟨S1x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Sgu.lean ====
abbrev S2048x10368 : Shape := ⟨2, ![2048, 10368]⟩
abbrev S512 : Shape := ⟨1, ![512]⟩
abbrev S8x128x128 : Shape := ⟨3, ![8, 128, 128]⟩
abbrev S8x128 : Shape := ⟨2, ![8, 128]⟩
abbrev S1x512 : Shape := ⟨2, ![1, 512]⟩
abbrev S_ : Shape := ⟨0, ![]⟩
abbrev S128x128 : Shape := ⟨2, ![128, 128]⟩
abbrev S2048x512 : Shape := ⟨2, ![2048, 512]⟩
abbrev S128x512 : Shape := ⟨2, ![128, 512]⟩
abbrev S1x128x128 : Shape := ⟨3, ![1, 128, 128]⟩
abbrev S128 : Shape := ⟨1, ![128]⟩
abbrev S128x1 : Shape := ⟨2, ![128, 1]⟩

abbrev nBuf : Space → Nat
  | .hbm => 11
  | .vmem => 19
  | .smem => 0
  | _ => 0

abbrev bufTy : (tb : Table) → Fin (tcTables nBuf tb) → BufTy
  | .hbm, ⟨0, _⟩ => ⟨S2048x10368, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S1x512, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S128x128, .f32⟩
  | .local _ .vmem, ⟨17, _⟩ => ⟨S128x512, .f32⟩
  | .local _ .vmem, ⟨18, _⟩ => ⟨S128x512, .f32⟩
  | _, _ => ⟨S2048x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_10 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_11 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_12 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SguRefIdeal.lean ====
abbrev S2048x10368 : Shape := ⟨2, ![2048, 10368]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x8x64 : Shape := ⟨4, ![16, 128, 8, 64]⟩
abbrev S128x128 : Shape := ⟨2, ![128, 128]⟩
abbrev S8x16x64x128 : Shape := ⟨4, ![8, 16, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S2048x10368, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x512, .f32⟩
  | .hbm, ⟨64, _⟩ => ⟨S2048x512, .f32⟩
  | .hbm, ⟨65, _⟩ => ⟨S1x512, .f32⟩
  | .hbm, ⟨66, _⟩ => ⟨S2048x512, .f32⟩
  | .hbm, ⟨67, _⟩ => ⟨S2048x512, .f32⟩
  | .hbm, ⟨68, _⟩ => ⟨S1x512, .f32⟩
  | .hbm, ⟨69, _⟩ => ⟨S2048x512, .f32⟩
  | .hbm, ⟨70, _⟩ => ⟨S2048x512, .f32⟩
  | .hbm, ⟨71, _⟩ => ⟨S16x128x8x64, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S_, .f32⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S8x16x64x128, .f32⟩
  | .hbm, ⟨89, _⟩ => ⟨S16x128x8x64, .f32⟩
  | .hbm, ⟨90, _⟩ => ⟨S128x8, .f32⟩
  | .hbm, ⟨91, _⟩ => ⟨S128x8x1, .f32⟩
  | .hbm, ⟨92, _⟩ => ⟨S1x128x8x1, .f32⟩
  | .hbm, ⟨93, _⟩ => ⟨S16x128x8x64, .f32⟩
  | .hbm, ⟨94, _⟩ => ⟨S16x128x8x64, .f32⟩
  | .hbm, ⟨95, _⟩ => ⟨S2048x512, .f32⟩
  | .hbm, ⟨96, _⟩ => ⟨S2048x512, .f32⟩
  | .hbm, ⟨97, _⟩ => ⟨S2048x512, .f32⟩
  | .hbm, ⟨98, _⟩ => ⟨S2048x512, .f32⟩
  | .hbm, ⟨99, _⟩ => ⟨S_, .f32⟩
  | .hbm, ⟨100, _⟩ => ⟨S2048x512, .f32⟩
  | .hbm, ⟨101, _⟩ => ⟨S2048x512, .f32⟩
  | .hbm, ⟨102, _⟩ => ⟨S_, .f32⟩
  | .hbm, ⟨103, _⟩ => ⟨S2048x512, .f32⟩
  | .hbm, ⟨104, _⟩ => ⟨S2048x512, .f32⟩
  | .hbm, ⟨105, _⟩ => ⟨S2048x512, .f32⟩
  | .hbm, ⟨106, _⟩ => ⟨S2048x512, .f32⟩
  | _, _ => ⟨S2048x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v66 : Ref sig .tc := ⟨.hbm, 105, rfl⟩
abbrev main_v67 : Ref sig .tc := ⟨.hbm, 106, rfl⟩

abbrev nD : Nat := 1
abbrev τ : Topo := Topo.v7x

variable {F : FTy → Type} [FloatOps F]
-- ==== Rms.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsB.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32_17 : BitVec 32 := 0#32
  let v43 : BitVec 1 := Scalar.cmpi .sgt arg0 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x128, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_23 : BitVec 32 := 0#32
  let v70 : BitVec 1 := Scalar.cmpi .ne v69 c0_i32_23
  v70

def k0_cond2 (i : grid0.Coords) : BitVec 1 :=
  let arg0 : BitVec 32 := BitVec.ofNat 32 (i 0).val
  let c0_i32_24 : BitVec 32 := 0#32
  let v71 : BitVec 1 := Scalar.cmpi .sgt arg0 c0_i32_24
  let v72 : BitVec 32 := Scalar.extui v71
  let c0_i32_25 : BitVec 32 := 0#32
  let v73 : BitVec 1 := Scalar.cmpi .ne v72 c0_i32_25
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AWin.lean ====
abbrev S2562x2x1024 : Shape := ⟨3, ![2562, 2, 1024]⟩
abbrev S183x2x1024 : Shape := ⟨3, ![183, 2, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2562x2x1024, .f32⟩
  | .hbm, ⟨1, _⟩ => ⟨S2562x2x1024, .f32⟩
  | .hbm, ⟨2, _⟩ => ⟨S2562x2x1024, .f32⟩
  | .hbm, ⟨3, _⟩ => ⟨S2562x2x1024, .f32⟩
  | .hbm, ⟨4, _⟩ => ⟨S2562x2x1024, .f32⟩
  | .hbm, ⟨5, _⟩ => ⟨S2562x2x1024, .f32⟩
  | .hbm, ⟨6, _⟩ => ⟨S2562x2x1024, .f32⟩
  | .local _ .vmem, ⟨0, _⟩ => ⟨S183x2x1024, .f32⟩
  | .local _ .vmem, ⟨1, _⟩ => ⟨S183x2x1024, .f32⟩
  | .local _ .vmem, ⟨2, _⟩ => ⟨S183x2x1024, .f32⟩
  | .local _ .vmem, ⟨3, _⟩ => ⟨S183x2x1024, .f32⟩
  | .local _ .vmem, ⟨4, _⟩ => ⟨S183x2x1024, .f32⟩
  | .local _ .vmem, ⟨5, _⟩ => ⟨S183x2x1024, .f32⟩
  | .local _ .vmem, ⟨6, _⟩ => ⟨S183x2x1024, .f32⟩
  | .local _ .vmem, ⟨7, _⟩ => ⟨S183x2x1024, .f32⟩
  | .local _ .vmem, ⟨8, _⟩ => ⟨S183x2x1024, .f32⟩
  | .local _ .vmem, ⟨9, _⟩ => ⟨S183x2x1024, .f32⟩
  | .local _ .vmem, ⟨10, _⟩ => ⟨S183x2x1024, .f32⟩
  | .local _ .vmem, ⟨11, _⟩ => ⟨S183x2x1024, .f32⟩
  | .local _ .vmem, ⟨12, _⟩ => ⟨S183x2x1024, .f32⟩
  | .local _ .vmem, ⟨13, _⟩ => ⟨S183x2x1024, .f32⟩
  | _, _ => ⟨S2562x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S183x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S183x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S183x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S183x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S183x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S183x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S183x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWinRefIdeal.lean ====
abbrev S2562x2x1024 : Shape := ⟨3, ![2562, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2562x2x1024, .f32⟩
  | .hbm, ⟨1, _⟩ => ⟨S2562x2x1024, .f32⟩
  | .hbm, ⟨2, _⟩ => ⟨S2562x2x1024, .f32⟩
  | .hbm, ⟨3, _⟩ => ⟨S2562x2x1024, .f32⟩
  | .hbm, ⟨4, _⟩ => ⟨S_, .f32⟩
  | .hbm, ⟨5, _⟩ => ⟨S2562x2x1024, .f32⟩
  | .hbm, ⟨6, _⟩ => ⟨S2562x2x1024, .f32⟩
  | .hbm, ⟨7, _⟩ => ⟨S_, .f32⟩
  | .hbm, ⟨8, _⟩ => ⟨S2562x2x1024, .f32⟩
  | .hbm, ⟨9, _⟩ => ⟨S2562x2x1024, .f32⟩
  | .hbm, ⟨10, _⟩ => ⟨S2562x2x1024, .f32⟩
  | .hbm, ⟨11, _⟩ => ⟨S_, .f32⟩
  | .hbm, ⟨12, _⟩ => ⟨S2562x2x1024, .f32⟩
  | .hbm, ⟨13, _⟩ => ⟨S2562x2x1024, .f32⟩
  | .hbm, ⟨14, _⟩ => ⟨S2562x2x1024, .f32⟩
  | .hbm, ⟨15, _⟩ => ⟨S_, .f32⟩
  | .hbm, ⟨16, _⟩ => ⟨S2562x2x1024, .f32⟩
  | .hbm, ⟨17, _⟩ => ⟨S2562x2x1024, .f32⟩
  | .hbm, ⟨18, _⟩ => ⟨S2562x2x1024, .f32⟩
  | .hbm, ⟨19, _⟩ => ⟨S_, .f32⟩
  | .hbm, ⟨20, _⟩ => ⟨S2562x2x1024, .f32⟩
  | .hbm, ⟨21, _⟩ => ⟨S2562x2x1024, .f32⟩
  | .hbm, ⟨22, _⟩ => ⟨S_, .f32⟩
  | .hbm, ⟨23, _⟩ => ⟨S2562x2x1024, .f32⟩
  | .hbm, ⟨24, _⟩ => ⟨S2562x2x1024, .f32⟩
  | .hbm, ⟨25, _⟩ => ⟨S2562x2x1024, .f32⟩
  | .hbm, ⟨26, _⟩ => ⟨S_, .f32⟩
  | .hbm, ⟨27, _⟩ => ⟨S2562x2x1024, .f32⟩
  | .hbm, ⟨28, _⟩ => ⟨S2562x2x1024, .f32⟩
  | .hbm, ⟨29, _⟩ => ⟨S2562x2x1024, .f32⟩
  | .hbm, ⟨30, _⟩ => ⟨S_, .f32⟩
  | .hbm, ⟨31, _⟩ => ⟨S2562x2x1024, .f32⟩
  | .hbm, ⟨32, _⟩ => ⟨S2562x2x1024, .f32⟩
  | .hbm, ⟨33, _⟩ => ⟨S2562x2x1024, .f32⟩
  | .hbm, ⟨34, _⟩ => ⟨S_, .f32⟩
  | .hbm, ⟨35, _⟩ => ⟨S2562x2x1024, .f32⟩
  | .hbm, ⟨36, _⟩ => ⟨S2562x2x1024, .f32⟩
  | _, _ => ⟨S2562x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AWbr.lean ====
abbrev S4096x256 : Shape := ⟨2, ![4096, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWbrIdeal.lean ====
abbrev S4096x256 : Shape := ⟨2, ![4096, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWbrRefIdeal.lean ====
abbrev S4096x256 : Shape := ⟨2, ![4096, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AWout.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AWoutIdeal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AWoutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AWglu.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AWgluIdeal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AWgluRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AWs5b.lean ====
abbrev S1024x64 : Shape := ⟨2, ![1024, 64]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AWs5bRefIdeal.lean ====
abbrev S1024x64 : Shape := ⟨2, ![1024, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S_, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x64, .f32⟩
  | .hbm, ⟨22, _⟩ => ⟨S_, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ARestA.lean ====
abbrev S2x1024 : Shape := ⟨2, ![2, 1024]⟩
abbrev S2x32x64 : Shape := ⟨3, ![2, 32, 64]⟩
abbrev S2x32x16x64 : Shape := ⟨4, ![2, 32, 16, 64]⟩

abbrev nBuf : Space → Nat
  | .hbm => 28
  | .vmem => 28
  | .smem => 0
  | _ => 0

abbrev bufTy : (tb : Table) → Fin (tcTables nBuf tb) → BufTy
  | .hbm, ⟨0, _⟩ => ⟨S2x1024, .f32⟩
  | .hbm, ⟨1, _⟩ => ⟨S2x32x64, .f32⟩
  | .hbm, ⟨2, _⟩ => ⟨S2x32x64, .f32⟩
  | .hbm, ⟨3, _⟩ => ⟨S2x32x16x64, .f32⟩
  | .hbm, ⟨4, _⟩ => ⟨S2x1024, .f32⟩
  | .hbm, ⟨5, _⟩ => ⟨S2x32x64, .f32⟩
  | .hbm, ⟨6, _⟩ => ⟨S2x32x64, .f32⟩
  | .hbm, ⟨7, _⟩ => ⟨S2x32x16x64, .f32⟩
  | .hbm, ⟨8, _⟩ => ⟨S2x1024, .f32⟩
  | .hbm, ⟨9, _⟩ => ⟨S2x32x64, .f32⟩
  | .hbm, ⟨10, _⟩ => ⟨S2x32x64, .f32⟩
  | .hbm, ⟨11, _⟩ => ⟨S2x32x16x64, .f32⟩
  | .hbm, ⟨12, _⟩ => ⟨S2x1024, .f32⟩
  | .hbm, ⟨13, _⟩ => ⟨S2x32x64, .f32⟩
  | .hbm, ⟨14, _⟩ => ⟨S2x32x64, .f32⟩
  | .hbm, ⟨15, _⟩ => ⟨S2x32x16x64, .f32⟩
  | .hbm, ⟨16, _⟩ => ⟨S2x1024, .f32⟩
  | .hbm, ⟨17, _⟩ => ⟨S2x32x64, .f32⟩
  | .hbm, ⟨18, _⟩ => ⟨S2x32x64, .f32⟩
  | .hbm, ⟨19, _⟩ => ⟨S2x32x16x64, .f32⟩
  | .hbm, ⟨20, _⟩ => ⟨S2x1024, .f32⟩
  | .hbm, ⟨21, _⟩ => ⟨S2x32x64, .f32⟩
  | .hbm, ⟨22, _⟩ => ⟨S2x32x64, .f32⟩
  | .hbm, ⟨23, _⟩ => ⟨S2x32x16x64, .f32⟩
  | .hbm, ⟨24, _⟩ => ⟨S2x1024, .f32⟩
  | .hbm, ⟨25, _⟩ => ⟨S2x32x64, .f32⟩
  | .hbm, ⟨26, _⟩ => ⟨S2x32x64, .f32⟩
  | .hbm, ⟨27, _⟩ => ⟨S2x32x16x64, .f32⟩
  | .local _ .vmem, ⟨0, _⟩ => ⟨S2x1024, .f32⟩
  | .local _ .vmem, ⟨1, _⟩ => ⟨S2x32x64, .f32⟩
  | .local _ .vmem, ⟨2, _⟩ => ⟨S2x32x64, .f32⟩
  | .local _ .vmem, ⟨3, _⟩ => ⟨S2x32x16x64, .f32⟩
  | .local _ .vmem, ⟨4, _⟩ => ⟨S2x1024, .f32⟩
  | .local _ .vmem, ⟨5, _⟩ => ⟨S2x32x64, .f32⟩
  | .local _ .vmem, ⟨6, _⟩ => ⟨S2x32x64, .f32⟩
  | .local _ .vmem, ⟨7, _⟩ => ⟨S2x32x16x64, .f32⟩
  | .local _ .vmem, ⟨8, _⟩ => ⟨S2x1024, .f32⟩
  | .local _ .vmem, ⟨9, _⟩ => ⟨S2x32x64, .f32⟩
  | .local _ .vmem, ⟨10, _⟩ => ⟨S2x32x64, .f32⟩
  | .local _ .vmem, ⟨11, _⟩ => ⟨S2x32x16x64, .f32⟩
  | .local _ .vmem, ⟨12, _⟩ => ⟨S2x1024, .f32⟩
  | .local _ .vmem, ⟨13, _⟩ => ⟨S2x32x64, .f32⟩
  | .local _ .vmem, ⟨14, _⟩ => ⟨S2x32x64, .f32⟩
  | .local _ .vmem, ⟨15, _⟩ => ⟨S2x32x16x64, .f32⟩
  | .local _ .vmem, ⟨16, _⟩ => ⟨S2x1024, .f32⟩
  | .local _ .vmem, ⟨17, _⟩ => ⟨S2x32x64, .f32⟩
  | .local _ .vmem, ⟨18, _⟩ => ⟨S2x32x64, .f32⟩
  | .local _ .vmem, ⟨19, _⟩ => ⟨S2x32x16x64, .f32⟩
  | .local _ .vmem, ⟨20, _⟩ => ⟨S2x1024, .f32⟩
  | .local _ .vmem, ⟨21, _⟩ => ⟨S2x32x64, .f32⟩
  | .local _ .vmem, ⟨22, _⟩ => ⟨S2x32x64, .f32⟩
  | .local _ .vmem, ⟨23, _⟩ => ⟨S2x32x16x64, .f32⟩
  | .local _ .vmem, ⟨24, _⟩ => ⟨S2x1024, .f32⟩
  | .local _ .vmem, ⟨25, _⟩ => ⟨S2x32x64, .f32⟩
  | .local _ .vmem, ⟨26, _⟩ => ⟨S2x32x64, .f32⟩
  | .local _ .vmem, ⟨27, _⟩ => ⟨S2x32x16x64, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x32x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x32x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x32x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x32x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x32x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x32x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x32x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x32x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x32x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestAIdeal.lean ====
abbrev S2x1024 : Shape := ⟨2, ![2, 1024]⟩
abbrev S2x32x64 : Shape := ⟨3, ![2, 32, 64]⟩
abbrev S2x32x16x64 : Shape := ⟨4, ![2, 32, 16, 64]⟩

abbrev nBuf : Space → Nat
  | .hbm => 28
  | .vmem => 28
  | .smem => 0
  | _ => 0

abbrev bufTy : (tb : Table) → Fin (tcTables nBuf tb) → BufTy
  | .hbm, ⟨0, _⟩ => ⟨S2x1024, .f32⟩
  | .hbm, ⟨1, _⟩ => ⟨S2x32x64, .f32⟩
  | .hbm, ⟨2, _⟩ => ⟨S2x32x64, .f32⟩
  | .hbm, ⟨3, _⟩ => ⟨S2x32x16x64, .f32⟩
  | .hbm, ⟨4, _⟩ => ⟨S2x1024, .f32⟩
  | .hbm, ⟨5, _⟩ => ⟨S2x32x64, .f32⟩
  | .hbm, ⟨6, _⟩ => ⟨S2x32x64, .f32⟩
  | .hbm, ⟨7, _⟩ => ⟨S2x32x16x64, .f32⟩
  | .hbm, ⟨8, _⟩ => ⟨S2x1024, .f32⟩
  | .hbm, ⟨9, _⟩ => ⟨S2x32x64, .f32⟩
  | .hbm, ⟨10, _⟩ => ⟨S2x32x64, .f32⟩
  | .hbm, ⟨11, _⟩ => ⟨S2x32x16x64, .f32⟩
  | .hbm, ⟨12, _⟩ => ⟨S2x1024, .f32⟩
  | .hbm, ⟨13, _⟩ => ⟨S2x32x64, .f32⟩
  | .hbm, ⟨14, _⟩ => ⟨S2x32x64, .f32⟩
  | .hbm, ⟨15, _⟩ => ⟨S2x32x16x64, .f32⟩
  | .hbm, ⟨16, _⟩ => ⟨S2x1024, .f32⟩
  | .hbm, ⟨17, _⟩ => ⟨S2x32x64, .f32⟩
  | .hbm, ⟨18, _⟩ => ⟨S2x32x64, .f32⟩
  | .hbm, ⟨19, _⟩ => ⟨S2x32x16x64, .f32⟩
  | .hbm, ⟨20, _⟩ => ⟨S2x1024, .f32⟩
  | .hbm, ⟨21, _⟩ => ⟨S2x32x64, .f32⟩
  | .hbm, ⟨22, _⟩ => ⟨S2x32x64, .f32⟩
  | .hbm, ⟨23, _⟩ => ⟨S2x32x16x64, .f32⟩
  | .hbm, ⟨24, _⟩ => ⟨S2x1024, .f32⟩
  | .hbm, ⟨25, _⟩ => ⟨S2x32x64, .f32⟩
  | .hbm, ⟨26, _⟩ => ⟨S2x32x64, .f32⟩
  | .hbm, ⟨27, _⟩ => ⟨S2x32x16x64, .f32⟩
  | .local _ .vmem, ⟨0, _⟩ => ⟨S2x1024, .f32⟩
  | .local _ .vmem, ⟨1, _⟩ => ⟨S2x32x64, .f32⟩
  | .local _ .vmem, ⟨2, _⟩ => ⟨S2x32x64, .f32⟩
  | .local _ .vmem, ⟨3, _⟩ => ⟨S2x32x16x64, .f32⟩
  | .local _ .vmem, ⟨4, _⟩ => ⟨S2x1024, .f32⟩
  | .local _ .vmem, ⟨5, _⟩ => ⟨S2x32x64, .f32⟩
  | .local _ .vmem, ⟨6, _⟩ => ⟨S2x32x64, .f32⟩
  | .local _ .vmem, ⟨7, _⟩ => ⟨S2x32x16x64, .f32⟩
  | .local _ .vmem, ⟨8, _⟩ => ⟨S2x1024, .f32⟩
  | .local _ .vmem, ⟨9, _⟩ => ⟨S2x32x64, .f32⟩
  | .local _ .vmem, ⟨10, _⟩ => ⟨S2x32x64, .f32⟩
  | .local _ .vmem, ⟨11, _⟩ => ⟨S2x32x16x64, .f32⟩
  | .local _ .vmem, ⟨12, _⟩ => ⟨S2x1024, .f32⟩
  | .local _ .vmem, ⟨13, _⟩ => ⟨S2x32x64, .f32⟩
  | .local _ .vmem, ⟨14, _⟩ => ⟨S2x32x64, .f32⟩
  | .local _ .vmem, ⟨15, _⟩ => ⟨S2x32x16x64, .f32⟩
  | .local _ .vmem, ⟨16, _⟩ => ⟨S2x1024, .f32⟩
  | .local _ .vmem, ⟨17, _⟩ => ⟨S2x32x64, .f32⟩
  | .local _ .vmem, ⟨18, _⟩ => ⟨S2x32x64, .f32⟩
  | .local _ .vmem, ⟨19, _⟩ => ⟨S2x32x16x64, .f32⟩
  | .local _ .vmem, ⟨20, _⟩ => ⟨S2x1024, .f32⟩
  | .local _ .vmem, ⟨21, _⟩ => ⟨S2x32x64, .f32⟩
  | .local _ .vmem, ⟨22, _⟩ => ⟨S2x32x64, .f32⟩
  | .local _ .vmem, ⟨23, _⟩ => ⟨S2x32x16x64, .f32⟩
  | .local _ .vmem, ⟨24, _⟩ => ⟨S2x1024, .f32⟩
  | .local _ .vmem, ⟨25, _⟩ => ⟨S2x32x64, .f32⟩
  | .local _ .vmem, ⟨26, _⟩ => ⟨S2x32x64, .f32⟩
  | .local _ .vmem, ⟨27, _⟩ => ⟨S2x32x16x64, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x32x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x32x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x32x16x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x32x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x32x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x32x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x32x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x32x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x32x16x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestARefIdeal.lean ====
abbrev S2x1024 : Shape := ⟨2, ![2, 1024]⟩
abbrev S2x32x64 : Shape := ⟨3, ![2, 32, 64]⟩
abbrev S2x32x16x64 : Shape := ⟨4, ![2, 32, 16, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x1024, .f32⟩
  | 1 => ⟨S2x32x64, .f32⟩
  | 2 => ⟨S2x32x64, .f32⟩
  | 3 => ⟨S2x32x16x64, .f32⟩
  | 4 => ⟨S2x1024, .f32⟩
  | 5 => ⟨S2x32x64, .f32⟩
  | 6 => ⟨S2x32x64, .f32⟩
  | 7 => ⟨S2x32x16x64, .f32⟩
  | 8 => ⟨S2x1024, .f32⟩
  | 9 => ⟨S2x32x64, .f32⟩
  | 10 => ⟨S2x32x64, .f32⟩
  | 11 => ⟨S2x32x16x64, .f32⟩
  | 12 => ⟨S2x1024, .f32⟩
  | 13 => ⟨S2x32x64, .f32⟩
  | 14 => ⟨S2x32x64, .f32⟩
  | 15 => ⟨S2x32x16x64, .f32⟩
  | 16 => ⟨S_, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x32x64, .f32⟩
  | 51 => ⟨S2x32x64, .f32⟩
  | 52 => ⟨S_, .f32⟩
  | 53 => ⟨S2x32x64, .f32⟩
  | 54 => ⟨S2x32x64, .f32⟩
  | 55 => ⟨S2x32x64, .f32⟩
  | 56 => ⟨S_, .f32⟩
  | 57 => ⟨S2x32x64, .f32⟩
  | 58 => ⟨S2x32x64, .f32⟩
  | 59 => ⟨S2x32x64, .f32⟩
  | 60 => ⟨S_, .f32⟩
  | 61 => ⟨S2x32x64, .f32⟩
  | 62 => ⟨S2x32x64, .f32⟩
  | 63 => ⟨S2x32x64, .f32⟩
  | 64 => ⟨S_, .f32⟩
  | 65 => ⟨S2x32x64, .f32⟩
  | 66 => ⟨S2x32x64, .f32⟩
  | 67 => ⟨S_, .f32⟩
  | 68 => ⟨S2x32x64, .f32⟩
  | 69 => ⟨S2x32x64, .f32⟩
  | 70 => ⟨S2x32x64, .f32⟩
  | 71 => ⟨S_, .f32⟩
  | 72 => ⟨S2x32x64, .f32⟩
  | 73 => ⟨S2x32x64, .f32⟩
  | 74 => ⟨S2x32x64, .f32⟩
  | 75 => ⟨S_, .f32⟩
  | 76 => ⟨S2x32x64, .f32⟩
  | 77 => ⟨S2x32x64, .f32⟩
  | 78 => ⟨S2x32x64, .f32⟩
  | 79 => ⟨S_, .f32⟩
  | 80 => ⟨S2x32x64, .f32⟩
  | 81 => ⟨S2x32x64, .f32⟩
  | 82 => ⟨S_, .f32⟩
  | 83 => ⟨S2x32x64, .f32⟩
  | 84 => ⟨S2x32x64, .f32⟩
  | 85 => ⟨S_, .f32⟩
  | 86 => ⟨S2x32x64, .f32⟩
  | 87 => ⟨S2x32x64, .f32⟩
  | 88 => ⟨S2x32x64, .f32⟩
  | 89 => ⟨S_, .f32⟩
  | 90 => ⟨S2x32x64, .f32⟩
  | 91 => ⟨S2x32x64, .f32⟩
  | 92 => ⟨S2x32x64, .f32⟩
  | 93 => ⟨S_, .f32⟩
  | 94 => ⟨S2x32x64, .f32⟩
  | 95 => ⟨S2x32x64, .f32⟩
  | 96 => ⟨S2x32x64, .f32⟩
  | 97 => ⟨S_, .f32⟩
  | 98 => ⟨S2x32x64, .f32⟩
  | 99 => ⟨S2x32x64, .f32⟩
  | 100 => ⟨S_, .f32⟩
  | 101 => ⟨S2x32x64, .f32⟩
  | 102 => ⟨S2x32x64, .f32⟩
  | 103 => ⟨S2x32x64, .f32⟩
  | 104 => ⟨S_, .f32⟩
  | 105 => ⟨S2x32x64, .f32⟩
  | 106 => ⟨S2x32x64, .f32⟩
  | 107 => ⟨S2x32x64, .f32⟩
  | 108 => ⟨S_, .f32⟩
  | 109 => ⟨S2x32x64, .f32⟩
  | 110 => ⟨S2x32x64, .f32⟩
  | 111 => ⟨S2x32x64, .f32⟩
  | 112 => ⟨S_, .f32⟩
  | 113 => ⟨S2x32x64, .f32⟩
  | 114 => ⟨S2x32x64, .f32⟩
  | 115 => ⟨S_, .f32⟩
  | 116 => ⟨S2x32x16x64, .f32⟩
  | 117 => ⟨S2x32x16x64, .f32⟩
  | 118 => ⟨S_, .f32⟩
  | 119 => ⟨S2x32x16x64, .f32⟩
  | 120 => ⟨S2x32x16x64, .f32⟩
  | 121 => ⟨S2x32x16x64, .f32⟩
  | 122 => ⟨S_, .f32⟩
  | 123 => ⟨S2x32x16x64, .f32⟩
  | 124 => ⟨S2x32x16x64, .f32⟩
  | 125 => ⟨S2x32x16x64, .f32⟩
  | 126 => ⟨S_, .f32⟩
  | 127 => ⟨S2x32x16x64, .f32⟩
  | _ => ⟨S2x1024, .f32⟩

abbrev hbmTy0_1 (i : Nat) : BufTy := match i % 128 with
  | 0 => ⟨S2x32x16x64, .f32⟩
  | 1 => ⟨S2x32x16x64, .f32⟩
  | 2 => ⟨S_, .f32⟩
  | 3 => ⟨S2x32x16x64, .f32⟩
  | 4 => ⟨S2x32x16x64, .f32⟩
  | 5 => ⟨S_, .f32⟩
  | 6 => ⟨S2x32x16x64, .f32⟩
  | 7 => ⟨S2x32x16x64, .f32⟩
  | 8 => ⟨S2x32x16x64, .f32⟩
  | 9 => ⟨S_, .f32⟩
  | 10 => ⟨S2x32x16x64, .f32⟩
  | 11 => ⟨S2x32x16x64, .f32⟩
  | 12 => ⟨S2x32x16x64, .f32⟩
  | 13 => ⟨S_, .f32⟩
  | 14 => ⟨S2x32x16x64, .f32⟩
  | 15 => ⟨S2x32x16x64, .f32⟩
  | 16 => ⟨S2x32x16x64, .f32⟩
  | 17 => ⟨S_, .f32⟩
  | 18 => ⟨S2x32x16x64, .f32⟩
  | 19 => ⟨S2x32x16x64, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== ARestB.lean ====
abbrev S2x32x16x64 : Shape := ⟨4, ![2, 32, 16, 64]⟩
abbrev S2x32x16 : Shape := ⟨3, ![2, 32, 16]⟩
abbrev S2x32 : Shape := ⟨2, ![2, 32]⟩
abbrev S2x512 : Shape := ⟨2, ![2, 512]⟩

abbrev nBuf : Space → Nat
  | .hbm => 28
  | .vmem => 28
  | .smem => 0
  | _ => 0

abbrev bufTy : (tb : Table) → Fin (tcTables nBuf tb) → BufTy
  | .hbm, ⟨0, _⟩ => ⟨S2x32x16x64, .f32⟩
  | .hbm, ⟨1, _⟩ => ⟨S2x32x16, .f32⟩
  | .hbm, ⟨2, _⟩ => ⟨S2x32, .f32⟩
  | .hbm, ⟨3, _⟩ => ⟨S2x512, .f32⟩
  | .hbm, ⟨4, _⟩ => ⟨S2x32x16x64, .f32⟩
  | .hbm, ⟨5, _⟩ => ⟨S2x32x16, .f32⟩
  | .hbm, ⟨6, _⟩ => ⟨S2x32, .f32⟩
  | .hbm, ⟨7, _⟩ => ⟨S2x512, .f32⟩
  | .hbm, ⟨8, _⟩ => ⟨S2x32x16x64, .f32⟩
  | .hbm, ⟨9, _⟩ => ⟨S2x32x16, .f32⟩
  | .hbm, ⟨10, _⟩ => ⟨S2x32, .f32⟩
  | .hbm, ⟨11, _⟩ => ⟨S2x512, .f32⟩
  | .hbm, ⟨12, _⟩ => ⟨S2x32x16x64, .f32⟩
  | .hbm, ⟨13, _⟩ => ⟨S2x32x16, .f32⟩
  | .hbm, ⟨14, _⟩ => ⟨S2x32, .f32⟩
  | .hbm, ⟨15, _⟩ => ⟨S2x512, .f32⟩
  | .hbm, ⟨16, _⟩ => ⟨S2x32x16x64, .f32⟩
  | .hbm, ⟨17, _⟩ => ⟨S2x32x16, .f32⟩
  | .hbm, ⟨18, _⟩ => ⟨S2x32, .f32⟩
  | .hbm, ⟨19, _⟩ => ⟨S2x512, .f32⟩
  | .hbm, ⟨20, _⟩ => ⟨S2x32x16x64, .f32⟩
  | .hbm, ⟨21, _⟩ => ⟨S2x32x16, .f32⟩
  | .hbm, ⟨22, _⟩ => ⟨S2x32, .f32⟩
  | .hbm, ⟨23, _⟩ => ⟨S2x512, .f32⟩
  | .hbm, ⟨24, _⟩ => ⟨S2x32x16x64, .f32⟩
  | .hbm, ⟨25, _⟩ => ⟨S2x32x16, .f32⟩
  | .hbm, ⟨26, _⟩ => ⟨S2x32, .f32⟩
  | .hbm, ⟨27, _⟩ => ⟨S2x512, .f32⟩
  | .local _ .vmem, ⟨0, _⟩ => ⟨S2x32x16x64, .f32⟩
  | .local _ .vmem, ⟨1, _⟩ => ⟨S2x32x16, .f32⟩
  | .local _ .vmem, ⟨2, _⟩ => ⟨S2x32, .f32⟩
  | .local _ .vmem, ⟨3, _⟩ => ⟨S2x512, .f32⟩
  | .local _ .vmem, ⟨4, _⟩ => ⟨S2x32x16x64, .f32⟩
  | .local _ .vmem, ⟨5, _⟩ => ⟨S2x32x16, .f32⟩
  | .local _ .vmem, ⟨6, _⟩ => ⟨S2x32, .f32⟩
  | .local _ .vmem, ⟨7, _⟩ => ⟨S2x512, .f32⟩
  | .local _ .vmem, ⟨8, _⟩ => ⟨S2x32x16x64, .f32⟩
  | .local _ .vmem, ⟨9, _⟩ => ⟨S2x32x16, .f32⟩
  | .local _ .vmem, ⟨10, _⟩ => ⟨S2x32, .f32⟩
  | .local _ .vmem, ⟨11, _⟩ => ⟨S2x512, .f32⟩
  | .local _ .vmem, ⟨12, _⟩ => ⟨S2x32x16x64, .f32⟩
  | .local _ .vmem, ⟨13, _⟩ => ⟨S2x32x16, .f32⟩
  | .local _ .vmem, ⟨14, _⟩ => ⟨S2x32, .f32⟩
  | .local _ .vmem, ⟨15, _⟩ => ⟨S2x512, .f32⟩
  | .local _ .vmem, ⟨16, _⟩ => ⟨S2x32x16x64, .f32⟩
  | .local _ .vmem, ⟨17, _⟩ => ⟨S2x32x16, .f32⟩
  | .local _ .vmem, ⟨18, _⟩ => ⟨S2x32, .f32⟩
  | .local _ .vmem, ⟨19, _⟩ => ⟨S2x512, .f32⟩
  | .local _ .vmem, ⟨20, _⟩ => ⟨S2x32x16x64, .f32⟩
  | .local _ .vmem, ⟨21, _⟩ => ⟨S2x32x16, .f32⟩
  | .local _ .vmem, ⟨22, _⟩ => ⟨S2x32, .f32⟩
  | .local _ .vmem, ⟨23, _⟩ => ⟨S2x512, .f32⟩
  | .local _ .vmem, ⟨24, _⟩ => ⟨S2x32x16x64, .f32⟩
  | .local _ .vmem, ⟨25, _⟩ => ⟨S2x32x16, .f32⟩
  | .local _ .vmem, ⟨26, _⟩ => ⟨S2x32, .f32⟩
  | .local _ .vmem, ⟨27, _⟩ => ⟨S2x512, .f32⟩
  | _, _ => ⟨S2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x32x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x32x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x32x16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x32x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x32x16x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x32x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x32x16x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x32x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestBIdeal.lean ====
abbrev S2x32x16x64 : Shape := ⟨4, ![2, 32, 16, 64]⟩
abbrev S2x32x16 : Shape := ⟨3, ![2, 32, 16]⟩
abbrev S2x32 : Shape := ⟨2, ![2, 32]⟩
abbrev S2x512 : Shape := ⟨2, ![2, 512]⟩

abbrev nBuf : Space → Nat
  | .hbm => 28
  | .vmem => 28
  | .smem => 0
  | _ => 0

abbrev bufTy : (tb : Table) → Fin (tcTables nBuf tb) → BufTy
  | .hbm, ⟨0, _⟩ => ⟨S2x32x16x64, .f32⟩
  | .hbm, ⟨1, _⟩ => ⟨S2x32x16, .f32⟩
  | .hbm, ⟨2, _⟩ => ⟨S2x32, .f32⟩
  | .hbm, ⟨3, _⟩ => ⟨S2x512, .f32⟩
  | .hbm, ⟨4, _⟩ => ⟨S2x32x16x64, .f32⟩
  | .hbm, ⟨5, _⟩ => ⟨S2x32x16, .f32⟩
  | .hbm, ⟨6, _⟩ => ⟨S2x32, .f32⟩
  | .hbm, ⟨7, _⟩ => ⟨S2x512, .f32⟩
  | .hbm, ⟨8, _⟩ => ⟨S2x32x16x64, .f32⟩
  | .hbm, ⟨9, _⟩ => ⟨S2x32x16, .f32⟩
  | .hbm, ⟨10, _⟩ => ⟨S2x32, .f32⟩
  | .hbm, ⟨11, _⟩ => ⟨S2x512, .f32⟩
  | .hbm, ⟨12, _⟩ => ⟨S2x32x16x64, .f32⟩
  | .hbm, ⟨13, _⟩ => ⟨S2x32x16, .f32⟩
  | .hbm, ⟨14, _⟩ => ⟨S2x32, .f32⟩
  | .hbm, ⟨15, _⟩ => ⟨S2x512, .f32⟩
  | .hbm, ⟨16, _⟩ => ⟨S2x32x16x64, .f32⟩
  | .hbm, ⟨17, _⟩ => ⟨S2x32x16, .f32⟩
  | .hbm, ⟨18, _⟩ => ⟨S2x32, .f32⟩
  | .hbm, ⟨19, _⟩ => ⟨S2x512, .f32⟩
  | .hbm, ⟨20, _⟩ => ⟨S2x32x16x64, .f32⟩
  | .hbm, ⟨21, _⟩ => ⟨S2x32x16, .f32⟩
  | .hbm, ⟨22, _⟩ => ⟨S2x32, .f32⟩
  | .hbm, ⟨23, _⟩ => ⟨S2x512, .f32⟩
  | .hbm, ⟨24, _⟩ => ⟨S2x32x16x64, .f32⟩
  | .hbm, ⟨25, _⟩ => ⟨S2x32x16, .f32⟩
  | .hbm, ⟨26, _⟩ => ⟨S2x32, .f32⟩
  | .hbm, ⟨27, _⟩ => ⟨S2x512, .f32⟩
  | .local _ .vmem, ⟨0, _⟩ => ⟨S2x32x16x64, .f32⟩
  | .local _ .vmem, ⟨1, _⟩ => ⟨S2x32x16, .f32⟩
  | .local _ .vmem, ⟨2, _⟩ => ⟨S2x32, .f32⟩
  | .local _ .vmem, ⟨3, _⟩ => ⟨S2x512, .f32⟩
  | .local _ .vmem, ⟨4, _⟩ => ⟨S2x32x16x64, .f32⟩
  | .local _ .vmem, ⟨5, _⟩ => ⟨S2x32x16, .f32⟩
  | .local _ .vmem, ⟨6, _⟩ => ⟨S2x32, .f32⟩
  | .local _ .vmem, ⟨7, _⟩ => ⟨S2x512, .f32⟩
  | .local _ .vmem, ⟨8, _⟩ => ⟨S2x32x16x64, .f32⟩
  | .local _ .vmem, ⟨9, _⟩ => ⟨S2x32x16, .f32⟩
  | .local _ .vmem, ⟨10, _⟩ => ⟨S2x32, .f32⟩
  | .local _ .vmem, ⟨11, _⟩ => ⟨S2x512, .f32⟩
  | .local _ .vmem, ⟨12, _⟩ => ⟨S2x32x16x64, .f32⟩
  | .local _ .vmem, ⟨13, _⟩ => ⟨S2x32x16, .f32⟩
  | .local _ .vmem, ⟨14, _⟩ => ⟨S2x32, .f32⟩
  | .local _ .vmem, ⟨15, _⟩ => ⟨S2x512, .f32⟩
  | .local _ .vmem, ⟨16, _⟩ => ⟨S2x32x16x64, .f32⟩
  | .local _ .vmem, ⟨17, _⟩ => ⟨S2x32x16, .f32⟩
  | .local _ .vmem, ⟨18, _⟩ => ⟨S2x32, .f32⟩
  | .local _ .vmem, ⟨19, _⟩ => ⟨S2x512, .f32⟩
  | .local _ .vmem, ⟨20, _⟩ => ⟨S2x32x16x64, .f32⟩
  | .local _ .vmem, ⟨21, _⟩ => ⟨S2x32x16, .f32⟩
  | .local _ .vmem, ⟨22, _⟩ => ⟨S2x32, .f32⟩
  | .local _ .vmem, ⟨23, _⟩ => ⟨S2x512, .f32⟩
  | .local _ .vmem, ⟨24, _⟩ => ⟨S2x32x16x64, .f32⟩
  | .local _ .vmem, ⟨25, _⟩ => ⟨S2x32x16, .f32⟩
  | .local _ .vmem, ⟨26, _⟩ => ⟨S2x32, .f32⟩
  | .local _ .vmem, ⟨27, _⟩ => ⟨S2x512, .f32⟩
  | _, _ => ⟨S2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x32x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x32x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x32x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x32x16x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x32x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x32x16x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x32x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x32x16x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x32x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestBRefIdeal.lean ====
abbrev S2x32x16x64 : Shape := ⟨4, ![2, 32, 16, 64]⟩
abbrev S2x32x16 : Shape := ⟨3, ![2, 32, 16]⟩
abbrev S2x32 : Shape := ⟨2, ![2, 32]⟩
abbrev S2x512 : Shape := ⟨2, ![2, 512]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x32x16x64, .f32⟩
  | 1 => ⟨S2x32x16, .f32⟩
  | 2 => ⟨S2x32, .f32⟩
  | 3 => ⟨S2x512, .f32⟩
  | 4 => ⟨S2x32x16x64, .f32⟩
  | 5 => ⟨S2x32x16, .f32⟩
  | 6 => ⟨S2x32, .f32⟩
  | 7 => ⟨S2x512, .f32⟩
  | 8 => ⟨S2x32x16x64, .f32⟩
  | 9 => ⟨S2x32x16, .f32⟩
  | 10 => ⟨S2x32, .f32⟩
  | 11 => ⟨S2x512, .f32⟩
  | 12 => ⟨S2x32x16x64, .f32⟩
  | 13 => ⟨S2x32x16, .f32⟩
  | 14 => ⟨S2x32, .f32⟩
  | 15 => ⟨S2x512, .f32⟩
  | 16 => ⟨S_, .f32⟩
  | 17 => ⟨S2x32x16x64, .f32⟩
  | 18 => ⟨S2x32x16x64, .f32⟩
  | 19 => ⟨S_, .f32⟩
  | 20 => ⟨S2x32x16x64, .f32⟩
  | 21 => ⟨S2x32x16x64, .f32⟩
  | 22 => ⟨S2x32x16x64, .f32⟩
  | 23 => ⟨S_, .f32⟩
  | 24 => ⟨S2x32x16x64, .f32⟩
  | 25 => ⟨S2x32x16x64, .f32⟩
  | 26 => ⟨S2x32x16x64, .f32⟩
  | 27 => ⟨S_, .f32⟩
  | 28 => ⟨S2x32x16x64, .f32⟩
  | 29 => ⟨S2x32x16x64, .f32⟩
  | 30 => ⟨S2x32x16x64, .f32⟩
  | 31 => ⟨S_, .f32⟩
  | 32 => ⟨S2x32x16x64, .f32⟩
  | 33 => ⟨S2x32x16x64, .f32⟩
  | 34 => ⟨S_, .f32⟩
  | 35 => ⟨S2x32x16x64, .f32⟩
  | 36 => ⟨S2x32x16x64, .f32⟩
  | 37 => ⟨S2x32x16x64, .f32⟩
  | 38 => ⟨S_, .f32⟩
  | 39 => ⟨S2x32x16x64, .f32⟩
  | 40 => ⟨S2x32x16x64, .f32⟩
  | 41 => ⟨S2x32x16x64, .f32⟩
  | 42 => ⟨S_, .f32⟩
  | 43 => ⟨S2x32x16x64, .f32⟩
  | 44 => ⟨S2x32x16x64, .f32⟩
  | 45 => ⟨S2x32x16x64, .f32⟩
  | 46 => ⟨S_, .f32⟩
  | 47 => ⟨S2x32x16x64, .f32⟩
  | 48 => ⟨S2x32x16x64, .f32⟩
  | 49 => ⟨S_, .f32⟩
  | 50 => ⟨S2x32x16, .f32⟩
  | 51 => ⟨S2x32x16, .f32⟩
  | 52 => ⟨S_, .f32⟩
  | 53 => ⟨S2x32x16, .f32⟩
  | 54 => ⟨S2x32x16, .f32⟩
  | 55 => ⟨S2x32x16, .f32⟩
  | 56 => ⟨S_, .f32⟩
  | 57 => ⟨S2x32x16, .f32⟩
  | 58 => ⟨S2x32x16, .f32⟩
  | 59 => ⟨S2x32x16, .f32⟩
  | 60 => ⟨S_, .f32⟩
  | 61 => ⟨S2x32x16, .f32⟩
  | 62 => ⟨S2x32x16, .f32⟩
  | 63 => ⟨S2x32x16, .f32⟩
  | 64 => ⟨S_, .f32⟩
  | 65 => ⟨S2x32x16, .f32⟩
  | 66 => ⟨S2x32x16, .f32⟩
  | 67 => ⟨S_, .f32⟩
  | 68 => ⟨S2x32x16, .f32⟩
  | 69 => ⟨S2x32x16, .f32⟩
  | 70 => ⟨S2x32x16, .f32⟩
  | 71 => ⟨S_, .f32⟩
  | 72 => ⟨S2x32x16, .f32⟩
  | 73 => ⟨S2x32x16, .f32⟩
  | 74 => ⟨S2x32x16, .f32⟩
  | 75 => ⟨S_, .f32⟩
  | 76 => ⟨S2x32x16, .f32⟩
  | 77 => ⟨S2x32x16, .f32⟩
  | 78 => ⟨S2x32x16, .f32⟩
  | 79 => ⟨S_, .f32⟩
  | 80 => ⟨S2x32x16, .f32⟩
  | 81 => ⟨S2x32x16, .f32⟩
  | 82 => ⟨S_, .f32⟩
  | 83 => ⟨S2x32, .f32⟩
  | 84 => ⟨S2x32, .f32⟩
  | 85 => ⟨S_, .f32⟩
  | 86 => ⟨S2x32, .f32⟩
  | 87 => ⟨S2x32, .f32⟩
  | 88 => ⟨S2x32, .f32⟩
  | 89 => ⟨S_, .f32⟩
  | 90 => ⟨S2x32, .f32⟩
  | 91 => ⟨S2x32, .f32⟩
  | 92 => ⟨S2x32, .f32⟩
  | 93 => ⟨S_, .f32⟩
  | 94 => ⟨S2x32, .f32⟩
  | 95 => ⟨S2x32, .f32⟩
  | 96 => ⟨S2x32, .f32⟩
  | 97 => ⟨S_, .f32⟩
  | 98 => ⟨S2x32, .f32⟩
  | 99 => ⟨S2x32, .f32⟩
  | 100 => ⟨S_, .f32⟩
  | 101 => ⟨S2x32, .f32⟩
  | 102 => ⟨S2x32, .f32⟩
  | 103 => ⟨S2x32, .f32⟩
  | 104 => ⟨S_, .f32⟩
  | 105 => ⟨S2x32, .f32⟩
  | 106 => ⟨S2x32, .f32⟩
  | 107 => ⟨S2x32, .f32⟩
  | 108 => ⟨S_, .f32⟩
  | 109 => ⟨S2x32, .f32⟩
  | 110 => ⟨S2x32, .f32⟩
  | 111 => ⟨S2x32, .f32⟩
  | 112 => ⟨S_, .f32⟩
  | 113 => ⟨S2x32, .f32⟩
  | 114 => ⟨S2x32, .f32⟩
  | 115 => ⟨S_, .f32⟩
  | 116 => ⟨S2x512, .f32⟩
  | 117 => ⟨S2x512, .f32⟩
  | 118 => ⟨S_, .f32⟩
  | 119 => ⟨S2x512, .f32⟩
  | 120 => ⟨S2x512, .f32⟩
  | 121 => ⟨S2x512, .f32⟩
  | 122 => ⟨S_, .f32⟩
  | 123 => ⟨S2x512, .f32⟩
  | 124 => ⟨S2x512, .f32⟩
  | 125 => ⟨S2x512, .f32⟩
  | 126 => ⟨S_, .f32⟩
  | 127 => ⟨S2x512, .f32⟩
  | _ => ⟨S2x32x16x64, .f32⟩

abbrev hbmTy0_1 (i : Nat) : BufTy := match i % 128 with
  | 0 => ⟨S2x512, .f32⟩
  | 1 => ⟨S2x512, .f32⟩
  | 2 => ⟨S_, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S2x512, .f32⟩
  | 17 => ⟨S_, .f32⟩
  | 18 => ⟨S2x512, .f32⟩
  | 19 => ⟨S2x512, .f32⟩
  | _ => ⟨S2x32x16x64, .f32⟩

abbrev hbmTy (i : Nat) : BufTy := match i / 128 with
  | 0 => hbmTy0_0 i
  | 1 => hbmTy0_1 i
  | _ => ⟨S2x32x16x64, .f32⟩

abbrev bufTy : (tb : Table) → Fin (tcTables nBuf tb) → BufTy
  | .hbm, ⟨i, _⟩ => hbmTy i
  | _, _ => ⟨S2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== ARestC.lean ====
abbrev S2x512 : Shape := ⟨2, ![2, 512]⟩
abbrev S2x8x128x128 : Shape := ⟨4, ![2, 8, 128, 128]⟩
abbrev S2x8x128 : Shape := ⟨3, ![2, 8, 128]⟩
abbrev S2x4x256 : Shape := ⟨3, ![2, 4, 256]⟩

abbrev nBuf : Space → Nat
  | .hbm => 28
  | .vmem => 28
  | .smem => 0
  | _ => 0

abbrev bufTy : (tb : Table) → Fin (tcTables nBuf tb) → BufTy
  | .hbm, ⟨0, _⟩ => ⟨S2x512, .f32⟩
  | .hbm, ⟨1, _⟩ => ⟨S2x8x128x128, .f32⟩
  | .hbm, ⟨2, _⟩ => ⟨S2x8x128, .f32⟩
  | .hbm, ⟨3, _⟩ => ⟨S2x4x256, .f32⟩
  | .hbm, ⟨4, _⟩ => ⟨S2x512, .f32⟩
  | .hbm, ⟨5, _⟩ => ⟨S2x8x128x128, .f32⟩
  | .hbm, ⟨6, _⟩ => ⟨S2x8x128, .f32⟩
  | .hbm, ⟨7, _⟩ => ⟨S2x4x256, .f32⟩
  | .hbm, ⟨8, _⟩ => ⟨S2x512, .f32⟩
  | .hbm, ⟨9, _⟩ => ⟨S2x8x128x128, .f32⟩
  | .hbm, ⟨10, _⟩ => ⟨S2x8x128, .f32⟩
  | .hbm, ⟨11, _⟩ => ⟨S2x4x256, .f32⟩
  | .hbm, ⟨12, _⟩ => ⟨S2x512, .f32⟩
  | .hbm, ⟨13, _⟩ => ⟨S2x8x128x128, .f32⟩
  | .hbm, ⟨14, _⟩ => ⟨S2x8x128, .f32⟩
  | .hbm, ⟨15, _⟩ => ⟨S2x4x256, .f32⟩
  | .hbm, ⟨16, _⟩ => ⟨S2x512, .f32⟩
  | .hbm, ⟨17, _⟩ => ⟨S2x8x128x128, .f32⟩
  | .hbm, ⟨18, _⟩ => ⟨S2x8x128, .f32⟩
  | .hbm, ⟨19, _⟩ => ⟨S2x4x256, .f32⟩
  | .hbm, ⟨20, _⟩ => ⟨S2x512, .f32⟩
  | .hbm, ⟨21, _⟩ => ⟨S2x8x128x128, .f32⟩
  | .hbm, ⟨22, _⟩ => ⟨S2x8x128, .f32⟩
  | .hbm, ⟨23, _⟩ => ⟨S2x4x256, .f32⟩
  | .hbm, ⟨24, _⟩ => ⟨S2x512, .f32⟩
  | .hbm, ⟨25, _⟩ => ⟨S2x8x128x128, .f32⟩
  | .hbm, ⟨26, _⟩ => ⟨S2x8x128, .f32⟩
  | .hbm, ⟨27, _⟩ => ⟨S2x4x256, .f32⟩
  | .local _ .vmem, ⟨0, _⟩ => ⟨S2x512, .f32⟩
  | .local _ .vmem, ⟨1, _⟩ => ⟨S2x8x128x128, .f32⟩
  | .local _ .vmem, ⟨2, _⟩ => ⟨S2x8x128, .f32⟩
  | .local _ .vmem, ⟨3, _⟩ => ⟨S2x4x256, .f32⟩
  | .local _ .vmem, ⟨4, _⟩ => ⟨S2x512, .f32⟩
  | .local _ .vmem, ⟨5, _⟩ => ⟨S2x8x128x128, .f32⟩
  | .local _ .vmem, ⟨6, _⟩ => ⟨S2x8x128, .f32⟩
  | .local _ .vmem, ⟨7, _⟩ => ⟨S2x4x256, .f32⟩
  | .local _ .vmem, ⟨8, _⟩ => ⟨S2x512, .f32⟩
  | .local _ .vmem, ⟨9, _⟩ => ⟨S2x8x128x128, .f32⟩
  | .local _ .vmem, ⟨10, _⟩ => ⟨S2x8x128, .f32⟩
  | .local _ .vmem, ⟨11, _⟩ => ⟨S2x4x256, .f32⟩
  | .local _ .vmem, ⟨12, _⟩ => ⟨S2x512, .f32⟩
  | .local _ .vmem, ⟨13, _⟩ => ⟨S2x8x128x128, .f32⟩
  | .local _ .vmem, ⟨14, _⟩ => ⟨S2x8x128, .f32⟩
  | .local _ .vmem, ⟨15, _⟩ => ⟨S2x4x256, .f32⟩
  | .local _ .vmem, ⟨16, _⟩ => ⟨S2x512, .f32⟩
  | .local _ .vmem, ⟨17, _⟩ => ⟨S2x8x128x128, .f32⟩
  | .local _ .vmem, ⟨18, _⟩ => ⟨S2x8x128, .f32⟩
  | .local _ .vmem, ⟨19, _⟩ => ⟨S2x4x256, .f32⟩
  | .local _ .vmem, ⟨20, _⟩ => ⟨S2x512, .f32⟩
  | .local _ .vmem, ⟨21, _⟩ => ⟨S2x8x128x128, .f32⟩
  | .local _ .vmem, ⟨22, _⟩ => ⟨S2x8x128, .f32⟩
  | .local _ .vmem, ⟨23, _⟩ => ⟨S2x4x256, .f32⟩
  | .local _ .vmem, ⟨24, _⟩ => ⟨S2x512, .f32⟩
  | .local _ .vmem, ⟨25, _⟩ => ⟨S2x8x128x128, .f32⟩
  | .local _ .vmem, ⟨26, _⟩ => ⟨S2x8x128, .f32⟩
  | .local _ .vmem, ⟨27, _⟩ => ⟨S2x4x256, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x4x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x8x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x4x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestCIdeal.lean ====
abbrev S2x512 : Shape := ⟨2, ![2, 512]⟩
abbrev S2x8x128x128 : Shape := ⟨4, ![2, 8, 128, 128]⟩
abbrev S2x8x128 : Shape := ⟨3, ![2, 8, 128]⟩
abbrev S2x4x256 : Shape := ⟨3, ![2, 4, 256]⟩

abbrev nBuf : Space → Nat
  | .hbm => 28
  | .vmem => 28
  | .smem => 0
  | _ => 0

abbrev bufTy : (tb : Table) → Fin (tcTables nBuf tb) → BufTy
  | .hbm, ⟨0, _⟩ => ⟨S2x512, .f32⟩
  | .hbm, ⟨1, _⟩ => ⟨S2x8x128x128, .f32⟩
  | .hbm, ⟨2, _⟩ => ⟨S2x8x128, .f32⟩
  | .hbm, ⟨3, _⟩ => ⟨S2x4x256, .f32⟩
  | .hbm, ⟨4, _⟩ => ⟨S2x512, .f32⟩
  | .hbm, ⟨5, _⟩ => ⟨S2x8x128x128, .f32⟩
  | .hbm, ⟨6, _⟩ => ⟨S2x8x128, .f32⟩
  | .hbm, ⟨7, _⟩ => ⟨S2x4x256, .f32⟩
  | .hbm, ⟨8, _⟩ => ⟨S2x512, .f32⟩
  | .hbm, ⟨9, _⟩ => ⟨S2x8x128x128, .f32⟩
  | .hbm, ⟨10, _⟩ => ⟨S2x8x128, .f32⟩
  | .hbm, ⟨11, _⟩ => ⟨S2x4x256, .f32⟩
  | .hbm, ⟨12, _⟩ => ⟨S2x512, .f32⟩
  | .hbm, ⟨13, _⟩ => ⟨S2x8x128x128, .f32⟩
  | .hbm, ⟨14, _⟩ => ⟨S2x8x128, .f32⟩
  | .hbm, ⟨15, _⟩ => ⟨S2x4x256, .f32⟩
  | .hbm, ⟨16, _⟩ => ⟨S2x512, .f32⟩
  | .hbm, ⟨17, _⟩ => ⟨S2x8x128x128, .f32⟩
  | .hbm, ⟨18, _⟩ => ⟨S2x8x128, .f32⟩
  | .hbm, ⟨19, _⟩ => ⟨S2x4x256, .f32⟩
  | .hbm, ⟨20, _⟩ => ⟨S2x512, .f32⟩
  | .hbm, ⟨21, _⟩ => ⟨S2x8x128x128, .f32⟩
  | .hbm, ⟨22, _⟩ => ⟨S2x8x128, .f32⟩
  | .hbm, ⟨23, _⟩ => ⟨S2x4x256, .f32⟩
  | .hbm, ⟨24, _⟩ => ⟨S2x512, .f32⟩
  | .hbm, ⟨25, _⟩ => ⟨S2x8x128x128, .f32⟩
  | .hbm, ⟨26, _⟩ => ⟨S2x8x128, .f32⟩
  | .hbm, ⟨27, _⟩ => ⟨S2x4x256, .f32⟩
  | .local _ .vmem, ⟨0, _⟩ => ⟨S2x512, .f32⟩
  | .local _ .vmem, ⟨1, _⟩ => ⟨S2x8x128x128, .f32⟩
  | .local _ .vmem, ⟨2, _⟩ => ⟨S2x8x128, .f32⟩
  | .local _ .vmem, ⟨3, _⟩ => ⟨S2x4x256, .f32⟩
  | .local _ .vmem, ⟨4, _⟩ => ⟨S2x512, .f32⟩
  | .local _ .vmem, ⟨5, _⟩ => ⟨S2x8x128x128, .f32⟩
  | .local _ .vmem, ⟨6, _⟩ => ⟨S2x8x128, .f32⟩
  | .local _ .vmem, ⟨7, _⟩ => ⟨S2x4x256, .f32⟩
  | .local _ .vmem, ⟨8, _⟩ => ⟨S2x512, .f32⟩
  | .local _ .vmem, ⟨9, _⟩ => ⟨S2x8x128x128, .f32⟩
  | .local _ .vmem, ⟨10, _⟩ => ⟨S2x8x128, .f32⟩
  | .local _ .vmem, ⟨11, _⟩ => ⟨S2x4x256, .f32⟩
  | .local _ .vmem, ⟨12, _⟩ => ⟨S2x512, .f32⟩
  | .local _ .vmem, ⟨13, _⟩ => ⟨S2x8x128x128, .f32⟩
  | .local _ .vmem, ⟨14, _⟩ => ⟨S2x8x128, .f32⟩
  | .local _ .vmem, ⟨15, _⟩ => ⟨S2x4x256, .f32⟩
  | .local _ .vmem, ⟨16, _⟩ => ⟨S2x512, .f32⟩
  | .local _ .vmem, ⟨17, _⟩ => ⟨S2x8x128x128, .f32⟩
  | .local _ .vmem, ⟨18, _⟩ => ⟨S2x8x128, .f32⟩
  | .local _ .vmem, ⟨19, _⟩ => ⟨S2x4x256, .f32⟩
  | .local _ .vmem, ⟨20, _⟩ => ⟨S2x512, .f32⟩
  | .local _ .vmem, ⟨21, _⟩ => ⟨S2x8x128x128, .f32⟩
  | .local _ .vmem, ⟨22, _⟩ => ⟨S2x8x128, .f32⟩
  | .local _ .vmem, ⟨23, _⟩ => ⟨S2x4x256, .f32⟩
  | .local _ .vmem, ⟨24, _⟩ => ⟨S2x512, .f32⟩
  | .local _ .vmem, ⟨25, _⟩ => ⟨S2x8x128x128, .f32⟩
  | .local _ .vmem, ⟨26, _⟩ => ⟨S2x8x128, .f32⟩
  | .local _ .vmem, ⟨27, _⟩ => ⟨S2x4x256, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x4x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x8x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x4x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestCRefIdeal.lean ====
abbrev S2x512 : Shape := ⟨2, ![2, 512]⟩
abbrev S2x8x128x128 : Shape := ⟨4, ![2, 8, 128, 128]⟩
abbrev S2x8x128 : Shape := ⟨3, ![2, 8, 128]⟩
abbrev S2x4x256 : Shape := ⟨3, ![2, 4, 256]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x512, .f32⟩
  | 1 => ⟨S2x8x128x128, .f32⟩
  | 2 => ⟨S2x8x128, .f32⟩
  | 3 => ⟨S2x4x256, .f32⟩
  | 4 => ⟨S2x512, .f32⟩
  | 5 => ⟨S2x8x128x128, .f32⟩
  | 6 => ⟨S2x8x128, .f32⟩
  | 7 => ⟨S2x4x256, .f32⟩
  | 8 => ⟨S2x512, .f32⟩
  | 9 => ⟨S2x8x128x128, .f32⟩
  | 10 => ⟨S2x8x128, .f32⟩
  | 11 => ⟨S2x4x256, .f32⟩
  | 12 => ⟨S2x512, .f32⟩
  | 13 => ⟨S2x8x128x128, .f32⟩
  | 14 => ⟨S2x8x128, .f32⟩
  | 15 => ⟨S2x4x256, .f32⟩
  | 16 => ⟨S_, .f32⟩
  | 17 => ⟨S2x512, .f32⟩
  | 18 => ⟨S2x512, .f32⟩
  | 19 => ⟨S_, .f32⟩
  | 20 => ⟨S2x512, .f32⟩
  | 21 => ⟨S2x512, .f32⟩
  | 22 => ⟨S2x512, .f32⟩
  | 23 => ⟨S_, .f32⟩
  | 24 => ⟨S2x512, .f32⟩
  | 25 => ⟨S2x512, .f32⟩
  | 26 => ⟨S2x512, .f32⟩
  | 27 => ⟨S_, .f32⟩
  | 28 => ⟨S2x512, .f32⟩
  | 29 => ⟨S2x512, .f32⟩
  | 30 => ⟨S2x512, .f32⟩
  | 31 => ⟨S_, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S2x512, .f32⟩
  | 38 => ⟨S_, .f32⟩
  | 39 => ⟨S2x512, .f32⟩
  | 40 => ⟨S2x512, .f32⟩
  | 41 => ⟨S2x512, .f32⟩
  | 42 => ⟨S_, .f32⟩
  | 43 => ⟨S2x512, .f32⟩
  | 44 => ⟨S2x512, .f32⟩
  | 45 => ⟨S2x512, .f32⟩
  | 46 => ⟨S_, .f32⟩
  | 47 => ⟨S2x512, .f32⟩
  | 48 => ⟨S2x512, .f32⟩
  | 49 => ⟨S_, .f32⟩
  | 50 => ⟨S2x8x128x128, .f32⟩
  | 51 => ⟨S2x8x128x128, .f32⟩
  | 52 => ⟨S_, .f32⟩
  | 53 => ⟨S2x8x128x128, .f32⟩
  | 54 => ⟨S2x8x128x128, .f32⟩
  | 55 => ⟨S2x8x128x128, .f32⟩
  | 56 => ⟨S_, .f32⟩
  | 57 => ⟨S2x8x128x128, .f32⟩
  | 58 => ⟨S2x8x128x128, .f32⟩
  | 59 => ⟨S2x8x128x128, .f32⟩
  | 60 => ⟨S_, .f32⟩
  | 61 => ⟨S2x8x128x128, .f32⟩
  | 62 => ⟨S2x8x128x128, .f32⟩
  | 63 => ⟨S2x8x128x128, .f32⟩
  | 64 => ⟨S_, .f32⟩
  | 65 => ⟨S2x8x128x128, .f32⟩
  | 66 => ⟨S2x8x128x128, .f32⟩
  | 67 => ⟨S_, .f32⟩
  | 68 => ⟨S2x8x128x128, .f32⟩
  | 69 => ⟨S2x8x128x128, .f32⟩
  | 70 => ⟨S2x8x128x128, .f32⟩
  | 71 => ⟨S_, .f32⟩
  | 72 => ⟨S2x8x128x128, .f32⟩
  | 73 => ⟨S2x8x128x128, .f32⟩
  | 74 => ⟨S2x8x128x128, .f32⟩
  | 75 => ⟨S_, .f32⟩
  | 76 => ⟨S2x8x128x128, .f32⟩
  | 77 => ⟨S2x8x128x128, .f32⟩
  | 78 => ⟨S2x8x128x128, .f32⟩
  | 79 => ⟨S_, .f32⟩
  | 80 => ⟨S2x8x128x128, .f32⟩
  | 81 => ⟨S2x8x128x128, .f32⟩
  | 82 => ⟨S_, .f32⟩
  | 83 => ⟨S2x8x128, .f32⟩
  | 84 => ⟨S2x8x128, .f32⟩
  | 85 => ⟨S_, .f32⟩
  | 86 => ⟨S2x8x128, .f32⟩
  | 87 => ⟨S2x8x128, .f32⟩
  | 88 => ⟨S2x8x128, .f32⟩
  | 89 => ⟨S_, .f32⟩
  | 90 => ⟨S2x8x128, .f32⟩
  | 91 => ⟨S2x8x128, .f32⟩
  | 92 => ⟨S2x8x128, .f32⟩
  | 93 => ⟨S_, .f32⟩
  | 94 => ⟨S2x8x128, .f32⟩
  | 95 => ⟨S2x8x128, .f32⟩
  | 96 => ⟨S2x8x128, .f32⟩
  | 97 => ⟨S_, .f32⟩
  | 98 => ⟨S2x8x128, .f32⟩
  | 99 => ⟨S2x8x128, .f32⟩
  | 100 => ⟨S_, .f32⟩
  | 101 => ⟨S2x8x128, .f32⟩
  | 102 => ⟨S2x8x128, .f32⟩
  | 103 => ⟨S2x8x128, .f32⟩
  | 104 => ⟨S_, .f32⟩
  | 105 => ⟨S2x8x128, .f32⟩
  | 106 => ⟨S2x8x128, .f32⟩
  | 107 => ⟨S2x8x128, .f32⟩
  | 108 => ⟨S_, .f32⟩
  | 109 => ⟨S2x8x128, .f32⟩
  | 110 => ⟨S2x8x128, .f32⟩
  | 111 => ⟨S2x8x128, .f32⟩
  | 112 => ⟨S_, .f32⟩
  | 113 => ⟨S2x8x128, .f32⟩
  | 114 => ⟨S2x8x128, .f32⟩
  | 115 => ⟨S_, .f32⟩
  | 116 => ⟨S2x4x256, .f32⟩
  | 117 => ⟨S2x4x256, .f32⟩
  | 118 => ⟨S_, .f32⟩
  | 119 => ⟨S2x4x256, .f32⟩
  | 120 => ⟨S2x4x256, .f32⟩
  | 121 => ⟨S2x4x256, .f32⟩
  | 122 => ⟨S_, .f32⟩
  | 123 => ⟨S2x4x256, .f32⟩
  | 124 => ⟨S2x4x256, .f32⟩
  | 125 => ⟨S2x4x256, .f32⟩
  | 126 => ⟨S_, .f32⟩
  | 127 => ⟨S2x4x256, .f32⟩
  | _ => ⟨S2x512, .f32⟩

abbrev hbmTy0_1 (i : Nat) : BufTy := match i % 128 with
  | 0 => ⟨S2x4x256, .f32⟩
  | 1 => ⟨S2x4x256, .f32⟩
  | 2 => ⟨S_, .f32⟩
  | 3 => ⟨S2x4x256, .f32⟩
  | 4 => ⟨S2x4x256, .f32⟩
  | 5 => ⟨S_, .f32⟩
  | 6 => ⟨S2x4x256, .f32⟩
  | 7 => ⟨S2x4x256, .f32⟩
  | 8 => ⟨S2x4x256, .f32⟩
  | 9 => ⟨S_, .f32⟩
  | 10 => ⟨S2x4x256, .f32⟩
  | 11 => ⟨S2x4x256, .f32⟩
  | 12 => ⟨S2x4x256, .f32⟩
  | 13 => ⟨S_, .f32⟩
  | 14 => ⟨S2x4x256, .f32⟩
  | 15 => ⟨S2x4x256, .f32⟩
  | 16 => ⟨S2x4x256, .f32⟩
  | 17 => ⟨S_, .f32⟩
  | 18 => ⟨S2x4x256, .f32⟩
  | 19 => ⟨S2x4x256, .f32⟩
  | _ => ⟨S2x512, .f32⟩

abbrev hbmTy (i : Nat) : BufTy := match i / 128 with
  | 0 => hbmTy0_0 i
  | 1 => hbmTy0_1 i
  | _ => ⟨S2x512, .f32⟩

abbrev bufTy : (tb : Table) → Fin (tcTables nBuf tb) → BufTy
  | .hbm, ⟨i, _⟩ => hbmTy i
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== ARestD.lean ====
abbrev S2x1024 : Shape := ⟨2, ![2, 1024]⟩
abbrev S2x8 : Shape := ⟨2, ![2, 8]⟩

abbrev nBuf : Space → Nat
  | .hbm => 28
  | .vmem => 28
  | .smem => 0
  | _ => 0

abbrev bufTy : (tb : Table) → Fin (tcTables nBuf tb) → BufTy
  | .hbm, ⟨0, _⟩ => ⟨S2x1024, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x1024, .f32⟩
  | .hbm, ⟨5, _⟩ => ⟨S2x8, .f32⟩
  | .hbm, ⟨6, _⟩ => ⟨S2x8, .f32⟩
  | .hbm, ⟨7, _⟩ => ⟨S2x8, .f32⟩
  | .hbm, ⟨8, _⟩ => ⟨S2x1024, .f32⟩
  | .hbm, ⟨9, _⟩ => ⟨S2x8, .f32⟩
  | .hbm, ⟨10, _⟩ => ⟨S2x8, .f32⟩
  | .hbm, ⟨11, _⟩ => ⟨S2x8, .f32⟩
  | .hbm, ⟨12, _⟩ => ⟨S2x1024, .f32⟩
  | .hbm, ⟨13, _⟩ => ⟨S2x8, .f32⟩
  | .hbm, ⟨14, _⟩ => ⟨S2x8, .f32⟩
  | .hbm, ⟨15, _⟩ => ⟨S2x8, .f32⟩
  | .hbm, ⟨16, _⟩ => ⟨S2x1024, .f32⟩
  | .hbm, ⟨17, _⟩ => ⟨S2x8, .f32⟩
  | .hbm, ⟨18, _⟩ => ⟨S2x8, .f32⟩
  | .hbm, ⟨19, _⟩ => ⟨S2x8, .f32⟩
  | .hbm, ⟨20, _⟩ => ⟨S2x1024, .f32⟩
  | .hbm, ⟨21, _⟩ => ⟨S2x8, .f32⟩
  | .hbm, ⟨22, _⟩ => ⟨S2x8, .f32⟩
  | .hbm, ⟨23, _⟩ => ⟨S2x8, .f32⟩
  | .hbm, ⟨24, _⟩ => ⟨S2x1024, .f32⟩
  | .hbm, ⟨25, _⟩ => ⟨S2x8, .f32⟩
  | .hbm, ⟨26, _⟩ => ⟨S2x8, .f32⟩
  | .hbm, ⟨27, _⟩ => ⟨S2x8, .f32⟩
  | .local _ .vmem, ⟨0, _⟩ => ⟨S2x1024, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x1024, .f32⟩
  | .local _ .vmem, ⟨5, _⟩ => ⟨S2x8, .f32⟩
  | .local _ .vmem, ⟨6, _⟩ => ⟨S2x8, .f32⟩
  | .local _ .vmem, ⟨7, _⟩ => ⟨S2x8, .f32⟩
  | .local _ .vmem, ⟨8, _⟩ => ⟨S2x1024, .f32⟩
  | .local _ .vmem, ⟨9, _⟩ => ⟨S2x8, .f32⟩
  | .local _ .vmem, ⟨10, _⟩ => ⟨S2x8, .f32⟩
  | .local _ .vmem, ⟨11, _⟩ => ⟨S2x8, .f32⟩
  | .local _ .vmem, ⟨12, _⟩ => ⟨S2x1024, .f32⟩
  | .local _ .vmem, ⟨13, _⟩ => ⟨S2x8, .f32⟩
  | .local _ .vmem, ⟨14, _⟩ => ⟨S2x8, .f32⟩
  | .local _ .vmem, ⟨15, _⟩ => ⟨S2x8, .f32⟩
  | .local _ .vmem, ⟨16, _⟩ => ⟨S2x1024, .f32⟩
  | .local _ .vmem, ⟨17, _⟩ => ⟨S2x8, .f32⟩
  | .local _ .vmem, ⟨18, _⟩ => ⟨S2x8, .f32⟩
  | .local _ .vmem, ⟨19, _⟩ => ⟨S2x8, .f32⟩
  | .local _ .vmem, ⟨20, _⟩ => ⟨S2x1024, .f32⟩
  | .local _ .vmem, ⟨21, _⟩ => ⟨S2x8, .f32⟩
  | .local _ .vmem, ⟨22, _⟩ => ⟨S2x8, .f32⟩
  | .local _ .vmem, ⟨23, _⟩ => ⟨S2x8, .f32⟩
  | .local _ .vmem, ⟨24, _⟩ => ⟨S2x1024, .f32⟩
  | .local _ .vmem, ⟨25, _⟩ => ⟨S2x8, .f32⟩
  | .local _ .vmem, ⟨26, _⟩ => ⟨S2x8, .f32⟩
  | .local _ .vmem, ⟨27, _⟩ => ⟨S2x8, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x8 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x8 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestDIdeal.lean ====
abbrev S2x1024 : Shape := ⟨2, ![2, 1024]⟩
abbrev S2x8 : Shape := ⟨2, ![2, 8]⟩

abbrev nBuf : Space → Nat
  | .hbm => 28
  | .vmem => 28
  | .smem => 0
  | _ => 0

abbrev bufTy : (tb : Table) → Fin (tcTables nBuf tb) → BufTy
  | .hbm, ⟨0, _⟩ => ⟨S2x1024, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x1024, .f32⟩
  | .hbm, ⟨5, _⟩ => ⟨S2x8, .f32⟩
  | .hbm, ⟨6, _⟩ => ⟨S2x8, .f32⟩
  | .hbm, ⟨7, _⟩ => ⟨S2x8, .f32⟩
  | .hbm, ⟨8, _⟩ => ⟨S2x1024, .f32⟩
  | .hbm, ⟨9, _⟩ => ⟨S2x8, .f32⟩
  | .hbm, ⟨10, _⟩ => ⟨S2x8, .f32⟩
  | .hbm, ⟨11, _⟩ => ⟨S2x8, .f32⟩
  | .hbm, ⟨12, _⟩ => ⟨S2x1024, .f32⟩
  | .hbm, ⟨13, _⟩ => ⟨S2x8, .f32⟩
  | .hbm, ⟨14, _⟩ => ⟨S2x8, .f32⟩
  | .hbm, ⟨15, _⟩ => ⟨S2x8, .f32⟩
  | .hbm, ⟨16, _⟩ => ⟨S2x1024, .f32⟩
  | .hbm, ⟨17, _⟩ => ⟨S2x8, .f32⟩
  | .hbm, ⟨18, _⟩ => ⟨S2x8, .f32⟩
  | .hbm, ⟨19, _⟩ => ⟨S2x8, .f32⟩
  | .hbm, ⟨20, _⟩ => ⟨S2x1024, .f32⟩
  | .hbm, ⟨21, _⟩ => ⟨S2x8, .f32⟩
  | .hbm, ⟨22, _⟩ => ⟨S2x8, .f32⟩
  | .hbm, ⟨23, _⟩ => ⟨S2x8, .f32⟩
  | .hbm, ⟨24, _⟩ => ⟨S2x1024, .f32⟩
  | .hbm, ⟨25, _⟩ => ⟨S2x8, .f32⟩
  | .hbm, ⟨26, _⟩ => ⟨S2x8, .f32⟩
  | .hbm, ⟨27, _⟩ => ⟨S2x8, .f32⟩
  | .local _ .vmem, ⟨0, _⟩ => ⟨S2x1024, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x1024, .f32⟩
  | .local _ .vmem, ⟨5, _⟩ => ⟨S2x8, .f32⟩
  | .local _ .vmem, ⟨6, _⟩ => ⟨S2x8, .f32⟩
  | .local _ .vmem, ⟨7, _⟩ => ⟨S2x8, .f32⟩
  | .local _ .vmem, ⟨8, _⟩ => ⟨S2x1024, .f32⟩
  | .local _ .vmem, ⟨9, _⟩ => ⟨S2x8, .f32⟩
  | .local _ .vmem, ⟨10, _⟩ => ⟨S2x8, .f32⟩
  | .local _ .vmem, ⟨11, _⟩ => ⟨S2x8, .f32⟩
  | .local _ .vmem, ⟨12, _⟩ => ⟨S2x1024, .f32⟩
  | .local _ .vmem, ⟨13, _⟩ => ⟨S2x8, .f32⟩
  | .local _ .vmem, ⟨14, _⟩ => ⟨S2x8, .f32⟩
  | .local _ .vmem, ⟨15, _⟩ => ⟨S2x8, .f32⟩
  | .local _ .vmem, ⟨16, _⟩ => ⟨S2x1024, .f32⟩
  | .local _ .vmem, ⟨17, _⟩ => ⟨S2x8, .f32⟩
  | .local _ .vmem, ⟨18, _⟩ => ⟨S2x8, .f32⟩
  | .local _ .vmem, ⟨19, _⟩ => ⟨S2x8, .f32⟩
  | .local _ .vmem, ⟨20, _⟩ => ⟨S2x1024, .f32⟩
  | .local _ .vmem, ⟨21, _⟩ => ⟨S2x8, .f32⟩
  | .local _ .vmem, ⟨22, _⟩ => ⟨S2x8, .f32⟩
  | .local _ .vmem, ⟨23, _⟩ => ⟨S2x8, .f32⟩
  | .local _ .vmem, ⟨24, _⟩ => ⟨S2x1024, .f32⟩
  | .local _ .vmem, ⟨25, _⟩ => ⟨S2x8, .f32⟩
  | .local _ .vmem, ⟨26, _⟩ => ⟨S2x8, .f32⟩
  | .local _ .vmem, ⟨27, _⟩ => ⟨S2x8, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x8 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x8 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x8 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x8 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestDRefIdeal.lean ====
abbrev S2x1024 : Shape := ⟨2, ![2, 1024]⟩
abbrev S2x8 : Shape := ⟨2, ![2, 8]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x1024, .f32⟩
  | 1 => ⟨S2x8, .f32⟩
  | 2 => ⟨S2x8, .f32⟩
  | 3 => ⟨S2x8, .f32⟩
  | 4 => ⟨S2x1024, .f32⟩
  | 5 => ⟨S2x8, .f32⟩
  | 6 => ⟨S2x8, .f32⟩
  | 7 => ⟨S2x8, .f32⟩
  | 8 => ⟨S2x1024, .f32⟩
  | 9 => ⟨S2x8, .f32⟩
  | 10 => ⟨S2x8, .f32⟩
  | 11 => ⟨S2x8, .f32⟩
  | 12 => ⟨S2x1024, .f32⟩
  | 13 => ⟨S2x8, .f32⟩
  | 14 => ⟨S2x8, .f32⟩
  | 15 => ⟨S2x8, .f32⟩
  | 16 => ⟨S_, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x8, .f32⟩
  | 51 => ⟨S2x8, .f32⟩
  | 52 => ⟨S_, .f32⟩
  | 53 => ⟨S2x8, .f32⟩
  | 54 => ⟨S2x8, .f32⟩
  | 55 => ⟨S2x8, .f32⟩
  | 56 => ⟨S_, .f32⟩
  | 57 => ⟨S2x8, .f32⟩
  | 58 => ⟨S2x8, .f32⟩
  | 59 => ⟨S2x8, .f32⟩
  | 60 => ⟨S_, .f32⟩
  | 61 => ⟨S2x8, .f32⟩
  | 62 => ⟨S2x8, .f32⟩
  | 63 => ⟨S2x8, .f32⟩
  | 64 => ⟨S_, .f32⟩
  | 65 => ⟨S2x8, .f32⟩
  | 66 => ⟨S2x8, .f32⟩
  | 67 => ⟨S_, .f32⟩
  | 68 => ⟨S2x8, .f32⟩
  | 69 => ⟨S2x8, .f32⟩
  | 70 => ⟨S2x8, .f32⟩
  | 71 => ⟨S_, .f32⟩
  | 72 => ⟨S2x8, .f32⟩
  | 73 => ⟨S2x8, .f32⟩
  | 74 => ⟨S2x8, .f32⟩
  | 75 => ⟨S_, .f32⟩
  | 76 => ⟨S2x8, .f32⟩
  | 77 => ⟨S2x8, .f32⟩
  | 78 => ⟨S2x8, .f32⟩
  | 79 => ⟨S_, .f32⟩
  | 80 => ⟨S2x8, .f32⟩
  | 81 => ⟨S2x8, .f32⟩
  | 82 => ⟨S_, .f32⟩
  | 83 => ⟨S2x8, .f32⟩
  | 84 => ⟨S2x8, .f32⟩
  | 85 => ⟨S_, .f32⟩
  | 86 => ⟨S2x8, .f32⟩
  | 87 => ⟨S2x8, .f32⟩
  | 88 => ⟨S2x8, .f32⟩
  | 89 => ⟨S_, .f32⟩
  | 90 => ⟨S2x8, .f32⟩
  | 91 => ⟨S2x8, .f32⟩
  | 92 => ⟨S2x8, .f32⟩
  | 93 => ⟨S_, .f32⟩
  | 94 => ⟨S2x8, .f32⟩
  | 95 => ⟨S2x8, .f32⟩
  | 96 => ⟨S2x8, .f32⟩
  | 97 => ⟨S_, .f32⟩
  | 98 => ⟨S2x8, .f32⟩
  | 99 => ⟨S2x8, .f32⟩
  | 100 => ⟨S_, .f32⟩
  | 101 => ⟨S2x8, .f32⟩
  | 102 => ⟨S2x8, .f32⟩
  | 103 => ⟨S2x8, .f32⟩
  | 104 => ⟨S_, .f32⟩
  | 105 => ⟨S2x8, .f32⟩
  | 106 => ⟨S2x8, .f32⟩
  | 107 => ⟨S2x8, .f32⟩
  | 108 => ⟨S_, .f32⟩
  | 109 => ⟨S2x8, .f32⟩
  | 110 => ⟨S2x8, .f32⟩
  | 111 => ⟨S2x8, .f32⟩
  | 112 => ⟨S_, .f32⟩
  | 113 => ⟨S2x8, .f32⟩
  | 114 => ⟨S2x8, .f32⟩
  | 115 => ⟨S_, .f32⟩
  | 116 => ⟨S2x8, .f32⟩
  | 117 => ⟨S2x8, .f32⟩
  | 118 => ⟨S_, .f32⟩
  | 119 => ⟨S2x8, .f32⟩
  | 120 => ⟨S2x8, .f32⟩
  | 121 => ⟨S2x8, .f32⟩
  | 122 => ⟨S_, .f32⟩
  | 123 => ⟨S2x8, .f32⟩
  | 124 => ⟨S2x8, .f32⟩
  | 125 => ⟨S2x8, .f32⟩
  | 126 => ⟨S_, .f32⟩
  | 127 => ⟨S2x8, .f32⟩
  | _ => ⟨S2x1024, .f32⟩

abbrev hbmTy0_1 (i : Nat) : BufTy := match i % 128 with
  | 0 => ⟨S2x8, .f32⟩
  | 1 => ⟨S2x8, .f32⟩
  | 2 => ⟨S_, .f32⟩
  | 3 => ⟨S2x8, .f32⟩
  | 4 => ⟨S2x8, .f32⟩
  | 5 => ⟨S_, .f32⟩
  | 6 => ⟨S2x8, .f32⟩
  | 7 => ⟨S2x8, .f32⟩
  | 8 => ⟨S2x8, .f32⟩
  | 9 => ⟨S_, .f32⟩
  | 10 => ⟨S2x8, .f32⟩
  | 11 => ⟨S2x8, .f32⟩
  | 12 => ⟨S2x8, .f32⟩
  | 13 => ⟨S_, .f32⟩
  | 14 => ⟨S2x8, .f32⟩
  | 15 => ⟨S2x8, .f32⟩
  | 16 => ⟨S2x8, .f32⟩
  | 17 => ⟨S_, .f32⟩
  | 18 => ⟨S2x8, .f32⟩
  | 19 => ⟨S2x8, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== ARestE.lean ====
abbrev S2x512 : Shape := ⟨2, ![2, 512]⟩
abbrev S2x3x128 : Shape := ⟨3, ![2, 3, 128]⟩
abbrev S2x4x256 : Shape := ⟨3, ![2, 4, 256]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S2x512, .f32⟩
  | .hbm, ⟨1, _⟩ => ⟨S2x3x128, .f32⟩
  | .hbm, ⟨2, _⟩ => ⟨S2x4x256, .f32⟩
  | .hbm, ⟨3, _⟩ => ⟨S1x1024, .f32⟩
  | .hbm, ⟨4, _⟩ => ⟨S2x512, .f32⟩
  | .hbm, ⟨5, _⟩ => ⟨S2x3x128, .f32⟩
  | .hbm, ⟨6, _⟩ => ⟨S2x4x256, .f32⟩
  | .hbm, ⟨7, _⟩ => ⟨S1x1024, .f32⟩
  | .hbm, ⟨8, _⟩ => ⟨S2x512, .f32⟩
  | .hbm, ⟨9, _⟩ => ⟨S2x3x128, .f32⟩
  | .hbm, ⟨10, _⟩ => ⟨S2x4x256, .f32⟩
  | .hbm, ⟨11, _⟩ => ⟨S1x1024, .f32⟩
  | .hbm, ⟨12, _⟩ => ⟨S2x512, .f32⟩
  | .hbm, ⟨13, _⟩ => ⟨S2x3x128, .f32⟩
  | .hbm, ⟨14, _⟩ => ⟨S2x4x256, .f32⟩
  | .hbm, ⟨15, _⟩ => ⟨S1x1024, .f32⟩
  | .hbm, ⟨16, _⟩ => ⟨S2x512, .f32⟩
  | .hbm, ⟨17, _⟩ => ⟨S2x3x128, .f32⟩
  | .hbm, ⟨18, _⟩ => ⟨S2x4x256, .f32⟩
  | .hbm, ⟨19, _⟩ => ⟨S1x1024, .f32⟩
  | .hbm, ⟨20, _⟩ => ⟨S2x512, .f32⟩
  | .hbm, ⟨21, _⟩ => ⟨S2x3x128, .f32⟩
  | .hbm, ⟨22, _⟩ => ⟨S2x4x256, .f32⟩
  | .hbm, ⟨23, _⟩ => ⟨S1x1024, .f32⟩
  | .hbm, ⟨24, _⟩ => ⟨S2x512, .f32⟩
  | .hbm, ⟨25, _⟩ => ⟨S2x3x128, .f32⟩
  | .hbm, ⟨26, _⟩ => ⟨S2x4x256, .f32⟩
  | .hbm, ⟨27, _⟩ => ⟨S1x1024, .f32⟩
  | .local _ .vmem, ⟨0, _⟩ => ⟨S2x512, .f32⟩
  | .local _ .vmem, ⟨1, _⟩ => ⟨S2x3x128, .f32⟩
  | .local _ .vmem, ⟨2, _⟩ => ⟨S2x4x256, .f32⟩
  | .local _ .vmem, ⟨3, _⟩ => ⟨S1x1024, .f32⟩
  | .local _ .vmem, ⟨4, _⟩ => ⟨S2x512, .f32⟩
  | .local _ .vmem, ⟨5, _⟩ => ⟨S2x3x128, .f32⟩
  | .local _ .vmem, ⟨6, _⟩ => ⟨S2x4x256, .f32⟩
  | .local _ .vmem, ⟨7, _⟩ => ⟨S1x1024, .f32⟩
  | .local _ .vmem, ⟨8, _⟩ => ⟨S2x512, .f32⟩
  | .local _ .vmem, ⟨9, _⟩ => ⟨S2x3x128, .f32⟩
  | .local _ .vmem, ⟨10, _⟩ => ⟨S2x4x256, .f32⟩
  | .local _ .vmem, ⟨11, _⟩ => ⟨S1x1024, .f32⟩
  | .local _ .vmem, ⟨12, _⟩ => ⟨S2x512, .f32⟩
  | .local _ .vmem, ⟨13, _⟩ => ⟨S2x3x128, .f32⟩
  | .local _ .vmem, ⟨14, _⟩ => ⟨S2x4x256, .f32⟩
  | .local _ .vmem, ⟨15, _⟩ => ⟨S1x1024, .f32⟩
  | .local _ .vmem, ⟨16, _⟩ => ⟨S2x512, .f32⟩
  | .local _ .vmem, ⟨17, _⟩ => ⟨S2x3x128, .f32⟩
  | .local _ .vmem, ⟨18, _⟩ => ⟨S2x4x256, .f32⟩
  | .local _ .vmem, ⟨19, _⟩ => ⟨S1x1024, .f32⟩
  | .local _ .vmem, ⟨20, _⟩ => ⟨S2x512, .f32⟩
  | .local _ .vmem, ⟨21, _⟩ => ⟨S2x3x128, .f32⟩
  | .local _ .vmem, ⟨22, _⟩ => ⟨S2x4x256, .f32⟩
  | .local _ .vmem, ⟨23, _⟩ => ⟨S1x1024, .f32⟩
  | .local _ .vmem, ⟨24, _⟩ => ⟨S2x512, .f32⟩
  | .local _ .vmem, ⟨25, _⟩ => ⟨S2x3x128, .f32⟩
  | .local _ .vmem, ⟨26, _⟩ => ⟨S2x4x256, .f32⟩
  | .local _ .vmem, ⟨27, _⟩ => ⟨S1x1024, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x3x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x4x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x3x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x4x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== ARestERefIdeal.lean ====
abbrev S2x512 : Shape := ⟨2, ![2, 512]⟩
abbrev S2x3x128 : Shape := ⟨3, ![2, 3, 128]⟩
abbrev S2x4x256 : Shape := ⟨3, ![2, 4, 256]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x512, .f32⟩
  | 1 => ⟨S2x3x128, .f32⟩
  | 2 => ⟨S2x4x256, .f32⟩
  | 3 => ⟨S1x1024, .f32⟩
  | 4 => ⟨S2x512, .f32⟩
  | 5 => ⟨S2x3x128, .f32⟩
  | 6 => ⟨S2x4x256, .f32⟩
  | 7 => ⟨S1x1024, .f32⟩
  | 8 => ⟨S2x512, .f32⟩
  | 9 => ⟨S2x3x128, .f32⟩
  | 10 => ⟨S2x4x256, .f32⟩
  | 11 => ⟨S1x1024, .f32⟩
  | 12 => ⟨S2x512, .f32⟩
  | 13 => ⟨S2x3x128, .f32⟩
  | 14 => ⟨S2x4x256, .f32⟩
  | 15 => ⟨S1x1024, .f32⟩
  | 16 => ⟨S_, .f32⟩
  | 17 => ⟨S2x512, .f32⟩
  | 18 => ⟨S2x512, .f32⟩
  | 19 => ⟨S_, .f32⟩
  | 20 => ⟨S2x512, .f32⟩
  | 21 => ⟨S2x512, .f32⟩
  | 22 => ⟨S2x512, .f32⟩
  | 23 => ⟨S_, .f32⟩
  | 24 => ⟨S2x512, .f32⟩
  | 25 => ⟨S2x512, .f32⟩
  | 26 => ⟨S2x512, .f32⟩
  | 27 => ⟨S_, .f32⟩
  | 28 => ⟨S2x512, .f32⟩
  | 29 => ⟨S2x512, .f32⟩
  | 30 => ⟨S2x512, .f32⟩
  | 31 => ⟨S_, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S2x512, .f32⟩
  | 38 => ⟨S_, .f32⟩
  | 39 => ⟨S2x512, .f32⟩
  | 40 => ⟨S2x512, .f32⟩
  | 41 => ⟨S2x512, .f32⟩
  | 42 => ⟨S_, .f32⟩
  | 43 => ⟨S2x512, .f32⟩
  | 44 => ⟨S2x512, .f32⟩
  | 45 => ⟨S2x512, .f32⟩
  | 46 => ⟨S_, .f32⟩
  | 47 => ⟨S2x512, .f32⟩
  | 48 => ⟨S2x512, .f32⟩
  | 49 => ⟨S_, .f32⟩
  | 50 => ⟨S2x3x128, .f32⟩
  | 51 => ⟨S2x3x128, .f32⟩
  | 52 => ⟨S_, .f32⟩
  | 53 => ⟨S2x3x128, .f32⟩
  | 54 => ⟨S2x3x128, .f32⟩
  | 55 => ⟨S2x3x128, .f32⟩
  | 56 => ⟨S_, .f32⟩
  | 57 => ⟨S2x3x128, .f32⟩
  | 58 => ⟨S2x3x128, .f32⟩
  | 59 => ⟨S2x3x128, .f32⟩
  | 60 => ⟨S_, .f32⟩
  | 61 => ⟨S2x3x128, .f32⟩
  | 62 => ⟨S2x3x128, .f32⟩
  | 63 => ⟨S2x3x128, .f32⟩
  | 64 => ⟨S_, .f32⟩
  | 65 => ⟨S2x3x128, .f32⟩
  | 66 => ⟨S2x3x128, .f32⟩
  | 67 => ⟨S_, .f32⟩
  | 68 => ⟨S2x3x128, .f32⟩
  | 69 => ⟨S2x3x128, .f32⟩
  | 70 => ⟨S2x3x128, .f32⟩
  | 71 => ⟨S_, .f32⟩
  | 72 => ⟨S2x3x128, .f32⟩
  | 73 => ⟨S2x3x128, .f32⟩
  | 74 => ⟨S2x3x128, .f32⟩
  | 75 => ⟨S_, .f32⟩
  | 76 => ⟨S2x3x128, .f32⟩
  | 77 => ⟨S2x3x128, .f32⟩
  | 78 => ⟨S2x3x128, .f32⟩
  | 79 => ⟨S_, .f32⟩
  | 80 => ⟨S2x3x128, .f32⟩
  | 81 => ⟨S2x3x128, .f32⟩
  | 82 => ⟨S_, .f32⟩
  | 83 => ⟨S2x4x256, .f32⟩
  | 84 => ⟨S2x4x256, .f32⟩
  | 85 => ⟨S_, .f32⟩
  | 86 => ⟨S2x4x256, .f32⟩
  | 87 => ⟨S2x4x256, .f32⟩
  | 88 => ⟨S2x4x256, .f32⟩
  | 89 => ⟨S_, .f32⟩
  | 90 => ⟨S2x4x256, .f32⟩
  | 91 => ⟨S2x4x256, .f32⟩
  | 92 => ⟨S2x4x256, .f32⟩
  | 93 => ⟨S_, .f32⟩
  | 94 => ⟨S2x4x256, .f32⟩
  | 95 => ⟨S2x4x256, .f32⟩
  | 96 => ⟨S2x4x256, .f32⟩
  | 97 => ⟨S_, .f32⟩
  | 98 => ⟨S2x4x256, .f32⟩
  | 99 => ⟨S2x4x256, .f32⟩
  | 100 => ⟨S_, .f32⟩
  | 101 => ⟨S2x4x256, .f32⟩
  | 102 => ⟨S2x4x256, .f32⟩
  | 103 => ⟨S2x4x256, .f32⟩
  | 104 => ⟨S_, .f32⟩
  | 105 => ⟨S2x4x256, .f32⟩
  | 106 => ⟨S2x4x256, .f32⟩
  | 107 => ⟨S2x4x256, .f32⟩
  | 108 => ⟨S_, .f32⟩
  | 109 => ⟨S2x4x256, .f32⟩
  | 110 => ⟨S2x4x256, .f32⟩
  | 111 => ⟨S2x4x256, .f32⟩
  | 112 => ⟨S_, .f32⟩
  | 113 => ⟨S2x4x256, .f32⟩
  | 114 => ⟨S2x4x256, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S2x512, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S2x512, .f32⟩

abbrev hbmTy (i : Nat) : BufTy := match i / 128 with
  | 0 => hbmTy0_0 i
  | 1 => hbmTy0_1 i
  | _ => ⟨S2x512, .f32⟩

abbrev bufTy : (tb : Table) → Fin (tcTables nBuf tb) → BufTy
  | .hbm, ⟨i, _⟩ => hbmTy i
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.MixBwd.lean ====
module
public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Claim
@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pipeline (Dat)
open Cert.ReferenceIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 2] ∧ win0_3.index t = ![t.val, 3]
  ∧ win0_4.index t = ![2, 0] ∧ win0_5.index t = ![3, 0] ∧ win0_6.index t = ![2, 0, 0] ∧ win0_7.index t = ![3, 0, 0] ∧ win0_8.index t = ![t.val, 0]
  ∧ win0_9.index t = ![t.val, 0] ∧ win0_10.index t = ![t.val, 0] ∧ win0_11.index t = ![t.val, 1] := (by decide +kernel : ∀ t : Fin grid0.N, _)

/-- The staged block of the logits of window 2: rows `256 t …` and columns `2048 …` of the projection. -/
theorem logits2_at (c : Dev nD) (t : Fin cfg0.N) (y : S256x1024.Idx) :
    X0_2 m c t y = m ((c : Thread nD τ).loc main_arg2)
      (ix2 ⟨t.val * 256 + (y 0).val, by have := lt_of_lt_of_eq t.isLt N_0; have := (y 0).isLt; simp at this; omega⟩
        ⟨2048 + (y 1).val, by have := (y 1).isLt; simp at this; omega⟩) := by
  unfold X0_2 Pipeline.Window.fill
  rw [dif_pos (moved0_2 t _)]
  blk_point [iblk, V, idx t]

/-- The staged bias row of window 6: row 2 of the merge bias. -/
theorem bias6_at (c : Dev nD) (t : Fin cfg0.N) (y : S1x1x1024.Idx) :
    iblk m c 6 t y = m ((c : Thread nD τ).loc main_arg4) (ix2 2 ⟨(y 2).val, by have := (y 2).isLt; simp at this; omega⟩) := by
  blk_simp [iblk, V, idx t]
  entry_read
  pointwise []
  blk_ext [idx t]

/-- The staged block of the logits of window 3: rows `256 t …` and columns `3072 …` of the projection. -/
theorem logits3_at (c : Dev nD) (t : Fin cfg0.N) (y : S256x1024.Idx) :
    X0_3 m c t y = m ((c : Thread nD τ).loc main_arg2)
      (ix2 ⟨t.val * 256 + (y 0).val, by have := lt_of_lt_of_eq t.isLt N_0; have := (y 0).isLt; simp at this; omega⟩
        ⟨3072 + (y 1).val, by have := (y 1).isLt; simp at this; omega⟩) := by
  unfold X0_3 Pipeline.Window.fill
  rw [dif_pos (moved0_3 t _)]
  blk_point [iblk, V, idx t]

/-- The staged bias row of window 7: row 3 of the merge bias. -/
theorem bias7_at (c : Dev nD) (t : Fin cfg0.N) (y : S1x1x1024.Idx) :
    iblk m c 7 t y = m ((c : Thread nD τ).loc main_arg4) (ix2 3 ⟨(y 2).val, by have := (y 2).isLt; simp at this; omega⟩) := by
  blk_simp [iblk, V, idx t]
  entry_read
  pointwise []
  blk_ext [idx t]

/-- The reference's result 0 as a function of the arguments. -/
abbrev dyC (c : Dev nD) : FVec Ideal S2048x512 .f32 := val_main_v39 (F := Ideal) (m ((c : Thread nD τ).loc main_arg2)) (m ((c : Thread nD τ).loc main_arg3)) (m ((c : Thread nD τ).loc main_arg4)) (m ((c : Thread nD τ).loc main_arg5))

/-- The reference's result 1 as a function of the arguments. -/
abbrev dyD (c : Dev nD) : FVec Ideal S2048x512 .f32 := val_main_v41 (F := Ideal) (m ((c : Thread nD τ).loc main_arg2)) (m ((c : Thread nD τ).loc main_arg3)) (m ((c : Thread nD τ).loc main_arg4)) (m ((c : Thread nD τ).loc main_arg5))

/-- The reference's result 2 as a function of the arguments. -/
abbrev dProj (c : Dev nD) : FVec Ideal S2048x10240 .bf16 := val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's result 3 as a function of the arguments. -/
abbrev dwC (c : Dev nD) : FVec Ideal S512x1024 .f32 := val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg5))

/-- The reference's result 4 as a function of the arguments. -/
abbrev dwD (c : Dev nD) : FVec Ideal S512x1024 .f32 := val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5))

/-- The reference's result 5 as a function of the arguments. -/
abbrev dbC (c : Dev nD) : FVec Ideal S1x1024 .f32 := val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's result 6 as a function of the arguments. -/
abbrev dbD (c : Dev nD) : FVec Ideal S1x1024 .f32 := val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem dyC_point (c : Dev nD) (t : Fin cfg0.N) (y : S256x512.Idx) (j : S2048x512.Idx)
    (h0 : (j 0 : ℕ) = t.val * 256 + y 0) (h1 : (j 1 : ℕ) = y 1) :
    k0_pay19 (iblk m c 4 t) (k0_pay4 (X0_2 m c t) (iblk m c 6 t)) (k0_pay9 (iblk m c 8 t)) y = dyC m c j := by
  pointwise [k0_pay19, k0_pay18, k0_pay4, k0_pay9, dyC, val_main_v39, val_main_v38, val_main_v35, val_main_v34, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v2, val_main_v1, val_main_v0]
  refine Fin.sum_fin_congr fun s => ?_
  simp only [logits2_at, logits3_at, bias6_at, bias7_at]
  unfold Ideal.logistic
  blk_point [iblk, V, idx t]

theorem dyC_final (c : Dev nD) : (dats m 0 c).arrAt 9 cfg0.N = dyC m c := by
  refine (dats m 0 c).arrAt_eq_of_covers 9 _ (by decide +kernel) fun t hf y => ?_
  have ht8 : t.val < 8 := lt_of_lt_of_eq t.isLt N_0
  blk_simp
  rw [after0_9]
  by_cases h : t.val % 8 = 0
  · rw [outsAt0_A m c t h (by omega) h (by omega) h (by omega) h (by omega)]
    dsimp only
    frame_out
    exact dyC_point m c t y _ (by blk_simp [idx t]) (by blk_simp [idx t])
  · rw [outsAt0_B m c t h (by omega) h (by omega) h (by omega) h (by omega)]
    dsimp only
    frame_out
    exact dyC_point m c t y _ (by blk_simp [idx t]) (by blk_simp [idx t])

theorem dyD_point (c : Dev nD) (t : Fin cfg0.N) (y : S256x512.Idx) (j : S2048x512.Idx)
    (h0 : (j 0 : ℕ) = t.val * 256 + y 0) (h1 : (j 1 : ℕ) = y 1) :
    k0_pay13 (X0_3 m c t) (iblk m c 5 t) (iblk m c 7 t) (iblk m c 8 t) y = dyD m c j := by
  pointwise [k0_pay13, k0_pay11, k0_pay10, k0_pay7, dyD, val_main_v41, val_main_v40, val_main_v35, val_main_v34, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v2, val_main_v1, val_main_v0]
  refine Fin.sum_fin_congr fun s => ?_
  simp only [logits2_at, logits3_at, bias6_at, bias7_at]
  unfold Ideal.logistic
  blk_point [iblk, V, idx t]

theorem dyD_final (c : Dev nD) : (dats m 0 c).arrAt 10 cfg0.N = dyD m c := by
  refine (dats m 0 c).arrAt_eq_of_covers 10 _ (by decide +kernel) fun t hf y => ?_
  have ht8 : t.val < 8 := lt_of_lt_of_eq t.isLt N_0
  blk_simp
  rw [after0_10]
  by_cases h : t.val % 8 = 0
  · rw [outsAt0_A m c t h (by omega) h (by omega) h (by omega) h (by omega)]
    dsimp only
    frame_out
    exact dyD_point m c t y _ (by blk_simp [idx t]) (by blk_simp [idx t])
  · rw [outsAt0_B m c t h (by omega) h (by omega) h (by omega) h (by omega)]
    dsimp only
    frame_out
    exact dyD_point m c t y _ (by blk_simp [idx t]) (by blk_simp [idx t])

theorem dwC_acc (c : Dev nD) (j : S512x1024.Idx) :
    (∑ t : Fin cfg0.N, (k0_pay20 (iblk m c 0 t) (k0_pay4 (X0_2 m c t) (iblk m c 6 t)) (k0_pay9 (iblk m c 8 t)) j : EReal)) = dwC m c j := by
  pointwise [k0_pay20, k0_pay18, k0_pay4, k0_pay9, dwC, val_main_v47, val_main_v46, val_main_v37, val_main_v36, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v7, val_main_v5, val_main_v6]

  refine Fin.sum_mul_add_congr fun t s hl => ?_
  simp only [logits2_at, logits3_at, bias6_at, bias7_at]
  unfold Ideal.logistic
  blk_point [iblk, V, idx t]

theorem dwC_final (c : Dev nD) : (dats m 0 c).arrAt 12 cfg0.N = dwC m c := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => (0 : EReal))
    (fun t j => k0_pay20 (iblk m c 0 t) (k0_pay4 (X0_2 m c t) (iblk m c 6 t)) (k0_pay9 (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay25]
      )
    (le_of_eq N_0) t0_7 rfl j, zero_add]
  exact dwC_acc m c j

theorem dwD_acc (c : Dev nD) (j : S512x1024.Idx) :
    (∑ t : Fin cfg0.N, (k0_pay15 (k0_pay11 (X0_3 m c t) (iblk m c 7 t) (iblk m c 8 t)) (k0_pay14 (iblk m c 1 t)) j : EReal)) = dwD m c j := by
  pointwise [k0_pay15, k0_pay14, k0_pay11, k0_pay10, k0_pay7, dwD, val_main_v49, val_main_v48, val_main_v37, val_main_v36, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v7, val_main_v5, val_main_v6]

  refine Fin.sum_mul_add_congr fun t s hl => ?_
  simp only [logits2_at, logits3_at, bias6_at, bias7_at]
  unfold Ideal.logistic
  blk_point [iblk, V, idx t]

theorem dwD_final (c : Dev nD) : (dats m 0 c).arrAt 13 cfg0.N = dwD m c := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => (0 : EReal))
    (fun t j => k0_pay15 (k0_pay11 (X0_3 m c t) (iblk m c 7 t) (iblk m c 8 t)) (k0_pay14 (iblk m c 1 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay1]
      )
    (le_of_eq N_0) t0_7 rfl j, zero_add]
  exact dwD_acc m c j

theorem dbC_acc (c : Dev nD) (j : S1x1024.Idx) :
    (∑ t : Fin cfg0.N, (k0_pay22 (k0_pay5 (X0_2 m c t) (iblk m c 6 t)) (k0_pay6 (iblk m c 0 t) (iblk m c 4 t)) (k0_pay9 (iblk m c 8 t)) j : EReal)) = dbC m c j := by
  pointwise [k0_pay22, k0_pay21, k0_pay5, k0_pay4, k0_pay6, k0_pay9, dbC, val_main_v50, val_main_v31, val_main_v30, val_main_v29, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_cst_3, val_main_cst_4]
  refine Eq.trans ?_ (Fin.sum_univ_one _).symm
  refine Fin.sum_mul_add_congr fun t s hl => ?_
  simp only [logits2_at, logits3_at, bias6_at, bias7_at]
  unfold Ideal.logistic
  refine congrArg₂ (HMul.hMul (α := EReal) (β := EReal)) (congrArg₂ (HMul.hMul (α := EReal) (β := EReal)) ?_ (Fin.sum_fin_congr fun q => (mul_comm (G := EReal) _ _).trans ?_)) ?_
  all_goals blk_point [iblk, V, idx t]

theorem dbC_final (c : Dev nD) : (dats m 0 c).arrAt 14 cfg0.N = dbC m c := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.1) 8 (fun _ => (0 : EReal))
    (fun t j => k0_pay22 (k0_pay5 (X0_2 m c t) (iblk m c 6 t)) (k0_pay6 (iblk m c 0 t) (iblk m c 4 t)) (k0_pay9 (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay2]
      )
    (le_of_eq N_0) t0_7 rfl j, zero_add]
  exact dbC_acc m c j

theorem dbD_acc (c : Dev nD) (j : S1x1024.Idx) :
    (∑ t : Fin cfg0.N, (k0_pay17 (k0_pay8 (X0_3 m c t) (iblk m c 7 t)) (k0_pay12 (iblk m c 1 t) (iblk m c 5 t) (iblk m c 8 t)) j : EReal)) = dbD m c j := by
  pointwise [k0_pay17, k0_pay16, k0_pay8, k0_pay7, k0_pay12, k0_pay10, dbD, val_main_v51, val_main_v31, val_main_v30, val_main_v29, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_cst_3, val_main_cst_4]
  refine Eq.trans ?_ (Fin.sum_univ_one _).symm
  refine Fin.sum_mul_add_congr fun t s hl => ?_
  simp only [logits2_at, logits3_at, bias6_at, bias7_at]
  unfold Ideal.logistic
  refine congrArg₂ (HMul.hMul (α := EReal) (β := EReal)) (congrArg₂ (HMul.hMul (α := EReal) (β := EReal)) ?_ (Fin.sum_fin_congr fun q => (mul_comm (G := EReal) _ _).trans ?_)) ?_
  all_goals blk_point [iblk, V, idx t]

theorem dbD_final (c : Dev nD) : (dats m 0 c).arrAt 15 cfg0.N = dbD m c := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.2) 8 (fun _ => (0 : EReal))
    (fun t j => k0_pay17 (k0_pay8 (X0_3 m c t) (iblk m c 7 t)) (k0_pay12 (iblk m c 1 t) (iblk m c 5 t) (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay3]
      )
    (le_of_eq N_0) t0_7 rfl j, zero_add]
  exact dbD_acc m c j

theorem dProj_pointa (c : Dev nD) (t : Fin cfg0.N) (y : S256x1024.Idx) (j : S2048x10240.Idx)
    (h0 : (j 0 : ℕ) = t.val * 256 + y 0) (h1 : (j 1 : ℕ) = 2048 + y 1) :
    k0_pay23 (k0_pay5 (X0_2 m c t) (iblk m c 6 t)) (k0_pay6 (iblk m c 0 t) (iblk m c 4 t)) (k0_pay9 (iblk m c 8 t)) y = dProj m c j := by
  have hy := (y 1).isLt
  simp at hy
  pointwise [k0_pay23, k0_pay21, k0_pay5, k0_pay4, k0_pay6, k0_pay9, dProj, val_main_v45, val_main_v42, val_main_v43, val_main_v32, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_v44]
  simp only [logits2_at, logits3_at, bias6_at, bias7_at]
  unfold Ideal.logistic
  rw [dif_neg (by omega), dif_pos (by omega)]
  refine congrArg₂ (HMul.hMul (α := EReal) (β := EReal)) (congrArg₂ (HMul.hMul (α := EReal) (β := EReal)) ?_ (Fin.sum_fin_congr fun q => (mul_comm (G := EReal) _ _).trans ?_)) ?_
  all_goals (blk_point [iblk, V, idx t] <;> (exfalso; omega))

theorem dProj_pointb (c : Dev nD) (t : Fin cfg0.N) (y : S256x1024.Idx) (j : S2048x10240.Idx)
    (h0 : (j 0 : ℕ) = t.val * 256 + y 0) (h1 : (j 1 : ℕ) = 3072 + y 1) :
    k0_pay24 (k0_pay8 (X0_3 m c t) (iblk m c 7 t)) (k0_pay12 (iblk m c 1 t) (iblk m c 5 t) (iblk m c 8 t)) y = dProj m c j := by
  have hy := (y 1).isLt
  simp at hy
  pointwise [k0_pay24, k0_pay16, k0_pay8, k0_pay7, k0_pay12, k0_pay10, dProj, val_main_v45, val_main_v42, val_main_v43, val_main_v32, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_v44]
  simp only [logits2_at, logits3_at, bias6_at, bias7_at]
  unfold Ideal.logistic
  rw [dif_neg (by omega), dif_pos (by omega)]
  refine congrArg₂ (HMul.hMul (α := EReal) (β := EReal)) (congrArg₂ (HMul.hMul (α := EReal) (β := EReal)) ?_ (Fin.sum_fin_congr fun q => (mul_comm (G := EReal) _ _).trans ?_)) ?_
  all_goals (blk_point [iblk, V, idx t] <;> (exfalso; omega))

theorem dProj_final (c : Dev nD) : (dats m 0 c).arrAt 11 cfg0.N = dProj m c := by
  refine (dats m 0 c).arrAt_eq_of_coversWhere_of_agree 11 _ (fun β => β 1 = 1) (by decide +kernel) (fun t hf y => ?_) (fun j hj => ?_)
  · have ht8 : t.val < 8 := lt_of_lt_of_eq t.isLt N_0
    blk_simp
    rw [after0_11]
    have key : (outsAt0 m c t.val t.isLt).2.2.1 y = dProj m c (((cfg0.win 11).blk t).view.emb y) := by
      by_cases h : t.val % 8 = 0
      · rw [outsAt0_A m c t h (by omega) h (by omega) h (by omega) h (by omega)]
        dsimp only
        frame_out
        canon_tiles x hx
        · exact dProj_pointb m c t x _ (by blk_simp [idx t]; omega) (by blk_simp [idx t]; omega)
        · exact dProj_pointa m c t x _ (by blk_simp [idx t]; omega) (by blk_simp [idx t]; omega)
      · rw [outsAt0_B m c t h (by omega) h (by omega) h (by omega) h (by omega)]
        dsimp only
        frame_out
        canon_tiles x hx
        · exact dProj_pointb m c t x _ (by blk_simp [idx t]; omega) (by blk_simp [idx t]; omega)
        · exact dProj_pointa m c t x _ (by blk_simp [idx t]; omega) (by blk_simp [idx t]; omega)
    exact key
  · blk_simp [Pipeline.Window.cell_apply] at hj
    blk_simp
    have hb := (j 1).isLt
    simp at hb
    rw [A_eq]
    entry_read
    pointwise [dProj, val_main_v45, val_main_v42, val_main_v43, val_main_v32, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_v44]
    by_cases h : (j 1 : ℕ) < 2048
    · rw [dif_pos h]
    · rw [dif_neg h, dif_neg (by omega)]
      blk_ext []

end Cert.KernelIdeal.Mix
-- ==== Proof.MixBwdFst.lean ====
module
public import proofs.«01_k».proof.Proof.Gen.Mix0Ideal.Value
public import proofs.«01_k».proof.Proof.Gen.Mix0RefIdeal.Read
public import Idealize.ShloMosaic.Lib.Pointwise
public import Idealize.ShloMosaic.Lib.Pipeline.ValueKit
public import Idealize.ShloMosaic.Lib.Claim
@[expose] public section
set_option maxRecDepth 16384
noncomputable section
namespace Cert.Mix0Ideal.Mix
open Cert.Mix0Ideal Cert.Mix0Ideal.Gen Idealize.ShloMosaic Idealize.ShloMosaic.TcCoe Idealize.SL.Sem
open Idealize.ShloMosaic.Pipeline (Dat)
open Cert.Mix0RefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 1]
  ∧ win0_4.index t = ![0, 0] ∧ win0_5.index t = ![1, 0] ∧ win0_6.index t = ![0, 0, 0] ∧ win0_7.index t = ![1, 0, 0] ∧ win0_8.index t = ![t.val, 0]
  ∧ win0_9.index t = ![t.val, 0] ∧ win0_10.index t = ![t.val, 0] ∧ win0_11.index t = ![t.val, 0] := (by decide +kernel : ∀ t : Fin grid0.N, _)

/-- The staged block of the logits of window 2: rows `256 t …` and columns `0 …` of the projection. -/
theorem logits2_at (c : Dev nD) (t : Fin cfg0.N) (y : S256x1024.Idx) :
    X0_2 m c t y = m ((c : Thread nD τ).loc main_arg2)
      (ix2 ⟨t.val * 256 + (y 0).val, by have := lt_of_lt_of_eq t.isLt N_0; have := (y 0).isLt; simp at this; omega⟩
        ⟨0 + (y 1).val, by have := (y 1).isLt; simp at this; omega⟩) := by
  unfold X0_2 Pipeline.Window.fill
  rw [dif_pos (moved0_2 t _)]
  blk_point [iblk, V, idx t]

/-- The staged bias row of window 6: row 0 of the merge bias. -/
theorem bias6_at (c : Dev nD) (t : Fin cfg0.N) (y : S1x1x1024.Idx) :
    iblk m c 6 t y = m ((c : Thread nD τ).loc main_arg4) (ix2 0 ⟨(y 2).val, by have := (y 2).isLt; simp at this; omega⟩) := by
  blk_simp [iblk, V, idx t]
  entry_read
  pointwise []
  blk_ext [idx t]

/-- The staged block of the logits of window 3: rows `256 t …` and columns `1024 …` of the projection. -/
theorem logits3_at (c : Dev nD) (t : Fin cfg0.N) (y : S256x1024.Idx) :
    X0_3 m c t y = m ((c : Thread nD τ).loc main_arg2)
      (ix2 ⟨t.val * 256 + (y 0).val, by have := lt_of_lt_of_eq t.isLt N_0; have := (y 0).isLt; simp at this; omega⟩
        ⟨1024 + (y 1).val, by have := (y 1).isLt; simp at this; omega⟩) := by
  unfold X0_3 Pipeline.Window.fill
  rw [dif_pos (moved0_3 t _)]
  blk_point [iblk, V, idx t]

/-- The staged bias row of window 7: row 1 of the merge bias. -/
theorem bias7_at (c : Dev nD) (t : Fin cfg0.N) (y : S1x1x1024.Idx) :
    iblk m c 7 t y = m ((c : Thread nD τ).loc main_arg4) (ix2 1 ⟨(y 2).val, by have := (y 2).isLt; simp at this; omega⟩) := by
  blk_simp [iblk, V, idx t]
  entry_read
  pointwise []
  blk_ext [idx t]

/-- The reference's result 0 as a function of the arguments. -/
abbrev dyA (c : Dev nD) : FVec Ideal S2048x512 .f32 := val_main_v39 (F := Ideal) (m ((c : Thread nD τ).loc main_arg2)) (m ((c : Thread nD τ).loc main_arg3)) (m ((c : Thread nD τ).loc main_arg4)) (m ((c : Thread nD τ).loc main_arg5))

/-- The reference's result 1 as a function of the arguments. -/
abbrev dyB (c : Dev nD) : FVec Ideal S2048x512 .f32 := val_main_v41 (F := Ideal) (m ((c : Thread nD τ).loc main_arg2)) (m ((c : Thread nD τ).loc main_arg3)) (m ((c : Thread nD τ).loc main_arg4)) (m ((c : Thread nD τ).loc main_arg5))

/-- The reference's result 2 as a function of the arguments. -/
abbrev dProj (c : Dev nD) : FVec Ideal S2048x10240 .bf16 := val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's result 3 as a function of the arguments. -/
abbrev dwA (c : Dev nD) : FVec Ideal S512x1024 .f32 := val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5))

/-- The reference's result 4 as a function of the arguments. -/
abbrev dwB (c : Dev nD) : FVec Ideal S512x1024 .f32 := val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5))

/-- The reference's result 5 as a function of the arguments. -/
abbrev dbA (c : Dev nD) : FVec Ideal S1x1024 .f32 := val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's result 6 as a function of the arguments. -/
abbrev dbB (c : Dev nD) : FVec Ideal S1x1024 .f32 := val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem dyA_point (c : Dev nD) (t : Fin cfg0.N) (y : S256x512.Idx) (j : S2048x512.Idx)
    (h0 : (j 0 : ℕ) = t.val * 256 + y 0) (h1 : (j 1 : ℕ) = y 1) :
    k0_pay19 (iblk m c 4 t) (k0_pay4 (X0_2 m c t) (iblk m c 6 t)) (k0_pay9 (iblk m c 8 t)) y = dyA m c j := by
  pointwise [k0_pay19, k0_pay18, k0_pay4, k0_pay9, dyA, val_main_v39, val_main_v38, val_main_v35, val_main_v34, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v2, val_main_v1, val_main_v0]
  refine Fin.sum_fin_congr fun s => ?_
  simp only [logits2_at, logits3_at, bias6_at, bias7_at]
  unfold Ideal.logistic
  blk_point [iblk, V, idx t]

theorem dyA_final (c : Dev nD) : (dats m 0 c).arrAt 9 cfg0.N = dyA m c := by
  refine (dats m 0 c).arrAt_eq_of_covers 9 _ (by decide +kernel) fun t hf y => ?_
  have ht8 : t.val < 8 := lt_of_lt_of_eq t.isLt N_0
  blk_simp
  rw [after0_9]
  by_cases h : t.val % 8 = 0
  · rw [outsAt0_A m c t h (by omega) h (by omega) h (by omega) h (by omega)]
    dsimp only
    frame_out
    exact dyA_point m c t y _ (by blk_simp [idx t]) (by blk_simp [idx t])
  · rw [outsAt0_B m c t h (by omega) h (by omega) h (by omega) h (by omega)]
    dsimp only
    frame_out
    exact dyA_point m c t y _ (by blk_simp [idx t]) (by blk_simp [idx t])

theorem dyB_point (c : Dev nD) (t : Fin cfg0.N) (y : S256x512.Idx) (j : S2048x512.Idx)
    (h0 : (j 0 : ℕ) = t.val * 256 + y 0) (h1 : (j 1 : ℕ) = y 1) :
    k0_pay13 (X0_3 m c t) (iblk m c 5 t) (iblk m c 7 t) (iblk m c 8 t) y = dyB m c j := by
  pointwise [k0_pay13, k0_pay11, k0_pay10, k0_pay7, dyB, val_main_v41, val_main_v40, val_main_v35, val_main_v34, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v2, val_main_v1, val_main_v0]
  refine Fin.sum_fin_congr fun s => ?_
  simp only [logits2_at, logits3_at, bias6_at, bias7_at]
  unfold Ideal.logistic
  blk_point [iblk, V, idx t]

theorem dyB_final (c : Dev nD) : (dats m 0 c).arrAt 10 cfg0.N = dyB m c := by
  refine (dats m 0 c).arrAt_eq_of_covers 10 _ (by decide +kernel) fun t hf y => ?_
  have ht8 : t.val < 8 := lt_of_lt_of_eq t.isLt N_0
  blk_simp
  rw [after0_10]
  by_cases h : t.val % 8 = 0
  · rw [outsAt0_A m c t h (by omega) h (by omega) h (by omega) h (by omega)]
    dsimp only
    frame_out
    exact dyB_point m c t y _ (by blk_simp [idx t]) (by blk_simp [idx t])
  · rw [outsAt0_B m c t h (by omega) h (by omega) h (by omega) h (by omega)]
    dsimp only
    frame_out
    exact dyB_point m c t y _ (by blk_simp [idx t]) (by blk_simp [idx t])

theorem dwA_acc (c : Dev nD) (j : S512x1024.Idx) :
    (∑ t : Fin cfg0.N, (k0_pay20 (iblk m c 0 t) (k0_pay4 (X0_2 m c t) (iblk m c 6 t)) (k0_pay9 (iblk m c 8 t)) j : EReal)) = dwA m c j := by
  pointwise [k0_pay20, k0_pay18, k0_pay4, k0_pay9, dwA, val_main_v46, val_main_v45, val_main_v37, val_main_v36, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v7, val_main_v5, val_main_v6]

  refine Fin.sum_mul_add_congr fun t s hl => ?_
  simp only [logits2_at, logits3_at, bias6_at, bias7_at]
  unfold Ideal.logistic
  blk_point [iblk, V, idx t]

theorem dwA_final (c : Dev nD) : (dats m 0 c).arrAt 12 cfg0.N = dwA m c := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => (0 : EReal))
    (fun t j => k0_pay20 (iblk m c 0 t) (k0_pay4 (X0_2 m c t) (iblk m c 6 t)) (k0_pay9 (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay25]
      )
    (le_of_eq N_0) t0_7 rfl j, zero_add]
  exact dwA_acc m c j

theorem dwB_acc (c : Dev nD) (j : S512x1024.Idx) :
    (∑ t : Fin cfg0.N, (k0_pay15 (k0_pay11 (X0_3 m c t) (iblk m c 7 t) (iblk m c 8 t)) (k0_pay14 (iblk m c 1 t)) j : EReal)) = dwB m c j := by
  pointwise [k0_pay15, k0_pay14, k0_pay11, k0_pay10, k0_pay7, dwB, val_main_v48, val_main_v47, val_main_v37, val_main_v36, val_main_v33, val_main_v26, val_main_v19, val_main_v18, val_main_cst_0, val_main_v17, val_main_v16, val_main_cst, val_main_v15, val_main_v14, val_main_v13, val_main_v10, val_main_v3, val_main_v12, val_main_v11, val_main_v4, val_main_v25, val_main_v7, val_main_v5, val_main_v6]

  refine Fin.sum_mul_add_congr fun t s hl => ?_
  simp only [logits2_at, logits3_at, bias6_at, bias7_at]
  unfold Ideal.logistic
  blk_point [iblk, V, idx t]

theorem dwB_final (c : Dev nD) : (dats m 0 c).arrAt 13 cfg0.N = dwB m c := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => (0 : EReal))
    (fun t j => k0_pay15 (k0_pay11 (X0_3 m c t) (iblk m c 7 t) (iblk m c 8 t)) (k0_pay14 (iblk m c 1 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay1]
      )
    (le_of_eq N_0) t0_7 rfl j, zero_add]
  exact dwB_acc m c j

theorem dbA_acc (c : Dev nD) (j : S1x1024.Idx) :
    (∑ t : Fin cfg0.N, (k0_pay22 (k0_pay5 (X0_2 m c t) (iblk m c 6 t)) (k0_pay6 (iblk m c 0 t) (iblk m c 4 t)) (k0_pay9 (iblk m c 8 t)) j : EReal)) = dbA m c j := by
  pointwise [k0_pay22, k0_pay21, k0_pay5, k0_pay4, k0_pay6, k0_pay9, dbA, val_main_v49, val_main_v31, val_main_v30, val_main_v29, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_cst_3, val_main_cst_4]
  refine Eq.trans ?_ (Fin.sum_univ_one _).symm
  refine Fin.sum_mul_add_congr fun t s hl => ?_
  simp only [logits2_at, logits3_at, bias6_at, bias7_at]
  unfold Ideal.logistic
  refine congrArg₂ (HMul.hMul (α := EReal) (β := EReal)) (congrArg₂ (HMul.hMul (α := EReal) (β := EReal)) ?_ (Fin.sum_fin_congr fun q => (mul_comm (G := EReal) _ _).trans ?_)) ?_
  all_goals blk_point [iblk, V, idx t]

theorem dbA_final (c : Dev nD) : (dats m 0 c).arrAt 14 cfg0.N = dbA m c := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.1) 8 (fun _ => (0 : EReal))
    (fun t j => k0_pay22 (k0_pay5 (X0_2 m c t) (iblk m c 6 t)) (k0_pay6 (iblk m c 0 t) (iblk m c 4 t)) (k0_pay9 (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay2]
      )
    (le_of_eq N_0) t0_7 rfl j, zero_add]
  exact dbA_acc m c j

theorem dbB_acc (c : Dev nD) (j : S1x1024.Idx) :
    (∑ t : Fin cfg0.N, (k0_pay17 (k0_pay8 (X0_3 m c t) (iblk m c 7 t)) (k0_pay12 (iblk m c 1 t) (iblk m c 5 t) (iblk m c 8 t)) j : EReal)) = dbB m c j := by
  pointwise [k0_pay17, k0_pay16, k0_pay8, k0_pay7, k0_pay12, k0_pay10, dbB, val_main_v50, val_main_v31, val_main_v30, val_main_v29, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_cst_3, val_main_cst_4]
  refine Eq.trans ?_ (Fin.sum_univ_one _).symm
  refine Fin.sum_mul_add_congr fun t s hl => ?_
  simp only [logits2_at, logits3_at, bias6_at, bias7_at]
  unfold Ideal.logistic
  refine congrArg₂ (HMul.hMul (α := EReal) (β := EReal)) (congrArg₂ (HMul.hMul (α := EReal) (β := EReal)) ?_ (Fin.sum_fin_congr fun q => (mul_comm (G := EReal) _ _).trans ?_)) ?_
  all_goals blk_point [iblk, V, idx t]

theorem dbB_final (c : Dev nD) : (dats m 0 c).arrAt 15 cfg0.N = dbB m c := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.2) 8 (fun _ => (0 : EReal))
    (fun t j => k0_pay17 (k0_pay8 (X0_3 m c t) (iblk m c 7 t)) (k0_pay12 (iblk m c 1 t) (iblk m c 5 t) (iblk m c 8 t)) j)
    (fun t h j => by
      have ht8 : t.val < 8 := lt_of_lt_of_eq t.isLt N_0
      rw [outsAt0_A m c t h (by omega) h (by omega) h (by omega) h (by omega)]
      dsimp only
      frame_out
      exact (zero_add _).symm)
    (fun t h j => by
      rw [outsAt0_B m c t h (by omega) h (by omega) h (by omega) h (by omega)]
      dsimp only
      frame_out
      pointwise [k0_pay3]
      )
    (le_of_eq N_0) t0_7 rfl j, zero_add]
  exact dbB_acc m c j

theorem dProj_pointa (c : Dev nD) (t : Fin cfg0.N) (y : S256x1024.Idx) (j : S2048x10240.Idx)
    (h0 : (j 0 : ℕ) = t.val * 256 + y 0) (h1 : (j 1 : ℕ) = 0 + y 1) :
    k0_pay23 (k0_pay5 (X0_2 m c t) (iblk m c 6 t)) (k0_pay6 (iblk m c 0 t) (iblk m c 4 t)) (k0_pay9 (iblk m c 8 t)) y = dProj m c j := by
  have hy := (y 1).isLt
  simp at hy
  pointwise [k0_pay23, k0_pay21, k0_pay5, k0_pay4, k0_pay6, k0_pay9, dProj, val_main_v44, val_main_v43, val_main_v32, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_v42, val_main_cst_5]
  simp only [logits2_at, logits3_at, bias6_at, bias7_at]
  unfold Ideal.logistic
  rw [dif_pos (by omega)]
  refine congrArg₂ (HMul.hMul (α := EReal) (β := EReal)) (congrArg₂ (HMul.hMul (α := EReal) (β := EReal)) ?_ (Fin.sum_fin_congr fun q => (mul_comm (G := EReal) _ _).trans ?_)) ?_
  all_goals (blk_point [iblk, V, idx t] <;> (exfalso; omega))

theorem dProj_pointb (c : Dev nD) (t : Fin cfg0.N) (y : S256x1024.Idx) (j : S2048x10240.Idx)
    (h0 : (j 0 : ℕ) = t.val * 256 + y 0) (h1 : (j 1 : ℕ) = 1024 + y 1) :
    k0_pay24 (k0_pay8 (X0_3 m c t) (iblk m c 7 t)) (k0_pay12 (iblk m c 1 t) (iblk m c 5 t) (iblk m c 8 t)) y = dProj m c j := by
  have hy := (y 1).isLt
  simp at hy
  pointwise [k0_pay24, k0_pay16, k0_pay8, k0_pay7, k0_pay12, k0_pay10, dProj, val_main_v44, val_main_v43, val_main_v32, val_main_v28, val_main_v27, val_main_v25, val_main_v9, val_main_v8, val_main_v2, val_main_v1, val_main_v0, val_main_v7, val_main_v5, val_main_v6, val_main_v22, val_main_v19, val_main_v18, val_main_cst_0, val_main_v17, val_main_v16, val_main_cst, val_main_v15, val_main_v14, val_main_v13, val_main_v10, val_main_v3, val_main_v12, val_main_v11, val_main_v4, val_main_v21, val_main_v20, val_main_cst_1, val_main_v42, val_main_cst_5]
  simp only [logits2_at, logits3_at, bias6_at, bias7_at]
  unfold Ideal.logistic
  rw [dif_pos (by omega)]
  refine congrArg₂ (HMul.hMul (α := EReal) (β := EReal)) (congrArg₂ (HMul.hMul (α := EReal) (β := EReal)) ?_ (Fin.sum_fin_congr fun q => (mul_comm (G := EReal) _ _).trans ?_)) ?_
  all_goals (blk_point [iblk, V, idx t] <;> (exfalso; omega))

/-- The first 2048 columns of the gradient of the projection are the reference's. -/
theorem dProj_final (c : Dev nD) (i : S2048x10240.Idx) (hi : (i 1 : ℕ) < 2048) :
    (dats m 0 c).arrAt 11 cfg0.N i = dProj m c i := by
  refine ((dats m 0 c).arrAt_apply_of_coversWhere 11 (dProj m c) (P := fun i => (i 1 : ℕ) < 2048) (fun β => β 1 = 0)
    (by decide +kernel) (fun t hf y => ?_) (fun j => by blk_simp [Pipeline.Window.cell_apply]; omega) i).trans (if_pos hi)
  have ht8 : t.val < 8 := lt_of_lt_of_eq t.isLt N_0
  blk_simp
  rw [after0_11]
  have key : (outsAt0 m c t.val t.isLt).2.2.1 y = dProj m c (((cfg0.win 11).blk t).view.emb y) := by
    by_cases h : t.val % 8 = 0
    · rw [outsAt0_A m c t h (by omega) h (by omega) h (by omega) h (by omega)]
      dsimp only
      frame_out
      canon_tiles x hx
      · exact dProj_pointb m c t x _ (by blk_simp [idx t]; omega) (by blk_simp [idx t]; omega)
      · exact dProj_pointa m c t x _ (by blk_simp [idx t]; omega) (by blk_simp [idx t]; omega)
    · rw [outsAt0_B m c t h (by omega) h (by omega) h (by omega) h (by omega)]
      dsimp only
      frame_out
      canon_tiles x hx
      · exact dProj_pointb m c t x _ (by blk_simp [idx t]; omega) (by blk_simp [idx t]; omega)
      · exact dProj_pointa m c t x _ (by blk_simp [idx t]; omega) (by blk_simp [idx t]; omega)
  exact key

end Cert.Mix0Ideal.Mix
-- ==== Proof.InDx.lean ====
module
public import proofs.«01_k».proof.Proof.Gen.InDxIdeal.Value
public import proofs.«01_k».proof.Proof.Gen.InDxRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.InDxIdeal.Prod
open Cert.InDxIdeal Cert.InDxIdeal.Gen Idealize.ShloMosaic Idealize.ShloMosaic.TcCoe Idealize.SL.Sem
open Idealize.ShloMosaic.Pipeline (Dat)
open Cert.InDxRefIdeal.Read
variable (m : (ℓ : Loc nD τ sig) → Buf (Elt Ideal) ℓ)

/-- The block index of every window at every grid point. -/
theorem idx : ∀ t : Fin cfg0.N, win0_0.index t = ![t.val % 4, 0] ∧ win0_1.index t = ![t.val / 4, 0] ∧ win0_2.index t = ![t.val % 4, 0] ∧ win0_3.index t = ![t.val / 4, 80] ∧ win0_4.index t = ![t.val % 4, t.val / 4] :=
  (by decide +kernel : ∀ t : Fin grid0.N, _)

/-- The staged block of the weight of window 1: rows `512 (t / 4) …` and all columns but the last 128. -/
theorem w1_at (c : Dev nD) (t : Fin cfg0.N) (y : S512x10240.Idx) :
    X0_1 m c t y = m ((c : Thread nD τ).loc main_arg2)
      (ix2 ⟨t.val / 4 * 512 + (y 0).val, by have := lt_of_lt_of_eq t.isLt N_0; have := (y 0).isLt; simp at this; omega⟩
        ⟨(y 1).val, by have := (y 1).isLt; simp at this; omega⟩) := by
  unfold X0_1 Pipeline.Window.fill
  rw [dif_pos (moved0_1 t _)]
  blk_point [iblk, V, idx t]

/-- The reference's result as a function of the arguments. -/
abbrev res (c : Dev nD) : FVec Ideal S2048x1024 .f32 := val_main_v5 (F := Ideal) (m ((c : Thread nD τ).loc main_arg0)) (m ((c : Thread nD τ).loc main_arg1)) (m ((c : Thread nD τ).loc main_arg2))

theorem res_point (c : Dev nD) (t : Fin cfg0.N) (y : S512x512.Idx) (j : S2048x1024.Idx)
    (h0 : (j 0 : ℕ) = t.val % 4 * 512 + y 0) (h1 : (j 1 : ℕ) = t.val / 4 * 512 + y 1) :
    k0_pay1 (iblk m c 0 t) (X0_1 m c t) (iblk m c 2 t) (iblk m c 3 t) y = res m c j := by
  have ht := lt_of_lt_of_eq t.isLt N_0
  pointwise [k0_pay1, res, val_main_v5, val_main_v1, val_main_v0, val_main_v3]
  simp only [w1_at]
  refine congrArg₂ (HAdd.hAdd (α := EReal) (β := EReal)) (Fin.sum_fin_congr fun s => ?_) (Fin.sum_fin_congr fun s => ?_)
  all_goals blk_point [iblk, V, idx t]

theorem res_final (c : Dev nD) : (dats m 0 c).arrAt 4 cfg0.N = res m c := by
  refine (dats m 0 c).arrAt_eq_of_covers 4 _ (by decide +kernel) fun t hf y => ?_
  blk_simp
  rw [after0_4]
  unfold outsAt0
  frame_out
  exact res_point m c t y _ (by blk_simp [idx t]) (by blk_simp [idx t])

end Cert.InDxIdeal.Prod
-- ==== Proof.InDw.lean ====
module
public import proofs.«01_k».proof.Proof.Gen.InDwIdeal.Value
public import proofs.«01_k».proof.Proof.Gen.InDwRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.InDwIdeal.Prod
open Cert.InDwIdeal Cert.InDwIdeal.Gen Idealize.ShloMosaic Idealize.ShloMosaic.TcCoe Idealize.SL.Sem
open Idealize.ShloMosaic.Pipeline (Dat)
open Cert.InDwRefIdeal.Read
variable (m : (ℓ : Loc nD τ sig) → Buf (Elt Ideal) ℓ)

/-- The block index of every window at every grid point. -/
theorem idx : ∀ t : Fin cfg0.N, win0_0.index t = ![0, 0] ∧ win0_1.index t = ![0, t.val] ∧ win0_2.index t = ![0, t.val] :=
  (by decide +kernel : ∀ t : Fin grid0.N, _)

/-- The reference's result as a function of the arguments. -/
abbrev res (c : Dev nD) : FVec Ideal S1024x10368 .bf16 := val_main_v8 (F := Ideal) (m ((c : Thread nD τ).loc main_arg0)) (m ((c : Thread nD τ).loc main_arg1))

theorem res_point (c : Dev nD) (t : Fin cfg0.N) (y : S1024x2048.Idx) (j : S1024x10368.Idx)
    (h0 : (j 0 : ℕ) = y 0) (h1 : (j 1 : ℕ) = t.val * 2048 + y 1) :
    k0_pay1 (iblk m c 0 t) (iblk m c 1 t) y = res m c j := by
  have ht := lt_of_lt_of_eq t.isLt N_0
  have hy := (y 1).isLt
  simp at hy
  pointwise [k0_pay1, res, val_main_v8, val_main_v7, val_main_v6, val_main_v2, val_main_v0, val_main_v1, val_main_cst, val_main_v4]
  refine Fin.sum_fin_congr fun s => (mul_comm (G := EReal) _ _).trans ?_
  rw [dif_pos (by omega)]
  blk_point [iblk, V, idx t]

/-- Every column but the last 128 of the final array is the reference's. -/
theorem res_final (c : Dev nD) (i : S1024x10368.Idx) (hi : (i 1 : ℕ) < 10240) :
    (dats m 0 c).arrAt 2 cfg0.N i = res m c i := by
  refine ((dats m 0 c).arrAt_apply_of_coversWhere 2 (res m c) (P := fun i => (i 1 : ℕ) < 10240) (fun β => β 1 < 5)
    (by decide +kernel) (fun t hf y => ?_) (fun j => by blk_simp [Pipeline.Window.cell_apply]; omega) i).trans (if_pos hi)
  blk_simp
  rw [after0_2]
  frame_out
  exact res_point m c t _ _ (by blk_simp [idx t]) (by blk_simp [idx t])

end Cert.InDwIdeal.Prod
-- ==== Proof.InDt.lean ====
module
public import proofs.«01_k».proof.Proof.Gen.InDtIdeal.Value
public import proofs.«01_k».proof.Proof.Gen.InDtRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.InDtIdeal.Prod
open Cert.InDtIdeal Cert.InDtIdeal.Gen Idealize.ShloMosaic Idealize.ShloMosaic.TcCoe Idealize.SL.Sem
open Idealize.ShloMosaic.Pipeline (Dat)
open Cert.InDtRefIdeal.Read
variable (m : (ℓ : Loc nD τ sig) → Buf (Elt Ideal) ℓ)

/-- The block index of every window at every grid point. -/
theorem idx : ∀ t : Fin cfg0.N, win0_0.index t = ![0, t.val] ∧ win0_1.index t = ![0, 0] ∧ win0_2.index t = ![t.val, 80] :=
  (by decide +kernel : ∀ t : Fin grid0.N, _)

/-- The reference's result as a function of the arguments. -/
abbrev res (c : Dev nD) : FVec Ideal S1024x10368 .bf16 := val_main_v8 (F := Ideal) (m ((c : Thread nD τ).loc main_arg0)) (m ((c : Thread nD τ).loc main_arg1)) (m ((c : Thread nD τ).loc main_arg2))

theorem res_point (c : Dev nD) (t : Fin cfg0.N) (y : S256x128.Idx) (j : S1024x10368.Idx)
    (h0 : (j 0 : ℕ) = t.val * 256 + y 0) (h1 : (j 1 : ℕ) = 10240 + y 1) :
    k0_pay1 (iblk m c 0 t) (iblk m c 1 t) y = res m c j := by
  have ht := lt_of_lt_of_eq t.isLt N_0
  pointwise [k0_pay1, res, val_main_v8, val_main_v6, val_main_v7, val_main_v5, val_main_v4, val_main_v3, val_main_v1]
  rw [dif_neg (by omega)]
  refine Fin.sum_fin_congr fun s => (mul_comm (G := EReal) _ _).trans ?_
  blk_point [iblk, V, idx t]

theorem res_final (c : Dev nD) : (dats m 0 c).arrAt 2 cfg0.N = res m c := by
  refine (dats m 0 c).arrAt_eq_of_coversWhere_of_agree 2 _ (fun β => β 1 = 80) (by decide +kernel) (fun t hf y => ?_) (fun j hj => ?_)
  · blk_simp
    rw [after0_2]
    unfold outsAt0
    frame_out
    exact res_point m c t y _ (by blk_simp [idx t]) (by blk_simp [idx t])
  · blk_simp [Pipeline.Window.cell_apply] at hj
    blk_simp
    have hb := (j 1).isLt
    simp at hb
    rw [A_eq]
    entry_read
    pointwise [res, val_main_v8, val_main_v6, val_main_v7, val_main_v5, val_main_v4, val_main_v3, val_main_v1]
    rw [dif_pos (by omega)]
    blk_ext []

end Cert.InDtIdeal.Prod
-- ==== Proof.OutDx.lean ====
module
public import proofs.«01_k».proof.Proof.Gen.OutDxIdeal.Value
public import proofs.«01_k».proof.Proof.Gen.OutDxRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.OutDxIdeal.Prod
open Cert.OutDxIdeal Cert.OutDxIdeal.Gen Idealize.ShloMosaic Idealize.ShloMosaic.TcCoe Idealize.SL.Sem
open Idealize.ShloMosaic.Pipeline (Dat)
open Cert.OutDxRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

/-- The reference's result as a function of the arguments. -/
abbrev res (c : Dev nD) : FVec Ideal S2048x1024 .f32 := val_main_v4 (F := Ideal) (m ((c : Thread nD τ).loc main_arg0)) (m ((c : Thread nD τ).loc main_arg1))

theorem res_point (c : Dev nD) (t : Fin cfg0.N) (y : S1024x1024.Idx) (j : S2048x1024.Idx)
    (h0 : (j 0 : ℕ) = t.val * 1024 + y 0) (h1 : (j 1 : ℕ) = y 1) :
    k0_pay1 (iblk m c 0 t) (iblk m c 1 t) y = res m c j := by
  have ht := lt_of_lt_of_eq t.isLt N_0
  pointwise [k0_pay1, res, val_main_v4, val_main_v1]
  refine Fin.sum_fin_congr fun s => ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.OutDxIdeal.Prod
-- ==== Proof.OutDw.lean ====
module
public import proofs.«01_k».proof.Proof.Gen.OutDwIdeal.Value
public import proofs.«01_k».proof.Proof.Gen.OutDwRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.OutDwIdeal.Prod
open Cert.OutDwIdeal Cert.OutDwIdeal.Gen Idealize.ShloMosaic Idealize.ShloMosaic.TcCoe Idealize.SL.Sem
open Idealize.ShloMosaic.Pipeline (Dat)
open Cert.OutDwRefIdeal.Read
variable (m : (ℓ : Loc nD τ sig) → Buf (Elt Ideal) ℓ)

/-- The block index of every window at every grid point. -/
theorem idx : ∀ t : Fin cfg0.N, win0_0.index t = ![0, t.val] ∧ win0_1.index t = ![0, 0] ∧ win0_2.index t = ![t.val, 0] :=
  (by decide +kernel : ∀ t : Fin grid0.N, _)

/-- The reference's result as a function of the arguments. -/
abbrev res (c : Dev nD) : FVec Ideal S1024x1024 .bf16 := val_main_v7 (F := Ideal) (m ((c : Thread nD τ).loc main_arg0)) (m ((c : Thread nD τ).loc main_arg1))

theorem res_point (c : Dev nD) (t : Fin cfg0.N) (y : S512x1024.Idx) (j : S1024x1024.Idx)
    (h0 : (j 0 : ℕ) = t.val * 512 + y 0) (h1 : (j 1 : ℕ) = y 1) :
    k0_pay1 (iblk m c 0 t) (iblk m c 1 t) y = res m c j := by
  have ht := lt_of_lt_of_eq t.isLt N_0
  pointwise [k0_pay1, res, val_main_v7, val_main_v6, val_main_v5, val_main_v2]
  refine Fin.sum_fin_congr fun s => (mul_comm (G := EReal) _ _).trans ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.OutDwIdeal.Prod
-- ==== Proof.In.lean ====
module
public import proofs.«01_k».proof.Proof.Gen.InIdeal.Value
public import proofs.«01_k».proof.Proof.Gen.InRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.InIdeal.Prod
open Cert.InIdeal Cert.InIdeal.Gen Idealize.ShloMosaic Idealize.ShloMosaic.TcCoe Idealize.SL.Sem
open Idealize.ShloMosaic.Pipeline (Dat)
open Cert.InRefIdeal.Read
variable (m : (ℓ : Loc nD τ sig) → Buf (Elt Ideal) ℓ)

/-- The block index of every window at every grid point. -/
theorem idx : ∀ t : Fin cfg0.N, win0_0.index t = ![0, 0] ∧ win0_1.index t = ![0, t.val] ∧ win0_2.index t = ![0, t.val] :=
  (by decide +kernel : ∀ t : Fin grid0.N, _)

/-- The reference's result as a function of the arguments. -/
abbrev res (c : Dev nD) : FVec Ideal S2048x10368 .f32 := val_main_v2 (F := Ideal) (m ((c : Thread nD τ).loc main_arg0)) (m ((c : Thread nD τ).loc main_arg1))

theorem res_point (c : Dev nD) (t : Fin cfg0.N) (y : S2048x1152.Idx) (j : S2048x10368.Idx)
    (h0 : (j 0 : ℕ) = y 0) (h1 : (j 1 : ℕ) = t.val * 1152 + y 1) :
    k0_pay1 (iblk m c 0 t) (iblk m c 1 t) y = res m c j := by
  have ht := lt_of_lt_of_eq t.isLt N_0
  pointwise [k0_pay1, res, val_main_v2, val_main_v0, val_main_v1]
  refine Fin.sum_fin_congr fun s => ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.InIdeal.Prod
-- ==== Proof.Mix.lean ====
module
public import proofs.«01_k».proof.Proof.Gen.MixIdeal.Value
public import proofs.«01_k».proof.Proof.Gen.MixRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.MixIdeal.Prod
open Cert.MixIdeal Cert.MixIdeal.Gen Idealize.ShloMosaic Idealize.ShloMosaic.TcCoe Idealize.SL.Sem
open Idealize.ShloMosaic.Pipeline (Dat)
open Cert.MixRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 1] ∧ win0_6.index t = ![t.val, 2] ∧ win0_7.index t = ![t.val, 3] ∧ win0_8.index t = ![0, 0] ∧ win0_9.index t = ![1, 0] ∧ win0_10.index t = ![2, 0] ∧ win0_11.index t = ![3, 0] ∧ win0_12.index t = ![0, 0, 0] ∧ win0_13.index t = ![1, 0, 0] ∧ win0_14.index t = ![2, 0, 0] ∧ win0_15.index t = ![3, 0, 0] ∧ win0_16.index t = ![t.val, 0] :=
  (by decide +kernel : ∀ t : Fin grid0.N, _)

/-- The staged block of the logits of window 4: rows `256 t …` and columns `0 …` of the projection. -/
theorem logits0_at (c : Dev nD) (t : Fin cfg0.N) (y : S256x1024.Idx) :
    X0_4 m c t y = m ((c : Thread nD τ).loc main_arg4)
      (ix2 ⟨t.val * 256 + (y 0).val, by have := lt_of_lt_of_eq t.isLt N_0; have := (y 0).isLt; simp at this; omega⟩
        ⟨0 + (y 1).val, by have := (y 1).isLt; simp at this; omega⟩) := by
  unfold X0_4 Pipeline.Window.fill
  rw [dif_pos (moved0_4 t _)]
  blk_point [iblk, V, idx t]

/-- The staged bias row of window 12: row 0 of the merge bias. -/
theorem bias0_at (c : Dev nD) (t : Fin cfg0.N) (y : S1x1x1024.Idx) :
    iblk m c 12 t y = m ((c : Thread nD τ).loc main_arg6) (ix2 0 ⟨(y 2).val, by have := (y 2).isLt; simp at this; omega⟩) := by
  blk_simp [iblk, V, idx t]
  entry_read
  pointwise []
  blk_ext [idx t]

/-- The staged block of the logits of window 5: rows `256 t …` and columns `1024 …` of the projection. -/
theorem logits1_at (c : Dev nD) (t : Fin cfg0.N) (y : S256x1024.Idx) :
    X0_5 m c t y = m ((c : Thread nD τ).loc main_arg4)
      (ix2 ⟨t.val * 256 + (y 0).val, by have := lt_of_lt_of_eq t.isLt N_0; have := (y 0).isLt; simp at this; omega⟩
        ⟨1024 + (y 1).val, by have := (y 1).isLt; simp at this; omega⟩) := by
  unfold X0_5 Pipeline.Window.fill
  rw [dif_pos (moved0_5 t _)]
  blk_point [iblk, V, idx t]

/-- The staged bias row of window 13: row 1 of the merge bias. -/
theorem bias1_at (c : Dev nD) (t : Fin cfg0.N) (y : S1x1x1024.Idx) :
    iblk m c 13 t y = m ((c : Thread nD τ).loc main_arg6) (ix2 1 ⟨(y 2).val, by have := (y 2).isLt; simp at this; omega⟩) := by
  blk_simp [iblk, V, idx t]
  entry_read
  pointwise []
  blk_ext [idx t]

/-- The staged block of the logits of window 6: rows `256 t …` and columns `2048 …` of the projection. -/
theorem logits2_at (c : Dev nD) (t : Fin cfg0.N) (y : S256x1024.Idx) :
    X0_6 m c t y = m ((c : Thread nD τ).loc main_arg4)
      (ix2 ⟨t.val * 256 + (y 0).val, by have := lt_of_lt_of_eq t.isLt N_0; have := (y 0).isLt; simp at this; omega⟩
        ⟨2048 + (y 1).val, by have := (y 1).isLt; simp at this; omega⟩) := by
  unfold X0_6 Pipeline.Window.fill
  rw [dif_pos (moved0_6 t _)]
  blk_point [iblk, V, idx t]

/-- The staged bias row of window 14: row 2 of the merge bias. -/
theorem bias2_at (c : Dev nD) (t : Fin cfg0.N) (y : S1x1x1024.Idx) :
    iblk m c 14 t y = m ((c : Thread nD τ).loc main_arg6) (ix2 2 ⟨(y 2).val, by have := (y 2).isLt; simp at this; omega⟩) := by
  blk_simp [iblk, V, idx t]
  entry_read
  pointwise []
  blk_ext [idx t]

/-- The staged block of the logits of window 7: rows `256 t …` and columns `3072 …` of the projection. -/
theorem logits3_at (c : Dev nD) (t : Fin cfg0.N) (y : S256x1024.Idx) :
    X0_7 m c t y = m ((c : Thread nD τ).loc main_arg4)
      (ix2 ⟨t.val * 256 + (y 0).val, by have := lt_of_lt_of_eq t.isLt N_0; have := (y 0).isLt; simp at this; omega⟩
        ⟨3072 + (y 1).val, by have := (y 1).isLt; simp at this; omega⟩) := by
  unfold X0_7 Pipeline.Window.fill
  rw [dif_pos (moved0_7 t _)]
  blk_point [iblk, V, idx t]

/-- The staged bias row of window 15: row 3 of the merge bias. -/
theorem bias3_at (c : Dev nD) (t : Fin cfg0.N) (y : S1x1x1024.Idx) :
    iblk m c 15 t y = m ((c : Thread nD τ).loc main_arg6) (ix2 3 ⟨(y 2).val, by have := (y 2).isLt; simp at this; omega⟩) := by
  blk_simp [iblk, V, idx t]
  entry_read
  pointwise []
  blk_ext [idx t]

/-- The reference's result as a function of the arguments. -/
abbrev res (c : Dev nD) : FVec Ideal S2048x1024 .bf16 := val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem res_point (c : Dev nD) (t : Fin cfg0.N) (y : S256x1024.Idx) (j : S2048x1024.Idx)
    (h0 : (j 0 : ℕ) = t.val * 256 + y 0) (h1 : (j 1 : ℕ) = y 1) :
    k0_pay1 (iblk m c 0 t) (iblk m c 1 t) (iblk m c 2 t) (iblk m c 3 t) (X0_4 m c t) (X0_5 m c t) (X0_6 m c t) (X0_7 m c t) (iblk m c 8 t) (iblk m c 9 t) (iblk m c 10 t) (iblk m c 11 t) (k0_pay2 (iblk m c 12 t)) (k0_pay3 (iblk m c 13 t)) (k0_pay4 (iblk m c 14 t)) (iblk m c 15 t) y = res m c j := by
  pointwise [k0_pay1, k0_pay2, k0_pay3, k0_pay4, res, val_main_v22, val_main_v21, val_main_v20, val_main_v19, val_main_v18, val_main_cst_0, val_main_v17, val_main_v16, val_main_cst, val_main_v15, val_main_v14, val_main_v13, val_main_v10, val_main_v9, val_main_v12, val_main_v11, val_main_v8, val_main_v7, val_main_v6, val_main_v5, val_main_v4, val_main_v0, val_main_v1, val_main_v2, val_main_v3, val_main_cst_1]
  simp only [logits0_at, logits1_at, logits2_at, logits3_at, bias0_at, bias1_at, bias2_at, bias3_at]
  unfold Ideal.logistic
  refine Eq.trans ?_ (Fin.sum_univ_four _).symm
  refine congrArg₂ (HAdd.hAdd (α := EReal) (β := EReal)) (congrArg₂ (HAdd.hAdd (α := EReal) (β := EReal)) (congrArg₂ (HAdd.hAdd (α := EReal) (β := EReal)) ?_ ?_) ?_) ?_
  all_goals refine congrArg₂ (HMul.hMul (α := EReal) (β := EReal)) ?_ (Fin.sum_fin_congr fun s => (mul_comm (G := EReal) _ _).trans ?_)
  · blk_point [iblk, V, idx t]
  · rw [dif_pos (by decide)]
    blk_point [iblk, V, idx t]
  · blk_point [iblk, V, idx t]
  · rw [dif_neg (by decide), dif_pos (by decide)]
    blk_point [iblk, V, idx t]
  · blk_point [iblk, V, idx t]
  · rw [dif_neg (by decide), dif_neg (by decide), dif_pos (by decide)]
    blk_point [iblk, V, idx t]
  · blk_point [iblk, V, idx t]
  · rw [dif_neg (by decide), dif_neg (by decide), dif_neg (by decide)]
    blk_point [iblk, V, idx t]

theorem res_final (c : Dev nD) : (dats m 0 c).arrAt 16 cfg0.N = res m c := by
  refine (dats m 0 c).arrAt_eq_of_covers 16 _ (by decide +kernel) fun t hf y => ?_
  blk_simp
  rw [after0_16]
  unfold outsAt0
  frame_out
  exact res_point m c t y _ (by blk_simp [idx t]) (by blk_simp [idx t])

end Cert.MixIdeal.Prod
-- ==== Proof.Out.lean ====
module
public import proofs.«01_k».proof.Proof.Gen.OutIdeal.Value
public import proofs.«01_k».proof.Proof.Gen.OutRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.OutIdeal.Prod
open Cert.OutIdeal Cert.OutIdeal.Gen Idealize.ShloMosaic Idealize.ShloMosaic.TcCoe Idealize.SL.Sem
open Idealize.ShloMosaic.Pipeline (Dat)
open Cert.OutRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The reference's result as a function of the arguments. -/
abbrev res (c : Dev nD) : FVec Ideal S2048x1024 .f32 := val_main_v3 (F := Ideal) (m ((c : Thread nD τ).loc main_arg0)) (m ((c : Thread nD τ).loc main_arg1)) (m ((c : Thread nD τ).loc main_arg2))

theorem res_point (c : Dev nD) (t : Fin cfg0.N) (y : S1024x1024.Idx) (j : S2048x1024.Idx)
    (h0 : (j 0 : ℕ) = t.val * 1024 + y 0) (h1 : (j 1 : ℕ) = y 1) :
    k0_pay1 (iblk m c 0 t) (iblk m c 1 t) (iblk m c 2 t) y = res m c j := by
  have ht := lt_of_lt_of_eq t.isLt N_0
  pointwise [k0_pay1, res, val_main_v3, val_main_v2, val_main_v0, val_main_v1]
  refine (add_comm (G := EReal) _ _).trans (congrArg₂ (HAdd.hAdd (α := EReal) (β := EReal)) ?_ (Fin.sum_fin_congr fun s => ?_))
  all_goals blk_point [iblk, V, idx t]

theorem res_final (c : Dev nD) : (dats m 0 c).arrAt 3 cfg0.N = res m c := by
  refine (dats m 0 c).arrAt_eq_of_covers 3 _ (by decide +kernel) fun t hf y => ?_
  blk_simp
  rw [after0_3]
  frame_out
  exact res_point m c t y _ (by blk_simp [idx t]) (by blk_simp [idx t])

end Cert.OutIdeal.Prod
-- ==== Proof.Bu.lean ====
module
public import proofs.«01_k».proof.Proof.Gen.BuIdeal.Value
public import proofs.«01_k».proof.Proof.Gen.BuRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.BuIdeal.Prod
open Cert.BuIdeal Cert.BuIdeal.Gen Idealize.ShloMosaic Idealize.ShloMosaic.TcCoe Idealize.SL.Sem
open Idealize.ShloMosaic.Pipeline (Dat)
open Cert.BuRefIdeal.Read
variable (m : (ℓ : Loc nD τ sig) → Buf (Elt Ideal) ℓ)

/-- The block index of every window at every grid point. -/
theorem idx : ∀ t : Fin cfg0.N, win0_0.index t = ![t.val % 2, 16] ∧ win0_1.index t = ![0, t.val / 2] ∧ win0_2.index t = ![t.val % 2, t.val / 2] :=
  (by decide +kernel : ∀ t : Fin grid0.N, _)

/-- The staged block of window 0: columns 8192 … of the projection. -/
theorem w0_at (c : Dev nD) (t : Fin cfg0.N) (y : S1024x512.Idx) :
    X0_0 m c t y = m ((c : Thread nD τ).loc main_arg0)
      (ix2 ⟨t.val % 2 * 1024 + (y 0).val, by have := lt_of_lt_of_eq t.isLt N_0; have := (y 0).isLt; simp at this; omega⟩
        ⟨8192 + (y 1).val, by have := lt_of_lt_of_eq t.isLt N_0; have := (y 1).isLt; simp at this; omega⟩) := by
  unfold X0_0 Pipeline.Window.fill
  rw [dif_pos (moved0_0 t _)]
  blk_point [iblk, V, idx t]

/-- The reference's result as a function of the arguments. -/
abbrev res (c : Dev nD) : FVec Ideal S2048x2048 .f32 := val_main_v2 (F := Ideal) (m ((c : Thread nD τ).loc main_arg0)) (m ((c : Thread nD τ).loc main_arg1))

theorem res_point (c : Dev nD) (t : Fin cfg0.N) (y : S1024x1024.Idx) (j : S2048x2048.Idx)
    (h0 : (j 0 : ℕ) = t.val % 2 * 1024 + y 0) (h1 : (j 1 : ℕ) = t.val / 2 * 1024 + y 1) :
    k0_pay1 (X0_0 m c t) (iblk m c 1 t) y = res m c j := by
  have ht := lt_of_lt_of_eq t.isLt N_0
  pointwise [k0_pay1, res, val_main_v2, val_main_v0, val_main_v1]
  simp only [w0_at]
  refine Fin.sum_fin_congr fun s => ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  unfold outsAt0
  frame_out
  exact res_point m c t y _ (by blk_simp [idx t]) (by blk_simp [idx t])

end Cert.BuIdeal.Prod
-- ==== Proof.S5y.lean ====
module
public import proofs.«01_k».proof.Proof.Gen.S5yIdeal.Value
public import proofs.«01_k».proof.Proof.Gen.S5yRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.S5yIdeal.Prod
open Cert.S5yIdeal Cert.S5yIdeal.Gen Idealize.ShloMosaic Idealize.ShloMosaic.TcCoe Idealize.SL.Sem
open Idealize.ShloMosaic.Pipeline (Dat)
open Cert.S5yRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- The reference's result as a function of the arguments. -/
abbrev res (c : Dev nD) : FVec Ideal S2048x512 .f32 := val_main_v4 (F := Ideal) (m ((c : Thread nD τ).loc main_arg0)) (m ((c : Thread nD τ).loc main_arg1)) (m ((c : Thread nD τ).loc main_arg2)) (m ((c : Thread nD τ).loc main_arg3))

theorem res_point (c : Dev nD) (t : Fin cfg0.N) (y : S512x512.Idx) (j : S2048x512.Idx)
    (h0 : (j 0 : ℕ) = t.val * 512 + y 0) (h1 : (j 1 : ℕ) = y 1) :
    k0_pay1 (iblk m c 0 t) (iblk m c 1 t) (iblk m c 2 t) (iblk m c 3 t) y = res m c j := by
  have ht := lt_of_lt_of_eq t.isLt N_0
  pointwise [k0_pay1, res, val_main_v4, val_main_v1, val_main_v0, val_main_v3, val_main_v2]
  simp only [sub_eq_add_neg, zero_add]
  refine congrArg₂ (HAdd.hAdd (α := EReal) (β := EReal)) (Fin.sum_fin_congr fun s => ?_) (congrArg (Neg.neg (α := EReal)) (Fin.sum_fin_congr fun s => ?_))
  all_goals blk_point [iblk, V, idx t]

theorem res_final (c : Dev nD) : (dats m 0 c).arrAt 4 cfg0.N = res m c := by
  refine (dats m 0 c).arrAt_eq_of_covers 4 _ (by decide +kernel) fun t hf y => ?_
  blk_simp
  rw [after0_4]
  frame_out
  exact res_point m c t y _ (by blk_simp [idx t]) (by blk_simp [idx t])

end Cert.S5yIdeal.Prod
-- ==== Proof.DsRe.lean ====
module
public import proofs.«01_k».proof.Proof.Gen.DsReIdeal.Value
public import proofs.«01_k».proof.Proof.Gen.DsReRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.DsReIdeal.Prod
open Cert.DsReIdeal Cert.DsReIdeal.Gen Idealize.ShloMosaic Idealize.ShloMosaic.TcCoe Idealize.SL.Sem
open Idealize.ShloMosaic.Pipeline (Dat)
open Cert.DsReRefIdeal.Read
variable (m : (ℓ : Loc nD τ sig) → Buf (Elt Ideal) ℓ)

/-- The block index of every window at every grid point. -/
theorem idx : ∀ t : Fin cfg0.N, win0_0.index t = ![t.val % 2, 0] ∧ win0_1.index t = ![t.val / 2, 0] ∧ win0_2.index t = ![t.val % 2, t.val / 2] :=
  (by decide +kernel : ∀ t : Fin grid0.N, _)

/-- The reference's result as a function of the arguments. -/
abbrev res (c : Dev nD) : FVec Ideal S2048x2048 .f32 := val_main_v4 (F := Ideal) (m ((c : Thread nD τ).loc main_arg0)) (m ((c : Thread nD τ).loc main_arg1))

theorem res_point (c : Dev nD) (t : Fin cfg0.N) (y : S1024x1024.Idx) (j : S2048x2048.Idx)
    (h0 : (j 0 : ℕ) = t.val % 2 * 1024 + y 0) (h1 : (j 1 : ℕ) = t.val / 2 * 1024 + y 1) :
    k0_pay1 (iblk m c 0 t) (iblk m c 1 t) y = res m c j := by
  have ht := lt_of_lt_of_eq t.isLt N_0
  pointwise [k0_pay1, res, val_main_v4, val_main_v3, val_main_v1]
  refine Fin.sum_fin_congr fun s => ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.DsReIdeal.Prod
-- ==== Proof.DsIm.lean ====
module
public import proofs.«01_k».proof.Proof.Gen.DsImIdeal.Value
public import proofs.«01_k».proof.Proof.Gen.DsImRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.DsImIdeal.Prod
open Cert.DsImIdeal Cert.DsImIdeal.Gen Idealize.ShloMosaic Idealize.ShloMosaic.TcCoe Idealize.SL.Sem
open Idealize.ShloMosaic.Pipeline (Dat)
open Cert.DsImRefIdeal.Read
variable (m : (ℓ : Loc nD τ sig) → Buf (Elt Ideal) ℓ)

/-- The block index of every window at every grid point. -/
theorem idx : ∀ t : Fin cfg0.N, win0_0.index t = ![t.val % 2, 0] ∧ win0_1.index t = ![t.val / 2, 0] ∧ win0_2.index t = ![t.val % 2, t.val / 2] :=
  (by decide +kernel : ∀ t : Fin grid0.N, _)

/-- The reference's result as a function of the arguments. -/
abbrev res (c : Dev nD) : FVec Ideal S2048x2048 .f32 := val_main_v6 (F := Ideal) (m ((c : Thread nD τ).loc main_arg0)) (m ((c : Thread nD τ).loc main_arg1))

theorem res_point (c : Dev nD) (t : Fin cfg0.N) (y : S1024x1024.Idx) (j : S2048x2048.Idx)
    (h0 : (j 0 : ℕ) = t.val % 2 * 1024 + y 0) (h1 : (j 1 : ℕ) = t.val / 2 * 1024 + y 1) :
    k0_pay1 (iblk m c 0 t) (iblk m c 1 t) y = res m c j := by
  have ht := lt_of_lt_of_eq t.isLt N_0
  pointwise [k0_pay1, res, val_main_v6, val_main_v5, val_main_v4, val_main_v2]
  simp only [sub_eq_add_neg, zero_add]
  refine congrArg (Neg.neg (α := EReal)) ?_
  refine Fin.sum_fin_congr fun s => ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.DsImIdeal.Prod
-- ==== Proof.DcRe.lean ====
module
public import proofs.«01_k».proof.Proof.Gen.DcReIdeal.Value
public import proofs.«01_k».proof.Proof.Gen.DcReRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.DcReIdeal.Prod
open Cert.DcReIdeal Cert.DcReIdeal.Gen Idealize.ShloMosaic Idealize.ShloMosaic.TcCoe Idealize.SL.Sem
open Idealize.ShloMosaic.Pipeline (Dat)
open Cert.DcReRefIdeal.Read
variable (m : (ℓ : Loc nD τ sig) → Buf (Elt Ideal) ℓ)

/-- The block index of every window at every grid point. -/
theorem idx : ∀ t : Fin cfg0.N, win0_0.index t = ![0, t.val] ∧ win0_1.index t = ![0, 0] ∧ win0_2.index t = ![t.val, 0] :=
  (by decide +kernel : ∀ t : Fin grid0.N, _)

/-- The reference's result as a function of the arguments. -/
abbrev res (c : Dev nD) : FVec Ideal S2048x512 .f32 := val_main_v4 (F := Ideal) (m ((c : Thread nD τ).loc main_arg0)) (m ((c : Thread nD τ).loc main_arg1))

theorem res_point (c : Dev nD) (t : Fin cfg0.N) (y : S512x512.Idx) (j : S2048x512.Idx)
    (h0 : (j 0 : ℕ) = t.val * 512 + y 0) (h1 : (j 1 : ℕ) = y 1) :
    k0_pay1 (iblk m c 0 t) (iblk m c 1 t) y = res m c j := by
  have ht := lt_of_lt_of_eq t.isLt N_0
  pointwise [k0_pay1, res, val_main_v4, val_main_v3, val_main_v2]
  refine Fin.sum_fin_congr fun s => (mul_comm (G := EReal) _ _).trans ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.DcReIdeal.Prod
-- ==== Proof.DcIm.lean ====
module
public import proofs.«01_k».proof.Proof.Gen.DcImIdeal.Value
public import proofs.«01_k».proof.Proof.Gen.DcImRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.DcImIdeal.Prod
open Cert.DcImIdeal Cert.DcImIdeal.Gen Idealize.ShloMosaic Idealize.ShloMosaic.TcCoe Idealize.SL.Sem
open Idealize.ShloMosaic.Pipeline (Dat)
open Cert.DcImRefIdeal.Read
variable (m : (ℓ : Loc nD τ sig) → Buf (Elt Ideal) ℓ)

/-- The block index of every window at every grid point. -/
theorem idx : ∀ t : Fin cfg0.N, win0_0.index t = ![0, t.val] ∧ win0_1.index t = ![0, 0] ∧ win0_2.index t = ![t.val, 0] :=
  (by decide +kernel : ∀ t : Fin grid0.N, _)

/-- The reference's result as a function of the arguments. -/
abbrev res (c : Dev nD) : FVec Ideal S2048x512 .f32 := val_main_v6 (F := Ideal) (m ((c : Thread nD τ).loc main_arg0)) (m ((c : Thread nD τ).loc main_arg1))

theorem res_point (c : Dev nD) (t : Fin cfg0.N) (y : S512x512.Idx) (j : S2048x512.Idx)
    (h0 : (j 0 : ℕ) = t.val * 512 + y 0) (h1 : (j 1 : ℕ) = y 1) :
    k0_pay1 (iblk m c 0 t) (iblk m c 1 t) y = res m c j := by
  have ht := lt_of_lt_of_eq t.isLt N_0
  pointwise [k0_pay1, res, val_main_v6, val_main_v5, val_main_v4, val_main_v3]
  simp only [sub_eq_add_neg, zero_add]
  refine congrArg (Neg.neg (α := EReal)) ?_
  refine Fin.sum_fin_congr fun s => (mul_comm (G := EReal) _ _).trans ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  frame_out
  exact res_point m c t y _ (by blk_simp [idx t]) (by blk_simp [idx t])

end Cert.DcImIdeal.Prod
-- ==== Proof.BuDx.lean ====
module
public import proofs.«01_k».proof.Proof.Gen.BuDxIdeal.Value
public import proofs.«01_k».proof.Proof.Gen.BuDxRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.BuDxIdeal.Prod
open Cert.BuDxIdeal Cert.BuDxIdeal.Gen Idealize.ShloMosaic Idealize.ShloMosaic.TcCoe Idealize.SL.Sem
open Idealize.ShloMosaic.Pipeline (Dat)
open Cert.BuDxRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 16] :=
  (by decide +kernel : ∀ t : Fin grid0.N, _)

/-- The reference's result as a function of the arguments. -/
abbrev res (c : Dev nD) : FVec Ideal S2048x10240 .bf16 := val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem res_point (c : Dev nD) (t : Fin cfg0.N) (y : S512x512.Idx) (j : S2048x10240.Idx)
    (h0 : (j 0 : ℕ) = t.val * 512 + y 0) (h1 : (j 1 : ℕ) = 8192 + y 1) :
    k0_pay1 (iblk m c 0 t) (iblk m c 1 t) (iblk m c 2 t) (iblk m c 3 t) (iblk m c 4 t) y = res m c j := by
  have ht := lt_of_lt_of_eq t.isLt N_0
  have hy := (y 1).isLt
  simp at hy
  pointwise [k0_pay1, res, val_main_v12, val_main_v9, val_main_v10, val_main_v8, val_main_v6, val_main_v5, val_main_v3, val_main_v7, val_main_v1, val_main_v11]
  rw [dif_neg (by omega), dif_pos (by omega)]
  refine ((add_comm (G := EReal) _ _).trans (congrArg (HAdd.hAdd (α := EReal) (β := EReal) (γ := EReal) _) (add_comm (G := EReal) _ _))).trans
    ((add_assoc (G := EReal) _ _ _).symm.trans ?_)
  refine congrArg₂ (HAdd.hAdd (α := EReal) (β := EReal)) (congrArg₂ (HAdd.hAdd (α := EReal) (β := EReal)) ?_ (Fin.sum_fin_congr fun s => ?_)) (Fin.sum_fin_congr fun s => ?_)
  all_goals blk_point [iblk, V, idx t]

theorem res_final (c : Dev nD) : (dats m 0 c).arrAt 5 cfg0.N = res m c := by
  refine (dats m 0 c).arrAt_eq_of_coversWhere_of_agree 5 _ (fun β => β 1 = 16) (by decide +kernel) (fun t hf y => ?_) (fun j hj => ?_)
  · blk_simp
    rw [after0_5]
    unfold outsAt0
    frame_out
    exact res_point m c t y _ (by blk_simp [idx t]) (by blk_simp [idx t])
  · blk_simp [Pipeline.Window.cell_apply] at hj
    blk_simp
    have hb := (j 1).isLt
    simp at hb
    rw [A_eq]
    entry_read
    pointwise [res, val_main_v12, val_main_v9, val_main_v10, val_main_v8, val_main_v6, val_main_v5, val_main_v3, val_main_v7, val_main_v1, val_main_v11]
    by_cases hlt : (j 1 : ℕ) < 8192
    · rw [dif_pos (by omega)]
      blk_ext []
    · rw [dif_neg (by omega), dif_neg (by omega)]
      blk_ext []

end Cert.BuDxIdeal.Prod
-- ==== Proof.BuDw.lean ====
module
public import proofs.«01_k».proof.Proof.Gen.BuDwIdeal.Value
public import proofs.«01_k».proof.Proof.Gen.BuDwRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.BuDwIdeal.Prod
open Cert.BuDwIdeal Cert.BuDwIdeal.Gen Idealize.ShloMosaic Idealize.ShloMosaic.TcCoe Idealize.SL.Sem
open Idealize.ShloMosaic.Pipeline (Dat)
open Cert.BuDwRefIdeal.Read
variable (m : (ℓ : Loc nD τ sig) → Buf (Elt Ideal) ℓ)

/-- The block index of every window at every grid point. -/
theorem idx : ∀ t : Fin cfg0.N, win0_0.index t = ![0, 16] ∧ win0_1.index t = ![0, t.val] ∧ win0_2.index t = ![0, t.val] :=
  (by decide +kernel : ∀ t : Fin grid0.N, _)

/-- The staged block of window 0: columns 8192 … of the projection. -/
theorem w0_at (c : Dev nD) (t : Fin cfg0.N) (y : S2048x512.Idx) :
    X0_0 m c t y = m ((c : Thread nD τ).loc main_arg0)
      (ix2 ⟨(y 0).val, by have := lt_of_lt_of_eq t.isLt N_0; have := (y 0).isLt; simp at this; omega⟩
        ⟨8192 + (y 1).val, by have := lt_of_lt_of_eq t.isLt N_0; have := (y 1).isLt; simp at this; omega⟩) := by
  unfold X0_0 Pipeline.Window.fill
  rw [dif_pos (moved0_0 t _)]
  blk_point [iblk, V, idx t]

/-- The reference's result as a function of the arguments. -/
abbrev res (c : Dev nD) : FVec Ideal S512x2048 .f32 := val_main_v4 (F := Ideal) (m ((c : Thread nD τ).loc main_arg0)) (m ((c : Thread nD τ).loc main_arg1))

theorem res_point (c : Dev nD) (t : Fin cfg0.N) (y : S512x1024.Idx) (j : S512x2048.Idx)
    (h0 : (j 0 : ℕ) = y 0) (h1 : (j 1 : ℕ) = t.val * 1024 + y 1) :
    k0_pay1 (X0_0 m c t) (iblk m c 1 t) y = res m c j := by
  have ht := lt_of_lt_of_eq t.isLt N_0
  pointwise [k0_pay1, res, val_main_v4, val_main_v3, val_main_v1]
  simp only [w0_at]
  refine Fin.sum_fin_congr fun s => (mul_comm (G := EReal) _ _).trans ?_
  blk_point [iblk, V, idx t]

theorem res_final (c : Dev nD) : (dats m 0 c).arrAt 2 cfg0.N = res m c := by
  refine (dats m 0 c).arrAt_eq_of_covers 2 _ (by decide +kernel) fun t hf y => ?_
  blk_simp
  rw [after0_2]
  unfold outsAt0
  frame_out
  exact res_point m c t y _ (by blk_simp [idx t]) (by blk_simp [idx t])

end Cert.BuDwIdeal.Prod
-- ==== Proof.Sc.lean ====
module
public import proofs.«01_k».proof.Proof.Gen.ScIdeal.Value
public import proofs.«01_k».proof.Proof.Gen.ScRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ScIdeal.Call
open Cert.ScIdeal Cert.ScIdeal.Gen Idealize.ShloMosaic Idealize.ShloMosaic.TcCoe Idealize.SL.Sem
open Idealize.ShloMosaic.Pipeline (Dat)
open Cert.ScRefIdeal.Read
variable (m : (ℓ : Loc nD τ sig) → Buf (Elt Ideal) ℓ)

/-- The block index of every window at every grid point. -/
theorem idx : ∀ t : Fin cfg0.N, win0_0.index t = ![0, 32 + t.val * 4 + 0] ∧ win0_1.index t = ![0, 32 + t.val * 4 + 1] ∧ win0_2.index t = ![0, 32 + t.val * 4 + 2] ∧ win0_3.index t = ![0, 32 + t.val * 4 + 3] ∧ win0_4.index t = ![0, t.val] ∧ win0_5.index t = ![0, t.val] :=
  (by decide +kernel : ∀ t : Fin grid0.N, _)

/-- A choice between two values by a row's number. -/
theorem selLt {α : Type} {r k : ℕ} (hr : r < 2 ^ 31) (hk : k < 2 ^ 31) (a b : α) :
    Scalar.select (IntOp.cmpi .slt (BitVec.ofNat 32 r) (BitVec.ofNat 32 k)) a b = if r < k then a else b :=
  if_congr (WordCmp.cmpi_slt_ofNat_eq_one_iff hr hk) rfl rfl

/-- The sum over the taps of one tap's weight and zeros is the weight. -/
theorem tap_sum (k : Fin 3) (f : Fin 3 → EReal) :
    ∑ x : Fin 3, Scalar.select (IntOp.cmpi .eq (BitVec.ofNat 32 x.val) (BitVec.ofNat 32 k.val)) (f x) 0 = f k := by
  rw [Finset.sum_eq_single k]
  · exact if_pos ( (WordCmp.cmpi_eq_ofNat_eq_one_iff (by omega) (by omega)).2 rfl)
  · intro b _ h
    exact if_neg fun e => h (Fin.ext ( (WordCmp.cmpi_eq_ofNat_eq_one_iff (by omega) (by omega)).1 e))
  · exact fun h => absurd (Finset.mem_univ k) h

theorem tap0 (f : Fin 3 → EReal) :
    ∑ x : Fin 3, Scalar.select (IntOp.cmpi .eq (BitVec.ofNat 32 x.val) 0#32) (f x) 0 = f 0 := tap_sum 0 f

theorem tap1 (f : Fin 3 → EReal) :
    ∑ x : Fin 3, Scalar.select (IntOp.cmpi .eq (BitVec.ofNat 32 x.val) 1#32) (f x) 0 = f 1 := tap_sum 1 f

theorem tap2 (f : Fin 3 → EReal) :
    ∑ x : Fin 3, Scalar.select (IntOp.cmpi .eq (BitVec.ofNat 32 x.val) 2#32) (f x) 0 = f 2 := tap_sum 2 f

/-- The reference's result as a function of the arguments. -/
abbrev res (c : Dev nD) : FVec Ideal S2048x512 .f32 := val_main_v35 (F := Ideal) (m ((c : Thread nD τ).loc main_arg0)) (m ((c : Thread nD τ).loc main_arg1))

set_option maxHeartbeats 1000000 in
theorem res_point (c : Dev nD) (t : Fin cfg0.N) (y : S2048x128.Idx) (j : S2048x512.Idx)
    (h0 : (j 0 : ℕ) = y 0) (h1 : (j 1 : ℕ) = t.val * 128 + y 1) :
    k0_pay1 (iblk m c 0 t) (iblk m c 3 t) (iblk m c 4 t) (k0_pay2 (iblk m c 1 t) (iblk m c 2 t)) (k0_pay3 (iblk m c 1 t) (iblk m c 2 t) (iblk m c 4 t)) (k0_pay4 (iblk m c 4 t)) (k0_pay5 (iblk m c 1 t) (iblk m c 2 t)) y = res m c j := by
  have ht := lt_of_lt_of_eq t.isLt N_0
  pointwise [k0_pay1, k0_pay2, k0_pay3, k0_pay4, k0_pay5, res, val_main_v35, val_main_v33, val_main_v4, val_main_v3, val_main_v2, val_main_v1, val_main_v0, val_main_v32, val_main_v27, val_main_v22, val_main_v21, val_main_cst_0, val_main_v20, val_main_v19, val_main_v17, val_main_v18, val_main_v16, val_main_v15, val_main_cst, val_main_v14, val_main_v7, val_main_v6, val_main_v5, val_main_v10, val_main_v9, val_main_v8, val_main_v26, val_main_v25, val_main_v23, val_main_v24, val_main_v31, val_main_v30, val_main_v28, val_main_v29, val_main_v34, val_main_v13, val_main_v12, val_main_v11, val_main_call0_v5, val_main_call0_v4, val_main_call0_cst_0, val_main_call0_v3, val_main_call0_v2, val_main_call0_cst, val_main_call0_v1, val_main_call0_v0]
  have hy0 := (y 0).isLt
  simp at hy0
  simp only [tap0, tap1, tap2, Ideal.logistic]
  have hy1 := (y 1).isLt
  simp at hy1
  have hq : (j 1 : ℕ) / 128 = t.val := by omega
  have hr : (j 1 : ℕ) % 128 = y 1 := by omega
  simp only [hq, hr]
  refine congrArg₂ (HMul.hMul (α := EReal) (β := EReal)) (congrArg₂ (HMul.hMul (α := EReal) (β := EReal)) ?_ (congrArg₂ (HAdd.hAdd (α := EReal) (β := EReal)) (congrArg₂ (HAdd.hAdd (α := EReal) (β := EReal)) ?_ ?_) ?_)) ?_
  · blk_point [iblk, V, idx t]
  · rw [selLt (by omega) (by omega)]
    by_cases h : (y 0).val < 2
    · rw [if_pos h, dif_pos (by omega)]
      exact (mul_zero _).symm
    · rw [if_neg h, dif_neg (by omega)]
      blk_point [iblk, V, idx t]
  · rw [selLt (by omega) (by omega)]
    by_cases h : (y 0).val < 1
    · rw [if_pos h, dif_pos (by omega)]
      exact (mul_zero _).symm
    · rw [if_neg h, dif_neg (by omega)]
      blk_point [iblk, V, idx t]
  · blk_point [iblk, V, idx t]
  · blk_point [iblk, V, idx t]

theorem res_final (c : Dev nD) : (dats m 0 c).arrAt 5 cfg0.N = res m c := by
  refine (dats m 0 c).arrAt_eq_of_covers 5 _ (by decide +kernel) fun t hf y => ?_
  blk_simp
  rw [after0_5]
  frame_out
  exact res_point m c t y _ (by blk_simp [idx t]) (by blk_simp [idx t])

end Cert.ScIdeal.Call
-- ==== Proof.ScB.lean ====
module
public import proofs.«01_k».proof.Proof.Gen.ScBIdeal.Value
public import proofs.«01_k».proof.Proof.Gen.ScBRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ScBIdeal.Call
open Cert.ScBIdeal Cert.ScBIdeal.Gen Idealize.ShloMosaic Idealize.ShloMosaic.TcCoe Idealize.SL.Sem
open Idealize.ShloMosaic.Pipeline (Dat)
open Cert.ScBRefIdeal.Read
variable (m : (ℓ : Loc nD τ sig) → Buf (Elt Ideal) ℓ)

/-- The block index of every window at every grid point. -/
theorem idx : ∀ t : Fin cfg0.N, win0_0.index t = ![0, 32 + t.val * 4 + 0] ∧ win0_1.index t = ![0, 32 + t.val * 4 + 1] ∧ win0_2.index t = ![0, 32 + t.val * 4 + 2] ∧ win0_3.index t = ![0, 32 + t.val * 4 + 3] ∧ win0_4.index t = ![0, t.val] ∧ win0_5.index t = ![0, t.val] ∧ win0_6.index t = ![0, 8 + t.val] ∧ win0_7.index t = ![0, t.val] :=
  (by decide +kernel : ∀ t : Fin grid0.N, _)

/-- A choice between two values by a row's number. -/
theorem selLt {α : Type} {r k : ℕ} (hr : r < 2 ^ 31) (hk : k < 2 ^ 31) (a b : α) :
    Scalar.select (IntOp.cmpi .slt (BitVec.ofNat 32 r) (BitVec.ofNat 32 k)) a b = if r < k then a else b :=
  if_congr (WordCmp.cmpi_slt_ofNat_eq_one_iff hr hk) rfl rfl

/-- The sum over the taps of one tap's weight and zeros is the weight. -/
theorem tap_sum (k : Fin 3) (f : Fin 3 → EReal) :
    ∑ x : Fin 3, Scalar.select (IntOp.cmpi .eq (BitVec.ofNat 32 x.val) (BitVec.ofNat 32 k.val)) (f x) 0 = f k := by
  rw [Finset.sum_eq_single k]
  · exact if_pos ( (WordCmp.cmpi_eq_ofNat_eq_one_iff (by omega) (by omega)).2 rfl)
  · intro b _ h
    exact if_neg fun e => h (Fin.ext ( (WordCmp.cmpi_eq_ofNat_eq_one_iff (by omega) (by omega)).1 e))
  · exact fun h => absurd (Finset.mem_univ k) h

theorem tap0 (f : Fin 3 → EReal) :
    ∑ x : Fin 3, Scalar.select (IntOp.cmpi .eq (BitVec.ofNat 32 x.val) 0#32) (f x) 0 = f 0 := tap_sum 0 f

theorem tap1 (f : Fin 3 → EReal) :
    ∑ x : Fin 3, Scalar.select (IntOp.cmpi .eq (BitVec.ofNat 32 x.val) 1#32) (f x) 0 = f 1 := tap_sum 1 f

theorem tap2 (f : Fin 3 → EReal) :
    ∑ x : Fin 3, Scalar.select (IntOp.cmpi .eq (BitVec.ofNat 32 x.val) 2#32) (f x) 0 = f 2 := tap_sum 2 f

theorem selGe {α : Type} {r k : ℕ} (hr : r < 2 ^ 31) (hk : k < 2 ^ 31) (a b : α) :
    Scalar.select (IntOp.cmpi .sge (BitVec.ofNat 32 r) (BitVec.ofNat 32 k)) a b = if k ≤ r then a else b :=
  if_congr (WordCmp.cmpi_sge_ofNat_eq_one_iff hr hk) rfl rfl

theorem selEq {α : Type} {r k : ℕ} (hr : r < 2 ^ 32) (hk : k < 2 ^ 32) (a b : α) :
    Scalar.select (IntOp.cmpi .eq (BitVec.ofNat 32 r) (BitVec.ofNat 32 k)) a b = if r = k then a else b :=
  if_congr (WordCmp.cmpi_eq_ofNat_eq_one_iff hr hk) rfl rfl

theorem selOne {r k : ℕ} (hr : r < 2 ^ 32) (hk : k < 2 ^ 32) (s : EReal) :
    Scalar.select (IntOp.cmpi .eq (BitVec.ofNat 32 r) (BitVec.ofNat 32 k)) (∑ _x : Fin 1, s) 0 = if r = k then s else 0 := by
  rw [Fin.sum_univ_one]
  exact selEq hr hk s 0

/-- The staged strip of input 0, as the reference takes it from the interleaved columns. -/
theorem a0_at (c : Dev nD) (t : Fin cfg0.N) (y : S2048x128.Idx) :
    iblk m c 0 t y = val_main_v4 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v4, val_main_v3, val_main_v2, val_main_v1, val_main_v0]
  blk_point [iblk, V, idx t]

/-- The staged strip of input 1, as the reference takes it from the interleaved columns. -/
theorem a1_at (c : Dev nD) (t : Fin cfg0.N) (y : S2048x128.Idx) :
    iblk m c 1 t y = val_main_v7 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v7, val_main_v6, val_main_v5, val_main_v1, val_main_v0]
  blk_point [iblk, V, idx t]

/-- The staged strip of input 2, as the reference takes it from the interleaved columns. -/
theorem a2_at (c : Dev nD) (t : Fin cfg0.N) (y : S2048x128.Idx) :
    iblk m c 2 t y = val_main_v10 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v10, val_main_v9, val_main_v8, val_main_v1, val_main_v0]
  blk_point [iblk, V, idx t]

/-- The staged strip of input 3, as the reference takes it from the interleaved columns. -/
theorem a3_at (c : Dev nD) (t : Fin cfg0.N) (y : S2048x128.Idx) :
    iblk m c 3 t y = val_main_v13 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v13, val_main_v12, val_main_v11, val_main_v1, val_main_v0]
  blk_point [iblk, V, idx t]

theorem w_at (c : Dev nD) (t : Fin cfg0.N) (y : S3x128.Idx) :
    iblk m c 4 t y = m ((c : Thread nD τ).loc main_arg1) (ix2 ⟨(y 0).val, by have := (y 0).isLt; simp at this; omega⟩ ⟨t.val * 128 + (y 1).val, by have := lt_of_lt_of_eq t.isLt N_0; have := (y 1).isLt; simp at this; omega⟩) := by
  blk_point [iblk, V, idx t]

theorem d_at (c : Dev nD) (t : Fin cfg0.N) (y : S2048x128.Idx) :
    iblk m c 5 t y = m ((c : Thread nD τ).loc main_arg2) (ix2 ⟨(y 0).val, by have := (y 0).isLt; simp at this; omega⟩ ⟨t.val * 128 + (y 1).val, by have := lt_of_lt_of_eq t.isLt N_0; have := (y 1).isLt; simp at this; omega⟩) := by
  blk_point [iblk, V, idx t]
section
variable (c : Dev nD) (t : Fin cfg0.N) (a0 a1 a2 a3 d : Vec Ideal S2048x128 .f32) (w : Vec Ideal S3x128 .f32)
    (h0 : ∀ y : S2048x128.Idx, a0 y = val_main_v4 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩))
    (h1 : ∀ y : S2048x128.Idx, a1 y = val_main_v7 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩))
    (h2 : ∀ y : S2048x128.Idx, a2 y = val_main_v10 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩))
    (h3 : ∀ y : S2048x128.Idx, a3 y = val_main_v13 (F := Ideal) (m ((c : Thread nD τ).loc main_arg0)) (ix2 ⟨(y 0).val, by have := (y 0).isLt; simp at this; omega⟩ ⟨t.val * 128 + (y 1).val, by have := lt_of_lt_of_eq t.isLt N_0; have := (y 1).isLt; simp at this; omega⟩))
    (hd : ∀ y : S2048x128.Idx, d y = m ((c : Thread nD τ).loc main_arg2) (ix2 ⟨(y 0).val, by have := (y 0).isLt; simp at this; omega⟩ ⟨t.val * 128 + (y 1).val, by have := lt_of_lt_of_eq t.isLt N_0; have := (y 1).isLt; simp at this; omega⟩))
    (hw : ∀ y : S3x128.Idx, w y = m ((c : Thread nD τ).loc main_arg1) (ix2 ⟨(y 0).val, by have := (y 0).isLt; simp at this; omega⟩ ⟨t.val * 128 + (y 1).val, by have := lt_of_lt_of_eq t.isLt N_0; have := (y 1).isLt; simp at this; omega⟩))
include h0 h1 h2 h3 hd hw

set_option maxHeartbeats 4000000 in
theorem conv_of (y : S2048x128.Idx) :
    (k0_pay11 w (k0_pay1 a1 a2) (k0_pay5 a1 a2 w) (k0_pay7 w) (k0_pay8 a1 a2)) y = val_main_v33 (F := Ideal) (m ((c : Thread nD τ).loc main_arg0)) (m ((c : Thread nD τ).loc main_arg1)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay1, k0_pay2, k0_pay3, k0_pay4, k0_pay5, k0_pay6, k0_pay7, k0_pay8, k0_pay9, k0_pay10, k0_pay11, val_main_v33, val_main_v32, val_main_v31, val_main_v29, val_main_v30, val_main_v16, val_main_v15, val_main_cst, val_main_v14, val_main_v28, val_main_v27, val_main_v26, val_main_v24, val_main_v25, val_main_v23, val_main_v22, val_main_cst_1, val_main_v21, val_main_v20, val_main_v18, val_main_v19]
  simp only [tap0, tap1, tap2]
  refine congrArg₂ (HAdd.hAdd (α := EReal) (β := EReal)) (congrArg₂ (HAdd.hAdd (α := EReal) (β := EReal)) ?_ ?_) ?_
  · rw [selLt (by omega) (by omega)]
    by_cases h : (y 0).val < 2
    · rw [if_pos h, dif_pos (by omega)]
      exact (mul_zero _).symm
    · have e : ((y 0).val + 2048 - 2) % 2048 = (y 0).val - 2 := by omega
      have e' : 0 + (y 0).val - 2 = (y 0).val - 2 := by omega
      rw [if_neg h, dif_neg (by omega)]
      simp only [e, h1, h2, hw] <;> rfl
  · rw [selLt (by omega) (by omega)]
    by_cases h : (y 0).val < 1
    · rw [if_pos h, dif_pos (by omega)]
      exact (mul_zero _).symm
    · have e : ((y 0).val + 2048 - 1) % 2048 = (y 0).val - 1 := by omega
      have e' : 1 + (y 0).val - 2 = (y 0).val - 1 := by omega
      rw [if_neg h, dif_neg (by omega)]
      simp only [e, e', h1, h2, hw] <;> rfl
  · simp only [h1, h2, hw] <;> rfl

set_option maxHeartbeats 4000000 in
theorem g_of (y : S2048x128.Idx) :
    (k0_pay15 a0 a3 d) y = val_main_v40 (F := Ideal) (m ((c : Thread nD τ).loc main_arg0)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay15, k0_pay12, k0_pay13, val_main_v40, val_main_v38, val_main_v35_0, val_main_v35_2, val_main_call0_v4, val_main_call0_cst_0, val_main_call0_v3, val_main_call0_v2, val_main_call0_cst, val_main_call0_v1, val_main_call0_v0]
  simp only [h0, h3, hd, Ideal.logistic] <;> rfl

set_option maxHeartbeats 4000000 in
theorem corr_of (y : S2048x128.Idx) :
    (k0_pay22 (k0_pay3 w) (k0_pay15 a0 a3 d) (k0_pay17 a0 a3 w d) k0_pay20 (k0_pay21 a0 a3 (k0_pay7 w) d) (0 : EReal)) y = val_main_v68 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay3, k0_pay7, k0_pay10, k0_pay2, k0_pay6, k0_pay9, k0_pay22, k0_pay17, k0_pay20, k0_pay21, val_main_v68, val_main_v64, val_main_v63, val_main_v59, val_main_v58, val_main_v18, val_main_cst_9, val_main_v55, val_main_v54, val_main_v50, val_main_v49, val_main_v24, val_main_cst_6, val_main_v47, val_main_v43, val_main_v42, val_main_v29, val_main_cst_3]
  have e1 : 2 + (y 0).val - 1 = (y 0).val + 1 := by omega
  have e2 : 2 + (y 0).val = (y 0).val + 2 := by omega
  simp only [tap0, tap1, tap2]
  refine congrArg₂ (HAdd.hAdd (α := EReal) (β := EReal)) (congrArg₂ (HAdd.hAdd (α := EReal) (β := EReal)) ?_ ?_) ?_
  · rw [dif_pos (by omega)]
    simp only [hw, g_of m c t a0 a1 a2 a3 d w h0 h1 h2 h3 hd hw] <;> rfl
  · rw [selGe (by omega) (by omega)]
    by_cases h : 2047 ≤ (y 0).val
    · rw [if_pos h, dif_neg (by omega)]
    · have e : ((y 0).val + 2048 - 2047) % 2048 = (y 0).val + 1 := by omega
      rw [if_neg h, dif_pos (by omega)]
      simp only [e, e1, hw, g_of m c t a0 a1 a2 a3 d w h0 h1 h2 h3 hd hw] <;> rfl
  · rw [selGe (by omega) (by omega)]
    by_cases h : 2046 ≤ (y 0).val
    · rw [if_pos h, dif_neg (by omega)]
    · have e : ((y 0).val + 2048 - 2046) % 2048 = (y 0).val + 2 := by omega
      rw [if_neg h, dif_pos (by omega)]
      simp only [e, e2, hw, g_of m c t a0 a1 a2 a3 d w h0 h1 h2 h3 hd hw] <;> rfl

set_option maxHeartbeats 4000000 in
theorem bg_of (y : S2048x128.Idx) :
    (k0_pay24 (k0_pay16 a3 w (k0_pay1 a1 a2) (k0_pay5 a1 a2 w) (k0_pay7 w) (k0_pay8 a1 a2) d)) y = val_main_v41 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay24, k0_pay16, k0_pay12, k0_pay13, val_main_v41, val_main_v38, val_main_v35_0, val_main_v35_2, val_main_call0_v4, val_main_call0_cst_0, val_main_call0_v3, val_main_call0_v2, val_main_call0_cst, val_main_call0_v1, val_main_call0_v0]
  simp only [h3, hd, conv_of m c t a0 a1 a2 a3 d w h0 h1 h2 h3 hd hw, Ideal.logistic] <;> rfl

set_option maxHeartbeats 4000000 in
theorem cg_of (y : S2048x128.Idx) :
    (k0_pay25 a2 (k0_pay3 w) (k0_pay15 a0 a3 d) (k0_pay17 a0 a3 w d) k0_pay20 (k0_pay21 a0 a3 (k0_pay7 w) d) (Scalar.ofBits .f32 0x00000000#32)) y = val_main_v70 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay25, val_main_v70]
  simp only [h2, corr_of m c t a0 a1 a2 a3 d w h0 h1 h2 h3 hd hw] <;> rfl

set_option maxHeartbeats 4000000 in
theorem hh_of (y : S2048x128.Idx) :
    (k0_pay26 a1 (k0_pay3 w) (k0_pay15 a0 a3 d) (k0_pay17 a0 a3 w d) k0_pay20 (k0_pay21 a0 a3 (k0_pay7 w) d) (Scalar.ofBits .f32 0x00000000#32)) y = val_main_v69 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay26, val_main_v69]
  simp only [h1, corr_of m c t a0 a1 a2 a3 d w h0 h1 h2 h3 hd hw] <;> rfl

set_option maxHeartbeats 4000000 in
theorem gate_of (y : S2048x128.Idx) :
    (k0_pay27 (k0_pay14 a0 a3 w (k0_pay1 a1 a2) (k0_pay5 a1 a2 w) (k0_pay7 w) (k0_pay8 a1 a2) d)) y = val_main_v39 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay27, k0_pay14, k0_pay12, k0_pay13, val_main_v39, val_main_call1_v2, val_main_v35_1, val_main_v35_2, val_main_call0_v4, val_main_call0_cst_0, val_main_call0_v3, val_main_call0_v2, val_main_call0_cst, val_main_call0_v1, val_main_call0_v0, val_main_call0_v7, val_main_call0_v6, val_main_call0_cst_1, val_main_call1_v0, val_main_v37, val_main_v34, val_main_call1_v1]
  simp only [h0, h3, hd, conv_of m c t a0 a1 a2 a3 d w h0 h1 h2 h3 hd hw, Ideal.logistic] <;> rfl

set_option maxHeartbeats 4000000 in
theorem w_of (y : S3x128.Idx) :
    (k0_pay23 k0_pay2 (k0_pay4 a1 a2) k0_pay6 (k0_pay15 a0 a3 d) (k0_pay18 a0 a3 (k0_pay1 a1 a2) d) (k0_pay19 a0 a3 (k0_pay8 a1 a2) d)) y = val_main_v66 (F := Ideal) (m ((c : Thread nD τ).loc main_arg0)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy0 := (y 0).isLt
  simp at hy0
  have hy1 := (y 1).isLt
  simp at hy1
  pointwise [k0_pay23, k0_pay2, k0_pay6, k0_pay9, k0_pay1, k0_pay4, k0_pay8, k0_pay18, k0_pay19, val_main_v66, val_main_v65, val_main_v62, val_main_v61, val_main_v60, val_main_v19, val_main_v16, val_main_v15, val_main_cst, val_main_v14, val_main_cst_8, val_main_cst_10, val_main_v57, val_main_v56, val_main_v53, val_main_v52, val_main_v51, val_main_v25, val_main_cst_5, val_main_cst_7, val_main_v48, val_main_v46, val_main_v45, val_main_v44, val_main_v30, val_main_cst_2, val_main_cst_4]
  refine congrArg₂ (HAdd.hAdd (α := EReal) (β := EReal)) (congrArg₂ (HAdd.hAdd (α := EReal) (β := EReal)) ?_ ?_) ?_
  · refine (selOne (by omega) (by omega) _).trans ?_
    by_cases h : (y 0).val = 2
    swap
    · rw [if_neg h, dif_neg (by omega)]
    rw [if_pos h, dif_pos (by omega)]
    simp only [h1, h2, g_of m c t a0 a1 a2 a3 d w h0 h1 h2 h3 hd hw] <;> rfl
  · refine (selOne (by omega) (by omega) _).trans ?_
    by_cases h : (y 0).val = 1
    swap
    · rw [if_neg h, dif_neg (by omega)]
    rw [if_pos h, dif_pos (by omega)]
    refine Finset.sum_congr rfl fun s _ => ?_
    refine (selLt (r := s.val) (k := 1) (by omega) (by omega) _ _).trans ?_
    by_cases hs : s.val < 1
    · rw [if_pos hs, dif_pos (by omega)]
      exact (mul_zero _).symm
    · have e : (s.val + 2048 - 1) % 2048 = s.val - 1 := by omega
      have e' : 1 + s.val - 2 = s.val - 1 := by omega
      rw [if_neg hs, dif_neg (by omega)]
      simp only [e, e', h1, h2, g_of m c t a0 a1 a2 a3 d w h0 h1 h2 h3 hd hw] <;> rfl
  · refine (selOne (by omega) (by omega) _).trans ?_
    by_cases h : (y 0).val = 0
    swap
    · rw [if_neg h, dif_neg (by omega)]
    rw [if_pos h, dif_pos (by omega)]
    refine (Fin.sum_univ_add (a := 2) (b := 2046) (M := EReal) _).trans ?_
    refine congrArg₂ (HAdd.hAdd (α := EReal) (β := EReal)) (Finset.sum_congr rfl fun s _ => ?_) (Finset.sum_congr rfl fun s _ => ?_)
    · refine (selLt (r := s.val) (k := 2) (by omega) (by omega) _ _).trans ?_
      rw [if_pos s.isLt]
      exact (mul_zero _).symm
    · have e : (2 + s.val + 2048 - 2) % 2048 = s.val := by omega
      refine (selLt (r := 2 + s.val) (k := 2) (by omega) (by omega) _ _).trans ?_
      rw [if_neg (by omega)]
      simp only [e, h1, h2, g_of m c t a0 a1 a2 a3 d w h0 h1 h2 h3 hd hw, Fin.val_natAdd] <;> rfl

end

/-- The gradient of the projections as the reference states it. -/
abbrev resD (c : Dev nD) : FVec Ideal S2048x10240 .bf16 := val_main_v84 (F := Ideal) (m ((c : Thread nD τ).loc main_arg0)) (m ((c : Thread nD τ).loc main_arg1)) (m ((c : Thread nD τ).loc main_arg2)) (m ((c : Thread nD τ).loc main_arg3))

/-- The gradient of the taps as the reference states it. -/
abbrev resW (c : Dev nD) : FVec Ideal S3x512 .f32 := val_main_v66 (F := Ideal) (m ((c : Thread nD τ).loc main_arg0)) (m ((c : Thread nD τ).loc main_arg2))

theorem s0_at (c : Dev nD) (t : Fin cfg0.N) (y : S2048x128.Idx) :
    val_main_v80 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 512 + (y 1).val, by have := lt_of_lt_of_eq t.isLt N_0; have := (y 1).isLt; simp at this; omega⟩) = val_main_v41 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v80, val_main_v79, val_main_v78, val_main_v74, val_main_v77, val_main_v73, val_main_v76, val_main_v72, val_main_v75, val_main_v71]
  rw [dif_pos (by omega)]

theorem d0_point (c : Dev nD) (t : Fin cfg0.N) (y : S2048x128.Idx) (j : S2048x10240.Idx) (e0 : (j 0 : ℕ) = y 0) (e1 : (j 1 : ℕ) = 4096 + t.val * 512 + 0 + y 1) :
    (k0_pay24 (k0_pay16 (iblk m c 3 t) (iblk m c 4 t) (k0_pay1 (iblk m c 1 t) (iblk m c 2 t)) (k0_pay5 (iblk m c 1 t) (iblk m c 2 t) (iblk m c 4 t)) (k0_pay7 (iblk m c 4 t)) (k0_pay8 (iblk m c 1 t) (iblk m c 2 t)) (iblk m c 5 t))) y = resD m c j := by
  have ht := lt_of_lt_of_eq t.isLt N_0
  have hy1 := (y 1).isLt
  simp at hy1
  rw [bg_of m c t _ _ _ _ _ _ (a0_at m c t) (a1_at m c t) (a2_at m c t) (a3_at m c t) (d_at m c t) (w_at m c t) y, ← s0_at]
  pointwise [resD, val_main_v84, val_main_v83, val_main_v82, val_main_v81]
  rw [dif_neg (by omega), dif_pos (by omega)]
  refine congrArg _ (congrArg₂ ix2 (Fin.ext e0.symm) (Fin.ext ?_))
  show t.val * 512 + (y 1).val = (j 1 : ℕ) - 4096
  omega

theorem s1_at (c : Dev nD) (t : Fin cfg0.N) (y : S2048x128.Idx) :
    val_main_v80 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 512 + (128 + (y 1).val), by have := lt_of_lt_of_eq t.isLt N_0; have := (y 1).isLt; simp at this; omega⟩) = val_main_v70 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v80, val_main_v79, val_main_v78, val_main_v74, val_main_v77, val_main_v73, val_main_v76, val_main_v72, val_main_v75, val_main_v71]
  rw [dif_neg (by omega), dif_pos (by omega)]

theorem d1_point (c : Dev nD) (t : Fin cfg0.N) (y : S2048x128.Idx) (j : S2048x10240.Idx) (e0 : (j 0 : ℕ) = y 0) (e1 : (j 1 : ℕ) = 4096 + t.val * 512 + 128 + y 1) :
    (k0_pay25 (iblk m c 2 t) (k0_pay3 (iblk m c 4 t)) (k0_pay15 (iblk m c 0 t) (iblk m c 3 t) (iblk m c 5 t)) (k0_pay17 (iblk m c 0 t) (iblk m c 3 t) (iblk m c 4 t) (iblk m c 5 t)) k0_pay20 (k0_pay21 (iblk m c 0 t) (iblk m c 3 t) (k0_pay7 (iblk m c 4 t)) (iblk m c 5 t)) (Scalar.ofBits .f32 0x00000000#32)) y = resD m c j := by
  have ht := lt_of_lt_of_eq t.isLt N_0
  have hy1 := (y 1).isLt
  simp at hy1
  rw [cg_of m c t _ _ _ _ _ _ (a0_at m c t) (a1_at m c t) (a2_at m c t) (a3_at m c t) (d_at m c t) (w_at m c t) y, ← s1_at]
  pointwise [resD, val_main_v84, val_main_v83, val_main_v82, val_main_v81]
  rw [dif_neg (by omega), dif_pos (by omega)]
  refine congrArg _ (congrArg₂ ix2 (Fin.ext e0.symm) (Fin.ext ?_))
  show t.val * 512 + (128 + (y 1).val) = (j 1 : ℕ) - 4096
  omega

theorem s2_at (c : Dev nD) (t : Fin cfg0.N) (y : S2048x128.Idx) :
    val_main_v80 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 512 + (256 + (y 1).val), by have := lt_of_lt_of_eq t.isLt N_0; have := (y 1).isLt; simp at this; omega⟩) = val_main_v69 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v80, val_main_v79, val_main_v78, val_main_v74, val_main_v77, val_main_v73, val_main_v76, val_main_v72, val_main_v75, val_main_v71]
  rw [dif_neg (by omega), dif_neg (by omega), dif_pos (by omega)]

theorem d2_point (c : Dev nD) (t : Fin cfg0.N) (y : S2048x128.Idx) (j : S2048x10240.Idx) (e0 : (j 0 : ℕ) = y 0) (e1 : (j 1 : ℕ) = 4096 + t.val * 512 + 256 + y 1) :
    (k0_pay26 (iblk m c 1 t) (k0_pay3 (iblk m c 4 t)) (k0_pay15 (iblk m c 0 t) (iblk m c 3 t) (iblk m c 5 t)) (k0_pay17 (iblk m c 0 t) (iblk m c 3 t) (iblk m c 4 t) (iblk m c 5 t)) k0_pay20 (k0_pay21 (iblk m c 0 t) (iblk m c 3 t) (k0_pay7 (iblk m c 4 t)) (iblk m c 5 t)) (Scalar.ofBits .f32 0x00000000#32)) y = resD m c j := by
  have ht := lt_of_lt_of_eq t.isLt N_0
  have hy1 := (y 1).isLt
  simp at hy1
  rw [hh_of m c t _ _ _ _ _ _ (a0_at m c t) (a1_at m c t) (a2_at m c t) (a3_at m c t) (d_at m c t) (w_at m c t) y, ← s2_at]
  pointwise [resD, val_main_v84, val_main_v83, val_main_v82, val_main_v81]
  rw [dif_neg (by omega), dif_pos (by omega)]
  refine congrArg _ (congrArg₂ ix2 (Fin.ext e0.symm) (Fin.ext ?_))
  show t.val * 512 + (256 + (y 1).val) = (j 1 : ℕ) - 4096
  omega

theorem s3_at (c : Dev nD) (t : Fin cfg0.N) (y : S2048x128.Idx) :
    val_main_v80 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 512 + (384 + (y 1).val), by have := lt_of_lt_of_eq t.isLt N_0; have := (y 1).isLt; simp at this; omega⟩) = val_main_v39 (F := Ideal) (m ((c : Thread nD τ).loc main_arg0)) (m ((c : Thread nD τ).loc main_arg1)) (m ((c : Thread nD τ).loc main_arg2)) (ix2 ⟨(y 0).val, by have := (y 0).isLt; simp at this; omega⟩ ⟨t.val * 128 + (y 1).val, by have := lt_of_lt_of_eq t.isLt N_0; have := (y 1).isLt; simp at this; omega⟩) := by
  have ht := lt_of_lt_of_eq t.isLt N_0
  have hy1 := (y 1).isLt
  simp at hy1
  pointwise [val_main_v80, val_main_v79, val_main_v78, val_main_v74, val_main_v77, val_main_v73, val_main_v76, val_main_v72, val_main_v75, val_main_v71]
  rw [dif_neg (by omega), dif_neg (by omega), dif_neg (by omega)]

theorem d3_point (c : Dev nD) (t : Fin cfg0.N) (y : S2048x128.Idx) (j : S2048x10240.Idx) (e0 : (j 0 : ℕ) = y 0) (e1 : (j 1 : ℕ) = 4096 + t.val * 512 + 384 + y 1) :
    (k0_pay27 (k0_pay14 (iblk m c 0 t) (iblk m c 3 t) (iblk m c 4 t) (k0_pay1 (iblk m c 1 t) (iblk m c 2 t)) (k0_pay5 (iblk m c 1 t) (iblk m c 2 t) (iblk m c 4 t)) (k0_pay7 (iblk m c 4 t)) (k0_pay8 (iblk m c 1 t) (iblk m c 2 t)) (iblk m c 5 t))) y = resD m c j := by
  have ht := lt_of_lt_of_eq t.isLt N_0
  have hy1 := (y 1).isLt
  simp at hy1
  rw [gate_of m c t _ _ _ _ _ _ (a0_at m c t) (a1_at m c t) (a2_at m c t) (a3_at m c t) (d_at m c t) (w_at m c t) y, ← s3_at]
  pointwise [resD, val_main_v84, val_main_v83, val_main_v82, val_main_v81]
  rw [dif_neg (by omega), dif_pos (by omega)]
  refine congrArg _ (congrArg₂ ix2 (Fin.ext e0.symm) (Fin.ext ?_))
  show t.val * 512 + (384 + (y 1).val) = (j 1 : ℕ) - 4096
  omega

theorem resD_final (c : Dev nD) : (dats m 0 c).arrAt 6 cfg0.N = resD m c := by
  refine (dats m 0 c).arrAt_eq_of_coversWhere_of_agree 6 _ (fun β => 8 ≤ β 1 ∧ β 1 < 12) (by decide +kernel) (fun t hf y => ?_) fun j hj => ?_
  · have ht4 : t.val < 4 := lt_of_lt_of_eq t.isLt N_0
    blk_simp
    rw [after0_6]
    unfold outsAt0
    frame_out
    canon_tiles x hx
    · exact d3_point m c t x _ (by blk_simp [idx t]; omega) (by blk_simp [idx t]; omega)
    · exact d2_point m c t x _ (by blk_simp [idx t]; omega) (by blk_simp [idx t]; omega)
    · exact d1_point m c t x _ (by blk_simp [idx t]; omega) (by blk_simp [idx t]; omega)
    · exact d0_point m c t x _ (by blk_simp [idx t]; omega) (by blk_simp [idx t]; omega)
  · blk_simp [Pipeline.Window.cell_apply] at hj
    blk_simp
    have hb := (j 1).isLt
    simp at hb
    rw [A_eq]
    entry_read
    pointwise [resD, val_main_v84, val_main_v83, val_main_v82, val_main_v81]
    by_cases hlt : (j 1 : ℕ) < 4096
    · rw [dif_pos (by omega)]
      blk_ext []
    · rw [dif_neg (by omega), dif_neg (by omega)]
      blk_ext []

theorem resW_final (c : Dev nD) : (dats m 0 c).arrAt 7 cfg0.N = resW m c := by
  refine (dats m 0 c).arrAt_eq_of_covers 7 _ (by decide +kernel) fun t hf y => ?_
  have ht4 : t.val < 4 := lt_of_lt_of_eq t.isLt N_0
  blk_simp
  rw [after0_7]
  unfold outsAt0
  frame_out
  refine (w_of m c t _ _ _ _ _ _ (a0_at m c t) (a1_at m c t) (a2_at m c t) (a3_at m c t) (d_at m c t) (w_at m c t) y).trans (congrArg (resW m c) ?_)
  blk_ext [idx t]

end Cert.ScBIdeal.Call
-- ==== Proof.M2c.lean ====
module
public import proofs.«01_k».proof.Proof.Gen.M2cIdeal.Value
public import proofs.«01_k».proof.Proof.Gen.M2cRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.M2cIdeal.Call
open Cert.M2cIdeal Cert.M2cIdeal.Gen Idealize.ShloMosaic Idealize.ShloMosaic.TcCoe Idealize.SL.Sem
open Idealize.ShloMosaic.Pipeline (Dat)
open Cert.M2cRefIdeal.Read
variable (m : (ℓ : Loc nD τ sig) → Buf (Elt Ideal) ℓ)

/-- The block index of every window at every grid point. -/
theorem idx : ∀ t : Fin cfg0.N, win0_0.index t = ![0, 72 + t.val] ∧ win0_1.index t = ![0, t.val] ∧ win0_2.index t = ![0, t.val] ∧ win0_3.index t = ![0, t.val] :=
  (by decide +kernel : ∀ t : Fin grid0.N, _)

/-- A choice between two values by a row's number. -/
theorem selLt {α : Type} {r k : ℕ} (hr : r < 2 ^ 31) (hk : k < 2 ^ 31) (a b : α) :
    Scalar.select (IntOp.cmpi .slt (BitVec.ofNat 32 r) (BitVec.ofNat 32 k)) a b = if r < k then a else b :=
  if_congr (WordCmp.cmpi_slt_ofNat_eq_one_iff hr hk) rfl rfl

/-- The sum over the taps of one tap's weight and zeros is the weight. -/
theorem tap_sum (k : Fin 4) (f : Fin 4 → EReal) :
    ∑ x : Fin 4, Scalar.select (IntOp.cmpi .eq (BitVec.ofNat 32 x.val) (BitVec.ofNat 32 k.val)) (f x) 0 = f k := by
  rw [Finset.sum_eq_single k]
  · exact if_pos ( (WordCmp.cmpi_eq_ofNat_eq_one_iff (by omega) (by omega)).2 rfl)
  · intro b _ h
    exact if_neg fun e => h (Fin.ext ( (WordCmp.cmpi_eq_ofNat_eq_one_iff (by omega) (by omega)).1 e))
  · exact fun h => absurd (Finset.mem_univ k) h

theorem tap0 (f : Fin 4 → EReal) :
    ∑ x : Fin 4, Scalar.select (IntOp.cmpi .eq (BitVec.ofNat 32 x.val) 0#32) (f x) 0 = f 0 := tap_sum 0 f

theorem tap1 (f : Fin 4 → EReal) :
    ∑ x : Fin 4, Scalar.select (IntOp.cmpi .eq (BitVec.ofNat 32 x.val) 1#32) (f x) 0 = f 1 := tap_sum 1 f

theorem tap2 (f : Fin 4 → EReal) :
    ∑ x : Fin 4, Scalar.select (IntOp.cmpi .eq (BitVec.ofNat 32 x.val) 2#32) (f x) 0 = f 2 := tap_sum 2 f

theorem tap3 (f : Fin 4 → EReal) :
    ∑ x : Fin 4, Scalar.select (IntOp.cmpi .eq (BitVec.ofNat 32 x.val) 3#32) (f x) 0 = f 3 := tap_sum 3 f

/-- The bias, staged as one row. -/
theorem row_at (c : Dev nD) (t : Fin cfg0.N) (y : S1x128.Idx) :
    iblk m c 2 t y = m ((c : Thread nD τ).loc main_arg2) (ix1 ⟨t.val * 128 + (y 1).val, by have := lt_of_lt_of_eq t.isLt N_0; have := (y 1).isLt; simp at this; omega⟩) := by
  blk_simp [iblk, V, idx t]
  entry_read
  pointwise []
  blk_ext [idx t]

/-- The reference's result as a function of the arguments. -/
abbrev res (c : Dev nD) : FVec Ideal S2048x1024 .f32 := val_main_v26 (F := Ideal) (m ((c : Thread nD τ).loc main_arg0)) (m ((c : Thread nD τ).loc main_arg1)) (m ((c : Thread nD τ).loc main_arg2))

theorem res_point (c : Dev nD) (t : Fin cfg0.N) (y : S2048x128.Idx) (j : S2048x1024.Idx)
    (h0 : (j 0 : ℕ) = y 0) (h1 : (j 1 : ℕ) = t.val * 128 + y 1) :
    k0_pay1 (iblk m c 0 t) (iblk m c 1 t) (k0_pay2 (iblk m c 2 t)) (k0_pay3 (iblk m c 0 t) (iblk m c 1 t)) (iota .tc S4x128 32 [0] iota_S4x128_d0_w32) k0_pay4 y = res m c j := by
  have ht := lt_of_lt_of_eq t.isLt N_0
  pointwise [k0_pay1, k0_pay2, k0_pay3, k0_pay4, res, val_main_v26, val_main_v23, val_main_v18, val_main_v13, val_main_v8, val_main_v7, val_main_cst_0, val_main_v6, val_main_v5, val_main_v3, val_main_v4, val_main_v2, val_main_v1, val_main_cst, val_main_v0, val_main_v12, val_main_v11, val_main_v9, val_main_v10, val_main_v17, val_main_v16, val_main_v14, val_main_v15, val_main_v22, val_main_v21, val_main_v19, val_main_v20, val_main_v25, val_main_v24]
  have hy0 := (y 0).isLt
  simp at hy0
  simp only [row_at, tap0, tap1, tap2, tap3]
  refine congrArg₂ (HAdd.hAdd (α := EReal) (β := EReal)) (congrArg₂ (HAdd.hAdd (α := EReal) (β := EReal)) (congrArg₂ (HAdd.hAdd (α := EReal) (β := EReal)) (congrArg₂ (HAdd.hAdd (α := EReal) (β := EReal)) ?_ ?_) ?_) ?_) ?_
  · rw [selLt (by omega) (by omega)]
    by_cases h : (y 0).val < 3
    · rw [if_pos h, dif_pos (by omega)]
      exact (mul_zero _).symm
    · rw [if_neg h, dif_neg (by omega)]
      blk_point [iblk, V, idx t]
  · rw [selLt (by omega) (by omega)]
    by_cases h : (y 0).val < 2
    · rw [if_pos h, dif_pos (by omega)]
      exact (mul_zero _).symm
    · rw [if_neg h, dif_neg (by omega)]
      blk_point [iblk, V, idx t]
  · rw [selLt (by omega) (by omega)]
    by_cases h : (y 0).val < 1
    · rw [if_pos h, dif_pos (by omega)]
      exact (mul_zero _).symm
    · rw [if_neg h, dif_neg (by omega)]
      blk_point [iblk, V, idx t]
  · blk_point [iblk, V, idx t]
  · blk_point [iblk, V, idx t]

theorem res_final (c : Dev nD) : (dats m 0 c).arrAt 3 cfg0.N = res m c := by
  refine (dats m 0 c).arrAt_eq_of_covers 3 _ (by decide +kernel) fun t hf y => ?_
  blk_simp
  rw [after0_3]
  frame_out
  exact res_point m c t y _ (by blk_simp [idx t]) (by blk_simp [idx t])

end Cert.M2cIdeal.Call
-- ==== Proof.M2cB.lean ====
module
public import proofs.«01_k».proof.Proof.Gen.M2cBIdeal.Value
public import proofs.«01_k».proof.Proof.Gen.M2cBRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.M2cBIdeal.Call
open Cert.M2cBIdeal Cert.M2cBIdeal.Gen Idealize.ShloMosaic Idealize.ShloMosaic.TcCoe Idealize.SL.Sem
open Idealize.ShloMosaic.Pipeline (Dat)
open Cert.M2cBRefIdeal.Read
variable (m : (ℓ : Loc nD τ sig) → Buf (Elt Ideal) ℓ)

/-- The block index of every window at every grid point. -/
theorem idx : ∀ t : Fin cfg0.N, win0_0.index t = ![0, 72 + t.val] ∧ win0_1.index t = ![0, t.val] ∧ win0_3.index t = ![0, t.val] ∧ win0_4.index t = ![0, 72 + t.val] ∧ win0_5.index t = ![0, t.val] ∧ win0_6.index t = ![0, t.val] :=
  (by decide +kernel : ∀ t : Fin grid0.N, _)

/-- A choice between two values by a row's number. -/
theorem selLt {α : Type} {r k : ℕ} (hr : r < 2 ^ 31) (hk : k < 2 ^ 31) (a b : α) :
    Scalar.select (IntOp.cmpi .slt (BitVec.ofNat 32 r) (BitVec.ofNat 32 k)) a b = if r < k then a else b :=
  if_congr (WordCmp.cmpi_slt_ofNat_eq_one_iff hr hk) rfl rfl

/-- The sum over the taps of one tap's weight and zeros is the weight. -/
theorem tap_sum (k : Fin 4) (f : Fin 4 → EReal) :
    ∑ x : Fin 4, Scalar.select (IntOp.cmpi .eq (BitVec.ofNat 32 x.val) (BitVec.ofNat 32 k.val)) (f x) 0 = f k := by
  rw [Finset.sum_eq_single k]
  · exact if_pos ( (WordCmp.cmpi_eq_ofNat_eq_one_iff (by omega) (by omega)).2 rfl)
  · intro b _ h
    exact if_neg fun e => h (Fin.ext ( (WordCmp.cmpi_eq_ofNat_eq_one_iff (by omega) (by omega)).1 e))
  · exact fun h => absurd (Finset.mem_univ k) h

theorem tap0 (f : Fin 4 → EReal) :
    ∑ x : Fin 4, Scalar.select (IntOp.cmpi .eq (BitVec.ofNat 32 x.val) 0#32) (f x) 0 = f 0 := tap_sum 0 f

theorem tap1 (f : Fin 4 → EReal) :
    ∑ x : Fin 4, Scalar.select (IntOp.cmpi .eq (BitVec.ofNat 32 x.val) 1#32) (f x) 0 = f 1 := tap_sum 1 f

theorem tap2 (f : Fin 4 → EReal) :
    ∑ x : Fin 4, Scalar.select (IntOp.cmpi .eq (BitVec.ofNat 32 x.val) 2#32) (f x) 0 = f 2 := tap_sum 2 f

theorem tap3 (f : Fin 4 → EReal) :
    ∑ x : Fin 4, Scalar.select (IntOp.cmpi .eq (BitVec.ofNat 32 x.val) 3#32) (f x) 0 = f 3 := tap_sum 3 f

theorem selGe {α : Type} {r k : ℕ} (hr : r < 2 ^ 31) (hk : k < 2 ^ 31) (a b : α) :
    Scalar.select (IntOp.cmpi .sge (BitVec.ofNat 32 r) (BitVec.ofNat 32 k)) a b = if k ≤ r then a else b :=
  if_congr (WordCmp.cmpi_sge_ofNat_eq_one_iff hr hk) rfl rfl

theorem selEq {α : Type} {r k : ℕ} (hr : r < 2 ^ 32) (hk : k < 2 ^ 32) (a b : α) :
    Scalar.select (IntOp.cmpi .eq (BitVec.ofNat 32 r) (BitVec.ofNat 32 k)) a b = if r = k then a else b :=
  if_congr (WordCmp.cmpi_eq_ofNat_eq_one_iff hr hk) rfl rfl

/-- The staged taps. -/
theorem w_at (c : Dev nD) (t : Fin cfg0.N) (y : S4x128.Idx) :
    iblk m c 1 t y = m ((c : Thread nD τ).loc main_arg1) (ix2 ⟨(y 0).val, by have := (y 0).isLt; simp at this; omega⟩ ⟨t.val * 128 + (y 1).val, by have := lt_of_lt_of_eq t.isLt N_0; have := (y 1).isLt; simp at this; omega⟩) := by
  blk_point [iblk, V, idx t]

/-- The staged strip of the cotangent. -/
theorem d_at (c : Dev nD) (t : Fin cfg0.N) (y : S2048x128.Idx) :
    iblk m c 3 t y = m ((c : Thread nD τ).loc main_arg3) (ix2 ⟨(y 0).val, by have := (y 0).isLt; simp at this; omega⟩ ⟨t.val * 128 + (y 1).val, by have := lt_of_lt_of_eq t.isLt N_0; have := (y 1).isLt; simp at this; omega⟩) := by
  blk_point [iblk, V, idx t]

/-- The staged strip of the projections. -/
theorem x_at (c : Dev nD) (t : Fin cfg0.N) (y : S2048x128.Idx) :
    iblk m c 0 t y = m ((c : Thread nD τ).loc main_arg0) (ix2 ⟨(y 0).val, by have := (y 0).isLt; simp at this; omega⟩ ⟨9216 + (t.val * 128 + (y 1).val), by have := lt_of_lt_of_eq t.isLt N_0; have := (y 1).isLt; simp at this; omega⟩) := by
  blk_point [iblk, V, idx t]

/-- The gradient of the projections as the reference states it. -/
abbrev resD (c : Dev nD) : FVec Ideal S2048x10240 .bf16 := val_main_v71 (F := Ideal) (m ((c : Thread nD τ).loc main_arg1)) (m ((c : Thread nD τ).loc main_arg3)) (m ((c : Thread nD τ).loc main_arg4))

/-- The gradient of the taps as the reference states it. -/
abbrev resW (c : Dev nD) : FVec Ideal S4x1024 .f32 := val_main_v65 (F := Ideal) (m ((c : Thread nD τ).loc main_arg0)) (m ((c : Thread nD τ).loc main_arg3))

/-- The gradient of the bias as the reference states it. -/
abbrev resB (c : Dev nD) : FVec Ideal S1x1024 .f32 := val_main_v72 (F := Ideal) (m ((c : Thread nD τ).loc main_arg3))

set_option maxHeartbeats 400000 in
theorem resD_of (c : Dev nD) (t : Fin cfg0.N) (w : Vec Ideal S4x128 .f32) (d : Vec Ideal S2048x128 .f32)
    (w_at : ∀ y : S4x128.Idx, w y = m ((c : Thread nD τ).loc main_arg1) (ix2 ⟨(y 0).val, by have := (y 0).isLt; simp at this; omega⟩ ⟨t.val * 128 + (y 1).val, by have := lt_of_lt_of_eq t.isLt N_0; have := (y 1).isLt; simp at this; omega⟩))
    (d_at : ∀ y : S2048x128.Idx, d y = m ((c : Thread nD τ).loc main_arg3) (ix2 ⟨(y 0).val, by have := (y 0).isLt; simp at this; omega⟩ ⟨t.val * 128 + (y 1).val, by have := lt_of_lt_of_eq t.isLt N_0; have := (y 1).isLt; simp at this; omega⟩))
    (y : S2048x128.Idx) (j : S2048x1024.Idx)
    (h0 : (j 0 : ℕ) = y 0) (h1 : (j 1 : ℕ) = t.val * 128 + y 1) :
    k0_pay17 (k0_pay2 w) (k0_pay11 d) (k0_pay13 w (k0_pay8 w) d) (k0_pay15 (k0_pay5 w) d) y = val_main_v67 (F := Ideal) (m ((c : Thread nD τ).loc main_arg1)) (m ((c : Thread nD τ).loc main_arg3)) j := by
  have ht := lt_of_lt_of_eq t.isLt N_0
  have hy0 := (y 0).isLt
  simp at hy0
  have hy1 := (y 1).isLt
  simp at hy1
  pointwise [k0_pay17, k0_pay2, k0_pay1, k0_pay11, k0_pay13, k0_pay8, k0_pay7, k0_pay10, k0_pay15, k0_pay5, k0_pay4, val_main_v67, val_main_v63, val_main_v54, val_main_v45, val_main_v37, val_main_v33, val_main_v32, val_main_v20, val_main_v28, val_main_cst_5, val_main_v44, val_main_v40, val_main_v39, val_main_v15, val_main_cst_8, val_main_v53, val_main_v49, val_main_v48, val_main_v10, val_main_cst_11, val_main_v62, val_main_v58, val_main_v57, val_main_v4, val_main_cst_14]
  have hj : j 0 = ⟨(y 0).val, hy0⟩ := Fin.ext h0
  have hq : j 1 = ⟨t.val * 128 + (y 1).val, by omega⟩ := Fin.ext h1
  have e1 : 3 + (y 0).val - 2 = (y 0).val + 1 := by omega
  have e2 : 3 + (y 0).val - 1 = (y 0).val + 2 := by omega
  have e3 : 3 + (y 0).val = (y 0).val + 3 := by omega
  simp only [hq, hj, e1, e2, e3, tap0, tap1, tap2, tap3]
  refine congrArg₂ (HAdd.hAdd (α := EReal) (β := EReal)) (congrArg₂ (HAdd.hAdd (α := EReal) (β := EReal)) (congrArg₂ (HAdd.hAdd (α := EReal) (β := EReal)) ?_ ?_) ?_) ?_
  · refine congrArg₂ (HMul.hMul (α := EReal) (β := EReal)) (w_at _) ((d_at _).trans ?_)
    blk_ext []
  · rw [selGe (by omega) (by omega)]
    by_cases h : 2047 ≤ (y 0).val
    · rw [if_pos h, dif_neg (by omega)]
    · have e : ((y 0).val + 2048 - 2047) % 2048 = (y 0).val + 1 := by omega
      rw [if_neg h, dif_pos (by omega)]
      simp only [e, w_at, d_at]
      rfl
  · rw [selGe (by omega) (by omega)]
    by_cases h : 2046 ≤ (y 0).val
    · rw [if_pos h, dif_neg (by omega)]
    · have e : ((y 0).val + 2048 - 2046) % 2048 = (y 0).val + 2 := by omega
      rw [if_neg h, dif_pos (by omega)]
      simp only [e, w_at, d_at]
      rfl
  · rw [selGe (by omega) (by omega)]
    by_cases h : 2045 ≤ (y 0).val
    · rw [if_pos h, dif_neg (by omega)]
    · have e : ((y 0).val + 2048 - 2045) % 2048 = (y 0).val + 3 := by omega
      rw [if_neg h, dif_pos (by omega)]
      simp only [e, w_at, d_at]
      rfl

theorem resD_point (c : Dev nD) (t : Fin cfg0.N) (y : S2048x128.Idx) (j : S2048x10240.Idx)
    (h0 : (j 0 : ℕ) = y 0) (h1 : (j 1 : ℕ) = 9216 + t.val * 128 + y 1) :
    k0_pay17 (k0_pay2 (iblk m c 1 t)) (k0_pay11 (iblk m c 3 t)) (k0_pay13 (iblk m c 1 t) (k0_pay8 (iblk m c 1 t)) (iblk m c 3 t)) (k0_pay15 (k0_pay5 (iblk m c 1 t)) (iblk m c 3 t)) y = resD m c j := by
  have ht := lt_of_lt_of_eq t.isLt N_0
  have hy1 := (y 1).isLt
  simp at hy1
  rw [resD_of m c t _ _ (w_at m c t) (d_at m c t) y (ix2 ⟨(y 0).val, by have := (y 0).isLt; simp at this; omega⟩ ⟨t.val * 128 + (y 1).val, by omega⟩) rfl rfl]
  pointwise [resD, val_main_v71, val_main_v70, val_main_v69, val_main_v68]
  rw [dif_neg (by omega), dif_pos (by omega)]
  refine congrArg _ (congrArg₂ ix2 (Fin.ext h0.symm) (Fin.ext ?_))
  show t.val * 128 + (y 1).val = (j 1 : ℕ) - 9216
  omega

set_option maxHeartbeats 400000 in
theorem resW_point (c : Dev nD) (t : Fin cfg0.N) (y : S4x128.Idx) (j : S4x1024.Idx)
    (h0 : (j 0 : ℕ) = y 0) (h1 : (j 1 : ℕ) = t.val * 128 + y 1) :
    k0_pay16 k0_pay1 (k0_pay3 (iblk m c 0 t)) k0_pay4 (k0_pay6 (iblk m c 0 t)) (k0_pay11 (iblk m c 3 t)) (k0_pay14 (iblk m c 0 t) k0_pay7 k0_pay9 1#32 (iblk m c 3 t)) y = resW m c j := by
  have ht := lt_of_lt_of_eq t.isLt N_0
  have hy0 := (y 0).isLt
  simp at hy0
  have hy1 := (y 1).isLt
  simp at hy1
  pointwise [k0_pay16, k0_pay1, k0_pay3, k0_pay4, k0_pay6, k0_pay11, k0_pay14, k0_pay7, k0_pay9, k0_pay10, resW, val_main_v65, val_main_v56, val_main_v47, val_main_v38, val_main_v36, val_main_v35, val_main_v34, val_main_v28, val_main_v21, val_main_v2, val_main_v1, val_main_cst, val_main_v0, val_main_cst_4, val_main_cst_6, val_main_v46, val_main_v43, val_main_v42, val_main_v41, val_main_v16, val_main_cst_7, val_main_cst_9, val_main_v55, val_main_v52, val_main_v51, val_main_v50, val_main_v11, val_main_cst_10, val_main_cst_12, val_main_v64, val_main_v61, val_main_v60, val_main_v59, val_main_v5, val_main_cst_13, val_main_cst_15]
  have one : ∀ f : Fin 1 → EReal, ∑ x, f x = f 0 := fun f => Fin.sum_univ_one f
  have hj : j 1 = ⟨t.val * 128 + (y 1).val, by omega⟩ := Fin.ext h1
  rw [selEq (by omega) (by omega), selEq (by omega) (by omega), selEq (by omega) (by omega), selEq (by omega) (by omega)]
  simp only [one, hj]
  rcases (show (y 0).val = 3 ∨ (y 0).val = 2 ∨ (y 0).val = 1 ∨ (y 0).val = 0 by omega) with h | h | h | h
  · rw [if_pos h, if_neg (by omega), if_neg (by omega), if_neg (by omega), dif_pos (by omega), dif_neg (by omega), dif_neg (by omega), dif_neg (by omega)]
    simp only [zero_add, add_zero]
    simp only [x_at, d_at]
    rfl
  · rw [if_neg (by omega), if_pos h, if_neg (by omega), if_neg (by omega), dif_neg (by omega), dif_pos (by omega), dif_neg (by omega), dif_neg (by omega)]
    simp only [zero_add, add_zero]
    refine Finset.sum_congr rfl fun s _ => ?_
    rw [selLt (by omega) (by omega)]
    by_cases hs : s.val < 1
    · rw [if_pos hs, dif_pos (by omega)]
      exact (mul_zero _).symm
    · have e : (s.val + 2048 - 1) % 2048 = s.val - 1 := by omega
      have e' : 2 + s.val - 3 = s.val - 1 := by omega
      rw [if_neg hs, dif_neg (by omega)]
      simp only [e, e', x_at, d_at]
      rfl
  · rw [if_neg (by omega), if_neg (by omega), if_pos h, if_neg (by omega), dif_neg (by omega), dif_neg (by omega), dif_pos (by omega), dif_neg (by omega)]
    simp only [zero_add, add_zero]
    refine Finset.sum_congr rfl fun s _ => ?_
    rw [selLt (by omega) (by omega)]
    by_cases hs : s.val < 2
    · rw [if_pos hs, dif_pos (by omega)]
      exact (mul_zero _).symm
    · have e : (s.val + 2048 - 2) % 2048 = s.val - 2 := by omega
      have e' : 1 + s.val - 3 = s.val - 2 := by omega
      rw [if_neg hs, dif_neg (by omega)]
      simp only [e, e', x_at, d_at]
      rfl
  · rw [if_neg (by omega), if_neg (by omega), if_neg (by omega), if_pos h, dif_neg (by omega), dif_neg (by omega), dif_neg (by omega), dif_pos (by omega)]
    simp only [zero_add, add_zero]
    refine (Fin.sum_univ_add (a := 3) (b := 2045) (M := EReal) _).trans ?_
    refine congrArg₂ (HAdd.hAdd (α := EReal) (β := EReal)) (Finset.sum_congr rfl fun s _ => ?_) (Finset.sum_congr rfl fun s _ => ?_)
    · refine (selLt (r := s.val) (k := 3) (by omega) (by omega) _ _).trans ?_
      rw [if_pos s.isLt]
      exact (mul_zero _).symm
    · have e : (3 + s.val + 2048 - 3) % 2048 = s.val := by omega
      refine (selLt (r := 3 + s.val) (k := 3) (by omega) (by omega) _ _).trans ?_
      rw [if_neg (by omega)]
      simp only [e, x_at, d_at, Fin.val_natAdd]
      rfl

theorem resB_point (c : Dev nD) (t : Fin cfg0.N) (y : S1x128.Idx) (j : S1x1024.Idx)
    (h1 : (j 1 : ℕ) = t.val * 128 + y 1) :
    k0_pay12 (iblk m c 3 t) y = resB m c j := by
  have ht := lt_of_lt_of_eq t.isLt N_0
  pointwise [k0_pay12, resB, val_main_v72, val_main_v31, val_main_v30, val_main_v29, val_main_cst_2, val_main_cst_3]
  refine Eq.trans ?_ (Fin.sum_univ_one _).symm
  blk_point [iblk, V, idx t]

theorem resD_final (c : Dev nD) : (dats m 0 c).arrAt 4 cfg0.N = resD m c := by
  refine (dats m 0 c).arrAt_eq_of_coversWhere_of_agree 4 _ (fun β => 72 ≤ β 1) (by decide +kernel) (fun t hf y => ?_) fun j hj => ?_
  · blk_simp
    rw [after0_4]
    unfold outsAt0
    frame_out
    exact resD_point m c t y _ (by blk_simp [idx t]) (by blk_simp [idx t]; omega)
  · blk_simp [Pipeline.Window.cell_apply] at hj
    blk_simp
    have hb := (j 1).isLt
    simp at hb
    rw [A_eq]
    entry_read
    pointwise [resD, val_main_v71, val_main_v68, val_main_v69, val_main_v67, val_main_v63, val_main_v54, val_main_v45, val_main_v37, val_main_v33, val_main_v32, val_main_v20, val_main_v28, val_main_cst_5, val_main_v44, val_main_v40, val_main_v39, val_main_v15, val_main_cst_8, val_main_v53, val_main_v49, val_main_v48, val_main_v10, val_main_cst_11, val_main_v62, val_main_v58, val_main_v57, val_main_v4, val_main_cst_14, val_main_v70]
    rw [dif_pos (by omega)]
    blk_ext []

theorem resW_final (c : Dev nD) : (dats m 0 c).arrAt 5 cfg0.N = resW m c := by
  refine (dats m 0 c).arrAt_eq_of_covers 5 _ (by decide +kernel) fun t hf y => ?_
  blk_simp
  rw [after0_5]
  unfold outsAt0
  frame_out
  exact resW_point m c t y _ (by blk_simp [idx t]) (by blk_simp [idx t])

theorem resB_final (c : Dev nD) : (dats m 0 c).arrAt 6 cfg0.N = resB m c := by
  refine (dats m 0 c).arrAt_eq_of_covers 6 _ (by decide +kernel) fun t hf y => ?_
  blk_simp
  rw [after0_6]
  unfold outsAt0
  frame_out
  exact resB_point m c t y _ (by blk_simp [idx t])

end Cert.M2cBIdeal.Call
-- ==== Proof.Act.lean ====
module
public import proofs.«01_k».proof.Proof.Gen.ActIdeal.Value
public import proofs.«01_k».proof.Proof.Gen.ActRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ActIdeal.Call
open Cert.ActIdeal Cert.ActIdeal.Gen Idealize.ShloMosaic Idealize.ShloMosaic.TcCoe Idealize.SL.Sem
open Idealize.ShloMosaic.Pipeline (Dat)
open Cert.ActRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 16] ∧ win0_2.index t = ![t.val, 15] ∧ win0_3.index t = ![0, 0] ∧ win0_4.index t = ![0, 0] ∧ win0_5.index t = ![t.val, 0] :=
  (by decide +kernel : ∀ t : Fin grid0.N, _)

/-- The staged block of window 1: columns 8192 … of the projection. -/
theorem w1_at (c : Dev nD) (t : Fin cfg0.N) (y : S512x512.Idx) :
    X0_1 m c t y = m ((c : Thread nD τ).loc main_arg1)
      (ix2 ⟨t.val * 512 + (y 0).val, by have := lt_of_lt_of_eq t.isLt N_0; have := (y 0).isLt; simp at this; omega⟩
        ⟨8192 + (y 1).val, by have := lt_of_lt_of_eq t.isLt N_0; have := (y 1).isLt; simp at this; omega⟩) := by
  unfold X0_1 Pipeline.Window.fill
  rw [dif_pos (moved0_1 t _)]
  blk_point [iblk, V, idx t]

/-- The staged block of window 2: columns 7680 … of the projection. -/
theorem w2_at (c : Dev nD) (t : Fin cfg0.N) (y : S512x512.Idx) :
    X0_2 m c t y = m ((c : Thread nD τ).loc main_arg1)
      (ix2 ⟨t.val * 512 + (y 0).val, by have := lt_of_lt_of_eq t.isLt N_0; have := (y 0).isLt; simp at this; omega⟩
        ⟨7680 + (y 1).val, by have := lt_of_lt_of_eq t.isLt N_0; have := (y 1).isLt; simp at this; omega⟩) := by
  unfold X0_2 Pipeline.Window.fill
  rw [dif_pos (moved0_2 t _)]
  blk_point [iblk, V, idx t]

/-- The vector of window 3, staged as one row. -/
theorem row_at (c : Dev nD) (t : Fin cfg0.N) (y : S1x512.Idx) :
    iblk m c 3 t y = m ((c : Thread nD τ).loc main_arg2) (ix1 ⟨(y 1).val, by have := (y 1).isLt; simp at this; omega⟩) := by
  blk_simp [iblk, V, idx t]
  entry_read
  pointwise []
  blk_ext [idx t]

theorem cube (x : EReal) : x * (x * x) = x * x * x := (mul_assoc x x x).symm

/-- The reference's result as a function of the arguments. -/
abbrev res (c : Dev nD) : FVec Ideal S2048x512 .f32 := val_main_v29 (F := Ideal) (m ((c : Thread nD τ).loc main_arg0)) (m ((c : Thread nD τ).loc main_arg1)) (m ((c : Thread nD τ).loc main_arg2)) (m ((c : Thread nD τ).loc main_arg3))

theorem res_point (c : Dev nD) (t : Fin cfg0.N) (y : S512x512.Idx) (j : S2048x512.Idx)
    (h0 : (j 0 : ℕ) = t.val * 512 + y 0) (h1 : (j 1 : ℕ) = y 1) :
    k0_pay1 (iblk m c 0 t) (X0_1 m c t) (X0_2 m c t) (iblk m c 3 t) (iblk m c 4 t) y = res m c j := by
  have ht := lt_of_lt_of_eq t.isLt N_0
  pointwise [k0_pay1, res, val_main_v29, val_main_v27, val_main_v19, val_main_v6, val_main_v5, val_main_v4, val_main_v3, val_main_v0, val_main_v18, val_main_v17, val_main_cst_2, val_main_v16, val_main_v15, val_main_cst_1, val_main_v14, val_main_v13, val_main_v12, val_main_cst_0, val_main_v11, val_main_v10, val_main_v9, val_main_cst, val_main_v8, val_main_v7, val_main_v26, val_main_v25, val_main_cst_4, val_main_v24, val_main_v23, val_main_cst_3, val_main_v22, val_main_v21, val_main_v20, val_main_v2, val_main_v28, val_main_v1, val_main_call0_v5, val_main_call0_v4, val_main_call0_cst_0, val_main_call0_v3, val_main_call0_v2, val_main_call0_cst, val_main_call0_v1, val_main_call0_v0]
  simp only [w1_at, w2_at, row_at, cube, Ideal.logistic]
  blk_point [iblk, V, idx t]

theorem res_final (c : Dev nD) : (dats m 0 c).arrAt 5 cfg0.N = res m c := by
  refine (dats m 0 c).arrAt_eq_of_covers 5 _ (by decide +kernel) fun t hf y => ?_
  blk_simp
  rw [after0_5]
  unfold outsAt0
  frame_out
  exact res_point m c t y _ (by blk_simp [idx t]) (by blk_simp [idx t])

end Cert.ActIdeal.Call
-- ==== Proof.Sgu.lean ====
module
public import proofs.«01_k».proof.Proof.Gen.SguIdeal.Value
public import proofs.«01_k».proof.Proof.Gen.SguRefIdeal.Read
public import Idealize.ShloMosaic.Lib.Pointwise
public import Idealize.ShloMosaic.Lib.Pipeline.ValueKit
public import Idealize.ShloMosaic.Lib.Claim
public import Idealize.ShloMosaic.Lib.KernelVsHost
@[expose] public section
set_option maxRecDepth 16384
noncomputable section
namespace Cert.SguIdeal.Call
open Cert.SguIdeal Cert.SguIdeal.Gen Idealize.ShloMosaic Idealize.ShloMosaic.TcCoe Idealize.SL.Sem
open Idealize.ShloMosaic.Pipeline (Dat)
open Cert.SguRefIdeal.Read
variable (m : (ℓ : Loc nD τ sig) → Buf (Elt Ideal) ℓ)

/-- The block index of every window at every grid point. -/
theorem idx : ∀ t : Fin cfg0.N, win0_0.index t = ![t.val, 12] ∧ win0_1.index t = ![t.val, 13] ∧ win0_2.index t = ![t.val, 14] ∧ win0_3.index t = ![0, 0] ∧ win0_4.index t = ![0, 0] ∧ win0_5.index t = ![0, 0, 0] ∧ win0_6.index t = ![1, 0, 0] ∧ win0_7.index t = ![2, 0, 0] ∧ win0_8.index t = ![3, 0, 0] ∧ win0_9.index t = ![4, 0, 0] ∧ win0_10.index t = ![5, 0, 0] ∧ win0_11.index t = ![6, 0, 0] ∧ win0_12.index t = ![7, 0, 0] ∧ win0_13.index t = ![0, 0] ∧ win0_14.index t = ![t.val, 0] :=
  (by decide +kernel : ∀ t : Fin grid0.N, _)

/-- The staged block of window 0: columns 6144 … of the projection. -/
theorem w0_at (c : Dev nD) (t : Fin cfg0.N) (y : S128x512.Idx) :
    X0_0 m c t y = m ((c : Thread nD τ).loc main_arg0)
      (ix2 ⟨t.val * 128 + (y 0).val, by have := lt_of_lt_of_eq t.isLt N_0; have := (y 0).isLt; simp at this; omega⟩
        ⟨6144 + (y 1).val, by have := lt_of_lt_of_eq t.isLt N_0; have := (y 1).isLt; simp at this; omega⟩) := by
  unfold X0_0 Pipeline.Window.fill
  rw [dif_pos (moved0_0 t _)]
  blk_point [iblk, V, idx t]

/-- The staged block of window 1: columns 6656 … of the projection. -/
theorem w1_at (c : Dev nD) (t : Fin cfg0.N) (y : S128x512.Idx) :
    X0_1 m c t y = m ((c : Thread nD τ).loc main_arg0)
      (ix2 ⟨t.val * 128 + (y 0).val, by have := lt_of_lt_of_eq t.isLt N_0; have := (y 0).isLt; simp at this; omega⟩
        ⟨6656 + (y 1).val, by have := lt_of_lt_of_eq t.isLt N_0; have := (y 1).isLt; simp at this; omega⟩) := by
  unfold X0_1 Pipeline.Window.fill
  rw [dif_pos (moved0_1 t _)]
  blk_point [iblk, V, idx t]

/-- The staged block of window 2: columns 7168 … of the projection. -/
theorem w2_at (c : Dev nD) (t : Fin cfg0.N) (y : S128x512.Idx) :
    X0_2 m c t y = m ((c : Thread nD τ).loc main_arg0)
      (ix2 ⟨t.val * 128 + (y 0).val, by have := lt_of_lt_of_eq t.isLt N_0; have := (y 0).isLt; simp at this; omega⟩
        ⟨7168 + (y 1).val, by have := lt_of_lt_of_eq t.isLt N_0; have := (y 1).isLt; simp at this; omega⟩) := by
  unfold X0_2 Pipeline.Window.fill
  rw [dif_pos (moved0_2 t _)]
  blk_point [iblk, V, idx t]

/-- The vector of window 3, staged as one row. -/
theorem row3_at (c : Dev nD) (t : Fin cfg0.N) (y : S1x512.Idx) :
    iblk m c 3 t y = m ((c : Thread nD τ).loc main_arg1) (ix1 ⟨(y 1).val, by have := (y 1).isLt; simp at this; omega⟩) := by
  blk_simp [iblk, V, idx t]
  simp only [hostOps0, hostOps0_1, List.flatten_cons, List.flatten_nil, List.append_nil, List.cons_append, List.nil_append]
  entry_read
  pointwise []
  blk_ext [idx t]

/-- The vector of window 4, staged as one row. -/
theorem row4_at (c : Dev nD) (t : Fin cfg0.N) (y : S1x512.Idx) :
    iblk m c 4 t y = m ((c : Thread nD τ).loc main_arg2) (ix1 ⟨(y 1).val, by have := (y 1).isLt; simp at this; omega⟩) := by
  blk_simp [iblk, V, idx t]
  simp only [hostOps0, hostOps0_1, List.flatten_cons, List.flatten_nil, List.append_nil, List.cons_append, List.nil_append]
  entry_read
  pointwise []
  blk_ext [idx t]

/-- The mixing matrix of head 0. -/
theorem h0_at (c : Dev nD) (t : Fin cfg0.N) (y : S128x128.Idx) :
    k0_pay4 (iblk m c 5 t) y = (m ((c : Thread nD τ).loc main_arg3)) (ix3 ⟨0, by decide⟩ ⟨(y 0).val, by have := (y 0).isLt; simp at this; omega⟩ ⟨(y 1).val, by have := (y 1).isLt; simp at this; omega⟩) := by
  pointwise [k0_pay4]
  blk_point [iblk, V, idx t]

/-- The mixing matrix of head 1. -/
theorem h1_at (c : Dev nD) (t : Fin cfg0.N) (y : S128x128.Idx) :
    k0_pay5 (iblk m c 6 t) y = (m ((c : Thread nD τ).loc main_arg3)) (ix3 ⟨1, by decide⟩ ⟨(y 0).val, by have := (y 0).isLt; simp at this; omega⟩ ⟨(y 1).val, by have := (y 1).isLt; simp at this; omega⟩) := by
  pointwise [k0_pay5]
  blk_point [iblk, V, idx t]

/-- The mixing matrix of head 2. -/
theorem h2_at (c : Dev nD) (t : Fin cfg0.N) (y : S128x128.Idx) :
    k0_pay6 (iblk m c 7 t) y = (m ((c : Thread nD τ).loc main_arg3)) (ix3 ⟨2, by decide⟩ ⟨(y 0).val, by have := (y 0).isLt; simp at this; omega⟩ ⟨(y 1).val, by have := (y 1).isLt; simp at this; omega⟩) := by
  pointwise [k0_pay6]
  blk_point [iblk, V, idx t]

/-- The mixing matrix of head 3. -/
theorem h3_at (c : Dev nD) (t : Fin cfg0.N) (y : S128x128.Idx) :
    k0_pay7 (iblk m c 8 t) y = (m ((c : Thread nD τ).loc main_arg3)) (ix3 ⟨3, by decide⟩ ⟨(y 0).val, by have := (y 0).isLt; simp at this; omega⟩ ⟨(y 1).val, by have := (y 1).isLt; simp at this; omega⟩) := by
  pointwise [k0_pay7]
  blk_point [iblk, V, idx t]

/-- The mixing matrix of head 4. -/
theorem h4_at (c : Dev nD) (t : Fin cfg0.N) (y : S128x128.Idx) :
    k0_pay8 (iblk m c 9 t) y = (m ((c : Thread nD τ).loc main_arg3)) (ix3 ⟨4, by decide⟩ ⟨(y 0).val, by have := (y 0).isLt; simp at this; omega⟩ ⟨(y 1).val, by have := (y 1).isLt; simp at this; omega⟩) := by
  pointwise [k0_pay8]
  blk_point [iblk, V, idx t]

/-- The mixing matrix of head 5. -/
theorem h5_at (c : Dev nD) (t : Fin cfg0.N) (y : S128x128.Idx) :
    k0_pay9 (iblk m c 10 t) y = (m ((c : Thread nD τ).loc main_arg3)) (ix3 ⟨5, by decide⟩ ⟨(y 0).val, by have := (y 0).isLt; simp at this; omega⟩ ⟨(y 1).val, by have := (y 1).isLt; simp at this; omega⟩) := by
  pointwise [k0_pay9]
  blk_point [iblk, V, idx t]

/-- The mixing matrix of head 6. -/
theorem h6_at (c : Dev nD) (t : Fin cfg0.N) (y : S128x128.Idx) :
    k0_pay10 (iblk m c 11 t) y = (m ((c : Thread nD τ).loc main_arg3)) (ix3 ⟨6, by decide⟩ ⟨(y 0).val, by have := (y 0).isLt; simp at this; omega⟩ ⟨(y 1).val, by have := (y 1).isLt; simp at this; omega⟩) := by
  pointwise [k0_pay10]
  blk_point [iblk, V, idx t]

/-- The mixing matrix of head 7. -/
theorem h7_at (c : Dev nD) (t : Fin cfg0.N) (y : S128x128.Idx) :
    k0_pay11 (iblk m c 12 t) y = (m ((c : Thread nD τ).loc main_arg3)) (ix3 ⟨7, by decide⟩ ⟨(y 0).val, by have := (y 0).isLt; simp at this; omega⟩ ⟨(y 1).val, by have := (y 1).isLt; simp at this; omega⟩) := by
  pointwise [k0_pay11]
  blk_point [iblk, V, idx t]

/-- The bias, staged on 128 rows of which the first eight are its own. -/
theorem bias_at (c : Dev nD) (t : Fin cfg0.N) (y : S128x128.Idx) (hy : (y 0).val < 8) :
    k0_pay12 (iblk m c 13 t) y = (m ((c : Thread nD τ).loc main_arg4)) (ix2 ⟨(y 0).val, hy⟩ ⟨(y 1).val, by have := (y 1).isLt; simp at this; omega⟩) := by
  pointwise [k0_pay12]
  blk_simp [iblk, V, idx t]
  simp only [hostOps0, hostOps0_1, List.flatten_cons, List.flatten_nil, List.append_nil, List.cons_append, List.nil_append]
  entry_read
  change pad S128x128 ![0, 0] ![120, 0] ![0, 0] (m ((c : Thread nD τ).loc main_arg4)) (sitofp (F := Ideal) .f32 (constantI S_ 32 0#32)) pads_S8x128_S128x128_01200_000 h_S_ _ = _
  have e : ((View.whole main_v2).slice (win0_13.rect t)).emb y = y := by blk_ext [idx t]
  have e0 := congrArg (fun z : S128x128.Idx => (z 0).val) e
  have e1 := congrArg (fun z : S128x128.Idx => (z 1).val) e
  rw [pad_apply_of_inside (k := ix2 ⟨(y 0).val, hy⟩ ⟨(y 1).val, by have := (y 1).isLt; simp at this; omega⟩)]
  · rfl
  · intro a
    fin_cases a
    · exact e0.trans (by simp)
    · exact e1.trans (by simp)

theorem cube (x : EReal) : x * (x * x) = x * x * x := (mul_assoc x x x).symm

theorem gate_of (c : Dev nD) (t : Fin cfg0.N) (y : S128x512.Idx) :
    k0_pay13 (X0_0 m c t) y = val_main_v15 (F := Ideal) (m ((c : Thread nD τ).loc main_arg0)) (ix2 ⟨t.val * 128 + (y 0).val, by have := lt_of_lt_of_eq t.isLt N_0; have := (y 0).isLt; simp at this; omega⟩ ⟨(y 1).val, by have := (y 1).isLt; simp at this; omega⟩) := by
  have ht := lt_of_lt_of_eq t.isLt N_0
  pointwise [k0_pay13, val_main_v15, val_main_v14, val_main_v13, val_main_cst_2, val_main_v12, val_main_v11, val_main_cst_1, val_main_v10, val_main_v9, val_main_v8, val_main_cst_0, val_main_v7, val_main_v6, val_main_v5, val_main_cst, val_main_v4, val_main_v3, val_main_v0]
  simp only [w0_at, cube]

theorem norm_of (c : Dev nD) (t : Fin cfg0.N) (y : S128x512.Idx) :
    k0_pay16 (k0_pay3 (iblk m c 4 t)) (k0_pay14 (X0_1 m c t)) (k0_pay15 (k0_pay2 (iblk m c 3 t))) y = val_main_v52 (F := Ideal) (m ((c : Thread nD τ).loc main_arg0)) (m ((c : Thread nD τ).loc main_arg1)) (m ((c : Thread nD τ).loc main_arg2)) (ix2 ⟨t.val * 128 + (y 0).val, by have := lt_of_lt_of_eq t.isLt N_0; have := (y 0).isLt; simp at this; omega⟩ ⟨(y 1).val, by have := (y 1).isLt; simp at this; omega⟩) := by
  have ht := lt_of_lt_of_eq t.isLt N_0
  pointwise [k0_pay16, k0_pay3, k0_pay14, k0_pay15, k0_pay2, val_main_v52, val_main_v51, val_main_v50, val_main_v49, val_main_v48, val_main_v47, val_main_v46, val_main_v45, val_main_v44, val_main_v43, val_main_v42, val_main_cst_11, val_main_v39, val_main_v38, val_main_cst_10, val_main_v37, val_main_v36, val_main_v35, val_main_v34, val_main_v33, val_main_v32, val_main_v31, val_main_cst_8, val_main_v30, val_main_v29, val_main_v28, val_main_v27, val_main_v26, val_main_cst_6, val_main_v25, val_main_v24, val_main_cst_5, val_main_v23, val_main_v22, val_main_v21, val_main_cst_4, val_main_v20, val_main_v19, val_main_v18, val_main_cst_3, val_main_v17, val_main_v16, val_main_v1, val_main_cst_7, val_main_cst_9, val_main_v41, val_main_v40]
  simp only [w1_at, cube, row3_at, row4_at]
  all_goals (try rfl)

theorem selGe {α : Type} {r k : ℕ} (hr : r < 2 ^ 31) (hk : k < 2 ^ 31) (a b : α) :
    Scalar.select (IntOp.cmpi .sge (BitVec.ofNat 32 r) (BitVec.ofNat 32 k)) a b = if k ≤ r then a else b :=
  if_congr (WordCmp.cmpi_sge_ofNat_eq_one_iff hr hk) rfl rfl

theorem selGe2 {α : Type} {r k : ℕ} (hr : r < 2 ^ 31) (hk : k < 2 ^ 31) (a b : α) :
    Scalar.select (Scalar.select (IntOp.cmpi .sge (IntOp.addi (BitVec.ofNat 32 r) 0#32) (BitVec.ofNat 32 k)) 1#1 0#1) a b = if k ≤ r then a else b := by
  have e : IntOp.addi (BitVec.ofNat 32 r) 0#32 = BitVec.ofNat 32 r := BitVec.add_zero _
  rw [e, selGe hr hk]
  by_cases h : k ≤ r
  · rw [if_pos h, if_pos h]
    rfl
  · rw [if_neg h, if_neg h]
    rfl

theorem float_one : (FloatOps.sitofp (F := Ideal) .f32 1#32 : EReal) = 1 := by
  show (((1#32 : BitVec 32).toInt : ℝ) : EReal) = 1
  norm_num

theorem float_zero : (FloatOps.sitofp (F := Ideal) .f32 0#32 : EReal) = 0 := by
  show (((0#32 : BitVec 32).toInt : ℝ) : EReal) = 0
  norm_num

theorem float_ite (p : Prop) [Decidable p] : (FloatOps.sitofp (F := Ideal) .f32 (if p then 1#32 else 0#32) : EReal) = if p then 1 else 0 := by
  by_cases h : p
  · rw [if_pos h, if_pos h, float_one]
  · rw [if_neg h, if_neg h, float_zero]

theorem lane0 : ∀ r : Fin 512, BitVec.setWidth 32 (IntOp.andi (IntOp.cmpi CmpIPredicate.sge (BitVec.ofNat 32 r.val) 0#32) (IntOp.cmpi CmpIPredicate.slt (BitVec.ofNat 32 r.val) 64#32)) = if r.val / 64 = 0 then 1#32 else 0#32 := by
  decide +kernel

theorem lane1 : ∀ r : Fin 512, BitVec.setWidth 32 (IntOp.andi (IntOp.cmpi CmpIPredicate.sge (BitVec.ofNat 32 r.val) 64#32) (IntOp.cmpi CmpIPredicate.slt (BitVec.ofNat 32 r.val) 128#32)) = if r.val / 64 = 1 then 1#32 else 0#32 := by
  decide +kernel

theorem lane2 : ∀ r : Fin 512, BitVec.setWidth 32 (IntOp.andi (IntOp.cmpi CmpIPredicate.sge (BitVec.ofNat 32 r.val) 128#32) (IntOp.cmpi CmpIPredicate.slt (BitVec.ofNat 32 r.val) 192#32)) = if r.val / 64 = 2 then 1#32 else 0#32 := by
  decide +kernel

theorem lane3 : ∀ r : Fin 512, BitVec.setWidth 32 (IntOp.andi (IntOp.cmpi CmpIPredicate.sge (BitVec.ofNat 32 r.val) 192#32) (IntOp.cmpi CmpIPredicate.slt (BitVec.ofNat 32 r.val) 256#32)) = if r.val / 64 = 3 then 1#32 else 0#32 := by
  decide +kernel

theorem lane4 : ∀ r : Fin 512, BitVec.setWidth 32 (IntOp.andi (IntOp.cmpi CmpIPredicate.sge (BitVec.ofNat 32 r.val) 256#32) (IntOp.cmpi CmpIPredicate.slt (BitVec.ofNat 32 r.val) 320#32)) = if r.val / 64 = 4 then 1#32 else 0#32 := by
  decide +kernel

theorem lane5 : ∀ r : Fin 512, BitVec.setWidth 32 (IntOp.andi (IntOp.cmpi CmpIPredicate.sge (BitVec.ofNat 32 r.val) 320#32) (IntOp.cmpi CmpIPredicate.slt (BitVec.ofNat 32 r.val) 384#32)) = if r.val / 64 = 5 then 1#32 else 0#32 := by
  decide +kernel

theorem lane6 : ∀ r : Fin 512, BitVec.setWidth 32 (IntOp.andi (IntOp.cmpi CmpIPredicate.sge (BitVec.ofNat 32 r.val) 384#32) (IntOp.cmpi CmpIPredicate.slt (BitVec.ofNat 32 r.val) 448#32)) = if r.val / 64 = 6 then 1#32 else 0#32 := by
  decide +kernel

theorem lane7 : ∀ r : Fin 512, BitVec.setWidth 32 (IntOp.andi (IntOp.cmpi CmpIPredicate.sge (BitVec.ofNat 32 r.val) 448#32) (IntOp.cmpi CmpIPredicate.slt (BitVec.ofNat 32 r.val) 512#32)) = if r.val / 64 = 7 then 1#32 else 0#32 := by
  decide +kernel

/-- A lane's head, computed in words. -/
theorem lane_head : ∀ r : Fin 512, Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) (Scalar.subi (Scalar.extui (Scalar.cmpi CmpIPredicate.sgt 64#32 0#32)) (Scalar.extui (Scalar.cmpi CmpIPredicate.slt 64#32 0#32)))) (IntOp.cmpi CmpIPredicate.ne (IntOp.remsi ArithUnit.vector (BitVec.ofNat 32 r.val) 64#32) 0#32)) (IntOp.subi (IntOp.divsi ArithUnit.vector (BitVec.ofNat 32 r.val) 64#32) 1#32) (IntOp.divsi ArithUnit.vector (BitVec.ofNat 32 r.val) 64#32) = BitVec.ofNat 32 (r.val / 64) := by
  decide +kernel

/-- The product with the matrix that repeats each head's column over its lanes. -/
theorem spread (q : ℕ) (hq : q < 8) (f : Fin 128 → EReal) :
    ∑ x : Fin 128, f x * (FloatOps.sitofp (F := Ideal) .f32 (BitVec.setWidth 32 (IntOp.cmpi CmpIPredicate.eq (BitVec.ofNat 32 q) (BitVec.ofNat 32 x.val))) : EReal) = f ⟨q, by omega⟩ := by
  have key : ∀ x : Fin 128, BitVec.setWidth 32 (IntOp.cmpi CmpIPredicate.eq (BitVec.ofNat 32 q) (BitVec.ofNat 32 x.val)) = if q = x.val then 1#32 else 0#32 := by
    intro x
    by_cases h : q = x.val
    · rw [if_pos h, (WordCmp.cmpi_eq_ofNat_eq_one_iff (by omega) (by omega)).2 h]
      rfl
    · rw [if_neg h]
      have h1 := mt (WordCmp.cmpi_eq_ofNat_eq_one_iff (w := 32) (a := q) (b := x.val) (by omega) (by omega)).1 h
      have h0 := (by decide : ∀ b : BitVec 1, b ≠ 1#1 → b = 0#1) _ h1
      rw [h0]
      rfl
  rw [Finset.sum_eq_single ⟨q, by omega⟩]
  · rw [key, if_pos rfl, float_one, mul_one]
  · intro x _ hx
    rw [key, if_neg fun e => hx (Fin.ext e.symm), float_zero, mul_zero]
  · exact fun h => absurd (Finset.mem_univ _) h

/-- Eight products, each on its own head's lanes, and a bias: on one lane, one of the products and the bias. -/
theorem pick (q : ℕ) (hq : q < 8) (b : EReal) (D : Fin 8 → EReal) :
    b + D 0 * (if q = 0 then 1 else 0) + D 1 * (if q = 1 then 1 else 0) + D 2 * (if q = 2 then 1 else 0) + D 3 * (if q = 3 then 1 else 0)
      + D 4 * (if q = 4 then 1 else 0) + D 5 * (if q = 5 then 1 else 0) + D 6 * (if q = 6 then 1 else 0) + D 7 * (if q = 7 then 1 else 0) = D ⟨q, hq⟩ + b := by
  rw [add_comm (D ⟨q, hq⟩) b]
  interval_cases q <;> simp

/-- The part of a head's product that the mask keeps. -/
abbrev part (W : FVec Ideal S128x128 .f32) (n : FVec Ideal S128x512 .f32) (y : S128x512.Idx) : EReal :=
  ∑ x : Fin 128, if x.val ≤ (y 0).val then W (ix2 (y 0) x) * n (ix2 x (y 1)) else 0

theorem ref_mix (c : Dev nD) (j : S2048x512.Idx) :
    val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j =
      (∑ x : Fin 128, if x.val ≤ (j 0).val % 128 then val_main_v52 (F := Ideal) (m ((c : Thread nD τ).loc main_arg0)) (m ((c : Thread nD τ).loc main_arg1)) (m ((c : Thread nD τ).loc main_arg2)) (ix2 ⟨(j 0).val / 128 * 128 + x.val, by have := (j 0).isLt; simp at this; omega⟩ (j 1)) * (m ((c : Thread nD τ).loc main_arg3)) (ix3 ⟨(j 1).val / 64, by have := (j 1).isLt; simp at this; omega⟩ ⟨(j 0).val % 128, by omega⟩ x) else 0)
      + (m ((c : Thread nD τ).loc main_arg4)) (ix2 ⟨(j 1).val / 64, by have := (j 1).isLt; simp at this; omega⟩ ⟨(j 0).val % 128, by omega⟩) := by
  pointwise [val_main_v64, val_main_v63, val_main_v62, val_main_v61, val_main_v60, val_main_v59, val_main_v58, val_main_v57, val_main_v56, val_main_call1_v2, val_main_call1_v0, val_main_cst_12, val_main_call1_v1, val_main_v55, val_main_v54, val_main_c, val_main_call0_v5, val_main_call0_c_0, val_main_call0_v4, val_main_call0_v3, val_main_call0_v2, val_main_call0_v1, val_main_call0_c, val_main_call0_v0, val_main_v53]
  refine congrArg₂ (HAdd.hAdd (α := EReal) (β := EReal)) (Finset.sum_congr rfl fun x _ => ?_) rfl
  have hx := x.isLt
  rw [selGe2 (by omega) (by omega)]
  by_cases h : x.val ≤ (j 0).val % 128
  · rw [if_pos h, if_pos h]
  · rw [if_neg h, if_neg h]
    simp only [id_eq]
    pointwise []
    all_goals (try exact mul_zero _)

set_option maxHeartbeats 1000000 in
theorem ker_mix (W0 W1 W2 W3 W4 W5 W6 W7 B : FVec Ideal S128x128 .f32) (g u : FVec Ideal S128x512 .f32) (v6 : FVec Ideal S1x512 .f32) (v68 v69 : FVec Ideal S128x512 .f32) (y : S128x512.Idx) (q : ℕ) (hq : q = (y 1).val / 64) (hq8 : q < 8) :
    k0_pay1 g W7 u (k0_pay16 v6 v68 v69) k0_pay17 (k0_pay24 W4 W5 (k0_pay16 v6 v68 v69) k0_pay17 (k0_pay21 W1 W2 (k0_pay16 v6 v68 v69) k0_pay17 (k0_pay18 B) (k0_pay19 v6 W0 v68 v69) k0_pay20) (k0_pay22 W3 (k0_pay16 v6 v68 v69) k0_pay17) k0_pay23) (k0_pay25 W6 (k0_pay16 v6 v68 v69) k0_pay17) k0_pay26 y
      = u y * ((![part W0 (k0_pay16 v6 v68 v69) y, part W1 (k0_pay16 v6 v68 v69) y, part W2 (k0_pay16 v6 v68 v69) y, part W3 (k0_pay16 v6 v68 v69) y, part W4 (k0_pay16 v6 v68 v69) y, part W5 (k0_pay16 v6 v68 v69) y, part W6 (k0_pay16 v6 v68 v69) y, part W7 (k0_pay16 v6 v68 v69) y] : Fin 8 → EReal) ⟨q, hq8⟩ + B (ix2 ⟨q, by omega⟩ (y 0))) * (g y * Ideal.logistic (g y)) := by
  pointwise [k0_pay1, k0_pay24, k0_pay25, k0_pay26, k0_pay21, k0_pay22, k0_pay23, k0_pay18, k0_pay19, k0_pay20, k0_pay17]
  have hy0 := (y 0).isLt
  have hy1 := (y 1).isLt
  simp at hy0 hy1
  have hs : ∀ (x : Fin 128) (a b : EReal), Scalar.select (IntOp.cmpi .sge (BitVec.ofNat 32 (y 0).val) (BitVec.ofNat 32 x.val)) a b = if x.val ≤ (y 0).val then a else b :=
    fun x a b => selGe (by omega) (by omega) a b
  have e0 := lane0 (y 1)
  have e1 := lane1 (y 1)
  have e2 := lane2 (y 1)
  have e3 := lane3 (y 1)
  have e4 := lane4 (y 1)
  have e5 := lane5 (y 1)
  have e6 := lane6 (y 1)
  have e7 := lane7 (y 1)
  have eh := lane_head (y 1)
  rw [← hq] at e0 e1 e2 e3 e4 e5 e6 e7 eh
  simp only [hs, e0, e1, e2, e3, e4, e5, e6, e7, eh, float_ite]
  rw [spread q hq8 fun x => B (ix2 x (y 0))]
  refine congrArg (fun s : EReal => u y * s * (g y * Ideal.logistic (g y))) ?_
  exact pick q hq8 _ ![part W0 (k0_pay16 v6 v68 v69) y, part W1 (k0_pay16 v6 v68 v69) y, part W2 (k0_pay16 v6 v68 v69) y, part W3 (k0_pay16 v6 v68 v69) y, part W4 (k0_pay16 v6 v68 v69) y, part W5 (k0_pay16 v6 v68 v69) y, part W6 (k0_pay16 v6 v68 v69) y, part W7 (k0_pay16 v6 v68 v69) y]

/-- The reference's result as a function of the arguments. -/
abbrev res (c : Dev nD) : FVec Ideal S2048x512 .f32 := val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- One head's masked product on a block of rows is the reference's. -/
theorem part_of (c : Dev nD) (t : Fin cfg0.N) (y : S128x512.Idx) (j : S2048x512.Idx)
    (h0 : (j 0 : ℕ) = t.val * 128 + y 0) (h1 : (j 1 : ℕ) = y 1) (q : ℕ) (hq : q < 8) (hj : q = (j 1).val / 64) (W : FVec Ideal S128x128 .f32)
    (hW : ∀ z : S128x128.Idx, W z = (m ((c : Thread nD τ).loc main_arg3)) (ix3 ⟨q, hq⟩ ⟨(z 0).val, by have := (z 0).isLt; simp at this; omega⟩ ⟨(z 1).val, by have := (z 1).isLt; simp at this; omega⟩)) :
    part W (k0_pay16 (k0_pay3 (iblk m c 4 t)) (k0_pay14 (X0_1 m c t)) (k0_pay15 (k0_pay2 (iblk m c 3 t)))) y = ∑ x : Fin 128, if x.val ≤ (j 0).val % 128 then val_main_v52 (F := Ideal) (m ((c : Thread nD τ).loc main_arg0)) (m ((c : Thread nD τ).loc main_arg1)) (m ((c : Thread nD τ).loc main_arg2)) (ix2 ⟨(j 0).val / 128 * 128 + x.val, by have := (j 0).isLt; simp at this; omega⟩ (j 1)) * (m ((c : Thread nD τ).loc main_arg3)) (ix3 ⟨(j 1).val / 64, by have := (j 1).isLt; simp at this; omega⟩ ⟨(j 0).val % 128, by omega⟩ x) else 0 := by
  have hy0 := (y 0).isLt
  simp at hy0
  subst hj
  refine Finset.sum_congr rfl fun x _ => ?_
  have hx := x.isLt
  have e : (j 0).val % 128 = (y 0).val := by omega
  by_cases h : x.val ≤ (y 0).val
  · rw [if_pos h, if_pos (by omega), norm_of, hW, mul_comm]
    refine congrArg₂ (HMul.hMul (α := EReal) (β := EReal)) ?_ ?_
    · refine congrArg _ (funext fun a => Fin.ext ?_)
      fin_cases a
      · show t.val * 128 + x.val = (j 0).val / 128 * 128 + x.val
        omega
      · exact h1.symm
    · refine congrArg _ (funext fun a => Fin.ext ?_)
      fin_cases a
      · rfl
      · exact e.symm
      · rfl
  · rw [if_neg h, if_neg (by omega)]

theorem res_point (c : Dev nD) (t : Fin cfg0.N) (y : S128x512.Idx) (j : S2048x512.Idx)
    (h0 : (j 0 : ℕ) = t.val * 128 + y 0) (h1 : (j 1 : ℕ) = y 1) :
    k0_pay1 (X0_2 m c t) (k0_pay11 (iblk m c 12 t)) (k0_pay13 (X0_0 m c t)) (k0_pay16 (k0_pay3 (iblk m c 4 t)) (k0_pay14 (X0_1 m c t)) (k0_pay15 (k0_pay2 (iblk m c 3 t)))) k0_pay17 (k0_pay24 (k0_pay8 (iblk m c 9 t)) (k0_pay9 (iblk m c 10 t)) (k0_pay16 (k0_pay3 (iblk m c 4 t)) (k0_pay14 (X0_1 m c t)) (k0_pay15 (k0_pay2 (iblk m c 3 t)))) k0_pay17 (k0_pay21 (k0_pay5 (iblk m c 6 t)) (k0_pay6 (iblk m c 7 t)) (k0_pay16 (k0_pay3 (iblk m c 4 t)) (k0_pay14 (X0_1 m c t)) (k0_pay15 (k0_pay2 (iblk m c 3 t)))) k0_pay17 (k0_pay18 (k0_pay12 (iblk m c 13 t))) (k0_pay19 (k0_pay3 (iblk m c 4 t)) (k0_pay4 (iblk m c 5 t)) (k0_pay14 (X0_1 m c t)) (k0_pay15 (k0_pay2 (iblk m c 3 t)))) k0_pay20) (k0_pay22 (k0_pay7 (iblk m c 8 t)) (k0_pay16 (k0_pay3 (iblk m c 4 t)) (k0_pay14 (X0_1 m c t)) (k0_pay15 (k0_pay2 (iblk m c 3 t)))) k0_pay17) k0_pay23) (k0_pay25 (k0_pay10 (iblk m c 11 t)) (k0_pay16 (k0_pay3 (iblk m c 4 t)) (k0_pay14 (X0_1 m c t)) (k0_pay15 (k0_pay2 (iblk m c 3 t)))) k0_pay17) k0_pay26 y = res m c j := by
  have ht := lt_of_lt_of_eq t.isLt N_0
  have hy0 := (y 0).isLt
  have hy1 := (y 1).isLt
  simp at hy0 hy1
  have hq8 : (y 1).val / 64 < 8 := by omega
  rw [ker_mix _ _ _ _ _ _ _ _ _ _ _ _ _ _ y ((y 1).val / 64) rfl hq8]
  have hm : (![part (k0_pay4 (iblk m c 5 t)) (k0_pay16 (k0_pay3 (iblk m c 4 t)) (k0_pay14 (X0_1 m c t)) (k0_pay15 (k0_pay2 (iblk m c 3 t)))) y, part (k0_pay5 (iblk m c 6 t)) (k0_pay16 (k0_pay3 (iblk m c 4 t)) (k0_pay14 (X0_1 m c t)) (k0_pay15 (k0_pay2 (iblk m c 3 t)))) y, part (k0_pay6 (iblk m c 7 t)) (k0_pay16 (k0_pay3 (iblk m c 4 t)) (k0_pay14 (X0_1 m c t)) (k0_pay15 (k0_pay2 (iblk m c 3 t)))) y, part (k0_pay7 (iblk m c 8 t)) (k0_pay16 (k0_pay3 (iblk m c 4 t)) (k0_pay14 (X0_1 m c t)) (k0_pay15 (k0_pay2 (iblk m c 3 t)))) y, part (k0_pay8 (iblk m c 9 t)) (k0_pay16 (k0_pay3 (iblk m c 4 t)) (k0_pay14 (X0_1 m c t)) (k0_pay15 (k0_pay2 (iblk m c 3 t)))) y, part (k0_pay9 (iblk m c 10 t)) (k0_pay16 (k0_pay3 (iblk m c 4 t)) (k0_pay14 (X0_1 m c t)) (k0_pay15 (k0_pay2 (iblk m c 3 t)))) y, part (k0_pay10 (iblk m c 11 t)) (k0_pay16 (k0_pay3 (iblk m c 4 t)) (k0_pay14 (X0_1 m c t)) (k0_pay15 (k0_pay2 (iblk m c 3 t)))) y, part (k0_pay11 (iblk m c 12 t)) (k0_pay16 (k0_pay3 (iblk m c 4 t)) (k0_pay14 (X0_1 m c t)) (k0_pay15 (k0_pay2 (iblk m c 3 t)))) y] : Fin 8 → EReal) ⟨(y 1).val / 64, hq8⟩ + k0_pay12 (iblk m c 13 t) (ix2 ⟨(y 1).val / 64, by omega⟩ (y 0)) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
    rw [ref_mix]
    refine congrArg₂ (HAdd.hAdd (α := EReal) (β := EReal)) ?_ ?_
    · have hj : (y 1).val / 64 = (j 1).val / 64 := by omega
      revert hj hq8
      generalize (y 1).val / 64 = q
      intro hq8 hj
      interval_cases q
      · exact part_of m c t y j h0 h1 0 (by decide) hj _ (h0_at m c t)
      · exact part_of m c t y j h0 h1 1 (by decide) hj _ (h1_at m c t)
      · exact part_of m c t y j h0 h1 2 (by decide) hj _ (h2_at m c t)
      · exact part_of m c t y j h0 h1 3 (by decide) hj _ (h3_at m c t)
      · exact part_of m c t y j h0 h1 4 (by decide) hj _ (h4_at m c t)
      · exact part_of m c t y j h0 h1 5 (by decide) hj _ (h5_at m c t)
      · exact part_of m c t y j h0 h1 6 (by decide) hj _ (h6_at m c t)
      · exact part_of m c t y j h0 h1 7 (by decide) hj _ (h7_at m c t)
    · rw [bias_at m c t _ hq8]
      refine congrArg _ (funext fun a => Fin.ext ?_)
      fin_cases a
      · show (y 1).val / 64 = (j 1).val / 64
        omega
      · show (y 0).val = (j 0).val % 128
        omega
  rw [hm, gate_of, w2_at]
  have ej : j = (ix2 ⟨t.val * 128 + (y 0).val, by have := lt_of_lt_of_eq t.isLt N_0; have := (y 0).isLt; simp at this; omega⟩ ⟨(y 1).val, by have := (y 1).isLt; simp at this; omega⟩) := by
    funext a
    refine Fin.ext ?_
    fin_cases a
    · exact h0
    · exact h1
  rw [ej]
  pointwise [res, val_main_v67, val_main_v66, val_main_v2, val_main_call2_v5, val_main_call2_v4, val_main_call2_cst_0, val_main_call2_v3, val_main_call2_v2, val_main_call2_cst, val_main_call2_v1, val_main_call2_v0, val_main_v65]
  rfl

theorem res_final (c : Dev nD) : (dats m 0 c).arrAt 14 cfg0.N = res m c := by
  refine (dats m 0 c).arrAt_eq_of_covers 14 _ (by decide +kernel) fun t hf y => ?_
  blk_simp
  rw [after0_14]
  unfold outsAt0
  frame_out
  exact res_point m c t y _ (by blk_simp [idx t]) (by blk_simp [idx t])

end Cert.SguIdeal.Call
-- ==== Proof.Rms.lean ====
module
public import proofs.«01_k».proof.Proof.Gen.RmsIdeal.Value
public import proofs.«01_k».proof.Proof.Gen.RmsRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.RmsIdeal.Call
open Cert.RmsIdeal Cert.RmsIdeal.Gen Idealize.ShloMosaic Idealize.ShloMosaic.TcCoe Idealize.SL.Sem
open Idealize.ShloMosaic.Pipeline (Dat)
open Cert.RmsRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

/-- The weight, staged as one row. -/
theorem row_at (c : Dev nD) (t : Fin cfg0.N) (y : S1x1024.Idx) :
    iblk m c 1 t y = m ((c : Thread nD τ).loc main_arg1) (ix1 ⟨(y 1).val, by have := (y 1).isLt; simp at this; omega⟩) := by
  blk_simp [iblk, V, idx t]
  entry_read
  pointwise []
  blk_ext [idx t]

/-- The normed input, as the reference computes it. -/
abbrev h (c : Dev nD) : FVec Ideal S2048x1024 .bf16 := val_main_v13 (F := Ideal) (m ((c : Thread nD τ).loc main_arg0)) (m ((c : Thread nD τ).loc main_arg1))

theorem h_point (c : Dev nD) (t : Fin cfg0.N) (y : S512x1024.Idx) (j : S2048x1024.Idx)
    (h0 : (j 0 : ℕ) = t.val * 512 + y 0) (h1 : (j 1 : ℕ) = y 1) :
    k0_pay1 (iblk m c 0 t) (iblk m c 1 t) y = h m c j := by
  have ht := lt_of_lt_of_eq t.isLt N_0
  pointwise [k0_pay1, h, val_main_v13, val_main_v12, val_main_v9, val_main_v8, val_main_v7, val_main_v6, val_main_v4, val_main_v2, val_main_v1, val_main_v0, val_main_cst, val_main_v3, val_main_cst_0, val_main_v5, val_main_cst_1, val_main_v11, val_main_v10]
  simp only [row_at]
  blk_point [iblk, V, idx t]

theorem h_final (c : Dev nD) : (dats m 0 c).arrAt 2 cfg0.N = h m c := by
  refine (dats m 0 c).arrAt_eq_of_covers 2 _ (by decide +kernel) fun t hf y => ?_
  have htN : t.val < 4 := lt_of_lt_of_eq t.isLt N_0
  blk_simp
  rw [after0_2]
  frame_out
  exact h_point m c t y _ (by blk_simp [idx t]) (by blk_simp [idx t])

end Cert.RmsIdeal.Call
-- ==== Proof.RmsB.lean ====
module
public import proofs.«01_k».proof.Proof.Gen.RmsBIdeal.Value
public import proofs.«01_k».proof.Proof.Gen.RmsBRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.RmsBIdeal.Call
open Cert.RmsBIdeal Cert.RmsBIdeal.Gen Idealize.ShloMosaic Idealize.ShloMosaic.TcCoe Idealize.SL.Sem
open Idealize.ShloMosaic.Pipeline (Dat)
open Cert.RmsBRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The weight, staged as one row. -/
theorem row_at (c : Dev nD) (t : Fin cfg0.N) (y : S1x1024.Idx) :
    iblk m c 1 t y = m ((c : Thread nD τ).loc main_arg1) (ix1 ⟨(y 1).val, by have := (y 1).isLt; simp at this; omega⟩) := by
  blk_simp [iblk, V, idx t]
  entry_read
  pointwise []
  blk_ext [idx t]

/-- The gradient of the input, as the reference computes it. -/
abbrev dx (c : Dev nD) : FVec Ideal S2048x1024 .f32 := val_main_v36 (F := Ideal) (m ((c : Thread nD τ).loc main_arg0)) (m ((c : Thread nD τ).loc main_arg1)) (m ((c : Thread nD τ).loc main_arg2)) (m ((c : Thread nD τ).loc main_arg3))

/-- The gradient of the weight, as the reference computes it. -/
abbrev dw (c : Dev nD) : FVec Ideal S1x1024 .f32 := val_main_v37 (F := Ideal) (m ((c : Thread nD τ).loc main_arg0)) (m ((c : Thread nD τ).loc main_arg2))

theorem dx_point (c : Dev nD) (t : Fin cfg0.N) (y : S512x1024.Idx) (j : S2048x1024.Idx)
    (h0 : (j 0 : ℕ) = t.val * 512 + y 0) (h1 : (j 1 : ℕ) = y 1) :
    k0_pay5 (iblk m c 0 t) (iblk m c 1 t) (iblk m c 2 t) (iblk m c 3 t) y = dx m c j := by
  have ht := lt_of_lt_of_eq t.isLt N_0
  pointwise [k0_pay5, k0_pay3, k0_pay2, dx, val_main_v36, val_main_v34, val_main_v27, val_main_v26, val_main_v20, val_main_v19, val_main_v13, val_main_v25, val_main_v7, val_main_v6, val_main_v4, val_main_v2, val_main_v1, val_main_v0, val_main_cst, val_main_v3, val_main_cst_0, val_main_v5, val_main_cst_1, val_main_v33, val_main_v32, val_main_v31, val_main_v30, val_main_v28, val_main_v24, val_main_v23, val_main_v22, val_main_cst_5, val_main_v10, val_main_v9, val_main_cst_2, val_main_v8, val_main_v29, val_main_cst_6, val_main_cst_7, val_main_v35]
  simp only [row_at]
  blk_point [iblk, V, idx t]

theorem dx_final (c : Dev nD) : (dats m 0 c).arrAt 4 cfg0.N = dx m c := by
  refine (dats m 0 c).arrAt_eq_of_covers 4 _ (by decide +kernel) fun t hf y => ?_
  have htN : t.val < 4 := lt_of_lt_of_eq t.isLt N_0
  blk_simp
  rw [after0_4]
  by_cases h : t.val % 4 = 0
  · rw [outsAt0_A m c t h (by omega)]
    dsimp only
    frame_out
    exact dx_point m c t y _ (by blk_simp [idx t]) (by blk_simp [idx t])
  · rw [outsAt0_B m c t h (by omega)]
    dsimp only
    frame_out
    exact dx_point m c t y _ (by blk_simp [idx t]) (by blk_simp [idx t])

theorem dw_acc (c : Dev nD) (j : S1x1024.Idx) :
    (∑ t : Fin cfg0.N, (k0_pay4 (iblk m c 0 t) (iblk m c 2 t) j : EReal)) = dw m c j := by
  pointwise [k0_pay4, k0_pay3, k0_pay2, dw, val_main_v37, val_main_v21, val_main_v18, val_main_v17, val_main_v16, val_main_v12, val_main_v11, val_main_v7, val_main_v6, val_main_v4, val_main_v2, val_main_v1, val_main_v0, val_main_cst, val_main_v3, val_main_cst_0, val_main_v5, val_main_cst_1, val_main_cst_3, val_main_cst_4]
  refine Eq.trans ?_ (Fin.sum_univ_one _).symm
  refine Fin.sum_mul_add_congr fun t s hl => ?_
  blk_point [iblk, V, idx t]

theorem dw_final (c : Dev nD) : (dats m 0 c).arrAt 5 cfg0.N = dw m c := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => (0 : EReal))
    (fun t j => k0_pay4 (iblk m c 0 t) (iblk m c 2 t) j)
    (fun t h j => by
      have htN : t.val < 4 := lt_of_lt_of_eq t.isLt N_0
      rw [outsAt0_A m c t h (by omega)]
      dsimp only
      frame_out
      exact (zero_add _).symm)
    (fun t h j => by
      rw [outsAt0_B m c t h (by omega)]
      dsimp only
      frame_out
      pointwise [k0_pay1]
      )
    (le_of_eq N_0) t0_3 rfl j, zero_add]
  exact dw_acc m c j

end Cert.RmsBIdeal.Call
-- ==== Proof.Loss.lean ====
module
public import proofs.«01_k».proof.Proof.Gen.LossIdeal.Value
public import proofs.«01_k».proof.Proof.Gen.LossRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.LossIdeal.Call
open Cert.LossIdeal Cert.LossIdeal.Gen Idealize.ShloMosaic Idealize.ShloMosaic.TcCoe Idealize.SL.Sem
open Idealize.ShloMosaic.Pipeline (Dat)
open Cert.LossRefIdeal.Read
variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] :=
  (by decide +kernel : ∀ t : Fin grid0.N, _)

/-- The weight, staged as one row. -/
theorem row_at (c : Dev nD) (t : Fin cfg0.N) (y : S1x1024.Idx) :
    iblk m c 1 t y = m ((c : Thread nD τ).loc main_arg1) (ix1 ⟨(y 1).val, by have := (y 1).isLt; simp at this; omega⟩) := by
  blk_simp [iblk, V, idx t]
  entry_read
  pointwise []
  blk_ext [idx t]

/-- The loss in every lane, as the reference computes it. -/
abbrev val (c : Dev nD) : FVec Ideal S1x128 .f32 := val_main_v51 (F := Ideal) (m ((c : Thread nD τ).loc main_arg0)) (m ((c : Thread nD τ).loc main_arg1)) (m ((c : Thread nD τ).loc main_arg2))

/-- The gradient of the input, as the reference computes it. -/
abbrev dx (c : Dev nD) : FVec Ideal S2048x1024 .f32 := val_main_v50 (F := Ideal) (m ((c : Thread nD τ).loc main_arg0)) (m ((c : Thread nD τ).loc main_arg1)) (m ((c : Thread nD τ).loc main_arg2))

/-- The gradient of the weight, as the reference computes it. -/
abbrev dw (c : Dev nD) : FVec Ideal S1x1024 .f32 := val_main_v52 (F := Ideal) (m ((c : Thread nD τ).loc main_arg0)) (m ((c : Thread nD τ).loc main_arg1)) (m ((c : Thread nD τ).loc main_arg2))

theorem two_bits : Ideal.ofBits .f32 0x40000000#32 = ((2 : ℝ) : EReal) := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

/-- A product taken twice, in either order, is the product with the double. -/
theorem dbl (v k : EReal) : v * k + k * v = k * (Ideal.ofBits .f32 0x40000000#32 * v) := by
  have h : ((2 : ℝ) : EReal) = 1 + 1 := by norm_cast
  rw [two_bits, h, mul_left_comm (G := EReal), EReal.right_distrib_of_nonneg zero_le_one zero_le_one, one_mul, mul_comm (G := EReal) v k]

/-- Half of a sum is the sum of the halves. -/
theorem half_sum {n : ℕ} (g : Fin n → EReal) :
    ∑ t, Ideal.ofBits .f32 0x3F000000#32 * g t = Ideal.ofBits .f32 0x3F000000#32 * ∑ t, g t := by
  rw [half_bits]
  let f : EReal →+ EReal :=
    { toFun := fun x => ((1 / 2 : ℝ) : EReal) * x
      map_zero' := mul_zero _
      map_add' := fun x y => EReal.left_distrib_of_nonneg_of_ne_top (EReal.coe_nonneg.mpr (by norm_num)) (EReal.coe_ne_top _) x y }
  exact (map_sum f g Finset.univ).symm

theorem dx_point (c : Dev nD) (t : Fin cfg0.N) (y : S512x1024.Idx) (j : S2048x1024.Idx)
    (h0 : (j 0 : ℕ) = t.val * 512 + y 0) (h1 : (j 1 : ℕ) = y 1) :
    k0_pay3 (iblk m c 0 t) (k0_pay7 (iblk m c 1 t)) (k0_pay9 (iblk m c 0 t)) (k0_pay10 (iblk m c 0 t)) (k0_pay12 (iblk m c 0 t) (iblk m c 1 t) (iblk m c 2 t)) k0_pay14 y = dx m c j := by
  have ht := lt_of_lt_of_eq t.isLt N_0
  pointwise [k0_pay1, k0_pay2, k0_pay3, k0_pay4, k0_pay7, k0_pay8, k0_pay9, k0_pay10, k0_pay11, k0_pay12, k0_pay13, k0_pay14, dx, val_main_v50, val_main_v48, val_main_v41, val_main_v35, val_main_v30, val_main_v29, val_main_v28, val_main_v26, val_main_v25, val_main_cst_8, val_main_cst_9, val_main_v27, val_main_cst_10, val_main_v19, val_main_v18, val_main_cst_3, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_v34, val_main_v40, val_main_v47, val_main_v46, val_main_v45, val_main_v44, val_main_v42, val_main_v39, val_main_v38, val_main_v37, val_main_cst_13, val_main_v10, val_main_v9, val_main_cst_2, val_main_v8, val_main_v43, val_main_cst_14, val_main_cst_15, val_main_v49]
  simp only [row_at, Fin.sum_univ_one, dbl]
  blk_point [iblk, V, idx t]

theorem dx_final (c : Dev nD) : (dats m 0 c).arrAt 4 cfg0.N = dx m c := by
  refine (dats m 0 c).arrAt_eq_of_covers 4 _ (by decide +kernel) fun t hf y => ?_
  have htN : t.val < 4 := lt_of_lt_of_eq t.isLt N_0
  blk_simp
  rw [after0_4]
  by_cases h : t.val % 4 = 0
  · rw [outsAt0_A m c t h (by omega)]
    dsimp only
    frame_out
    exact dx_point m c t y _ (by blk_simp [idx t]) (by blk_simp [idx t])
  · rw [outsAt0_B m c t h (by omega)]
    dsimp only
    frame_out
    exact dx_point m c t y _ (by blk_simp [idx t]) (by blk_simp [idx t])

theorem val_acc (c : Dev nD) (j : S1x128.Idx) :
    (∑ t : Fin cfg0.N, (k0_pay4 (k0_pay13 (iblk m c 0 t) (iblk m c 1 t) (iblk m c 2 t)) j : EReal)) = val m c j := by
  pointwise [k0_pay1, k0_pay2, k0_pay3, k0_pay4, k0_pay7, k0_pay8, k0_pay9, k0_pay10, k0_pay11, k0_pay12, k0_pay13, k0_pay14, val, val_main_v51, val_main_v24, val_main_cst_7, val_main_v23, val_main_v22, val_main_v20, val_main_v17, val_main_v16, val_main_v15, val_main_v12, val_main_v11, val_main_v7, val_main_v6, val_main_v4, val_main_v2, val_main_v1, val_main_v0, val_main_cst, val_main_v3, val_main_cst_0, val_main_v5, val_main_cst_1, val_main_v14, val_main_v13, val_main_cst_4, val_main_v21, val_main_cst_5, val_main_cst_6]
  simp only [row_at]
  refine (half_sum _).trans (congrArg _ ?_)
  refine Fin.sum_mul_add_congr fun t s hl => ?_
  blk_point [iblk, V, idx t]

theorem val_final (c : Dev nD) : (dats m 0 c).arrAt 3 cfg0.N = val m c := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => (0 : EReal))
    (fun t j => k0_pay4 (k0_pay13 (iblk m c 0 t) (iblk m c 1 t) (iblk m c 2 t)) j)
    (fun t h j => by
      have htN : t.val < 4 := lt_of_lt_of_eq t.isLt N_0
      rw [outsAt0_A m c t h (by omega)]
      dsimp only
      frame_out
      exact (zero_add _).symm)
    (fun t h j => by
      rw [outsAt0_B m c t h (by omega)]
      dsimp only
      frame_out
      pointwise [k0_pay4, k0_pay5]
      )
    (le_of_eq N_0) t0_3 rfl j, zero_add]
  exact val_acc m c j

theorem dw_acc (c : Dev nD) (j : S1x1024.Idx) :
    (∑ t : Fin cfg0.N, (k0_pay2 (k0_pay11 (iblk m c 0 t)) (k0_pay12 (iblk m c 0 t) (iblk m c 1 t) (iblk m c 2 t)) k0_pay14 j : EReal)) = dw m c j := by
  pointwise [k0_pay1, k0_pay2, k0_pay3, k0_pay4, k0_pay7, k0_pay8, k0_pay9, k0_pay10, k0_pay11, k0_pay12, k0_pay13, k0_pay14, dw, val_main_v52, val_main_v36, val_main_v33, val_main_v32, val_main_v31, val_main_v12, val_main_v11, val_main_v7, val_main_v6, val_main_v4, val_main_v2, val_main_v1, val_main_v0, val_main_cst, val_main_v3, val_main_cst_0, val_main_v5, val_main_cst_1, val_main_v30, val_main_v29, val_main_v28, val_main_v26, val_main_v25, val_main_cst_8, val_main_cst_9, val_main_v27, val_main_cst_10, val_main_v19, val_main_v18, val_main_cst_3, val_main_v16, val_main_v15, val_main_v14, val_main_v13, val_main_cst_11, val_main_cst_12]
  refine Eq.trans ?_ (Fin.sum_univ_one _).symm
  refine Fin.sum_mul_add_congr fun t s hl => ?_
  simp only [row_at, Fin.sum_univ_one, dbl]
  blk_point [iblk, V, idx t]

theorem dw_final (c : Dev nD) : (dats m 0 c).arrAt 5 cfg0.N = dw m c := by
  refine (dats m 0 c).arrAt_eq_of_after_last 5 t0_3 (by decide +kernel) _ fun j => ?_
  blk_simp
  rw [after0_5, Pipeline.eq_sum_fin_of_reset_step_apply_last (fun n h => (outsAt0 m c n h).2.2) 4 (fun _ => (0 : EReal))
    (fun t j => k0_pay2 (k0_pay11 (iblk m c 0 t)) (k0_pay12 (iblk m c 0 t) (iblk m c 1 t) (iblk m c 2 t)) k0_pay14 j)
    (fun t h j => by
      have htN : t.val < 4 := lt_of_lt_of_eq t.isLt N_0
      rw [outsAt0_A m c t h (by omega)]
      dsimp only
      frame_out
      exact (zero_add _).symm)
    (fun t h j => by
      rw [outsAt0_B m c t h (by omega)]
      dsimp only
      frame_out
      pointwise [k0_pay6]
      )
    (le_of_eq N_0) t0_3 rfl j, zero_add]
  exact dw_acc m c j

end Cert.LossIdeal.Call
-- ==== Proof.AWin.lean ====
module
public import proofs.«01_k».proof.Proof.Gen.AWinIdeal.Value
public import proofs.«01_k».proof.Proof.Gen.AWinRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.AWinIdeal.Step
open Cert.AWinIdeal Cert.AWinIdeal.Gen Idealize.ShloMosaic Idealize.ShloMosaic.TcCoe Idealize.SL.Sem
open Idealize.ShloMosaic.Pipeline (Dat)
open Cert.AWinRefIdeal.Read
variable (m : (ℓ : Loc nD τ sig) → Buf (Elt Ideal) ℓ)

/-- The block index of every window at every grid point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The reference's result 0 as a function of the arguments: the change of the weight. -/
abbrev delta (c : Dev nD) : FVec Ideal S2562x2x1024 .f32 := val_main_v23 (F := Ideal) (m ((c : Thread nD τ).loc main_arg0)) (m ((c : Thread nD τ).loc main_arg1)) (m ((c : Thread nD τ).loc main_arg2)) (m ((c : Thread nD τ).loc main_arg3))

theorem delta_point (c : Dev nD) (t : Fin cfg0.N) (y : S183x2x1024.Idx) (j : S2562x2x1024.Idx)
    (h0 : (j 0 : ℕ) = t.val * 183 + y 0) (h1 : (j 1 : ℕ) = y 1) (h2 : (j 2 : ℕ) = y 2) :
    k0_pay3 (iblk m c 1 t) (iblk m c 2 t) (iblk m c 3 t) (iblk m c 0 t) y = delta m c j := by
  have ht := lt_of_lt_of_eq t.isLt N_0
  pointwise [k0_pay1, k0_pay2, k0_pay3, delta, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

theorem delta_final (c : Dev nD) : (dats m 0 c).arrAt 4 cfg0.N = delta m c := by
  refine (dats m 0 c).arrAt_eq_of_covers 4 _ (by decide +kernel) fun t hf y => ?_
  blk_simp
  rw [after0_4]
  frame_out
  exact delta_point m c t y _ (by blk_simp [idx t]) (by blk_simp [idx t]) (by blk_simp [idx t])

/-- The reference's result 1 as a function of the arguments: the new first moment. -/
abbrev newM (c : Dev nD) : FVec Ideal S2562x2x1024 .f32 := val_main_v4 (F := Ideal) (m ((c : Thread nD τ).loc main_arg1)) (m ((c : Thread nD τ).loc main_arg2))

theorem newM_point (c : Dev nD) (t : Fin cfg0.N) (y : S183x2x1024.Idx) (j : S2562x2x1024.Idx)
    (h0 : (j 0 : ℕ) = t.val * 183 + y 0) (h1 : (j 1 : ℕ) = y 1) (h2 : (j 2 : ℕ) = y 2) :
    k0_pay1 (iblk m c 1 t) (iblk m c 2 t) y = newM m c j := by
  have ht := lt_of_lt_of_eq t.isLt N_0
  pointwise [k0_pay1, k0_pay2, k0_pay3, newM, val_main_v4, val_main_v1, val_main_v0, val_main_cst, val_main_v3, val_main_v2, val_main_cst_0]
  blk_point [iblk, V, idx t]

theorem newM_final (c : Dev nD) : (dats m 0 c).arrAt 5 cfg0.N = newM m c := by
  refine (dats m 0 c).arrAt_eq_of_covers 5 _ (by decide +kernel) fun t hf y => ?_
  blk_simp
  rw [after0_5]
  frame_out
  exact newM_point m c t y _ (by blk_simp [idx t]) (by blk_simp [idx t]) (by blk_simp [idx t])

/-- The reference's result 2 as a function of the arguments: the new second moment. -/
abbrev newV (c : Dev nD) : FVec Ideal S2562x2x1024 .f32 := val_main_v10 (F := Ideal) (m ((c : Thread nD τ).loc main_arg1)) (m ((c : Thread nD τ).loc main_arg3))

theorem newV_point (c : Dev nD) (t : Fin cfg0.N) (y : S183x2x1024.Idx) (j : S2562x2x1024.Idx)
    (h0 : (j 0 : ℕ) = t.val * 183 + y 0) (h1 : (j 1 : ℕ) = y 1) (h2 : (j 2 : ℕ) = y 2) :
    k0_pay2 (iblk m c 1 t) (iblk m c 3 t) y = newV m c j := by
  have ht := lt_of_lt_of_eq t.isLt N_0
  pointwise [k0_pay1, k0_pay2, k0_pay3, newV, val_main_v10, val_main_v6, val_main_v5, val_main_cst_1, val_main_v9, val_main_v8, val_main_cst_2, val_main_v7]
  blk_point [iblk, V, idx t]

theorem newV_final (c : Dev nD) : (dats m 0 c).arrAt 6 cfg0.N = newV m c := by
  refine (dats m 0 c).arrAt_eq_of_covers 6 _ (by decide +kernel) fun t hf y => ?_
  blk_simp
  rw [after0_6]
  frame_out
  exact newV_point m c t y _ (by blk_simp [idx t]) (by blk_simp [idx t]) (by blk_simp [idx t])

end Cert.AWinIdeal.Step
-- ==== Proof.AWbr.lean ====
module
public import proofs.«01_k».proof.Proof.Gen.AWbrIdeal.Value
public import proofs.«01_k».proof.Proof.Gen.AWbrRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.AWbrIdeal.Step
open Cert.AWbrIdeal Cert.AWbrIdeal.Gen Idealize.ShloMosaic Idealize.ShloMosaic.TcCoe Idealize.SL.Sem
open Idealize.ShloMosaic.Pipeline (Dat)
open Cert.AWbrRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The reference's result 0 as a function of the arguments: the change of the weight. -/
abbrev delta (c : Dev nD) : FVec Ideal S4096x256 .f32 := val_main_v23 (F := Ideal) (m ((c : Thread nD τ).loc main_arg0)) (m ((c : Thread nD τ).loc main_arg1)) (m ((c : Thread nD τ).loc main_arg2)) (m ((c : Thread nD τ).loc main_arg3))

theorem delta_point (c : Dev nD) (t : Fin cfg0.N) (y : S512x256.Idx) (j : S4096x256.Idx)
    (h0 : (j 0 : ℕ) = t.val * 512 + y 0) (h1 : (j 1 : ℕ) = y 1) :
    k0_pay3 (iblk m c 1 t) (iblk m c 2 t) (iblk m c 3 t) (iblk m c 0 t) y = delta m c j := by
  have ht := lt_of_lt_of_eq t.isLt N_0
  pointwise [k0_pay1, k0_pay2, k0_pay3, delta, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

theorem delta_final (c : Dev nD) : (dats m 0 c).arrAt 4 cfg0.N = delta m c := by
  refine (dats m 0 c).arrAt_eq_of_covers 4 _ (by decide +kernel) fun t hf y => ?_
  blk_simp
  rw [after0_4]
  frame_out
  exact delta_point m c t y _ (by blk_simp [idx t]) (by blk_simp [idx t])

/-- The reference's result 1 as a function of the arguments: the new first moment. -/
abbrev newM (c : Dev nD) : FVec Ideal S4096x256 .f32 := val_main_v4 (F := Ideal) (m ((c : Thread nD τ).loc main_arg1)) (m ((c : Thread nD τ).loc main_arg2))

theorem newM_point (c : Dev nD) (t : Fin cfg0.N) (y : S512x256.Idx) (j : S4096x256.Idx)
    (h0 : (j 0 : ℕ) = t.val * 512 + y 0) (h1 : (j 1 : ℕ) = y 1) :
    k0_pay1 (iblk m c 1 t) (iblk m c 2 t) y = newM m c j := by
  have ht := lt_of_lt_of_eq t.isLt N_0
  pointwise [k0_pay1, k0_pay2, k0_pay3, newM, val_main_v4, val_main_v1, val_main_v0, val_main_cst, val_main_v3, val_main_v2, val_main_cst_0]
  blk_point [iblk, V, idx t]

theorem newM_final (c : Dev nD) : (dats m 0 c).arrAt 5 cfg0.N = newM m c := by
  refine (dats m 0 c).arrAt_eq_of_covers 5 _ (by decide +kernel) fun t hf y => ?_
  blk_simp
  rw [after0_5]
  frame_out
  exact newM_point m c t y _ (by blk_simp [idx t]) (by blk_simp [idx t])

/-- The reference's result 2 as a function of the arguments: the new second moment. -/
abbrev newV (c : Dev nD) : FVec Ideal S4096x256 .f32 := val_main_v10 (F := Ideal) (m ((c : Thread nD τ).loc main_arg1)) (m ((c : Thread nD τ).loc main_arg3))

theorem newV_point (c : Dev nD) (t : Fin cfg0.N) (y : S512x256.Idx) (j : S4096x256.Idx)
    (h0 : (j 0 : ℕ) = t.val * 512 + y 0) (h1 : (j 1 : ℕ) = y 1) :
    k0_pay2 (iblk m c 1 t) (iblk m c 3 t) y = newV m c j := by
  have ht := lt_of_lt_of_eq t.isLt N_0
  pointwise [k0_pay1, k0_pay2, k0_pay3, newV, val_main_v10, val_main_v6, val_main_v5, val_main_cst_1, val_main_v9, val_main_v8, val_main_cst_2, val_main_v7]
  blk_point [iblk, V, idx t]

theorem newV_final (c : Dev nD) : (dats m 0 c).arrAt 6 cfg0.N = newV m c := by
  refine (dats m 0 c).arrAt_eq_of_covers 6 _ (by decide +kernel) fun t hf y => ?_
  blk_simp
  rw [after0_6]
  frame_out
  exact newV_point m c t y _ (by blk_simp [idx t]) (by blk_simp [idx t])

end Cert.AWbrIdeal.Step
-- ==== Proof.AWout.lean ====
module
public import proofs.«01_k».proof.Proof.Gen.AWoutIdeal.Value
public import proofs.«01_k».proof.Proof.Gen.AWoutRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.AWoutIdeal.Step
open Cert.AWoutIdeal Cert.AWoutIdeal.Gen Idealize.ShloMosaic Idealize.ShloMosaic.TcCoe Idealize.SL.Sem
open Idealize.ShloMosaic.Pipeline (Dat)
open Cert.AWoutRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The reference's result 0 as a function of the arguments: the change of the weight. -/
abbrev delta (c : Dev nD) : FVec Ideal S512x1024 .f32 := val_main_v23 (F := Ideal) (m ((c : Thread nD τ).loc main_arg0)) (m ((c : Thread nD τ).loc main_arg1)) (m ((c : Thread nD τ).loc main_arg2)) (m ((c : Thread nD τ).loc main_arg3))

theorem delta_point (c : Dev nD) (t : Fin cfg0.N) (y : S512x1024.Idx) (j : S512x1024.Idx)
    (h0 : (j 0 : ℕ) = t.val * 512 + y 0) (h1 : (j 1 : ℕ) = y 1) :
    k0_pay3 (iblk m c 1 t) (iblk m c 2 t) (iblk m c 3 t) (iblk m c 0 t) y = delta m c j := by
  have ht := lt_of_lt_of_eq t.isLt N_0
  pointwise [k0_pay1, k0_pay2, k0_pay3, delta, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

theorem delta_final (c : Dev nD) : (dats m 0 c).arrAt 4 cfg0.N = delta m c := by
  refine (dats m 0 c).arrAt_eq_of_covers 4 _ (by decide +kernel) fun t hf y => ?_
  blk_simp
  rw [after0_4]
  frame_out
  exact delta_point m c t y _ (by blk_simp [idx t]) (by blk_simp [idx t])

/-- The reference's result 1 as a function of the arguments: the new first moment. -/
abbrev newM (c : Dev nD) : FVec Ideal S512x1024 .f32 := val_main_v4 (F := Ideal) (m ((c : Thread nD τ).loc main_arg1)) (m ((c : Thread nD τ).loc main_arg2))

theorem newM_point (c : Dev nD) (t : Fin cfg0.N) (y : S512x1024.Idx) (j : S512x1024.Idx)
    (h0 : (j 0 : ℕ) = t.val * 512 + y 0) (h1 : (j 1 : ℕ) = y 1) :
    k0_pay1 (iblk m c 1 t) (iblk m c 2 t) y = newM m c j := by
  have ht := lt_of_lt_of_eq t.isLt N_0
  pointwise [k0_pay1, k0_pay2, k0_pay3, newM, val_main_v4, val_main_v1, val_main_v0, val_main_cst, val_main_v3, val_main_v2, val_main_cst_0]
  blk_point [iblk, V, idx t]

theorem newM_final (c : Dev nD) : (dats m 0 c).arrAt 5 cfg0.N = newM m c := by
  refine (dats m 0 c).arrAt_eq_of_covers 5 _ (by decide +kernel) fun t hf y => ?_
  blk_simp
  rw [after0_5]
  frame_out
  exact newM_point m c t y _ (by blk_simp [idx t]) (by blk_simp [idx t])

/-- The reference's result 2 as a function of the arguments: the new second moment. -/
abbrev newV (c : Dev nD) : FVec Ideal S512x1024 .f32 := val_main_v10 (F := Ideal) (m ((c : Thread nD τ).loc main_arg1)) (m ((c : Thread nD τ).loc main_arg3))

theorem newV_point (c : Dev nD) (t : Fin cfg0.N) (y : S512x1024.Idx) (j : S512x1024.Idx)
    (h0 : (j 0 : ℕ) = t.val * 512 + y 0) (h1 : (j 1 : ℕ) = y 1) :
    k0_pay2 (iblk m c 1 t) (iblk m c 3 t) y = newV m c j := by
  have ht := lt_of_lt_of_eq t.isLt N_0
  pointwise [k0_pay1, k0_pay2, k0_pay3, newV, val_main_v10, val_main_v6, val_main_v5, val_main_cst_1, val_main_v9, val_main_v8, val_main_cst_2, val_main_v7]
  blk_point [iblk, V, idx t]

theorem newV_final (c : Dev nD) : (dats m 0 c).arrAt 6 cfg0.N = newV m c := by
  refine (dats m 0 c).arrAt_eq_of_covers 6 _ (by decide +kernel) fun t hf y => ?_
  blk_simp
  rw [after0_6]
  frame_out
  exact newV_point m c t y _ (by blk_simp [idx t]) (by blk_simp [idx t])

end Cert.AWoutIdeal.Step
-- ==== Proof.AWglu.lean ====
module
public import proofs.«01_k».proof.Proof.Gen.AWgluIdeal.Value
public import proofs.«01_k».proof.Proof.Gen.AWgluRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.AWgluIdeal.Step
open Cert.AWgluIdeal Cert.AWgluIdeal.Gen Idealize.ShloMosaic Idealize.ShloMosaic.TcCoe Idealize.SL.Sem
open Idealize.ShloMosaic.Pipeline (Dat)
open Cert.AWgluRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The reference's result 0 as a function of the arguments: the change of the weight. -/
abbrev delta (c : Dev nD) : FVec Ideal S256x512 .f32 := val_main_v23 (F := Ideal) (m ((c : Thread nD τ).loc main_arg0)) (m ((c : Thread nD τ).loc main_arg1)) (m ((c : Thread nD τ).loc main_arg2)) (m ((c : Thread nD τ).loc main_arg3))

theorem delta_point (c : Dev nD) (t : Fin cfg0.N) (y : S256x512.Idx) (j : S256x512.Idx)
    (h0 : (j 0 : ℕ) = t.val * 256 + y 0) (h1 : (j 1 : ℕ) = y 1) :
    k0_pay3 (iblk m c 1 t) (iblk m c 2 t) (iblk m c 3 t) (iblk m c 0 t) y = delta m c j := by
  have ht := lt_of_lt_of_eq t.isLt N_0
  pointwise [k0_pay1, k0_pay2, k0_pay3, delta, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

theorem delta_final (c : Dev nD) : (dats m 0 c).arrAt 4 cfg0.N = delta m c := by
  refine (dats m 0 c).arrAt_eq_of_covers 4 _ (by decide +kernel) fun t hf y => ?_
  blk_simp
  rw [after0_4]
  frame_out
  exact delta_point m c t y _ (by blk_simp [idx t]) (by blk_simp [idx t])

/-- The reference's result 1 as a function of the arguments: the new first moment. -/
abbrev newM (c : Dev nD) : FVec Ideal S256x512 .f32 := val_main_v4 (F := Ideal) (m ((c : Thread nD τ).loc main_arg1)) (m ((c : Thread nD τ).loc main_arg2))

theorem newM_point (c : Dev nD) (t : Fin cfg0.N) (y : S256x512.Idx) (j : S256x512.Idx)
    (h0 : (j 0 : ℕ) = t.val * 256 + y 0) (h1 : (j 1 : ℕ) = y 1) :
    k0_pay1 (iblk m c 1 t) (iblk m c 2 t) y = newM m c j := by
  have ht := lt_of_lt_of_eq t.isLt N_0
  pointwise [k0_pay1, k0_pay2, k0_pay3, newM, val_main_v4, val_main_v1, val_main_v0, val_main_cst, val_main_v3, val_main_v2, val_main_cst_0]
  blk_point [iblk, V, idx t]

theorem newM_final (c : Dev nD) : (dats m 0 c).arrAt 5 cfg0.N = newM m c := by
  refine (dats m 0 c).arrAt_eq_of_covers 5 _ (by decide +kernel) fun t hf y => ?_
  blk_simp
  rw [after0_5]
  frame_out
  exact newM_point m c t y _ (by blk_simp [idx t]) (by blk_simp [idx t])

/-- The reference's result 2 as a function of the arguments: the new second moment. -/
abbrev newV (c : Dev nD) : FVec Ideal S256x512 .f32 := val_main_v10 (F := Ideal) (m ((c : Thread nD τ).loc main_arg1)) (m ((c : Thread nD τ).loc main_arg3))

theorem newV_point (c : Dev nD) (t : Fin cfg0.N) (y : S256x512.Idx) (j : S256x512.Idx)
    (h0 : (j 0 : ℕ) = t.val * 256 + y 0) (h1 : (j 1 : ℕ) = y 1) :
    k0_pay2 (iblk m c 1 t) (iblk m c 3 t) y = newV m c j := by
  have ht := lt_of_lt_of_eq t.isLt N_0
  pointwise [k0_pay1, k0_pay2, k0_pay3, newV, val_main_v10, val_main_v6, val_main_v5, val_main_cst_1, val_main_v9, val_main_v8, val_main_cst_2, val_main_v7]
  blk_point [iblk, V, idx t]

theorem newV_final (c : Dev nD) : (dats m 0 c).arrAt 6 cfg0.N = newV m c := by
  refine (dats m 0 c).arrAt_eq_of_covers 6 _ (by decide +kernel) fun t hf y => ?_
  blk_simp
  rw [after0_6]
  frame_out
  exact newV_point m c t y _ (by blk_simp [idx t]) (by blk_simp [idx t])

end Cert.AWgluIdeal.Step
-- ==== Proof.AWs5b.lean ====
module
public import proofs.«01_k».proof.Proof.Gen.AWs5bIdeal.Value
public import proofs.«01_k».proof.Proof.Gen.AWs5bRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.AWs5bIdeal.Step
open Cert.AWs5bIdeal Cert.AWs5bIdeal.Gen Idealize.ShloMosaic Idealize.ShloMosaic.TcCoe Idealize.SL.Sem
open Idealize.ShloMosaic.Pipeline (Dat)
open Cert.AWs5bRefIdeal.Read
variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The reference's result 0 as a function of the arguments: the change of the weight. -/
abbrev delta (c : Dev nD) : FVec Ideal S1024x64 .f32 := val_main_v23 (F := Ideal) (m ((c : Thread nD τ).loc main_arg0)) (m ((c : Thread nD τ).loc main_arg1)) (m ((c : Thread nD τ).loc main_arg2)) (m ((c : Thread nD τ).loc main_arg3))

theorem delta_point (c : Dev nD) (t : Fin cfg0.N) (y : S512x64.Idx) (j : S1024x64.Idx)
    (h0 : (j 0 : ℕ) = t.val * 512 + y 0) (h1 : (j 1 : ℕ) = y 1) :
    k0_pay3 (iblk m c 1 t) (iblk m c 2 t) (iblk m c 3 t) (iblk m c 0 t) y = delta m c j := by
  have ht := lt_of_lt_of_eq t.isLt N_0
  pointwise [k0_pay1, k0_pay2, k0_pay3, delta, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk, V, idx t]

theorem delta_final (c : Dev nD) : (dats m 0 c).arrAt 4 cfg0.N = delta m c := by
  refine (dats m 0 c).arrAt_eq_of_covers 4 _ (by decide +kernel) fun t hf y => ?_
  blk_simp
  rw [after0_4]
  frame_out
  exact delta_point m c t y _ (by blk_simp [idx t]) (by blk_simp [idx t])

/-- The reference's result 1 as a function of the arguments: the new first moment. -/
abbrev newM (c : Dev nD) : FVec Ideal S1024x64 .f32 := val_main_v4 (F := Ideal) (m ((c : Thread nD τ).loc main_arg1)) (m ((c : Thread nD τ).loc main_arg2))

theorem newM_point (c : Dev nD) (t : Fin cfg0.N) (y : S512x64.Idx) (j : S1024x64.Idx)
    (h0 : (j 0 : ℕ) = t.val * 512 + y 0) (h1 : (j 1 : ℕ) = y 1) :
    k0_pay1 (iblk m c 1 t) (iblk m c 2 t) y = newM m c j := by
  have ht := lt_of_lt_of_eq t.isLt N_0
  pointwise [k0_pay1, k0_pay2, k0_pay3, newM, val_main_v4, val_main_v1, val_main_v0, val_main_cst, val_main_v3, val_main_v2, val_main_cst_0]
  blk_point [iblk, V, idx t]

theorem newM_final (c : Dev nD) : (dats m 0 c).arrAt 5 cfg0.N = newM m c := by
  refine (dats m 0 c).arrAt_eq_of_covers 5 _ (by decide +kernel) fun t hf y => ?_
  blk_simp
  rw [after0_5]
  frame_out
  exact newM_point m c t y _ (by blk_simp [idx t]) (by blk_simp [idx t])

/-- The reference's result 2 as a function of the arguments: the new second moment. -/
abbrev newV (c : Dev nD) : FVec Ideal S1024x64 .f32 := val_main_v10 (F := Ideal) (m ((c : Thread nD τ).loc main_arg1)) (m ((c : Thread nD τ).loc main_arg3))

theorem newV_point (c : Dev nD) (t : Fin cfg0.N) (y : S512x64.Idx) (j : S1024x64.Idx)
    (h0 : (j 0 : ℕ) = t.val * 512 + y 0) (h1 : (j 1 : ℕ) = y 1) :
    k0_pay2 (iblk m c 1 t) (iblk m c 3 t) y = newV m c j := by
  have ht := lt_of_lt_of_eq t.isLt N_0
  pointwise [k0_pay1, k0_pay2, k0_pay3, newV, val_main_v10, val_main_v6, val_main_v5, val_main_cst_1, val_main_v9, val_main_v8, val_main_cst_2, val_main_v7]
  blk_point [iblk, V, idx t]

theorem newV_final (c : Dev nD) : (dats m 0 c).arrAt 6 cfg0.N = newV m c := by
  refine (dats m 0 c).arrAt_eq_of_covers 6 _ (by decide +kernel) fun t hf y => ?_
  blk_simp
  rw [after0_6]
  frame_out
  exact newV_point m c t y _ (by blk_simp [idx t]) (by blk_simp [idx t])

end Cert.AWs5bIdeal.Step
-- ==== Proof.ARestA.lean ====
module
public import proofs.«01_k».proof.Proof.Gen.ARestAIdeal.Value
public import proofs.«01_k».proof.Proof.Gen.ARestARefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ARestAIdeal.Step
open Cert.ARestAIdeal Cert.ARestAIdeal.Gen Idealize.ShloMosaic Idealize.ShloMosaic.TcCoe Idealize.SL.Sem
open Idealize.ShloMosaic.Pipeline (Dat)
open Cert.ARestARefIdeal.Read
variable (m : (ℓ : Loc nD τ sig) → Buf (Elt Ideal) ℓ)

/-- The change of weight 0, as the reference computes it. -/
abbrev delta0 (c : Dev nD) : FVec Ideal S2x1024 .f32 := val_main_v23 (F := Ideal) (m ((c : Thread nD τ).loc main_arg0)) (m ((c : Thread nD τ).loc main_arg4)) (m ((c : Thread nD τ).loc main_arg8)) (m ((c : Thread nD τ).loc main_arg12))

theorem delta0_final (c : Dev nD) : (dats m 0 c).arrAt 16 cfg0.N = delta0 m c :=
  (Value.final16 m c).trans (funext fun j => by
    pointwise [Value.G16, delta0, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6])

/-- The change of weight 1, as the reference computes it. -/
abbrev delta1 (c : Dev nD) : FVec Ideal S2x32x64 .f32 := val_main_v47 (F := Ideal) (m ((c : Thread nD τ).loc main_arg1)) (m ((c : Thread nD τ).loc main_arg5)) (m ((c : Thread nD τ).loc main_arg9)) (m ((c : Thread nD τ).loc main_arg13))

theorem delta1_final (c : Dev nD) : (dats m 0 c).arrAt 17 cfg0.N = delta1 m c :=
  (Value.final17 m c).trans (funext fun j => by
    pointwise [Value.G17, delta1, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15])

/-- The change of weight 2, as the reference computes it. -/
abbrev delta2 (c : Dev nD) : FVec Ideal S2x32x64 .f32 := val_main_v71 (F := Ideal) (m ((c : Thread nD τ).loc main_arg2)) (m ((c : Thread nD τ).loc main_arg6)) (m ((c : Thread nD τ).loc main_arg10)) (m ((c : Thread nD τ).loc main_arg14))

theorem delta2_final (c : Dev nD) : (dats m 0 c).arrAt 18 cfg0.N = delta2 m c :=
  (Value.final18 m c).trans (funext fun j => by
    pointwise [Value.G18, delta2, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24])

/-- The change of weight 3, as the reference computes it. -/
abbrev delta3 (c : Dev nD) : FVec Ideal S2x32x16x64 .f32 := val_main_v95 (F := Ideal) (m ((c : Thread nD τ).loc main_arg3)) (m ((c : Thread nD τ).loc main_arg7)) (m ((c : Thread nD τ).loc main_arg11)) (m ((c : Thread nD τ).loc main_arg15))

theorem delta3_final (c : Dev nD) : (dats m 0 c).arrAt 19 cfg0.N = delta3 m c :=
  (Value.final19 m c).trans (funext fun j => by
    pointwise [Value.G19, delta3, val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33])

/-- The new first moment of weight 0, as the reference computes it. -/
abbrev newM0 (c : Dev nD) : FVec Ideal S2x1024 .f32 := val_main_v4 (F := Ideal) (m ((c : Thread nD τ).loc main_arg4)) (m ((c : Thread nD τ).loc main_arg8))

theorem newM0_final (c : Dev nD) : (dats m 0 c).arrAt 20 cfg0.N = newM0 m c :=
  (Value.final20 m c).trans (funext fun j => by
    pointwise [Value.G20, newM0, val_main_v4, val_main_v1, val_main_v0, val_main_cst, val_main_v3, val_main_v2, val_main_cst_0])

/-- The new first moment of weight 1, as the reference computes it. -/
abbrev newM1 (c : Dev nD) : FVec Ideal S2x32x64 .f32 := val_main_v28 (F := Ideal) (m ((c : Thread nD τ).loc main_arg5)) (m ((c : Thread nD τ).loc main_arg9))

theorem newM1_final (c : Dev nD) : (dats m 0 c).arrAt 21 cfg0.N = newM1 m c :=
  (Value.final21 m c).trans (funext fun j => by
    pointwise [Value.G21, newM1, val_main_v28, val_main_v25, val_main_v24, val_main_cst_8, val_main_v27, val_main_v26, val_main_cst_9])

/-- The new first moment of weight 2, as the reference computes it. -/
abbrev newM2 (c : Dev nD) : FVec Ideal S2x32x64 .f32 := val_main_v52 (F := Ideal) (m ((c : Thread nD τ).loc main_arg6)) (m ((c : Thread nD τ).loc main_arg10))

theorem newM2_final (c : Dev nD) : (dats m 0 c).arrAt 22 cfg0.N = newM2 m c :=
  (Value.final22 m c).trans (funext fun j => by
    pointwise [Value.G22, newM2, val_main_v52, val_main_v49, val_main_v48, val_main_cst_17, val_main_v51, val_main_v50, val_main_cst_18])

/-- The new first moment of weight 3, as the reference computes it. -/
abbrev newM3 (c : Dev nD) : FVec Ideal S2x32x16x64 .f32 := val_main_v76 (F := Ideal) (m ((c : Thread nD τ).loc main_arg7)) (m ((c : Thread nD τ).loc main_arg11))

theorem newM3_final (c : Dev nD) : (dats m 0 c).arrAt 23 cfg0.N = newM3 m c :=
  (Value.final23 m c).trans (funext fun j => by
    pointwise [Value.G23, newM3, val_main_v76, val_main_v73, val_main_v72, val_main_cst_26, val_main_v75, val_main_v74, val_main_cst_27])

/-- The new second moment of weight 0, as the reference computes it. -/
abbrev newV0 (c : Dev nD) : FVec Ideal S2x1024 .f32 := val_main_v10 (F := Ideal) (m ((c : Thread nD τ).loc main_arg4)) (m ((c : Thread nD τ).loc main_arg12))

theorem newV0_final (c : Dev nD) : (dats m 0 c).arrAt 24 cfg0.N = newV0 m c :=
  (Value.final24 m c).trans (funext fun j => by
    pointwise [Value.G24, newV0, val_main_v10, val_main_v6, val_main_v5, val_main_cst_1, val_main_v9, val_main_v8, val_main_cst_2, val_main_v7])

/-- The new second moment of weight 1, as the reference computes it. -/
abbrev newV1 (c : Dev nD) : FVec Ideal S2x32x64 .f32 := val_main_v34 (F := Ideal) (m ((c : Thread nD τ).loc main_arg5)) (m ((c : Thread nD τ).loc main_arg13))

theorem newV1_final (c : Dev nD) : (dats m 0 c).arrAt 25 cfg0.N = newV1 m c :=
  (Value.final25 m c).trans (funext fun j => by
    pointwise [Value.G25, newV1, val_main_v34, val_main_v30, val_main_v29, val_main_cst_10, val_main_v33, val_main_v32, val_main_cst_11, val_main_v31])

/-- The new second moment of weight 2, as the reference computes it. -/
abbrev newV2 (c : Dev nD) : FVec Ideal S2x32x64 .f32 := val_main_v58 (F := Ideal) (m ((c : Thread nD τ).loc main_arg6)) (m ((c : Thread nD τ).loc main_arg14))

theorem newV2_final (c : Dev nD) : (dats m 0 c).arrAt 26 cfg0.N = newV2 m c :=
  (Value.final26 m c).trans (funext fun j => by
    pointwise [Value.G26, newV2, val_main_v58, val_main_v54, val_main_v53, val_main_cst_19, val_main_v57, val_main_v56, val_main_cst_20, val_main_v55])

/-- The new second moment of weight 3, as the reference computes it. -/
abbrev newV3 (c : Dev nD) : FVec Ideal S2x32x16x64 .f32 := val_main_v82 (F := Ideal) (m ((c : Thread nD τ).loc main_arg7)) (m ((c : Thread nD τ).loc main_arg15))

theorem newV3_final (c : Dev nD) : (dats m 0 c).arrAt 27 cfg0.N = newV3 m c :=
  (Value.final27 m c).trans (funext fun j => by
    pointwise [Value.G27, newV3, val_main_v82, val_main_v78, val_main_v77, val_main_cst_28, val_main_v81, val_main_v80, val_main_cst_29, val_main_v79])

end Cert.ARestAIdeal.Step
-- ==== Proof.ARestB.lean ====
module
public import proofs.«01_k».proof.Proof.Gen.ARestBIdeal.Value
public import proofs.«01_k».proof.Proof.Gen.ARestBRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ARestBIdeal.Step
open Cert.ARestBIdeal Cert.ARestBIdeal.Gen Idealize.ShloMosaic Idealize.ShloMosaic.TcCoe Idealize.SL.Sem
open Idealize.ShloMosaic.Pipeline (Dat)
open Cert.ARestBRefIdeal.Read
variable (m : (ℓ : Loc nD τ sig) → Buf (Elt Ideal) ℓ)

/-- The change of weight 0, as the reference computes it. -/
abbrev delta0 (c : Dev nD) : FVec Ideal S2x32x16x64 .f32 := val_main_v23 (F := Ideal) (m ((c : Thread nD τ).loc main_arg0)) (m ((c : Thread nD τ).loc main_arg4)) (m ((c : Thread nD τ).loc main_arg8)) (m ((c : Thread nD τ).loc main_arg12))

theorem delta0_final (c : Dev nD) : (dats m 0 c).arrAt 16 cfg0.N = delta0 m c :=
  (Value.final16 m c).trans (funext fun j => by
    pointwise [Value.G16, delta0, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6])

/-- The change of weight 1, as the reference computes it. -/
abbrev delta1 (c : Dev nD) : FVec Ideal S2x32x16 .f32 := val_main_v47 (F := Ideal) (m ((c : Thread nD τ).loc main_arg1)) (m ((c : Thread nD τ).loc main_arg5)) (m ((c : Thread nD τ).loc main_arg9)) (m ((c : Thread nD τ).loc main_arg13))

theorem delta1_final (c : Dev nD) : (dats m 0 c).arrAt 17 cfg0.N = delta1 m c :=
  (Value.final17 m c).trans (funext fun j => by
    pointwise [Value.G17, delta1, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15])

/-- The change of weight 2, as the reference computes it. -/
abbrev delta2 (c : Dev nD) : FVec Ideal S2x32 .f32 := val_main_v71 (F := Ideal) (m ((c : Thread nD τ).loc main_arg2)) (m ((c : Thread nD τ).loc main_arg6)) (m ((c : Thread nD τ).loc main_arg10)) (m ((c : Thread nD τ).loc main_arg14))

theorem delta2_final (c : Dev nD) : (dats m 0 c).arrAt 18 cfg0.N = delta2 m c :=
  (Value.final18 m c).trans (funext fun j => by
    pointwise [Value.G18, delta2, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24])

/-- The change of weight 3, as the reference computes it. -/
abbrev delta3 (c : Dev nD) : FVec Ideal S2x512 .f32 := val_main_v95 (F := Ideal) (m ((c : Thread nD τ).loc main_arg3)) (m ((c : Thread nD τ).loc main_arg7)) (m ((c : Thread nD τ).loc main_arg11)) (m ((c : Thread nD τ).loc main_arg15))

theorem delta3_final (c : Dev nD) : (dats m 0 c).arrAt 19 cfg0.N = delta3 m c :=
  (Value.final19 m c).trans (funext fun j => by
    pointwise [Value.G19, delta3, val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33])

/-- The new first moment of weight 0, as the reference computes it. -/
abbrev newM0 (c : Dev nD) : FVec Ideal S2x32x16x64 .f32 := val_main_v4 (F := Ideal) (m ((c : Thread nD τ).loc main_arg4)) (m ((c : Thread nD τ).loc main_arg8))

theorem newM0_final (c : Dev nD) : (dats m 0 c).arrAt 20 cfg0.N = newM0 m c :=
  (Value.final20 m c).trans (funext fun j => by
    pointwise [Value.G20, newM0, val_main_v4, val_main_v1, val_main_v0, val_main_cst, val_main_v3, val_main_v2, val_main_cst_0])

/-- The new first moment of weight 1, as the reference computes it. -/
abbrev newM1 (c : Dev nD) : FVec Ideal S2x32x16 .f32 := val_main_v28 (F := Ideal) (m ((c : Thread nD τ).loc main_arg5)) (m ((c : Thread nD τ).loc main_arg9))

theorem newM1_final (c : Dev nD) : (dats m 0 c).arrAt 21 cfg0.N = newM1 m c :=
  (Value.final21 m c).trans (funext fun j => by
    pointwise [Value.G21, newM1, val_main_v28, val_main_v25, val_main_v24, val_main_cst_8, val_main_v27, val_main_v26, val_main_cst_9])

/-- The new first moment of weight 2, as the reference computes it. -/
abbrev newM2 (c : Dev nD) : FVec Ideal S2x32 .f32 := val_main_v52 (F := Ideal) (m ((c : Thread nD τ).loc main_arg6)) (m ((c : Thread nD τ).loc main_arg10))

theorem newM2_final (c : Dev nD) : (dats m 0 c).arrAt 22 cfg0.N = newM2 m c :=
  (Value.final22 m c).trans (funext fun j => by
    pointwise [Value.G22, newM2, val_main_v52, val_main_v49, val_main_v48, val_main_cst_17, val_main_v51, val_main_v50, val_main_cst_18])

/-- The new first moment of weight 3, as the reference computes it. -/
abbrev newM3 (c : Dev nD) : FVec Ideal S2x512 .f32 := val_main_v76 (F := Ideal) (m ((c : Thread nD τ).loc main_arg7)) (m ((c : Thread nD τ).loc main_arg11))

theorem newM3_final (c : Dev nD) : (dats m 0 c).arrAt 23 cfg0.N = newM3 m c :=
  (Value.final23 m c).trans (funext fun j => by
    pointwise [Value.G23, newM3, val_main_v76, val_main_v73, val_main_v72, val_main_cst_26, val_main_v75, val_main_v74, val_main_cst_27])

/-- The new second moment of weight 0, as the reference computes it. -/
abbrev newV0 (c : Dev nD) : FVec Ideal S2x32x16x64 .f32 := val_main_v10 (F := Ideal) (m ((c : Thread nD τ).loc main_arg4)) (m ((c : Thread nD τ).loc main_arg12))

theorem newV0_final (c : Dev nD) : (dats m 0 c).arrAt 24 cfg0.N = newV0 m c :=
  (Value.final24 m c).trans (funext fun j => by
    pointwise [Value.G24, newV0, val_main_v10, val_main_v6, val_main_v5, val_main_cst_1, val_main_v9, val_main_v8, val_main_cst_2, val_main_v7])

/-- The new second moment of weight 1, as the reference computes it. -/
abbrev newV1 (c : Dev nD) : FVec Ideal S2x32x16 .f32 := val_main_v34 (F := Ideal) (m ((c : Thread nD τ).loc main_arg5)) (m ((c : Thread nD τ).loc main_arg13))

theorem newV1_final (c : Dev nD) : (dats m 0 c).arrAt 25 cfg0.N = newV1 m c :=
  (Value.final25 m c).trans (funext fun j => by
    pointwise [Value.G25, newV1, val_main_v34, val_main_v30, val_main_v29, val_main_cst_10, val_main_v33, val_main_v32, val_main_cst_11, val_main_v31])

/-- The new second moment of weight 2, as the reference computes it. -/
abbrev newV2 (c : Dev nD) : FVec Ideal S2x32 .f32 := val_main_v58 (F := Ideal) (m ((c : Thread nD τ).loc main_arg6)) (m ((c : Thread nD τ).loc main_arg14))

theorem newV2_final (c : Dev nD) : (dats m 0 c).arrAt 26 cfg0.N = newV2 m c :=
  (Value.final26 m c).trans (funext fun j => by
    pointwise [Value.G26, newV2, val_main_v58, val_main_v54, val_main_v53, val_main_cst_19, val_main_v57, val_main_v56, val_main_cst_20, val_main_v55])

/-- The new second moment of weight 3, as the reference computes it. -/
abbrev newV3 (c : Dev nD) : FVec Ideal S2x512 .f32 := val_main_v82 (F := Ideal) (m ((c : Thread nD τ).loc main_arg7)) (m ((c : Thread nD τ).loc main_arg15))

theorem newV3_final (c : Dev nD) : (dats m 0 c).arrAt 27 cfg0.N = newV3 m c :=
  (Value.final27 m c).trans (funext fun j => by
    pointwise [Value.G27, newV3, val_main_v82, val_main_v78, val_main_v77, val_main_cst_28, val_main_v81, val_main_v80, val_main_cst_29, val_main_v79])

end Cert.ARestBIdeal.Step
-- ==== Proof.ARestC.lean ====
module
public import proofs.«01_k».proof.Proof.Gen.ARestCIdeal.Value
public import proofs.«01_k».proof.Proof.Gen.ARestCRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ARestCIdeal.Step
open Cert.ARestCIdeal Cert.ARestCIdeal.Gen Idealize.ShloMosaic Idealize.ShloMosaic.TcCoe Idealize.SL.Sem
open Idealize.ShloMosaic.Pipeline (Dat)
open Cert.ARestCRefIdeal.Read
variable (m : (ℓ : Loc nD τ sig) → Buf (Elt Ideal) ℓ)

/-- The change of weight 0, as the reference computes it. -/
abbrev delta0 (c : Dev nD) : FVec Ideal S2x512 .f32 := val_main_v23 (F := Ideal) (m ((c : Thread nD τ).loc main_arg0)) (m ((c : Thread nD τ).loc main_arg4)) (m ((c : Thread nD τ).loc main_arg8)) (m ((c : Thread nD τ).loc main_arg12))

theorem delta0_final (c : Dev nD) : (dats m 0 c).arrAt 16 cfg0.N = delta0 m c :=
  (Value.final16 m c).trans (funext fun j => by
    pointwise [Value.G16, k0_pay4, k0_pay2, k0_pay3, delta0, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6])

/-- The change of weight 1, as the reference computes it. -/
abbrev delta1 (c : Dev nD) : FVec Ideal S2x8x128x128 .f32 := val_main_v47 (F := Ideal) (m ((c : Thread nD τ).loc main_arg1)) (m ((c : Thread nD τ).loc main_arg5)) (m ((c : Thread nD τ).loc main_arg9)) (m ((c : Thread nD τ).loc main_arg13))

theorem delta1_final (c : Dev nD) : (dats m 0 c).arrAt 17 cfg0.N = delta1 m c :=
  (Value.final17 m c).trans (funext fun j => by
    pointwise [Value.G17, k0_pay7, k0_pay5, k0_pay6, delta1, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15])

/-- The change of weight 2, as the reference computes it. -/
abbrev delta2 (c : Dev nD) : FVec Ideal S2x8x128 .f32 := val_main_v71 (F := Ideal) (m ((c : Thread nD τ).loc main_arg2)) (m ((c : Thread nD τ).loc main_arg6)) (m ((c : Thread nD τ).loc main_arg10)) (m ((c : Thread nD τ).loc main_arg14))

theorem delta2_final (c : Dev nD) : (dats m 0 c).arrAt 18 cfg0.N = delta2 m c :=
  (Value.final18 m c).trans (funext fun j => by
    pointwise [Value.G18, k0_pay10, k0_pay8, k0_pay9, delta2, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24])

/-- The change of weight 3, as the reference computes it. -/
abbrev delta3 (c : Dev nD) : FVec Ideal S2x4x256 .f32 := val_main_v95 (F := Ideal) (m ((c : Thread nD τ).loc main_arg3)) (m ((c : Thread nD τ).loc main_arg7)) (m ((c : Thread nD τ).loc main_arg11)) (m ((c : Thread nD τ).loc main_arg15))

theorem delta3_final (c : Dev nD) : (dats m 0 c).arrAt 19 cfg0.N = delta3 m c :=
  (Value.final19 m c).trans (funext fun j => by
    pointwise [Value.G19, k0_pay1, k0_pay13, k0_pay14, k0_pay11, k0_pay12, delta3, val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33])

/-- The new first moment of weight 0, as the reference computes it. -/
abbrev newM0 (c : Dev nD) : FVec Ideal S2x512 .f32 := val_main_v4 (F := Ideal) (m ((c : Thread nD τ).loc main_arg4)) (m ((c : Thread nD τ).loc main_arg8))

theorem newM0_final (c : Dev nD) : (dats m 0 c).arrAt 20 cfg0.N = newM0 m c :=
  (Value.final20 m c).trans (funext fun j => by
    pointwise [Value.G20, k0_pay2, newM0, val_main_v4, val_main_v1, val_main_v0, val_main_cst, val_main_v3, val_main_v2, val_main_cst_0])

/-- The new first moment of weight 1, as the reference computes it. -/
abbrev newM1 (c : Dev nD) : FVec Ideal S2x8x128x128 .f32 := val_main_v28 (F := Ideal) (m ((c : Thread nD τ).loc main_arg5)) (m ((c : Thread nD τ).loc main_arg9))

theorem newM1_final (c : Dev nD) : (dats m 0 c).arrAt 21 cfg0.N = newM1 m c :=
  (Value.final21 m c).trans (funext fun j => by
    pointwise [Value.G21, k0_pay5, newM1, val_main_v28, val_main_v25, val_main_v24, val_main_cst_8, val_main_v27, val_main_v26, val_main_cst_9])

/-- The new first moment of weight 2, as the reference computes it. -/
abbrev newM2 (c : Dev nD) : FVec Ideal S2x8x128 .f32 := val_main_v52 (F := Ideal) (m ((c : Thread nD τ).loc main_arg6)) (m ((c : Thread nD τ).loc main_arg10))

theorem newM2_final (c : Dev nD) : (dats m 0 c).arrAt 22 cfg0.N = newM2 m c :=
  (Value.final22 m c).trans (funext fun j => by
    pointwise [Value.G22, k0_pay8, newM2, val_main_v52, val_main_v49, val_main_v48, val_main_cst_17, val_main_v51, val_main_v50, val_main_cst_18])

/-- The new first moment of weight 3, as the reference computes it. -/
abbrev newM3 (c : Dev nD) : FVec Ideal S2x4x256 .f32 := val_main_v76 (F := Ideal) (m ((c : Thread nD τ).loc main_arg7)) (m ((c : Thread nD τ).loc main_arg11))

theorem newM3_final (c : Dev nD) : (dats m 0 c).arrAt 23 cfg0.N = newM3 m c :=
  (Value.final23 m c).trans (funext fun j => by
    pointwise [Value.G23, k0_pay11, newM3, val_main_v76, val_main_v73, val_main_v72, val_main_cst_26, val_main_v75, val_main_v74, val_main_cst_27])

/-- The new second moment of weight 0, as the reference computes it. -/
abbrev newV0 (c : Dev nD) : FVec Ideal S2x512 .f32 := val_main_v10 (F := Ideal) (m ((c : Thread nD τ).loc main_arg4)) (m ((c : Thread nD τ).loc main_arg12))

theorem newV0_final (c : Dev nD) : (dats m 0 c).arrAt 24 cfg0.N = newV0 m c :=
  (Value.final24 m c).trans (funext fun j => by
    pointwise [Value.G24, k0_pay3, newV0, val_main_v10, val_main_v6, val_main_v5, val_main_cst_1, val_main_v9, val_main_v8, val_main_cst_2, val_main_v7])

/-- The new second moment of weight 1, as the reference computes it. -/
abbrev newV1 (c : Dev nD) : FVec Ideal S2x8x128x128 .f32 := val_main_v34 (F := Ideal) (m ((c : Thread nD τ).loc main_arg5)) (m ((c : Thread nD τ).loc main_arg13))

theorem newV1_final (c : Dev nD) : (dats m 0 c).arrAt 25 cfg0.N = newV1 m c :=
  (Value.final25 m c).trans (funext fun j => by
    pointwise [Value.G25, k0_pay6, newV1, val_main_v34, val_main_v30, val_main_v29, val_main_cst_10, val_main_v33, val_main_v32, val_main_cst_11, val_main_v31])

/-- The new second moment of weight 2, as the reference computes it. -/
abbrev newV2 (c : Dev nD) : FVec Ideal S2x8x128 .f32 := val_main_v58 (F := Ideal) (m ((c : Thread nD τ).loc main_arg6)) (m ((c : Thread nD τ).loc main_arg14))

theorem newV2_final (c : Dev nD) : (dats m 0 c).arrAt 26 cfg0.N = newV2 m c :=
  (Value.final26 m c).trans (funext fun j => by
    pointwise [Value.G26, k0_pay9, newV2, val_main_v58, val_main_v54, val_main_v53, val_main_cst_19, val_main_v57, val_main_v56, val_main_cst_20, val_main_v55])

/-- The new second moment of weight 3, as the reference computes it. -/
abbrev newV3 (c : Dev nD) : FVec Ideal S2x4x256 .f32 := val_main_v82 (F := Ideal) (m ((c : Thread nD τ).loc main_arg7)) (m ((c : Thread nD τ).loc main_arg15))

theorem newV3_final (c : Dev nD) : (dats m 0 c).arrAt 27 cfg0.N = newV3 m c :=
  (Value.final27 m c).trans (funext fun j => by
    pointwise [Value.G27, k0_pay12, newV3, val_main_v82, val_main_v78, val_main_v77, val_main_cst_28, val_main_v81, val_main_v80, val_main_cst_29, val_main_v79])

end Cert.ARestCIdeal.Step
-- ==== Proof.ARestD.lean ====
module
public import proofs.«01_k».proof.Proof.Gen.ARestDIdeal.Value
public import proofs.«01_k».proof.Proof.Gen.ARestDRefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ARestDIdeal.Step
open Cert.ARestDIdeal Cert.ARestDIdeal.Gen Idealize.ShloMosaic Idealize.ShloMosaic.TcCoe Idealize.SL.Sem
open Idealize.ShloMosaic.Pipeline (Dat)
open Cert.ARestDRefIdeal.Read
variable (m : (ℓ : Loc nD τ sig) → Buf (Elt Ideal) ℓ)

/-- The change of weight 0, as the reference computes it. -/
abbrev delta0 (c : Dev nD) : FVec Ideal S2x1024 .f32 := val_main_v23 (F := Ideal) (m ((c : Thread nD τ).loc main_arg0)) (m ((c : Thread nD τ).loc main_arg4)) (m ((c : Thread nD τ).loc main_arg8)) (m ((c : Thread nD τ).loc main_arg12))

theorem delta0_final (c : Dev nD) : (dats m 0 c).arrAt 16 cfg0.N = delta0 m c :=
  (Value.final16 m c).trans (funext fun j => by
    pointwise [Value.G16, k0_pay6, k0_pay4, k0_pay5, delta0, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6])

/-- The change of weight 1, as the reference computes it. -/
abbrev delta1 (c : Dev nD) : FVec Ideal S2x8 .f32 := val_main_v47 (F := Ideal) (m ((c : Thread nD τ).loc main_arg1)) (m ((c : Thread nD τ).loc main_arg5)) (m ((c : Thread nD τ).loc main_arg9)) (m ((c : Thread nD τ).loc main_arg13))

theorem delta1_final (c : Dev nD) : (dats m 0 c).arrAt 17 cfg0.N = delta1 m c :=
  (Value.final17 m c).trans (funext fun j => by
    pointwise [Value.G17, k0_pay9, k0_pay7, k0_pay8, delta1, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15])

/-- The change of weight 2, as the reference computes it. -/
abbrev delta2 (c : Dev nD) : FVec Ideal S2x8 .f32 := val_main_v71 (F := Ideal) (m ((c : Thread nD τ).loc main_arg2)) (m ((c : Thread nD τ).loc main_arg6)) (m ((c : Thread nD τ).loc main_arg10)) (m ((c : Thread nD τ).loc main_arg14))

theorem delta2_final (c : Dev nD) : (dats m 0 c).arrAt 18 cfg0.N = delta2 m c :=
  (Value.final18 m c).trans (funext fun j => by
    pointwise [Value.G18, k0_pay12, k0_pay10, k0_pay11, delta2, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24])

/-- The change of weight 3, as the reference computes it. -/
abbrev delta3 (c : Dev nD) : FVec Ideal S2x8 .f32 := val_main_v95 (F := Ideal) (m ((c : Thread nD τ).loc main_arg3)) (m ((c : Thread nD τ).loc main_arg7)) (m ((c : Thread nD τ).loc main_arg11)) (m ((c : Thread nD τ).loc main_arg15))

theorem delta3_final (c : Dev nD) : (dats m 0 c).arrAt 19 cfg0.N = delta3 m c :=
  (Value.final19 m c).trans (funext fun j => by
    pointwise [Value.G19, k0_pay3, k0_pay14, k0_pay1, k0_pay2, k0_pay13, delta3, val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33])

/-- The new first moment of weight 0, as the reference computes it. -/
abbrev newM0 (c : Dev nD) : FVec Ideal S2x1024 .f32 := val_main_v4 (F := Ideal) (m ((c : Thread nD τ).loc main_arg4)) (m ((c : Thread nD τ).loc main_arg8))

theorem newM0_final (c : Dev nD) : (dats m 0 c).arrAt 20 cfg0.N = newM0 m c :=
  (Value.final20 m c).trans (funext fun j => by
    pointwise [Value.G20, k0_pay4, newM0, val_main_v4, val_main_v1, val_main_v0, val_main_cst, val_main_v3, val_main_v2, val_main_cst_0])

/-- The new first moment of weight 1, as the reference computes it. -/
abbrev newM1 (c : Dev nD) : FVec Ideal S2x8 .f32 := val_main_v28 (F := Ideal) (m ((c : Thread nD τ).loc main_arg5)) (m ((c : Thread nD τ).loc main_arg9))

theorem newM1_final (c : Dev nD) : (dats m 0 c).arrAt 21 cfg0.N = newM1 m c :=
  (Value.final21 m c).trans (funext fun j => by
    pointwise [Value.G21, k0_pay7, newM1, val_main_v28, val_main_v25, val_main_v24, val_main_cst_8, val_main_v27, val_main_v26, val_main_cst_9])

/-- The new first moment of weight 2, as the reference computes it. -/
abbrev newM2 (c : Dev nD) : FVec Ideal S2x8 .f32 := val_main_v52 (F := Ideal) (m ((c : Thread nD τ).loc main_arg6)) (m ((c : Thread nD τ).loc main_arg10))

theorem newM2_final (c : Dev nD) : (dats m 0 c).arrAt 22 cfg0.N = newM2 m c :=
  (Value.final22 m c).trans (funext fun j => by
    pointwise [Value.G22, k0_pay10, newM2, val_main_v52, val_main_v49, val_main_v48, val_main_cst_17, val_main_v51, val_main_v50, val_main_cst_18])

/-- The new first moment of weight 3, as the reference computes it. -/
abbrev newM3 (c : Dev nD) : FVec Ideal S2x8 .f32 := val_main_v76 (F := Ideal) (m ((c : Thread nD τ).loc main_arg7)) (m ((c : Thread nD τ).loc main_arg11))

theorem newM3_final (c : Dev nD) : (dats m 0 c).arrAt 23 cfg0.N = newM3 m c :=
  (Value.final23 m c).trans (funext fun j => by
    pointwise [Value.G23, k0_pay1, k0_pay14, k0_pay13, newM3, val_main_v76, val_main_v73, val_main_v72, val_main_cst_26, val_main_v75, val_main_v74, val_main_cst_27])

/-- The new second moment of weight 0, as the reference computes it. -/
abbrev newV0 (c : Dev nD) : FVec Ideal S2x1024 .f32 := val_main_v10 (F := Ideal) (m ((c : Thread nD τ).loc main_arg4)) (m ((c : Thread nD τ).loc main_arg12))

theorem newV0_final (c : Dev nD) : (dats m 0 c).arrAt 24 cfg0.N = newV0 m c :=
  (Value.final24 m c).trans (funext fun j => by
    pointwise [Value.G24, k0_pay5, newV0, val_main_v10, val_main_v6, val_main_v5, val_main_cst_1, val_main_v9, val_main_v8, val_main_cst_2, val_main_v7])

/-- The new second moment of weight 1, as the reference computes it. -/
abbrev newV1 (c : Dev nD) : FVec Ideal S2x8 .f32 := val_main_v34 (F := Ideal) (m ((c : Thread nD τ).loc main_arg5)) (m ((c : Thread nD τ).loc main_arg13))

theorem newV1_final (c : Dev nD) : (dats m 0 c).arrAt 25 cfg0.N = newV1 m c :=
  (Value.final25 m c).trans (funext fun j => by
    pointwise [Value.G25, k0_pay8, newV1, val_main_v34, val_main_v30, val_main_v29, val_main_cst_10, val_main_v33, val_main_v32, val_main_cst_11, val_main_v31])

/-- The new second moment of weight 2, as the reference computes it. -/
abbrev newV2 (c : Dev nD) : FVec Ideal S2x8 .f32 := val_main_v58 (F := Ideal) (m ((c : Thread nD τ).loc main_arg6)) (m ((c : Thread nD τ).loc main_arg14))

theorem newV2_final (c : Dev nD) : (dats m 0 c).arrAt 26 cfg0.N = newV2 m c :=
  (Value.final26 m c).trans (funext fun j => by
    pointwise [Value.G26, k0_pay11, newV2, val_main_v58, val_main_v54, val_main_v53, val_main_cst_19, val_main_v57, val_main_v56, val_main_cst_20, val_main_v55])

/-- The new second moment of weight 3, as the reference computes it. -/
abbrev newV3 (c : Dev nD) : FVec Ideal S2x8 .f32 := val_main_v82 (F := Ideal) (m ((c : Thread nD τ).loc main_arg7)) (m ((c : Thread nD τ).loc main_arg15))

theorem newV3_final (c : Dev nD) : (dats m 0 c).arrAt 27 cfg0.N = newV3 m c :=
  (Value.final27 m c).trans (funext fun j => by
    pointwise [Value.G27, k0_pay2, newV3, val_main_v82, val_main_v78, val_main_v77, val_main_cst_28, val_main_v81, val_main_v80, val_main_cst_29, val_main_v79])

end Cert.ARestDIdeal.Step
-- ==== Proof.ARestE.lean ====
module
public import proofs.«01_k».proof.Proof.Gen.ARestEIdeal.Value
public import proofs.«01_k».proof.Proof.Gen.ARestERefIdeal.Read
public import Idealize.ShloMosaic.Lib.Pointwise
public import Idealize.ShloMosaic.Lib.Pipeline.ValueKit
public import Idealize.ShloMosaic.Lib.Claim
@[expose] public section
set_option maxRecDepth 16384
noncomputable section
namespace Cert.ARestEIdeal.Step
open Cert.ARestEIdeal Cert.ARestEIdeal.Gen Idealize.ShloMosaic Idealize.ShloMosaic.TcCoe Idealize.SL.Sem
open Idealize.ShloMosaic.Pipeline (Dat)
open Cert.ARestERefIdeal.Read
variable (m : (ℓ : Loc nD τ sig) → Buf (Elt Ideal) ℓ)

/-- The change of weight 0, as the reference computes it. -/
abbrev delta0 (c : Dev nD) : FVec Ideal S2x512 .f32 := val_main_v23 (F := Ideal) (m ((c : Thread nD τ).loc main_arg0)) (m ((c : Thread nD τ).loc main_arg4)) (m ((c : Thread nD τ).loc main_arg8)) (m ((c : Thread nD τ).loc main_arg12))

theorem delta0_final (c : Dev nD) : (dats m 0 c).arrAt 16 cfg0.N = delta0 m c :=
  (Value.final16 m c).trans (funext fun j => by
    pointwise [Value.G16, delta0, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6])

/-- The change of weight 1, as the reference computes it. -/
abbrev delta1 (c : Dev nD) : FVec Ideal S2x3x128 .f32 := val_main_v47 (F := Ideal) (m ((c : Thread nD τ).loc main_arg1)) (m ((c : Thread nD τ).loc main_arg5)) (m ((c : Thread nD τ).loc main_arg9)) (m ((c : Thread nD τ).loc main_arg13))

theorem delta1_final (c : Dev nD) : (dats m 0 c).arrAt 17 cfg0.N = delta1 m c :=
  (Value.final17 m c).trans (funext fun j => by
    pointwise [Value.G17, delta1, val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15])

/-- The change of weight 2, as the reference computes it. -/
abbrev delta2 (c : Dev nD) : FVec Ideal S2x4x256 .f32 := val_main_v71 (F := Ideal) (m ((c : Thread nD τ).loc main_arg2)) (m ((c : Thread nD τ).loc main_arg6)) (m ((c : Thread nD τ).loc main_arg10)) (m ((c : Thread nD τ).loc main_arg14))

theorem delta2_final (c : Dev nD) : (dats m 0 c).arrAt 18 cfg0.N = delta2 m c :=
  (Value.final18 m c).trans (funext fun j => by
    pointwise [Value.G18, delta2, val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24])

/-- The change of weight 3, as the reference computes it. -/
abbrev delta3 (c : Dev nD) : FVec Ideal S1x1024 .f32 := val_main_v95 (F := Ideal) (m ((c : Thread nD τ).loc main_arg3)) (m ((c : Thread nD τ).loc main_arg7)) (m ((c : Thread nD τ).loc main_arg11)) (m ((c : Thread nD τ).loc main_arg15))

theorem delta3_final (c : Dev nD) : (dats m 0 c).arrAt 19 cfg0.N = delta3 m c :=
  (Value.final19 m c).trans (funext fun j => by
    pointwise [Value.G19, delta3, val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33])

/-- The new first moment of weight 0, as the reference computes it. -/
abbrev newM0 (c : Dev nD) : FVec Ideal S2x512 .f32 := val_main_v4 (F := Ideal) (m ((c : Thread nD τ).loc main_arg4)) (m ((c : Thread nD τ).loc main_arg8))

theorem newM0_final (c : Dev nD) : (dats m 0 c).arrAt 20 cfg0.N = newM0 m c :=
  (Value.final20 m c).trans (funext fun j => by
    pointwise [Value.G20, newM0, val_main_v4, val_main_v1, val_main_v0, val_main_cst, val_main_v3, val_main_v2, val_main_cst_0])

/-- The new first moment of weight 1, as the reference computes it. -/
abbrev newM1 (c : Dev nD) : FVec Ideal S2x3x128 .f32 := val_main_v28 (F := Ideal) (m ((c : Thread nD τ).loc main_arg5)) (m ((c : Thread nD τ).loc main_arg9))

theorem newM1_final (c : Dev nD) : (dats m 0 c).arrAt 21 cfg0.N = newM1 m c :=
  (Value.final21 m c).trans (funext fun j => by
    pointwise [Value.G21, newM1, val_main_v28, val_main_v25, val_main_v24, val_main_cst_8, val_main_v27, val_main_v26, val_main_cst_9])

/-- The new first moment of weight 2, as the reference computes it. -/
abbrev newM2 (c : Dev nD) : FVec Ideal S2x4x256 .f32 := val_main_v52 (F := Ideal) (m ((c : Thread nD τ).loc main_arg6)) (m ((c : Thread nD τ).loc main_arg10))

theorem newM2_final (c : Dev nD) : (dats m 0 c).arrAt 22 cfg0.N = newM2 m c :=
  (Value.final22 m c).trans (funext fun j => by
    pointwise [Value.G22, newM2, val_main_v52, val_main_v49, val_main_v48, val_main_cst_17, val_main_v51, val_main_v50, val_main_cst_18])

/-- The new first moment of weight 3, as the reference computes it. -/
abbrev newM3 (c : Dev nD) : FVec Ideal S1x1024 .f32 := val_main_v76 (F := Ideal) (m ((c : Thread nD τ).loc main_arg7)) (m ((c : Thread nD τ).loc main_arg11))

theorem newM3_final (c : Dev nD) : (dats m 0 c).arrAt 23 cfg0.N = newM3 m c :=
  (Value.final23 m c).trans (funext fun j => by
    pointwise [Value.G23, newM3, val_main_v76, val_main_v73, val_main_v72, val_main_cst_26, val_main_v75, val_main_v74, val_main_cst_27])

/-- The new second moment of weight 0, as the reference computes it. -/
abbrev newV0 (c : Dev nD) : FVec Ideal S2x512 .f32 := val_main_v10 (F := Ideal) (m ((c : Thread nD τ).loc main_arg4)) (m ((c : Thread nD τ).loc main_arg12))

theorem newV0_final (c : Dev nD) : (dats m 0 c).arrAt 24 cfg0.N = newV0 m c :=
  (Value.final24 m c).trans (funext fun j => by
    pointwise [Value.G24, newV0, val_main_v10, val_main_v6, val_main_v5, val_main_cst_1, val_main_v9, val_main_v8, val_main_cst_2, val_main_v7])

/-- The new second moment of weight 1, as the reference computes it. -/
abbrev newV1 (c : Dev nD) : FVec Ideal S2x3x128 .f32 := val_main_v34 (F := Ideal) (m ((c : Thread nD τ).loc main_arg5)) (m ((c : Thread nD τ).loc main_arg13))

theorem newV1_final (c : Dev nD) : (dats m 0 c).arrAt 25 cfg0.N = newV1 m c :=
  (Value.final25 m c).trans (funext fun j => by
    pointwise [Value.G25, newV1, val_main_v34, val_main_v30, val_main_v29, val_main_cst_10, val_main_v33, val_main_v32, val_main_cst_11, val_main_v31])

/-- The new second moment of weight 2, as the reference computes it. -/
abbrev newV2 (c : Dev nD) : FVec Ideal S2x4x256 .f32 := val_main_v58 (F := Ideal) (m ((c : Thread nD τ).loc main_arg6)) (m ((c : Thread nD τ).loc main_arg14))

theorem newV2_final (c : Dev nD) : (dats m 0 c).arrAt 26 cfg0.N = newV2 m c :=
  (Value.final26 m c).trans (funext fun j => by
    pointwise [Value.G26, newV2, val_main_v58, val_main_v54, val_main_v53, val_main_cst_19, val_main_v57, val_main_v56, val_main_cst_20, val_main_v55])

/-- The new second moment of weight 3, as the reference computes it. -/
abbrev newV3 (c : Dev nD) : FVec Ideal S1x1024 .f32 := val_main_v82 (F := Ideal) (m ((c : Thread nD τ).loc main_arg7)) (m ((c : Thread nD τ).loc main_arg15))

theorem newV3_final (c : Dev nD) : (dats m 0 c).arrAt 27 cfg0.N = newV3 m c :=
  (Value.final27 m c).trans (funext fun j => by
    pointwise [Value.G27, newV3, val_main_v82, val_main_v78, val_main_v77, val_main_cst_28, val_main_v81, val_main_v80, val_main_cst_29, val_main_v79])

end Cert.ARestEIdeal.Step
-- ==== Proof.lean ====
/- The proof of the claims about the calls of the training step, the programs of Defs.lean.
   The values of each call are in a module of its own (Proof/MixBwd.lean, Proof/MixBwdFst.lean and so on), where the
   arrays a call leaves are shown to be the arrays the plain reference computes. Here the claims are put together:
   the kernel's generated run ends at those arrays, and the reference's generated run ends at the same ones. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.MixBwd
public import proofs.«01_k».proof.Proof.Gen.Mix0Ideal.Value
public import proofs.«01_k».proof.Proof.Gen.Mix0RefIdeal.Run
public import proofs.«01_k».proof.Proof.Gen.Mix0RefIdeal.Read
public import proofs.«01_k».proof.Proof.Gen.Mix0.Frame
public import proofs.«01_k».proof.Proof.Gen.Mix0Ideal.Frame
public import proofs.«01_k».proof.Proof.MixBwdFst
public import proofs.«01_k».proof.Proof.Gen.On_mix0_written
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.InDx.Frame
public import proofs.«01_k».proof.Proof.Gen.InDxIdeal.Frame
public import proofs.«01_k».proof.Proof.InDx
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.InDw.Frame
public import proofs.«01_k».proof.Proof.Gen.InDwIdeal.Frame
public import proofs.«01_k».proof.Proof.InDw
public import proofs.«01_k».proof.Proof.Gen.On_indw_written
public import proofs.«01_k».proof.Proof.Gen.InDtIdeal.Value
public import proofs.«01_k».proof.Proof.Gen.InDtRefIdeal.Run
public import proofs.«01_k».proof.Proof.Gen.InDtRefIdeal.Read
public import proofs.«01_k».proof.Proof.Gen.InDt.Frame
public import proofs.«01_k».proof.Proof.Gen.InDtIdeal.Frame
public import proofs.«01_k».proof.Proof.InDt
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDx.Frame
public import proofs.«01_k».proof.Proof.Gen.OutDxIdeal.Frame
public import proofs.«01_k».proof.Proof.OutDx
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.OutDw.Frame
public import proofs.«01_k».proof.Proof.Gen.OutDwIdeal.Frame
public import proofs.«01_k».proof.Proof.OutDw
public import proofs.«01_k».proof.Proof.Gen.InIdeal.Value
public import proofs.«01_k».proof.Proof.Gen.InRefIdeal.Run
public import proofs.«01_k».proof.Proof.Gen.InRefIdeal.Read
public import proofs.«01_k».proof.Proof.Gen.In.Frame
public import proofs.«01_k».proof.Proof.Gen.InIdeal.Frame
public import proofs.«01_k».proof.Proof.In
public import proofs.«01_k».proof.Proof.Gen.MixIdeal.Value
public import proofs.«01_k».proof.Proof.Gen.MixRefIdeal.Run
public import proofs.«01_k».proof.Proof.Gen.MixRefIdeal.Read
public import proofs.«01_k».proof.Proof.Gen.Mix.Frame
public import proofs.«01_k».proof.Proof.Gen.MixIdeal.Frame
public import proofs.«01_k».proof.Proof.Mix
public import proofs.«01_k».proof.Proof.Gen.OutIdeal.Value
public import proofs.«01_k».proof.Proof.Gen.OutRefIdeal.Run
public import proofs.«01_k».proof.Proof.Gen.OutRefIdeal.Read
public import proofs.«01_k».proof.Proof.Gen.Out.Frame
public import proofs.«01_k».proof.Proof.Gen.OutIdeal.Frame
public import proofs.«01_k».proof.Proof.Out
public import proofs.«01_k».proof.Proof.Gen.BuIdeal.Value
public import proofs.«01_k».proof.Proof.Gen.BuRefIdeal.Run
public import proofs.«01_k».proof.Proof.Gen.BuRefIdeal.Read
public import proofs.«01_k».proof.Proof.Gen.Bu.Frame
public import proofs.«01_k».proof.Proof.Gen.BuIdeal.Frame
public import proofs.«01_k».proof.Proof.Bu
public import proofs.«01_k».proof.Proof.Gen.S5yIdeal.Value
public import proofs.«01_k».proof.Proof.Gen.S5yRefIdeal.Run
public import proofs.«01_k».proof.Proof.Gen.S5yRefIdeal.Read
public import proofs.«01_k».proof.Proof.Gen.S5y.Frame
public import proofs.«01_k».proof.Proof.Gen.S5yIdeal.Frame
public import proofs.«01_k».proof.Proof.S5y
public import proofs.«01_k».proof.Proof.Gen.DsReIdeal.Value
public import proofs.«01_k».proof.Proof.Gen.DsReRefIdeal.Run
public import proofs.«01_k».proof.Proof.Gen.DsReRefIdeal.Read
public import proofs.«01_k».proof.Proof.Gen.DsRe.Frame
public import proofs.«01_k».proof.Proof.Gen.DsReIdeal.Frame
public import proofs.«01_k».proof.Proof.DsRe
public import proofs.«01_k».proof.Proof.Gen.DsImIdeal.Value
public import proofs.«01_k».proof.Proof.Gen.DsImRefIdeal.Run
public import proofs.«01_k».proof.Proof.Gen.DsImRefIdeal.Read
public import proofs.«01_k».proof.Proof.Gen.DsIm.Frame
public import proofs.«01_k».proof.Proof.Gen.DsImIdeal.Frame
public import proofs.«01_k».proof.Proof.DsIm
public import proofs.«01_k».proof.Proof.Gen.DcReIdeal.Value
public import proofs.«01_k».proof.Proof.Gen.DcReRefIdeal.Run
public import proofs.«01_k».proof.Proof.Gen.DcReRefIdeal.Read
public import proofs.«01_k».proof.Proof.Gen.DcRe.Frame
public import proofs.«01_k».proof.Proof.Gen.DcReIdeal.Frame
public import proofs.«01_k».proof.Proof.DcRe
public import proofs.«01_k».proof.Proof.Gen.DcImIdeal.Value
public import proofs.«01_k».proof.Proof.Gen.DcImRefIdeal.Run
public import proofs.«01_k».proof.Proof.Gen.DcImRefIdeal.Read
public import proofs.«01_k».proof.Proof.Gen.DcIm.Frame
public import proofs.«01_k».proof.Proof.Gen.DcImIdeal.Frame
public import proofs.«01_k».proof.Proof.DcIm
public import proofs.«01_k».proof.Proof.Gen.BuDxIdeal.Value
public import proofs.«01_k».proof.Proof.Gen.BuDxRefIdeal.Run
public import proofs.«01_k».proof.Proof.Gen.BuDxRefIdeal.Read
public import proofs.«01_k».proof.Proof.Gen.BuDx.Frame
public import proofs.«01_k».proof.Proof.Gen.BuDxIdeal.Frame
public import proofs.«01_k».proof.Proof.BuDx
public import proofs.«01_k».proof.Proof.Gen.BuDwIdeal.Value
public import proofs.«01_k».proof.Proof.Gen.BuDwRefIdeal.Run
public import proofs.«01_k».proof.Proof.Gen.BuDwRefIdeal.Read
public import proofs.«01_k».proof.Proof.Gen.BuDw.Frame
public import proofs.«01_k».proof.Proof.Gen.BuDwIdeal.Frame
public import proofs.«01_k».proof.Proof.BuDw
public import proofs.«01_k».proof.Proof.Gen.ScIdeal.Value
public import proofs.«01_k».proof.Proof.Gen.ScRefIdeal.Run
public import proofs.«01_k».proof.Proof.Gen.ScRefIdeal.Read
public import proofs.«01_k».proof.Proof.Gen.Sc.Frame
public import proofs.«01_k».proof.Proof.Gen.ScIdeal.Frame
public import proofs.«01_k».proof.Proof.Sc
public import proofs.«01_k».proof.Proof.Gen.ScBIdeal.Value
public import proofs.«01_k».proof.Proof.Gen.ScBRefIdeal.Run
public import proofs.«01_k».proof.Proof.Gen.ScBRefIdeal.Read
public import proofs.«01_k».proof.Proof.Gen.ScB.Frame
public import proofs.«01_k».proof.Proof.Gen.ScBIdeal.Frame
public import proofs.«01_k».proof.Proof.ScB
public import proofs.«01_k».proof.Proof.Gen.M2cIdeal.Value
public import proofs.«01_k».proof.Proof.Gen.M2cRefIdeal.Run
public import proofs.«01_k».proof.Proof.Gen.M2cRefIdeal.Read
public import proofs.«01_k».proof.Proof.Gen.M2c.Frame
public import proofs.«01_k».proof.Proof.Gen.M2cIdeal.Frame
public import proofs.«01_k».proof.Proof.M2c
public import proofs.«01_k».proof.Proof.Gen.M2cBIdeal.Value
public import proofs.«01_k».proof.Proof.Gen.M2cBRefIdeal.Run
public import proofs.«01_k».proof.Proof.Gen.M2cBRefIdeal.Read
public import proofs.«01_k».proof.Proof.Gen.M2cB.Frame
public import proofs.«01_k».proof.Proof.Gen.M2cBIdeal.Frame
public import proofs.«01_k».proof.Proof.M2cB
public import proofs.«01_k».proof.Proof.Gen.ActIdeal.Value
public import proofs.«01_k».proof.Proof.Gen.ActRefIdeal.Run
public import proofs.«01_k».proof.Proof.Gen.ActRefIdeal.Read
public import proofs.«01_k».proof.Proof.Gen.Act.Frame
public import proofs.«01_k».proof.Proof.Gen.ActIdeal.Frame
public import proofs.«01_k».proof.Proof.Act
public import proofs.«01_k».proof.Proof.Gen.SguIdeal.Value
public import proofs.«01_k».proof.Proof.Gen.SguRefIdeal.Run
public import proofs.«01_k».proof.Proof.Gen.SguRefIdeal.Read
public import proofs.«01_k».proof.Proof.Gen.Sgu.Frame
public import proofs.«01_k».proof.Proof.Gen.SguIdeal.Frame
public import proofs.«01_k».proof.Proof.Sgu
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.Rms.Frame
public import proofs.«01_k».proof.Proof.Gen.RmsIdeal.Frame
public import proofs.«01_k».proof.Proof.Rms
public import proofs.«01_k».proof.Proof.Gen.RmsBIdeal.Value
public import proofs.«01_k».proof.Proof.Gen.RmsBRefIdeal.Run
public import proofs.«01_k».proof.Proof.Gen.RmsBRefIdeal.Read
public import proofs.«01_k».proof.Proof.Gen.RmsB.Frame
public import proofs.«01_k».proof.Proof.Gen.RmsBIdeal.Frame
public import proofs.«01_k».proof.Proof.RmsB
public import proofs.«01_k».proof.Proof.Gen.LossIdeal.Value
public import proofs.«01_k».proof.Proof.Gen.LossRefIdeal.Run
public import proofs.«01_k».proof.Proof.Gen.LossRefIdeal.Read
public import proofs.«01_k».proof.Proof.Gen.Loss.Frame
public import proofs.«01_k».proof.Proof.Gen.LossIdeal.Frame
public import proofs.«01_k».proof.Proof.Loss
public import proofs.«01_k».proof.Proof.Gen.AWinIdeal.Value
public import proofs.«01_k».proof.Proof.Gen.AWinRefIdeal.Run
public import proofs.«01_k».proof.Proof.Gen.AWinRefIdeal.Read
public import proofs.«01_k».proof.Proof.Gen.AWin.Frame
public import proofs.«01_k».proof.Proof.Gen.AWinIdeal.Frame
public import proofs.«01_k».proof.Proof.AWin
public import proofs.«01_k».proof.Proof.Gen.AWbrIdeal.Value
public import proofs.«01_k».proof.Proof.Gen.AWbrRefIdeal.Run
public import proofs.«01_k».proof.Proof.Gen.AWbrRefIdeal.Read
public import proofs.«01_k».proof.Proof.Gen.AWbr.Frame
public import proofs.«01_k».proof.Proof.Gen.AWbrIdeal.Frame
public import proofs.«01_k».proof.Proof.AWbr
public import proofs.«01_k».proof.Proof.Gen.AWoutIdeal.Value
public import proofs.«01_k».proof.Proof.Gen.AWoutRefIdeal.Run
public import proofs.«01_k».proof.Proof.Gen.AWoutRefIdeal.Read
public import proofs.«01_k».proof.Proof.Gen.AWout.Frame
public import proofs.«01_k».proof.Proof.Gen.AWoutIdeal.Frame
public import proofs.«01_k».proof.Proof.AWout
public import proofs.«01_k».proof.Proof.Gen.AWgluIdeal.Value
public import proofs.«01_k».proof.Proof.Gen.AWgluRefIdeal.Run
public import proofs.«01_k».proof.Proof.Gen.AWgluRefIdeal.Read
public import proofs.«01_k».proof.Proof.Gen.AWglu.Frame
public import proofs.«01_k».proof.Proof.Gen.AWgluIdeal.Frame
public import proofs.«01_k».proof.Proof.AWglu
public import proofs.«01_k».proof.Proof.Gen.AWs5bIdeal.Value
public import proofs.«01_k».proof.Proof.Gen.AWs5bRefIdeal.Run
public import proofs.«01_k».proof.Proof.Gen.AWs5bRefIdeal.Read
public import proofs.«01_k».proof.Proof.Gen.AWs5b.Frame
public import proofs.«01_k».proof.Proof.Gen.AWs5bIdeal.Frame
public import proofs.«01_k».proof.Proof.AWs5b
public import proofs.«01_k».proof.Proof.Gen.ARestAIdeal.Value
public import proofs.«01_k».proof.Proof.Gen.ARestARefIdeal.Run
public import proofs.«01_k».proof.Proof.Gen.ARestARefIdeal.Read
public import proofs.«01_k».proof.Proof.Gen.ARestA.Frame
public import proofs.«01_k».proof.Proof.Gen.ARestAIdeal.Frame
public import proofs.«01_k».proof.Proof.ARestA
public import proofs.«01_k».proof.Proof.Gen.ARestBIdeal.Value
public import proofs.«01_k».proof.Proof.Gen.ARestBRefIdeal.Run
public import proofs.«01_k».proof.Proof.Gen.ARestBRefIdeal.Read
public import proofs.«01_k».proof.Proof.Gen.ARestB.Frame
public import proofs.«01_k».proof.Proof.Gen.ARestBIdeal.Frame
public import proofs.«01_k».proof.Proof.ARestB
public import proofs.«01_k».proof.Proof.Gen.ARestCIdeal.Value
public import proofs.«01_k».proof.Proof.Gen.ARestCRefIdeal.Run
public import proofs.«01_k».proof.Proof.Gen.ARestCRefIdeal.Read
public import proofs.«01_k».proof.Proof.Gen.ARestC.Frame
public import proofs.«01_k».proof.Proof.Gen.ARestCIdeal.Frame
public import proofs.«01_k».proof.Proof.ARestC
public import proofs.«01_k».proof.Proof.Gen.ARestDIdeal.Value
public import proofs.«01_k».proof.Proof.Gen.ARestDRefIdeal.Run
public import proofs.«01_k».proof.Proof.Gen.ARestDRefIdeal.Read
public import proofs.«01_k».proof.Proof.Gen.ARestD.Frame
public import proofs.«01_k».proof.Proof.Gen.ARestDIdeal.Frame
public import proofs.«01_k».proof.Proof.ARestD
public import proofs.«01_k».proof.Proof.Gen.ARestEIdeal.Value
public import proofs.«01_k».proof.Proof.Gen.ARestERefIdeal.Run
public import proofs.«01_k».proof.Proof.Gen.ARestERefIdeal.Read
public import proofs.«01_k».proof.Proof.Gen.ARestE.Frame
public import proofs.«01_k».proof.Proof.Gen.ARestEIdeal.Frame
public import proofs.«01_k».proof.Proof.ARestE
public import proofs.«01_k».proof.Defs
public import Idealize.ShloMosaic.Lib.WordCmp
public import Idealize.ShloMosaic.Lib.Claim
public import Idealize.ShloMosaic.Adequacy
public import Idealize.ShloMosaic.Init

@[expose] public section

noncomputable section

namespace Cert.Proof

open Idealize.ShloMosaic Idealize.SL.Sem

/-- The mask of the weight gradient, read at an index: set where the column is below 10240. -/
theorem indw_iff (x : FVec Ideal Cert.On_indw_written.S2048x1024 .bf16) (y : FVec Ideal Cert.On_indw_written.S2048x10240 .bf16)
    (i : Cert.On_indw_written.S1024x10368.Idx) : Cert.On_indw_written.fn x y i = 1#1 ↔ (i 1 : ℕ) < 10240 := by
  have h : (i 1 : ℕ) < 10368 := (i 1).isLt
  show IntOp.cmpi .slt (BitVec.ofNat 32 (i 1 : ℕ)) (BitVec.ofNat 32 10240) = 1#1 ↔ _
  exact WordCmp.cmpi_slt_ofNat_eq_one_iff (by omega) (by omega)

/-- The mask of the projection's gradient after the first half, read at an index: set where the column is below 2048. -/
theorem mix0_iff (a b : FVec Ideal Cert.On_mix0_written.S2048x512 .f32) (p : FVec Ideal Cert.On_mix0_written.S2048x10368 .f32)
    (w : FVec Ideal Cert.On_mix0_written.S2048x1024 .bf16) (mb : FVec Ideal Cert.On_mix0_written.S4x1024 .f32)
    (d : FVec Ideal Cert.On_mix0_written.S2048x1024 .f32) (i : Cert.On_mix0_written.S2048x10240.Idx) :
    (Cert.On_mix0_written.fn a b p w mb d).2.2.1 i = 1#1 ↔ (i 1 : ℕ) < 2048 := by
  have h : (i 1 : ℕ) < 10240 := (i 1).isLt
  show IntOp.cmpi .slt (BitVec.ofNat 32 (i 1 : ℕ)) (BitVec.ofNat 32 2048) = 1#1 ↔ _
  exact WordCmp.cmpi_slt_ofNat_eq_one_iff (by omega) (by omega)

theorem frame_ref : Cert.quiescent_ReferenceIdeal := by
  intro m g _
  exact (θ_run _ _ _).mono (fun r h => ⟨fun c => (h c).2.2.2.2.2.2.2, Idealize.ShloMosaic.sem_eq_zero_of_no_sems (by decide) r.2⟩)
    (Cert.ReferenceIdeal.Value.run m g)

theorem algebraic : Cert.algebraic_KernelIdeal_ReferenceIdeal := by
  intro m g m' g' _ hagree
  refine ⟨fun c => Cert.KernelIdeal.Mix.dyC m c, fun c => Cert.KernelIdeal.Mix.dyD m c, fun c => Cert.KernelIdeal.Mix.dProj m c, fun c => Cert.KernelIdeal.Mix.dwC m c, fun c => Cert.KernelIdeal.Mix.dwD m c, fun c => Cert.KernelIdeal.Mix.dbC m c, fun c => Cert.KernelIdeal.Mix.dbD m c,
    (θ_run _ _ _).mono (fun r h c => ?_) (Cert.KernelIdeal.Value.run_blocks m g),
    (θ_run _ _ _).mono (fun r h c => ?_) (Cert.ReferenceIdeal.Value.run m' g')⟩
  · obtain ⟨r0, r1, r2, r3, r4, r5, r6, kept⟩ := h c
    exact ⟨r0.trans (Cert.KernelIdeal.Mix.dyC_final m c),
      r1.trans (Cert.KernelIdeal.Mix.dyD_final m c),
      r2.trans (Cert.KernelIdeal.Mix.dProj_final m c),
      r3.trans (Cert.KernelIdeal.Mix.dwC_final m c),
      r4.trans (Cert.KernelIdeal.Mix.dwD_final m c),
      r5.trans (Cert.KernelIdeal.Mix.dbC_final m c),
      r6.trans (Cert.KernelIdeal.Mix.dbD_final m c), kept⟩
  · obtain ⟨r0, r1, r2, r3, r4, r5, r6, kept⟩ := h c
    obtain ⟨e0, e1, e2, e3, e4, e5, e6⟩ := hagree c
    exact ⟨r0.trans ((Cert.ReferenceIdeal.Read.val_main_v39_eq _ _ _ _).trans (by rw [e2, e3, e4, e5])),
      r1.trans ((Cert.ReferenceIdeal.Read.val_main_v41_eq _ _ _ _).trans (by rw [e2, e3, e4, e5])),
      r2.trans ((Cert.ReferenceIdeal.Read.val_main_v45_eq _ _ _ _ _ _ _).trans (by rw [e0, e1, e2, e3, e4, e5, e6])),
      r3.trans ((Cert.ReferenceIdeal.Read.val_main_v47_eq _ _ _ _ _).trans (by rw [e0, e1, e2, e4, e5])),
      r4.trans ((Cert.ReferenceIdeal.Read.val_main_v49_eq _ _ _ _ _).trans (by rw [e0, e1, e2, e4, e5])),
      r5.trans ((Cert.ReferenceIdeal.Read.val_main_v50_eq _ _ _ _ _ _).trans (by rw [e0, e1, e2, e3, e4, e5])),
      r6.trans ((Cert.ReferenceIdeal.Read.val_main_v51_eq _ _ _ _ _ _).trans (by rw [e0, e1, e2, e3, e4, e5])), kept⟩

namespace Mix0Claim

theorem frame_ref : Cert.quiescent_Mix0RefIdeal := by
  intro m g _
  exact (θ_run _ _ _).mono (fun r h => ⟨fun c => (h c).2.2.2.2.2.2.2, Idealize.ShloMosaic.sem_eq_zero_of_no_sems (by decide) r.2⟩)
    (Cert.Mix0RefIdeal.Value.run m g)

theorem algebraic : Cert.algebraic_Mix0Ideal_Mix0RefIdeal_on_mix0_written := by
  intro m g m' g' _ hagree
  refine ⟨fun c => Cert.Mix0Ideal.Mix.dyA m c, fun c => Cert.Mix0Ideal.Mix.dyB m c, fun c => Cert.Mix0Ideal.Mix.dProj m c, fun c => Cert.Mix0Ideal.Mix.dwA m c, fun c => Cert.Mix0Ideal.Mix.dwB m c, fun c => Cert.Mix0Ideal.Mix.dbA m c, fun c => Cert.Mix0Ideal.Mix.dbB m c,
    (θ_run _ _ _).mono (fun r h c => ?_) (Cert.Mix0Ideal.Value.run_blocks m g),
    (θ_run _ _ _).mono (fun r h c => ?_) (Cert.Mix0RefIdeal.Value.run m' g')⟩
  · obtain ⟨r0, r1, r2, r3, r4, r5, r6, kept⟩ := h c
    exact ⟨fun i _ => (congrFun r0 i).trans (congrFun (Cert.Mix0Ideal.Mix.dyA_final m c) i),
      fun i _ => (congrFun r1 i).trans (congrFun (Cert.Mix0Ideal.Mix.dyB_final m c) i),
      fun i hi => (congrFun r2 i).trans (Cert.Mix0Ideal.Mix.dProj_final m c i ((mix0_iff _ _ _ _ _ _ i).mp hi)),
      fun i _ => (congrFun r3 i).trans (congrFun (Cert.Mix0Ideal.Mix.dwA_final m c) i),
      fun i _ => (congrFun r4 i).trans (congrFun (Cert.Mix0Ideal.Mix.dwB_final m c) i),
      fun i _ => (congrFun r5 i).trans (congrFun (Cert.Mix0Ideal.Mix.dbA_final m c) i),
      fun i _ => (congrFun r6 i).trans (congrFun (Cert.Mix0Ideal.Mix.dbB_final m c) i), kept⟩
  · obtain ⟨r0, r1, r2, r3, r4, r5, r6, kept⟩ := h c
    obtain ⟨e0, e1, e2, e3, e4, e5⟩ := hagree c
    exact ⟨fun i _ => congrFun (r0.trans ((Cert.Mix0RefIdeal.Read.val_main_v39_eq _ _ _ _).trans (by rw [e2, e3, e4, e5]))) i,
      fun i _ => congrFun (r1.trans ((Cert.Mix0RefIdeal.Read.val_main_v41_eq _ _ _ _).trans (by rw [e2, e3, e4, e5]))) i,
      fun i _ => congrFun (r2.trans ((Cert.Mix0RefIdeal.Read.val_main_v44_eq _ _ _ _ _ _).trans (by rw [e0, e1, e2, e3, e4, e5]))) i,
      fun i _ => congrFun (r3.trans ((Cert.Mix0RefIdeal.Read.val_main_v46_eq _ _ _ _ _).trans (by rw [e0, e1, e2, e4, e5]))) i,
      fun i _ => congrFun (r4.trans ((Cert.Mix0RefIdeal.Read.val_main_v48_eq _ _ _ _ _).trans (by rw [e0, e1, e2, e4, e5]))) i,
      fun i _ => congrFun (r5.trans ((Cert.Mix0RefIdeal.Read.val_main_v49_eq _ _ _ _ _ _).trans (by rw [e0, e1, e2, e3, e4, e5]))) i,
      fun i _ => congrFun (r6.trans ((Cert.Mix0RefIdeal.Read.val_main_v50_eq _ _ _ _ _ _).trans (by rw [e0, e1, e2, e3, e4, e5]))) i, kept⟩

end Mix0Claim

namespace InDxClaim

theorem frame_ref : Cert.quiescent_InDxRefIdeal := by
  intro m g _
  exact (θ_run _ _ _).mono (fun r h => ⟨fun c => (h c).2, Idealize.ShloMosaic.sem_eq_zero_of_no_sems (by decide) r.2⟩)
    (Cert.InDxRefIdeal.Value.run m g)

theorem algebraic : Cert.algebraic_InDxIdeal_InDxRefIdeal := by
  intro m g m' g' _ hagree
  refine ⟨fun c => Cert.InDxIdeal.Prod.res m c,
    (θ_run _ _ _).mono (fun r h c => ?_) (Cert.InDxIdeal.Value.run_blocks m g),
    (θ_run _ _ _).mono (fun r h c => ?_) (Cert.InDxRefIdeal.Value.run m' g')⟩
  · obtain ⟨r0, kept⟩ := h c
    exact ⟨r0.trans (Cert.InDxIdeal.Prod.res_final m c), kept⟩
  · obtain ⟨r0, kept⟩ := h c
    obtain ⟨e0, e1, e2⟩ := hagree c
    exact ⟨r0.trans ((Cert.InDxRefIdeal.Read.val_main_v5_eq _ _ _).trans (by rw [e0, e1, e2])), kept⟩

end InDxClaim

namespace InDwClaim

theorem frame_ref : Cert.quiescent_InDwRefIdeal := by
  intro m g _
  exact (θ_run _ _ _).mono (fun r h => ⟨fun c => (h c).2, Idealize.ShloMosaic.sem_eq_zero_of_no_sems (by decide) r.2⟩)
    (Cert.InDwRefIdeal.Value.run m g)

theorem algebraic : Cert.algebraic_InDwIdeal_InDwRefIdeal_on_indw_written := by
  intro m g m' g' _ hagree
  refine ⟨fun c => Cert.InDwIdeal.Prod.res m c,
    (θ_run _ _ _).mono (fun r h c => ?_) (Cert.InDwIdeal.Value.run_blocks m g),
    (θ_run _ _ _).mono (fun r h c => ?_) (Cert.InDwRefIdeal.Value.run m' g')⟩
  · obtain ⟨r0, kept⟩ := h c
    exact ⟨fun i hi => (congrFun r0 i).trans (Cert.InDwIdeal.Prod.res_final m c i ((indw_iff _ _ i).mp hi)), kept⟩
  · obtain ⟨r0, kept⟩ := h c
    obtain ⟨e0, e1⟩ := hagree c
    exact ⟨fun i _ => congrFun (r0.trans ((Cert.InDwRefIdeal.Read.val_main_v8_eq _ _).trans (by rw [e0, e1]))) i, kept⟩

end InDwClaim

namespace InDtClaim

theorem frame_ref : Cert.quiescent_InDtRefIdeal := by
  intro m g _
  exact (θ_run _ _ _).mono (fun r h => ⟨fun c => (h c).2, Idealize.ShloMosaic.sem_eq_zero_of_no_sems (by decide) r.2⟩)
    (Cert.InDtRefIdeal.Value.run m g)

theorem algebraic : Cert.algebraic_InDtIdeal_InDtRefIdeal := by
  intro m g m' g' _ hagree
  refine ⟨fun c => Cert.InDtIdeal.Prod.res m c,
    (θ_run _ _ _).mono (fun r h c => ?_) (Cert.InDtIdeal.Value.run_blocks m g),
    (θ_run _ _ _).mono (fun r h c => ?_) (Cert.InDtRefIdeal.Value.run m' g')⟩
  · obtain ⟨r0, kept⟩ := h c
    exact ⟨r0.trans (Cert.InDtIdeal.Prod.res_final m c), kept⟩
  · obtain ⟨r0, kept⟩ := h c
    obtain ⟨e0, e1, e2⟩ := hagree c
    exact ⟨r0.trans ((Cert.InDtRefIdeal.Read.val_main_v8_eq _ _ _).trans (by rw [e0, e1, e2])), kept⟩

end InDtClaim

namespace OutDxClaim

theorem frame_ref : Cert.quiescent_OutDxRefIdeal := by
  intro m g _
  exact (θ_run _ _ _).mono (fun r h => ⟨fun c => (h c).2, Idealize.ShloMosaic.sem_eq_zero_of_no_sems (by decide) r.2⟩)
    (Cert.OutDxRefIdeal.Value.run m g)

theorem algebraic : Cert.algebraic_OutDxIdeal_OutDxRefIdeal := by
  intro m g m' g' _ hagree
  refine ⟨fun c => Cert.OutDxIdeal.Prod.res m c,
    (θ_run _ _ _).mono (fun r h c => ?_) (Cert.OutDxIdeal.Value.run_blocks m g),
    (θ_run _ _ _).mono (fun r h c => ?_) (Cert.OutDxRefIdeal.Value.run m' g')⟩
  · obtain ⟨r0, kept⟩ := h c
    exact ⟨r0.trans (Cert.OutDxIdeal.Prod.res_final m c), kept⟩
  · obtain ⟨r0, kept⟩ := h c
    obtain ⟨e0, e1⟩ := hagree c
    exact ⟨r0.trans ((Cert.OutDxRefIdeal.Read.val_main_v4_eq _ _).trans (by rw [e0, e1])), kept⟩

end OutDxClaim

namespace OutDwClaim

theorem frame_ref : Cert.quiescent_OutDwRefIdeal := by
  intro m g _
  exact (θ_run _ _ _).mono (fun r h => ⟨fun c => (h c).2, Idealize.ShloMosaic.sem_eq_zero_of_no_sems (by decide) r.2⟩)
    (Cert.OutDwRefIdeal.Value.run m g)

theorem algebraic : Cert.algebraic_OutDwIdeal_OutDwRefIdeal := by
  intro m g m' g' _ hagree
  refine ⟨fun c => Cert.OutDwIdeal.Prod.res m c,
    (θ_run _ _ _).mono (fun r h c => ?_) (Cert.OutDwIdeal.Value.run_blocks m g),
    (θ_run _ _ _).mono (fun r h c => ?_) (Cert.OutDwRefIdeal.Value.run m' g')⟩
  · obtain ⟨r0, kept⟩ := h c
    exact ⟨r0.trans (Cert.OutDwIdeal.Prod.res_final m c), kept⟩
  · obtain ⟨r0, kept⟩ := h c
    obtain ⟨e0, e1⟩ := hagree c
    exact ⟨r0.trans ((Cert.OutDwRefIdeal.Read.val_main_v7_eq _ _).trans (by rw [e0, e1])), kept⟩

end OutDwClaim

namespace InClaim

theorem frame_ref : Cert.quiescent_InRefIdeal := by
  intro m g _
  exact (θ_run _ _ _).mono (fun r h => ⟨fun c => (h c).2, Idealize.ShloMosaic.sem_eq_zero_of_no_sems (by decide) r.2⟩)
    (Cert.InRefIdeal.Value.run m g)

theorem algebraic : Cert.algebraic_InIdeal_InRefIdeal := by
  intro m g m' g' _ hagree
  refine ⟨fun c => Cert.InIdeal.Prod.res m c,
    (θ_run _ _ _).mono (fun r h c => ?_) (Cert.InIdeal.Value.run_blocks m g),
    (θ_run _ _ _).mono (fun r h c => ?_) (Cert.InRefIdeal.Value.run m' g')⟩
  · obtain ⟨r0, kept⟩ := h c
    exact ⟨r0.trans (Cert.InIdeal.Prod.res_final m c), kept⟩
  · obtain ⟨r0, kept⟩ := h c
    obtain ⟨e0, e1⟩ := hagree c
    exact ⟨r0.trans ((Cert.InRefIdeal.Read.val_main_v2_eq _ _).trans (by rw [e0, e1])), kept⟩

end InClaim

namespace MixClaim

theorem frame_ref : Cert.quiescent_MixRefIdeal := by
  intro m g _
  exact (θ_run _ _ _).mono (fun r h => ⟨fun c => (h c).2, Idealize.ShloMosaic.sem_eq_zero_of_no_sems (by decide) r.2⟩)
    (Cert.MixRefIdeal.Value.run m g)

theorem algebraic : Cert.algebraic_MixIdeal_MixRefIdeal := by
  intro m g m' g' _ hagree
  refine ⟨fun c => Cert.MixIdeal.Prod.res m c,
    (θ_run _ _ _).mono (fun r h c => ?_) (Cert.MixIdeal.Value.run_blocks m g),
    (θ_run _ _ _).mono (fun r h c => ?_) (Cert.MixRefIdeal.Value.run m' g')⟩
  · obtain ⟨r0, kept⟩ := h c
    exact ⟨r0.trans (Cert.MixIdeal.Prod.res_final m c), kept⟩
  · obtain ⟨r0, kept⟩ := h c
    obtain ⟨e0, e1, e2, e3, e4, e5, e6⟩ := hagree c
    exact ⟨r0.trans ((Cert.MixRefIdeal.Read.val_main_v22_eq _ _ _ _ _ _ _).trans (by rw [e0, e1, e2, e3, e4, e5, e6])), kept⟩

end MixClaim

namespace OutClaim

theorem frame_ref : Cert.quiescent_OutRefIdeal := by
  intro m g _
  exact (θ_run _ _ _).mono (fun r h => ⟨fun c => (h c).2, Idealize.ShloMosaic.sem_eq_zero_of_no_sems (by decide) r.2⟩)
    (Cert.OutRefIdeal.Value.run m g)

theorem algebraic : Cert.algebraic_OutIdeal_OutRefIdeal := by
  intro m g m' g' _ hagree
  refine ⟨fun c => Cert.OutIdeal.Prod.res m c,
    (θ_run _ _ _).mono (fun r h c => ?_) (Cert.OutIdeal.Value.run_blocks m g),
    (θ_run _ _ _).mono (fun r h c => ?_) (Cert.OutRefIdeal.Value.run m' g')⟩
  · obtain ⟨r0, kept⟩ := h c
    exact ⟨r0.trans (Cert.OutIdeal.Prod.res_final m c), kept⟩
  · obtain ⟨r0, kept⟩ := h c
    obtain ⟨e0, e1, e2⟩ := hagree c
    exact ⟨r0.trans ((Cert.OutRefIdeal.Read.val_main_v3_eq _ _ _).trans (by rw [e0, e1, e2])), kept⟩

end OutClaim

namespace BuClaim

theorem frame_ref : Cert.quiescent_BuRefIdeal := by
  intro m g _
  exact (θ_run _ _ _).mono (fun r h => ⟨fun c => (h c).2, Idealize.ShloMosaic.sem_eq_zero_of_no_sems (by decide) r.2⟩)
    (Cert.BuRefIdeal.Value.run m g)

theorem algebraic : Cert.algebraic_BuIdeal_BuRefIdeal := by
  intro m g m' g' _ hagree
  refine ⟨fun c => Cert.BuIdeal.Prod.res m c,
    (θ_run _ _ _).mono (fun r h c => ?_) (Cert.BuIdeal.Value.run_blocks m g),
    (θ_run _ _ _).mono (fun r h c => ?_) (Cert.BuRefIdeal.Value.run m' g')⟩
  · obtain ⟨r0, kept⟩ := h c
    exact ⟨r0.trans (Cert.BuIdeal.Prod.res_final m c), kept⟩
  · obtain ⟨r0, kept⟩ := h c
    obtain ⟨e0, e1⟩ := hagree c
    exact ⟨r0.trans ((Cert.BuRefIdeal.Read.val_main_v2_eq _ _).trans (by rw [e0, e1])), kept⟩

end BuClaim

namespace S5yClaim

theorem frame_ref : Cert.quiescent_S5yRefIdeal := by
  intro m g _
  exact (θ_run _ _ _).mono (fun r h => ⟨fun c => (h c).2, Idealize.ShloMosaic.sem_eq_zero_of_no_sems (by decide) r.2⟩)
    (Cert.S5yRefIdeal.Value.run m g)

theorem algebraic : Cert.algebraic_S5yIdeal_S5yRefIdeal := by
  intro m g m' g' _ hagree
  refine ⟨fun c => Cert.S5yIdeal.Prod.res m c,
    (θ_run _ _ _).mono (fun r h c => ?_) (Cert.S5yIdeal.Value.run_blocks m g),
    (θ_run _ _ _).mono (fun r h c => ?_) (Cert.S5yRefIdeal.Value.run m' g')⟩
  · obtain ⟨r0, kept⟩ := h c
    exact ⟨r0.trans (Cert.S5yIdeal.Prod.res_final m c), kept⟩
  · obtain ⟨r0, kept⟩ := h c
    obtain ⟨e0, e1, e2, e3⟩ := hagree c
    exact ⟨r0.trans ((Cert.S5yRefIdeal.Read.val_main_v4_eq _ _ _ _).trans (by rw [e0, e1, e2, e3])), kept⟩

end S5yClaim

namespace DsReClaim

theorem frame_ref : Cert.quiescent_DsReRefIdeal := by
  intro m g _
  exact (θ_run _ _ _).mono (fun r h => ⟨fun c => (h c).2, Idealize.ShloMosaic.sem_eq_zero_of_no_sems (by decide) r.2⟩)
    (Cert.DsReRefIdeal.Value.run m g)

theorem algebraic : Cert.algebraic_DsReIdeal_DsReRefIdeal := by
  intro m g m' g' _ hagree
  refine ⟨fun c => Cert.DsReIdeal.Prod.res m c,
    (θ_run _ _ _).mono (fun r h c => ?_) (Cert.DsReIdeal.Value.run_blocks m g),
    (θ_run _ _ _).mono (fun r h c => ?_) (Cert.DsReRefIdeal.Value.run m' g')⟩
  · obtain ⟨r0, kept⟩ := h c
    exact ⟨r0.trans (Cert.DsReIdeal.Prod.res_final m c), kept⟩
  · obtain ⟨r0, kept⟩ := h c
    obtain ⟨e0, e1⟩ := hagree c
    exact ⟨r0.trans ((Cert.DsReRefIdeal.Read.val_main_v4_eq _ _).trans (by rw [e0, e1])), kept⟩

end DsReClaim

namespace DsImClaim

theorem frame_ref : Cert.quiescent_DsImRefIdeal := by
  intro m g _
  exact (θ_run _ _ _).mono (fun r h => ⟨fun c => (h c).2, Idealize.ShloMosaic.sem_eq_zero_of_no_sems (by decide) r.2⟩)
    (Cert.DsImRefIdeal.Value.run m g)

theorem algebraic : Cert.algebraic_DsImIdeal_DsImRefIdeal := by
  intro m g m' g' _ hagree
  refine ⟨fun c => Cert.DsImIdeal.Prod.res m c,
    (θ_run _ _ _).mono (fun r h c => ?_) (Cert.DsImIdeal.Value.run_blocks m g),
    (θ_run _ _ _).mono (fun r h c => ?_) (Cert.DsImRefIdeal.Value.run m' g')⟩
  · obtain ⟨r0, kept⟩ := h c
    exact ⟨r0.trans (Cert.DsImIdeal.Prod.res_final m c), kept⟩
  · obtain ⟨r0, kept⟩ := h c
    obtain ⟨e0, e1⟩ := hagree c
    exact ⟨r0.trans ((Cert.DsImRefIdeal.Read.val_main_v6_eq _ _).trans (by rw [e0, e1])), kept⟩

end DsImClaim

namespace DcReClaim

theorem frame_ref : Cert.quiescent_DcReRefIdeal := by
  intro m g _
  exact (θ_run _ _ _).mono (fun r h => ⟨fun c => (h c).2, Idealize.ShloMosaic.sem_eq_zero_of_no_sems (by decide) r.2⟩)
    (Cert.DcReRefIdeal.Value.run m g)

theorem algebraic : Cert.algebraic_DcReIdeal_DcReRefIdeal := by
  intro m g m' g' _ hagree
  refine ⟨fun c => Cert.DcReIdeal.Prod.res m c,
    (θ_run _ _ _).mono (fun r h c => ?_) (Cert.DcReIdeal.Value.run_blocks m g),
    (θ_run _ _ _).mono (fun r h c => ?_) (Cert.DcReRefIdeal.Value.run m' g')⟩
  · obtain ⟨r0, kept⟩ := h c
    exact ⟨r0.trans (Cert.DcReIdeal.Prod.res_final m c), kept⟩
  · obtain ⟨r0, kept⟩ := h c
    obtain ⟨e0, e1⟩ := hagree c
    exact ⟨r0.trans ((Cert.DcReRefIdeal.Read.val_main_v4_eq _ _).trans (by rw [e0, e1])), kept⟩

end DcReClaim

namespace DcImClaim

theorem frame_ref : Cert.quiescent_DcImRefIdeal := by
  intro m g _
  exact (θ_run _ _ _).mono (fun r h => ⟨fun c => (h c).2, Idealize.ShloMosaic.sem_eq_zero_of_no_sems (by decide) r.2⟩)
    (Cert.DcImRefIdeal.Value.run m g)

theorem algebraic : Cert.algebraic_DcImIdeal_DcImRefIdeal := by
  intro m g m' g' _ hagree
  refine ⟨fun c => Cert.DcImIdeal.Prod.res m c,
    (θ_run _ _ _).mono (fun r h c => ?_) (Cert.DcImIdeal.Value.run_blocks m g),
    (θ_run _ _ _).mono (fun r h c => ?_) (Cert.DcImRefIdeal.Value.run m' g')⟩
  · obtain ⟨r0, kept⟩ := h c
    exact ⟨r0.trans (Cert.DcImIdeal.Prod.res_final m c), kept⟩
  · obtain ⟨r0, kept⟩ := h c
    obtain ⟨e0, e1⟩ := hagree c
    exact ⟨r0.trans ((Cert.DcImRefIdeal.Read.val_main_v6_eq _ _).trans (by rw [e0, e1])), kept⟩

end DcImClaim

namespace BuDxClaim

theorem frame_ref : Cert.quiescent_BuDxRefIdeal := by
  intro m g _
  exact (θ_run _ _ _).mono (fun r h => ⟨fun c => (h c).2, Idealize.ShloMosaic.sem_eq_zero_of_no_sems (by decide) r.2⟩)
    (Cert.BuDxRefIdeal.Value.run m g)

theorem algebraic : Cert.algebraic_BuDxIdeal_BuDxRefIdeal := by
  intro m g m' g' _ hagree
  refine ⟨fun c => Cert.BuDxIdeal.Prod.res m c,
    (θ_run _ _ _).mono (fun r h c => ?_) (Cert.BuDxIdeal.Value.run_blocks m g),
    (θ_run _ _ _).mono (fun r h c => ?_) (Cert.BuDxRefIdeal.Value.run m' g')⟩
  · obtain ⟨r0, kept⟩ := h c
    exact ⟨r0.trans (Cert.BuDxIdeal.Prod.res_final m c), kept⟩
  · obtain ⟨r0, kept⟩ := h c
    obtain ⟨e0, e1, e2, e3, e4, e5⟩ := hagree c
    exact ⟨r0.trans ((Cert.BuDxRefIdeal.Read.val_main_v12_eq _ _ _ _ _ _).trans (by rw [e0, e1, e2, e3, e4, e5])), kept⟩

end BuDxClaim

namespace BuDwClaim

theorem frame_ref : Cert.quiescent_BuDwRefIdeal := by
  intro m g _
  exact (θ_run _ _ _).mono (fun r h => ⟨fun c => (h c).2, Idealize.ShloMosaic.sem_eq_zero_of_no_sems (by decide) r.2⟩)
    (Cert.BuDwRefIdeal.Value.run m g)

theorem algebraic : Cert.algebraic_BuDwIdeal_BuDwRefIdeal := by
  intro m g m' g' _ hagree
  refine ⟨fun c => Cert.BuDwIdeal.Prod.res m c,
    (θ_run _ _ _).mono (fun r h c => ?_) (Cert.BuDwIdeal.Value.run_blocks m g),
    (θ_run _ _ _).mono (fun r h c => ?_) (Cert.BuDwRefIdeal.Value.run m' g')⟩
  · obtain ⟨r0, kept⟩ := h c
    exact ⟨r0.trans (Cert.BuDwIdeal.Prod.res_final m c), kept⟩
  · obtain ⟨r0, kept⟩ := h c
    obtain ⟨e0, e1⟩ := hagree c
    exact ⟨r0.trans ((Cert.BuDwRefIdeal.Read.val_main_v4_eq _ _).trans (by rw [e0, e1])), kept⟩

end BuDwClaim

namespace ScClaim

theorem frame_ref : Cert.quiescent_ScRefIdeal := by
  intro m g _
  exact (θ_run _ _ _).mono (fun r h => ⟨fun c => (h c).2, Idealize.ShloMosaic.sem_eq_zero_of_no_sems (by decide) r.2⟩)
    (Cert.ScRefIdeal.Value.run m g)

theorem algebraic : Cert.algebraic_ScIdeal_ScRefIdeal := by
  intro m g m' g' _ hagree
  refine ⟨fun c => Cert.ScIdeal.Call.res m c,
    (θ_run _ _ _).mono (fun r h c => ?_) (Cert.ScIdeal.Value.run_blocks m g),
    (θ_run _ _ _).mono (fun r h c => ?_) (Cert.ScRefIdeal.Value.run m' g')⟩
  · obtain ⟨r0, kept⟩ := h c
    exact ⟨r0.trans (Cert.ScIdeal.Call.res_final m c), kept⟩
  · obtain ⟨r0, kept⟩ := h c
    obtain ⟨e0, e1⟩ := hagree c
    exact ⟨r0.trans ((Cert.ScRefIdeal.Read.val_main_v35_eq m' c).trans (by rw [e0, e1])), kept⟩

end ScClaim

namespace ScBClaim

theorem frame_ref : Cert.quiescent_ScBRefIdeal := by
  intro m g _
  exact (θ_run _ _ _).mono (fun r h => ⟨fun c => (h c).2.2, Idealize.ShloMosaic.sem_eq_zero_of_no_sems (by decide) r.2⟩)
    (Cert.ScBRefIdeal.Value.run m g)

theorem algebraic : Cert.algebraic_ScBIdeal_ScBRefIdeal := by
  intro m g m' g' _ hagree
  refine ⟨fun c => Cert.ScBIdeal.Call.resD m c, fun c => Cert.ScBIdeal.Call.resW m c,
    (θ_run _ _ _).mono (fun r h c => ?_) (Cert.ScBIdeal.Value.run_blocks m g),
    (θ_run _ _ _).mono (fun r h c => ?_) (Cert.ScBRefIdeal.Value.run m' g')⟩
  · obtain ⟨r0, r1, kept⟩ := h c
    exact ⟨r0.trans (Cert.ScBIdeal.Call.resD_final m c),
      r1.trans (Cert.ScBIdeal.Call.resW_final m c), kept⟩
  · obtain ⟨r0, r1, kept⟩ := h c
    obtain ⟨e0, e1, e2, e3⟩ := hagree c
    exact ⟨r0.trans ((Cert.ScBRefIdeal.Read.val_main_v84_eq m' c).trans (by rw [e0, e1, e2, e3])),
      r1.trans ((Cert.ScBRefIdeal.Read.val_main_v66_eq m' c).trans (by rw [e0, e2])), kept⟩

end ScBClaim

namespace M2cClaim

theorem frame_ref : Cert.quiescent_M2cRefIdeal := by
  intro m g _
  exact (θ_run _ _ _).mono (fun r h => ⟨fun c => (h c).2, Idealize.ShloMosaic.sem_eq_zero_of_no_sems (by decide) r.2⟩)
    (Cert.M2cRefIdeal.Value.run m g)

theorem algebraic : Cert.algebraic_M2cIdeal_M2cRefIdeal := by
  intro m g m' g' _ hagree
  refine ⟨fun c => Cert.M2cIdeal.Call.res m c,
    (θ_run _ _ _).mono (fun r h c => ?_) (Cert.M2cIdeal.Value.run_blocks m g),
    (θ_run _ _ _).mono (fun r h c => ?_) (Cert.M2cRefIdeal.Value.run m' g')⟩
  · obtain ⟨r0, kept⟩ := h c
    exact ⟨r0.trans (Cert.M2cIdeal.Call.res_final m c), kept⟩
  · obtain ⟨r0, kept⟩ := h c
    obtain ⟨e0, e1, e2⟩ := hagree c
    exact ⟨r0.trans ((Cert.M2cRefIdeal.Read.val_main_v26_eq _ _ _).trans (by rw [e0, e1, e2])), kept⟩

end M2cClaim

namespace M2cBClaim

theorem frame_ref : Cert.quiescent_M2cBRefIdeal := by
  intro m g _
  exact (θ_run _ _ _).mono (fun r h => ⟨fun c => (h c).2.2.2, Idealize.ShloMosaic.sem_eq_zero_of_no_sems (by decide) r.2⟩)
    (Cert.M2cBRefIdeal.Value.run m g)

theorem algebraic : Cert.algebraic_M2cBIdeal_M2cBRefIdeal := by
  intro m g m' g' _ hagree
  refine ⟨fun c => Cert.M2cBIdeal.Call.resD m c, fun c => Cert.M2cBIdeal.Call.resW m c, fun c => Cert.M2cBIdeal.Call.resB m c,
    (θ_run _ _ _).mono (fun r h c => ?_) (Cert.M2cBIdeal.Value.run_blocks m g),
    (θ_run _ _ _).mono (fun r h c => ?_) (Cert.M2cBRefIdeal.Value.run m' g')⟩
  · obtain ⟨r0, r1, r2, kept⟩ := h c
    exact ⟨r0.trans (Cert.M2cBIdeal.Call.resD_final m c),
      r1.trans (Cert.M2cBIdeal.Call.resW_final m c),
      r2.trans (Cert.M2cBIdeal.Call.resB_final m c), kept⟩
  · obtain ⟨r0, r1, r2, kept⟩ := h c
    obtain ⟨e0, e1, e2, e3, e4⟩ := hagree c
    exact ⟨r0.trans ((Cert.M2cBRefIdeal.Read.val_main_v71_eq _ _ _).trans (by rw [e1, e3, e4])),
      r1.trans ((Cert.M2cBRefIdeal.Read.val_main_v65_eq _ _).trans (by rw [e0, e3])),
      r2.trans ((Cert.M2cBRefIdeal.Read.val_main_v72_eq _).trans (by rw [e3])), kept⟩

end M2cBClaim

namespace ActClaim

theorem frame_ref : Cert.quiescent_ActRefIdeal := by
  intro m g _
  exact (θ_run _ _ _).mono (fun r h => ⟨fun c => (h c).2, Idealize.ShloMosaic.sem_eq_zero_of_no_sems (by decide) r.2⟩)
    (Cert.ActRefIdeal.Value.run m g)

theorem algebraic : Cert.algebraic_ActIdeal_ActRefIdeal := by
  intro m g m' g' _ hagree
  refine ⟨fun c => Cert.ActIdeal.Call.res m c,
    (θ_run _ _ _).mono (fun r h c => ?_) (Cert.ActIdeal.Value.run_blocks m g),
    (θ_run _ _ _).mono (fun r h c => ?_) (Cert.ActRefIdeal.Value.run m' g')⟩
  · obtain ⟨r0, kept⟩ := h c
    exact ⟨r0.trans (Cert.ActIdeal.Call.res_final m c), kept⟩
  · obtain ⟨r0, kept⟩ := h c
    obtain ⟨e0, e1, e2, e3⟩ := hagree c
    exact ⟨r0.trans ((Cert.ActRefIdeal.Read.val_main_v29_eq m' c).trans (by rw [e0, e1, e2, e3])), kept⟩

end ActClaim

namespace SguClaim

theorem frame_ref : Cert.quiescent_SguRefIdeal := by
  intro m g _
  exact (θ_run _ _ _).mono (fun r h => ⟨fun c => (h c).2, Idealize.ShloMosaic.sem_eq_zero_of_no_sems (by decide) r.2⟩)
    (Cert.SguRefIdeal.Value.run m g)

theorem algebraic : Cert.algebraic_SguIdeal_SguRefIdeal := by
  intro m g m' g' _ hagree
  refine ⟨fun c => Cert.SguIdeal.Call.res m c,
    (θ_run _ _ _).mono (fun r h c => ?_) (Cert.SguIdeal.Value.run_blocks m g),
    (θ_run _ _ _).mono (fun r h c => ?_) (Cert.SguRefIdeal.Value.run m' g')⟩
  · obtain ⟨r0, kept⟩ := h c
    exact ⟨r0.trans (Cert.SguIdeal.Call.res_final m c), kept⟩
  · obtain ⟨r0, kept⟩ := h c
    obtain ⟨e0, e1, e2, e3, e4⟩ := hagree c
    exact ⟨r0.trans ((Cert.SguRefIdeal.Read.val_main_v67_eq m' c).trans (by rw [e0, e1, e2, e3, e4])), kept⟩

end SguClaim

namespace RmsClaim

theorem frame_ref : Cert.quiescent_RmsRefIdeal := by
  intro m g _
  exact (θ_run _ _ _).mono (fun r h => ⟨fun c => (h c).2, Idealize.ShloMosaic.sem_eq_zero_of_no_sems (by decide) r.2⟩)
    (Cert.RmsRefIdeal.Value.run m g)

theorem algebraic : Cert.algebraic_RmsIdeal_RmsRefIdeal := by
  intro m g m' g' _ hagree
  refine ⟨fun c => Cert.RmsIdeal.Call.h m c,
    (θ_run _ _ _).mono (fun r h c => ?_) (Cert.RmsIdeal.Value.run_blocks m g),
    (θ_run _ _ _).mono (fun r h c => ?_) (Cert.RmsRefIdeal.Value.run m' g')⟩
  · obtain ⟨r0, kept⟩ := h c
    exact ⟨r0.trans (Cert.RmsIdeal.Call.h_final m c), kept⟩
  · obtain ⟨r0, kept⟩ := h c
    obtain ⟨e0, e1⟩ := hagree c
    exact ⟨r0.trans ((Cert.RmsRefIdeal.Read.val_main_v13_eq _ _).trans (by rw [e0, e1])), kept⟩

end RmsClaim

namespace RmsBClaim

theorem frame_ref : Cert.quiescent_RmsBRefIdeal := by
  intro m g _
  exact (θ_run _ _ _).mono (fun r h => ⟨fun c => (h c).2.2, Idealize.ShloMosaic.sem_eq_zero_of_no_sems (by decide) r.2⟩)
    (Cert.RmsBRefIdeal.Value.run m g)

theorem algebraic : Cert.algebraic_RmsBIdeal_RmsBRefIdeal := by
  intro m g m' g' _ hagree
  refine ⟨fun c => Cert.RmsBIdeal.Call.dx m c, fun c => Cert.RmsBIdeal.Call.dw m c,
    (θ_run _ _ _).mono (fun r h c => ?_) (Cert.RmsBIdeal.Value.run_blocks m g),
    (θ_run _ _ _).mono (fun r h c => ?_) (Cert.RmsBRefIdeal.Value.run m' g')⟩
  · obtain ⟨r0, r1, kept⟩ := h c
    exact ⟨r0.trans (Cert.RmsBIdeal.Call.dx_final m c),
      r1.trans (Cert.RmsBIdeal.Call.dw_final m c), kept⟩
  · obtain ⟨r0, r1, kept⟩ := h c
    obtain ⟨e0, e1, e2, e3⟩ := hagree c
    exact ⟨r0.trans ((Cert.RmsBRefIdeal.Read.val_main_v36_eq _ _ _ _).trans (by rw [e0, e1, e2, e3])),
      r1.trans ((Cert.RmsBRefIdeal.Read.val_main_v37_eq _ _).trans (by rw [e0, e2])), kept⟩

end RmsBClaim

namespace LossClaim

theorem frame_ref : Cert.quiescent_LossRefIdeal := by
  intro m g _
  exact (θ_run _ _ _).mono (fun r h => ⟨fun c => (h c).2.2.2, Idealize.ShloMosaic.sem_eq_zero_of_no_sems (by decide) r.2⟩)
    (Cert.LossRefIdeal.Value.run m g)

theorem algebraic : Cert.algebraic_LossIdeal_LossRefIdeal := by
  intro m g m' g' _ hagree
  refine ⟨fun c => Cert.LossIdeal.Call.val m c, fun c => Cert.LossIdeal.Call.dx m c, fun c => Cert.LossIdeal.Call.dw m c,
    (θ_run _ _ _).mono (fun r h c => ?_) (Cert.LossIdeal.Value.run_blocks m g),
    (θ_run _ _ _).mono (fun r h c => ?_) (Cert.LossRefIdeal.Value.run m' g')⟩
  · obtain ⟨r0, r1, r2, kept⟩ := h c
    exact ⟨r0.trans (Cert.LossIdeal.Call.val_final m c),
      r1.trans (Cert.LossIdeal.Call.dx_final m c),
      r2.trans (Cert.LossIdeal.Call.dw_final m c), kept⟩
  · obtain ⟨r0, r1, r2, kept⟩ := h c
    obtain ⟨e0, e1, e2⟩ := hagree c
    exact ⟨r0.trans ((Cert.LossRefIdeal.Read.val_main_v51_eq _ _ _).trans (by rw [e0, e1, e2])),
      r1.trans ((Cert.LossRefIdeal.Read.val_main_v50_eq m' c).trans (by rw [e0, e1, e2])),
      r2.trans ((Cert.LossRefIdeal.Read.val_main_v52_eq _ _ _).trans (by rw [e0, e1, e2])), kept⟩

end LossClaim

namespace AWinClaim

theorem frame_ref : Cert.quiescent_AWinRefIdeal := by
  intro m g _
  exact (θ_run _ _ _).mono (fun r h => ⟨fun c => (h c).2.2.2, Idealize.ShloMosaic.sem_eq_zero_of_no_sems (by decide) r.2⟩)
    (Cert.AWinRefIdeal.Value.run m g)

theorem algebraic : Cert.algebraic_AWinIdeal_AWinRefIdeal := by
  intro m g m' g' _ hagree
  refine ⟨fun c => Cert.AWinIdeal.Step.delta m c, fun c => Cert.AWinIdeal.Step.newM m c, fun c => Cert.AWinIdeal.Step.newV m c,
    (θ_run _ _ _).mono (fun r h c => ?_) (Cert.AWinIdeal.Value.run_blocks m g),
    (θ_run _ _ _).mono (fun r h c => ?_) (Cert.AWinRefIdeal.Value.run m' g')⟩
  · obtain ⟨r0, r1, r2, kept⟩ := h c
    exact ⟨r0.trans (Cert.AWinIdeal.Step.delta_final m c),
      r1.trans (Cert.AWinIdeal.Step.newM_final m c),
      r2.trans (Cert.AWinIdeal.Step.newV_final m c), kept⟩
  · obtain ⟨r0, r1, r2, kept⟩ := h c
    obtain ⟨e0, e1, e2, e3⟩ := hagree c
    exact ⟨r0.trans ((Cert.AWinRefIdeal.Read.val_main_v23_eq _ _ _ _).trans (by rw [e0, e1, e2, e3])),
      r1.trans ((Cert.AWinRefIdeal.Read.val_main_v4_eq _ _).trans (by rw [e1, e2])),
      r2.trans ((Cert.AWinRefIdeal.Read.val_main_v10_eq _ _).trans (by rw [e1, e3])), kept⟩

end AWinClaim

namespace AWbrClaim

theorem frame_ref : Cert.quiescent_AWbrRefIdeal := by
  intro m g _
  exact (θ_run _ _ _).mono (fun r h => ⟨fun c => (h c).2.2.2, Idealize.ShloMosaic.sem_eq_zero_of_no_sems (by decide) r.2⟩)
    (Cert.AWbrRefIdeal.Value.run m g)

theorem algebraic : Cert.algebraic_AWbrIdeal_AWbrRefIdeal := by
  intro m g m' g' _ hagree
  refine ⟨fun c => Cert.AWbrIdeal.Step.delta m c, fun c => Cert.AWbrIdeal.Step.newM m c, fun c => Cert.AWbrIdeal.Step.newV m c,
    (θ_run _ _ _).mono (fun r h c => ?_) (Cert.AWbrIdeal.Value.run_blocks m g),
    (θ_run _ _ _).mono (fun r h c => ?_) (Cert.AWbrRefIdeal.Value.run m' g')⟩
  · obtain ⟨r0, r1, r2, kept⟩ := h c
    exact ⟨r0.trans (Cert.AWbrIdeal.Step.delta_final m c),
      r1.trans (Cert.AWbrIdeal.Step.newM_final m c),
      r2.trans (Cert.AWbrIdeal.Step.newV_final m c), kept⟩
  · obtain ⟨r0, r1, r2, kept⟩ := h c
    obtain ⟨e0, e1, e2, e3⟩ := hagree c
    exact ⟨r0.trans ((Cert.AWbrRefIdeal.Read.val_main_v23_eq _ _ _ _).trans (by rw [e0, e1, e2, e3])),
      r1.trans ((Cert.AWbrRefIdeal.Read.val_main_v4_eq _ _).trans (by rw [e1, e2])),
      r2.trans ((Cert.AWbrRefIdeal.Read.val_main_v10_eq _ _).trans (by rw [e1, e3])), kept⟩

end AWbrClaim

namespace AWoutClaim

theorem frame_ref : Cert.quiescent_AWoutRefIdeal := by
  intro m g _
  exact (θ_run _ _ _).mono (fun r h => ⟨fun c => (h c).2.2.2, Idealize.ShloMosaic.sem_eq_zero_of_no_sems (by decide) r.2⟩)
    (Cert.AWoutRefIdeal.Value.run m g)

theorem algebraic : Cert.algebraic_AWoutIdeal_AWoutRefIdeal := by
  intro m g m' g' _ hagree
  refine ⟨fun c => Cert.AWoutIdeal.Step.delta m c, fun c => Cert.AWoutIdeal.Step.newM m c, fun c => Cert.AWoutIdeal.Step.newV m c,
    (θ_run _ _ _).mono (fun r h c => ?_) (Cert.AWoutIdeal.Value.run_blocks m g),
    (θ_run _ _ _).mono (fun r h c => ?_) (Cert.AWoutRefIdeal.Value.run m' g')⟩
  · obtain ⟨r0, r1, r2, kept⟩ := h c
    exact ⟨r0.trans (Cert.AWoutIdeal.Step.delta_final m c),
      r1.trans (Cert.AWoutIdeal.Step.newM_final m c),
      r2.trans (Cert.AWoutIdeal.Step.newV_final m c), kept⟩
  · obtain ⟨r0, r1, r2, kept⟩ := h c
    obtain ⟨e0, e1, e2, e3⟩ := hagree c
    exact ⟨r0.trans ((Cert.AWoutRefIdeal.Read.val_main_v23_eq _ _ _ _).trans (by rw [e0, e1, e2, e3])),
      r1.trans ((Cert.AWoutRefIdeal.Read.val_main_v4_eq _ _).trans (by rw [e1, e2])),
      r2.trans ((Cert.AWoutRefIdeal.Read.val_main_v10_eq _ _).trans (by rw [e1, e3])), kept⟩

end AWoutClaim

namespace AWgluClaim

theorem frame_ref : Cert.quiescent_AWgluRefIdeal := by
  intro m g _
  exact (θ_run _ _ _).mono (fun r h => ⟨fun c => (h c).2.2.2, Idealize.ShloMosaic.sem_eq_zero_of_no_sems (by decide) r.2⟩)
    (Cert.AWgluRefIdeal.Value.run m g)

theorem algebraic : Cert.algebraic_AWgluIdeal_AWgluRefIdeal := by
  intro m g m' g' _ hagree
  refine ⟨fun c => Cert.AWgluIdeal.Step.delta m c, fun c => Cert.AWgluIdeal.Step.newM m c, fun c => Cert.AWgluIdeal.Step.newV m c,
    (θ_run _ _ _).mono (fun r h c => ?_) (Cert.AWgluIdeal.Value.run_blocks m g),
    (θ_run _ _ _).mono (fun r h c => ?_) (Cert.AWgluRefIdeal.Value.run m' g')⟩
  · obtain ⟨r0, r1, r2, kept⟩ := h c
    exact ⟨r0.trans (Cert.AWgluIdeal.Step.delta_final m c),
      r1.trans (Cert.AWgluIdeal.Step.newM_final m c),
      r2.trans (Cert.AWgluIdeal.Step.newV_final m c), kept⟩
  · obtain ⟨r0, r1, r2, kept⟩ := h c
    obtain ⟨e0, e1, e2, e3⟩ := hagree c
    exact ⟨r0.trans ((Cert.AWgluRefIdeal.Read.val_main_v23_eq _ _ _ _).trans (by rw [e0, e1, e2, e3])),
      r1.trans ((Cert.AWgluRefIdeal.Read.val_main_v4_eq _ _).trans (by rw [e1, e2])),
      r2.trans ((Cert.AWgluRefIdeal.Read.val_main_v10_eq _ _).trans (by rw [e1, e3])), kept⟩

end AWgluClaim

namespace AWs5bClaim

theorem frame_ref : Cert.quiescent_AWs5bRefIdeal := by
  intro m g _
  exact (θ_run _ _ _).mono (fun r h => ⟨fun c => (h c).2.2.2, Idealize.ShloMosaic.sem_eq_zero_of_no_sems (by decide) r.2⟩)
    (Cert.AWs5bRefIdeal.Value.run m g)

theorem algebraic : Cert.algebraic_AWs5bIdeal_AWs5bRefIdeal := by
  intro m g m' g' _ hagree
  refine ⟨fun c => Cert.AWs5bIdeal.Step.delta m c, fun c => Cert.AWs5bIdeal.Step.newM m c, fun c => Cert.AWs5bIdeal.Step.newV m c,
    (θ_run _ _ _).mono (fun r h c => ?_) (Cert.AWs5bIdeal.Value.run_blocks m g),
    (θ_run _ _ _).mono (fun r h c => ?_) (Cert.AWs5bRefIdeal.Value.run m' g')⟩
  · obtain ⟨r0, r1, r2, kept⟩ := h c
    exact ⟨r0.trans (Cert.AWs5bIdeal.Step.delta_final m c),
      r1.trans (Cert.AWs5bIdeal.Step.newM_final m c),
      r2.trans (Cert.AWs5bIdeal.Step.newV_final m c), kept⟩
  · obtain ⟨r0, r1, r2, kept⟩ := h c
    obtain ⟨e0, e1, e2, e3⟩ := hagree c
    exact ⟨r0.trans ((Cert.AWs5bRefIdeal.Read.val_main_v23_eq _ _ _ _).trans (by rw [e0, e1, e2, e3])),
      r1.trans ((Cert.AWs5bRefIdeal.Read.val_main_v4_eq _ _).trans (by rw [e1, e2])),
      r2.trans ((Cert.AWs5bRefIdeal.Read.val_main_v10_eq _ _).trans (by rw [e1, e3])), kept⟩

end AWs5bClaim

namespace ARestAClaim

theorem frame_ref : Cert.quiescent_ARestARefIdeal := by
  intro m g _
  exact (θ_run _ _ _).mono (fun r h => ⟨fun c => (h c).2.2.2.2.2.2.2.2.2.2.2.2, Idealize.ShloMosaic.sem_eq_zero_of_no_sems (by decide) r.2⟩)
    (Cert.ARestARefIdeal.Value.run m g)

theorem algebraic : Cert.algebraic_ARestAIdeal_ARestARefIdeal := by
  intro m g m' g' _ hagree
  refine ⟨fun c => Cert.ARestAIdeal.Step.delta0 m c, fun c => Cert.ARestAIdeal.Step.delta1 m c, fun c => Cert.ARestAIdeal.Step.delta2 m c, fun c => Cert.ARestAIdeal.Step.delta3 m c, fun c => Cert.ARestAIdeal.Step.newM0 m c, fun c => Cert.ARestAIdeal.Step.newM1 m c, fun c => Cert.ARestAIdeal.Step.newM2 m c, fun c => Cert.ARestAIdeal.Step.newM3 m c, fun c => Cert.ARestAIdeal.Step.newV0 m c, fun c => Cert.ARestAIdeal.Step.newV1 m c, fun c => Cert.ARestAIdeal.Step.newV2 m c, fun c => Cert.ARestAIdeal.Step.newV3 m c,
    (θ_run _ _ _).mono (fun r h c => ?_) (Cert.ARestAIdeal.Value.run_blocks m g),
    (θ_run _ _ _).mono (fun r h c => ?_) (Cert.ARestARefIdeal.Value.run m' g')⟩
  · obtain ⟨r0, r1, r2, r3, r4, r5, r6, r7, r8, r9, r10, r11, kept⟩ := h c
    exact ⟨r0.trans (Cert.ARestAIdeal.Step.delta0_final m c),
      r1.trans (Cert.ARestAIdeal.Step.delta1_final m c),
      r2.trans (Cert.ARestAIdeal.Step.delta2_final m c),
      r3.trans (Cert.ARestAIdeal.Step.delta3_final m c),
      r4.trans (Cert.ARestAIdeal.Step.newM0_final m c),
      r5.trans (Cert.ARestAIdeal.Step.newM1_final m c),
      r6.trans (Cert.ARestAIdeal.Step.newM2_final m c),
      r7.trans (Cert.ARestAIdeal.Step.newM3_final m c),
      r8.trans (Cert.ARestAIdeal.Step.newV0_final m c),
      r9.trans (Cert.ARestAIdeal.Step.newV1_final m c),
      r10.trans (Cert.ARestAIdeal.Step.newV2_final m c),
      r11.trans (Cert.ARestAIdeal.Step.newV3_final m c), kept⟩
  · obtain ⟨r0, r1, r2, r3, r4, r5, r6, r7, r8, r9, r10, r11, kept⟩ := h c
    obtain ⟨e0, e1, e2, e3, e4, e5, e6, e7, e8, e9, e10, e11, e12, e13, e14, e15⟩ := hagree c
    exact ⟨r0.trans ((Cert.ARestARefIdeal.Read.val_main_v23_eq _ _ _ _).trans (by rw [e0, e4, e8, e12])),
      r1.trans ((Cert.ARestARefIdeal.Read.val_main_v47_eq _ _ _ _).trans (by rw [e1, e5, e9, e13])),
      r2.trans ((Cert.ARestARefIdeal.Read.val_main_v71_eq _ _ _ _).trans (by rw [e2, e6, e10, e14])),
      r3.trans ((Cert.ARestARefIdeal.Read.val_main_v95_eq _ _ _ _).trans (by rw [e3, e7, e11, e15])),
      r4.trans ((Cert.ARestARefIdeal.Read.val_main_v4_eq _ _).trans (by rw [e4, e8])),
      r5.trans ((Cert.ARestARefIdeal.Read.val_main_v28_eq _ _).trans (by rw [e5, e9])),
      r6.trans ((Cert.ARestARefIdeal.Read.val_main_v52_eq _ _).trans (by rw [e6, e10])),
      r7.trans ((Cert.ARestARefIdeal.Read.val_main_v76_eq _ _).trans (by rw [e7, e11])),
      r8.trans ((Cert.ARestARefIdeal.Read.val_main_v10_eq _ _).trans (by rw [e4, e12])),
      r9.trans ((Cert.ARestARefIdeal.Read.val_main_v34_eq _ _).trans (by rw [e5, e13])),
      r10.trans ((Cert.ARestARefIdeal.Read.val_main_v58_eq _ _).trans (by rw [e6, e14])),
      r11.trans ((Cert.ARestARefIdeal.Read.val_main_v82_eq _ _).trans (by rw [e7, e15])), kept⟩

end ARestAClaim

namespace ARestBClaim

theorem frame_ref : Cert.quiescent_ARestBRefIdeal := by
  intro m g _
  exact (θ_run _ _ _).mono (fun r h => ⟨fun c => (h c).2.2.2.2.2.2.2.2.2.2.2.2, Idealize.ShloMosaic.sem_eq_zero_of_no_sems (by decide) r.2⟩)
    (Cert.ARestBRefIdeal.Value.run m g)

theorem algebraic : Cert.algebraic_ARestBIdeal_ARestBRefIdeal := by
  intro m g m' g' _ hagree
  refine ⟨fun c => Cert.ARestBIdeal.Step.delta0 m c, fun c => Cert.ARestBIdeal.Step.delta1 m c, fun c => Cert.ARestBIdeal.Step.delta2 m c, fun c => Cert.ARestBIdeal.Step.delta3 m c, fun c => Cert.ARestBIdeal.Step.newM0 m c, fun c => Cert.ARestBIdeal.Step.newM1 m c, fun c => Cert.ARestBIdeal.Step.newM2 m c, fun c => Cert.ARestBIdeal.Step.newM3 m c, fun c => Cert.ARestBIdeal.Step.newV0 m c, fun c => Cert.ARestBIdeal.Step.newV1 m c, fun c => Cert.ARestBIdeal.Step.newV2 m c, fun c => Cert.ARestBIdeal.Step.newV3 m c,
    (θ_run _ _ _).mono (fun r h c => ?_) (Cert.ARestBIdeal.Value.run_blocks m g),
    (θ_run _ _ _).mono (fun r h c => ?_) (Cert.ARestBRefIdeal.Value.run m' g')⟩
  · obtain ⟨r0, r1, r2, r3, r4, r5, r6, r7, r8, r9, r10, r11, kept⟩ := h c
    exact ⟨r0.trans (Cert.ARestBIdeal.Step.delta0_final m c),
      r1.trans (Cert.ARestBIdeal.Step.delta1_final m c),
      r2.trans (Cert.ARestBIdeal.Step.delta2_final m c),
      r3.trans (Cert.ARestBIdeal.Step.delta3_final m c),
      r4.trans (Cert.ARestBIdeal.Step.newM0_final m c),
      r5.trans (Cert.ARestBIdeal.Step.newM1_final m c),
      r6.trans (Cert.ARestBIdeal.Step.newM2_final m c),
      r7.trans (Cert.ARestBIdeal.Step.newM3_final m c),
      r8.trans (Cert.ARestBIdeal.Step.newV0_final m c),
      r9.trans (Cert.ARestBIdeal.Step.newV1_final m c),
      r10.trans (Cert.ARestBIdeal.Step.newV2_final m c),
      r11.trans (Cert.ARestBIdeal.Step.newV3_final m c), kept⟩
  · obtain ⟨r0, r1, r2, r3, r4, r5, r6, r7, r8, r9, r10, r11, kept⟩ := h c
    obtain ⟨e0, e1, e2, e3, e4, e5, e6, e7, e8, e9, e10, e11, e12, e13, e14, e15⟩ := hagree c
    exact ⟨r0.trans ((Cert.ARestBRefIdeal.Read.val_main_v23_eq _ _ _ _).trans (by rw [e0, e4, e8, e12])),
      r1.trans ((Cert.ARestBRefIdeal.Read.val_main_v47_eq _ _ _ _).trans (by rw [e1, e5, e9, e13])),
      r2.trans ((Cert.ARestBRefIdeal.Read.val_main_v71_eq _ _ _ _).trans (by rw [e2, e6, e10, e14])),
      r3.trans ((Cert.ARestBRefIdeal.Read.val_main_v95_eq _ _ _ _).trans (by rw [e3, e7, e11, e15])),
      r4.trans ((Cert.ARestBRefIdeal.Read.val_main_v4_eq _ _).trans (by rw [e4, e8])),
      r5.trans ((Cert.ARestBRefIdeal.Read.val_main_v28_eq _ _).trans (by rw [e5, e9])),
      r6.trans ((Cert.ARestBRefIdeal.Read.val_main_v52_eq _ _).trans (by rw [e6, e10])),
      r7.trans ((Cert.ARestBRefIdeal.Read.val_main_v76_eq _ _).trans (by rw [e7, e11])),
      r8.trans ((Cert.ARestBRefIdeal.Read.val_main_v10_eq _ _).trans (by rw [e4, e12])),
      r9.trans ((Cert.ARestBRefIdeal.Read.val_main_v34_eq _ _).trans (by rw [e5, e13])),
      r10.trans ((Cert.ARestBRefIdeal.Read.val_main_v58_eq _ _).trans (by rw [e6, e14])),
      r11.trans ((Cert.ARestBRefIdeal.Read.val_main_v82_eq _ _).trans (by rw [e7, e15])), kept⟩

end ARestBClaim

namespace ARestCClaim

theorem frame_ref : Cert.quiescent_ARestCRefIdeal := by
  intro m g _
  exact (θ_run _ _ _).mono (fun r h => ⟨fun c => (h c).2.2.2.2.2.2.2.2.2.2.2.2, Idealize.ShloMosaic.sem_eq_zero_of_no_sems (by decide) r.2⟩)
    (Cert.ARestCRefIdeal.Value.run m g)

theorem algebraic : Cert.algebraic_ARestCIdeal_ARestCRefIdeal := by
  intro m g m' g' _ hagree
  refine ⟨fun c => Cert.ARestCIdeal.Step.delta0 m c, fun c => Cert.ARestCIdeal.Step.delta1 m c, fun c => Cert.ARestCIdeal.Step.delta2 m c, fun c => Cert.ARestCIdeal.Step.delta3 m c, fun c => Cert.ARestCIdeal.Step.newM0 m c, fun c => Cert.ARestCIdeal.Step.newM1 m c, fun c => Cert.ARestCIdeal.Step.newM2 m c, fun c => Cert.ARestCIdeal.Step.newM3 m c, fun c => Cert.ARestCIdeal.Step.newV0 m c, fun c => Cert.ARestCIdeal.Step.newV1 m c, fun c => Cert.ARestCIdeal.Step.newV2 m c, fun c => Cert.ARestCIdeal.Step.newV3 m c,
    (θ_run _ _ _).mono (fun r h c => ?_) (Cert.ARestCIdeal.Value.run_blocks m g),
    (θ_run _ _ _).mono (fun r h c => ?_) (Cert.ARestCRefIdeal.Value.run m' g')⟩
  · obtain ⟨r0, r1, r2, r3, r4, r5, r6, r7, r8, r9, r10, r11, kept⟩ := h c
    exact ⟨r0.trans (Cert.ARestCIdeal.Step.delta0_final m c),
      r1.trans (Cert.ARestCIdeal.Step.delta1_final m c),
      r2.trans (Cert.ARestCIdeal.Step.delta2_final m c),
      r3.trans (Cert.ARestCIdeal.Step.delta3_final m c),
      r4.trans (Cert.ARestCIdeal.Step.newM0_final m c),
      r5.trans (Cert.ARestCIdeal.Step.newM1_final m c),
      r6.trans (Cert.ARestCIdeal.Step.newM2_final m c),
      r7.trans (Cert.ARestCIdeal.Step.newM3_final m c),
      r8.trans (Cert.ARestCIdeal.Step.newV0_final m c),
      r9.trans (Cert.ARestCIdeal.Step.newV1_final m c),
      r10.trans (Cert.ARestCIdeal.Step.newV2_final m c),
      r11.trans (Cert.ARestCIdeal.Step.newV3_final m c), kept⟩
  · obtain ⟨r0, r1, r2, r3, r4, r5, r6, r7, r8, r9, r10, r11, kept⟩ := h c
    obtain ⟨e0, e1, e2, e3, e4, e5, e6, e7, e8, e9, e10, e11, e12, e13, e14, e15⟩ := hagree c
    exact ⟨r0.trans ((Cert.ARestCRefIdeal.Read.val_main_v23_eq _ _ _ _).trans (by rw [e0, e4, e8, e12])),
      r1.trans ((Cert.ARestCRefIdeal.Read.val_main_v47_eq _ _ _ _).trans (by rw [e1, e5, e9, e13])),
      r2.trans ((Cert.ARestCRefIdeal.Read.val_main_v71_eq _ _ _ _).trans (by rw [e2, e6, e10, e14])),
      r3.trans ((Cert.ARestCRefIdeal.Read.val_main_v95_eq _ _ _ _).trans (by rw [e3, e7, e11, e15])),
      r4.trans ((Cert.ARestCRefIdeal.Read.val_main_v4_eq _ _).trans (by rw [e4, e8])),
      r5.trans ((Cert.ARestCRefIdeal.Read.val_main_v28_eq _ _).trans (by rw [e5, e9])),
      r6.trans ((Cert.ARestCRefIdeal.Read.val_main_v52_eq _ _).trans (by rw [e6, e10])),
      r7.trans ((Cert.ARestCRefIdeal.Read.val_main_v76_eq _ _).trans (by rw [e7, e11])),
      r8.trans ((Cert.ARestCRefIdeal.Read.val_main_v10_eq _ _).trans (by rw [e4, e12])),
      r9.trans ((Cert.ARestCRefIdeal.Read.val_main_v34_eq _ _).trans (by rw [e5, e13])),
      r10.trans ((Cert.ARestCRefIdeal.Read.val_main_v58_eq _ _).trans (by rw [e6, e14])),
      r11.trans ((Cert.ARestCRefIdeal.Read.val_main_v82_eq _ _).trans (by rw [e7, e15])), kept⟩

end ARestCClaim

namespace ARestDClaim

theorem frame_ref : Cert.quiescent_ARestDRefIdeal := by
  intro m g _
  exact (θ_run _ _ _).mono (fun r h => ⟨fun c => (h c).2.2.2.2.2.2.2.2.2.2.2.2, Idealize.ShloMosaic.sem_eq_zero_of_no_sems (by decide) r.2⟩)
    (Cert.ARestDRefIdeal.Value.run m g)

theorem algebraic : Cert.algebraic_ARestDIdeal_ARestDRefIdeal := by
  intro m g m' g' _ hagree
  refine ⟨fun c => Cert.ARestDIdeal.Step.delta0 m c, fun c => Cert.ARestDIdeal.Step.delta1 m c, fun c => Cert.ARestDIdeal.Step.delta2 m c, fun c => Cert.ARestDIdeal.Step.delta3 m c, fun c => Cert.ARestDIdeal.Step.newM0 m c, fun c => Cert.ARestDIdeal.Step.newM1 m c, fun c => Cert.ARestDIdeal.Step.newM2 m c, fun c => Cert.ARestDIdeal.Step.newM3 m c, fun c => Cert.ARestDIdeal.Step.newV0 m c, fun c => Cert.ARestDIdeal.Step.newV1 m c, fun c => Cert.ARestDIdeal.Step.newV2 m c, fun c => Cert.ARestDIdeal.Step.newV3 m c,
    (θ_run _ _ _).mono (fun r h c => ?_) (Cert.ARestDIdeal.Value.run_blocks m g),
    (θ_run _ _ _).mono (fun r h c => ?_) (Cert.ARestDRefIdeal.Value.run m' g')⟩
  · obtain ⟨r0, r1, r2, r3, r4, r5, r6, r7, r8, r9, r10, r11, kept⟩ := h c
    exact ⟨r0.trans (Cert.ARestDIdeal.Step.delta0_final m c),
      r1.trans (Cert.ARestDIdeal.Step.delta1_final m c),
      r2.trans (Cert.ARestDIdeal.Step.delta2_final m c),
      r3.trans (Cert.ARestDIdeal.Step.delta3_final m c),
      r4.trans (Cert.ARestDIdeal.Step.newM0_final m c),
      r5.trans (Cert.ARestDIdeal.Step.newM1_final m c),
      r6.trans (Cert.ARestDIdeal.Step.newM2_final m c),
      r7.trans (Cert.ARestDIdeal.Step.newM3_final m c),
      r8.trans (Cert.ARestDIdeal.Step.newV0_final m c),
      r9.trans (Cert.ARestDIdeal.Step.newV1_final m c),
      r10.trans (Cert.ARestDIdeal.Step.newV2_final m c),
      r11.trans (Cert.ARestDIdeal.Step.newV3_final m c), kept⟩
  · obtain ⟨r0, r1, r2, r3, r4, r5, r6, r7, r8, r9, r10, r11, kept⟩ := h c
    obtain ⟨e0, e1, e2, e3, e4, e5, e6, e7, e8, e9, e10, e11, e12, e13, e14, e15⟩ := hagree c
    exact ⟨r0.trans ((Cert.ARestDRefIdeal.Read.val_main_v23_eq _ _ _ _).trans (by rw [e0, e4, e8, e12])),
      r1.trans ((Cert.ARestDRefIdeal.Read.val_main_v47_eq _ _ _ _).trans (by rw [e1, e5, e9, e13])),
      r2.trans ((Cert.ARestDRefIdeal.Read.val_main_v71_eq _ _ _ _).trans (by rw [e2, e6, e10, e14])),
      r3.trans ((Cert.ARestDRefIdeal.Read.val_main_v95_eq _ _ _ _).trans (by rw [e3, e7, e11, e15])),
      r4.trans ((Cert.ARestDRefIdeal.Read.val_main_v4_eq _ _).trans (by rw [e4, e8])),
      r5.trans ((Cert.ARestDRefIdeal.Read.val_main_v28_eq _ _).trans (by rw [e5, e9])),
      r6.trans ((Cert.ARestDRefIdeal.Read.val_main_v52_eq _ _).trans (by rw [e6, e10])),
      r7.trans ((Cert.ARestDRefIdeal.Read.val_main_v76_eq _ _).trans (by rw [e7, e11])),
      r8.trans ((Cert.ARestDRefIdeal.Read.val_main_v10_eq _ _).trans (by rw [e4, e12])),
      r9.trans ((Cert.ARestDRefIdeal.Read.val_main_v34_eq _ _).trans (by rw [e5, e13])),
      r10.trans ((Cert.ARestDRefIdeal.Read.val_main_v58_eq _ _).trans (by rw [e6, e14])),
      r11.trans ((Cert.ARestDRefIdeal.Read.val_main_v82_eq _ _).trans (by rw [e7, e15])), kept⟩

end ARestDClaim

namespace ARestEClaim

theorem frame_ref : Cert.quiescent_ARestERefIdeal := by
  intro m g _
  exact (θ_run _ _ _).mono (fun r h => ⟨fun c => (h c).2.2.2.2.2.2.2.2.2.2.2.2, Idealize.ShloMosaic.sem_eq_zero_of_no_sems (by decide) r.2⟩)
    (Cert.ARestERefIdeal.Value.run m g)

theorem algebraic : Cert.algebraic_ARestEIdeal_ARestERefIdeal := by
  intro m g m' g' _ hagree
  refine ⟨fun c => Cert.ARestEIdeal.Step.delta0 m c, fun c => Cert.ARestEIdeal.Step.delta1 m c, fun c => Cert.ARestEIdeal.Step.delta2 m c, fun c => Cert.ARestEIdeal.Step.delta3 m c, fun c => Cert.ARestEIdeal.Step.newM0 m c, fun c => Cert.ARestEIdeal.Step.newM1 m c, fun c => Cert.ARestEIdeal.Step.newM2 m c, fun c => Cert.ARestEIdeal.Step.newM3 m c, fun c => Cert.ARestEIdeal.Step.newV0 m c, fun c => Cert.ARestEIdeal.Step.newV1 m c, fun c => Cert.ARestEIdeal.Step.newV2 m c, fun c => Cert.ARestEIdeal.Step.newV3 m c,
    (θ_run _ _ _).mono (fun r h c => ?_) (Cert.ARestEIdeal.Value.run_blocks m g),
    (θ_run _ _ _).mono (fun r h c => ?_) (Cert.ARestERefIdeal.Value.run m' g')⟩
  · obtain ⟨r0, r1, r2, r3, r4, r5, r6, r7, r8, r9, r10, r11, kept⟩ := h c
    exact ⟨r0.trans (Cert.ARestEIdeal.Step.delta0_final m c),
      r1.trans (Cert.ARestEIdeal.Step.delta1_final m c),
      r2.trans (Cert.ARestEIdeal.Step.delta2_final m c),
      r3.trans (Cert.ARestEIdeal.Step.delta3_final m c),
      r4.trans (Cert.ARestEIdeal.Step.newM0_final m c),
      r5.trans (Cert.ARestEIdeal.Step.newM1_final m c),
      r6.trans (Cert.ARestEIdeal.Step.newM2_final m c),
      r7.trans (Cert.ARestEIdeal.Step.newM3_final m c),
      r8.trans (Cert.ARestEIdeal.Step.newV0_final m c),
      r9.trans (Cert.ARestEIdeal.Step.newV1_final m c),
      r10.trans (Cert.ARestEIdeal.Step.newV2_final m c),
      r11.trans (Cert.ARestEIdeal.Step.newV3_final m c), kept⟩
  · obtain ⟨r0, r1, r2, r3, r4, r5, r6, r7, r8, r9, r10, r11, kept⟩ := h c
    obtain ⟨e0, e1, e2, e3, e4, e5, e6, e7, e8, e9, e10, e11, e12, e13, e14, e15⟩ := hagree c
    exact ⟨r0.trans ((Cert.ARestERefIdeal.Read.val_main_v23_eq _ _ _ _).trans (by rw [e0, e4, e8, e12])),
      r1.trans ((Cert.ARestERefIdeal.Read.val_main_v47_eq _ _ _ _).trans (by rw [e1, e5, e9, e13])),
      r2.trans ((Cert.ARestERefIdeal.Read.val_main_v71_eq _ _ _ _).trans (by rw [e2, e6, e10, e14])),
      r3.trans ((Cert.ARestERefIdeal.Read.val_main_v95_eq _ _ _ _).trans (by rw [e3, e7, e11, e15])),
      r4.trans ((Cert.ARestERefIdeal.Read.val_main_v4_eq _ _).trans (by rw [e4, e8])),
      r5.trans ((Cert.ARestERefIdeal.Read.val_main_v28_eq _ _).trans (by rw [e5, e9])),
      r6.trans ((Cert.ARestERefIdeal.Read.val_main_v52_eq _ _).trans (by rw [e6, e10])),
      r7.trans ((Cert.ARestERefIdeal.Read.val_main_v76_eq _ _).trans (by rw [e7, e11])),
      r8.trans ((Cert.ARestERefIdeal.Read.val_main_v10_eq _ _).trans (by rw [e4, e12])),
      r9.trans ((Cert.ARestERefIdeal.Read.val_main_v34_eq _ _).trans (by rw [e5, e13])),
      r10.trans ((Cert.ARestERefIdeal.Read.val_main_v58_eq _ _).trans (by rw [e6, e14])),
      r11.trans ((Cert.ARestERefIdeal.Read.val_main_v82_eq _ _).trans (by rw [e7, e15])), kept⟩

end ARestEClaim

theorem claim : Cert.Claim := ⟨Cert.Kernel.Gen.facts, Cert.KernelIdeal.Gen.facts, Cert.ReferenceIdeal.Gen.facts,
  Cert.Mix0.Gen.facts, Cert.Mix0Ideal.Gen.facts, Cert.Mix0RefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.InDt.Gen.facts, Cert.InDtIdeal.Gen.facts, Cert.InDtRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.In.Gen.facts, Cert.InIdeal.Gen.facts, Cert.InRefIdeal.Gen.facts,
  Cert.Mix.Gen.facts, Cert.MixIdeal.Gen.facts, Cert.MixRefIdeal.Gen.facts,
  Cert.Out.Gen.facts, Cert.OutIdeal.Gen.facts, Cert.OutRefIdeal.Gen.facts,
  Cert.Bu.Gen.facts, Cert.BuIdeal.Gen.facts, Cert.BuRefIdeal.Gen.facts,
  Cert.S5y.Gen.facts, Cert.S5yIdeal.Gen.facts, Cert.S5yRefIdeal.Gen.facts,
  Cert.DsRe.Gen.facts, Cert.DsReIdeal.Gen.facts, Cert.DsReRefIdeal.Gen.facts,
  Cert.DsIm.Gen.facts, Cert.DsImIdeal.Gen.facts, Cert.DsImRefIdeal.Gen.facts,
  Cert.DcRe.Gen.facts, Cert.DcReIdeal.Gen.facts, Cert.DcReRefIdeal.Gen.facts,
  Cert.DcIm.Gen.facts, Cert.DcImIdeal.Gen.facts, Cert.DcImRefIdeal.Gen.facts,
  Cert.BuDx.Gen.facts, Cert.BuDxIdeal.Gen.facts, Cert.BuDxRefIdeal.Gen.facts,
  Cert.BuDw.Gen.facts, Cert.BuDwIdeal.Gen.facts, Cert.BuDwRefIdeal.Gen.facts,
  Cert.Sc.Gen.facts, Cert.ScIdeal.Gen.facts, Cert.ScRefIdeal.Gen.facts,
  Cert.ScB.Gen.facts, Cert.ScBIdeal.Gen.facts, Cert.ScBRefIdeal.Gen.facts,
  Cert.M2c.Gen.facts, Cert.M2cIdeal.Gen.facts, Cert.M2cRefIdeal.Gen.facts,
  Cert.M2cB.Gen.facts, Cert.M2cBIdeal.Gen.facts, Cert.M2cBRefIdeal.Gen.facts,
  Cert.Act.Gen.facts, Cert.ActIdeal.Gen.facts, Cert.ActRefIdeal.Gen.facts,
  Cert.Sgu.Gen.facts, Cert.SguIdeal.Gen.facts, Cert.SguRefIdeal.Gen.facts,
  Cert.Rms.Gen.facts, Cert.RmsIdeal.Gen.facts, Cert.RmsRefIdeal.Gen.facts,
  Cert.RmsB.Gen.facts, Cert.RmsBIdeal.Gen.facts, Cert.RmsBRefIdeal.Gen.facts,
  Cert.Loss.Gen.facts, Cert.LossIdeal.Gen.facts, Cert.LossRefIdeal.Gen.facts,
  Cert.AWin.Gen.facts, Cert.AWinIdeal.Gen.facts, Cert.AWinRefIdeal.Gen.facts,
  Cert.AWbr.Gen.facts, Cert.AWbrIdeal.Gen.facts, Cert.AWbrRefIdeal.Gen.facts,
  Cert.AWout.Gen.facts, Cert.AWoutIdeal.Gen.facts, Cert.AWoutRefIdeal.Gen.facts,
  Cert.AWglu.Gen.facts, Cert.AWgluIdeal.Gen.facts, Cert.AWgluRefIdeal.Gen.facts,
  Cert.AWs5b.Gen.facts, Cert.AWs5bIdeal.Gen.facts, Cert.AWs5bRefIdeal.Gen.facts,
  Cert.ARestA.Gen.facts, Cert.ARestAIdeal.Gen.facts, Cert.ARestARefIdeal.Gen.facts,
  Cert.ARestB.Gen.facts, Cert.ARestBIdeal.Gen.facts, Cert.ARestBRefIdeal.Gen.facts,
  Cert.ARestC.Gen.facts, Cert.ARestCIdeal.Gen.facts, Cert.ARestCRefIdeal.Gen.facts,
  Cert.ARestD.Gen.facts, Cert.ARestDIdeal.Gen.facts, Cert.ARestDRefIdeal.Gen.facts,
  Cert.ARestE.Gen.facts, Cert.ARestEIdeal.Gen.facts, Cert.ARestERefIdeal.Gen.facts,
  Cert.On_mix0_written.Gen.facts, Cert.On_indw_written.Gen.facts,
  fun m ρ _ => Cert.Kernel.Gen.frame m ρ, fun m ρ _ => Cert.KernelIdeal.Gen.frame m ρ, frame_ref,
  fun m ρ _ => Cert.Mix0.Gen.frame m ρ, fun m ρ _ => Cert.Mix0Ideal.Gen.frame m ρ, Mix0Claim.frame_ref,
  fun m ρ _ => Cert.InDx.Gen.frame m ρ, fun m ρ _ => Cert.InDxIdeal.Gen.frame m ρ, InDxClaim.frame_ref,
  fun m ρ _ => Cert.InDw.Gen.frame m ρ, fun m ρ _ => Cert.InDwIdeal.Gen.frame m ρ, InDwClaim.frame_ref,
  fun m ρ _ => Cert.InDt.Gen.frame m ρ, fun m ρ _ => Cert.InDtIdeal.Gen.frame m ρ, InDtClaim.frame_ref,
  fun m ρ _ => Cert.OutDx.Gen.frame m ρ, fun m ρ _ => Cert.OutDxIdeal.Gen.frame m ρ, OutDxClaim.frame_ref,
  fun m ρ _ => Cert.OutDw.Gen.frame m ρ, fun m ρ _ => Cert.OutDwIdeal.Gen.frame m ρ, OutDwClaim.frame_ref,
  fun m ρ _ => Cert.In.Gen.frame m ρ, fun m ρ _ => Cert.InIdeal.Gen.frame m ρ, InClaim.frame_ref,
  fun m ρ _ => Cert.Mix.Gen.frame m ρ, fun m ρ _ => Cert.MixIdeal.Gen.frame m ρ, MixClaim.frame_ref,
  fun m ρ _ => Cert.Out.Gen.frame m ρ, fun m ρ _ => Cert.OutIdeal.Gen.frame m ρ, OutClaim.frame_ref,
  fun m ρ _ => Cert.Bu.Gen.frame m ρ, fun m ρ _ => Cert.BuIdeal.Gen.frame m ρ, BuClaim.frame_ref,
  fun m ρ _ => Cert.S5y.Gen.frame m ρ, fun m ρ _ => Cert.S5yIdeal.Gen.frame m ρ, S5yClaim.frame_ref,
  fun m ρ _ => Cert.DsRe.Gen.frame m ρ, fun m ρ _ => Cert.DsReIdeal.Gen.frame m ρ, DsReClaim.frame_ref,
  fun m ρ _ => Cert.DsIm.Gen.frame m ρ, fun m ρ _ => Cert.DsImIdeal.Gen.frame m ρ, DsImClaim.frame_ref,
  fun m ρ _ => Cert.DcRe.Gen.frame m ρ, fun m ρ _ => Cert.DcReIdeal.Gen.frame m ρ, DcReClaim.frame_ref,
  fun m ρ _ => Cert.DcIm.Gen.frame m ρ, fun m ρ _ => Cert.DcImIdeal.Gen.frame m ρ, DcImClaim.frame_ref,
  fun m ρ _ => Cert.BuDx.Gen.frame m ρ, fun m ρ _ => Cert.BuDxIdeal.Gen.frame m ρ, BuDxClaim.frame_ref,
  fun m ρ _ => Cert.BuDw.Gen.frame m ρ, fun m ρ _ => Cert.BuDwIdeal.Gen.frame m ρ, BuDwClaim.frame_ref,
  fun m ρ _ => Cert.Sc.Gen.frame m ρ, fun m ρ _ => Cert.ScIdeal.Gen.frame m ρ, ScClaim.frame_ref,
  fun m ρ _ => Cert.ScB.Gen.frame m ρ, fun m ρ _ => Cert.ScBIdeal.Gen.frame m ρ, ScBClaim.frame_ref,
  fun m ρ _ => Cert.M2c.Gen.frame m ρ, fun m ρ _ => Cert.M2cIdeal.Gen.frame m ρ, M2cClaim.frame_ref,
  fun m ρ _ => Cert.M2cB.Gen.frame m ρ, fun m ρ _ => Cert.M2cBIdeal.Gen.frame m ρ, M2cBClaim.frame_ref,
  fun m ρ _ => Cert.Act.Gen.frame m ρ, fun m ρ _ => Cert.ActIdeal.Gen.frame m ρ, ActClaim.frame_ref,
  fun m ρ _ => Cert.Sgu.Gen.frame m ρ, fun m ρ _ => Cert.SguIdeal.Gen.frame m ρ, SguClaim.frame_ref,
  fun m ρ _ => Cert.Rms.Gen.frame m ρ, fun m ρ _ => Cert.RmsIdeal.Gen.frame m ρ, RmsClaim.frame_ref,
  fun m ρ _ => Cert.RmsB.Gen.frame m ρ, fun m ρ _ => Cert.RmsBIdeal.Gen.frame m ρ, RmsBClaim.frame_ref,
  fun m ρ _ => Cert.Loss.Gen.frame m ρ, fun m ρ _ => Cert.LossIdeal.Gen.frame m ρ, LossClaim.frame_ref,
  fun m ρ _ => Cert.AWin.Gen.frame m ρ, fun m ρ _ => Cert.AWinIdeal.Gen.frame m ρ, AWinClaim.frame_ref,
  fun m ρ _ => Cert.AWbr.Gen.frame m ρ, fun m ρ _ => Cert.AWbrIdeal.Gen.frame m ρ, AWbrClaim.frame_ref,
  fun m ρ _ => Cert.AWout.Gen.frame m ρ, fun m ρ _ => Cert.AWoutIdeal.Gen.frame m ρ, AWoutClaim.frame_ref,
  fun m ρ _ => Cert.AWglu.Gen.frame m ρ, fun m ρ _ => Cert.AWgluIdeal.Gen.frame m ρ, AWgluClaim.frame_ref,
  fun m ρ _ => Cert.AWs5b.Gen.frame m ρ, fun m ρ _ => Cert.AWs5bIdeal.Gen.frame m ρ, AWs5bClaim.frame_ref,
  fun m ρ _ => Cert.ARestA.Gen.frame m ρ, fun m ρ _ => Cert.ARestAIdeal.Gen.frame m ρ, ARestAClaim.frame_ref,
  fun m ρ _ => Cert.ARestB.Gen.frame m ρ, fun m ρ _ => Cert.ARestBIdeal.Gen.frame m ρ, ARestBClaim.frame_ref,
  fun m ρ _ => Cert.ARestC.Gen.frame m ρ, fun m ρ _ => Cert.ARestCIdeal.Gen.frame m ρ, ARestCClaim.frame_ref,
  fun m ρ _ => Cert.ARestD.Gen.frame m ρ, fun m ρ _ => Cert.ARestDIdeal.Gen.frame m ρ, ARestDClaim.frame_ref,
  fun m ρ _ => Cert.ARestE.Gen.frame m ρ, fun m ρ _ => Cert.ARestEIdeal.Gen.frame m ρ, ARestEClaim.frame_ref,
  trivial, algebraic,
  trivial, Mix0Claim.algebraic,
  trivial, InDxClaim.algebraic,
  trivial, InDwClaim.algebraic,
  trivial, InDtClaim.algebraic,
  trivial, OutDxClaim.algebraic,
  trivial, OutDwClaim.algebraic,
  trivial, InClaim.algebraic,
  trivial, MixClaim.algebraic,
  trivial, OutClaim.algebraic,
  trivial, BuClaim.algebraic,
  trivial, S5yClaim.algebraic,
  trivial, DsReClaim.algebraic,
  trivial, DsImClaim.algebraic,
  trivial, DcReClaim.algebraic,
  trivial, DcImClaim.algebraic,
  trivial, BuDxClaim.algebraic,
  trivial, BuDwClaim.algebraic,
  trivial, ScClaim.algebraic,
  trivial, ScBClaim.algebraic,
  trivial, M2cClaim.algebraic,
  trivial, M2cBClaim.algebraic,
  trivial, ActClaim.algebraic,
  trivial, SguClaim.algebraic,
  trivial, RmsClaim.algebraic,
  trivial, RmsBClaim.algebraic,
  trivial, LossClaim.algebraic,
  trivial, AWinClaim.algebraic,
  trivial, AWbrClaim.algebraic,
  trivial, AWoutClaim.algebraic,
  trivial, AWgluClaim.algebraic,
  trivial, AWs5bClaim.algebraic,
  trivial, ARestAClaim.algebraic,
  trivial, ARestBClaim.algebraic,
  trivial, ARestCClaim.algebraic,
  trivial, ARestDClaim.algebraic,
  trivial, ARestEClaim.algebraic⟩

end Cert.Proof

end
